-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Sort (m : (ℓ : Loc Cert.Sort.nD Cert.Sort.τ Cert.Sort.sig) → Buf (Elt Bits) ℓ) : Prop :=
  True

def Pre_SortIdeal (m : (ℓ : Loc Cert.SortIdeal.nD Cert.SortIdeal.τ Cert.SortIdeal.sig) → Buf (Elt Ideal) ℓ) : Prop :=
  True

def Pre_RankedIdeal (m : (ℓ : Loc Cert.RankedIdeal.nD Cert.RankedIdeal.τ Cert.RankedIdeal.sig) → Buf (Elt Ideal) ℓ) : Prop :=
  True

def Pre_Ranked (m : (ℓ : Loc Cert.Ranked.nD Cert.Ranked.τ Cert.Ranked.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Sort [hSort : Cert.Sort.Facts] : Prop :=
  ∀ (m : (ℓ : Loc Cert.Sort.nD Cert.Sort.τ Cert.Sort.sig) → Buf (Elt Bits) ℓ) (g : Dev Cert.Sort.nD → PrngReg), Pre_Sort m →
    θ_run (Cert.Sort.defs (F := Bits)) (Cert.Sort.threads (F := Bits)) ⟨m, fun _ => 0, g⟩ (fun r => (∀ c : Dev Cert.Sort.nD,
      r.2.mem ((c.tc : Thread Cert.Sort.nD Cert.Sort.τ).loc Cert.Sort.main_arg0) = m ((c.tc : Thread Cert.Sort.nD Cert.Sort.τ).loc Cert.Sort.main_arg0))
      ∧ r.2.sem = fun _ => 0)

def quiescent_SortIdeal [hSortIdeal : Cert.SortIdeal.Facts] : Prop :=
  ∀ (m : (ℓ : Loc Cert.SortIdeal.nD Cert.SortIdeal.τ Cert.SortIdeal.sig) → Buf (Elt Ideal) ℓ) (g : Dev Cert.SortIdeal.nD → PrngReg), Pre_SortIdeal m →
    θ_run (Cert.SortIdeal.defs (F := Ideal)) (Cert.SortIdeal.threads (F := Ideal)) ⟨m, fun _ => 0, g⟩ (fun r => (∀ c : Dev Cert.SortIdeal.nD,
      r.2.mem ((c.tc : Thread Cert.SortIdeal.nD Cert.SortIdeal.τ).loc Cert.SortIdeal.main_arg0) = m ((c.tc : Thread Cert.SortIdeal.nD Cert.SortIdeal.τ).loc Cert.SortIdeal.main_arg0))
      ∧ r.2.sem = fun _ => 0)

def quiescent_RankedIdeal [hRankedIdeal : Cert.RankedIdeal.Facts] : Prop :=
  ∀ (m : (ℓ : Loc Cert.RankedIdeal.nD Cert.RankedIdeal.τ Cert.RankedIdeal.sig) → Buf (Elt Ideal) ℓ) (g : Dev Cert.RankedIdeal.nD → PrngReg), Pre_RankedIdeal m →
    θ_run (Cert.RankedIdeal.defs (F := Ideal)) (onTc (τ := Cert.RankedIdeal.τ) (Cert.RankedIdeal.main (F := Ideal))) ⟨m, fun _ => 0, g⟩ (fun r => (∀ c : Dev Cert.RankedIdeal.nD,
      r.2.mem ((c.tc : Thread Cert.RankedIdeal.nD Cert.RankedIdeal.τ).loc Cert.RankedIdeal.main_arg0) = m ((c.tc : Thread Cert.RankedIdeal.nD Cert.RankedIdeal.τ).loc Cert.RankedIdeal.main_arg0))
      ∧ r.2.sem = fun _ => 0)

def quiescent_Ranked [hRanked : Cert.Ranked.Facts] : Prop :=
  ∀ (m : (ℓ : Loc Cert.Ranked.nD Cert.Ranked.τ Cert.Ranked.sig) → Buf (Elt Bits) ℓ) (g : Dev Cert.Ranked.nD → PrngReg), Pre_Ranked m →
    θ_run (Cert.Ranked.defs (F := Bits)) (onTc (τ := Cert.Ranked.τ) (Cert.Ranked.main (F := Bits))) ⟨m, fun _ => 0, g⟩ (fun r => (∀ c : Dev Cert.Ranked.nD,
      r.2.mem ((c.tc : Thread Cert.Ranked.nD Cert.Ranked.τ).loc Cert.Ranked.main_arg0) = m ((c.tc : Thread Cert.Ranked.nD Cert.Ranked.τ).loc Cert.Ranked.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v5)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_indices) = v0 c
          ∧ r.2.mem ((c.tc : Thread Cert.Reference.nD Cert.Reference.τ).loc Cert.Reference.main_arg0) = m' ((c.tc : Thread Cert.Reference.nD Cert.Reference.τ).loc Cert.Reference.main_arg0))

def preserves_Sort_SortIdeal : Prop :=
  True

def bitexact_Sort_Ranked [hSort : Cert.Sort.Facts] [hRanked : Cert.Ranked.Facts] : Prop :=
  ∀ (m : (ℓ : Loc Cert.Sort.nD Cert.Sort.τ Cert.Sort.sig) → Buf (Elt Bits) ℓ) (g : Dev Cert.Sort.nD → PrngReg)
    (m' : (ℓ : Loc Cert.Ranked.nD Cert.Ranked.τ Cert.Ranked.sig) → Buf (Elt Bits) ℓ) (g' : Dev Cert.Ranked.nD → PrngReg), Pre_Sort m →
    (∀ c : Dev Cert.Sort.nD,
      m' ((c.tc : Thread Cert.Ranked.nD Cert.Ranked.τ).loc Cert.Ranked.main_arg0) = m ((c.tc : Thread Cert.Sort.nD Cert.Sort.τ).loc Cert.Sort.main_arg0)) →
    ∃ (v0 : (c : Dev Cert.Sort.nD) → Buf (Elt Bits) ((c.tc : Thread Cert.Sort.nD Cert.Sort.τ).loc Cert.Sort.main_v3)),
      θ_run (Cert.Sort.defs (F := Bits)) (Cert.Sort.threads (F := Bits)) ⟨m, fun _ => 0, g⟩ (fun r => ∀ c : Dev Cert.Sort.nD,
          r.2.mem ((c.tc : Thread Cert.Sort.nD Cert.Sort.τ).loc Cert.Sort.main_v3) = v0 c
          ∧ r.2.mem ((c.tc : Thread Cert.Sort.nD Cert.Sort.τ).loc Cert.Sort.main_arg0) = m ((c.tc : Thread Cert.Sort.nD Cert.Sort.τ).loc Cert.Sort.main_arg0))
      ∧ θ_run (Cert.Ranked.defs (F := Bits)) (onTc (τ := Cert.Ranked.τ) (Cert.Ranked.main (F := Bits))) ⟨m', fun _ => 0, g'⟩ (fun r => ∀ c : Dev Cert.Ranked.nD,
          r.2.mem ((c.tc : Thread Cert.Ranked.nD Cert.Ranked.τ).loc Cert.Ranked.main_v1) = v0 c
          ∧ r.2.mem ((c.tc : Thread Cert.Ranked.nD Cert.Ranked.τ).loc Cert.Ranked.main_arg0) = m' ((c.tc : Thread Cert.Ranked.nD Cert.Ranked.τ).loc Cert.Ranked.main_arg0))

def algebraic_SortIdeal_RankedIdeal [hSortIdeal : Cert.SortIdeal.Facts] [hRankedIdeal : Cert.RankedIdeal.Facts] : Prop :=
  ∀ (m : (ℓ : Loc Cert.SortIdeal.nD Cert.SortIdeal.τ Cert.SortIdeal.sig) → Buf (Elt Ideal) ℓ) (g : Dev Cert.SortIdeal.nD → PrngReg)
    (m' : (ℓ : Loc Cert.RankedIdeal.nD Cert.RankedIdeal.τ Cert.RankedIdeal.sig) → Buf (Elt Ideal) ℓ) (g' : Dev Cert.RankedIdeal.nD → PrngReg), Pre_SortIdeal m →
    (∀ c : Dev Cert.SortIdeal.nD,
      m' ((c.tc : Thread Cert.RankedIdeal.nD Cert.RankedIdeal.τ).loc Cert.RankedIdeal.main_arg0) = m ((c.tc : Thread Cert.SortIdeal.nD Cert.SortIdeal.τ).loc Cert.SortIdeal.main_arg0)) →
    ∃ (v0 : (c : Dev Cert.SortIdeal.nD) → Buf (Elt Ideal) ((c.tc : Thread Cert.SortIdeal.nD Cert.SortIdeal.τ).loc Cert.SortIdeal.main_v3)),
      θ_run (Cert.SortIdeal.defs (F := Ideal)) (Cert.SortIdeal.threads (F := Ideal)) ⟨m, fun _ => 0, g⟩ (fun r => ∀ c : Dev Cert.SortIdeal.nD,
          r.2.mem ((c.tc : Thread Cert.SortIdeal.nD Cert.SortIdeal.τ).loc Cert.SortIdeal.main_v3) = v0 c
          ∧ r.2.mem ((c.tc : Thread Cert.SortIdeal.nD Cert.SortIdeal.τ).loc Cert.SortIdeal.main_arg0) = m ((c.tc : Thread Cert.SortIdeal.nD Cert.SortIdeal.τ).loc Cert.SortIdeal.main_arg0))
      ∧ θ_run (Cert.RankedIdeal.defs (F := Ideal)) (onTc (τ := Cert.RankedIdeal.τ) (Cert.RankedIdeal.main (F := Ideal))) ⟨m', fun _ => 0, g'⟩ (fun r => ∀ c : Dev Cert.RankedIdeal.nD,
          r.2.mem ((c.tc : Thread Cert.RankedIdeal.nD Cert.RankedIdeal.τ).loc Cert.RankedIdeal.main_v1) = v0 c
          ∧ r.2.mem ((c.tc : Thread Cert.RankedIdeal.nD Cert.RankedIdeal.τ).loc Cert.RankedIdeal.main_arg0) = m' ((c.tc : Thread Cert.RankedIdeal.nD Cert.RankedIdeal.τ).loc Cert.RankedIdeal.main_arg0))

def Claim : Prop :=
  ∃ (hKernel : Cert.Kernel.Facts) (hReference : Cert.Reference.Facts) (hSort : Cert.Sort.Facts) (hSortIdeal : Cert.SortIdeal.Facts) (hRankedIdeal : Cert.RankedIdeal.Facts) (hRanked : Cert.Ranked.Facts),
    quiescent_Kernel (hKernel := hKernel)
    ∧ quiescent_Reference (hReference := hReference)
    ∧ quiescent_Sort (hSort := hSort)
    ∧ quiescent_SortIdeal (hSortIdeal := hSortIdeal)
    ∧ quiescent_RankedIdeal (hRankedIdeal := hRankedIdeal)
    ∧ quiescent_Ranked (hRanked := hRanked)
    ∧ bitexact_Kernel_Reference (hKernel := hKernel) (hReference := hReference)
    ∧ preserves_Sort_SortIdeal
    ∧ bitexact_Sort_Ranked (hSort := hSort) (hRanked := hRanked)
    ∧ algebraic_SortIdeal_RankedIdeal (hSortIdeal := hSortIdeal) (hRankedIdeal := hRankedIdeal)
-- ==== Kernel.lean ====
abbrev S64x16x32768 : Shape := ⟨3, ![64, 16, 32768]⟩
abbrev S64x1x32768 : Shape := ⟨3, ![64, 1, 32768]⟩
abbrev S1x16x32768 : Shape := ⟨3, ![1, 16, 32768]⟩
abbrev S1x1x32768 : Shape := ⟨3, ![1, 1, 32768]⟩
abbrev S16x32768 : Shape := ⟨2, ![16, 32768]⟩
abbrev S32768 : Shape := ⟨1, ![32768]⟩
abbrev S1x32768 : Shape := ⟨2, ![1, 32768]⟩
abbrev S64x32768 : Shape := ⟨2, ![64, 32768]⟩
abbrev S64x16x2048 : Shape := ⟨3, ![64, 16, 2048]⟩
abbrev S64x2048x16 : Shape := ⟨3, ![64, 2048, 16]⟩
abbrev S4096 : Shape := ⟨1, ![4096]⟩
abbrev S_ : Shape := ⟨0, ![]⟩
abbrev S16 : Shape := ⟨1, ![16]⟩
abbrev S1 : Shape := ⟨1, ![1]⟩

abbrev nBuf : Table → Nat
  | .hbm => 7
  | .local .tc .vmem => 4
  | .local .scVector .vmem => 5
  | _ => 0

abbrev bufTy : (tb : Table) → Fin (nBuf tb) → BufTy
  | .hbm, ⟨0, _⟩ => ⟨S64x16x32768, .f32⟩
  | .hbm, ⟨1, _⟩ => ⟨S64x1x32768, .i32⟩
  | .hbm, ⟨2, _⟩ => ⟨S64x32768, .i32⟩
  | .hbm, ⟨3, _⟩ => ⟨S64x16x2048, .i32⟩
  | .hbm, ⟨4, _⟩ => ⟨S64x2048x16, .i32⟩
  | .hbm, ⟨5, _⟩ => ⟨S64x32768, .i32⟩
  | .hbm, ⟨6, _⟩ => ⟨S64x32768, .i32⟩
  | .local .tc .vmem, ⟨0, _⟩ => ⟨S1x16x32768, .f32⟩
  | .local .tc .vmem, ⟨1, _⟩ => ⟨S1x16x32768, .f32⟩
  | .local .tc .vmem, ⟨2, _⟩ => ⟨S1x1x32768, .i32⟩
  | .local .tc .vmem, ⟨3, _⟩ => ⟨S1x1x32768, .i32⟩
  | .local .scVector .vmem, ⟨0, _⟩ => ⟨S32768, .i32⟩
  | .local .scVector .vmem, ⟨1, _⟩ => ⟨S32768, .i32⟩
  | .local .scVector .vmem, ⟨2, _⟩ => ⟨S32768, .i32⟩
  | .local .scVector .vmem, ⟨3, _⟩ => ⟨S4096, .i32⟩
  | .local .scVector .vmem, ⟨4, _⟩ => ⟨S4096, .i32⟩
  | _, _ => ⟨S64x16x32768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => true
  | ⟨2, _⟩ => true
  | ⟨3, _⟩ => true
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v4_scv : Ref sig .scVector := ⟨.hbm, 5, rfl⟩
abbrev main_v5_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v5 : BitVec 32 := Scalar.muli v1 c2_i32_0
  let c0_i32_1 : BitVec 32 := 0#32
  ![v5.toNat, 0]
@[reducible] def k1_t1_loop : Scf.Loop 32 :=
  let c0_i32_4 : BitVec 32 := 0#32
  let c16_i32 : BitVec 32 := 16#32
  let v10 : BitVec 32 := Scalar.addi c0_i32_4 c16_i32
  let c1_i32_5 : BitVec 32 := 1#32
  ⟨c0_i32_4, v10, c1_i32_5⟩
def k1_off2 (k1_t1 : Fin k1_t1_loop.trips) (c0_i32_151 : BitVec 32) : Fin 1 → Nat :=
  let c0_i32_4 : BitVec 32 := 0#32
  let c1_i32_5 : BitVec 32 := 1#32
  let arg11 : BitVec 32 := Scf.iv c0_i32_4 c1_i32_5 k1_t1
  let c16_i32_149 : BitVec 32 := 16#32
  let v77 : BitVec 32 := Scalar.muli arg11 c16_i32_149
  let c16_i32_150 : BitVec 32 := 16#32
  let v78 : BitVec 32 := Scalar.muli v77 c16_i32_150
  let v79 : BitVec 32 := Scalar.addi v78 c0_i32_151
  let v80 : Index := Scalar.indexCast v79
  ![v80.toNat]
@[reducible] def k1_t2_loop : Scf.Loop 32 :=
  let c0_i32_12 : BitVec 32 := 0#32
  let c128_i32 : BitVec 32 := 128#32
  let v17 : BitVec 32 := Scalar.addi c0_i32_12 c128_i32
  let c1_i32_13 : BitVec 32 := 1#32
  ⟨c0_i32_12, v17, c1_i32_13⟩
def k1_off3 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk1 (v86 : IVec S16 32) : Prop :=
  (∀ a x, ((![v86] : Fin 1 → IVec S16 32) a x).toNat < S4096.size a)
theorem k1_idx1_inb : ∀ (v86 : IVec S16 32) (k1_hw1 : k1_chk1 v86), ∀ a x, ((![v86] : Fin 1 → IVec S16 32) a x).toNat < S4096.size a := fun v86 k1_hw1 => k1_hw1
def k1_off4 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_152 : BitVec 32 := 16#32
  let v87 : BitVec 32 := Scalar.muli arg11 c16_i32_152
  let c16_i32_153 : BitVec 32 := 16#32
  let v88 : BitVec 32 := Scalar.muli v87 c16_i32_153
  let c16_i32_154 : BitVec 32 := 16#32
  let v89 : BitVec 32 := Scalar.addi v88 c16_i32_154
  let v90 : Index := Scalar.indexCast v89
  ![v90.toNat]

def k1_chk2 (v96 : IVec S16 32) : Prop :=
  (∀ a x, ((![v96] : Fin 1 → IVec S16 32) a x).toNat < S4096.size a)
theorem k1_idx2_inb : ∀ (v96 : IVec S16 32) (k1_hw2 : k1_chk2 v96), ∀ a x, ((![v96] : Fin 1 → IVec S16 32) a x).toNat < S4096.size a := fun v96 k1_hw2 => k1_hw2
def k1_off5 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_157 : BitVec 32 := 16#32
  let v97 : BitVec 32 := Scalar.muli arg11 c16_i32_157
  let c16_i32_158 : BitVec 32 := 16#32
  let v98 : BitVec 32 := Scalar.muli v97 c16_i32_158
  let c32_i32 : BitVec 32 := 32#32
  let v99 : BitVec 32 := Scalar.addi v98 c32_i32
  let v100 : Index := Scalar.indexCast v99
  ![v100.toNat]

def k1_chk3 (v106 : IVec S16 32) : Prop :=
  (∀ a x, ((![v106] : Fin 1 → IVec S16 32) a x).toNat < S4096.size a)
theorem k1_idx3_inb : ∀ (v106 : IVec S16 32) (k1_hw3 : k1_chk3 v106), ∀ a x, ((![v106] : Fin 1 → IVec S16 32) a x).toNat < S4096.size a := fun v106 k1_hw3 => k1_hw3
def k1_off6 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_161 : BitVec 32 := 16#32
  let v107 : BitVec 32 := Scalar.muli arg11 c16_i32_161
  let c16_i32_162 : BitVec 32 := 16#32
  let v108 : BitVec 32 := Scalar.muli v107 c16_i32_162
  let c48_i32 : BitVec 32 := 48#32
  let v109 : BitVec 32 := Scalar.addi v108 c48_i32
  let v110 : Index := Scalar.indexCast v109
  ![v110.toNat]

def k1_chk4 (v116 : IVec S16 32) : Prop :=
  (∀ a x, ((![v116] : Fin 1 → IVec S16 32) a x).toNat < S4096.size a)
theorem k1_idx4_inb : ∀ (v116 : IVec S16 32) (k1_hw4 : k1_chk4 v116), ∀ a x, ((![v116] : Fin 1 → IVec S16 32) a x).toNat < S4096.size a := fun v116 k1_hw4 => k1_hw4
def k1_off7 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_165 : BitVec 32 := 16#32
  let v117 : BitVec 32 := Scalar.muli arg11 c16_i32_165
  let c16_i32_166 : BitVec 32 := 16#32
  let v118 : BitVec 32 := Scalar.muli v117 c16_i32_166
  let c64_i32 : BitVec 32 := 64#32
  let v119 : BitVec 32 := Scalar.addi v118 c64_i32
  let v120 : Index := Scalar.indexCast v119
  ![v120.toNat]

def k1_chk5 (v126 : IVec S16 32) : Prop :=
  (∀ a x, ((![v126] : Fin 1 → IVec S16 32) a x).toNat < S4096.size a)
theorem k1_idx5_inb : ∀ (v126 : IVec S16 32) (k1_hw5 : k1_chk5 v126), ∀ a x, ((![v126] : Fin 1 → IVec S16 32) a x).toNat < S4096.size a := fun v126 k1_hw5 => k1_hw5
def k1_off8 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_169 : BitVec 32 := 16#32
  let v127 : BitVec 32 := Scalar.muli arg11 c16_i32_169
  let c16_i32_170 : BitVec 32 := 16#32
  let v128 : BitVec 32 := Scalar.muli v127 c16_i32_170
  let c80_i32 : BitVec 32 := 80#32
  let v129 : BitVec 32 := Scalar.addi v128 c80_i32
  let v130 : Index := Scalar.indexCast v129
  ![v130.toNat]

def k1_chk6 (v136 : IVec S16 32) : Prop :=
  (∀ a x, ((![v136] : Fin 1 → IVec S16 32) a x).toNat < S4096.size a)
theorem k1_idx6_inb : ∀ (v136 : IVec S16 32) (k1_hw6 : k1_chk6 v136), ∀ a x, ((![v136] : Fin 1 → IVec S16 32) a x).toNat < S4096.size a := fun v136 k1_hw6 => k1_hw6
def k1_off9 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_173 : BitVec 32 := 16#32
  let v137 : BitVec 32 := Scalar.muli arg11 c16_i32_173
  let c16_i32_174 : BitVec 32 := 16#32
  let v138 : BitVec 32 := Scalar.muli v137 c16_i32_174
  let c96_i32 : BitVec 32 := 96#32
  let v139 : BitVec 32 := Scalar.addi v138 c96_i32
  let v140 : Index := Scalar.indexCast v139
  ![v140.toNat]

def k1_chk7 (v146 : IVec S16 32) : Prop :=
  (∀ a x, ((![v146] : Fin 1 → IVec S16 32) a x).toNat < S4096.size a)
theorem k1_idx7_inb : ∀ (v146 : IVec S16 32) (k1_hw7 : k1_chk7 v146), ∀ a x, ((![v146] : Fin 1 → IVec S16 32) a x).toNat < S4096.size a := fun v146 k1_hw7 => k1_hw7
def k1_off10 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_177 : BitVec 32 := 16#32
  let v147 : BitVec 32 := Scalar.muli arg11 c16_i32_177
  let c16_i32_178 : BitVec 32 := 16#32
  let v148 : BitVec 32 := Scalar.muli v147 c16_i32_178
  let c112_i32 : BitVec 32 := 112#32
  let v149 : BitVec 32 := Scalar.addi v148 c112_i32
  let v150 : Index := Scalar.indexCast v149
  ![v150.toNat]

def k1_chk8 (v156 : IVec S16 32) : Prop :=
  (∀ a x, ((![v156] : Fin 1 → IVec S16 32) a x).toNat < S4096.size a)
theorem k1_idx8_inb : ∀ (v156 : IVec S16 32) (k1_hw8 : k1_chk8 v156), ∀ a x, ((![v156] : Fin 1 → IVec S16 32) a x).toNat < S4096.size a := fun v156 k1_hw8 => k1_hw8
def k1_off11 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_181 : BitVec 32 := 16#32
  let v157 : BitVec 32 := Scalar.muli arg11 c16_i32_181
  let c16_i32_182 : BitVec 32 := 16#32
  let v158 : BitVec 32 := Scalar.muli v157 c16_i32_182
  let c128_i32_183 : BitVec 32 := 128#32
  let v159 : BitVec 32 := Scalar.addi v158 c128_i32_183
  let v160 : Index := Scalar.indexCast v159
  ![v160.toNat]

def k1_chk9 (v166 : IVec S16 32) : Prop :=
  (∀ a x, ((![v166] : Fin 1 → IVec S16 32) a x).toNat < S4096.size a)
theorem k1_idx9_inb : ∀ (v166 : IVec S16 32) (k1_hw9 : k1_chk9 v166), ∀ a x, ((![v166] : Fin 1 → IVec S16 32) a x).toNat < S4096.size a := fun v166 k1_hw9 => k1_hw9
def k1_off12 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_186 : BitVec 32 := 16#32
  let v167 : BitVec 32 := Scalar.muli arg11 c16_i32_186
  let c16_i32_187 : BitVec 32 := 16#32
  let v168 : BitVec 32 := Scalar.muli v167 c16_i32_187
  let c144_i32 : BitVec 32 := 144#32
  let v169 : BitVec 32 := Scalar.addi v168 c144_i32
  let v170 : Index := Scalar.indexCast v169
  ![v170.toNat]

def k1_chk10 (v176 : IVec S16 32) : Prop :=
  (∀ a x, ((![v176] : Fin 1 → IVec S16 32) a x).toNat < S4096.size a)
theorem k1_idx10_inb : ∀ (v176 : IVec S16 32) (k1_hw10 : k1_chk10 v176), ∀ a x, ((![v176] : Fin 1 → IVec S16 32) a x).toNat < S4096.size a := fun v176 k1_hw10 => k1_hw10
def k1_off13 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_190 : BitVec 32 := 16#32
  let v177 : BitVec 32 := Scalar.muli arg11 c16_i32_190
  let c16_i32_191 : BitVec 32 := 16#32
  let v178 : BitVec 32 := Scalar.muli v177 c16_i32_191
  let c160_i32 : BitVec 32 := 160#32
  let v179 : BitVec 32 := Scalar.addi v178 c160_i32
  let v180 : Index := Scalar.indexCast v179
  ![v180.toNat]

def k1_chk11 (v186 : IVec S16 32) : Prop :=
  (∀ a x, ((![v186] : Fin 1 → IVec S16 32) a x).toNat < S4096.size a)
theorem k1_idx11_inb : ∀ (v186 : IVec S16 32) (k1_hw11 : k1_chk11 v186), ∀ a x, ((![v186] : Fin 1 → IVec S16 32) a x).toNat < S4096.size a := fun v186 k1_hw11 => k1_hw11
def k1_off14 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_194 : BitVec 32 := 16#32
  let v187 : BitVec 32 := Scalar.muli arg11 c16_i32_194
  let c16_i32_195 : BitVec 32 := 16#32
  let v188 : BitVec 32 := Scalar.muli v187 c16_i32_195
  let c176_i32 : BitVec 32 := 176#32
  let v189 : BitVec 32 := Scalar.addi v188 c176_i32
  let v190 : Index := Scalar.indexCast v189
  ![v190.toNat]

def k1_chk12 (v196 : IVec S16 32) : Prop :=
  (∀ a x, ((![v196] : Fin 1 → IVec S16 32) a x).toNat < S4096.size a)
theorem k1_idx12_inb : ∀ (v196 : IVec S16 32) (k1_hw12 : k1_chk12 v196), ∀ a x, ((![v196] : Fin 1 → IVec S16 32) a x).toNat < S4096.size a := fun v196 k1_hw12 => k1_hw12
def k1_off15 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_198 : BitVec 32 := 16#32
  let v197 : BitVec 32 := Scalar.muli arg11 c16_i32_198
  let c16_i32_199 : BitVec 32 := 16#32
  let v198 : BitVec 32 := Scalar.muli v197 c16_i32_199
  let c192_i32 : BitVec 32 := 192#32
  let v199 : BitVec 32 := Scalar.addi v198 c192_i32
  let v200 : Index := Scalar.indexCast v199
  ![v200.toNat]

def k1_chk13 (v206 : IVec S16 32) : Prop :=
  (∀ a x, ((![v206] : Fin 1 → IVec S16 32) a x).toNat < S4096.size a)
theorem k1_idx13_inb : ∀ (v206 : IVec S16 32) (k1_hw13 : k1_chk13 v206), ∀ a x, ((![v206] : Fin 1 → IVec S16 32) a x).toNat < S4096.size a := fun v206 k1_hw13 => k1_hw13
def k1_off16 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_202 : BitVec 32 := 16#32
  let v207 : BitVec 32 := Scalar.muli arg11 c16_i32_202
  let c16_i32_203 : BitVec 32 := 16#32
  let v208 : BitVec 32 := Scalar.muli v207 c16_i32_203
  let c208_i32 : BitVec 32 := 208#32
  let v209 : BitVec 32 := Scalar.addi v208 c208_i32
  let v210 : Index := Scalar.indexCast v209
  ![v210.toNat]

def k1_chk14 (v216 : IVec S16 32) : Prop :=
  (∀ a x, ((![v216] : Fin 1 → IVec S16 32) a x).toNat < S4096.size a)
theorem k1_idx14_inb : ∀ (v216 : IVec S16 32) (k1_hw14 : k1_chk14 v216), ∀ a x, ((![v216] : Fin 1 → IVec S16 32) a x).toNat < S4096.size a := fun v216 k1_hw14 => k1_hw14
def k1_off17 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_206 : BitVec 32 := 16#32
  let v217 : BitVec 32 := Scalar.muli arg11 c16_i32_206
  let c16_i32_207 : BitVec 32 := 16#32
  let v218 : BitVec 32 := Scalar.muli v217 c16_i32_207
  let c224_i32 : BitVec 32 := 224#32
  let v219 : BitVec 32 := Scalar.addi v218 c224_i32
  let v220 : Index := Scalar.indexCast v219
  ![v220.toNat]

def k1_chk15 (v226 : IVec S16 32) : Prop :=
  (∀ a x, ((![v226] : Fin 1 → IVec S16 32) a x).toNat < S4096.size a)
theorem k1_idx15_inb : ∀ (v226 : IVec S16 32) (k1_hw15 : k1_chk15 v226), ∀ a x, ((![v226] : Fin 1 → IVec S16 32) a x).toNat < S4096.size a := fun v226 k1_hw15 => k1_hw15
def k1_off18 (k1_t2 : Fin k1_t2_loop.trips) : Fin 1 → Nat :=
  let c0_i32_12 : BitVec 32 := 0#32
  let c1_i32_13 : BitVec 32 := 1#32
  let arg11 : BitVec 32 := Scf.iv c0_i32_12 c1_i32_13 k1_t2
  let c16_i32_210 : BitVec 32 := 16#32
  let v227 : BitVec 32 := Scalar.muli arg11 c16_i32_210
  let c16_i32_211 : BitVec 32 := 16#32
  let v228 : BitVec 32 := Scalar.muli v227 c16_i32_211
  let c240_i32 : BitVec 32 := 240#32
  let v229 : BitVec 32 := Scalar.addi v228 c240_i32
  let v230 : Index := Scalar.indexCast v229
  ![v230.toNat]

def k1_chk16 (v236 : IVec S16 32) : Prop :=
  (∀ a x, ((![v236] : Fin 1 → IVec S16 32) a x).toNat < S4096.size a)
theorem k1_idx16_inb : ∀ (v236 : IVec S16 32) (k1_hw16 : k1_chk16 v236), ∀ a x, ((![v236] : Fin 1 → IVec S16 32) a x).toNat < S4096.size a := fun v236 k1_hw16 => k1_hw16
@[reducible] def k1_t3_loop : Scf.Loop 32 :=
  let c0_i32_16 : BitVec 32 := 0#32
  let c256_i32 : BitVec 32 := 256#32
  let v18 : BitVec 32 := Scalar.addi c0_i32_16 c256_i32
  let c1_i32_17 : BitVec 32 := 1#32
  ⟨c0_i32_16, v18, c1_i32_17⟩
def k1_off19 (k1_t3 : Fin k1_t3_loop.trips) : Fin 1 → Nat :=
  let c0_i32_16 : BitVec 32 := 0#32
  let c1_i32_17 : BitVec 32 := 1#32
  let arg11 : BitVec 32 := Scf.iv c0_i32_16 c1_i32_17 k1_t3
  let c16_i32_149 : BitVec 32 := 16#32
  let v77 : BitVec 32 := Scalar.muli arg11 c16_i32_149
  let v78 : Index := Scalar.indexCast v77
  ![v78.toNat]
@[reducible] def k1_t4_loop : Scf.Loop 32 :=
  let c0_i32_20 : BitVec 32 := 0#32
  let c128_i32_21 : BitVec 32 := 128#32
  let v20 : BitVec 32 := Scalar.addi c0_i32_20 c128_i32_21
  let c1_i32_22 : BitVec 32 := 1#32
  ⟨c0_i32_20, v20, c1_i32_22⟩
def k1_off20 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk17 (v86 : IVec S16 32) : Prop :=
  (∀ a x, ((![v86] : Fin 1 → IVec S16 32) a x).toNat < S4096.size a) ∧
  (∀ a x, ((![v86] : Fin 1 → IVec S16 32) a x).toNat < S4096.size a)
theorem k1_idx17_inb : ∀ (v86 : IVec S16 32) (k1_hw17 : k1_chk17 v86), ∀ a x, ((![v86] : Fin 1 → IVec S16 32) a x).toNat < S4096.size a := fun v86 k1_hw17 => k1_hw17.1
theorem k1_idx18_inb : ∀ (v86 : IVec S16 32) (k1_hw17 : k1_chk17 v86), ∀ a x, ((![v86] : Fin 1 → IVec S16 32) a x).toNat < S4096.size a := fun v86 k1_hw17 => k1_hw17.2

def k1_chk18 (v111 : IVec S16 32) : Prop :=
  (∀ a x, ((![v111] : Fin 1 → IVec S16 32) a x).toNat < S32768.size a)
theorem k1_idx19_inb : ∀ (v111 : IVec S16 32) (k1_hw18 : k1_chk18 v111), ∀ a x, ((![v111] : Fin 1 → IVec S16 32) a x).toNat < S32768.size a := fun v111 k1_hw18 => k1_hw18
def k1_off21 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_156 : BitVec 32 := 16#32
  let v112 : BitVec 32 := Scalar.muli arg11 c16_i32_156
  let c16_i32_157 : BitVec 32 := 16#32
  let v113 : BitVec 32 := Scalar.muli v112 c16_i32_157
  let c16_i32_158 : BitVec 32 := 16#32
  let v114 : BitVec 32 := Scalar.addi v113 c16_i32_158
  let v115 : Index := Scalar.indexCast v114
  ![v115.toNat]

def k1_chk19 (v121 : IVec S16 32) : Prop :=
  (∀ a x, ((![v121] : Fin 1 → IVec S16 32) a x).toNat < S4096.size a) ∧
  (∀ a x, ((![v121] : Fin 1 → IVec S16 32) a x).toNat < S4096.size a)
theorem k1_idx20_inb : ∀ (v121 : IVec S16 32) (k1_hw19 : k1_chk19 v121), ∀ a x, ((![v121] : Fin 1 → IVec S16 32) a x).toNat < S4096.size a := fun v121 k1_hw19 => k1_hw19.1
theorem k1_idx21_inb : ∀ (v121 : IVec S16 32) (k1_hw19 : k1_chk19 v121), ∀ a x, ((![v121] : Fin 1 → IVec S16 32) a x).toNat < S4096.size a := fun v121 k1_hw19 => k1_hw19.2

def k1_chk20 (v146 : IVec S16 32) : Prop :=
  (∀ a x, ((![v146] : Fin 1 → IVec S16 32) a x).toNat < S32768.size a)
theorem k1_idx22_inb : ∀ (v146 : IVec S16 32) (k1_hw20 : k1_chk20 v146), ∀ a x, ((![v146] : Fin 1 → IVec S16 32) a x).toNat < S32768.size a := fun v146 k1_hw20 => k1_hw20
def k1_off22 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_170 : BitVec 32 := 16#32
  let v147 : BitVec 32 := Scalar.muli arg11 c16_i32_170
  let c16_i32_171 : BitVec 32 := 16#32
  let v148 : BitVec 32 := Scalar.muli v147 c16_i32_171
  let c32_i32 : BitVec 32 := 32#32
  let v149 : BitVec 32 := Scalar.addi v148 c32_i32
  let v150 : Index := Scalar.indexCast v149
  ![v150.toNat]

def k1_chk21 (v156 : IVec S16 32) : Prop :=
  (∀ a x, ((![v156] : Fin 1 → IVec S16 32) a x).toNat < S4096.size a) ∧
  (∀ a x, ((![v156] : Fin 1 → IVec S16 32) a x).toNat < S4096.size a)
theorem k1_idx23_inb : ∀ (v156 : IVec S16 32) (k1_hw21 : k1_chk21 v156), ∀ a x, ((![v156] : Fin 1 → IVec S16 32) a x).toNat < S4096.size a := fun v156 k1_hw21 => k1_hw21.1
theorem k1_idx24_inb : ∀ (v156 : IVec S16 32) (k1_hw21 : k1_chk21 v156), ∀ a x, ((![v156] : Fin 1 → IVec S16 32) a x).toNat < S4096.size a := fun v156 k1_hw21 => k1_hw21.2

def k1_chk22 (v181 : IVec S16 32) : Prop :=
  (∀ a x, ((![v181] : Fin 1 → IVec S16 32) a x).toNat < S32768.size a)
theorem k1_idx25_inb : ∀ (v181 : IVec S16 32) (k1_hw22 : k1_chk22 v181), ∀ a x, ((![v181] : Fin 1 → IVec S16 32) a x).toNat < S32768.size a := fun v181 k1_hw22 => k1_hw22
def k1_off23 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_183 : BitVec 32 := 16#32
  let v182 : BitVec 32 := Scalar.muli arg11 c16_i32_183
  let c16_i32_184 : BitVec 32 := 16#32
  let v183 : BitVec 32 := Scalar.muli v182 c16_i32_184
  let c48_i32 : BitVec 32 := 48#32
  let v184 : BitVec 32 := Scalar.addi v183 c48_i32
  let v185 : Index := Scalar.indexCast v184
  ![v185.toNat]

def k1_chk23 (v191 : IVec S16 32) : Prop :=
  (∀ a x, ((![v191] : Fin 1 → IVec S16 32) a x).toNat < S4096.size a) ∧
  (∀ a x, ((![v191] : Fin 1 → IVec S16 32) a x).toNat < S4096.size a)
theorem k1_idx26_inb : ∀ (v191 : IVec S16 32) (k1_hw23 : k1_chk23 v191), ∀ a x, ((![v191] : Fin 1 → IVec S16 32) a x).toNat < S4096.size a := fun v191 k1_hw23 => k1_hw23.1
theorem k1_idx27_inb : ∀ (v191 : IVec S16 32) (k1_hw23 : k1_chk23 v191), ∀ a x, ((![v191] : Fin 1 → IVec S16 32) a x).toNat < S4096.size a := fun v191 k1_hw23 => k1_hw23.2

def k1_chk24 (v216 : IVec S16 32) : Prop :=
  (∀ a x, ((![v216] : Fin 1 → IVec S16 32) a x).toNat < S32768.size a)
theorem k1_idx28_inb : ∀ (v216 : IVec S16 32) (k1_hw24 : k1_chk24 v216), ∀ a x, ((![v216] : Fin 1 → IVec S16 32) a x).toNat < S32768.size a := fun v216 k1_hw24 => k1_hw24
def k1_off24 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_196 : BitVec 32 := 16#32
  let v217 : BitVec 32 := Scalar.muli arg11 c16_i32_196
  let c16_i32_197 : BitVec 32 := 16#32
  let v218 : BitVec 32 := Scalar.muli v217 c16_i32_197
  let c64_i32 : BitVec 32 := 64#32
  let v219 : BitVec 32 := Scalar.addi v218 c64_i32
  let v220 : Index := Scalar.indexCast v219
  ![v220.toNat]

def k1_chk25 (v226 : IVec S16 32) : Prop :=
  (∀ a x, ((![v226] : Fin 1 → IVec S16 32) a x).toNat < S4096.size a) ∧
  (∀ a x, ((![v226] : Fin 1 → IVec S16 32) a x).toNat < S4096.size a)
theorem k1_idx29_inb : ∀ (v226 : IVec S16 32) (k1_hw25 : k1_chk25 v226), ∀ a x, ((![v226] : Fin 1 → IVec S16 32) a x).toNat < S4096.size a := fun v226 k1_hw25 => k1_hw25.1
theorem k1_idx30_inb : ∀ (v226 : IVec S16 32) (k1_hw25 : k1_chk25 v226), ∀ a x, ((![v226] : Fin 1 → IVec S16 32) a x).toNat < S4096.size a := fun v226 k1_hw25 => k1_hw25.2

def k1_chk26 (v251 : IVec S16 32) : Prop :=
  (∀ a x, ((![v251] : Fin 1 → IVec S16 32) a x).toNat < S32768.size a)
theorem k1_idx31_inb : ∀ (v251 : IVec S16 32) (k1_hw26 : k1_chk26 v251), ∀ a x, ((![v251] : Fin 1 → IVec S16 32) a x).toNat < S32768.size a := fun v251 k1_hw26 => k1_hw26
def k1_off25 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_209 : BitVec 32 := 16#32
  let v252 : BitVec 32 := Scalar.muli arg11 c16_i32_209
  let c16_i32_210 : BitVec 32 := 16#32
  let v253 : BitVec 32 := Scalar.muli v252 c16_i32_210
  let c80_i32 : BitVec 32 := 80#32
  let v254 : BitVec 32 := Scalar.addi v253 c80_i32
  let v255 : Index := Scalar.indexCast v254
  ![v255.toNat]

def k1_chk27 (v261 : IVec S16 32) : Prop :=
  (∀ a x, ((![v261] : Fin 1 → IVec S16 32) a x).toNat < S4096.size a) ∧
  (∀ a x, ((![v261] : Fin 1 → IVec S16 32) a x).toNat < S4096.size a)
theorem k1_idx32_inb : ∀ (v261 : IVec S16 32) (k1_hw27 : k1_chk27 v261), ∀ a x, ((![v261] : Fin 1 → IVec S16 32) a x).toNat < S4096.size a := fun v261 k1_hw27 => k1_hw27.1
theorem k1_idx33_inb : ∀ (v261 : IVec S16 32) (k1_hw27 : k1_chk27 v261), ∀ a x, ((![v261] : Fin 1 → IVec S16 32) a x).toNat < S4096.size a := fun v261 k1_hw27 => k1_hw27.2

def k1_chk28 (v286 : IVec S16 32) : Prop :=
  (∀ a x, ((![v286] : Fin 1 → IVec S16 32) a x).toNat < S32768.size a)
theorem k1_idx34_inb : ∀ (v286 : IVec S16 32) (k1_hw28 : k1_chk28 v286), ∀ a x, ((![v286] : Fin 1 → IVec S16 32) a x).toNat < S32768.size a := fun v286 k1_hw28 => k1_hw28
def k1_off26 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_222 : BitVec 32 := 16#32
  let v287 : BitVec 32 := Scalar.muli arg11 c16_i32_222
  let c16_i32_223 : BitVec 32 := 16#32
  let v288 : BitVec 32 := Scalar.muli v287 c16_i32_223
  let c96_i32 : BitVec 32 := 96#32
  let v289 : BitVec 32 := Scalar.addi v288 c96_i32
  let v290 : Index := Scalar.indexCast v289
  ![v290.toNat]

def k1_chk29 (v296 : IVec S16 32) : Prop :=
  (∀ a x, ((![v296] : Fin 1 → IVec S16 32) a x).toNat < S4096.size a) ∧
  (∀ a x, ((![v296] : Fin 1 → IVec S16 32) a x).toNat < S4096.size a)
theorem k1_idx35_inb : ∀ (v296 : IVec S16 32) (k1_hw29 : k1_chk29 v296), ∀ a x, ((![v296] : Fin 1 → IVec S16 32) a x).toNat < S4096.size a := fun v296 k1_hw29 => k1_hw29.1
theorem k1_idx36_inb : ∀ (v296 : IVec S16 32) (k1_hw29 : k1_chk29 v296), ∀ a x, ((![v296] : Fin 1 → IVec S16 32) a x).toNat < S4096.size a := fun v296 k1_hw29 => k1_hw29.2

def k1_chk30 (v321 : IVec S16 32) : Prop :=
  (∀ a x, ((![v321] : Fin 1 → IVec S16 32) a x).toNat < S32768.size a)
theorem k1_idx37_inb : ∀ (v321 : IVec S16 32) (k1_hw30 : k1_chk30 v321), ∀ a x, ((![v321] : Fin 1 → IVec S16 32) a x).toNat < S32768.size a := fun v321 k1_hw30 => k1_hw30
def k1_off27 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_235 : BitVec 32 := 16#32
  let v322 : BitVec 32 := Scalar.muli arg11 c16_i32_235
  let c16_i32_236 : BitVec 32 := 16#32
  let v323 : BitVec 32 := Scalar.muli v322 c16_i32_236
  let c112_i32 : BitVec 32 := 112#32
  let v324 : BitVec 32 := Scalar.addi v323 c112_i32
  let v325 : Index := Scalar.indexCast v324
  ![v325.toNat]

def k1_chk31 (v331 : IVec S16 32) : Prop :=
  (∀ a x, ((![v331] : Fin 1 → IVec S16 32) a x).toNat < S4096.size a) ∧
  (∀ a x, ((![v331] : Fin 1 → IVec S16 32) a x).toNat < S4096.size a)
theorem k1_idx38_inb : ∀ (v331 : IVec S16 32) (k1_hw31 : k1_chk31 v331), ∀ a x, ((![v331] : Fin 1 → IVec S16 32) a x).toNat < S4096.size a := fun v331 k1_hw31 => k1_hw31.1
theorem k1_idx39_inb : ∀ (v331 : IVec S16 32) (k1_hw31 : k1_chk31 v331), ∀ a x, ((![v331] : Fin 1 → IVec S16 32) a x).toNat < S4096.size a := fun v331 k1_hw31 => k1_hw31.2

def k1_chk32 (v356 : IVec S16 32) : Prop :=
  (∀ a x, ((![v356] : Fin 1 → IVec S16 32) a x).toNat < S32768.size a)
theorem k1_idx40_inb : ∀ (v356 : IVec S16 32) (k1_hw32 : k1_chk32 v356), ∀ a x, ((![v356] : Fin 1 → IVec S16 32) a x).toNat < S32768.size a := fun v356 k1_hw32 => k1_hw32
def k1_off28 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_248 : BitVec 32 := 16#32
  let v357 : BitVec 32 := Scalar.muli arg11 c16_i32_248
  let c16_i32_249 : BitVec 32 := 16#32
  let v358 : BitVec 32 := Scalar.muli v357 c16_i32_249
  let c128_i32_250 : BitVec 32 := 128#32
  let v359 : BitVec 32 := Scalar.addi v358 c128_i32_250
  let v360 : Index := Scalar.indexCast v359
  ![v360.toNat]

def k1_chk33 (v366 : IVec S16 32) : Prop :=
  (∀ a x, ((![v366] : Fin 1 → IVec S16 32) a x).toNat < S4096.size a) ∧
  (∀ a x, ((![v366] : Fin 1 → IVec S16 32) a x).toNat < S4096.size a)
theorem k1_idx41_inb : ∀ (v366 : IVec S16 32) (k1_hw33 : k1_chk33 v366), ∀ a x, ((![v366] : Fin 1 → IVec S16 32) a x).toNat < S4096.size a := fun v366 k1_hw33 => k1_hw33.1
theorem k1_idx42_inb : ∀ (v366 : IVec S16 32) (k1_hw33 : k1_chk33 v366), ∀ a x, ((![v366] : Fin 1 → IVec S16 32) a x).toNat < S4096.size a := fun v366 k1_hw33 => k1_hw33.2

def k1_chk34 (v391 : IVec S16 32) : Prop :=
  (∀ a x, ((![v391] : Fin 1 → IVec S16 32) a x).toNat < S32768.size a)
theorem k1_idx43_inb : ∀ (v391 : IVec S16 32) (k1_hw34 : k1_chk34 v391), ∀ a x, ((![v391] : Fin 1 → IVec S16 32) a x).toNat < S32768.size a := fun v391 k1_hw34 => k1_hw34
def k1_off29 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_262 : BitVec 32 := 16#32
  let v392 : BitVec 32 := Scalar.muli arg11 c16_i32_262
  let c16_i32_263 : BitVec 32 := 16#32
  let v393 : BitVec 32 := Scalar.muli v392 c16_i32_263
  let c144_i32 : BitVec 32 := 144#32
  let v394 : BitVec 32 := Scalar.addi v393 c144_i32
  let v395 : Index := Scalar.indexCast v394
  ![v395.toNat]

def k1_chk35 (v401 : IVec S16 32) : Prop :=
  (∀ a x, ((![v401] : Fin 1 → IVec S16 32) a x).toNat < S4096.size a) ∧
  (∀ a x, ((![v401] : Fin 1 → IVec S16 32) a x).toNat < S4096.size a)
theorem k1_idx44_inb : ∀ (v401 : IVec S16 32) (k1_hw35 : k1_chk35 v401), ∀ a x, ((![v401] : Fin 1 → IVec S16 32) a x).toNat < S4096.size a := fun v401 k1_hw35 => k1_hw35.1
theorem k1_idx45_inb : ∀ (v401 : IVec S16 32) (k1_hw35 : k1_chk35 v401), ∀ a x, ((![v401] : Fin 1 → IVec S16 32) a x).toNat < S4096.size a := fun v401 k1_hw35 => k1_hw35.2

def k1_chk36 (v426 : IVec S16 32) : Prop :=
  (∀ a x, ((![v426] : Fin 1 → IVec S16 32) a x).toNat < S32768.size a)
theorem k1_idx46_inb : ∀ (v426 : IVec S16 32) (k1_hw36 : k1_chk36 v426), ∀ a x, ((![v426] : Fin 1 → IVec S16 32) a x).toNat < S32768.size a := fun v426 k1_hw36 => k1_hw36
def k1_off30 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_275 : BitVec 32 := 16#32
  let v427 : BitVec 32 := Scalar.muli arg11 c16_i32_275
  let c16_i32_276 : BitVec 32 := 16#32
  let v428 : BitVec 32 := Scalar.muli v427 c16_i32_276
  let c160_i32 : BitVec 32 := 160#32
  let v429 : BitVec 32 := Scalar.addi v428 c160_i32
  let v430 : Index := Scalar.indexCast v429
  ![v430.toNat]

def k1_chk37 (v436 : IVec S16 32) : Prop :=
  (∀ a x, ((![v436] : Fin 1 → IVec S16 32) a x).toNat < S4096.size a) ∧
  (∀ a x, ((![v436] : Fin 1 → IVec S16 32) a x).toNat < S4096.size a)
theorem k1_idx47_inb : ∀ (v436 : IVec S16 32) (k1_hw37 : k1_chk37 v436), ∀ a x, ((![v436] : Fin 1 → IVec S16 32) a x).toNat < S4096.size a := fun v436 k1_hw37 => k1_hw37.1
theorem k1_idx48_inb : ∀ (v436 : IVec S16 32) (k1_hw37 : k1_chk37 v436), ∀ a x, ((![v436] : Fin 1 → IVec S16 32) a x).toNat < S4096.size a := fun v436 k1_hw37 => k1_hw37.2

def k1_chk38 (v461 : IVec S16 32) : Prop :=
  (∀ a x, ((![v461] : Fin 1 → IVec S16 32) a x).toNat < S32768.size a)
theorem k1_idx49_inb : ∀ (v461 : IVec S16 32) (k1_hw38 : k1_chk38 v461), ∀ a x, ((![v461] : Fin 1 → IVec S16 32) a x).toNat < S32768.size a := fun v461 k1_hw38 => k1_hw38
def k1_off31 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_288 : BitVec 32 := 16#32
  let v462 : BitVec 32 := Scalar.muli arg11 c16_i32_288
  let c16_i32_289 : BitVec 32 := 16#32
  let v463 : BitVec 32 := Scalar.muli v462 c16_i32_289
  let c176_i32 : BitVec 32 := 176#32
  let v464 : BitVec 32 := Scalar.addi v463 c176_i32
  let v465 : Index := Scalar.indexCast v464
  ![v465.toNat]

def k1_chk39 (v471 : IVec S16 32) : Prop :=
  (∀ a x, ((![v471] : Fin 1 → IVec S16 32) a x).toNat < S4096.size a) ∧
  (∀ a x, ((![v471] : Fin 1 → IVec S16 32) a x).toNat < S4096.size a)
theorem k1_idx50_inb : ∀ (v471 : IVec S16 32) (k1_hw39 : k1_chk39 v471), ∀ a x, ((![v471] : Fin 1 → IVec S16 32) a x).toNat < S4096.size a := fun v471 k1_hw39 => k1_hw39.1
theorem k1_idx51_inb : ∀ (v471 : IVec S16 32) (k1_hw39 : k1_chk39 v471), ∀ a x, ((![v471] : Fin 1 → IVec S16 32) a x).toNat < S4096.size a := fun v471 k1_hw39 => k1_hw39.2

def k1_chk40 (v496 : IVec S16 32) : Prop :=
  (∀ a x, ((![v496] : Fin 1 → IVec S16 32) a x).toNat < S32768.size a)
theorem k1_idx52_inb : ∀ (v496 : IVec S16 32) (k1_hw40 : k1_chk40 v496), ∀ a x, ((![v496] : Fin 1 → IVec S16 32) a x).toNat < S32768.size a := fun v496 k1_hw40 => k1_hw40
def k1_off32 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_301 : BitVec 32 := 16#32
  let v497 : BitVec 32 := Scalar.muli arg11 c16_i32_301
  let c16_i32_302 : BitVec 32 := 16#32
  let v498 : BitVec 32 := Scalar.muli v497 c16_i32_302
  let c192_i32 : BitVec 32 := 192#32
  let v499 : BitVec 32 := Scalar.addi v498 c192_i32
  let v500 : Index := Scalar.indexCast v499
  ![v500.toNat]

def k1_chk41 (v506 : IVec S16 32) : Prop :=
  (∀ a x, ((![v506] : Fin 1 → IVec S16 32) a x).toNat < S4096.size a) ∧
  (∀ a x, ((![v506] : Fin 1 → IVec S16 32) a x).toNat < S4096.size a)
theorem k1_idx53_inb : ∀ (v506 : IVec S16 32) (k1_hw41 : k1_chk41 v506), ∀ a x, ((![v506] : Fin 1 → IVec S16 32) a x).toNat < S4096.size a := fun v506 k1_hw41 => k1_hw41.1
theorem k1_idx54_inb : ∀ (v506 : IVec S16 32) (k1_hw41 : k1_chk41 v506), ∀ a x, ((![v506] : Fin 1 → IVec S16 32) a x).toNat < S4096.size a := fun v506 k1_hw41 => k1_hw41.2

def k1_chk42 (v531 : IVec S16 32) : Prop :=
  (∀ a x, ((![v531] : Fin 1 → IVec S16 32) a x).toNat < S32768.size a)
theorem k1_idx55_inb : ∀ (v531 : IVec S16 32) (k1_hw42 : k1_chk42 v531), ∀ a x, ((![v531] : Fin 1 → IVec S16 32) a x).toNat < S32768.size a := fun v531 k1_hw42 => k1_hw42
def k1_off33 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_314 : BitVec 32 := 16#32
  let v532 : BitVec 32 := Scalar.muli arg11 c16_i32_314
  let c16_i32_315 : BitVec 32 := 16#32
  let v533 : BitVec 32 := Scalar.muli v532 c16_i32_315
  let c208_i32 : BitVec 32 := 208#32
  let v534 : BitVec 32 := Scalar.addi v533 c208_i32
  let v535 : Index := Scalar.indexCast v534
  ![v535.toNat]

def k1_chk43 (v541 : IVec S16 32) : Prop :=
  (∀ a x, ((![v541] : Fin 1 → IVec S16 32) a x).toNat < S4096.size a) ∧
  (∀ a x, ((![v541] : Fin 1 → IVec S16 32) a x).toNat < S4096.size a)
theorem k1_idx56_inb : ∀ (v541 : IVec S16 32) (k1_hw43 : k1_chk43 v541), ∀ a x, ((![v541] : Fin 1 → IVec S16 32) a x).toNat < S4096.size a := fun v541 k1_hw43 => k1_hw43.1
theorem k1_idx57_inb : ∀ (v541 : IVec S16 32) (k1_hw43 : k1_chk43 v541), ∀ a x, ((![v541] : Fin 1 → IVec S16 32) a x).toNat < S4096.size a := fun v541 k1_hw43 => k1_hw43.2

def k1_chk44 (v566 : IVec S16 32) : Prop :=
  (∀ a x, ((![v566] : Fin 1 → IVec S16 32) a x).toNat < S32768.size a)
theorem k1_idx58_inb : ∀ (v566 : IVec S16 32) (k1_hw44 : k1_chk44 v566), ∀ a x, ((![v566] : Fin 1 → IVec S16 32) a x).toNat < S32768.size a := fun v566 k1_hw44 => k1_hw44
def k1_off34 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_327 : BitVec 32 := 16#32
  let v567 : BitVec 32 := Scalar.muli arg11 c16_i32_327
  let c16_i32_328 : BitVec 32 := 16#32
  let v568 : BitVec 32 := Scalar.muli v567 c16_i32_328
  let c224_i32 : BitVec 32 := 224#32
  let v569 : BitVec 32 := Scalar.addi v568 c224_i32
  let v570 : Index := Scalar.indexCast v569
  ![v570.toNat]

def k1_chk45 (v576 : IVec S16 32) : Prop :=
  (∀ a x, ((![v576] : Fin 1 → IVec S16 32) a x).toNat < S4096.size a) ∧
  (∀ a x, ((![v576] : Fin 1 → IVec S16 32) a x).toNat < S4096.size a)
theorem k1_idx59_inb : ∀ (v576 : IVec S16 32) (k1_hw45 : k1_chk45 v576), ∀ a x, ((![v576] : Fin 1 → IVec S16 32) a x).toNat < S4096.size a := fun v576 k1_hw45 => k1_hw45.1
theorem k1_idx60_inb : ∀ (v576 : IVec S16 32) (k1_hw45 : k1_chk45 v576), ∀ a x, ((![v576] : Fin 1 → IVec S16 32) a x).toNat < S4096.size a := fun v576 k1_hw45 => k1_hw45.2

def k1_chk46 (v601 : IVec S16 32) : Prop :=
  (∀ a x, ((![v601] : Fin 1 → IVec S16 32) a x).toNat < S32768.size a)
theorem k1_idx61_inb : ∀ (v601 : IVec S16 32) (k1_hw46 : k1_chk46 v601), ∀ a x, ((![v601] : Fin 1 → IVec S16 32) a x).toNat < S32768.size a := fun v601 k1_hw46 => k1_hw46
def k1_off35 (k1_t4 : Fin k1_t4_loop.trips) : Fin 1 → Nat :=
  let c0_i32_20 : BitVec 32 := 0#32
  let c1_i32_22 : BitVec 32 := 1#32
  let arg11 : BitVec 32 := Scf.iv c0_i32_20 c1_i32_22 k1_t4
  let c16_i32_340 : BitVec 32 := 16#32
  let v602 : BitVec 32 := Scalar.muli arg11 c16_i32_340
  let c16_i32_341 : BitVec 32 := 16#32
  let v603 : BitVec 32 := Scalar.muli v602 c16_i32_341
  let c240_i32 : BitVec 32 := 240#32
  let v604 : BitVec 32 := Scalar.addi v603 c240_i32
  let v605 : Index := Scalar.indexCast v604
  ![v605.toNat]

def k1_chk47 (v611 : IVec S16 32) : Prop :=
  (∀ a x, ((![v611] : Fin 1 → IVec S16 32) a x).toNat < S4096.size a) ∧
  (∀ a x, ((![v611] : Fin 1 → IVec S16 32) a x).toNat < S4096.size a)
theorem k1_idx62_inb : ∀ (v611 : IVec S16 32) (k1_hw47 : k1_chk47 v611), ∀ a x, ((![v611] : Fin 1 → IVec S16 32) a x).toNat < S4096.size a := fun v611 k1_hw47 => k1_hw47.1
theorem k1_idx63_inb : ∀ (v611 : IVec S16 32) (k1_hw47 : k1_chk47 v611), ∀ a x, ((![v611] : Fin 1 → IVec S16 32) a x).toNat < S4096.size a := fun v611 k1_hw47 => k1_hw47.2

def k1_chk48 (v636 : IVec S16 32) : Prop :=
  (∀ a x, ((![v636] : Fin 1 → IVec S16 32) a x).toNat < S32768.size a)
theorem k1_idx64_inb : ∀ (v636 : IVec S16 32) (k1_hw48 : k1_chk48 v636), ∀ a x, ((![v636] : Fin 1 → IVec S16 32) a x).toNat < S32768.size a := fun v636 k1_hw48 => k1_hw48
@[reducible] def k1_t5_loop : Scf.Loop 32 :=
  let c0_i32_25 : BitVec 32 := 0#32
  let c128_i32_26 : BitVec 32 := 128#32
  let v21 : BitVec 32 := Scalar.addi c0_i32_25 c128_i32_26
  let c1_i32_27 : BitVec 32 := 1#32
  ⟨c0_i32_25, v21, c1_i32_27⟩
def k1_off36 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk49 (v88 : IVec S16 32) : Prop :=
  (∀ a x, ((![v88] : Fin 1 → IVec S16 32) a x).toNat < S4096.size a)
theorem k1_idx65_inb : ∀ (v88 : IVec S16 32) (k1_hw49 : k1_chk49 v88), ∀ a x, ((![v88] : Fin 1 → IVec S16 32) a x).toNat < S4096.size a := fun v88 k1_hw49 => k1_hw49
def k1_off37 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_152 : BitVec 32 := 16#32
  let v89 : BitVec 32 := Scalar.muli arg11 c16_i32_152
  let c16_i32_153 : BitVec 32 := 16#32
  let v90 : BitVec 32 := Scalar.muli v89 c16_i32_153
  let c16_i32_154 : BitVec 32 := 16#32
  let v91 : BitVec 32 := Scalar.addi v90 c16_i32_154
  let v92 : Index := Scalar.indexCast v91
  ![v92.toNat]

def k1_chk50 (v100 : IVec S16 32) : Prop :=
  (∀ a x, ((![v100] : Fin 1 → IVec S16 32) a x).toNat < S4096.size a)
theorem k1_idx66_inb : ∀ (v100 : IVec S16 32) (k1_hw50 : k1_chk50 v100), ∀ a x, ((![v100] : Fin 1 → IVec S16 32) a x).toNat < S4096.size a := fun v100 k1_hw50 => k1_hw50
def k1_off38 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_158 : BitVec 32 := 16#32
  let v101 : BitVec 32 := Scalar.muli arg11 c16_i32_158
  let c16_i32_159 : BitVec 32 := 16#32
  let v102 : BitVec 32 := Scalar.muli v101 c16_i32_159
  let c32_i32 : BitVec 32 := 32#32
  let v103 : BitVec 32 := Scalar.addi v102 c32_i32
  let v104 : Index := Scalar.indexCast v103
  ![v104.toNat]

def k1_chk51 (v112 : IVec S16 32) : Prop :=
  (∀ a x, ((![v112] : Fin 1 → IVec S16 32) a x).toNat < S4096.size a)
theorem k1_idx67_inb : ∀ (v112 : IVec S16 32) (k1_hw51 : k1_chk51 v112), ∀ a x, ((![v112] : Fin 1 → IVec S16 32) a x).toNat < S4096.size a := fun v112 k1_hw51 => k1_hw51
def k1_off39 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_163 : BitVec 32 := 16#32
  let v113 : BitVec 32 := Scalar.muli arg11 c16_i32_163
  let c16_i32_164 : BitVec 32 := 16#32
  let v114 : BitVec 32 := Scalar.muli v113 c16_i32_164
  let c48_i32 : BitVec 32 := 48#32
  let v115 : BitVec 32 := Scalar.addi v114 c48_i32
  let v116 : Index := Scalar.indexCast v115
  ![v116.toNat]

def k1_chk52 (v124 : IVec S16 32) : Prop :=
  (∀ a x, ((![v124] : Fin 1 → IVec S16 32) a x).toNat < S4096.size a)
theorem k1_idx68_inb : ∀ (v124 : IVec S16 32) (k1_hw52 : k1_chk52 v124), ∀ a x, ((![v124] : Fin 1 → IVec S16 32) a x).toNat < S4096.size a := fun v124 k1_hw52 => k1_hw52
def k1_off40 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_168 : BitVec 32 := 16#32
  let v125 : BitVec 32 := Scalar.muli arg11 c16_i32_168
  let c16_i32_169 : BitVec 32 := 16#32
  let v126 : BitVec 32 := Scalar.muli v125 c16_i32_169
  let c64_i32 : BitVec 32 := 64#32
  let v127 : BitVec 32 := Scalar.addi v126 c64_i32
  let v128 : Index := Scalar.indexCast v127
  ![v128.toNat]

def k1_chk53 (v136 : IVec S16 32) : Prop :=
  (∀ a x, ((![v136] : Fin 1 → IVec S16 32) a x).toNat < S4096.size a)
theorem k1_idx69_inb : ∀ (v136 : IVec S16 32) (k1_hw53 : k1_chk53 v136), ∀ a x, ((![v136] : Fin 1 → IVec S16 32) a x).toNat < S4096.size a := fun v136 k1_hw53 => k1_hw53
def k1_off41 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_173 : BitVec 32 := 16#32
  let v137 : BitVec 32 := Scalar.muli arg11 c16_i32_173
  let c16_i32_174 : BitVec 32 := 16#32
  let v138 : BitVec 32 := Scalar.muli v137 c16_i32_174
  let c80_i32 : BitVec 32 := 80#32
  let v139 : BitVec 32 := Scalar.addi v138 c80_i32
  let v140 : Index := Scalar.indexCast v139
  ![v140.toNat]

def k1_chk54 (v148 : IVec S16 32) : Prop :=
  (∀ a x, ((![v148] : Fin 1 → IVec S16 32) a x).toNat < S4096.size a)
theorem k1_idx70_inb : ∀ (v148 : IVec S16 32) (k1_hw54 : k1_chk54 v148), ∀ a x, ((![v148] : Fin 1 → IVec S16 32) a x).toNat < S4096.size a := fun v148 k1_hw54 => k1_hw54
def k1_off42 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_178 : BitVec 32 := 16#32
  let v149 : BitVec 32 := Scalar.muli arg11 c16_i32_178
  let c16_i32_179 : BitVec 32 := 16#32
  let v150 : BitVec 32 := Scalar.muli v149 c16_i32_179
  let c96_i32 : BitVec 32 := 96#32
  let v151 : BitVec 32 := Scalar.addi v150 c96_i32
  let v152 : Index := Scalar.indexCast v151
  ![v152.toNat]

def k1_chk55 (v160 : IVec S16 32) : Prop :=
  (∀ a x, ((![v160] : Fin 1 → IVec S16 32) a x).toNat < S4096.size a)
theorem k1_idx71_inb : ∀ (v160 : IVec S16 32) (k1_hw55 : k1_chk55 v160), ∀ a x, ((![v160] : Fin 1 → IVec S16 32) a x).toNat < S4096.size a := fun v160 k1_hw55 => k1_hw55
def k1_off43 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_183 : BitVec 32 := 16#32
  let v161 : BitVec 32 := Scalar.muli arg11 c16_i32_183
  let c16_i32_184 : BitVec 32 := 16#32
  let v162 : BitVec 32 := Scalar.muli v161 c16_i32_184
  let c112_i32 : BitVec 32 := 112#32
  let v163 : BitVec 32 := Scalar.addi v162 c112_i32
  let v164 : Index := Scalar.indexCast v163
  ![v164.toNat]

def k1_chk56 (v172 : IVec S16 32) : Prop :=
  (∀ a x, ((![v172] : Fin 1 → IVec S16 32) a x).toNat < S4096.size a)
theorem k1_idx72_inb : ∀ (v172 : IVec S16 32) (k1_hw56 : k1_chk56 v172), ∀ a x, ((![v172] : Fin 1 → IVec S16 32) a x).toNat < S4096.size a := fun v172 k1_hw56 => k1_hw56
def k1_off44 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_188 : BitVec 32 := 16#32
  let v173 : BitVec 32 := Scalar.muli arg11 c16_i32_188
  let c16_i32_189 : BitVec 32 := 16#32
  let v174 : BitVec 32 := Scalar.muli v173 c16_i32_189
  let c128_i32_190 : BitVec 32 := 128#32
  let v175 : BitVec 32 := Scalar.addi v174 c128_i32_190
  let v176 : Index := Scalar.indexCast v175
  ![v176.toNat]

def k1_chk57 (v184 : IVec S16 32) : Prop :=
  (∀ a x, ((![v184] : Fin 1 → IVec S16 32) a x).toNat < S4096.size a)
theorem k1_idx73_inb : ∀ (v184 : IVec S16 32) (k1_hw57 : k1_chk57 v184), ∀ a x, ((![v184] : Fin 1 → IVec S16 32) a x).toNat < S4096.size a := fun v184 k1_hw57 => k1_hw57
def k1_off45 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_194 : BitVec 32 := 16#32
  let v185 : BitVec 32 := Scalar.muli arg11 c16_i32_194
  let c16_i32_195 : BitVec 32 := 16#32
  let v186 : BitVec 32 := Scalar.muli v185 c16_i32_195
  let c144_i32 : BitVec 32 := 144#32
  let v187 : BitVec 32 := Scalar.addi v186 c144_i32
  let v188 : Index := Scalar.indexCast v187
  ![v188.toNat]

def k1_chk58 (v196 : IVec S16 32) : Prop :=
  (∀ a x, ((![v196] : Fin 1 → IVec S16 32) a x).toNat < S4096.size a)
theorem k1_idx74_inb : ∀ (v196 : IVec S16 32) (k1_hw58 : k1_chk58 v196), ∀ a x, ((![v196] : Fin 1 → IVec S16 32) a x).toNat < S4096.size a := fun v196 k1_hw58 => k1_hw58
def k1_off46 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_199 : BitVec 32 := 16#32
  let v197 : BitVec 32 := Scalar.muli arg11 c16_i32_199
  let c16_i32_200 : BitVec 32 := 16#32
  let v198 : BitVec 32 := Scalar.muli v197 c16_i32_200
  let c160_i32 : BitVec 32 := 160#32
  let v199 : BitVec 32 := Scalar.addi v198 c160_i32
  let v200 : Index := Scalar.indexCast v199
  ![v200.toNat]

def k1_chk59 (v208 : IVec S16 32) : Prop :=
  (∀ a x, ((![v208] : Fin 1 → IVec S16 32) a x).toNat < S4096.size a)
theorem k1_idx75_inb : ∀ (v208 : IVec S16 32) (k1_hw59 : k1_chk59 v208), ∀ a x, ((![v208] : Fin 1 → IVec S16 32) a x).toNat < S4096.size a := fun v208 k1_hw59 => k1_hw59
def k1_off47 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_204 : BitVec 32 := 16#32
  let v209 : BitVec 32 := Scalar.muli arg11 c16_i32_204
  let c16_i32_205 : BitVec 32 := 16#32
  let v210 : BitVec 32 := Scalar.muli v209 c16_i32_205
  let c176_i32 : BitVec 32 := 176#32
  let v211 : BitVec 32 := Scalar.addi v210 c176_i32
  let v212 : Index := Scalar.indexCast v211
  ![v212.toNat]

def k1_chk60 (v220 : IVec S16 32) : Prop :=
  (∀ a x, ((![v220] : Fin 1 → IVec S16 32) a x).toNat < S4096.size a)
theorem k1_idx76_inb : ∀ (v220 : IVec S16 32) (k1_hw60 : k1_chk60 v220), ∀ a x, ((![v220] : Fin 1 → IVec S16 32) a x).toNat < S4096.size a := fun v220 k1_hw60 => k1_hw60
def k1_off48 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_209 : BitVec 32 := 16#32
  let v221 : BitVec 32 := Scalar.muli arg11 c16_i32_209
  let c16_i32_210 : BitVec 32 := 16#32
  let v222 : BitVec 32 := Scalar.muli v221 c16_i32_210
  let c192_i32 : BitVec 32 := 192#32
  let v223 : BitVec 32 := Scalar.addi v222 c192_i32
  let v224 : Index := Scalar.indexCast v223
  ![v224.toNat]

def k1_chk61 (v232 : IVec S16 32) : Prop :=
  (∀ a x, ((![v232] : Fin 1 → IVec S16 32) a x).toNat < S4096.size a)
theorem k1_idx77_inb : ∀ (v232 : IVec S16 32) (k1_hw61 : k1_chk61 v232), ∀ a x, ((![v232] : Fin 1 → IVec S16 32) a x).toNat < S4096.size a := fun v232 k1_hw61 => k1_hw61
def k1_off49 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_214 : BitVec 32 := 16#32
  let v233 : BitVec 32 := Scalar.muli arg11 c16_i32_214
  let c16_i32_215 : BitVec 32 := 16#32
  let v234 : BitVec 32 := Scalar.muli v233 c16_i32_215
  let c208_i32 : BitVec 32 := 208#32
  let v235 : BitVec 32 := Scalar.addi v234 c208_i32
  let v236 : Index := Scalar.indexCast v235
  ![v236.toNat]

def k1_chk62 (v244 : IVec S16 32) : Prop :=
  (∀ a x, ((![v244] : Fin 1 → IVec S16 32) a x).toNat < S4096.size a)
theorem k1_idx78_inb : ∀ (v244 : IVec S16 32) (k1_hw62 : k1_chk62 v244), ∀ a x, ((![v244] : Fin 1 → IVec S16 32) a x).toNat < S4096.size a := fun v244 k1_hw62 => k1_hw62
def k1_off50 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_219 : BitVec 32 := 16#32
  let v245 : BitVec 32 := Scalar.muli arg11 c16_i32_219
  let c16_i32_220 : BitVec 32 := 16#32
  let v246 : BitVec 32 := Scalar.muli v245 c16_i32_220
  let c224_i32 : BitVec 32 := 224#32
  let v247 : BitVec 32 := Scalar.addi v246 c224_i32
  let v248 : Index := Scalar.indexCast v247
  ![v248.toNat]

def k1_chk63 (v256 : IVec S16 32) : Prop :=
  (∀ a x, ((![v256] : Fin 1 → IVec S16 32) a x).toNat < S4096.size a)
theorem k1_idx79_inb : ∀ (v256 : IVec S16 32) (k1_hw63 : k1_chk63 v256), ∀ a x, ((![v256] : Fin 1 → IVec S16 32) a x).toNat < S4096.size a := fun v256 k1_hw63 => k1_hw63
def k1_off51 (k1_t5 : Fin k1_t5_loop.trips) : Fin 1 → Nat :=
  let c0_i32_25 : BitVec 32 := 0#32
  let c1_i32_27 : BitVec 32 := 1#32
  let arg11 : BitVec 32 := Scf.iv c0_i32_25 c1_i32_27 k1_t5
  let c16_i32_224 : BitVec 32 := 16#32
  let v257 : BitVec 32 := Scalar.muli arg11 c16_i32_224
  let c16_i32_225 : BitVec 32 := 16#32
  let v258 : BitVec 32 := Scalar.muli v257 c16_i32_225
  let c240_i32 : BitVec 32 := 240#32
  let v259 : BitVec 32 := Scalar.addi v258 c240_i32
  let v260 : Index := Scalar.indexCast v259
  ![v260.toNat]

def k1_chk64 (v268 : IVec S16 32) : Prop :=
  (∀ a x, ((![v268] : Fin 1 → IVec S16 32) a x).toNat < S4096.size a)
theorem k1_idx80_inb : ∀ (v268 : IVec S16 32) (k1_hw64 : k1_chk64 v268), ∀ a x, ((![v268] : Fin 1 → IVec S16 32) a x).toNat < S4096.size a := fun v268 k1_hw64 => k1_hw64
@[reducible] def k1_t6_loop : Scf.Loop 32 :=
  let c0_i32_30 : BitVec 32 := 0#32
  let c256_i32_31 : BitVec 32 := 256#32
  let v22 : BitVec 32 := Scalar.addi c0_i32_30 c256_i32_31
  let c1_i32_32 : BitVec 32 := 1#32
  ⟨c0_i32_30, v22, c1_i32_32⟩
def k1_off52 (k1_t6 : Fin k1_t6_loop.trips) : Fin 1 → Nat :=
  let c0_i32_30 : BitVec 32 := 0#32
  let c1_i32_32 : BitVec 32 := 1#32
  let arg11 : BitVec 32 := Scf.iv c0_i32_30 c1_i32_32 k1_t6
  let c16_i32_149 : BitVec 32 := 16#32
  let v77 : BitVec 32 := Scalar.muli arg11 c16_i32_149
  let v78 : Index := Scalar.indexCast v77
  ![v78.toNat]
@[reducible] def k1_t7_loop : Scf.Loop 32 :=
  let c0_i32_35 : BitVec 32 := 0#32
  let c128_i32_36 : BitVec 32 := 128#32
  let v24 : BitVec 32 := Scalar.addi c0_i32_35 c128_i32_36
  let c1_i32_37 : BitVec 32 := 1#32
  ⟨c0_i32_35, v24, c1_i32_37⟩
def k1_off53 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk65 (v88 : IVec S16 32) : Prop :=
  (∀ a x, ((![v88] : Fin 1 → IVec S16 32) a x).toNat < S4096.size a) ∧
  (∀ a x, ((![v88] : Fin 1 → IVec S16 32) a x).toNat < S4096.size a)
theorem k1_idx81_inb : ∀ (v88 : IVec S16 32) (k1_hw65 : k1_chk65 v88), ∀ a x, ((![v88] : Fin 1 → IVec S16 32) a x).toNat < S4096.size a := fun v88 k1_hw65 => k1_hw65.1
theorem k1_idx82_inb : ∀ (v88 : IVec S16 32) (k1_hw65 : k1_chk65 v88), ∀ a x, ((![v88] : Fin 1 → IVec S16 32) a x).toNat < S4096.size a := fun v88 k1_hw65 => k1_hw65.2

def k1_chk66 (v92 : IVec S16 32) : Prop :=
  (∀ a x, ((![v92] : Fin 1 → IVec S16 32) a x).toNat < S32768.size a)
theorem k1_idx83_inb : ∀ (v92 : IVec S16 32) (k1_hw66 : k1_chk66 v92), ∀ a x, ((![v92] : Fin 1 → IVec S16 32) a x).toNat < S32768.size a := fun v92 k1_hw66 => k1_hw66

def k1_chk67 (v112 : IVec S16 32) : Prop :=
  (∀ a x, ((![v112] : Fin 1 → IVec S16 32) a x).toNat < S32768.size a)
theorem k1_idx84_inb : ∀ (v112 : IVec S16 32) (k1_hw67 : k1_chk67 v112), ∀ a x, ((![v112] : Fin 1 → IVec S16 32) a x).toNat < S32768.size a := fun v112 k1_hw67 => k1_hw67
def k1_off54 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_156 : BitVec 32 := 16#32
  let v113 : BitVec 32 := Scalar.muli arg11 c16_i32_156
  let c16_i32_157 : BitVec 32 := 16#32
  let v114 : BitVec 32 := Scalar.muli v113 c16_i32_157
  let c16_i32_158 : BitVec 32 := 16#32
  let v115 : BitVec 32 := Scalar.addi v114 c16_i32_158
  let v116 : Index := Scalar.indexCast v115
  ![v116.toNat]

def k1_chk68 (v124 : IVec S16 32) : Prop :=
  (∀ a x, ((![v124] : Fin 1 → IVec S16 32) a x).toNat < S4096.size a) ∧
  (∀ a x, ((![v124] : Fin 1 → IVec S16 32) a x).toNat < S4096.size a)
theorem k1_idx85_inb : ∀ (v124 : IVec S16 32) (k1_hw68 : k1_chk68 v124), ∀ a x, ((![v124] : Fin 1 → IVec S16 32) a x).toNat < S4096.size a := fun v124 k1_hw68 => k1_hw68.1
theorem k1_idx86_inb : ∀ (v124 : IVec S16 32) (k1_hw68 : k1_chk68 v124), ∀ a x, ((![v124] : Fin 1 → IVec S16 32) a x).toNat < S4096.size a := fun v124 k1_hw68 => k1_hw68.2

def k1_chk69 (v128 : IVec S16 32) : Prop :=
  (∀ a x, ((![v128] : Fin 1 → IVec S16 32) a x).toNat < S32768.size a)
theorem k1_idx87_inb : ∀ (v128 : IVec S16 32) (k1_hw69 : k1_chk69 v128), ∀ a x, ((![v128] : Fin 1 → IVec S16 32) a x).toNat < S32768.size a := fun v128 k1_hw69 => k1_hw69

def k1_chk70 (v148 : IVec S16 32) : Prop :=
  (∀ a x, ((![v148] : Fin 1 → IVec S16 32) a x).toNat < S32768.size a)
theorem k1_idx88_inb : ∀ (v148 : IVec S16 32) (k1_hw70 : k1_chk70 v148), ∀ a x, ((![v148] : Fin 1 → IVec S16 32) a x).toNat < S32768.size a := fun v148 k1_hw70 => k1_hw70
def k1_off55 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_171 : BitVec 32 := 16#32
  let v149 : BitVec 32 := Scalar.muli arg11 c16_i32_171
  let c16_i32_172 : BitVec 32 := 16#32
  let v150 : BitVec 32 := Scalar.muli v149 c16_i32_172
  let c32_i32 : BitVec 32 := 32#32
  let v151 : BitVec 32 := Scalar.addi v150 c32_i32
  let v152 : Index := Scalar.indexCast v151
  ![v152.toNat]

def k1_chk71 (v160 : IVec S16 32) : Prop :=
  (∀ a x, ((![v160] : Fin 1 → IVec S16 32) a x).toNat < S4096.size a) ∧
  (∀ a x, ((![v160] : Fin 1 → IVec S16 32) a x).toNat < S4096.size a)
theorem k1_idx89_inb : ∀ (v160 : IVec S16 32) (k1_hw71 : k1_chk71 v160), ∀ a x, ((![v160] : Fin 1 → IVec S16 32) a x).toNat < S4096.size a := fun v160 k1_hw71 => k1_hw71.1
theorem k1_idx90_inb : ∀ (v160 : IVec S16 32) (k1_hw71 : k1_chk71 v160), ∀ a x, ((![v160] : Fin 1 → IVec S16 32) a x).toNat < S4096.size a := fun v160 k1_hw71 => k1_hw71.2

def k1_chk72 (v164 : IVec S16 32) : Prop :=
  (∀ a x, ((![v164] : Fin 1 → IVec S16 32) a x).toNat < S32768.size a)
theorem k1_idx91_inb : ∀ (v164 : IVec S16 32) (k1_hw72 : k1_chk72 v164), ∀ a x, ((![v164] : Fin 1 → IVec S16 32) a x).toNat < S32768.size a := fun v164 k1_hw72 => k1_hw72

def k1_chk73 (v184 : IVec S16 32) : Prop :=
  (∀ a x, ((![v184] : Fin 1 → IVec S16 32) a x).toNat < S32768.size a)
theorem k1_idx92_inb : ∀ (v184 : IVec S16 32) (k1_hw73 : k1_chk73 v184), ∀ a x, ((![v184] : Fin 1 → IVec S16 32) a x).toNat < S32768.size a := fun v184 k1_hw73 => k1_hw73
def k1_off56 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_185 : BitVec 32 := 16#32
  let v185 : BitVec 32 := Scalar.muli arg11 c16_i32_185
  let c16_i32_186 : BitVec 32 := 16#32
  let v186 : BitVec 32 := Scalar.muli v185 c16_i32_186
  let c48_i32 : BitVec 32 := 48#32
  let v187 : BitVec 32 := Scalar.addi v186 c48_i32
  let v188 : Index := Scalar.indexCast v187
  ![v188.toNat]

def k1_chk74 (v196 : IVec S16 32) : Prop :=
  (∀ a x, ((![v196] : Fin 1 → IVec S16 32) a x).toNat < S4096.size a) ∧
  (∀ a x, ((![v196] : Fin 1 → IVec S16 32) a x).toNat < S4096.size a)
theorem k1_idx93_inb : ∀ (v196 : IVec S16 32) (k1_hw74 : k1_chk74 v196), ∀ a x, ((![v196] : Fin 1 → IVec S16 32) a x).toNat < S4096.size a := fun v196 k1_hw74 => k1_hw74.1
theorem k1_idx94_inb : ∀ (v196 : IVec S16 32) (k1_hw74 : k1_chk74 v196), ∀ a x, ((![v196] : Fin 1 → IVec S16 32) a x).toNat < S4096.size a := fun v196 k1_hw74 => k1_hw74.2

def k1_chk75 (v200 : IVec S16 32) : Prop :=
  (∀ a x, ((![v200] : Fin 1 → IVec S16 32) a x).toNat < S32768.size a)
theorem k1_idx95_inb : ∀ (v200 : IVec S16 32) (k1_hw75 : k1_chk75 v200), ∀ a x, ((![v200] : Fin 1 → IVec S16 32) a x).toNat < S32768.size a := fun v200 k1_hw75 => k1_hw75

def k1_chk76 (v220 : IVec S16 32) : Prop :=
  (∀ a x, ((![v220] : Fin 1 → IVec S16 32) a x).toNat < S32768.size a)
theorem k1_idx96_inb : ∀ (v220 : IVec S16 32) (k1_hw76 : k1_chk76 v220), ∀ a x, ((![v220] : Fin 1 → IVec S16 32) a x).toNat < S32768.size a := fun v220 k1_hw76 => k1_hw76
def k1_off57 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_199 : BitVec 32 := 16#32
  let v221 : BitVec 32 := Scalar.muli arg11 c16_i32_199
  let c16_i32_200 : BitVec 32 := 16#32
  let v222 : BitVec 32 := Scalar.muli v221 c16_i32_200
  let c64_i32 : BitVec 32 := 64#32
  let v223 : BitVec 32 := Scalar.addi v222 c64_i32
  let v224 : Index := Scalar.indexCast v223
  ![v224.toNat]

def k1_chk77 (v232 : IVec S16 32) : Prop :=
  (∀ a x, ((![v232] : Fin 1 → IVec S16 32) a x).toNat < S4096.size a) ∧
  (∀ a x, ((![v232] : Fin 1 → IVec S16 32) a x).toNat < S4096.size a)
theorem k1_idx97_inb : ∀ (v232 : IVec S16 32) (k1_hw77 : k1_chk77 v232), ∀ a x, ((![v232] : Fin 1 → IVec S16 32) a x).toNat < S4096.size a := fun v232 k1_hw77 => k1_hw77.1
theorem k1_idx98_inb : ∀ (v232 : IVec S16 32) (k1_hw77 : k1_chk77 v232), ∀ a x, ((![v232] : Fin 1 → IVec S16 32) a x).toNat < S4096.size a := fun v232 k1_hw77 => k1_hw77.2

def k1_chk78 (v236 : IVec S16 32) : Prop :=
  (∀ a x, ((![v236] : Fin 1 → IVec S16 32) a x).toNat < S32768.size a)
theorem k1_idx99_inb : ∀ (v236 : IVec S16 32) (k1_hw78 : k1_chk78 v236), ∀ a x, ((![v236] : Fin 1 → IVec S16 32) a x).toNat < S32768.size a := fun v236 k1_hw78 => k1_hw78

def k1_chk79 (v256 : IVec S16 32) : Prop :=
  (∀ a x, ((![v256] : Fin 1 → IVec S16 32) a x).toNat < S32768.size a)
theorem k1_idx100_inb : ∀ (v256 : IVec S16 32) (k1_hw79 : k1_chk79 v256), ∀ a x, ((![v256] : Fin 1 → IVec S16 32) a x).toNat < S32768.size a := fun v256 k1_hw79 => k1_hw79
def k1_off58 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_213 : BitVec 32 := 16#32
  let v257 : BitVec 32 := Scalar.muli arg11 c16_i32_213
  let c16_i32_214 : BitVec 32 := 16#32
  let v258 : BitVec 32 := Scalar.muli v257 c16_i32_214
  let c80_i32 : BitVec 32 := 80#32
  let v259 : BitVec 32 := Scalar.addi v258 c80_i32
  let v260 : Index := Scalar.indexCast v259
  ![v260.toNat]

def k1_chk80 (v268 : IVec S16 32) : Prop :=
  (∀ a x, ((![v268] : Fin 1 → IVec S16 32) a x).toNat < S4096.size a) ∧
  (∀ a x, ((![v268] : Fin 1 → IVec S16 32) a x).toNat < S4096.size a)
theorem k1_idx101_inb : ∀ (v268 : IVec S16 32) (k1_hw80 : k1_chk80 v268), ∀ a x, ((![v268] : Fin 1 → IVec S16 32) a x).toNat < S4096.size a := fun v268 k1_hw80 => k1_hw80.1
theorem k1_idx102_inb : ∀ (v268 : IVec S16 32) (k1_hw80 : k1_chk80 v268), ∀ a x, ((![v268] : Fin 1 → IVec S16 32) a x).toNat < S4096.size a := fun v268 k1_hw80 => k1_hw80.2

def k1_chk81 (v272 : IVec S16 32) : Prop :=
  (∀ a x, ((![v272] : Fin 1 → IVec S16 32) a x).toNat < S32768.size a)
theorem k1_idx103_inb : ∀ (v272 : IVec S16 32) (k1_hw81 : k1_chk81 v272), ∀ a x, ((![v272] : Fin 1 → IVec S16 32) a x).toNat < S32768.size a := fun v272 k1_hw81 => k1_hw81

def k1_chk82 (v292 : IVec S16 32) : Prop :=
  (∀ a x, ((![v292] : Fin 1 → IVec S16 32) a x).toNat < S32768.size a)
theorem k1_idx104_inb : ∀ (v292 : IVec S16 32) (k1_hw82 : k1_chk82 v292), ∀ a x, ((![v292] : Fin 1 → IVec S16 32) a x).toNat < S32768.size a := fun v292 k1_hw82 => k1_hw82
def k1_off59 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_227 : BitVec 32 := 16#32
  let v293 : BitVec 32 := Scalar.muli arg11 c16_i32_227
  let c16_i32_228 : BitVec 32 := 16#32
  let v294 : BitVec 32 := Scalar.muli v293 c16_i32_228
  let c96_i32 : BitVec 32 := 96#32
  let v295 : BitVec 32 := Scalar.addi v294 c96_i32
  let v296 : Index := Scalar.indexCast v295
  ![v296.toNat]

def k1_chk83 (v304 : IVec S16 32) : Prop :=
  (∀ a x, ((![v304] : Fin 1 → IVec S16 32) a x).toNat < S4096.size a) ∧
  (∀ a x, ((![v304] : Fin 1 → IVec S16 32) a x).toNat < S4096.size a)
theorem k1_idx105_inb : ∀ (v304 : IVec S16 32) (k1_hw83 : k1_chk83 v304), ∀ a x, ((![v304] : Fin 1 → IVec S16 32) a x).toNat < S4096.size a := fun v304 k1_hw83 => k1_hw83.1
theorem k1_idx106_inb : ∀ (v304 : IVec S16 32) (k1_hw83 : k1_chk83 v304), ∀ a x, ((![v304] : Fin 1 → IVec S16 32) a x).toNat < S4096.size a := fun v304 k1_hw83 => k1_hw83.2

def k1_chk84 (v308 : IVec S16 32) : Prop :=
  (∀ a x, ((![v308] : Fin 1 → IVec S16 32) a x).toNat < S32768.size a)
theorem k1_idx107_inb : ∀ (v308 : IVec S16 32) (k1_hw84 : k1_chk84 v308), ∀ a x, ((![v308] : Fin 1 → IVec S16 32) a x).toNat < S32768.size a := fun v308 k1_hw84 => k1_hw84

def k1_chk85 (v328 : IVec S16 32) : Prop :=
  (∀ a x, ((![v328] : Fin 1 → IVec S16 32) a x).toNat < S32768.size a)
theorem k1_idx108_inb : ∀ (v328 : IVec S16 32) (k1_hw85 : k1_chk85 v328), ∀ a x, ((![v328] : Fin 1 → IVec S16 32) a x).toNat < S32768.size a := fun v328 k1_hw85 => k1_hw85
def k1_off60 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_241 : BitVec 32 := 16#32
  let v329 : BitVec 32 := Scalar.muli arg11 c16_i32_241
  let c16_i32_242 : BitVec 32 := 16#32
  let v330 : BitVec 32 := Scalar.muli v329 c16_i32_242
  let c112_i32 : BitVec 32 := 112#32
  let v331 : BitVec 32 := Scalar.addi v330 c112_i32
  let v332 : Index := Scalar.indexCast v331
  ![v332.toNat]

def k1_chk86 (v340 : IVec S16 32) : Prop :=
  (∀ a x, ((![v340] : Fin 1 → IVec S16 32) a x).toNat < S4096.size a) ∧
  (∀ a x, ((![v340] : Fin 1 → IVec S16 32) a x).toNat < S4096.size a)
theorem k1_idx109_inb : ∀ (v340 : IVec S16 32) (k1_hw86 : k1_chk86 v340), ∀ a x, ((![v340] : Fin 1 → IVec S16 32) a x).toNat < S4096.size a := fun v340 k1_hw86 => k1_hw86.1
theorem k1_idx110_inb : ∀ (v340 : IVec S16 32) (k1_hw86 : k1_chk86 v340), ∀ a x, ((![v340] : Fin 1 → IVec S16 32) a x).toNat < S4096.size a := fun v340 k1_hw86 => k1_hw86.2

def k1_chk87 (v344 : IVec S16 32) : Prop :=
  (∀ a x, ((![v344] : Fin 1 → IVec S16 32) a x).toNat < S32768.size a)
theorem k1_idx111_inb : ∀ (v344 : IVec S16 32) (k1_hw87 : k1_chk87 v344), ∀ a x, ((![v344] : Fin 1 → IVec S16 32) a x).toNat < S32768.size a := fun v344 k1_hw87 => k1_hw87

def k1_chk88 (v364 : IVec S16 32) : Prop :=
  (∀ a x, ((![v364] : Fin 1 → IVec S16 32) a x).toNat < S32768.size a)
theorem k1_idx112_inb : ∀ (v364 : IVec S16 32) (k1_hw88 : k1_chk88 v364), ∀ a x, ((![v364] : Fin 1 → IVec S16 32) a x).toNat < S32768.size a := fun v364 k1_hw88 => k1_hw88
def k1_off61 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_255 : BitVec 32 := 16#32
  let v365 : BitVec 32 := Scalar.muli arg11 c16_i32_255
  let c16_i32_256 : BitVec 32 := 16#32
  let v366 : BitVec 32 := Scalar.muli v365 c16_i32_256
  let c128_i32_257 : BitVec 32 := 128#32
  let v367 : BitVec 32 := Scalar.addi v366 c128_i32_257
  let v368 : Index := Scalar.indexCast v367
  ![v368.toNat]

def k1_chk89 (v376 : IVec S16 32) : Prop :=
  (∀ a x, ((![v376] : Fin 1 → IVec S16 32) a x).toNat < S4096.size a) ∧
  (∀ a x, ((![v376] : Fin 1 → IVec S16 32) a x).toNat < S4096.size a)
theorem k1_idx113_inb : ∀ (v376 : IVec S16 32) (k1_hw89 : k1_chk89 v376), ∀ a x, ((![v376] : Fin 1 → IVec S16 32) a x).toNat < S4096.size a := fun v376 k1_hw89 => k1_hw89.1
theorem k1_idx114_inb : ∀ (v376 : IVec S16 32) (k1_hw89 : k1_chk89 v376), ∀ a x, ((![v376] : Fin 1 → IVec S16 32) a x).toNat < S4096.size a := fun v376 k1_hw89 => k1_hw89.2

def k1_chk90 (v380 : IVec S16 32) : Prop :=
  (∀ a x, ((![v380] : Fin 1 → IVec S16 32) a x).toNat < S32768.size a)
theorem k1_idx115_inb : ∀ (v380 : IVec S16 32) (k1_hw90 : k1_chk90 v380), ∀ a x, ((![v380] : Fin 1 → IVec S16 32) a x).toNat < S32768.size a := fun v380 k1_hw90 => k1_hw90

def k1_chk91 (v400 : IVec S16 32) : Prop :=
  (∀ a x, ((![v400] : Fin 1 → IVec S16 32) a x).toNat < S32768.size a)
theorem k1_idx116_inb : ∀ (v400 : IVec S16 32) (k1_hw91 : k1_chk91 v400), ∀ a x, ((![v400] : Fin 1 → IVec S16 32) a x).toNat < S32768.size a := fun v400 k1_hw91 => k1_hw91
def k1_off62 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_270 : BitVec 32 := 16#32
  let v401 : BitVec 32 := Scalar.muli arg11 c16_i32_270
  let c16_i32_271 : BitVec 32 := 16#32
  let v402 : BitVec 32 := Scalar.muli v401 c16_i32_271
  let c144_i32 : BitVec 32 := 144#32
  let v403 : BitVec 32 := Scalar.addi v402 c144_i32
  let v404 : Index := Scalar.indexCast v403
  ![v404.toNat]

def k1_chk92 (v412 : IVec S16 32) : Prop :=
  (∀ a x, ((![v412] : Fin 1 → IVec S16 32) a x).toNat < S4096.size a) ∧
  (∀ a x, ((![v412] : Fin 1 → IVec S16 32) a x).toNat < S4096.size a)
theorem k1_idx117_inb : ∀ (v412 : IVec S16 32) (k1_hw92 : k1_chk92 v412), ∀ a x, ((![v412] : Fin 1 → IVec S16 32) a x).toNat < S4096.size a := fun v412 k1_hw92 => k1_hw92.1
theorem k1_idx118_inb : ∀ (v412 : IVec S16 32) (k1_hw92 : k1_chk92 v412), ∀ a x, ((![v412] : Fin 1 → IVec S16 32) a x).toNat < S4096.size a := fun v412 k1_hw92 => k1_hw92.2

def k1_chk93 (v416 : IVec S16 32) : Prop :=
  (∀ a x, ((![v416] : Fin 1 → IVec S16 32) a x).toNat < S32768.size a)
theorem k1_idx119_inb : ∀ (v416 : IVec S16 32) (k1_hw93 : k1_chk93 v416), ∀ a x, ((![v416] : Fin 1 → IVec S16 32) a x).toNat < S32768.size a := fun v416 k1_hw93 => k1_hw93

def k1_chk94 (v436 : IVec S16 32) : Prop :=
  (∀ a x, ((![v436] : Fin 1 → IVec S16 32) a x).toNat < S32768.size a)
theorem k1_idx120_inb : ∀ (v436 : IVec S16 32) (k1_hw94 : k1_chk94 v436), ∀ a x, ((![v436] : Fin 1 → IVec S16 32) a x).toNat < S32768.size a := fun v436 k1_hw94 => k1_hw94
def k1_off63 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_284 : BitVec 32 := 16#32
  let v437 : BitVec 32 := Scalar.muli arg11 c16_i32_284
  let c16_i32_285 : BitVec 32 := 16#32
  let v438 : BitVec 32 := Scalar.muli v437 c16_i32_285
  let c160_i32 : BitVec 32 := 160#32
  let v439 : BitVec 32 := Scalar.addi v438 c160_i32
  let v440 : Index := Scalar.indexCast v439
  ![v440.toNat]

def k1_chk95 (v448 : IVec S16 32) : Prop :=
  (∀ a x, ((![v448] : Fin 1 → IVec S16 32) a x).toNat < S4096.size a) ∧
  (∀ a x, ((![v448] : Fin 1 → IVec S16 32) a x).toNat < S4096.size a)
theorem k1_idx121_inb : ∀ (v448 : IVec S16 32) (k1_hw95 : k1_chk95 v448), ∀ a x, ((![v448] : Fin 1 → IVec S16 32) a x).toNat < S4096.size a := fun v448 k1_hw95 => k1_hw95.1
theorem k1_idx122_inb : ∀ (v448 : IVec S16 32) (k1_hw95 : k1_chk95 v448), ∀ a x, ((![v448] : Fin 1 → IVec S16 32) a x).toNat < S4096.size a := fun v448 k1_hw95 => k1_hw95.2

def k1_chk96 (v452 : IVec S16 32) : Prop :=
  (∀ a x, ((![v452] : Fin 1 → IVec S16 32) a x).toNat < S32768.size a)
theorem k1_idx123_inb : ∀ (v452 : IVec S16 32) (k1_hw96 : k1_chk96 v452), ∀ a x, ((![v452] : Fin 1 → IVec S16 32) a x).toNat < S32768.size a := fun v452 k1_hw96 => k1_hw96

def k1_chk97 (v472 : IVec S16 32) : Prop :=
  (∀ a x, ((![v472] : Fin 1 → IVec S16 32) a x).toNat < S32768.size a)
theorem k1_idx124_inb : ∀ (v472 : IVec S16 32) (k1_hw97 : k1_chk97 v472), ∀ a x, ((![v472] : Fin 1 → IVec S16 32) a x).toNat < S32768.size a := fun v472 k1_hw97 => k1_hw97
def k1_off64 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_298 : BitVec 32 := 16#32
  let v473 : BitVec 32 := Scalar.muli arg11 c16_i32_298
  let c16_i32_299 : BitVec 32 := 16#32
  let v474 : BitVec 32 := Scalar.muli v473 c16_i32_299
  let c176_i32 : BitVec 32 := 176#32
  let v475 : BitVec 32 := Scalar.addi v474 c176_i32
  let v476 : Index := Scalar.indexCast v475
  ![v476.toNat]

def k1_chk98 (v484 : IVec S16 32) : Prop :=
  (∀ a x, ((![v484] : Fin 1 → IVec S16 32) a x).toNat < S4096.size a) ∧
  (∀ a x, ((![v484] : Fin 1 → IVec S16 32) a x).toNat < S4096.size a)
theorem k1_idx125_inb : ∀ (v484 : IVec S16 32) (k1_hw98 : k1_chk98 v484), ∀ a x, ((![v484] : Fin 1 → IVec S16 32) a x).toNat < S4096.size a := fun v484 k1_hw98 => k1_hw98.1
theorem k1_idx126_inb : ∀ (v484 : IVec S16 32) (k1_hw98 : k1_chk98 v484), ∀ a x, ((![v484] : Fin 1 → IVec S16 32) a x).toNat < S4096.size a := fun v484 k1_hw98 => k1_hw98.2

def k1_chk99 (v488 : IVec S16 32) : Prop :=
  (∀ a x, ((![v488] : Fin 1 → IVec S16 32) a x).toNat < S32768.size a)
theorem k1_idx127_inb : ∀ (v488 : IVec S16 32) (k1_hw99 : k1_chk99 v488), ∀ a x, ((![v488] : Fin 1 → IVec S16 32) a x).toNat < S32768.size a := fun v488 k1_hw99 => k1_hw99

def k1_chk100 (v508 : IVec S16 32) : Prop :=
  (∀ a x, ((![v508] : Fin 1 → IVec S16 32) a x).toNat < S32768.size a)
theorem k1_idx128_inb : ∀ (v508 : IVec S16 32) (k1_hw100 : k1_chk100 v508), ∀ a x, ((![v508] : Fin 1 → IVec S16 32) a x).toNat < S32768.size a := fun v508 k1_hw100 => k1_hw100
def k1_off65 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_312 : BitVec 32 := 16#32
  let v509 : BitVec 32 := Scalar.muli arg11 c16_i32_312
  let c16_i32_313 : BitVec 32 := 16#32
  let v510 : BitVec 32 := Scalar.muli v509 c16_i32_313
  let c192_i32 : BitVec 32 := 192#32
  let v511 : BitVec 32 := Scalar.addi v510 c192_i32
  let v512 : Index := Scalar.indexCast v511
  ![v512.toNat]

def k1_chk101 (v520 : IVec S16 32) : Prop :=
  (∀ a x, ((![v520] : Fin 1 → IVec S16 32) a x).toNat < S4096.size a) ∧
  (∀ a x, ((![v520] : Fin 1 → IVec S16 32) a x).toNat < S4096.size a)
theorem k1_idx129_inb : ∀ (v520 : IVec S16 32) (k1_hw101 : k1_chk101 v520), ∀ a x, ((![v520] : Fin 1 → IVec S16 32) a x).toNat < S4096.size a := fun v520 k1_hw101 => k1_hw101.1
theorem k1_idx130_inb : ∀ (v520 : IVec S16 32) (k1_hw101 : k1_chk101 v520), ∀ a x, ((![v520] : Fin 1 → IVec S16 32) a x).toNat < S4096.size a := fun v520 k1_hw101 => k1_hw101.2

def k1_chk102 (v524 : IVec S16 32) : Prop :=
  (∀ a x, ((![v524] : Fin 1 → IVec S16 32) a x).toNat < S32768.size a)
theorem k1_idx131_inb : ∀ (v524 : IVec S16 32) (k1_hw102 : k1_chk102 v524), ∀ a x, ((![v524] : Fin 1 → IVec S16 32) a x).toNat < S32768.size a := fun v524 k1_hw102 => k1_hw102

def k1_chk103 (v544 : IVec S16 32) : Prop :=
  (∀ a x, ((![v544] : Fin 1 → IVec S16 32) a x).toNat < S32768.size a)
theorem k1_idx132_inb : ∀ (v544 : IVec S16 32) (k1_hw103 : k1_chk103 v544), ∀ a x, ((![v544] : Fin 1 → IVec S16 32) a x).toNat < S32768.size a := fun v544 k1_hw103 => k1_hw103
def k1_off66 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_326 : BitVec 32 := 16#32
  let v545 : BitVec 32 := Scalar.muli arg11 c16_i32_326
  let c16_i32_327 : BitVec 32 := 16#32
  let v546 : BitVec 32 := Scalar.muli v545 c16_i32_327
  let c208_i32 : BitVec 32 := 208#32
  let v547 : BitVec 32 := Scalar.addi v546 c208_i32
  let v548 : Index := Scalar.indexCast v547
  ![v548.toNat]

def k1_chk104 (v556 : IVec S16 32) : Prop :=
  (∀ a x, ((![v556] : Fin 1 → IVec S16 32) a x).toNat < S4096.size a) ∧
  (∀ a x, ((![v556] : Fin 1 → IVec S16 32) a x).toNat < S4096.size a)
theorem k1_idx133_inb : ∀ (v556 : IVec S16 32) (k1_hw104 : k1_chk104 v556), ∀ a x, ((![v556] : Fin 1 → IVec S16 32) a x).toNat < S4096.size a := fun v556 k1_hw104 => k1_hw104.1
theorem k1_idx134_inb : ∀ (v556 : IVec S16 32) (k1_hw104 : k1_chk104 v556), ∀ a x, ((![v556] : Fin 1 → IVec S16 32) a x).toNat < S4096.size a := fun v556 k1_hw104 => k1_hw104.2

def k1_chk105 (v560 : IVec S16 32) : Prop :=
  (∀ a x, ((![v560] : Fin 1 → IVec S16 32) a x).toNat < S32768.size a)
theorem k1_idx135_inb : ∀ (v560 : IVec S16 32) (k1_hw105 : k1_chk105 v560), ∀ a x, ((![v560] : Fin 1 → IVec S16 32) a x).toNat < S32768.size a := fun v560 k1_hw105 => k1_hw105

def k1_chk106 (v580 : IVec S16 32) : Prop :=
  (∀ a x, ((![v580] : Fin 1 → IVec S16 32) a x).toNat < S32768.size a)
theorem k1_idx136_inb : ∀ (v580 : IVec S16 32) (k1_hw106 : k1_chk106 v580), ∀ a x, ((![v580] : Fin 1 → IVec S16 32) a x).toNat < S32768.size a := fun v580 k1_hw106 => k1_hw106
def k1_off67 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_340 : BitVec 32 := 16#32
  let v581 : BitVec 32 := Scalar.muli arg11 c16_i32_340
  let c16_i32_341 : BitVec 32 := 16#32
  let v582 : BitVec 32 := Scalar.muli v581 c16_i32_341
  let c224_i32 : BitVec 32 := 224#32
  let v583 : BitVec 32 := Scalar.addi v582 c224_i32
  let v584 : Index := Scalar.indexCast v583
  ![v584.toNat]

def k1_chk107 (v592 : IVec S16 32) : Prop :=
  (∀ a x, ((![v592] : Fin 1 → IVec S16 32) a x).toNat < S4096.size a) ∧
  (∀ a x, ((![v592] : Fin 1 → IVec S16 32) a x).toNat < S4096.size a)
theorem k1_idx137_inb : ∀ (v592 : IVec S16 32) (k1_hw107 : k1_chk107 v592), ∀ a x, ((![v592] : Fin 1 → IVec S16 32) a x).toNat < S4096.size a := fun v592 k1_hw107 => k1_hw107.1
theorem k1_idx138_inb : ∀ (v592 : IVec S16 32) (k1_hw107 : k1_chk107 v592), ∀ a x, ((![v592] : Fin 1 → IVec S16 32) a x).toNat < S4096.size a := fun v592 k1_hw107 => k1_hw107.2

def k1_chk108 (v596 : IVec S16 32) : Prop :=
  (∀ a x, ((![v596] : Fin 1 → IVec S16 32) a x).toNat < S32768.size a)
theorem k1_idx139_inb : ∀ (v596 : IVec S16 32) (k1_hw108 : k1_chk108 v596), ∀ a x, ((![v596] : Fin 1 → IVec S16 32) a x).toNat < S32768.size a := fun v596 k1_hw108 => k1_hw108

def k1_chk109 (v616 : IVec S16 32) : Prop :=
  (∀ a x, ((![v616] : Fin 1 → IVec S16 32) a x).toNat < S32768.size a)
theorem k1_idx140_inb : ∀ (v616 : IVec S16 32) (k1_hw109 : k1_chk109 v616), ∀ a x, ((![v616] : Fin 1 → IVec S16 32) a x).toNat < S32768.size a := fun v616 k1_hw109 => k1_hw109
def k1_off68 (k1_t7 : Fin k1_t7_loop.trips) : Fin 1 → Nat :=
  let c0_i32_35 : BitVec 32 := 0#32
  let c1_i32_37 : BitVec 32 := 1#32
  let arg11 : BitVec 32 := Scf.iv c0_i32_35 c1_i32_37 k1_t7
  let c16_i32_354 : BitVec 32 := 16#32
  let v617 : BitVec 32 := Scalar.muli arg11 c16_i32_354
  let c16_i32_355 : BitVec 32 := 16#32
  let v618 : BitVec 32 := Scalar.muli v617 c16_i32_355
  let c240_i32 : BitVec 32 := 240#32
  let v619 : BitVec 32 := Scalar.addi v618 c240_i32
  let v620 : Index := Scalar.indexCast v619
  ![v620.toNat]

def k1_chk110 (v628 : IVec S16 32) : Prop :=
  (∀ a x, ((![v628] : Fin 1 → IVec S16 32) a x).toNat < S4096.size a) ∧
  (∀ a x, ((![v628] : Fin 1 → IVec S16 32) a x).toNat < S4096.size a)
theorem k1_idx141_inb : ∀ (v628 : IVec S16 32) (k1_hw110 : k1_chk110 v628), ∀ a x, ((![v628] : Fin 1 → IVec S16 32) a x).toNat < S4096.size a := fun v628 k1_hw110 => k1_hw110.1
theorem k1_idx142_inb : ∀ (v628 : IVec S16 32) (k1_hw110 : k1_chk110 v628), ∀ a x, ((![v628] : Fin 1 → IVec S16 32) a x).toNat < S4096.size a := fun v628 k1_hw110 => k1_hw110.2

def k1_chk111 (v632 : IVec S16 32) : Prop :=
  (∀ a x, ((![v632] : Fin 1 → IVec S16 32) a x).toNat < S32768.size a)
theorem k1_idx143_inb : ∀ (v632 : IVec S16 32) (k1_hw111 : k1_chk111 v632), ∀ a x, ((![v632] : Fin 1 → IVec S16 32) a x).toNat < S32768.size a := fun v632 k1_hw111 => k1_hw111

def k1_chk112 (v652 : IVec S16 32) : Prop :=
  (∀ a x, ((![v652] : Fin 1 → IVec S16 32) a x).toNat < S32768.size a)
theorem k1_idx144_inb : ∀ (v652 : IVec S16 32) (k1_hw112 : k1_chk112 v652), ∀ a x, ((![v652] : Fin 1 → IVec S16 32) a x).toNat < S32768.size a := fun v652 k1_hw112 => k1_hw112
def k1_off69 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v11 : BitVec 32 := Scalar.muli v1 c2_i32_7
  let c0_i32_8 : BitVec 32 := 0#32
  let v12 : BitVec 32 := Scalar.addi v11 c0_i32_8
  let c1_i32_39 : BitVec 32 := 1#32
  let v25 : BitVec 32 := Scalar.addi v12 c1_i32_39
  let c0_i32_40 : BitVec 32 := 0#32
  ![v25.toNat, 0]
@[reducible] def k1_t8_loop : Scf.Loop 32 :=
  let c0_i32_43 : BitVec 32 := 0#32
  let c128_i32_44 : BitVec 32 := 128#32
  let v30 : BitVec 32 := Scalar.addi c0_i32_43 c128_i32_44
  let c1_i32_45 : BitVec 32 := 1#32
  ⟨c0_i32_43, v30, c1_i32_45⟩
def k1_off70 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk113 (v88 : IVec S16 32) : Prop :=
  (∀ a x, ((![v88] : Fin 1 → IVec S16 32) a x).toNat < S4096.size a)
theorem k1_idx145_inb : ∀ (v88 : IVec S16 32) (k1_hw113 : k1_chk113 v88), ∀ a x, ((![v88] : Fin 1 → IVec S16 32) a x).toNat < S4096.size a := fun v88 k1_hw113 => k1_hw113
def k1_off71 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_152 : BitVec 32 := 16#32
  let v89 : BitVec 32 := Scalar.muli arg11 c16_i32_152
  let c16_i32_153 : BitVec 32 := 16#32
  let v90 : BitVec 32 := Scalar.muli v89 c16_i32_153
  let c16_i32_154 : BitVec 32 := 16#32
  let v91 : BitVec 32 := Scalar.addi v90 c16_i32_154
  let v92 : Index := Scalar.indexCast v91
  ![v92.toNat]

def k1_chk114 (v100 : IVec S16 32) : Prop :=
  (∀ a x, ((![v100] : Fin 1 → IVec S16 32) a x).toNat < S4096.size a)
theorem k1_idx146_inb : ∀ (v100 : IVec S16 32) (k1_hw114 : k1_chk114 v100), ∀ a x, ((![v100] : Fin 1 → IVec S16 32) a x).toNat < S4096.size a := fun v100 k1_hw114 => k1_hw114
def k1_off72 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_158 : BitVec 32 := 16#32
  let v101 : BitVec 32 := Scalar.muli arg11 c16_i32_158
  let c16_i32_159 : BitVec 32 := 16#32
  let v102 : BitVec 32 := Scalar.muli v101 c16_i32_159
  let c32_i32 : BitVec 32 := 32#32
  let v103 : BitVec 32 := Scalar.addi v102 c32_i32
  let v104 : Index := Scalar.indexCast v103
  ![v104.toNat]

def k1_chk115 (v112 : IVec S16 32) : Prop :=
  (∀ a x, ((![v112] : Fin 1 → IVec S16 32) a x).toNat < S4096.size a)
theorem k1_idx147_inb : ∀ (v112 : IVec S16 32) (k1_hw115 : k1_chk115 v112), ∀ a x, ((![v112] : Fin 1 → IVec S16 32) a x).toNat < S4096.size a := fun v112 k1_hw115 => k1_hw115
def k1_off73 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_163 : BitVec 32 := 16#32
  let v113 : BitVec 32 := Scalar.muli arg11 c16_i32_163
  let c16_i32_164 : BitVec 32 := 16#32
  let v114 : BitVec 32 := Scalar.muli v113 c16_i32_164
  let c48_i32 : BitVec 32 := 48#32
  let v115 : BitVec 32 := Scalar.addi v114 c48_i32
  let v116 : Index := Scalar.indexCast v115
  ![v116.toNat]

def k1_chk116 (v124 : IVec S16 32) : Prop :=
  (∀ a x, ((![v124] : Fin 1 → IVec S16 32) a x).toNat < S4096.size a)
theorem k1_idx148_inb : ∀ (v124 : IVec S16 32) (k1_hw116 : k1_chk116 v124), ∀ a x, ((![v124] : Fin 1 → IVec S16 32) a x).toNat < S4096.size a := fun v124 k1_hw116 => k1_hw116
def k1_off74 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_168 : BitVec 32 := 16#32
  let v125 : BitVec 32 := Scalar.muli arg11 c16_i32_168
  let c16_i32_169 : BitVec 32 := 16#32
  let v126 : BitVec 32 := Scalar.muli v125 c16_i32_169
  let c64_i32 : BitVec 32 := 64#32
  let v127 : BitVec 32 := Scalar.addi v126 c64_i32
  let v128 : Index := Scalar.indexCast v127
  ![v128.toNat]

def k1_chk117 (v136 : IVec S16 32) : Prop :=
  (∀ a x, ((![v136] : Fin 1 → IVec S16 32) a x).toNat < S4096.size a)
theorem k1_idx149_inb : ∀ (v136 : IVec S16 32) (k1_hw117 : k1_chk117 v136), ∀ a x, ((![v136] : Fin 1 → IVec S16 32) a x).toNat < S4096.size a := fun v136 k1_hw117 => k1_hw117
def k1_off75 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_173 : BitVec 32 := 16#32
  let v137 : BitVec 32 := Scalar.muli arg11 c16_i32_173
  let c16_i32_174 : BitVec 32 := 16#32
  let v138 : BitVec 32 := Scalar.muli v137 c16_i32_174
  let c80_i32 : BitVec 32 := 80#32
  let v139 : BitVec 32 := Scalar.addi v138 c80_i32
  let v140 : Index := Scalar.indexCast v139
  ![v140.toNat]

def k1_chk118 (v148 : IVec S16 32) : Prop :=
  (∀ a x, ((![v148] : Fin 1 → IVec S16 32) a x).toNat < S4096.size a)
theorem k1_idx150_inb : ∀ (v148 : IVec S16 32) (k1_hw118 : k1_chk118 v148), ∀ a x, ((![v148] : Fin 1 → IVec S16 32) a x).toNat < S4096.size a := fun v148 k1_hw118 => k1_hw118
def k1_off76 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_178 : BitVec 32 := 16#32
  let v149 : BitVec 32 := Scalar.muli arg11 c16_i32_178
  let c16_i32_179 : BitVec 32 := 16#32
  let v150 : BitVec 32 := Scalar.muli v149 c16_i32_179
  let c96_i32 : BitVec 32 := 96#32
  let v151 : BitVec 32 := Scalar.addi v150 c96_i32
  let v152 : Index := Scalar.indexCast v151
  ![v152.toNat]

def k1_chk119 (v160 : IVec S16 32) : Prop :=
  (∀ a x, ((![v160] : Fin 1 → IVec S16 32) a x).toNat < S4096.size a)
theorem k1_idx151_inb : ∀ (v160 : IVec S16 32) (k1_hw119 : k1_chk119 v160), ∀ a x, ((![v160] : Fin 1 → IVec S16 32) a x).toNat < S4096.size a := fun v160 k1_hw119 => k1_hw119
def k1_off77 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_183 : BitVec 32 := 16#32
  let v161 : BitVec 32 := Scalar.muli arg11 c16_i32_183
  let c16_i32_184 : BitVec 32 := 16#32
  let v162 : BitVec 32 := Scalar.muli v161 c16_i32_184
  let c112_i32 : BitVec 32 := 112#32
  let v163 : BitVec 32 := Scalar.addi v162 c112_i32
  let v164 : Index := Scalar.indexCast v163
  ![v164.toNat]

def k1_chk120 (v172 : IVec S16 32) : Prop :=
  (∀ a x, ((![v172] : Fin 1 → IVec S16 32) a x).toNat < S4096.size a)
theorem k1_idx152_inb : ∀ (v172 : IVec S16 32) (k1_hw120 : k1_chk120 v172), ∀ a x, ((![v172] : Fin 1 → IVec S16 32) a x).toNat < S4096.size a := fun v172 k1_hw120 => k1_hw120
def k1_off78 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_188 : BitVec 32 := 16#32
  let v173 : BitVec 32 := Scalar.muli arg11 c16_i32_188
  let c16_i32_189 : BitVec 32 := 16#32
  let v174 : BitVec 32 := Scalar.muli v173 c16_i32_189
  let c128_i32_190 : BitVec 32 := 128#32
  let v175 : BitVec 32 := Scalar.addi v174 c128_i32_190
  let v176 : Index := Scalar.indexCast v175
  ![v176.toNat]

def k1_chk121 (v184 : IVec S16 32) : Prop :=
  (∀ a x, ((![v184] : Fin 1 → IVec S16 32) a x).toNat < S4096.size a)
theorem k1_idx153_inb : ∀ (v184 : IVec S16 32) (k1_hw121 : k1_chk121 v184), ∀ a x, ((![v184] : Fin 1 → IVec S16 32) a x).toNat < S4096.size a := fun v184 k1_hw121 => k1_hw121
def k1_off79 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_194 : BitVec 32 := 16#32
  let v185 : BitVec 32 := Scalar.muli arg11 c16_i32_194
  let c16_i32_195 : BitVec 32 := 16#32
  let v186 : BitVec 32 := Scalar.muli v185 c16_i32_195
  let c144_i32 : BitVec 32 := 144#32
  let v187 : BitVec 32 := Scalar.addi v186 c144_i32
  let v188 : Index := Scalar.indexCast v187
  ![v188.toNat]

def k1_chk122 (v196 : IVec S16 32) : Prop :=
  (∀ a x, ((![v196] : Fin 1 → IVec S16 32) a x).toNat < S4096.size a)
theorem k1_idx154_inb : ∀ (v196 : IVec S16 32) (k1_hw122 : k1_chk122 v196), ∀ a x, ((![v196] : Fin 1 → IVec S16 32) a x).toNat < S4096.size a := fun v196 k1_hw122 => k1_hw122
def k1_off80 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_199 : BitVec 32 := 16#32
  let v197 : BitVec 32 := Scalar.muli arg11 c16_i32_199
  let c16_i32_200 : BitVec 32 := 16#32
  let v198 : BitVec 32 := Scalar.muli v197 c16_i32_200
  let c160_i32 : BitVec 32 := 160#32
  let v199 : BitVec 32 := Scalar.addi v198 c160_i32
  let v200 : Index := Scalar.indexCast v199
  ![v200.toNat]

def k1_chk123 (v208 : IVec S16 32) : Prop :=
  (∀ a x, ((![v208] : Fin 1 → IVec S16 32) a x).toNat < S4096.size a)
theorem k1_idx155_inb : ∀ (v208 : IVec S16 32) (k1_hw123 : k1_chk123 v208), ∀ a x, ((![v208] : Fin 1 → IVec S16 32) a x).toNat < S4096.size a := fun v208 k1_hw123 => k1_hw123
def k1_off81 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_204 : BitVec 32 := 16#32
  let v209 : BitVec 32 := Scalar.muli arg11 c16_i32_204
  let c16_i32_205 : BitVec 32 := 16#32
  let v210 : BitVec 32 := Scalar.muli v209 c16_i32_205
  let c176_i32 : BitVec 32 := 176#32
  let v211 : BitVec 32 := Scalar.addi v210 c176_i32
  let v212 : Index := Scalar.indexCast v211
  ![v212.toNat]

def k1_chk124 (v220 : IVec S16 32) : Prop :=
  (∀ a x, ((![v220] : Fin 1 → IVec S16 32) a x).toNat < S4096.size a)
theorem k1_idx156_inb : ∀ (v220 : IVec S16 32) (k1_hw124 : k1_chk124 v220), ∀ a x, ((![v220] : Fin 1 → IVec S16 32) a x).toNat < S4096.size a := fun v220 k1_hw124 => k1_hw124
def k1_off82 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_209 : BitVec 32 := 16#32
  let v221 : BitVec 32 := Scalar.muli arg11 c16_i32_209
  let c16_i32_210 : BitVec 32 := 16#32
  let v222 : BitVec 32 := Scalar.muli v221 c16_i32_210
  let c192_i32 : BitVec 32 := 192#32
  let v223 : BitVec 32 := Scalar.addi v222 c192_i32
  let v224 : Index := Scalar.indexCast v223
  ![v224.toNat]

def k1_chk125 (v232 : IVec S16 32) : Prop :=
  (∀ a x, ((![v232] : Fin 1 → IVec S16 32) a x).toNat < S4096.size a)
theorem k1_idx157_inb : ∀ (v232 : IVec S16 32) (k1_hw125 : k1_chk125 v232), ∀ a x, ((![v232] : Fin 1 → IVec S16 32) a x).toNat < S4096.size a := fun v232 k1_hw125 => k1_hw125
def k1_off83 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_214 : BitVec 32 := 16#32
  let v233 : BitVec 32 := Scalar.muli arg11 c16_i32_214
  let c16_i32_215 : BitVec 32 := 16#32
  let v234 : BitVec 32 := Scalar.muli v233 c16_i32_215
  let c208_i32 : BitVec 32 := 208#32
  let v235 : BitVec 32 := Scalar.addi v234 c208_i32
  let v236 : Index := Scalar.indexCast v235
  ![v236.toNat]

def k1_chk126 (v244 : IVec S16 32) : Prop :=
  (∀ a x, ((![v244] : Fin 1 → IVec S16 32) a x).toNat < S4096.size a)
theorem k1_idx158_inb : ∀ (v244 : IVec S16 32) (k1_hw126 : k1_chk126 v244), ∀ a x, ((![v244] : Fin 1 → IVec S16 32) a x).toNat < S4096.size a := fun v244 k1_hw126 => k1_hw126
def k1_off84 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_219 : BitVec 32 := 16#32
  let v245 : BitVec 32 := Scalar.muli arg11 c16_i32_219
  let c16_i32_220 : BitVec 32 := 16#32
  let v246 : BitVec 32 := Scalar.muli v245 c16_i32_220
  let c224_i32 : BitVec 32 := 224#32
  let v247 : BitVec 32 := Scalar.addi v246 c224_i32
  let v248 : Index := Scalar.indexCast v247
  ![v248.toNat]

def k1_chk127 (v256 : IVec S16 32) : Prop :=
  (∀ a x, ((![v256] : Fin 1 → IVec S16 32) a x).toNat < S4096.size a)
theorem k1_idx159_inb : ∀ (v256 : IVec S16 32) (k1_hw127 : k1_chk127 v256), ∀ a x, ((![v256] : Fin 1 → IVec S16 32) a x).toNat < S4096.size a := fun v256 k1_hw127 => k1_hw127
def k1_off85 (k1_t8 : Fin k1_t8_loop.trips) : Fin 1 → Nat :=
  let c0_i32_43 : BitVec 32 := 0#32
  let c1_i32_45 : BitVec 32 := 1#32
  let arg11 : BitVec 32 := Scf.iv c0_i32_43 c1_i32_45 k1_t8
  let c16_i32_224 : BitVec 32 := 16#32
  let v257 : BitVec 32 := Scalar.muli arg11 c16_i32_224
  let c16_i32_225 : BitVec 32 := 16#32
  let v258 : BitVec 32 := Scalar.muli v257 c16_i32_225
  let c240_i32 : BitVec 32 := 240#32
  let v259 : BitVec 32 := Scalar.addi v258 c240_i32
  let v260 : Index := Scalar.indexCast v259
  ![v260.toNat]

def k1_chk128 (v268 : IVec S16 32) : Prop :=
  (∀ a x, ((![v268] : Fin 1 → IVec S16 32) a x).toNat < S4096.size a)
theorem k1_idx160_inb : ∀ (v268 : IVec S16 32) (k1_hw128 : k1_chk128 v268), ∀ a x, ((![v268] : Fin 1 → IVec S16 32) a x).toNat < S4096.size a := fun v268 k1_hw128 => k1_hw128
@[reducible] def k1_t9_loop : Scf.Loop 32 :=
  let c0_i32_48 : BitVec 32 := 0#32
  let c256_i32_49 : BitVec 32 := 256#32
  let v31 : BitVec 32 := Scalar.addi c0_i32_48 c256_i32_49
  let c1_i32_50 : BitVec 32 := 1#32
  ⟨c0_i32_48, v31, c1_i32_50⟩
def k1_off86 (k1_t9 : Fin k1_t9_loop.trips) : Fin 1 → Nat :=
  let c0_i32_48 : BitVec 32 := 0#32
  let c1_i32_50 : BitVec 32 := 1#32
  let arg11 : BitVec 32 := Scf.iv c0_i32_48 c1_i32_50 k1_t9
  let c16_i32_149 : BitVec 32 := 16#32
  let v77 : BitVec 32 := Scalar.muli arg11 c16_i32_149
  let v78 : Index := Scalar.indexCast v77
  ![v78.toNat]
@[reducible] def k1_t10_loop : Scf.Loop 32 :=
  let c0_i32_53 : BitVec 32 := 0#32
  let c128_i32_54 : BitVec 32 := 128#32
  let v33 : BitVec 32 := Scalar.addi c0_i32_53 c128_i32_54
  let c1_i32_55 : BitVec 32 := 1#32
  ⟨c0_i32_53, v33, c1_i32_55⟩
def k1_off87 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk129 (v88 : IVec S16 32) : Prop :=
  (∀ a x, ((![v88] : Fin 1 → IVec S16 32) a x).toNat < S4096.size a) ∧
  (∀ a x, ((![v88] : Fin 1 → IVec S16 32) a x).toNat < S4096.size a)
theorem k1_idx161_inb : ∀ (v88 : IVec S16 32) (k1_hw129 : k1_chk129 v88), ∀ a x, ((![v88] : Fin 1 → IVec S16 32) a x).toNat < S4096.size a := fun v88 k1_hw129 => k1_hw129.1
theorem k1_idx162_inb : ∀ (v88 : IVec S16 32) (k1_hw129 : k1_chk129 v88), ∀ a x, ((![v88] : Fin 1 → IVec S16 32) a x).toNat < S4096.size a := fun v88 k1_hw129 => k1_hw129.2

def k1_chk130 (v104 : IVec S16 32) : Prop :=
  (∀ a x, ((![v104] : Fin 1 → IVec S16 32) a x).toNat < S32768.size a)
theorem k1_idx163_inb : ∀ (v104 : IVec S16 32) (k1_hw130 : k1_chk130 v104), ∀ a x, ((![v104] : Fin 1 → IVec S16 32) a x).toNat < S32768.size a := fun v104 k1_hw130 => k1_hw130
def k1_off88 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_154 : BitVec 32 := 16#32
  let v105 : BitVec 32 := Scalar.muli arg11 c16_i32_154
  let c16_i32_155 : BitVec 32 := 16#32
  let v106 : BitVec 32 := Scalar.muli v105 c16_i32_155
  let c16_i32_156 : BitVec 32 := 16#32
  let v107 : BitVec 32 := Scalar.addi v106 c16_i32_156
  let v108 : Index := Scalar.indexCast v107
  ![v108.toNat]

def k1_chk131 (v116 : IVec S16 32) : Prop :=
  (∀ a x, ((![v116] : Fin 1 → IVec S16 32) a x).toNat < S4096.size a) ∧
  (∀ a x, ((![v116] : Fin 1 → IVec S16 32) a x).toNat < S4096.size a)
theorem k1_idx164_inb : ∀ (v116 : IVec S16 32) (k1_hw131 : k1_chk131 v116), ∀ a x, ((![v116] : Fin 1 → IVec S16 32) a x).toNat < S4096.size a := fun v116 k1_hw131 => k1_hw131.1
theorem k1_idx165_inb : ∀ (v116 : IVec S16 32) (k1_hw131 : k1_chk131 v116), ∀ a x, ((![v116] : Fin 1 → IVec S16 32) a x).toNat < S4096.size a := fun v116 k1_hw131 => k1_hw131.2

def k1_chk132 (v132 : IVec S16 32) : Prop :=
  (∀ a x, ((![v132] : Fin 1 → IVec S16 32) a x).toNat < S32768.size a)
theorem k1_idx166_inb : ∀ (v132 : IVec S16 32) (k1_hw132 : k1_chk132 v132), ∀ a x, ((![v132] : Fin 1 → IVec S16 32) a x).toNat < S32768.size a := fun v132 k1_hw132 => k1_hw132
def k1_off89 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_166 : BitVec 32 := 16#32
  let v133 : BitVec 32 := Scalar.muli arg11 c16_i32_166
  let c16_i32_167 : BitVec 32 := 16#32
  let v134 : BitVec 32 := Scalar.muli v133 c16_i32_167
  let c32_i32 : BitVec 32 := 32#32
  let v135 : BitVec 32 := Scalar.addi v134 c32_i32
  let v136 : Index := Scalar.indexCast v135
  ![v136.toNat]

def k1_chk133 (v144 : IVec S16 32) : Prop :=
  (∀ a x, ((![v144] : Fin 1 → IVec S16 32) a x).toNat < S4096.size a) ∧
  (∀ a x, ((![v144] : Fin 1 → IVec S16 32) a x).toNat < S4096.size a)
theorem k1_idx167_inb : ∀ (v144 : IVec S16 32) (k1_hw133 : k1_chk133 v144), ∀ a x, ((![v144] : Fin 1 → IVec S16 32) a x).toNat < S4096.size a := fun v144 k1_hw133 => k1_hw133.1
theorem k1_idx168_inb : ∀ (v144 : IVec S16 32) (k1_hw133 : k1_chk133 v144), ∀ a x, ((![v144] : Fin 1 → IVec S16 32) a x).toNat < S4096.size a := fun v144 k1_hw133 => k1_hw133.2

def k1_chk134 (v160 : IVec S16 32) : Prop :=
  (∀ a x, ((![v160] : Fin 1 → IVec S16 32) a x).toNat < S32768.size a)
theorem k1_idx169_inb : ∀ (v160 : IVec S16 32) (k1_hw134 : k1_chk134 v160), ∀ a x, ((![v160] : Fin 1 → IVec S16 32) a x).toNat < S32768.size a := fun v160 k1_hw134 => k1_hw134
def k1_off90 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_177 : BitVec 32 := 16#32
  let v161 : BitVec 32 := Scalar.muli arg11 c16_i32_177
  let c16_i32_178 : BitVec 32 := 16#32
  let v162 : BitVec 32 := Scalar.muli v161 c16_i32_178
  let c48_i32 : BitVec 32 := 48#32
  let v163 : BitVec 32 := Scalar.addi v162 c48_i32
  let v164 : Index := Scalar.indexCast v163
  ![v164.toNat]

def k1_chk135 (v172 : IVec S16 32) : Prop :=
  (∀ a x, ((![v172] : Fin 1 → IVec S16 32) a x).toNat < S4096.size a) ∧
  (∀ a x, ((![v172] : Fin 1 → IVec S16 32) a x).toNat < S4096.size a)
theorem k1_idx170_inb : ∀ (v172 : IVec S16 32) (k1_hw135 : k1_chk135 v172), ∀ a x, ((![v172] : Fin 1 → IVec S16 32) a x).toNat < S4096.size a := fun v172 k1_hw135 => k1_hw135.1
theorem k1_idx171_inb : ∀ (v172 : IVec S16 32) (k1_hw135 : k1_chk135 v172), ∀ a x, ((![v172] : Fin 1 → IVec S16 32) a x).toNat < S4096.size a := fun v172 k1_hw135 => k1_hw135.2

def k1_chk136 (v188 : IVec S16 32) : Prop :=
  (∀ a x, ((![v188] : Fin 1 → IVec S16 32) a x).toNat < S32768.size a)
theorem k1_idx172_inb : ∀ (v188 : IVec S16 32) (k1_hw136 : k1_chk136 v188), ∀ a x, ((![v188] : Fin 1 → IVec S16 32) a x).toNat < S32768.size a := fun v188 k1_hw136 => k1_hw136
def k1_off91 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_188 : BitVec 32 := 16#32
  let v189 : BitVec 32 := Scalar.muli arg11 c16_i32_188
  let c16_i32_189 : BitVec 32 := 16#32
  let v190 : BitVec 32 := Scalar.muli v189 c16_i32_189
  let c64_i32 : BitVec 32 := 64#32
  let v191 : BitVec 32 := Scalar.addi v190 c64_i32
  let v192 : Index := Scalar.indexCast v191
  ![v192.toNat]

def k1_chk137 (v200 : IVec S16 32) : Prop :=
  (∀ a x, ((![v200] : Fin 1 → IVec S16 32) a x).toNat < S4096.size a) ∧
  (∀ a x, ((![v200] : Fin 1 → IVec S16 32) a x).toNat < S4096.size a)
theorem k1_idx173_inb : ∀ (v200 : IVec S16 32) (k1_hw137 : k1_chk137 v200), ∀ a x, ((![v200] : Fin 1 → IVec S16 32) a x).toNat < S4096.size a := fun v200 k1_hw137 => k1_hw137.1
theorem k1_idx174_inb : ∀ (v200 : IVec S16 32) (k1_hw137 : k1_chk137 v200), ∀ a x, ((![v200] : Fin 1 → IVec S16 32) a x).toNat < S4096.size a := fun v200 k1_hw137 => k1_hw137.2

def k1_chk138 (v216 : IVec S16 32) : Prop :=
  (∀ a x, ((![v216] : Fin 1 → IVec S16 32) a x).toNat < S32768.size a)
theorem k1_idx175_inb : ∀ (v216 : IVec S16 32) (k1_hw138 : k1_chk138 v216), ∀ a x, ((![v216] : Fin 1 → IVec S16 32) a x).toNat < S32768.size a := fun v216 k1_hw138 => k1_hw138
def k1_off92 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_199 : BitVec 32 := 16#32
  let v217 : BitVec 32 := Scalar.muli arg11 c16_i32_199
  let c16_i32_200 : BitVec 32 := 16#32
  let v218 : BitVec 32 := Scalar.muli v217 c16_i32_200
  let c80_i32 : BitVec 32 := 80#32
  let v219 : BitVec 32 := Scalar.addi v218 c80_i32
  let v220 : Index := Scalar.indexCast v219
  ![v220.toNat]

def k1_chk139 (v228 : IVec S16 32) : Prop :=
  (∀ a x, ((![v228] : Fin 1 → IVec S16 32) a x).toNat < S4096.size a) ∧
  (∀ a x, ((![v228] : Fin 1 → IVec S16 32) a x).toNat < S4096.size a)
theorem k1_idx176_inb : ∀ (v228 : IVec S16 32) (k1_hw139 : k1_chk139 v228), ∀ a x, ((![v228] : Fin 1 → IVec S16 32) a x).toNat < S4096.size a := fun v228 k1_hw139 => k1_hw139.1
theorem k1_idx177_inb : ∀ (v228 : IVec S16 32) (k1_hw139 : k1_chk139 v228), ∀ a x, ((![v228] : Fin 1 → IVec S16 32) a x).toNat < S4096.size a := fun v228 k1_hw139 => k1_hw139.2

def k1_chk140 (v244 : IVec S16 32) : Prop :=
  (∀ a x, ((![v244] : Fin 1 → IVec S16 32) a x).toNat < S32768.size a)
theorem k1_idx178_inb : ∀ (v244 : IVec S16 32) (k1_hw140 : k1_chk140 v244), ∀ a x, ((![v244] : Fin 1 → IVec S16 32) a x).toNat < S32768.size a := fun v244 k1_hw140 => k1_hw140
def k1_off93 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_210 : BitVec 32 := 16#32
  let v245 : BitVec 32 := Scalar.muli arg11 c16_i32_210
  let c16_i32_211 : BitVec 32 := 16#32
  let v246 : BitVec 32 := Scalar.muli v245 c16_i32_211
  let c96_i32 : BitVec 32 := 96#32
  let v247 : BitVec 32 := Scalar.addi v246 c96_i32
  let v248 : Index := Scalar.indexCast v247
  ![v248.toNat]

def k1_chk141 (v256 : IVec S16 32) : Prop :=
  (∀ a x, ((![v256] : Fin 1 → IVec S16 32) a x).toNat < S4096.size a) ∧
  (∀ a x, ((![v256] : Fin 1 → IVec S16 32) a x).toNat < S4096.size a)
theorem k1_idx179_inb : ∀ (v256 : IVec S16 32) (k1_hw141 : k1_chk141 v256), ∀ a x, ((![v256] : Fin 1 → IVec S16 32) a x).toNat < S4096.size a := fun v256 k1_hw141 => k1_hw141.1
theorem k1_idx180_inb : ∀ (v256 : IVec S16 32) (k1_hw141 : k1_chk141 v256), ∀ a x, ((![v256] : Fin 1 → IVec S16 32) a x).toNat < S4096.size a := fun v256 k1_hw141 => k1_hw141.2

def k1_chk142 (v272 : IVec S16 32) : Prop :=
  (∀ a x, ((![v272] : Fin 1 → IVec S16 32) a x).toNat < S32768.size a)
theorem k1_idx181_inb : ∀ (v272 : IVec S16 32) (k1_hw142 : k1_chk142 v272), ∀ a x, ((![v272] : Fin 1 → IVec S16 32) a x).toNat < S32768.size a := fun v272 k1_hw142 => k1_hw142
def k1_off94 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_221 : BitVec 32 := 16#32
  let v273 : BitVec 32 := Scalar.muli arg11 c16_i32_221
  let c16_i32_222 : BitVec 32 := 16#32
  let v274 : BitVec 32 := Scalar.muli v273 c16_i32_222
  let c112_i32 : BitVec 32 := 112#32
  let v275 : BitVec 32 := Scalar.addi v274 c112_i32
  let v276 : Index := Scalar.indexCast v275
  ![v276.toNat]

def k1_chk143 (v284 : IVec S16 32) : Prop :=
  (∀ a x, ((![v284] : Fin 1 → IVec S16 32) a x).toNat < S4096.size a) ∧
  (∀ a x, ((![v284] : Fin 1 → IVec S16 32) a x).toNat < S4096.size a)
theorem k1_idx182_inb : ∀ (v284 : IVec S16 32) (k1_hw143 : k1_chk143 v284), ∀ a x, ((![v284] : Fin 1 → IVec S16 32) a x).toNat < S4096.size a := fun v284 k1_hw143 => k1_hw143.1
theorem k1_idx183_inb : ∀ (v284 : IVec S16 32) (k1_hw143 : k1_chk143 v284), ∀ a x, ((![v284] : Fin 1 → IVec S16 32) a x).toNat < S4096.size a := fun v284 k1_hw143 => k1_hw143.2

def k1_chk144 (v300 : IVec S16 32) : Prop :=
  (∀ a x, ((![v300] : Fin 1 → IVec S16 32) a x).toNat < S32768.size a)
theorem k1_idx184_inb : ∀ (v300 : IVec S16 32) (k1_hw144 : k1_chk144 v300), ∀ a x, ((![v300] : Fin 1 → IVec S16 32) a x).toNat < S32768.size a := fun v300 k1_hw144 => k1_hw144
def k1_off95 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_232 : BitVec 32 := 16#32
  let v301 : BitVec 32 := Scalar.muli arg11 c16_i32_232
  let c16_i32_233 : BitVec 32 := 16#32
  let v302 : BitVec 32 := Scalar.muli v301 c16_i32_233
  let c128_i32_234 : BitVec 32 := 128#32
  let v303 : BitVec 32 := Scalar.addi v302 c128_i32_234
  let v304 : Index := Scalar.indexCast v303
  ![v304.toNat]

def k1_chk145 (v312 : IVec S16 32) : Prop :=
  (∀ a x, ((![v312] : Fin 1 → IVec S16 32) a x).toNat < S4096.size a) ∧
  (∀ a x, ((![v312] : Fin 1 → IVec S16 32) a x).toNat < S4096.size a)
theorem k1_idx185_inb : ∀ (v312 : IVec S16 32) (k1_hw145 : k1_chk145 v312), ∀ a x, ((![v312] : Fin 1 → IVec S16 32) a x).toNat < S4096.size a := fun v312 k1_hw145 => k1_hw145.1
theorem k1_idx186_inb : ∀ (v312 : IVec S16 32) (k1_hw145 : k1_chk145 v312), ∀ a x, ((![v312] : Fin 1 → IVec S16 32) a x).toNat < S4096.size a := fun v312 k1_hw145 => k1_hw145.2

def k1_chk146 (v328 : IVec S16 32) : Prop :=
  (∀ a x, ((![v328] : Fin 1 → IVec S16 32) a x).toNat < S32768.size a)
theorem k1_idx187_inb : ∀ (v328 : IVec S16 32) (k1_hw146 : k1_chk146 v328), ∀ a x, ((![v328] : Fin 1 → IVec S16 32) a x).toNat < S32768.size a := fun v328 k1_hw146 => k1_hw146
def k1_off96 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_244 : BitVec 32 := 16#32
  let v329 : BitVec 32 := Scalar.muli arg11 c16_i32_244
  let c16_i32_245 : BitVec 32 := 16#32
  let v330 : BitVec 32 := Scalar.muli v329 c16_i32_245
  let c144_i32 : BitVec 32 := 144#32
  let v331 : BitVec 32 := Scalar.addi v330 c144_i32
  let v332 : Index := Scalar.indexCast v331
  ![v332.toNat]

def k1_chk147 (v340 : IVec S16 32) : Prop :=
  (∀ a x, ((![v340] : Fin 1 → IVec S16 32) a x).toNat < S4096.size a) ∧
  (∀ a x, ((![v340] : Fin 1 → IVec S16 32) a x).toNat < S4096.size a)
theorem k1_idx188_inb : ∀ (v340 : IVec S16 32) (k1_hw147 : k1_chk147 v340), ∀ a x, ((![v340] : Fin 1 → IVec S16 32) a x).toNat < S4096.size a := fun v340 k1_hw147 => k1_hw147.1
theorem k1_idx189_inb : ∀ (v340 : IVec S16 32) (k1_hw147 : k1_chk147 v340), ∀ a x, ((![v340] : Fin 1 → IVec S16 32) a x).toNat < S4096.size a := fun v340 k1_hw147 => k1_hw147.2

def k1_chk148 (v356 : IVec S16 32) : Prop :=
  (∀ a x, ((![v356] : Fin 1 → IVec S16 32) a x).toNat < S32768.size a)
theorem k1_idx190_inb : ∀ (v356 : IVec S16 32) (k1_hw148 : k1_chk148 v356), ∀ a x, ((![v356] : Fin 1 → IVec S16 32) a x).toNat < S32768.size a := fun v356 k1_hw148 => k1_hw148
def k1_off97 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_255 : BitVec 32 := 16#32
  let v357 : BitVec 32 := Scalar.muli arg11 c16_i32_255
  let c16_i32_256 : BitVec 32 := 16#32
  let v358 : BitVec 32 := Scalar.muli v357 c16_i32_256
  let c160_i32 : BitVec 32 := 160#32
  let v359 : BitVec 32 := Scalar.addi v358 c160_i32
  let v360 : Index := Scalar.indexCast v359
  ![v360.toNat]

def k1_chk149 (v368 : IVec S16 32) : Prop :=
  (∀ a x, ((![v368] : Fin 1 → IVec S16 32) a x).toNat < S4096.size a) ∧
  (∀ a x, ((![v368] : Fin 1 → IVec S16 32) a x).toNat < S4096.size a)
theorem k1_idx191_inb : ∀ (v368 : IVec S16 32) (k1_hw149 : k1_chk149 v368), ∀ a x, ((![v368] : Fin 1 → IVec S16 32) a x).toNat < S4096.size a := fun v368 k1_hw149 => k1_hw149.1
theorem k1_idx192_inb : ∀ (v368 : IVec S16 32) (k1_hw149 : k1_chk149 v368), ∀ a x, ((![v368] : Fin 1 → IVec S16 32) a x).toNat < S4096.size a := fun v368 k1_hw149 => k1_hw149.2

def k1_chk150 (v384 : IVec S16 32) : Prop :=
  (∀ a x, ((![v384] : Fin 1 → IVec S16 32) a x).toNat < S32768.size a)
theorem k1_idx193_inb : ∀ (v384 : IVec S16 32) (k1_hw150 : k1_chk150 v384), ∀ a x, ((![v384] : Fin 1 → IVec S16 32) a x).toNat < S32768.size a := fun v384 k1_hw150 => k1_hw150
def k1_off98 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_266 : BitVec 32 := 16#32
  let v385 : BitVec 32 := Scalar.muli arg11 c16_i32_266
  let c16_i32_267 : BitVec 32 := 16#32
  let v386 : BitVec 32 := Scalar.muli v385 c16_i32_267
  let c176_i32 : BitVec 32 := 176#32
  let v387 : BitVec 32 := Scalar.addi v386 c176_i32
  let v388 : Index := Scalar.indexCast v387
  ![v388.toNat]

def k1_chk151 (v396 : IVec S16 32) : Prop :=
  (∀ a x, ((![v396] : Fin 1 → IVec S16 32) a x).toNat < S4096.size a) ∧
  (∀ a x, ((![v396] : Fin 1 → IVec S16 32) a x).toNat < S4096.size a)
theorem k1_idx194_inb : ∀ (v396 : IVec S16 32) (k1_hw151 : k1_chk151 v396), ∀ a x, ((![v396] : Fin 1 → IVec S16 32) a x).toNat < S4096.size a := fun v396 k1_hw151 => k1_hw151.1
theorem k1_idx195_inb : ∀ (v396 : IVec S16 32) (k1_hw151 : k1_chk151 v396), ∀ a x, ((![v396] : Fin 1 → IVec S16 32) a x).toNat < S4096.size a := fun v396 k1_hw151 => k1_hw151.2

def k1_chk152 (v412 : IVec S16 32) : Prop :=
  (∀ a x, ((![v412] : Fin 1 → IVec S16 32) a x).toNat < S32768.size a)
theorem k1_idx196_inb : ∀ (v412 : IVec S16 32) (k1_hw152 : k1_chk152 v412), ∀ a x, ((![v412] : Fin 1 → IVec S16 32) a x).toNat < S32768.size a := fun v412 k1_hw152 => k1_hw152
def k1_off99 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_277 : BitVec 32 := 16#32
  let v413 : BitVec 32 := Scalar.muli arg11 c16_i32_277
  let c16_i32_278 : BitVec 32 := 16#32
  let v414 : BitVec 32 := Scalar.muli v413 c16_i32_278
  let c192_i32 : BitVec 32 := 192#32
  let v415 : BitVec 32 := Scalar.addi v414 c192_i32
  let v416 : Index := Scalar.indexCast v415
  ![v416.toNat]

def k1_chk153 (v424 : IVec S16 32) : Prop :=
  (∀ a x, ((![v424] : Fin 1 → IVec S16 32) a x).toNat < S4096.size a) ∧
  (∀ a x, ((![v424] : Fin 1 → IVec S16 32) a x).toNat < S4096.size a)
theorem k1_idx197_inb : ∀ (v424 : IVec S16 32) (k1_hw153 : k1_chk153 v424), ∀ a x, ((![v424] : Fin 1 → IVec S16 32) a x).toNat < S4096.size a := fun v424 k1_hw153 => k1_hw153.1
theorem k1_idx198_inb : ∀ (v424 : IVec S16 32) (k1_hw153 : k1_chk153 v424), ∀ a x, ((![v424] : Fin 1 → IVec S16 32) a x).toNat < S4096.size a := fun v424 k1_hw153 => k1_hw153.2

def k1_chk154 (v440 : IVec S16 32) : Prop :=
  (∀ a x, ((![v440] : Fin 1 → IVec S16 32) a x).toNat < S32768.size a)
theorem k1_idx199_inb : ∀ (v440 : IVec S16 32) (k1_hw154 : k1_chk154 v440), ∀ a x, ((![v440] : Fin 1 → IVec S16 32) a x).toNat < S32768.size a := fun v440 k1_hw154 => k1_hw154
def k1_off100 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_288 : BitVec 32 := 16#32
  let v441 : BitVec 32 := Scalar.muli arg11 c16_i32_288
  let c16_i32_289 : BitVec 32 := 16#32
  let v442 : BitVec 32 := Scalar.muli v441 c16_i32_289
  let c208_i32 : BitVec 32 := 208#32
  let v443 : BitVec 32 := Scalar.addi v442 c208_i32
  let v444 : Index := Scalar.indexCast v443
  ![v444.toNat]

def k1_chk155 (v452 : IVec S16 32) : Prop :=
  (∀ a x, ((![v452] : Fin 1 → IVec S16 32) a x).toNat < S4096.size a) ∧
  (∀ a x, ((![v452] : Fin 1 → IVec S16 32) a x).toNat < S4096.size a)
theorem k1_idx200_inb : ∀ (v452 : IVec S16 32) (k1_hw155 : k1_chk155 v452), ∀ a x, ((![v452] : Fin 1 → IVec S16 32) a x).toNat < S4096.size a := fun v452 k1_hw155 => k1_hw155.1
theorem k1_idx201_inb : ∀ (v452 : IVec S16 32) (k1_hw155 : k1_chk155 v452), ∀ a x, ((![v452] : Fin 1 → IVec S16 32) a x).toNat < S4096.size a := fun v452 k1_hw155 => k1_hw155.2

def k1_chk156 (v468 : IVec S16 32) : Prop :=
  (∀ a x, ((![v468] : Fin 1 → IVec S16 32) a x).toNat < S32768.size a)
theorem k1_idx202_inb : ∀ (v468 : IVec S16 32) (k1_hw156 : k1_chk156 v468), ∀ a x, ((![v468] : Fin 1 → IVec S16 32) a x).toNat < S32768.size a := fun v468 k1_hw156 => k1_hw156
def k1_off101 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_299 : BitVec 32 := 16#32
  let v469 : BitVec 32 := Scalar.muli arg11 c16_i32_299
  let c16_i32_300 : BitVec 32 := 16#32
  let v470 : BitVec 32 := Scalar.muli v469 c16_i32_300
  let c224_i32 : BitVec 32 := 224#32
  let v471 : BitVec 32 := Scalar.addi v470 c224_i32
  let v472 : Index := Scalar.indexCast v471
  ![v472.toNat]

def k1_chk157 (v480 : IVec S16 32) : Prop :=
  (∀ a x, ((![v480] : Fin 1 → IVec S16 32) a x).toNat < S4096.size a) ∧
  (∀ a x, ((![v480] : Fin 1 → IVec S16 32) a x).toNat < S4096.size a)
theorem k1_idx203_inb : ∀ (v480 : IVec S16 32) (k1_hw157 : k1_chk157 v480), ∀ a x, ((![v480] : Fin 1 → IVec S16 32) a x).toNat < S4096.size a := fun v480 k1_hw157 => k1_hw157.1
theorem k1_idx204_inb : ∀ (v480 : IVec S16 32) (k1_hw157 : k1_chk157 v480), ∀ a x, ((![v480] : Fin 1 → IVec S16 32) a x).toNat < S4096.size a := fun v480 k1_hw157 => k1_hw157.2

def k1_chk158 (v496 : IVec S16 32) : Prop :=
  (∀ a x, ((![v496] : Fin 1 → IVec S16 32) a x).toNat < S32768.size a)
theorem k1_idx205_inb : ∀ (v496 : IVec S16 32) (k1_hw158 : k1_chk158 v496), ∀ a x, ((![v496] : Fin 1 → IVec S16 32) a x).toNat < S32768.size a := fun v496 k1_hw158 => k1_hw158
def k1_off102 (k1_t10 : Fin k1_t10_loop.trips) : Fin 1 → Nat :=
  let c0_i32_53 : BitVec 32 := 0#32
  let c1_i32_55 : BitVec 32 := 1#32
  let arg11 : BitVec 32 := Scf.iv c0_i32_53 c1_i32_55 k1_t10
  let c16_i32_310 : BitVec 32 := 16#32
  let v497 : BitVec 32 := Scalar.muli arg11 c16_i32_310
  let c16_i32_311 : BitVec 32 := 16#32
  let v498 : BitVec 32 := Scalar.muli v497 c16_i32_311
  let c240_i32 : BitVec 32 := 240#32
  let v499 : BitVec 32 := Scalar.addi v498 c240_i32
  let v500 : Index := Scalar.indexCast v499
  ![v500.toNat]

def k1_chk159 (v508 : IVec S16 32) : Prop :=
  (∀ a x, ((![v508] : Fin 1 → IVec S16 32) a x).toNat < S4096.size a) ∧
  (∀ a x, ((![v508] : Fin 1 → IVec S16 32) a x).toNat < S4096.size a)
theorem k1_idx206_inb : ∀ (v508 : IVec S16 32) (k1_hw159 : k1_chk159 v508), ∀ a x, ((![v508] : Fin 1 → IVec S16 32) a x).toNat < S4096.size a := fun v508 k1_hw159 => k1_hw159.1
theorem k1_idx207_inb : ∀ (v508 : IVec S16 32) (k1_hw159 : k1_chk159 v508), ∀ a x, ((![v508] : Fin 1 → IVec S16 32) a x).toNat < S4096.size a := fun v508 k1_hw159 => k1_hw159.2

def k1_chk160 (v524 : IVec S16 32) : Prop :=
  (∀ a x, ((![v524] : Fin 1 → IVec S16 32) a x).toNat < S32768.size a)
theorem k1_idx208_inb : ∀ (v524 : IVec S16 32) (k1_hw160 : k1_chk160 v524), ∀ a x, ((![v524] : Fin 1 → IVec S16 32) a x).toNat < S32768.size a := fun v524 k1_hw160 => k1_hw160
@[reducible] def k1_t11_loop : Scf.Loop 32 :=
  let c0_i32_58 : BitVec 32 := 0#32
  let c128_i32_59 : BitVec 32 := 128#32
  let v34 : BitVec 32 := Scalar.addi c0_i32_58 c128_i32_59
  let c1_i32_60 : BitVec 32 := 1#32
  ⟨c0_i32_58, v34, c1_i32_60⟩
def k1_off103 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk161 (v88 : IVec S16 32) : Prop :=
  (∀ a x, ((![v88] : Fin 1 → IVec S16 32) a x).toNat < S4096.size a)
theorem k1_idx209_inb : ∀ (v88 : IVec S16 32) (k1_hw161 : k1_chk161 v88), ∀ a x, ((![v88] : Fin 1 → IVec S16 32) a x).toNat < S4096.size a := fun v88 k1_hw161 => k1_hw161
def k1_off104 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_152 : BitVec 32 := 16#32
  let v89 : BitVec 32 := Scalar.muli arg11 c16_i32_152
  let c16_i32_153 : BitVec 32 := 16#32
  let v90 : BitVec 32 := Scalar.muli v89 c16_i32_153
  let c16_i32_154 : BitVec 32 := 16#32
  let v91 : BitVec 32 := Scalar.addi v90 c16_i32_154
  let v92 : Index := Scalar.indexCast v91
  ![v92.toNat]

def k1_chk162 (v100 : IVec S16 32) : Prop :=
  (∀ a x, ((![v100] : Fin 1 → IVec S16 32) a x).toNat < S4096.size a)
theorem k1_idx210_inb : ∀ (v100 : IVec S16 32) (k1_hw162 : k1_chk162 v100), ∀ a x, ((![v100] : Fin 1 → IVec S16 32) a x).toNat < S4096.size a := fun v100 k1_hw162 => k1_hw162
def k1_off105 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_158 : BitVec 32 := 16#32
  let v101 : BitVec 32 := Scalar.muli arg11 c16_i32_158
  let c16_i32_159 : BitVec 32 := 16#32
  let v102 : BitVec 32 := Scalar.muli v101 c16_i32_159
  let c32_i32 : BitVec 32 := 32#32
  let v103 : BitVec 32 := Scalar.addi v102 c32_i32
  let v104 : Index := Scalar.indexCast v103
  ![v104.toNat]

def k1_chk163 (v112 : IVec S16 32) : Prop :=
  (∀ a x, ((![v112] : Fin 1 → IVec S16 32) a x).toNat < S4096.size a)
theorem k1_idx211_inb : ∀ (v112 : IVec S16 32) (k1_hw163 : k1_chk163 v112), ∀ a x, ((![v112] : Fin 1 → IVec S16 32) a x).toNat < S4096.size a := fun v112 k1_hw163 => k1_hw163
def k1_off106 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_163 : BitVec 32 := 16#32
  let v113 : BitVec 32 := Scalar.muli arg11 c16_i32_163
  let c16_i32_164 : BitVec 32 := 16#32
  let v114 : BitVec 32 := Scalar.muli v113 c16_i32_164
  let c48_i32 : BitVec 32 := 48#32
  let v115 : BitVec 32 := Scalar.addi v114 c48_i32
  let v116 : Index := Scalar.indexCast v115
  ![v116.toNat]

def k1_chk164 (v124 : IVec S16 32) : Prop :=
  (∀ a x, ((![v124] : Fin 1 → IVec S16 32) a x).toNat < S4096.size a)
theorem k1_idx212_inb : ∀ (v124 : IVec S16 32) (k1_hw164 : k1_chk164 v124), ∀ a x, ((![v124] : Fin 1 → IVec S16 32) a x).toNat < S4096.size a := fun v124 k1_hw164 => k1_hw164
def k1_off107 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_168 : BitVec 32 := 16#32
  let v125 : BitVec 32 := Scalar.muli arg11 c16_i32_168
  let c16_i32_169 : BitVec 32 := 16#32
  let v126 : BitVec 32 := Scalar.muli v125 c16_i32_169
  let c64_i32 : BitVec 32 := 64#32
  let v127 : BitVec 32 := Scalar.addi v126 c64_i32
  let v128 : Index := Scalar.indexCast v127
  ![v128.toNat]

def k1_chk165 (v136 : IVec S16 32) : Prop :=
  (∀ a x, ((![v136] : Fin 1 → IVec S16 32) a x).toNat < S4096.size a)
theorem k1_idx213_inb : ∀ (v136 : IVec S16 32) (k1_hw165 : k1_chk165 v136), ∀ a x, ((![v136] : Fin 1 → IVec S16 32) a x).toNat < S4096.size a := fun v136 k1_hw165 => k1_hw165
def k1_off108 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_173 : BitVec 32 := 16#32
  let v137 : BitVec 32 := Scalar.muli arg11 c16_i32_173
  let c16_i32_174 : BitVec 32 := 16#32
  let v138 : BitVec 32 := Scalar.muli v137 c16_i32_174
  let c80_i32 : BitVec 32 := 80#32
  let v139 : BitVec 32 := Scalar.addi v138 c80_i32
  let v140 : Index := Scalar.indexCast v139
  ![v140.toNat]

def k1_chk166 (v148 : IVec S16 32) : Prop :=
  (∀ a x, ((![v148] : Fin 1 → IVec S16 32) a x).toNat < S4096.size a)
theorem k1_idx214_inb : ∀ (v148 : IVec S16 32) (k1_hw166 : k1_chk166 v148), ∀ a x, ((![v148] : Fin 1 → IVec S16 32) a x).toNat < S4096.size a := fun v148 k1_hw166 => k1_hw166
def k1_off109 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_178 : BitVec 32 := 16#32
  let v149 : BitVec 32 := Scalar.muli arg11 c16_i32_178
  let c16_i32_179 : BitVec 32 := 16#32
  let v150 : BitVec 32 := Scalar.muli v149 c16_i32_179
  let c96_i32 : BitVec 32 := 96#32
  let v151 : BitVec 32 := Scalar.addi v150 c96_i32
  let v152 : Index := Scalar.indexCast v151
  ![v152.toNat]

def k1_chk167 (v160 : IVec S16 32) : Prop :=
  (∀ a x, ((![v160] : Fin 1 → IVec S16 32) a x).toNat < S4096.size a)
theorem k1_idx215_inb : ∀ (v160 : IVec S16 32) (k1_hw167 : k1_chk167 v160), ∀ a x, ((![v160] : Fin 1 → IVec S16 32) a x).toNat < S4096.size a := fun v160 k1_hw167 => k1_hw167
def k1_off110 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_183 : BitVec 32 := 16#32
  let v161 : BitVec 32 := Scalar.muli arg11 c16_i32_183
  let c16_i32_184 : BitVec 32 := 16#32
  let v162 : BitVec 32 := Scalar.muli v161 c16_i32_184
  let c112_i32 : BitVec 32 := 112#32
  let v163 : BitVec 32 := Scalar.addi v162 c112_i32
  let v164 : Index := Scalar.indexCast v163
  ![v164.toNat]

def k1_chk168 (v172 : IVec S16 32) : Prop :=
  (∀ a x, ((![v172] : Fin 1 → IVec S16 32) a x).toNat < S4096.size a)
theorem k1_idx216_inb : ∀ (v172 : IVec S16 32) (k1_hw168 : k1_chk168 v172), ∀ a x, ((![v172] : Fin 1 → IVec S16 32) a x).toNat < S4096.size a := fun v172 k1_hw168 => k1_hw168
def k1_off111 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_188 : BitVec 32 := 16#32
  let v173 : BitVec 32 := Scalar.muli arg11 c16_i32_188
  let c16_i32_189 : BitVec 32 := 16#32
  let v174 : BitVec 32 := Scalar.muli v173 c16_i32_189
  let c128_i32_190 : BitVec 32 := 128#32
  let v175 : BitVec 32 := Scalar.addi v174 c128_i32_190
  let v176 : Index := Scalar.indexCast v175
  ![v176.toNat]

def k1_chk169 (v184 : IVec S16 32) : Prop :=
  (∀ a x, ((![v184] : Fin 1 → IVec S16 32) a x).toNat < S4096.size a)
theorem k1_idx217_inb : ∀ (v184 : IVec S16 32) (k1_hw169 : k1_chk169 v184), ∀ a x, ((![v184] : Fin 1 → IVec S16 32) a x).toNat < S4096.size a := fun v184 k1_hw169 => k1_hw169
def k1_off112 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_194 : BitVec 32 := 16#32
  let v185 : BitVec 32 := Scalar.muli arg11 c16_i32_194
  let c16_i32_195 : BitVec 32 := 16#32
  let v186 : BitVec 32 := Scalar.muli v185 c16_i32_195
  let c144_i32 : BitVec 32 := 144#32
  let v187 : BitVec 32 := Scalar.addi v186 c144_i32
  let v188 : Index := Scalar.indexCast v187
  ![v188.toNat]

def k1_chk170 (v196 : IVec S16 32) : Prop :=
  (∀ a x, ((![v196] : Fin 1 → IVec S16 32) a x).toNat < S4096.size a)
theorem k1_idx218_inb : ∀ (v196 : IVec S16 32) (k1_hw170 : k1_chk170 v196), ∀ a x, ((![v196] : Fin 1 → IVec S16 32) a x).toNat < S4096.size a := fun v196 k1_hw170 => k1_hw170
def k1_off113 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_199 : BitVec 32 := 16#32
  let v197 : BitVec 32 := Scalar.muli arg11 c16_i32_199
  let c16_i32_200 : BitVec 32 := 16#32
  let v198 : BitVec 32 := Scalar.muli v197 c16_i32_200
  let c160_i32 : BitVec 32 := 160#32
  let v199 : BitVec 32 := Scalar.addi v198 c160_i32
  let v200 : Index := Scalar.indexCast v199
  ![v200.toNat]

def k1_chk171 (v208 : IVec S16 32) : Prop :=
  (∀ a x, ((![v208] : Fin 1 → IVec S16 32) a x).toNat < S4096.size a)
theorem k1_idx219_inb : ∀ (v208 : IVec S16 32) (k1_hw171 : k1_chk171 v208), ∀ a x, ((![v208] : Fin 1 → IVec S16 32) a x).toNat < S4096.size a := fun v208 k1_hw171 => k1_hw171
def k1_off114 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_204 : BitVec 32 := 16#32
  let v209 : BitVec 32 := Scalar.muli arg11 c16_i32_204
  let c16_i32_205 : BitVec 32 := 16#32
  let v210 : BitVec 32 := Scalar.muli v209 c16_i32_205
  let c176_i32 : BitVec 32 := 176#32
  let v211 : BitVec 32 := Scalar.addi v210 c176_i32
  let v212 : Index := Scalar.indexCast v211
  ![v212.toNat]

def k1_chk172 (v220 : IVec S16 32) : Prop :=
  (∀ a x, ((![v220] : Fin 1 → IVec S16 32) a x).toNat < S4096.size a)
theorem k1_idx220_inb : ∀ (v220 : IVec S16 32) (k1_hw172 : k1_chk172 v220), ∀ a x, ((![v220] : Fin 1 → IVec S16 32) a x).toNat < S4096.size a := fun v220 k1_hw172 => k1_hw172
def k1_off115 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_209 : BitVec 32 := 16#32
  let v221 : BitVec 32 := Scalar.muli arg11 c16_i32_209
  let c16_i32_210 : BitVec 32 := 16#32
  let v222 : BitVec 32 := Scalar.muli v221 c16_i32_210
  let c192_i32 : BitVec 32 := 192#32
  let v223 : BitVec 32 := Scalar.addi v222 c192_i32
  let v224 : Index := Scalar.indexCast v223
  ![v224.toNat]

def k1_chk173 (v232 : IVec S16 32) : Prop :=
  (∀ a x, ((![v232] : Fin 1 → IVec S16 32) a x).toNat < S4096.size a)
theorem k1_idx221_inb : ∀ (v232 : IVec S16 32) (k1_hw173 : k1_chk173 v232), ∀ a x, ((![v232] : Fin 1 → IVec S16 32) a x).toNat < S4096.size a := fun v232 k1_hw173 => k1_hw173
def k1_off116 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_214 : BitVec 32 := 16#32
  let v233 : BitVec 32 := Scalar.muli arg11 c16_i32_214
  let c16_i32_215 : BitVec 32 := 16#32
  let v234 : BitVec 32 := Scalar.muli v233 c16_i32_215
  let c208_i32 : BitVec 32 := 208#32
  let v235 : BitVec 32 := Scalar.addi v234 c208_i32
  let v236 : Index := Scalar.indexCast v235
  ![v236.toNat]

def k1_chk174 (v244 : IVec S16 32) : Prop :=
  (∀ a x, ((![v244] : Fin 1 → IVec S16 32) a x).toNat < S4096.size a)
theorem k1_idx222_inb : ∀ (v244 : IVec S16 32) (k1_hw174 : k1_chk174 v244), ∀ a x, ((![v244] : Fin 1 → IVec S16 32) a x).toNat < S4096.size a := fun v244 k1_hw174 => k1_hw174
def k1_off117 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_219 : BitVec 32 := 16#32
  let v245 : BitVec 32 := Scalar.muli arg11 c16_i32_219
  let c16_i32_220 : BitVec 32 := 16#32
  let v246 : BitVec 32 := Scalar.muli v245 c16_i32_220
  let c224_i32 : BitVec 32 := 224#32
  let v247 : BitVec 32 := Scalar.addi v246 c224_i32
  let v248 : Index := Scalar.indexCast v247
  ![v248.toNat]

def k1_chk175 (v256 : IVec S16 32) : Prop :=
  (∀ a x, ((![v256] : Fin 1 → IVec S16 32) a x).toNat < S4096.size a)
theorem k1_idx223_inb : ∀ (v256 : IVec S16 32) (k1_hw175 : k1_chk175 v256), ∀ a x, ((![v256] : Fin 1 → IVec S16 32) a x).toNat < S4096.size a := fun v256 k1_hw175 => k1_hw175
def k1_off118 (k1_t11 : Fin k1_t11_loop.trips) : Fin 1 → Nat :=
  let c0_i32_58 : BitVec 32 := 0#32
  let c1_i32_60 : BitVec 32 := 1#32
  let arg11 : BitVec 32 := Scf.iv c0_i32_58 c1_i32_60 k1_t11
  let c16_i32_224 : BitVec 32 := 16#32
  let v257 : BitVec 32 := Scalar.muli arg11 c16_i32_224
  let c16_i32_225 : BitVec 32 := 16#32
  let v258 : BitVec 32 := Scalar.muli v257 c16_i32_225
  let c240_i32 : BitVec 32 := 240#32
  let v259 : BitVec 32 := Scalar.addi v258 c240_i32
  let v260 : Index := Scalar.indexCast v259
  ![v260.toNat]

def k1_chk176 (v268 : IVec S16 32) : Prop :=
  (∀ a x, ((![v268] : Fin 1 → IVec S16 32) a x).toNat < S4096.size a)
theorem k1_idx224_inb : ∀ (v268 : IVec S16 32) (k1_hw176 : k1_chk176 v268), ∀ a x, ((![v268] : Fin 1 → IVec S16 32) a x).toNat < S4096.size a := fun v268 k1_hw176 => k1_hw176
@[reducible] def k1_t12_loop : Scf.Loop 32 :=
  let c0_i32_63 : BitVec 32 := 0#32
  let c256_i32_64 : BitVec 32 := 256#32
  let v35 : BitVec 32 := Scalar.addi c0_i32_63 c256_i32_64
  let c1_i32_65 : BitVec 32 := 1#32
  ⟨c0_i32_63, v35, c1_i32_65⟩
def k1_off119 (k1_t12 : Fin k1_t12_loop.trips) : Fin 1 → Nat :=
  let c0_i32_63 : BitVec 32 := 0#32
  let c1_i32_65 : BitVec 32 := 1#32
  let arg11 : BitVec 32 := Scf.iv c0_i32_63 c1_i32_65 k1_t12
  let c16_i32_149 : BitVec 32 := 16#32
  let v77 : BitVec 32 := Scalar.muli arg11 c16_i32_149
  let v78 : Index := Scalar.indexCast v77
  ![v78.toNat]
@[reducible] def k1_t13_loop : Scf.Loop 32 :=
  let c0_i32_68 : BitVec 32 := 0#32
  let c128_i32_69 : BitVec 32 := 128#32
  let v37 : BitVec 32 := Scalar.addi c0_i32_68 c128_i32_69
  let c1_i32_70 : BitVec 32 := 1#32
  ⟨c0_i32_68, v37, c1_i32_70⟩
def k1_off120 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk177 (v88 : IVec S16 32) : Prop :=
  (∀ a x, ((![v88] : Fin 1 → IVec S16 32) a x).toNat < S4096.size a) ∧
  (∀ a x, ((![v88] : Fin 1 → IVec S16 32) a x).toNat < S4096.size a)
theorem k1_idx225_inb : ∀ (v88 : IVec S16 32) (k1_hw177 : k1_chk177 v88), ∀ a x, ((![v88] : Fin 1 → IVec S16 32) a x).toNat < S4096.size a := fun v88 k1_hw177 => k1_hw177.1
theorem k1_idx226_inb : ∀ (v88 : IVec S16 32) (k1_hw177 : k1_chk177 v88), ∀ a x, ((![v88] : Fin 1 → IVec S16 32) a x).toNat < S4096.size a := fun v88 k1_hw177 => k1_hw177.2

def k1_chk178 (v89 : IVec S16 32) : Prop :=
  (∀ a x, ((![v89] : Fin 1 → IVec S16 32) a x).toNat < S32768.size a)
theorem k1_idx227_inb : ∀ (v89 : IVec S16 32) (k1_hw178 : k1_chk178 v89), ∀ a x, ((![v89] : Fin 1 → IVec S16 32) a x).toNat < S32768.size a := fun v89 k1_hw178 => k1_hw178
def k1_off121 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_154 : BitVec 32 := 16#32
  let v100 : BitVec 32 := Scalar.muli arg11 c16_i32_154
  let c16_i32_155 : BitVec 32 := 16#32
  let v101 : BitVec 32 := Scalar.muli v100 c16_i32_155
  let c16_i32_156 : BitVec 32 := 16#32
  let v102 : BitVec 32 := Scalar.addi v101 c16_i32_156
  let v103 : Index := Scalar.indexCast v102
  ![v103.toNat]

def k1_chk179 (v111 : IVec S16 32) : Prop :=
  (∀ a x, ((![v111] : Fin 1 → IVec S16 32) a x).toNat < S4096.size a) ∧
  (∀ a x, ((![v111] : Fin 1 → IVec S16 32) a x).toNat < S4096.size a)
theorem k1_idx228_inb : ∀ (v111 : IVec S16 32) (k1_hw179 : k1_chk179 v111), ∀ a x, ((![v111] : Fin 1 → IVec S16 32) a x).toNat < S4096.size a := fun v111 k1_hw179 => k1_hw179.1
theorem k1_idx229_inb : ∀ (v111 : IVec S16 32) (k1_hw179 : k1_chk179 v111), ∀ a x, ((![v111] : Fin 1 → IVec S16 32) a x).toNat < S4096.size a := fun v111 k1_hw179 => k1_hw179.2

def k1_chk180 (v112 : IVec S16 32) : Prop :=
  (∀ a x, ((![v112] : Fin 1 → IVec S16 32) a x).toNat < S32768.size a)
theorem k1_idx230_inb : ∀ (v112 : IVec S16 32) (k1_hw180 : k1_chk180 v112), ∀ a x, ((![v112] : Fin 1 → IVec S16 32) a x).toNat < S32768.size a := fun v112 k1_hw180 => k1_hw180
def k1_off122 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_164 : BitVec 32 := 16#32
  let v123 : BitVec 32 := Scalar.muli arg11 c16_i32_164
  let c16_i32_165 : BitVec 32 := 16#32
  let v124 : BitVec 32 := Scalar.muli v123 c16_i32_165
  let c32_i32 : BitVec 32 := 32#32
  let v125 : BitVec 32 := Scalar.addi v124 c32_i32
  let v126 : Index := Scalar.indexCast v125
  ![v126.toNat]

def k1_chk181 (v134 : IVec S16 32) : Prop :=
  (∀ a x, ((![v134] : Fin 1 → IVec S16 32) a x).toNat < S4096.size a) ∧
  (∀ a x, ((![v134] : Fin 1 → IVec S16 32) a x).toNat < S4096.size a)
theorem k1_idx231_inb : ∀ (v134 : IVec S16 32) (k1_hw181 : k1_chk181 v134), ∀ a x, ((![v134] : Fin 1 → IVec S16 32) a x).toNat < S4096.size a := fun v134 k1_hw181 => k1_hw181.1
theorem k1_idx232_inb : ∀ (v134 : IVec S16 32) (k1_hw181 : k1_chk181 v134), ∀ a x, ((![v134] : Fin 1 → IVec S16 32) a x).toNat < S4096.size a := fun v134 k1_hw181 => k1_hw181.2

def k1_chk182 (v135 : IVec S16 32) : Prop :=
  (∀ a x, ((![v135] : Fin 1 → IVec S16 32) a x).toNat < S32768.size a)
theorem k1_idx233_inb : ∀ (v135 : IVec S16 32) (k1_hw182 : k1_chk182 v135), ∀ a x, ((![v135] : Fin 1 → IVec S16 32) a x).toNat < S32768.size a := fun v135 k1_hw182 => k1_hw182
def k1_off123 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_173 : BitVec 32 := 16#32
  let v146 : BitVec 32 := Scalar.muli arg11 c16_i32_173
  let c16_i32_174 : BitVec 32 := 16#32
  let v147 : BitVec 32 := Scalar.muli v146 c16_i32_174
  let c48_i32 : BitVec 32 := 48#32
  let v148 : BitVec 32 := Scalar.addi v147 c48_i32
  let v149 : Index := Scalar.indexCast v148
  ![v149.toNat]

def k1_chk183 (v157 : IVec S16 32) : Prop :=
  (∀ a x, ((![v157] : Fin 1 → IVec S16 32) a x).toNat < S4096.size a) ∧
  (∀ a x, ((![v157] : Fin 1 → IVec S16 32) a x).toNat < S4096.size a)
theorem k1_idx234_inb : ∀ (v157 : IVec S16 32) (k1_hw183 : k1_chk183 v157), ∀ a x, ((![v157] : Fin 1 → IVec S16 32) a x).toNat < S4096.size a := fun v157 k1_hw183 => k1_hw183.1
theorem k1_idx235_inb : ∀ (v157 : IVec S16 32) (k1_hw183 : k1_chk183 v157), ∀ a x, ((![v157] : Fin 1 → IVec S16 32) a x).toNat < S4096.size a := fun v157 k1_hw183 => k1_hw183.2

def k1_chk184 (v158 : IVec S16 32) : Prop :=
  (∀ a x, ((![v158] : Fin 1 → IVec S16 32) a x).toNat < S32768.size a)
theorem k1_idx236_inb : ∀ (v158 : IVec S16 32) (k1_hw184 : k1_chk184 v158), ∀ a x, ((![v158] : Fin 1 → IVec S16 32) a x).toNat < S32768.size a := fun v158 k1_hw184 => k1_hw184
def k1_off124 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_182 : BitVec 32 := 16#32
  let v169 : BitVec 32 := Scalar.muli arg11 c16_i32_182
  let c16_i32_183 : BitVec 32 := 16#32
  let v170 : BitVec 32 := Scalar.muli v169 c16_i32_183
  let c64_i32 : BitVec 32 := 64#32
  let v171 : BitVec 32 := Scalar.addi v170 c64_i32
  let v172 : Index := Scalar.indexCast v171
  ![v172.toNat]

def k1_chk185 (v180 : IVec S16 32) : Prop :=
  (∀ a x, ((![v180] : Fin 1 → IVec S16 32) a x).toNat < S4096.size a) ∧
  (∀ a x, ((![v180] : Fin 1 → IVec S16 32) a x).toNat < S4096.size a)
theorem k1_idx237_inb : ∀ (v180 : IVec S16 32) (k1_hw185 : k1_chk185 v180), ∀ a x, ((![v180] : Fin 1 → IVec S16 32) a x).toNat < S4096.size a := fun v180 k1_hw185 => k1_hw185.1
theorem k1_idx238_inb : ∀ (v180 : IVec S16 32) (k1_hw185 : k1_chk185 v180), ∀ a x, ((![v180] : Fin 1 → IVec S16 32) a x).toNat < S4096.size a := fun v180 k1_hw185 => k1_hw185.2

def k1_chk186 (v181 : IVec S16 32) : Prop :=
  (∀ a x, ((![v181] : Fin 1 → IVec S16 32) a x).toNat < S32768.size a)
theorem k1_idx239_inb : ∀ (v181 : IVec S16 32) (k1_hw186 : k1_chk186 v181), ∀ a x, ((![v181] : Fin 1 → IVec S16 32) a x).toNat < S32768.size a := fun v181 k1_hw186 => k1_hw186
def k1_off125 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_191 : BitVec 32 := 16#32
  let v192 : BitVec 32 := Scalar.muli arg11 c16_i32_191
  let c16_i32_192 : BitVec 32 := 16#32
  let v193 : BitVec 32 := Scalar.muli v192 c16_i32_192
  let c80_i32 : BitVec 32 := 80#32
  let v194 : BitVec 32 := Scalar.addi v193 c80_i32
  let v195 : Index := Scalar.indexCast v194
  ![v195.toNat]

def k1_chk187 (v203 : IVec S16 32) : Prop :=
  (∀ a x, ((![v203] : Fin 1 → IVec S16 32) a x).toNat < S4096.size a) ∧
  (∀ a x, ((![v203] : Fin 1 → IVec S16 32) a x).toNat < S4096.size a)
theorem k1_idx240_inb : ∀ (v203 : IVec S16 32) (k1_hw187 : k1_chk187 v203), ∀ a x, ((![v203] : Fin 1 → IVec S16 32) a x).toNat < S4096.size a := fun v203 k1_hw187 => k1_hw187.1
theorem k1_idx241_inb : ∀ (v203 : IVec S16 32) (k1_hw187 : k1_chk187 v203), ∀ a x, ((![v203] : Fin 1 → IVec S16 32) a x).toNat < S4096.size a := fun v203 k1_hw187 => k1_hw187.2

def k1_chk188 (v204 : IVec S16 32) : Prop :=
  (∀ a x, ((![v204] : Fin 1 → IVec S16 32) a x).toNat < S32768.size a)
theorem k1_idx242_inb : ∀ (v204 : IVec S16 32) (k1_hw188 : k1_chk188 v204), ∀ a x, ((![v204] : Fin 1 → IVec S16 32) a x).toNat < S32768.size a := fun v204 k1_hw188 => k1_hw188
def k1_off126 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_200 : BitVec 32 := 16#32
  let v215 : BitVec 32 := Scalar.muli arg11 c16_i32_200
  let c16_i32_201 : BitVec 32 := 16#32
  let v216 : BitVec 32 := Scalar.muli v215 c16_i32_201
  let c96_i32 : BitVec 32 := 96#32
  let v217 : BitVec 32 := Scalar.addi v216 c96_i32
  let v218 : Index := Scalar.indexCast v217
  ![v218.toNat]

def k1_chk189 (v226 : IVec S16 32) : Prop :=
  (∀ a x, ((![v226] : Fin 1 → IVec S16 32) a x).toNat < S4096.size a) ∧
  (∀ a x, ((![v226] : Fin 1 → IVec S16 32) a x).toNat < S4096.size a)
theorem k1_idx243_inb : ∀ (v226 : IVec S16 32) (k1_hw189 : k1_chk189 v226), ∀ a x, ((![v226] : Fin 1 → IVec S16 32) a x).toNat < S4096.size a := fun v226 k1_hw189 => k1_hw189.1
theorem k1_idx244_inb : ∀ (v226 : IVec S16 32) (k1_hw189 : k1_chk189 v226), ∀ a x, ((![v226] : Fin 1 → IVec S16 32) a x).toNat < S4096.size a := fun v226 k1_hw189 => k1_hw189.2

def k1_chk190 (v227 : IVec S16 32) : Prop :=
  (∀ a x, ((![v227] : Fin 1 → IVec S16 32) a x).toNat < S32768.size a)
theorem k1_idx245_inb : ∀ (v227 : IVec S16 32) (k1_hw190 : k1_chk190 v227), ∀ a x, ((![v227] : Fin 1 → IVec S16 32) a x).toNat < S32768.size a := fun v227 k1_hw190 => k1_hw190
def k1_off127 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_209 : BitVec 32 := 16#32
  let v238 : BitVec 32 := Scalar.muli arg11 c16_i32_209
  let c16_i32_210 : BitVec 32 := 16#32
  let v239 : BitVec 32 := Scalar.muli v238 c16_i32_210
  let c112_i32 : BitVec 32 := 112#32
  let v240 : BitVec 32 := Scalar.addi v239 c112_i32
  let v241 : Index := Scalar.indexCast v240
  ![v241.toNat]

def k1_chk191 (v249 : IVec S16 32) : Prop :=
  (∀ a x, ((![v249] : Fin 1 → IVec S16 32) a x).toNat < S4096.size a) ∧
  (∀ a x, ((![v249] : Fin 1 → IVec S16 32) a x).toNat < S4096.size a)
theorem k1_idx246_inb : ∀ (v249 : IVec S16 32) (k1_hw191 : k1_chk191 v249), ∀ a x, ((![v249] : Fin 1 → IVec S16 32) a x).toNat < S4096.size a := fun v249 k1_hw191 => k1_hw191.1
theorem k1_idx247_inb : ∀ (v249 : IVec S16 32) (k1_hw191 : k1_chk191 v249), ∀ a x, ((![v249] : Fin 1 → IVec S16 32) a x).toNat < S4096.size a := fun v249 k1_hw191 => k1_hw191.2

def k1_chk192 (v250 : IVec S16 32) : Prop :=
  (∀ a x, ((![v250] : Fin 1 → IVec S16 32) a x).toNat < S32768.size a)
theorem k1_idx248_inb : ∀ (v250 : IVec S16 32) (k1_hw192 : k1_chk192 v250), ∀ a x, ((![v250] : Fin 1 → IVec S16 32) a x).toNat < S32768.size a := fun v250 k1_hw192 => k1_hw192
def k1_off128 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_218 : BitVec 32 := 16#32
  let v261 : BitVec 32 := Scalar.muli arg11 c16_i32_218
  let c16_i32_219 : BitVec 32 := 16#32
  let v262 : BitVec 32 := Scalar.muli v261 c16_i32_219
  let c128_i32_220 : BitVec 32 := 128#32
  let v263 : BitVec 32 := Scalar.addi v262 c128_i32_220
  let v264 : Index := Scalar.indexCast v263
  ![v264.toNat]

def k1_chk193 (v272 : IVec S16 32) : Prop :=
  (∀ a x, ((![v272] : Fin 1 → IVec S16 32) a x).toNat < S4096.size a) ∧
  (∀ a x, ((![v272] : Fin 1 → IVec S16 32) a x).toNat < S4096.size a)
theorem k1_idx249_inb : ∀ (v272 : IVec S16 32) (k1_hw193 : k1_chk193 v272), ∀ a x, ((![v272] : Fin 1 → IVec S16 32) a x).toNat < S4096.size a := fun v272 k1_hw193 => k1_hw193.1
theorem k1_idx250_inb : ∀ (v272 : IVec S16 32) (k1_hw193 : k1_chk193 v272), ∀ a x, ((![v272] : Fin 1 → IVec S16 32) a x).toNat < S4096.size a := fun v272 k1_hw193 => k1_hw193.2

def k1_chk194 (v273 : IVec S16 32) : Prop :=
  (∀ a x, ((![v273] : Fin 1 → IVec S16 32) a x).toNat < S32768.size a)
theorem k1_idx251_inb : ∀ (v273 : IVec S16 32) (k1_hw194 : k1_chk194 v273), ∀ a x, ((![v273] : Fin 1 → IVec S16 32) a x).toNat < S32768.size a := fun v273 k1_hw194 => k1_hw194
def k1_off129 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_228 : BitVec 32 := 16#32
  let v284 : BitVec 32 := Scalar.muli arg11 c16_i32_228
  let c16_i32_229 : BitVec 32 := 16#32
  let v285 : BitVec 32 := Scalar.muli v284 c16_i32_229
  let c144_i32 : BitVec 32 := 144#32
  let v286 : BitVec 32 := Scalar.addi v285 c144_i32
  let v287 : Index := Scalar.indexCast v286
  ![v287.toNat]

def k1_chk195 (v295 : IVec S16 32) : Prop :=
  (∀ a x, ((![v295] : Fin 1 → IVec S16 32) a x).toNat < S4096.size a) ∧
  (∀ a x, ((![v295] : Fin 1 → IVec S16 32) a x).toNat < S4096.size a)
theorem k1_idx252_inb : ∀ (v295 : IVec S16 32) (k1_hw195 : k1_chk195 v295), ∀ a x, ((![v295] : Fin 1 → IVec S16 32) a x).toNat < S4096.size a := fun v295 k1_hw195 => k1_hw195.1
theorem k1_idx253_inb : ∀ (v295 : IVec S16 32) (k1_hw195 : k1_chk195 v295), ∀ a x, ((![v295] : Fin 1 → IVec S16 32) a x).toNat < S4096.size a := fun v295 k1_hw195 => k1_hw195.2

def k1_chk196 (v296 : IVec S16 32) : Prop :=
  (∀ a x, ((![v296] : Fin 1 → IVec S16 32) a x).toNat < S32768.size a)
theorem k1_idx254_inb : ∀ (v296 : IVec S16 32) (k1_hw196 : k1_chk196 v296), ∀ a x, ((![v296] : Fin 1 → IVec S16 32) a x).toNat < S32768.size a := fun v296 k1_hw196 => k1_hw196
def k1_off130 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_237 : BitVec 32 := 16#32
  let v307 : BitVec 32 := Scalar.muli arg11 c16_i32_237
  let c16_i32_238 : BitVec 32 := 16#32
  let v308 : BitVec 32 := Scalar.muli v307 c16_i32_238
  let c160_i32 : BitVec 32 := 160#32
  let v309 : BitVec 32 := Scalar.addi v308 c160_i32
  let v310 : Index := Scalar.indexCast v309
  ![v310.toNat]

def k1_chk197 (v318 : IVec S16 32) : Prop :=
  (∀ a x, ((![v318] : Fin 1 → IVec S16 32) a x).toNat < S4096.size a) ∧
  (∀ a x, ((![v318] : Fin 1 → IVec S16 32) a x).toNat < S4096.size a)
theorem k1_idx255_inb : ∀ (v318 : IVec S16 32) (k1_hw197 : k1_chk197 v318), ∀ a x, ((![v318] : Fin 1 → IVec S16 32) a x).toNat < S4096.size a := fun v318 k1_hw197 => k1_hw197.1
theorem k1_idx256_inb : ∀ (v318 : IVec S16 32) (k1_hw197 : k1_chk197 v318), ∀ a x, ((![v318] : Fin 1 → IVec S16 32) a x).toNat < S4096.size a := fun v318 k1_hw197 => k1_hw197.2

def k1_chk198 (v319 : IVec S16 32) : Prop :=
  (∀ a x, ((![v319] : Fin 1 → IVec S16 32) a x).toNat < S32768.size a)
theorem k1_idx257_inb : ∀ (v319 : IVec S16 32) (k1_hw198 : k1_chk198 v319), ∀ a x, ((![v319] : Fin 1 → IVec S16 32) a x).toNat < S32768.size a := fun v319 k1_hw198 => k1_hw198
def k1_off131 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_246 : BitVec 32 := 16#32
  let v330 : BitVec 32 := Scalar.muli arg11 c16_i32_246
  let c16_i32_247 : BitVec 32 := 16#32
  let v331 : BitVec 32 := Scalar.muli v330 c16_i32_247
  let c176_i32 : BitVec 32 := 176#32
  let v332 : BitVec 32 := Scalar.addi v331 c176_i32
  let v333 : Index := Scalar.indexCast v332
  ![v333.toNat]

def k1_chk199 (v341 : IVec S16 32) : Prop :=
  (∀ a x, ((![v341] : Fin 1 → IVec S16 32) a x).toNat < S4096.size a) ∧
  (∀ a x, ((![v341] : Fin 1 → IVec S16 32) a x).toNat < S4096.size a)
theorem k1_idx258_inb : ∀ (v341 : IVec S16 32) (k1_hw199 : k1_chk199 v341), ∀ a x, ((![v341] : Fin 1 → IVec S16 32) a x).toNat < S4096.size a := fun v341 k1_hw199 => k1_hw199.1
theorem k1_idx259_inb : ∀ (v341 : IVec S16 32) (k1_hw199 : k1_chk199 v341), ∀ a x, ((![v341] : Fin 1 → IVec S16 32) a x).toNat < S4096.size a := fun v341 k1_hw199 => k1_hw199.2

def k1_chk200 (v342 : IVec S16 32) : Prop :=
  (∀ a x, ((![v342] : Fin 1 → IVec S16 32) a x).toNat < S32768.size a)
theorem k1_idx260_inb : ∀ (v342 : IVec S16 32) (k1_hw200 : k1_chk200 v342), ∀ a x, ((![v342] : Fin 1 → IVec S16 32) a x).toNat < S32768.size a := fun v342 k1_hw200 => k1_hw200
def k1_off132 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_255 : BitVec 32 := 16#32
  let v353 : BitVec 32 := Scalar.muli arg11 c16_i32_255
  let c16_i32_256 : BitVec 32 := 16#32
  let v354 : BitVec 32 := Scalar.muli v353 c16_i32_256
  let c192_i32 : BitVec 32 := 192#32
  let v355 : BitVec 32 := Scalar.addi v354 c192_i32
  let v356 : Index := Scalar.indexCast v355
  ![v356.toNat]

def k1_chk201 (v364 : IVec S16 32) : Prop :=
  (∀ a x, ((![v364] : Fin 1 → IVec S16 32) a x).toNat < S4096.size a) ∧
  (∀ a x, ((![v364] : Fin 1 → IVec S16 32) a x).toNat < S4096.size a)
theorem k1_idx261_inb : ∀ (v364 : IVec S16 32) (k1_hw201 : k1_chk201 v364), ∀ a x, ((![v364] : Fin 1 → IVec S16 32) a x).toNat < S4096.size a := fun v364 k1_hw201 => k1_hw201.1
theorem k1_idx262_inb : ∀ (v364 : IVec S16 32) (k1_hw201 : k1_chk201 v364), ∀ a x, ((![v364] : Fin 1 → IVec S16 32) a x).toNat < S4096.size a := fun v364 k1_hw201 => k1_hw201.2

def k1_chk202 (v365 : IVec S16 32) : Prop :=
  (∀ a x, ((![v365] : Fin 1 → IVec S16 32) a x).toNat < S32768.size a)
theorem k1_idx263_inb : ∀ (v365 : IVec S16 32) (k1_hw202 : k1_chk202 v365), ∀ a x, ((![v365] : Fin 1 → IVec S16 32) a x).toNat < S32768.size a := fun v365 k1_hw202 => k1_hw202
def k1_off133 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_264 : BitVec 32 := 16#32
  let v376 : BitVec 32 := Scalar.muli arg11 c16_i32_264
  let c16_i32_265 : BitVec 32 := 16#32
  let v377 : BitVec 32 := Scalar.muli v376 c16_i32_265
  let c208_i32 : BitVec 32 := 208#32
  let v378 : BitVec 32 := Scalar.addi v377 c208_i32
  let v379 : Index := Scalar.indexCast v378
  ![v379.toNat]

def k1_chk203 (v387 : IVec S16 32) : Prop :=
  (∀ a x, ((![v387] : Fin 1 → IVec S16 32) a x).toNat < S4096.size a) ∧
  (∀ a x, ((![v387] : Fin 1 → IVec S16 32) a x).toNat < S4096.size a)
theorem k1_idx264_inb : ∀ (v387 : IVec S16 32) (k1_hw203 : k1_chk203 v387), ∀ a x, ((![v387] : Fin 1 → IVec S16 32) a x).toNat < S4096.size a := fun v387 k1_hw203 => k1_hw203.1
theorem k1_idx265_inb : ∀ (v387 : IVec S16 32) (k1_hw203 : k1_chk203 v387), ∀ a x, ((![v387] : Fin 1 → IVec S16 32) a x).toNat < S4096.size a := fun v387 k1_hw203 => k1_hw203.2

def k1_chk204 (v388 : IVec S16 32) : Prop :=
  (∀ a x, ((![v388] : Fin 1 → IVec S16 32) a x).toNat < S32768.size a)
theorem k1_idx266_inb : ∀ (v388 : IVec S16 32) (k1_hw204 : k1_chk204 v388), ∀ a x, ((![v388] : Fin 1 → IVec S16 32) a x).toNat < S32768.size a := fun v388 k1_hw204 => k1_hw204
def k1_off134 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_273 : BitVec 32 := 16#32
  let v399 : BitVec 32 := Scalar.muli arg11 c16_i32_273
  let c16_i32_274 : BitVec 32 := 16#32
  let v400 : BitVec 32 := Scalar.muli v399 c16_i32_274
  let c224_i32 : BitVec 32 := 224#32
  let v401 : BitVec 32 := Scalar.addi v400 c224_i32
  let v402 : Index := Scalar.indexCast v401
  ![v402.toNat]

def k1_chk205 (v410 : IVec S16 32) : Prop :=
  (∀ a x, ((![v410] : Fin 1 → IVec S16 32) a x).toNat < S4096.size a) ∧
  (∀ a x, ((![v410] : Fin 1 → IVec S16 32) a x).toNat < S4096.size a)
theorem k1_idx267_inb : ∀ (v410 : IVec S16 32) (k1_hw205 : k1_chk205 v410), ∀ a x, ((![v410] : Fin 1 → IVec S16 32) a x).toNat < S4096.size a := fun v410 k1_hw205 => k1_hw205.1
theorem k1_idx268_inb : ∀ (v410 : IVec S16 32) (k1_hw205 : k1_chk205 v410), ∀ a x, ((![v410] : Fin 1 → IVec S16 32) a x).toNat < S4096.size a := fun v410 k1_hw205 => k1_hw205.2

def k1_chk206 (v411 : IVec S16 32) : Prop :=
  (∀ a x, ((![v411] : Fin 1 → IVec S16 32) a x).toNat < S32768.size a)
theorem k1_idx269_inb : ∀ (v411 : IVec S16 32) (k1_hw206 : k1_chk206 v411), ∀ a x, ((![v411] : Fin 1 → IVec S16 32) a x).toNat < S32768.size a := fun v411 k1_hw206 => k1_hw206
def k1_off135 (k1_t13 : Fin k1_t13_loop.trips) : Fin 1 → Nat :=
  let c0_i32_68 : BitVec 32 := 0#32
  let c1_i32_70 : BitVec 32 := 1#32
  let arg11 : BitVec 32 := Scf.iv c0_i32_68 c1_i32_70 k1_t13
  let c16_i32_282 : BitVec 32 := 16#32
  let v422 : BitVec 32 := Scalar.muli arg11 c16_i32_282
  let c16_i32_283 : BitVec 32 := 16#32
  let v423 : BitVec 32 := Scalar.muli v422 c16_i32_283
  let c240_i32 : BitVec 32 := 240#32
  let v424 : BitVec 32 := Scalar.addi v423 c240_i32
  let v425 : Index := Scalar.indexCast v424
  ![v425.toNat]

def k1_chk207 (v433 : IVec S16 32) : Prop :=
  (∀ a x, ((![v433] : Fin 1 → IVec S16 32) a x).toNat < S4096.size a) ∧
  (∀ a x, ((![v433] : Fin 1 → IVec S16 32) a x).toNat < S4096.size a)
theorem k1_idx270_inb : ∀ (v433 : IVec S16 32) (k1_hw207 : k1_chk207 v433), ∀ a x, ((![v433] : Fin 1 → IVec S16 32) a x).toNat < S4096.size a := fun v433 k1_hw207 => k1_hw207.1
theorem k1_idx271_inb : ∀ (v433 : IVec S16 32) (k1_hw207 : k1_chk207 v433), ∀ a x, ((![v433] : Fin 1 → IVec S16 32) a x).toNat < S4096.size a := fun v433 k1_hw207 => k1_hw207.2

def k1_chk208 (v434 : IVec S16 32) : Prop :=
  (∀ a x, ((![v434] : Fin 1 → IVec S16 32) a x).toNat < S32768.size a)
theorem k1_idx272_inb : ∀ (v434 : IVec S16 32) (k1_hw208 : k1_chk208 v434), ∀ a x, ((![v434] : Fin 1 → IVec S16 32) a x).toNat < S32768.size a := fun v434 k1_hw208 => k1_hw208
@[reducible] def k1_t14_loop : Scf.Loop 32 :=
  let c0_i32_73 : BitVec 32 := 0#32
  let c16_i32_74 : BitVec 32 := 16#32
  let v38 : BitVec 32 := Scalar.addi c0_i32_73 c16_i32_74
  let c1_i32_75 : BitVec 32 := 1#32
  ⟨c0_i32_73, v38, c1_i32_75⟩
def k1_off136 (k1_t14 : Fin k1_t14_loop.trips) (c0_i32_151 : BitVec 32) : Fin 1 → Nat :=
  let c0_i32_73 : BitVec 32 := 0#32
  let c1_i32_75 : BitVec 32 := 1#32
  let arg11 : BitVec 32 := Scf.iv c0_i32_73 c1_i32_75 k1_t14
  let c16_i32_149 : BitVec 32 := 16#32
  let v77 : BitVec 32 := Scalar.muli arg11 c16_i32_149
  let c16_i32_150 : BitVec 32 := 16#32
  let v78 : BitVec 32 := Scalar.muli v77 c16_i32_150
  let v79 : BitVec 32 := Scalar.addi v78 c0_i32_151
  let v80 : Index := Scalar.indexCast v79
  ![v80.toNat]
def k1_off137 (i : grid1.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v11 : BitVec 32 := Scalar.muli v1 c2_i32_7
  let v12 : BitVec 32 := Scalar.addi v11 c0_i32_8
  let c0_i32_77 : BitVec 32 := 0#32
  ![v12.toNat, 0]
@[reducible] def k1_t15_loop : Scf.Loop 32 :=
  let c0_i32_84 : BitVec 32 := 0#32
  let c128_i32_85 : BitVec 32 := 128#32
  let v49 : BitVec 32 := Scalar.addi c0_i32_84 c128_i32_85
  let c1_i32_86 : BitVec 32 := 1#32
  ⟨c0_i32_84, v49, c1_i32_86⟩
def k1_off138 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk209 (v86 : IVec S16 32) : Prop :=
  (∀ a x, ((![v86] : Fin 1 → IVec S16 32) a x).toNat < S4096.size a)
theorem k1_idx273_inb : ∀ (v86 : IVec S16 32) (k1_hw209 : k1_chk209 v86), ∀ a x, ((![v86] : Fin 1 → IVec S16 32) a x).toNat < S4096.size a := fun v86 k1_hw209 => k1_hw209
def k1_off139 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_152 : BitVec 32 := 16#32
  let v87 : BitVec 32 := Scalar.muli arg11 c16_i32_152
  let c16_i32_153 : BitVec 32 := 16#32
  let v88 : BitVec 32 := Scalar.muli v87 c16_i32_153
  let c16_i32_154 : BitVec 32 := 16#32
  let v89 : BitVec 32 := Scalar.addi v88 c16_i32_154
  let v90 : Index := Scalar.indexCast v89
  ![v90.toNat]

def k1_chk210 (v96 : IVec S16 32) : Prop :=
  (∀ a x, ((![v96] : Fin 1 → IVec S16 32) a x).toNat < S4096.size a)
theorem k1_idx274_inb : ∀ (v96 : IVec S16 32) (k1_hw210 : k1_chk210 v96), ∀ a x, ((![v96] : Fin 1 → IVec S16 32) a x).toNat < S4096.size a := fun v96 k1_hw210 => k1_hw210
def k1_off140 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_157 : BitVec 32 := 16#32
  let v97 : BitVec 32 := Scalar.muli arg11 c16_i32_157
  let c16_i32_158 : BitVec 32 := 16#32
  let v98 : BitVec 32 := Scalar.muli v97 c16_i32_158
  let c32_i32 : BitVec 32 := 32#32
  let v99 : BitVec 32 := Scalar.addi v98 c32_i32
  let v100 : Index := Scalar.indexCast v99
  ![v100.toNat]

def k1_chk211 (v106 : IVec S16 32) : Prop :=
  (∀ a x, ((![v106] : Fin 1 → IVec S16 32) a x).toNat < S4096.size a)
theorem k1_idx275_inb : ∀ (v106 : IVec S16 32) (k1_hw211 : k1_chk211 v106), ∀ a x, ((![v106] : Fin 1 → IVec S16 32) a x).toNat < S4096.size a := fun v106 k1_hw211 => k1_hw211
def k1_off141 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_161 : BitVec 32 := 16#32
  let v107 : BitVec 32 := Scalar.muli arg11 c16_i32_161
  let c16_i32_162 : BitVec 32 := 16#32
  let v108 : BitVec 32 := Scalar.muli v107 c16_i32_162
  let c48_i32 : BitVec 32 := 48#32
  let v109 : BitVec 32 := Scalar.addi v108 c48_i32
  let v110 : Index := Scalar.indexCast v109
  ![v110.toNat]

def k1_chk212 (v116 : IVec S16 32) : Prop :=
  (∀ a x, ((![v116] : Fin 1 → IVec S16 32) a x).toNat < S4096.size a)
theorem k1_idx276_inb : ∀ (v116 : IVec S16 32) (k1_hw212 : k1_chk212 v116), ∀ a x, ((![v116] : Fin 1 → IVec S16 32) a x).toNat < S4096.size a := fun v116 k1_hw212 => k1_hw212
def k1_off142 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_165 : BitVec 32 := 16#32
  let v117 : BitVec 32 := Scalar.muli arg11 c16_i32_165
  let c16_i32_166 : BitVec 32 := 16#32
  let v118 : BitVec 32 := Scalar.muli v117 c16_i32_166
  let c64_i32 : BitVec 32 := 64#32
  let v119 : BitVec 32 := Scalar.addi v118 c64_i32
  let v120 : Index := Scalar.indexCast v119
  ![v120.toNat]

def k1_chk213 (v126 : IVec S16 32) : Prop :=
  (∀ a x, ((![v126] : Fin 1 → IVec S16 32) a x).toNat < S4096.size a)
theorem k1_idx277_inb : ∀ (v126 : IVec S16 32) (k1_hw213 : k1_chk213 v126), ∀ a x, ((![v126] : Fin 1 → IVec S16 32) a x).toNat < S4096.size a := fun v126 k1_hw213 => k1_hw213
def k1_off143 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_169 : BitVec 32 := 16#32
  let v127 : BitVec 32 := Scalar.muli arg11 c16_i32_169
  let c16_i32_170 : BitVec 32 := 16#32
  let v128 : BitVec 32 := Scalar.muli v127 c16_i32_170
  let c80_i32 : BitVec 32 := 80#32
  let v129 : BitVec 32 := Scalar.addi v128 c80_i32
  let v130 : Index := Scalar.indexCast v129
  ![v130.toNat]

def k1_chk214 (v136 : IVec S16 32) : Prop :=
  (∀ a x, ((![v136] : Fin 1 → IVec S16 32) a x).toNat < S4096.size a)
theorem k1_idx278_inb : ∀ (v136 : IVec S16 32) (k1_hw214 : k1_chk214 v136), ∀ a x, ((![v136] : Fin 1 → IVec S16 32) a x).toNat < S4096.size a := fun v136 k1_hw214 => k1_hw214
def k1_off144 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_173 : BitVec 32 := 16#32
  let v137 : BitVec 32 := Scalar.muli arg11 c16_i32_173
  let c16_i32_174 : BitVec 32 := 16#32
  let v138 : BitVec 32 := Scalar.muli v137 c16_i32_174
  let c96_i32 : BitVec 32 := 96#32
  let v139 : BitVec 32 := Scalar.addi v138 c96_i32
  let v140 : Index := Scalar.indexCast v139
  ![v140.toNat]

def k1_chk215 (v146 : IVec S16 32) : Prop :=
  (∀ a x, ((![v146] : Fin 1 → IVec S16 32) a x).toNat < S4096.size a)
theorem k1_idx279_inb : ∀ (v146 : IVec S16 32) (k1_hw215 : k1_chk215 v146), ∀ a x, ((![v146] : Fin 1 → IVec S16 32) a x).toNat < S4096.size a := fun v146 k1_hw215 => k1_hw215
def k1_off145 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_177 : BitVec 32 := 16#32
  let v147 : BitVec 32 := Scalar.muli arg11 c16_i32_177
  let c16_i32_178 : BitVec 32 := 16#32
  let v148 : BitVec 32 := Scalar.muli v147 c16_i32_178
  let c112_i32 : BitVec 32 := 112#32
  let v149 : BitVec 32 := Scalar.addi v148 c112_i32
  let v150 : Index := Scalar.indexCast v149
  ![v150.toNat]

def k1_chk216 (v156 : IVec S16 32) : Prop :=
  (∀ a x, ((![v156] : Fin 1 → IVec S16 32) a x).toNat < S4096.size a)
theorem k1_idx280_inb : ∀ (v156 : IVec S16 32) (k1_hw216 : k1_chk216 v156), ∀ a x, ((![v156] : Fin 1 → IVec S16 32) a x).toNat < S4096.size a := fun v156 k1_hw216 => k1_hw216
def k1_off146 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_181 : BitVec 32 := 16#32
  let v157 : BitVec 32 := Scalar.muli arg11 c16_i32_181
  let c16_i32_182 : BitVec 32 := 16#32
  let v158 : BitVec 32 := Scalar.muli v157 c16_i32_182
  let c128_i32_183 : BitVec 32 := 128#32
  let v159 : BitVec 32 := Scalar.addi v158 c128_i32_183
  let v160 : Index := Scalar.indexCast v159
  ![v160.toNat]

def k1_chk217 (v166 : IVec S16 32) : Prop :=
  (∀ a x, ((![v166] : Fin 1 → IVec S16 32) a x).toNat < S4096.size a)
theorem k1_idx281_inb : ∀ (v166 : IVec S16 32) (k1_hw217 : k1_chk217 v166), ∀ a x, ((![v166] : Fin 1 → IVec S16 32) a x).toNat < S4096.size a := fun v166 k1_hw217 => k1_hw217
def k1_off147 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_186 : BitVec 32 := 16#32
  let v167 : BitVec 32 := Scalar.muli arg11 c16_i32_186
  let c16_i32_187 : BitVec 32 := 16#32
  let v168 : BitVec 32 := Scalar.muli v167 c16_i32_187
  let c144_i32 : BitVec 32 := 144#32
  let v169 : BitVec 32 := Scalar.addi v168 c144_i32
  let v170 : Index := Scalar.indexCast v169
  ![v170.toNat]

def k1_chk218 (v176 : IVec S16 32) : Prop :=
  (∀ a x, ((![v176] : Fin 1 → IVec S16 32) a x).toNat < S4096.size a)
theorem k1_idx282_inb : ∀ (v176 : IVec S16 32) (k1_hw218 : k1_chk218 v176), ∀ a x, ((![v176] : Fin 1 → IVec S16 32) a x).toNat < S4096.size a := fun v176 k1_hw218 => k1_hw218
def k1_off148 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_190 : BitVec 32 := 16#32
  let v177 : BitVec 32 := Scalar.muli arg11 c16_i32_190
  let c16_i32_191 : BitVec 32 := 16#32
  let v178 : BitVec 32 := Scalar.muli v177 c16_i32_191
  let c160_i32 : BitVec 32 := 160#32
  let v179 : BitVec 32 := Scalar.addi v178 c160_i32
  let v180 : Index := Scalar.indexCast v179
  ![v180.toNat]

def k1_chk219 (v186 : IVec S16 32) : Prop :=
  (∀ a x, ((![v186] : Fin 1 → IVec S16 32) a x).toNat < S4096.size a)
theorem k1_idx283_inb : ∀ (v186 : IVec S16 32) (k1_hw219 : k1_chk219 v186), ∀ a x, ((![v186] : Fin 1 → IVec S16 32) a x).toNat < S4096.size a := fun v186 k1_hw219 => k1_hw219
def k1_off149 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_194 : BitVec 32 := 16#32
  let v187 : BitVec 32 := Scalar.muli arg11 c16_i32_194
  let c16_i32_195 : BitVec 32 := 16#32
  let v188 : BitVec 32 := Scalar.muli v187 c16_i32_195
  let c176_i32 : BitVec 32 := 176#32
  let v189 : BitVec 32 := Scalar.addi v188 c176_i32
  let v190 : Index := Scalar.indexCast v189
  ![v190.toNat]

def k1_chk220 (v196 : IVec S16 32) : Prop :=
  (∀ a x, ((![v196] : Fin 1 → IVec S16 32) a x).toNat < S4096.size a)
theorem k1_idx284_inb : ∀ (v196 : IVec S16 32) (k1_hw220 : k1_chk220 v196), ∀ a x, ((![v196] : Fin 1 → IVec S16 32) a x).toNat < S4096.size a := fun v196 k1_hw220 => k1_hw220
def k1_off150 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_198 : BitVec 32 := 16#32
  let v197 : BitVec 32 := Scalar.muli arg11 c16_i32_198
  let c16_i32_199 : BitVec 32 := 16#32
  let v198 : BitVec 32 := Scalar.muli v197 c16_i32_199
  let c192_i32 : BitVec 32 := 192#32
  let v199 : BitVec 32 := Scalar.addi v198 c192_i32
  let v200 : Index := Scalar.indexCast v199
  ![v200.toNat]

def k1_chk221 (v206 : IVec S16 32) : Prop :=
  (∀ a x, ((![v206] : Fin 1 → IVec S16 32) a x).toNat < S4096.size a)
theorem k1_idx285_inb : ∀ (v206 : IVec S16 32) (k1_hw221 : k1_chk221 v206), ∀ a x, ((![v206] : Fin 1 → IVec S16 32) a x).toNat < S4096.size a := fun v206 k1_hw221 => k1_hw221
def k1_off151 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_202 : BitVec 32 := 16#32
  let v207 : BitVec 32 := Scalar.muli arg11 c16_i32_202
  let c16_i32_203 : BitVec 32 := 16#32
  let v208 : BitVec 32 := Scalar.muli v207 c16_i32_203
  let c208_i32 : BitVec 32 := 208#32
  let v209 : BitVec 32 := Scalar.addi v208 c208_i32
  let v210 : Index := Scalar.indexCast v209
  ![v210.toNat]

def k1_chk222 (v216 : IVec S16 32) : Prop :=
  (∀ a x, ((![v216] : Fin 1 → IVec S16 32) a x).toNat < S4096.size a)
theorem k1_idx286_inb : ∀ (v216 : IVec S16 32) (k1_hw222 : k1_chk222 v216), ∀ a x, ((![v216] : Fin 1 → IVec S16 32) a x).toNat < S4096.size a := fun v216 k1_hw222 => k1_hw222
def k1_off152 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_206 : BitVec 32 := 16#32
  let v217 : BitVec 32 := Scalar.muli arg11 c16_i32_206
  let c16_i32_207 : BitVec 32 := 16#32
  let v218 : BitVec 32 := Scalar.muli v217 c16_i32_207
  let c224_i32 : BitVec 32 := 224#32
  let v219 : BitVec 32 := Scalar.addi v218 c224_i32
  let v220 : Index := Scalar.indexCast v219
  ![v220.toNat]

def k1_chk223 (v226 : IVec S16 32) : Prop :=
  (∀ a x, ((![v226] : Fin 1 → IVec S16 32) a x).toNat < S4096.size a)
theorem k1_idx287_inb : ∀ (v226 : IVec S16 32) (k1_hw223 : k1_chk223 v226), ∀ a x, ((![v226] : Fin 1 → IVec S16 32) a x).toNat < S4096.size a := fun v226 k1_hw223 => k1_hw223
def k1_off153 (k1_t15 : Fin k1_t15_loop.trips) : Fin 1 → Nat :=
  let c0_i32_84 : BitVec 32 := 0#32
  let c1_i32_86 : BitVec 32 := 1#32
  let arg11 : BitVec 32 := Scf.iv c0_i32_84 c1_i32_86 k1_t15
  let c16_i32_210 : BitVec 32 := 16#32
  let v227 : BitVec 32 := Scalar.muli arg11 c16_i32_210
  let c16_i32_211 : BitVec 32 := 16#32
  let v228 : BitVec 32 := Scalar.muli v227 c16_i32_211
  let c240_i32 : BitVec 32 := 240#32
  let v229 : BitVec 32 := Scalar.addi v228 c240_i32
  let v230 : Index := Scalar.indexCast v229
  ![v230.toNat]

def k1_chk224 (v236 : IVec S16 32) : Prop :=
  (∀ a x, ((![v236] : Fin 1 → IVec S16 32) a x).toNat < S4096.size a)
theorem k1_idx288_inb : ∀ (v236 : IVec S16 32) (k1_hw224 : k1_chk224 v236), ∀ a x, ((![v236] : Fin 1 → IVec S16 32) a x).toNat < S4096.size a := fun v236 k1_hw224 => k1_hw224
@[reducible] def k1_t16_loop : Scf.Loop 32 :=
  let c0_i32_89 : BitVec 32 := 0#32
  let c256_i32_90 : BitVec 32 := 256#32
  let v50 : BitVec 32 := Scalar.addi c0_i32_89 c256_i32_90
  let c1_i32_91 : BitVec 32 := 1#32
  ⟨c0_i32_89, v50, c1_i32_91⟩
def k1_off154 (k1_t16 : Fin k1_t16_loop.trips) : Fin 1 → Nat :=
  let c0_i32_89 : BitVec 32 := 0#32
  let c1_i32_91 : BitVec 32 := 1#32
  let arg11 : BitVec 32 := Scf.iv c0_i32_89 c1_i32_91 k1_t16
  let c16_i32_149 : BitVec 32 := 16#32
  let v77 : BitVec 32 := Scalar.muli arg11 c16_i32_149
  let v78 : Index := Scalar.indexCast v77
  ![v78.toNat]
@[reducible] def k1_t17_loop : Scf.Loop 32 :=
  let c0_i32_94 : BitVec 32 := 0#32
  let c128_i32_95 : BitVec 32 := 128#32
  let v52 : BitVec 32 := Scalar.addi c0_i32_94 c128_i32_95
  let c1_i32_96 : BitVec 32 := 1#32
  ⟨c0_i32_94, v52, c1_i32_96⟩
def k1_off155 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk225 (v86 : IVec S16 32) : Prop :=
  (∀ a x, ((![v86] : Fin 1 → IVec S16 32) a x).toNat < S4096.size a) ∧
  (∀ a x, ((![v86] : Fin 1 → IVec S16 32) a x).toNat < S4096.size a)
theorem k1_idx289_inb : ∀ (v86 : IVec S16 32) (k1_hw225 : k1_chk225 v86), ∀ a x, ((![v86] : Fin 1 → IVec S16 32) a x).toNat < S4096.size a := fun v86 k1_hw225 => k1_hw225.1
theorem k1_idx290_inb : ∀ (v86 : IVec S16 32) (k1_hw225 : k1_chk225 v86), ∀ a x, ((![v86] : Fin 1 → IVec S16 32) a x).toNat < S4096.size a := fun v86 k1_hw225 => k1_hw225.2

def k1_chk226 (v111 : IVec S16 32) : Prop :=
  (∀ a x, ((![v111] : Fin 1 → IVec S16 32) a x).toNat < S32768.size a)
theorem k1_idx291_inb : ∀ (v111 : IVec S16 32) (k1_hw226 : k1_chk226 v111), ∀ a x, ((![v111] : Fin 1 → IVec S16 32) a x).toNat < S32768.size a := fun v111 k1_hw226 => k1_hw226
def k1_off156 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_156 : BitVec 32 := 16#32
  let v112 : BitVec 32 := Scalar.muli arg11 c16_i32_156
  let c16_i32_157 : BitVec 32 := 16#32
  let v113 : BitVec 32 := Scalar.muli v112 c16_i32_157
  let c16_i32_158 : BitVec 32 := 16#32
  let v114 : BitVec 32 := Scalar.addi v113 c16_i32_158
  let v115 : Index := Scalar.indexCast v114
  ![v115.toNat]

def k1_chk227 (v121 : IVec S16 32) : Prop :=
  (∀ a x, ((![v121] : Fin 1 → IVec S16 32) a x).toNat < S4096.size a) ∧
  (∀ a x, ((![v121] : Fin 1 → IVec S16 32) a x).toNat < S4096.size a)
theorem k1_idx292_inb : ∀ (v121 : IVec S16 32) (k1_hw227 : k1_chk227 v121), ∀ a x, ((![v121] : Fin 1 → IVec S16 32) a x).toNat < S4096.size a := fun v121 k1_hw227 => k1_hw227.1
theorem k1_idx293_inb : ∀ (v121 : IVec S16 32) (k1_hw227 : k1_chk227 v121), ∀ a x, ((![v121] : Fin 1 → IVec S16 32) a x).toNat < S4096.size a := fun v121 k1_hw227 => k1_hw227.2

def k1_chk228 (v146 : IVec S16 32) : Prop :=
  (∀ a x, ((![v146] : Fin 1 → IVec S16 32) a x).toNat < S32768.size a)
theorem k1_idx294_inb : ∀ (v146 : IVec S16 32) (k1_hw228 : k1_chk228 v146), ∀ a x, ((![v146] : Fin 1 → IVec S16 32) a x).toNat < S32768.size a := fun v146 k1_hw228 => k1_hw228
def k1_off157 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_170 : BitVec 32 := 16#32
  let v147 : BitVec 32 := Scalar.muli arg11 c16_i32_170
  let c16_i32_171 : BitVec 32 := 16#32
  let v148 : BitVec 32 := Scalar.muli v147 c16_i32_171
  let c32_i32 : BitVec 32 := 32#32
  let v149 : BitVec 32 := Scalar.addi v148 c32_i32
  let v150 : Index := Scalar.indexCast v149
  ![v150.toNat]

def k1_chk229 (v156 : IVec S16 32) : Prop :=
  (∀ a x, ((![v156] : Fin 1 → IVec S16 32) a x).toNat < S4096.size a) ∧
  (∀ a x, ((![v156] : Fin 1 → IVec S16 32) a x).toNat < S4096.size a)
theorem k1_idx295_inb : ∀ (v156 : IVec S16 32) (k1_hw229 : k1_chk229 v156), ∀ a x, ((![v156] : Fin 1 → IVec S16 32) a x).toNat < S4096.size a := fun v156 k1_hw229 => k1_hw229.1
theorem k1_idx296_inb : ∀ (v156 : IVec S16 32) (k1_hw229 : k1_chk229 v156), ∀ a x, ((![v156] : Fin 1 → IVec S16 32) a x).toNat < S4096.size a := fun v156 k1_hw229 => k1_hw229.2

def k1_chk230 (v181 : IVec S16 32) : Prop :=
  (∀ a x, ((![v181] : Fin 1 → IVec S16 32) a x).toNat < S32768.size a)
theorem k1_idx297_inb : ∀ (v181 : IVec S16 32) (k1_hw230 : k1_chk230 v181), ∀ a x, ((![v181] : Fin 1 → IVec S16 32) a x).toNat < S32768.size a := fun v181 k1_hw230 => k1_hw230
def k1_off158 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_183 : BitVec 32 := 16#32
  let v182 : BitVec 32 := Scalar.muli arg11 c16_i32_183
  let c16_i32_184 : BitVec 32 := 16#32
  let v183 : BitVec 32 := Scalar.muli v182 c16_i32_184
  let c48_i32 : BitVec 32 := 48#32
  let v184 : BitVec 32 := Scalar.addi v183 c48_i32
  let v185 : Index := Scalar.indexCast v184
  ![v185.toNat]

def k1_chk231 (v191 : IVec S16 32) : Prop :=
  (∀ a x, ((![v191] : Fin 1 → IVec S16 32) a x).toNat < S4096.size a) ∧
  (∀ a x, ((![v191] : Fin 1 → IVec S16 32) a x).toNat < S4096.size a)
theorem k1_idx298_inb : ∀ (v191 : IVec S16 32) (k1_hw231 : k1_chk231 v191), ∀ a x, ((![v191] : Fin 1 → IVec S16 32) a x).toNat < S4096.size a := fun v191 k1_hw231 => k1_hw231.1
theorem k1_idx299_inb : ∀ (v191 : IVec S16 32) (k1_hw231 : k1_chk231 v191), ∀ a x, ((![v191] : Fin 1 → IVec S16 32) a x).toNat < S4096.size a := fun v191 k1_hw231 => k1_hw231.2

def k1_chk232 (v216 : IVec S16 32) : Prop :=
  (∀ a x, ((![v216] : Fin 1 → IVec S16 32) a x).toNat < S32768.size a)
theorem k1_idx300_inb : ∀ (v216 : IVec S16 32) (k1_hw232 : k1_chk232 v216), ∀ a x, ((![v216] : Fin 1 → IVec S16 32) a x).toNat < S32768.size a := fun v216 k1_hw232 => k1_hw232
def k1_off159 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_196 : BitVec 32 := 16#32
  let v217 : BitVec 32 := Scalar.muli arg11 c16_i32_196
  let c16_i32_197 : BitVec 32 := 16#32
  let v218 : BitVec 32 := Scalar.muli v217 c16_i32_197
  let c64_i32 : BitVec 32 := 64#32
  let v219 : BitVec 32 := Scalar.addi v218 c64_i32
  let v220 : Index := Scalar.indexCast v219
  ![v220.toNat]

def k1_chk233 (v226 : IVec S16 32) : Prop :=
  (∀ a x, ((![v226] : Fin 1 → IVec S16 32) a x).toNat < S4096.size a) ∧
  (∀ a x, ((![v226] : Fin 1 → IVec S16 32) a x).toNat < S4096.size a)
theorem k1_idx301_inb : ∀ (v226 : IVec S16 32) (k1_hw233 : k1_chk233 v226), ∀ a x, ((![v226] : Fin 1 → IVec S16 32) a x).toNat < S4096.size a := fun v226 k1_hw233 => k1_hw233.1
theorem k1_idx302_inb : ∀ (v226 : IVec S16 32) (k1_hw233 : k1_chk233 v226), ∀ a x, ((![v226] : Fin 1 → IVec S16 32) a x).toNat < S4096.size a := fun v226 k1_hw233 => k1_hw233.2

def k1_chk234 (v251 : IVec S16 32) : Prop :=
  (∀ a x, ((![v251] : Fin 1 → IVec S16 32) a x).toNat < S32768.size a)
theorem k1_idx303_inb : ∀ (v251 : IVec S16 32) (k1_hw234 : k1_chk234 v251), ∀ a x, ((![v251] : Fin 1 → IVec S16 32) a x).toNat < S32768.size a := fun v251 k1_hw234 => k1_hw234
def k1_off160 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_209 : BitVec 32 := 16#32
  let v252 : BitVec 32 := Scalar.muli arg11 c16_i32_209
  let c16_i32_210 : BitVec 32 := 16#32
  let v253 : BitVec 32 := Scalar.muli v252 c16_i32_210
  let c80_i32 : BitVec 32 := 80#32
  let v254 : BitVec 32 := Scalar.addi v253 c80_i32
  let v255 : Index := Scalar.indexCast v254
  ![v255.toNat]

def k1_chk235 (v261 : IVec S16 32) : Prop :=
  (∀ a x, ((![v261] : Fin 1 → IVec S16 32) a x).toNat < S4096.size a) ∧
  (∀ a x, ((![v261] : Fin 1 → IVec S16 32) a x).toNat < S4096.size a)
theorem k1_idx304_inb : ∀ (v261 : IVec S16 32) (k1_hw235 : k1_chk235 v261), ∀ a x, ((![v261] : Fin 1 → IVec S16 32) a x).toNat < S4096.size a := fun v261 k1_hw235 => k1_hw235.1
theorem k1_idx305_inb : ∀ (v261 : IVec S16 32) (k1_hw235 : k1_chk235 v261), ∀ a x, ((![v261] : Fin 1 → IVec S16 32) a x).toNat < S4096.size a := fun v261 k1_hw235 => k1_hw235.2

def k1_chk236 (v286 : IVec S16 32) : Prop :=
  (∀ a x, ((![v286] : Fin 1 → IVec S16 32) a x).toNat < S32768.size a)
theorem k1_idx306_inb : ∀ (v286 : IVec S16 32) (k1_hw236 : k1_chk236 v286), ∀ a x, ((![v286] : Fin 1 → IVec S16 32) a x).toNat < S32768.size a := fun v286 k1_hw236 => k1_hw236
def k1_off161 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_222 : BitVec 32 := 16#32
  let v287 : BitVec 32 := Scalar.muli arg11 c16_i32_222
  let c16_i32_223 : BitVec 32 := 16#32
  let v288 : BitVec 32 := Scalar.muli v287 c16_i32_223
  let c96_i32 : BitVec 32 := 96#32
  let v289 : BitVec 32 := Scalar.addi v288 c96_i32
  let v290 : Index := Scalar.indexCast v289
  ![v290.toNat]

def k1_chk237 (v296 : IVec S16 32) : Prop :=
  (∀ a x, ((![v296] : Fin 1 → IVec S16 32) a x).toNat < S4096.size a) ∧
  (∀ a x, ((![v296] : Fin 1 → IVec S16 32) a x).toNat < S4096.size a)
theorem k1_idx307_inb : ∀ (v296 : IVec S16 32) (k1_hw237 : k1_chk237 v296), ∀ a x, ((![v296] : Fin 1 → IVec S16 32) a x).toNat < S4096.size a := fun v296 k1_hw237 => k1_hw237.1
theorem k1_idx308_inb : ∀ (v296 : IVec S16 32) (k1_hw237 : k1_chk237 v296), ∀ a x, ((![v296] : Fin 1 → IVec S16 32) a x).toNat < S4096.size a := fun v296 k1_hw237 => k1_hw237.2

def k1_chk238 (v321 : IVec S16 32) : Prop :=
  (∀ a x, ((![v321] : Fin 1 → IVec S16 32) a x).toNat < S32768.size a)
theorem k1_idx309_inb : ∀ (v321 : IVec S16 32) (k1_hw238 : k1_chk238 v321), ∀ a x, ((![v321] : Fin 1 → IVec S16 32) a x).toNat < S32768.size a := fun v321 k1_hw238 => k1_hw238
def k1_off162 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_235 : BitVec 32 := 16#32
  let v322 : BitVec 32 := Scalar.muli arg11 c16_i32_235
  let c16_i32_236 : BitVec 32 := 16#32
  let v323 : BitVec 32 := Scalar.muli v322 c16_i32_236
  let c112_i32 : BitVec 32 := 112#32
  let v324 : BitVec 32 := Scalar.addi v323 c112_i32
  let v325 : Index := Scalar.indexCast v324
  ![v325.toNat]

def k1_chk239 (v331 : IVec S16 32) : Prop :=
  (∀ a x, ((![v331] : Fin 1 → IVec S16 32) a x).toNat < S4096.size a) ∧
  (∀ a x, ((![v331] : Fin 1 → IVec S16 32) a x).toNat < S4096.size a)
theorem k1_idx310_inb : ∀ (v331 : IVec S16 32) (k1_hw239 : k1_chk239 v331), ∀ a x, ((![v331] : Fin 1 → IVec S16 32) a x).toNat < S4096.size a := fun v331 k1_hw239 => k1_hw239.1
theorem k1_idx311_inb : ∀ (v331 : IVec S16 32) (k1_hw239 : k1_chk239 v331), ∀ a x, ((![v331] : Fin 1 → IVec S16 32) a x).toNat < S4096.size a := fun v331 k1_hw239 => k1_hw239.2

def k1_chk240 (v356 : IVec S16 32) : Prop :=
  (∀ a x, ((![v356] : Fin 1 → IVec S16 32) a x).toNat < S32768.size a)
theorem k1_idx312_inb : ∀ (v356 : IVec S16 32) (k1_hw240 : k1_chk240 v356), ∀ a x, ((![v356] : Fin 1 → IVec S16 32) a x).toNat < S32768.size a := fun v356 k1_hw240 => k1_hw240
def k1_off163 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_248 : BitVec 32 := 16#32
  let v357 : BitVec 32 := Scalar.muli arg11 c16_i32_248
  let c16_i32_249 : BitVec 32 := 16#32
  let v358 : BitVec 32 := Scalar.muli v357 c16_i32_249
  let c128_i32_250 : BitVec 32 := 128#32
  let v359 : BitVec 32 := Scalar.addi v358 c128_i32_250
  let v360 : Index := Scalar.indexCast v359
  ![v360.toNat]

def k1_chk241 (v366 : IVec S16 32) : Prop :=
  (∀ a x, ((![v366] : Fin 1 → IVec S16 32) a x).toNat < S4096.size a) ∧
  (∀ a x, ((![v366] : Fin 1 → IVec S16 32) a x).toNat < S4096.size a)
theorem k1_idx313_inb : ∀ (v366 : IVec S16 32) (k1_hw241 : k1_chk241 v366), ∀ a x, ((![v366] : Fin 1 → IVec S16 32) a x).toNat < S4096.size a := fun v366 k1_hw241 => k1_hw241.1
theorem k1_idx314_inb : ∀ (v366 : IVec S16 32) (k1_hw241 : k1_chk241 v366), ∀ a x, ((![v366] : Fin 1 → IVec S16 32) a x).toNat < S4096.size a := fun v366 k1_hw241 => k1_hw241.2

def k1_chk242 (v391 : IVec S16 32) : Prop :=
  (∀ a x, ((![v391] : Fin 1 → IVec S16 32) a x).toNat < S32768.size a)
theorem k1_idx315_inb : ∀ (v391 : IVec S16 32) (k1_hw242 : k1_chk242 v391), ∀ a x, ((![v391] : Fin 1 → IVec S16 32) a x).toNat < S32768.size a := fun v391 k1_hw242 => k1_hw242
def k1_off164 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_262 : BitVec 32 := 16#32
  let v392 : BitVec 32 := Scalar.muli arg11 c16_i32_262
  let c16_i32_263 : BitVec 32 := 16#32
  let v393 : BitVec 32 := Scalar.muli v392 c16_i32_263
  let c144_i32 : BitVec 32 := 144#32
  let v394 : BitVec 32 := Scalar.addi v393 c144_i32
  let v395 : Index := Scalar.indexCast v394
  ![v395.toNat]

def k1_chk243 (v401 : IVec S16 32) : Prop :=
  (∀ a x, ((![v401] : Fin 1 → IVec S16 32) a x).toNat < S4096.size a) ∧
  (∀ a x, ((![v401] : Fin 1 → IVec S16 32) a x).toNat < S4096.size a)
theorem k1_idx316_inb : ∀ (v401 : IVec S16 32) (k1_hw243 : k1_chk243 v401), ∀ a x, ((![v401] : Fin 1 → IVec S16 32) a x).toNat < S4096.size a := fun v401 k1_hw243 => k1_hw243.1
theorem k1_idx317_inb : ∀ (v401 : IVec S16 32) (k1_hw243 : k1_chk243 v401), ∀ a x, ((![v401] : Fin 1 → IVec S16 32) a x).toNat < S4096.size a := fun v401 k1_hw243 => k1_hw243.2

def k1_chk244 (v426 : IVec S16 32) : Prop :=
  (∀ a x, ((![v426] : Fin 1 → IVec S16 32) a x).toNat < S32768.size a)
theorem k1_idx318_inb : ∀ (v426 : IVec S16 32) (k1_hw244 : k1_chk244 v426), ∀ a x, ((![v426] : Fin 1 → IVec S16 32) a x).toNat < S32768.size a := fun v426 k1_hw244 => k1_hw244
def k1_off165 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_275 : BitVec 32 := 16#32
  let v427 : BitVec 32 := Scalar.muli arg11 c16_i32_275
  let c16_i32_276 : BitVec 32 := 16#32
  let v428 : BitVec 32 := Scalar.muli v427 c16_i32_276
  let c160_i32 : BitVec 32 := 160#32
  let v429 : BitVec 32 := Scalar.addi v428 c160_i32
  let v430 : Index := Scalar.indexCast v429
  ![v430.toNat]

def k1_chk245 (v436 : IVec S16 32) : Prop :=
  (∀ a x, ((![v436] : Fin 1 → IVec S16 32) a x).toNat < S4096.size a) ∧
  (∀ a x, ((![v436] : Fin 1 → IVec S16 32) a x).toNat < S4096.size a)
theorem k1_idx319_inb : ∀ (v436 : IVec S16 32) (k1_hw245 : k1_chk245 v436), ∀ a x, ((![v436] : Fin 1 → IVec S16 32) a x).toNat < S4096.size a := fun v436 k1_hw245 => k1_hw245.1
theorem k1_idx320_inb : ∀ (v436 : IVec S16 32) (k1_hw245 : k1_chk245 v436), ∀ a x, ((![v436] : Fin 1 → IVec S16 32) a x).toNat < S4096.size a := fun v436 k1_hw245 => k1_hw245.2

def k1_chk246 (v461 : IVec S16 32) : Prop :=
  (∀ a x, ((![v461] : Fin 1 → IVec S16 32) a x).toNat < S32768.size a)
theorem k1_idx321_inb : ∀ (v461 : IVec S16 32) (k1_hw246 : k1_chk246 v461), ∀ a x, ((![v461] : Fin 1 → IVec S16 32) a x).toNat < S32768.size a := fun v461 k1_hw246 => k1_hw246
def k1_off166 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_288 : BitVec 32 := 16#32
  let v462 : BitVec 32 := Scalar.muli arg11 c16_i32_288
  let c16_i32_289 : BitVec 32 := 16#32
  let v463 : BitVec 32 := Scalar.muli v462 c16_i32_289
  let c176_i32 : BitVec 32 := 176#32
  let v464 : BitVec 32 := Scalar.addi v463 c176_i32
  let v465 : Index := Scalar.indexCast v464
  ![v465.toNat]

def k1_chk247 (v471 : IVec S16 32) : Prop :=
  (∀ a x, ((![v471] : Fin 1 → IVec S16 32) a x).toNat < S4096.size a) ∧
  (∀ a x, ((![v471] : Fin 1 → IVec S16 32) a x).toNat < S4096.size a)
theorem k1_idx322_inb : ∀ (v471 : IVec S16 32) (k1_hw247 : k1_chk247 v471), ∀ a x, ((![v471] : Fin 1 → IVec S16 32) a x).toNat < S4096.size a := fun v471 k1_hw247 => k1_hw247.1
theorem k1_idx323_inb : ∀ (v471 : IVec S16 32) (k1_hw247 : k1_chk247 v471), ∀ a x, ((![v471] : Fin 1 → IVec S16 32) a x).toNat < S4096.size a := fun v471 k1_hw247 => k1_hw247.2

def k1_chk248 (v496 : IVec S16 32) : Prop :=
  (∀ a x, ((![v496] : Fin 1 → IVec S16 32) a x).toNat < S32768.size a)
theorem k1_idx324_inb : ∀ (v496 : IVec S16 32) (k1_hw248 : k1_chk248 v496), ∀ a x, ((![v496] : Fin 1 → IVec S16 32) a x).toNat < S32768.size a := fun v496 k1_hw248 => k1_hw248
def k1_off167 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_301 : BitVec 32 := 16#32
  let v497 : BitVec 32 := Scalar.muli arg11 c16_i32_301
  let c16_i32_302 : BitVec 32 := 16#32
  let v498 : BitVec 32 := Scalar.muli v497 c16_i32_302
  let c192_i32 : BitVec 32 := 192#32
  let v499 : BitVec 32 := Scalar.addi v498 c192_i32
  let v500 : Index := Scalar.indexCast v499
  ![v500.toNat]

def k1_chk249 (v506 : IVec S16 32) : Prop :=
  (∀ a x, ((![v506] : Fin 1 → IVec S16 32) a x).toNat < S4096.size a) ∧
  (∀ a x, ((![v506] : Fin 1 → IVec S16 32) a x).toNat < S4096.size a)
theorem k1_idx325_inb : ∀ (v506 : IVec S16 32) (k1_hw249 : k1_chk249 v506), ∀ a x, ((![v506] : Fin 1 → IVec S16 32) a x).toNat < S4096.size a := fun v506 k1_hw249 => k1_hw249.1
theorem k1_idx326_inb : ∀ (v506 : IVec S16 32) (k1_hw249 : k1_chk249 v506), ∀ a x, ((![v506] : Fin 1 → IVec S16 32) a x).toNat < S4096.size a := fun v506 k1_hw249 => k1_hw249.2

def k1_chk250 (v531 : IVec S16 32) : Prop :=
  (∀ a x, ((![v531] : Fin 1 → IVec S16 32) a x).toNat < S32768.size a)
theorem k1_idx327_inb : ∀ (v531 : IVec S16 32) (k1_hw250 : k1_chk250 v531), ∀ a x, ((![v531] : Fin 1 → IVec S16 32) a x).toNat < S32768.size a := fun v531 k1_hw250 => k1_hw250
def k1_off168 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_314 : BitVec 32 := 16#32
  let v532 : BitVec 32 := Scalar.muli arg11 c16_i32_314
  let c16_i32_315 : BitVec 32 := 16#32
  let v533 : BitVec 32 := Scalar.muli v532 c16_i32_315
  let c208_i32 : BitVec 32 := 208#32
  let v534 : BitVec 32 := Scalar.addi v533 c208_i32
  let v535 : Index := Scalar.indexCast v534
  ![v535.toNat]

def k1_chk251 (v541 : IVec S16 32) : Prop :=
  (∀ a x, ((![v541] : Fin 1 → IVec S16 32) a x).toNat < S4096.size a) ∧
  (∀ a x, ((![v541] : Fin 1 → IVec S16 32) a x).toNat < S4096.size a)
theorem k1_idx328_inb : ∀ (v541 : IVec S16 32) (k1_hw251 : k1_chk251 v541), ∀ a x, ((![v541] : Fin 1 → IVec S16 32) a x).toNat < S4096.size a := fun v541 k1_hw251 => k1_hw251.1
theorem k1_idx329_inb : ∀ (v541 : IVec S16 32) (k1_hw251 : k1_chk251 v541), ∀ a x, ((![v541] : Fin 1 → IVec S16 32) a x).toNat < S4096.size a := fun v541 k1_hw251 => k1_hw251.2

def k1_chk252 (v566 : IVec S16 32) : Prop :=
  (∀ a x, ((![v566] : Fin 1 → IVec S16 32) a x).toNat < S32768.size a)
theorem k1_idx330_inb : ∀ (v566 : IVec S16 32) (k1_hw252 : k1_chk252 v566), ∀ a x, ((![v566] : Fin 1 → IVec S16 32) a x).toNat < S32768.size a := fun v566 k1_hw252 => k1_hw252
def k1_off169 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_327 : BitVec 32 := 16#32
  let v567 : BitVec 32 := Scalar.muli arg11 c16_i32_327
  let c16_i32_328 : BitVec 32 := 16#32
  let v568 : BitVec 32 := Scalar.muli v567 c16_i32_328
  let c224_i32 : BitVec 32 := 224#32
  let v569 : BitVec 32 := Scalar.addi v568 c224_i32
  let v570 : Index := Scalar.indexCast v569
  ![v570.toNat]

def k1_chk253 (v576 : IVec S16 32) : Prop :=
  (∀ a x, ((![v576] : Fin 1 → IVec S16 32) a x).toNat < S4096.size a) ∧
  (∀ a x, ((![v576] : Fin 1 → IVec S16 32) a x).toNat < S4096.size a)
theorem k1_idx331_inb : ∀ (v576 : IVec S16 32) (k1_hw253 : k1_chk253 v576), ∀ a x, ((![v576] : Fin 1 → IVec S16 32) a x).toNat < S4096.size a := fun v576 k1_hw253 => k1_hw253.1
theorem k1_idx332_inb : ∀ (v576 : IVec S16 32) (k1_hw253 : k1_chk253 v576), ∀ a x, ((![v576] : Fin 1 → IVec S16 32) a x).toNat < S4096.size a := fun v576 k1_hw253 => k1_hw253.2

def k1_chk254 (v601 : IVec S16 32) : Prop :=
  (∀ a x, ((![v601] : Fin 1 → IVec S16 32) a x).toNat < S32768.size a)
theorem k1_idx333_inb : ∀ (v601 : IVec S16 32) (k1_hw254 : k1_chk254 v601), ∀ a x, ((![v601] : Fin 1 → IVec S16 32) a x).toNat < S32768.size a := fun v601 k1_hw254 => k1_hw254
def k1_off170 (k1_t17 : Fin k1_t17_loop.trips) : Fin 1 → Nat :=
  let c0_i32_94 : BitVec 32 := 0#32
  let c1_i32_96 : BitVec 32 := 1#32
  let arg11 : BitVec 32 := Scf.iv c0_i32_94 c1_i32_96 k1_t17
  let c16_i32_340 : BitVec 32 := 16#32
  let v602 : BitVec 32 := Scalar.muli arg11 c16_i32_340
  let c16_i32_341 : BitVec 32 := 16#32
  let v603 : BitVec 32 := Scalar.muli v602 c16_i32_341
  let c240_i32 : BitVec 32 := 240#32
  let v604 : BitVec 32 := Scalar.addi v603 c240_i32
  let v605 : Index := Scalar.indexCast v604
  ![v605.toNat]

def k1_chk255 (v611 : IVec S16 32) : Prop :=
  (∀ a x, ((![v611] : Fin 1 → IVec S16 32) a x).toNat < S4096.size a) ∧
  (∀ a x, ((![v611] : Fin 1 → IVec S16 32) a x).toNat < S4096.size a)
theorem k1_idx334_inb : ∀ (v611 : IVec S16 32) (k1_hw255 : k1_chk255 v611), ∀ a x, ((![v611] : Fin 1 → IVec S16 32) a x).toNat < S4096.size a := fun v611 k1_hw255 => k1_hw255.1
theorem k1_idx335_inb : ∀ (v611 : IVec S16 32) (k1_hw255 : k1_chk255 v611), ∀ a x, ((![v611] : Fin 1 → IVec S16 32) a x).toNat < S4096.size a := fun v611 k1_hw255 => k1_hw255.2

def k1_chk256 (v636 : IVec S16 32) : Prop :=
  (∀ a x, ((![v636] : Fin 1 → IVec S16 32) a x).toNat < S32768.size a)
theorem k1_idx336_inb : ∀ (v636 : IVec S16 32) (k1_hw256 : k1_chk256 v636), ∀ a x, ((![v636] : Fin 1 → IVec S16 32) a x).toNat < S32768.size a := fun v636 k1_hw256 => k1_hw256
@[reducible] def k1_t18_loop : Scf.Loop 32 :=
  let c0_i32_99 : BitVec 32 := 0#32
  let c128_i32_100 : BitVec 32 := 128#32
  let v53 : BitVec 32 := Scalar.addi c0_i32_99 c128_i32_100
  let c1_i32_101 : BitVec 32 := 1#32
  ⟨c0_i32_99, v53, c1_i32_101⟩
def k1_off171 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk257 (v88 : IVec S16 32) : Prop :=
  (∀ a x, ((![v88] : Fin 1 → IVec S16 32) a x).toNat < S4096.size a)
theorem k1_idx337_inb : ∀ (v88 : IVec S16 32) (k1_hw257 : k1_chk257 v88), ∀ a x, ((![v88] : Fin 1 → IVec S16 32) a x).toNat < S4096.size a := fun v88 k1_hw257 => k1_hw257
def k1_off172 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_152 : BitVec 32 := 16#32
  let v89 : BitVec 32 := Scalar.muli arg11 c16_i32_152
  let c16_i32_153 : BitVec 32 := 16#32
  let v90 : BitVec 32 := Scalar.muli v89 c16_i32_153
  let c16_i32_154 : BitVec 32 := 16#32
  let v91 : BitVec 32 := Scalar.addi v90 c16_i32_154
  let v92 : Index := Scalar.indexCast v91
  ![v92.toNat]

def k1_chk258 (v100 : IVec S16 32) : Prop :=
  (∀ a x, ((![v100] : Fin 1 → IVec S16 32) a x).toNat < S4096.size a)
theorem k1_idx338_inb : ∀ (v100 : IVec S16 32) (k1_hw258 : k1_chk258 v100), ∀ a x, ((![v100] : Fin 1 → IVec S16 32) a x).toNat < S4096.size a := fun v100 k1_hw258 => k1_hw258
def k1_off173 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_158 : BitVec 32 := 16#32
  let v101 : BitVec 32 := Scalar.muli arg11 c16_i32_158
  let c16_i32_159 : BitVec 32 := 16#32
  let v102 : BitVec 32 := Scalar.muli v101 c16_i32_159
  let c32_i32 : BitVec 32 := 32#32
  let v103 : BitVec 32 := Scalar.addi v102 c32_i32
  let v104 : Index := Scalar.indexCast v103
  ![v104.toNat]

def k1_chk259 (v112 : IVec S16 32) : Prop :=
  (∀ a x, ((![v112] : Fin 1 → IVec S16 32) a x).toNat < S4096.size a)
theorem k1_idx339_inb : ∀ (v112 : IVec S16 32) (k1_hw259 : k1_chk259 v112), ∀ a x, ((![v112] : Fin 1 → IVec S16 32) a x).toNat < S4096.size a := fun v112 k1_hw259 => k1_hw259
def k1_off174 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_163 : BitVec 32 := 16#32
  let v113 : BitVec 32 := Scalar.muli arg11 c16_i32_163
  let c16_i32_164 : BitVec 32 := 16#32
  let v114 : BitVec 32 := Scalar.muli v113 c16_i32_164
  let c48_i32 : BitVec 32 := 48#32
  let v115 : BitVec 32 := Scalar.addi v114 c48_i32
  let v116 : Index := Scalar.indexCast v115
  ![v116.toNat]

def k1_chk260 (v124 : IVec S16 32) : Prop :=
  (∀ a x, ((![v124] : Fin 1 → IVec S16 32) a x).toNat < S4096.size a)
theorem k1_idx340_inb : ∀ (v124 : IVec S16 32) (k1_hw260 : k1_chk260 v124), ∀ a x, ((![v124] : Fin 1 → IVec S16 32) a x).toNat < S4096.size a := fun v124 k1_hw260 => k1_hw260
def k1_off175 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_168 : BitVec 32 := 16#32
  let v125 : BitVec 32 := Scalar.muli arg11 c16_i32_168
  let c16_i32_169 : BitVec 32 := 16#32
  let v126 : BitVec 32 := Scalar.muli v125 c16_i32_169
  let c64_i32 : BitVec 32 := 64#32
  let v127 : BitVec 32 := Scalar.addi v126 c64_i32
  let v128 : Index := Scalar.indexCast v127
  ![v128.toNat]

def k1_chk261 (v136 : IVec S16 32) : Prop :=
  (∀ a x, ((![v136] : Fin 1 → IVec S16 32) a x).toNat < S4096.size a)
theorem k1_idx341_inb : ∀ (v136 : IVec S16 32) (k1_hw261 : k1_chk261 v136), ∀ a x, ((![v136] : Fin 1 → IVec S16 32) a x).toNat < S4096.size a := fun v136 k1_hw261 => k1_hw261
def k1_off176 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_173 : BitVec 32 := 16#32
  let v137 : BitVec 32 := Scalar.muli arg11 c16_i32_173
  let c16_i32_174 : BitVec 32 := 16#32
  let v138 : BitVec 32 := Scalar.muli v137 c16_i32_174
  let c80_i32 : BitVec 32 := 80#32
  let v139 : BitVec 32 := Scalar.addi v138 c80_i32
  let v140 : Index := Scalar.indexCast v139
  ![v140.toNat]

def k1_chk262 (v148 : IVec S16 32) : Prop :=
  (∀ a x, ((![v148] : Fin 1 → IVec S16 32) a x).toNat < S4096.size a)
theorem k1_idx342_inb : ∀ (v148 : IVec S16 32) (k1_hw262 : k1_chk262 v148), ∀ a x, ((![v148] : Fin 1 → IVec S16 32) a x).toNat < S4096.size a := fun v148 k1_hw262 => k1_hw262
def k1_off177 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_178 : BitVec 32 := 16#32
  let v149 : BitVec 32 := Scalar.muli arg11 c16_i32_178
  let c16_i32_179 : BitVec 32 := 16#32
  let v150 : BitVec 32 := Scalar.muli v149 c16_i32_179
  let c96_i32 : BitVec 32 := 96#32
  let v151 : BitVec 32 := Scalar.addi v150 c96_i32
  let v152 : Index := Scalar.indexCast v151
  ![v152.toNat]

def k1_chk263 (v160 : IVec S16 32) : Prop :=
  (∀ a x, ((![v160] : Fin 1 → IVec S16 32) a x).toNat < S4096.size a)
theorem k1_idx343_inb : ∀ (v160 : IVec S16 32) (k1_hw263 : k1_chk263 v160), ∀ a x, ((![v160] : Fin 1 → IVec S16 32) a x).toNat < S4096.size a := fun v160 k1_hw263 => k1_hw263
def k1_off178 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_183 : BitVec 32 := 16#32
  let v161 : BitVec 32 := Scalar.muli arg11 c16_i32_183
  let c16_i32_184 : BitVec 32 := 16#32
  let v162 : BitVec 32 := Scalar.muli v161 c16_i32_184
  let c112_i32 : BitVec 32 := 112#32
  let v163 : BitVec 32 := Scalar.addi v162 c112_i32
  let v164 : Index := Scalar.indexCast v163
  ![v164.toNat]

def k1_chk264 (v172 : IVec S16 32) : Prop :=
  (∀ a x, ((![v172] : Fin 1 → IVec S16 32) a x).toNat < S4096.size a)
theorem k1_idx344_inb : ∀ (v172 : IVec S16 32) (k1_hw264 : k1_chk264 v172), ∀ a x, ((![v172] : Fin 1 → IVec S16 32) a x).toNat < S4096.size a := fun v172 k1_hw264 => k1_hw264
def k1_off179 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_188 : BitVec 32 := 16#32
  let v173 : BitVec 32 := Scalar.muli arg11 c16_i32_188
  let c16_i32_189 : BitVec 32 := 16#32
  let v174 : BitVec 32 := Scalar.muli v173 c16_i32_189
  let c128_i32_190 : BitVec 32 := 128#32
  let v175 : BitVec 32 := Scalar.addi v174 c128_i32_190
  let v176 : Index := Scalar.indexCast v175
  ![v176.toNat]

def k1_chk265 (v184 : IVec S16 32) : Prop :=
  (∀ a x, ((![v184] : Fin 1 → IVec S16 32) a x).toNat < S4096.size a)
theorem k1_idx345_inb : ∀ (v184 : IVec S16 32) (k1_hw265 : k1_chk265 v184), ∀ a x, ((![v184] : Fin 1 → IVec S16 32) a x).toNat < S4096.size a := fun v184 k1_hw265 => k1_hw265
def k1_off180 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_194 : BitVec 32 := 16#32
  let v185 : BitVec 32 := Scalar.muli arg11 c16_i32_194
  let c16_i32_195 : BitVec 32 := 16#32
  let v186 : BitVec 32 := Scalar.muli v185 c16_i32_195
  let c144_i32 : BitVec 32 := 144#32
  let v187 : BitVec 32 := Scalar.addi v186 c144_i32
  let v188 : Index := Scalar.indexCast v187
  ![v188.toNat]

def k1_chk266 (v196 : IVec S16 32) : Prop :=
  (∀ a x, ((![v196] : Fin 1 → IVec S16 32) a x).toNat < S4096.size a)
theorem k1_idx346_inb : ∀ (v196 : IVec S16 32) (k1_hw266 : k1_chk266 v196), ∀ a x, ((![v196] : Fin 1 → IVec S16 32) a x).toNat < S4096.size a := fun v196 k1_hw266 => k1_hw266
def k1_off181 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_199 : BitVec 32 := 16#32
  let v197 : BitVec 32 := Scalar.muli arg11 c16_i32_199
  let c16_i32_200 : BitVec 32 := 16#32
  let v198 : BitVec 32 := Scalar.muli v197 c16_i32_200
  let c160_i32 : BitVec 32 := 160#32
  let v199 : BitVec 32 := Scalar.addi v198 c160_i32
  let v200 : Index := Scalar.indexCast v199
  ![v200.toNat]

def k1_chk267 (v208 : IVec S16 32) : Prop :=
  (∀ a x, ((![v208] : Fin 1 → IVec S16 32) a x).toNat < S4096.size a)
theorem k1_idx347_inb : ∀ (v208 : IVec S16 32) (k1_hw267 : k1_chk267 v208), ∀ a x, ((![v208] : Fin 1 → IVec S16 32) a x).toNat < S4096.size a := fun v208 k1_hw267 => k1_hw267
def k1_off182 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_204 : BitVec 32 := 16#32
  let v209 : BitVec 32 := Scalar.muli arg11 c16_i32_204
  let c16_i32_205 : BitVec 32 := 16#32
  let v210 : BitVec 32 := Scalar.muli v209 c16_i32_205
  let c176_i32 : BitVec 32 := 176#32
  let v211 : BitVec 32 := Scalar.addi v210 c176_i32
  let v212 : Index := Scalar.indexCast v211
  ![v212.toNat]

def k1_chk268 (v220 : IVec S16 32) : Prop :=
  (∀ a x, ((![v220] : Fin 1 → IVec S16 32) a x).toNat < S4096.size a)
theorem k1_idx348_inb : ∀ (v220 : IVec S16 32) (k1_hw268 : k1_chk268 v220), ∀ a x, ((![v220] : Fin 1 → IVec S16 32) a x).toNat < S4096.size a := fun v220 k1_hw268 => k1_hw268
def k1_off183 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_209 : BitVec 32 := 16#32
  let v221 : BitVec 32 := Scalar.muli arg11 c16_i32_209
  let c16_i32_210 : BitVec 32 := 16#32
  let v222 : BitVec 32 := Scalar.muli v221 c16_i32_210
  let c192_i32 : BitVec 32 := 192#32
  let v223 : BitVec 32 := Scalar.addi v222 c192_i32
  let v224 : Index := Scalar.indexCast v223
  ![v224.toNat]

def k1_chk269 (v232 : IVec S16 32) : Prop :=
  (∀ a x, ((![v232] : Fin 1 → IVec S16 32) a x).toNat < S4096.size a)
theorem k1_idx349_inb : ∀ (v232 : IVec S16 32) (k1_hw269 : k1_chk269 v232), ∀ a x, ((![v232] : Fin 1 → IVec S16 32) a x).toNat < S4096.size a := fun v232 k1_hw269 => k1_hw269
def k1_off184 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_214 : BitVec 32 := 16#32
  let v233 : BitVec 32 := Scalar.muli arg11 c16_i32_214
  let c16_i32_215 : BitVec 32 := 16#32
  let v234 : BitVec 32 := Scalar.muli v233 c16_i32_215
  let c208_i32 : BitVec 32 := 208#32
  let v235 : BitVec 32 := Scalar.addi v234 c208_i32
  let v236 : Index := Scalar.indexCast v235
  ![v236.toNat]

def k1_chk270 (v244 : IVec S16 32) : Prop :=
  (∀ a x, ((![v244] : Fin 1 → IVec S16 32) a x).toNat < S4096.size a)
theorem k1_idx350_inb : ∀ (v244 : IVec S16 32) (k1_hw270 : k1_chk270 v244), ∀ a x, ((![v244] : Fin 1 → IVec S16 32) a x).toNat < S4096.size a := fun v244 k1_hw270 => k1_hw270
def k1_off185 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_219 : BitVec 32 := 16#32
  let v245 : BitVec 32 := Scalar.muli arg11 c16_i32_219
  let c16_i32_220 : BitVec 32 := 16#32
  let v246 : BitVec 32 := Scalar.muli v245 c16_i32_220
  let c224_i32 : BitVec 32 := 224#32
  let v247 : BitVec 32 := Scalar.addi v246 c224_i32
  let v248 : Index := Scalar.indexCast v247
  ![v248.toNat]

def k1_chk271 (v256 : IVec S16 32) : Prop :=
  (∀ a x, ((![v256] : Fin 1 → IVec S16 32) a x).toNat < S4096.size a)
theorem k1_idx351_inb : ∀ (v256 : IVec S16 32) (k1_hw271 : k1_chk271 v256), ∀ a x, ((![v256] : Fin 1 → IVec S16 32) a x).toNat < S4096.size a := fun v256 k1_hw271 => k1_hw271
def k1_off186 (k1_t18 : Fin k1_t18_loop.trips) : Fin 1 → Nat :=
  let c0_i32_99 : BitVec 32 := 0#32
  let c1_i32_101 : BitVec 32 := 1#32
  let arg11 : BitVec 32 := Scf.iv c0_i32_99 c1_i32_101 k1_t18
  let c16_i32_224 : BitVec 32 := 16#32
  let v257 : BitVec 32 := Scalar.muli arg11 c16_i32_224
  let c16_i32_225 : BitVec 32 := 16#32
  let v258 : BitVec 32 := Scalar.muli v257 c16_i32_225
  let c240_i32 : BitVec 32 := 240#32
  let v259 : BitVec 32 := Scalar.addi v258 c240_i32
  let v260 : Index := Scalar.indexCast v259
  ![v260.toNat]

def k1_chk272 (v268 : IVec S16 32) : Prop :=
  (∀ a x, ((![v268] : Fin 1 → IVec S16 32) a x).toNat < S4096.size a)
theorem k1_idx352_inb : ∀ (v268 : IVec S16 32) (k1_hw272 : k1_chk272 v268), ∀ a x, ((![v268] : Fin 1 → IVec S16 32) a x).toNat < S4096.size a := fun v268 k1_hw272 => k1_hw272
@[reducible] def k1_t19_loop : Scf.Loop 32 :=
  let c0_i32_104 : BitVec 32 := 0#32
  let c256_i32_105 : BitVec 32 := 256#32
  let v54 : BitVec 32 := Scalar.addi c0_i32_104 c256_i32_105
  let c1_i32_106 : BitVec 32 := 1#32
  ⟨c0_i32_104, v54, c1_i32_106⟩
def k1_off187 (k1_t19 : Fin k1_t19_loop.trips) : Fin 1 → Nat :=
  let c0_i32_104 : BitVec 32 := 0#32
  let c1_i32_106 : BitVec 32 := 1#32
  let arg11 : BitVec 32 := Scf.iv c0_i32_104 c1_i32_106 k1_t19
  let c16_i32_149 : BitVec 32 := 16#32
  let v77 : BitVec 32 := Scalar.muli arg11 c16_i32_149
  let v78 : Index := Scalar.indexCast v77
  ![v78.toNat]
@[reducible] def k1_t20_loop : Scf.Loop 32 :=
  let c0_i32_111 : BitVec 32 := 0#32
  let c128_i32_112 : BitVec 32 := 128#32
  let v60 : BitVec 32 := Scalar.addi c0_i32_111 c128_i32_112
  let c1_i32_113 : BitVec 32 := 1#32
  ⟨c0_i32_111, v60, c1_i32_113⟩
def k1_off188 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk273 (v88 : IVec S16 32) : Prop :=
  (∀ a x, ((![v88] : Fin 1 → IVec S16 32) a x).toNat < S4096.size a) ∧
  (∀ a x, ((![v88] : Fin 1 → IVec S16 32) a x).toNat < S4096.size a)
theorem k1_idx353_inb : ∀ (v88 : IVec S16 32) (k1_hw273 : k1_chk273 v88), ∀ a x, ((![v88] : Fin 1 → IVec S16 32) a x).toNat < S4096.size a := fun v88 k1_hw273 => k1_hw273.1
theorem k1_idx354_inb : ∀ (v88 : IVec S16 32) (k1_hw273 : k1_chk273 v88), ∀ a x, ((![v88] : Fin 1 → IVec S16 32) a x).toNat < S4096.size a := fun v88 k1_hw273 => k1_hw273.2

def k1_chk274 (v92 : IVec S16 32) : Prop :=
  (∀ a x, ((![v92] : Fin 1 → IVec S16 32) a x).toNat < S32768.size a)
theorem k1_idx355_inb : ∀ (v92 : IVec S16 32) (k1_hw274 : k1_chk274 v92), ∀ a x, ((![v92] : Fin 1 → IVec S16 32) a x).toNat < S32768.size a := fun v92 k1_hw274 => k1_hw274

def k1_chk275 (v112 : IVec S16 32) : Prop :=
  (∀ a x, ((![v112] : Fin 1 → IVec S16 32) a x).toNat < S32768.size a)
theorem k1_idx356_inb : ∀ (v112 : IVec S16 32) (k1_hw275 : k1_chk275 v112), ∀ a x, ((![v112] : Fin 1 → IVec S16 32) a x).toNat < S32768.size a := fun v112 k1_hw275 => k1_hw275
def k1_off189 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_156 : BitVec 32 := 16#32
  let v113 : BitVec 32 := Scalar.muli arg11 c16_i32_156
  let c16_i32_157 : BitVec 32 := 16#32
  let v114 : BitVec 32 := Scalar.muli v113 c16_i32_157
  let c16_i32_158 : BitVec 32 := 16#32
  let v115 : BitVec 32 := Scalar.addi v114 c16_i32_158
  let v116 : Index := Scalar.indexCast v115
  ![v116.toNat]

def k1_chk276 (v124 : IVec S16 32) : Prop :=
  (∀ a x, ((![v124] : Fin 1 → IVec S16 32) a x).toNat < S4096.size a) ∧
  (∀ a x, ((![v124] : Fin 1 → IVec S16 32) a x).toNat < S4096.size a)
theorem k1_idx357_inb : ∀ (v124 : IVec S16 32) (k1_hw276 : k1_chk276 v124), ∀ a x, ((![v124] : Fin 1 → IVec S16 32) a x).toNat < S4096.size a := fun v124 k1_hw276 => k1_hw276.1
theorem k1_idx358_inb : ∀ (v124 : IVec S16 32) (k1_hw276 : k1_chk276 v124), ∀ a x, ((![v124] : Fin 1 → IVec S16 32) a x).toNat < S4096.size a := fun v124 k1_hw276 => k1_hw276.2

def k1_chk277 (v128 : IVec S16 32) : Prop :=
  (∀ a x, ((![v128] : Fin 1 → IVec S16 32) a x).toNat < S32768.size a)
theorem k1_idx359_inb : ∀ (v128 : IVec S16 32) (k1_hw277 : k1_chk277 v128), ∀ a x, ((![v128] : Fin 1 → IVec S16 32) a x).toNat < S32768.size a := fun v128 k1_hw277 => k1_hw277

def k1_chk278 (v148 : IVec S16 32) : Prop :=
  (∀ a x, ((![v148] : Fin 1 → IVec S16 32) a x).toNat < S32768.size a)
theorem k1_idx360_inb : ∀ (v148 : IVec S16 32) (k1_hw278 : k1_chk278 v148), ∀ a x, ((![v148] : Fin 1 → IVec S16 32) a x).toNat < S32768.size a := fun v148 k1_hw278 => k1_hw278
def k1_off190 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_171 : BitVec 32 := 16#32
  let v149 : BitVec 32 := Scalar.muli arg11 c16_i32_171
  let c16_i32_172 : BitVec 32 := 16#32
  let v150 : BitVec 32 := Scalar.muli v149 c16_i32_172
  let c32_i32 : BitVec 32 := 32#32
  let v151 : BitVec 32 := Scalar.addi v150 c32_i32
  let v152 : Index := Scalar.indexCast v151
  ![v152.toNat]

def k1_chk279 (v160 : IVec S16 32) : Prop :=
  (∀ a x, ((![v160] : Fin 1 → IVec S16 32) a x).toNat < S4096.size a) ∧
  (∀ a x, ((![v160] : Fin 1 → IVec S16 32) a x).toNat < S4096.size a)
theorem k1_idx361_inb : ∀ (v160 : IVec S16 32) (k1_hw279 : k1_chk279 v160), ∀ a x, ((![v160] : Fin 1 → IVec S16 32) a x).toNat < S4096.size a := fun v160 k1_hw279 => k1_hw279.1
theorem k1_idx362_inb : ∀ (v160 : IVec S16 32) (k1_hw279 : k1_chk279 v160), ∀ a x, ((![v160] : Fin 1 → IVec S16 32) a x).toNat < S4096.size a := fun v160 k1_hw279 => k1_hw279.2

def k1_chk280 (v164 : IVec S16 32) : Prop :=
  (∀ a x, ((![v164] : Fin 1 → IVec S16 32) a x).toNat < S32768.size a)
theorem k1_idx363_inb : ∀ (v164 : IVec S16 32) (k1_hw280 : k1_chk280 v164), ∀ a x, ((![v164] : Fin 1 → IVec S16 32) a x).toNat < S32768.size a := fun v164 k1_hw280 => k1_hw280

def k1_chk281 (v184 : IVec S16 32) : Prop :=
  (∀ a x, ((![v184] : Fin 1 → IVec S16 32) a x).toNat < S32768.size a)
theorem k1_idx364_inb : ∀ (v184 : IVec S16 32) (k1_hw281 : k1_chk281 v184), ∀ a x, ((![v184] : Fin 1 → IVec S16 32) a x).toNat < S32768.size a := fun v184 k1_hw281 => k1_hw281
def k1_off191 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_185 : BitVec 32 := 16#32
  let v185 : BitVec 32 := Scalar.muli arg11 c16_i32_185
  let c16_i32_186 : BitVec 32 := 16#32
  let v186 : BitVec 32 := Scalar.muli v185 c16_i32_186
  let c48_i32 : BitVec 32 := 48#32
  let v187 : BitVec 32 := Scalar.addi v186 c48_i32
  let v188 : Index := Scalar.indexCast v187
  ![v188.toNat]

def k1_chk282 (v196 : IVec S16 32) : Prop :=
  (∀ a x, ((![v196] : Fin 1 → IVec S16 32) a x).toNat < S4096.size a) ∧
  (∀ a x, ((![v196] : Fin 1 → IVec S16 32) a x).toNat < S4096.size a)
theorem k1_idx365_inb : ∀ (v196 : IVec S16 32) (k1_hw282 : k1_chk282 v196), ∀ a x, ((![v196] : Fin 1 → IVec S16 32) a x).toNat < S4096.size a := fun v196 k1_hw282 => k1_hw282.1
theorem k1_idx366_inb : ∀ (v196 : IVec S16 32) (k1_hw282 : k1_chk282 v196), ∀ a x, ((![v196] : Fin 1 → IVec S16 32) a x).toNat < S4096.size a := fun v196 k1_hw282 => k1_hw282.2

def k1_chk283 (v200 : IVec S16 32) : Prop :=
  (∀ a x, ((![v200] : Fin 1 → IVec S16 32) a x).toNat < S32768.size a)
theorem k1_idx367_inb : ∀ (v200 : IVec S16 32) (k1_hw283 : k1_chk283 v200), ∀ a x, ((![v200] : Fin 1 → IVec S16 32) a x).toNat < S32768.size a := fun v200 k1_hw283 => k1_hw283

def k1_chk284 (v220 : IVec S16 32) : Prop :=
  (∀ a x, ((![v220] : Fin 1 → IVec S16 32) a x).toNat < S32768.size a)
theorem k1_idx368_inb : ∀ (v220 : IVec S16 32) (k1_hw284 : k1_chk284 v220), ∀ a x, ((![v220] : Fin 1 → IVec S16 32) a x).toNat < S32768.size a := fun v220 k1_hw284 => k1_hw284
def k1_off192 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_199 : BitVec 32 := 16#32
  let v221 : BitVec 32 := Scalar.muli arg11 c16_i32_199
  let c16_i32_200 : BitVec 32 := 16#32
  let v222 : BitVec 32 := Scalar.muli v221 c16_i32_200
  let c64_i32 : BitVec 32 := 64#32
  let v223 : BitVec 32 := Scalar.addi v222 c64_i32
  let v224 : Index := Scalar.indexCast v223
  ![v224.toNat]

def k1_chk285 (v232 : IVec S16 32) : Prop :=
  (∀ a x, ((![v232] : Fin 1 → IVec S16 32) a x).toNat < S4096.size a) ∧
  (∀ a x, ((![v232] : Fin 1 → IVec S16 32) a x).toNat < S4096.size a)
theorem k1_idx369_inb : ∀ (v232 : IVec S16 32) (k1_hw285 : k1_chk285 v232), ∀ a x, ((![v232] : Fin 1 → IVec S16 32) a x).toNat < S4096.size a := fun v232 k1_hw285 => k1_hw285.1
theorem k1_idx370_inb : ∀ (v232 : IVec S16 32) (k1_hw285 : k1_chk285 v232), ∀ a x, ((![v232] : Fin 1 → IVec S16 32) a x).toNat < S4096.size a := fun v232 k1_hw285 => k1_hw285.2

def k1_chk286 (v236 : IVec S16 32) : Prop :=
  (∀ a x, ((![v236] : Fin 1 → IVec S16 32) a x).toNat < S32768.size a)
theorem k1_idx371_inb : ∀ (v236 : IVec S16 32) (k1_hw286 : k1_chk286 v236), ∀ a x, ((![v236] : Fin 1 → IVec S16 32) a x).toNat < S32768.size a := fun v236 k1_hw286 => k1_hw286

def k1_chk287 (v256 : IVec S16 32) : Prop :=
  (∀ a x, ((![v256] : Fin 1 → IVec S16 32) a x).toNat < S32768.size a)
theorem k1_idx372_inb : ∀ (v256 : IVec S16 32) (k1_hw287 : k1_chk287 v256), ∀ a x, ((![v256] : Fin 1 → IVec S16 32) a x).toNat < S32768.size a := fun v256 k1_hw287 => k1_hw287
def k1_off193 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_213 : BitVec 32 := 16#32
  let v257 : BitVec 32 := Scalar.muli arg11 c16_i32_213
  let c16_i32_214 : BitVec 32 := 16#32
  let v258 : BitVec 32 := Scalar.muli v257 c16_i32_214
  let c80_i32 : BitVec 32 := 80#32
  let v259 : BitVec 32 := Scalar.addi v258 c80_i32
  let v260 : Index := Scalar.indexCast v259
  ![v260.toNat]

def k1_chk288 (v268 : IVec S16 32) : Prop :=
  (∀ a x, ((![v268] : Fin 1 → IVec S16 32) a x).toNat < S4096.size a) ∧
  (∀ a x, ((![v268] : Fin 1 → IVec S16 32) a x).toNat < S4096.size a)
theorem k1_idx373_inb : ∀ (v268 : IVec S16 32) (k1_hw288 : k1_chk288 v268), ∀ a x, ((![v268] : Fin 1 → IVec S16 32) a x).toNat < S4096.size a := fun v268 k1_hw288 => k1_hw288.1
theorem k1_idx374_inb : ∀ (v268 : IVec S16 32) (k1_hw288 : k1_chk288 v268), ∀ a x, ((![v268] : Fin 1 → IVec S16 32) a x).toNat < S4096.size a := fun v268 k1_hw288 => k1_hw288.2

def k1_chk289 (v272 : IVec S16 32) : Prop :=
  (∀ a x, ((![v272] : Fin 1 → IVec S16 32) a x).toNat < S32768.size a)
theorem k1_idx375_inb : ∀ (v272 : IVec S16 32) (k1_hw289 : k1_chk289 v272), ∀ a x, ((![v272] : Fin 1 → IVec S16 32) a x).toNat < S32768.size a := fun v272 k1_hw289 => k1_hw289

def k1_chk290 (v292 : IVec S16 32) : Prop :=
  (∀ a x, ((![v292] : Fin 1 → IVec S16 32) a x).toNat < S32768.size a)
theorem k1_idx376_inb : ∀ (v292 : IVec S16 32) (k1_hw290 : k1_chk290 v292), ∀ a x, ((![v292] : Fin 1 → IVec S16 32) a x).toNat < S32768.size a := fun v292 k1_hw290 => k1_hw290
def k1_off194 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_227 : BitVec 32 := 16#32
  let v293 : BitVec 32 := Scalar.muli arg11 c16_i32_227
  let c16_i32_228 : BitVec 32 := 16#32
  let v294 : BitVec 32 := Scalar.muli v293 c16_i32_228
  let c96_i32 : BitVec 32 := 96#32
  let v295 : BitVec 32 := Scalar.addi v294 c96_i32
  let v296 : Index := Scalar.indexCast v295
  ![v296.toNat]

def k1_chk291 (v304 : IVec S16 32) : Prop :=
  (∀ a x, ((![v304] : Fin 1 → IVec S16 32) a x).toNat < S4096.size a) ∧
  (∀ a x, ((![v304] : Fin 1 → IVec S16 32) a x).toNat < S4096.size a)
theorem k1_idx377_inb : ∀ (v304 : IVec S16 32) (k1_hw291 : k1_chk291 v304), ∀ a x, ((![v304] : Fin 1 → IVec S16 32) a x).toNat < S4096.size a := fun v304 k1_hw291 => k1_hw291.1
theorem k1_idx378_inb : ∀ (v304 : IVec S16 32) (k1_hw291 : k1_chk291 v304), ∀ a x, ((![v304] : Fin 1 → IVec S16 32) a x).toNat < S4096.size a := fun v304 k1_hw291 => k1_hw291.2

def k1_chk292 (v308 : IVec S16 32) : Prop :=
  (∀ a x, ((![v308] : Fin 1 → IVec S16 32) a x).toNat < S32768.size a)
theorem k1_idx379_inb : ∀ (v308 : IVec S16 32) (k1_hw292 : k1_chk292 v308), ∀ a x, ((![v308] : Fin 1 → IVec S16 32) a x).toNat < S32768.size a := fun v308 k1_hw292 => k1_hw292

def k1_chk293 (v328 : IVec S16 32) : Prop :=
  (∀ a x, ((![v328] : Fin 1 → IVec S16 32) a x).toNat < S32768.size a)
theorem k1_idx380_inb : ∀ (v328 : IVec S16 32) (k1_hw293 : k1_chk293 v328), ∀ a x, ((![v328] : Fin 1 → IVec S16 32) a x).toNat < S32768.size a := fun v328 k1_hw293 => k1_hw293
def k1_off195 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_241 : BitVec 32 := 16#32
  let v329 : BitVec 32 := Scalar.muli arg11 c16_i32_241
  let c16_i32_242 : BitVec 32 := 16#32
  let v330 : BitVec 32 := Scalar.muli v329 c16_i32_242
  let c112_i32 : BitVec 32 := 112#32
  let v331 : BitVec 32 := Scalar.addi v330 c112_i32
  let v332 : Index := Scalar.indexCast v331
  ![v332.toNat]

def k1_chk294 (v340 : IVec S16 32) : Prop :=
  (∀ a x, ((![v340] : Fin 1 → IVec S16 32) a x).toNat < S4096.size a) ∧
  (∀ a x, ((![v340] : Fin 1 → IVec S16 32) a x).toNat < S4096.size a)
theorem k1_idx381_inb : ∀ (v340 : IVec S16 32) (k1_hw294 : k1_chk294 v340), ∀ a x, ((![v340] : Fin 1 → IVec S16 32) a x).toNat < S4096.size a := fun v340 k1_hw294 => k1_hw294.1
theorem k1_idx382_inb : ∀ (v340 : IVec S16 32) (k1_hw294 : k1_chk294 v340), ∀ a x, ((![v340] : Fin 1 → IVec S16 32) a x).toNat < S4096.size a := fun v340 k1_hw294 => k1_hw294.2

def k1_chk295 (v344 : IVec S16 32) : Prop :=
  (∀ a x, ((![v344] : Fin 1 → IVec S16 32) a x).toNat < S32768.size a)
theorem k1_idx383_inb : ∀ (v344 : IVec S16 32) (k1_hw295 : k1_chk295 v344), ∀ a x, ((![v344] : Fin 1 → IVec S16 32) a x).toNat < S32768.size a := fun v344 k1_hw295 => k1_hw295

def k1_chk296 (v364 : IVec S16 32) : Prop :=
  (∀ a x, ((![v364] : Fin 1 → IVec S16 32) a x).toNat < S32768.size a)
theorem k1_idx384_inb : ∀ (v364 : IVec S16 32) (k1_hw296 : k1_chk296 v364), ∀ a x, ((![v364] : Fin 1 → IVec S16 32) a x).toNat < S32768.size a := fun v364 k1_hw296 => k1_hw296
def k1_off196 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_255 : BitVec 32 := 16#32
  let v365 : BitVec 32 := Scalar.muli arg11 c16_i32_255
  let c16_i32_256 : BitVec 32 := 16#32
  let v366 : BitVec 32 := Scalar.muli v365 c16_i32_256
  let c128_i32_257 : BitVec 32 := 128#32
  let v367 : BitVec 32 := Scalar.addi v366 c128_i32_257
  let v368 : Index := Scalar.indexCast v367
  ![v368.toNat]

def k1_chk297 (v376 : IVec S16 32) : Prop :=
  (∀ a x, ((![v376] : Fin 1 → IVec S16 32) a x).toNat < S4096.size a) ∧
  (∀ a x, ((![v376] : Fin 1 → IVec S16 32) a x).toNat < S4096.size a)
theorem k1_idx385_inb : ∀ (v376 : IVec S16 32) (k1_hw297 : k1_chk297 v376), ∀ a x, ((![v376] : Fin 1 → IVec S16 32) a x).toNat < S4096.size a := fun v376 k1_hw297 => k1_hw297.1
theorem k1_idx386_inb : ∀ (v376 : IVec S16 32) (k1_hw297 : k1_chk297 v376), ∀ a x, ((![v376] : Fin 1 → IVec S16 32) a x).toNat < S4096.size a := fun v376 k1_hw297 => k1_hw297.2

def k1_chk298 (v380 : IVec S16 32) : Prop :=
  (∀ a x, ((![v380] : Fin 1 → IVec S16 32) a x).toNat < S32768.size a)
theorem k1_idx387_inb : ∀ (v380 : IVec S16 32) (k1_hw298 : k1_chk298 v380), ∀ a x, ((![v380] : Fin 1 → IVec S16 32) a x).toNat < S32768.size a := fun v380 k1_hw298 => k1_hw298

def k1_chk299 (v400 : IVec S16 32) : Prop :=
  (∀ a x, ((![v400] : Fin 1 → IVec S16 32) a x).toNat < S32768.size a)
theorem k1_idx388_inb : ∀ (v400 : IVec S16 32) (k1_hw299 : k1_chk299 v400), ∀ a x, ((![v400] : Fin 1 → IVec S16 32) a x).toNat < S32768.size a := fun v400 k1_hw299 => k1_hw299
def k1_off197 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_270 : BitVec 32 := 16#32
  let v401 : BitVec 32 := Scalar.muli arg11 c16_i32_270
  let c16_i32_271 : BitVec 32 := 16#32
  let v402 : BitVec 32 := Scalar.muli v401 c16_i32_271
  let c144_i32 : BitVec 32 := 144#32
  let v403 : BitVec 32 := Scalar.addi v402 c144_i32
  let v404 : Index := Scalar.indexCast v403
  ![v404.toNat]

def k1_chk300 (v412 : IVec S16 32) : Prop :=
  (∀ a x, ((![v412] : Fin 1 → IVec S16 32) a x).toNat < S4096.size a) ∧
  (∀ a x, ((![v412] : Fin 1 → IVec S16 32) a x).toNat < S4096.size a)
theorem k1_idx389_inb : ∀ (v412 : IVec S16 32) (k1_hw300 : k1_chk300 v412), ∀ a x, ((![v412] : Fin 1 → IVec S16 32) a x).toNat < S4096.size a := fun v412 k1_hw300 => k1_hw300.1
theorem k1_idx390_inb : ∀ (v412 : IVec S16 32) (k1_hw300 : k1_chk300 v412), ∀ a x, ((![v412] : Fin 1 → IVec S16 32) a x).toNat < S4096.size a := fun v412 k1_hw300 => k1_hw300.2

def k1_chk301 (v416 : IVec S16 32) : Prop :=
  (∀ a x, ((![v416] : Fin 1 → IVec S16 32) a x).toNat < S32768.size a)
theorem k1_idx391_inb : ∀ (v416 : IVec S16 32) (k1_hw301 : k1_chk301 v416), ∀ a x, ((![v416] : Fin 1 → IVec S16 32) a x).toNat < S32768.size a := fun v416 k1_hw301 => k1_hw301

def k1_chk302 (v436 : IVec S16 32) : Prop :=
  (∀ a x, ((![v436] : Fin 1 → IVec S16 32) a x).toNat < S32768.size a)
theorem k1_idx392_inb : ∀ (v436 : IVec S16 32) (k1_hw302 : k1_chk302 v436), ∀ a x, ((![v436] : Fin 1 → IVec S16 32) a x).toNat < S32768.size a := fun v436 k1_hw302 => k1_hw302
def k1_off198 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_284 : BitVec 32 := 16#32
  let v437 : BitVec 32 := Scalar.muli arg11 c16_i32_284
  let c16_i32_285 : BitVec 32 := 16#32
  let v438 : BitVec 32 := Scalar.muli v437 c16_i32_285
  let c160_i32 : BitVec 32 := 160#32
  let v439 : BitVec 32 := Scalar.addi v438 c160_i32
  let v440 : Index := Scalar.indexCast v439
  ![v440.toNat]

def k1_chk303 (v448 : IVec S16 32) : Prop :=
  (∀ a x, ((![v448] : Fin 1 → IVec S16 32) a x).toNat < S4096.size a) ∧
  (∀ a x, ((![v448] : Fin 1 → IVec S16 32) a x).toNat < S4096.size a)
theorem k1_idx393_inb : ∀ (v448 : IVec S16 32) (k1_hw303 : k1_chk303 v448), ∀ a x, ((![v448] : Fin 1 → IVec S16 32) a x).toNat < S4096.size a := fun v448 k1_hw303 => k1_hw303.1
theorem k1_idx394_inb : ∀ (v448 : IVec S16 32) (k1_hw303 : k1_chk303 v448), ∀ a x, ((![v448] : Fin 1 → IVec S16 32) a x).toNat < S4096.size a := fun v448 k1_hw303 => k1_hw303.2

def k1_chk304 (v452 : IVec S16 32) : Prop :=
  (∀ a x, ((![v452] : Fin 1 → IVec S16 32) a x).toNat < S32768.size a)
theorem k1_idx395_inb : ∀ (v452 : IVec S16 32) (k1_hw304 : k1_chk304 v452), ∀ a x, ((![v452] : Fin 1 → IVec S16 32) a x).toNat < S32768.size a := fun v452 k1_hw304 => k1_hw304

def k1_chk305 (v472 : IVec S16 32) : Prop :=
  (∀ a x, ((![v472] : Fin 1 → IVec S16 32) a x).toNat < S32768.size a)
theorem k1_idx396_inb : ∀ (v472 : IVec S16 32) (k1_hw305 : k1_chk305 v472), ∀ a x, ((![v472] : Fin 1 → IVec S16 32) a x).toNat < S32768.size a := fun v472 k1_hw305 => k1_hw305
def k1_off199 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_298 : BitVec 32 := 16#32
  let v473 : BitVec 32 := Scalar.muli arg11 c16_i32_298
  let c16_i32_299 : BitVec 32 := 16#32
  let v474 : BitVec 32 := Scalar.muli v473 c16_i32_299
  let c176_i32 : BitVec 32 := 176#32
  let v475 : BitVec 32 := Scalar.addi v474 c176_i32
  let v476 : Index := Scalar.indexCast v475
  ![v476.toNat]

def k1_chk306 (v484 : IVec S16 32) : Prop :=
  (∀ a x, ((![v484] : Fin 1 → IVec S16 32) a x).toNat < S4096.size a) ∧
  (∀ a x, ((![v484] : Fin 1 → IVec S16 32) a x).toNat < S4096.size a)
theorem k1_idx397_inb : ∀ (v484 : IVec S16 32) (k1_hw306 : k1_chk306 v484), ∀ a x, ((![v484] : Fin 1 → IVec S16 32) a x).toNat < S4096.size a := fun v484 k1_hw306 => k1_hw306.1
theorem k1_idx398_inb : ∀ (v484 : IVec S16 32) (k1_hw306 : k1_chk306 v484), ∀ a x, ((![v484] : Fin 1 → IVec S16 32) a x).toNat < S4096.size a := fun v484 k1_hw306 => k1_hw306.2

def k1_chk307 (v488 : IVec S16 32) : Prop :=
  (∀ a x, ((![v488] : Fin 1 → IVec S16 32) a x).toNat < S32768.size a)
theorem k1_idx399_inb : ∀ (v488 : IVec S16 32) (k1_hw307 : k1_chk307 v488), ∀ a x, ((![v488] : Fin 1 → IVec S16 32) a x).toNat < S32768.size a := fun v488 k1_hw307 => k1_hw307

def k1_chk308 (v508 : IVec S16 32) : Prop :=
  (∀ a x, ((![v508] : Fin 1 → IVec S16 32) a x).toNat < S32768.size a)
theorem k1_idx400_inb : ∀ (v508 : IVec S16 32) (k1_hw308 : k1_chk308 v508), ∀ a x, ((![v508] : Fin 1 → IVec S16 32) a x).toNat < S32768.size a := fun v508 k1_hw308 => k1_hw308
def k1_off200 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_312 : BitVec 32 := 16#32
  let v509 : BitVec 32 := Scalar.muli arg11 c16_i32_312
  let c16_i32_313 : BitVec 32 := 16#32
  let v510 : BitVec 32 := Scalar.muli v509 c16_i32_313
  let c192_i32 : BitVec 32 := 192#32
  let v511 : BitVec 32 := Scalar.addi v510 c192_i32
  let v512 : Index := Scalar.indexCast v511
  ![v512.toNat]

def k1_chk309 (v520 : IVec S16 32) : Prop :=
  (∀ a x, ((![v520] : Fin 1 → IVec S16 32) a x).toNat < S4096.size a) ∧
  (∀ a x, ((![v520] : Fin 1 → IVec S16 32) a x).toNat < S4096.size a)
theorem k1_idx401_inb : ∀ (v520 : IVec S16 32) (k1_hw309 : k1_chk309 v520), ∀ a x, ((![v520] : Fin 1 → IVec S16 32) a x).toNat < S4096.size a := fun v520 k1_hw309 => k1_hw309.1
theorem k1_idx402_inb : ∀ (v520 : IVec S16 32) (k1_hw309 : k1_chk309 v520), ∀ a x, ((![v520] : Fin 1 → IVec S16 32) a x).toNat < S4096.size a := fun v520 k1_hw309 => k1_hw309.2

def k1_chk310 (v524 : IVec S16 32) : Prop :=
  (∀ a x, ((![v524] : Fin 1 → IVec S16 32) a x).toNat < S32768.size a)
theorem k1_idx403_inb : ∀ (v524 : IVec S16 32) (k1_hw310 : k1_chk310 v524), ∀ a x, ((![v524] : Fin 1 → IVec S16 32) a x).toNat < S32768.size a := fun v524 k1_hw310 => k1_hw310

def k1_chk311 (v544 : IVec S16 32) : Prop :=
  (∀ a x, ((![v544] : Fin 1 → IVec S16 32) a x).toNat < S32768.size a)
theorem k1_idx404_inb : ∀ (v544 : IVec S16 32) (k1_hw311 : k1_chk311 v544), ∀ a x, ((![v544] : Fin 1 → IVec S16 32) a x).toNat < S32768.size a := fun v544 k1_hw311 => k1_hw311
def k1_off201 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_326 : BitVec 32 := 16#32
  let v545 : BitVec 32 := Scalar.muli arg11 c16_i32_326
  let c16_i32_327 : BitVec 32 := 16#32
  let v546 : BitVec 32 := Scalar.muli v545 c16_i32_327
  let c208_i32 : BitVec 32 := 208#32
  let v547 : BitVec 32 := Scalar.addi v546 c208_i32
  let v548 : Index := Scalar.indexCast v547
  ![v548.toNat]

def k1_chk312 (v556 : IVec S16 32) : Prop :=
  (∀ a x, ((![v556] : Fin 1 → IVec S16 32) a x).toNat < S4096.size a) ∧
  (∀ a x, ((![v556] : Fin 1 → IVec S16 32) a x).toNat < S4096.size a)
theorem k1_idx405_inb : ∀ (v556 : IVec S16 32) (k1_hw312 : k1_chk312 v556), ∀ a x, ((![v556] : Fin 1 → IVec S16 32) a x).toNat < S4096.size a := fun v556 k1_hw312 => k1_hw312.1
theorem k1_idx406_inb : ∀ (v556 : IVec S16 32) (k1_hw312 : k1_chk312 v556), ∀ a x, ((![v556] : Fin 1 → IVec S16 32) a x).toNat < S4096.size a := fun v556 k1_hw312 => k1_hw312.2

def k1_chk313 (v560 : IVec S16 32) : Prop :=
  (∀ a x, ((![v560] : Fin 1 → IVec S16 32) a x).toNat < S32768.size a)
theorem k1_idx407_inb : ∀ (v560 : IVec S16 32) (k1_hw313 : k1_chk313 v560), ∀ a x, ((![v560] : Fin 1 → IVec S16 32) a x).toNat < S32768.size a := fun v560 k1_hw313 => k1_hw313

def k1_chk314 (v580 : IVec S16 32) : Prop :=
  (∀ a x, ((![v580] : Fin 1 → IVec S16 32) a x).toNat < S32768.size a)
theorem k1_idx408_inb : ∀ (v580 : IVec S16 32) (k1_hw314 : k1_chk314 v580), ∀ a x, ((![v580] : Fin 1 → IVec S16 32) a x).toNat < S32768.size a := fun v580 k1_hw314 => k1_hw314
def k1_off202 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_340 : BitVec 32 := 16#32
  let v581 : BitVec 32 := Scalar.muli arg11 c16_i32_340
  let c16_i32_341 : BitVec 32 := 16#32
  let v582 : BitVec 32 := Scalar.muli v581 c16_i32_341
  let c224_i32 : BitVec 32 := 224#32
  let v583 : BitVec 32 := Scalar.addi v582 c224_i32
  let v584 : Index := Scalar.indexCast v583
  ![v584.toNat]

def k1_chk315 (v592 : IVec S16 32) : Prop :=
  (∀ a x, ((![v592] : Fin 1 → IVec S16 32) a x).toNat < S4096.size a) ∧
  (∀ a x, ((![v592] : Fin 1 → IVec S16 32) a x).toNat < S4096.size a)
theorem k1_idx409_inb : ∀ (v592 : IVec S16 32) (k1_hw315 : k1_chk315 v592), ∀ a x, ((![v592] : Fin 1 → IVec S16 32) a x).toNat < S4096.size a := fun v592 k1_hw315 => k1_hw315.1
theorem k1_idx410_inb : ∀ (v592 : IVec S16 32) (k1_hw315 : k1_chk315 v592), ∀ a x, ((![v592] : Fin 1 → IVec S16 32) a x).toNat < S4096.size a := fun v592 k1_hw315 => k1_hw315.2

def k1_chk316 (v596 : IVec S16 32) : Prop :=
  (∀ a x, ((![v596] : Fin 1 → IVec S16 32) a x).toNat < S32768.size a)
theorem k1_idx411_inb : ∀ (v596 : IVec S16 32) (k1_hw316 : k1_chk316 v596), ∀ a x, ((![v596] : Fin 1 → IVec S16 32) a x).toNat < S32768.size a := fun v596 k1_hw316 => k1_hw316

def k1_chk317 (v616 : IVec S16 32) : Prop :=
  (∀ a x, ((![v616] : Fin 1 → IVec S16 32) a x).toNat < S32768.size a)
theorem k1_idx412_inb : ∀ (v616 : IVec S16 32) (k1_hw317 : k1_chk317 v616), ∀ a x, ((![v616] : Fin 1 → IVec S16 32) a x).toNat < S32768.size a := fun v616 k1_hw317 => k1_hw317
def k1_off203 (k1_t20 : Fin k1_t20_loop.trips) : Fin 1 → Nat :=
  let c0_i32_111 : BitVec 32 := 0#32
  let c1_i32_113 : BitVec 32 := 1#32
  let arg11 : BitVec 32 := Scf.iv c0_i32_111 c1_i32_113 k1_t20
  let c16_i32_354 : BitVec 32 := 16#32
  let v617 : BitVec 32 := Scalar.muli arg11 c16_i32_354
  let c16_i32_355 : BitVec 32 := 16#32
  let v618 : BitVec 32 := Scalar.muli v617 c16_i32_355
  let c240_i32 : BitVec 32 := 240#32
  let v619 : BitVec 32 := Scalar.addi v618 c240_i32
  let v620 : Index := Scalar.indexCast v619
  ![v620.toNat]

def k1_chk318 (v628 : IVec S16 32) : Prop :=
  (∀ a x, ((![v628] : Fin 1 → IVec S16 32) a x).toNat < S4096.size a) ∧
  (∀ a x, ((![v628] : Fin 1 → IVec S16 32) a x).toNat < S4096.size a)
theorem k1_idx413_inb : ∀ (v628 : IVec S16 32) (k1_hw318 : k1_chk318 v628), ∀ a x, ((![v628] : Fin 1 → IVec S16 32) a x).toNat < S4096.size a := fun v628 k1_hw318 => k1_hw318.1
theorem k1_idx414_inb : ∀ (v628 : IVec S16 32) (k1_hw318 : k1_chk318 v628), ∀ a x, ((![v628] : Fin 1 → IVec S16 32) a x).toNat < S4096.size a := fun v628 k1_hw318 => k1_hw318.2

def k1_chk319 (v632 : IVec S16 32) : Prop :=
  (∀ a x, ((![v632] : Fin 1 → IVec S16 32) a x).toNat < S32768.size a)
theorem k1_idx415_inb : ∀ (v632 : IVec S16 32) (k1_hw319 : k1_chk319 v632), ∀ a x, ((![v632] : Fin 1 → IVec S16 32) a x).toNat < S32768.size a := fun v632 k1_hw319 => k1_hw319

def k1_chk320 (v652 : IVec S16 32) : Prop :=
  (∀ a x, ((![v652] : Fin 1 → IVec S16 32) a x).toNat < S32768.size a)
theorem k1_idx416_inb : ∀ (v652 : IVec S16 32) (k1_hw320 : k1_chk320 v652), ∀ a x, ((![v652] : Fin 1 → IVec S16 32) a x).toNat < S32768.size a := fun v652 k1_hw320 => k1_hw320
@[reducible] def k1_t21_loop : Scf.Loop 32 :=
  let c0_i32_116 : BitVec 32 := 0#32
  let c128_i32_117 : BitVec 32 := 128#32
  let v61 : BitVec 32 := Scalar.addi c0_i32_116 c128_i32_117
  let c1_i32_118 : BitVec 32 := 1#32
  ⟨c0_i32_116, v61, c1_i32_118⟩
def k1_off204 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk321 (v88 : IVec S16 32) : Prop :=
  (∀ a x, ((![v88] : Fin 1 → IVec S16 32) a x).toNat < S4096.size a)
theorem k1_idx417_inb : ∀ (v88 : IVec S16 32) (k1_hw321 : k1_chk321 v88), ∀ a x, ((![v88] : Fin 1 → IVec S16 32) a x).toNat < S4096.size a := fun v88 k1_hw321 => k1_hw321
def k1_off205 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_152 : BitVec 32 := 16#32
  let v89 : BitVec 32 := Scalar.muli arg11 c16_i32_152
  let c16_i32_153 : BitVec 32 := 16#32
  let v90 : BitVec 32 := Scalar.muli v89 c16_i32_153
  let c16_i32_154 : BitVec 32 := 16#32
  let v91 : BitVec 32 := Scalar.addi v90 c16_i32_154
  let v92 : Index := Scalar.indexCast v91
  ![v92.toNat]

def k1_chk322 (v100 : IVec S16 32) : Prop :=
  (∀ a x, ((![v100] : Fin 1 → IVec S16 32) a x).toNat < S4096.size a)
theorem k1_idx418_inb : ∀ (v100 : IVec S16 32) (k1_hw322 : k1_chk322 v100), ∀ a x, ((![v100] : Fin 1 → IVec S16 32) a x).toNat < S4096.size a := fun v100 k1_hw322 => k1_hw322
def k1_off206 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_158 : BitVec 32 := 16#32
  let v101 : BitVec 32 := Scalar.muli arg11 c16_i32_158
  let c16_i32_159 : BitVec 32 := 16#32
  let v102 : BitVec 32 := Scalar.muli v101 c16_i32_159
  let c32_i32 : BitVec 32 := 32#32
  let v103 : BitVec 32 := Scalar.addi v102 c32_i32
  let v104 : Index := Scalar.indexCast v103
  ![v104.toNat]

def k1_chk323 (v112 : IVec S16 32) : Prop :=
  (∀ a x, ((![v112] : Fin 1 → IVec S16 32) a x).toNat < S4096.size a)
theorem k1_idx419_inb : ∀ (v112 : IVec S16 32) (k1_hw323 : k1_chk323 v112), ∀ a x, ((![v112] : Fin 1 → IVec S16 32) a x).toNat < S4096.size a := fun v112 k1_hw323 => k1_hw323
def k1_off207 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_163 : BitVec 32 := 16#32
  let v113 : BitVec 32 := Scalar.muli arg11 c16_i32_163
  let c16_i32_164 : BitVec 32 := 16#32
  let v114 : BitVec 32 := Scalar.muli v113 c16_i32_164
  let c48_i32 : BitVec 32 := 48#32
  let v115 : BitVec 32 := Scalar.addi v114 c48_i32
  let v116 : Index := Scalar.indexCast v115
  ![v116.toNat]

def k1_chk324 (v124 : IVec S16 32) : Prop :=
  (∀ a x, ((![v124] : Fin 1 → IVec S16 32) a x).toNat < S4096.size a)
theorem k1_idx420_inb : ∀ (v124 : IVec S16 32) (k1_hw324 : k1_chk324 v124), ∀ a x, ((![v124] : Fin 1 → IVec S16 32) a x).toNat < S4096.size a := fun v124 k1_hw324 => k1_hw324
def k1_off208 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_168 : BitVec 32 := 16#32
  let v125 : BitVec 32 := Scalar.muli arg11 c16_i32_168
  let c16_i32_169 : BitVec 32 := 16#32
  let v126 : BitVec 32 := Scalar.muli v125 c16_i32_169
  let c64_i32 : BitVec 32 := 64#32
  let v127 : BitVec 32 := Scalar.addi v126 c64_i32
  let v128 : Index := Scalar.indexCast v127
  ![v128.toNat]

def k1_chk325 (v136 : IVec S16 32) : Prop :=
  (∀ a x, ((![v136] : Fin 1 → IVec S16 32) a x).toNat < S4096.size a)
theorem k1_idx421_inb : ∀ (v136 : IVec S16 32) (k1_hw325 : k1_chk325 v136), ∀ a x, ((![v136] : Fin 1 → IVec S16 32) a x).toNat < S4096.size a := fun v136 k1_hw325 => k1_hw325
def k1_off209 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_173 : BitVec 32 := 16#32
  let v137 : BitVec 32 := Scalar.muli arg11 c16_i32_173
  let c16_i32_174 : BitVec 32 := 16#32
  let v138 : BitVec 32 := Scalar.muli v137 c16_i32_174
  let c80_i32 : BitVec 32 := 80#32
  let v139 : BitVec 32 := Scalar.addi v138 c80_i32
  let v140 : Index := Scalar.indexCast v139
  ![v140.toNat]

def k1_chk326 (v148 : IVec S16 32) : Prop :=
  (∀ a x, ((![v148] : Fin 1 → IVec S16 32) a x).toNat < S4096.size a)
theorem k1_idx422_inb : ∀ (v148 : IVec S16 32) (k1_hw326 : k1_chk326 v148), ∀ a x, ((![v148] : Fin 1 → IVec S16 32) a x).toNat < S4096.size a := fun v148 k1_hw326 => k1_hw326
def k1_off210 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_178 : BitVec 32 := 16#32
  let v149 : BitVec 32 := Scalar.muli arg11 c16_i32_178
  let c16_i32_179 : BitVec 32 := 16#32
  let v150 : BitVec 32 := Scalar.muli v149 c16_i32_179
  let c96_i32 : BitVec 32 := 96#32
  let v151 : BitVec 32 := Scalar.addi v150 c96_i32
  let v152 : Index := Scalar.indexCast v151
  ![v152.toNat]

def k1_chk327 (v160 : IVec S16 32) : Prop :=
  (∀ a x, ((![v160] : Fin 1 → IVec S16 32) a x).toNat < S4096.size a)
theorem k1_idx423_inb : ∀ (v160 : IVec S16 32) (k1_hw327 : k1_chk327 v160), ∀ a x, ((![v160] : Fin 1 → IVec S16 32) a x).toNat < S4096.size a := fun v160 k1_hw327 => k1_hw327
def k1_off211 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_183 : BitVec 32 := 16#32
  let v161 : BitVec 32 := Scalar.muli arg11 c16_i32_183
  let c16_i32_184 : BitVec 32 := 16#32
  let v162 : BitVec 32 := Scalar.muli v161 c16_i32_184
  let c112_i32 : BitVec 32 := 112#32
  let v163 : BitVec 32 := Scalar.addi v162 c112_i32
  let v164 : Index := Scalar.indexCast v163
  ![v164.toNat]

def k1_chk328 (v172 : IVec S16 32) : Prop :=
  (∀ a x, ((![v172] : Fin 1 → IVec S16 32) a x).toNat < S4096.size a)
theorem k1_idx424_inb : ∀ (v172 : IVec S16 32) (k1_hw328 : k1_chk328 v172), ∀ a x, ((![v172] : Fin 1 → IVec S16 32) a x).toNat < S4096.size a := fun v172 k1_hw328 => k1_hw328
def k1_off212 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_188 : BitVec 32 := 16#32
  let v173 : BitVec 32 := Scalar.muli arg11 c16_i32_188
  let c16_i32_189 : BitVec 32 := 16#32
  let v174 : BitVec 32 := Scalar.muli v173 c16_i32_189
  let c128_i32_190 : BitVec 32 := 128#32
  let v175 : BitVec 32 := Scalar.addi v174 c128_i32_190
  let v176 : Index := Scalar.indexCast v175
  ![v176.toNat]

def k1_chk329 (v184 : IVec S16 32) : Prop :=
  (∀ a x, ((![v184] : Fin 1 → IVec S16 32) a x).toNat < S4096.size a)
theorem k1_idx425_inb : ∀ (v184 : IVec S16 32) (k1_hw329 : k1_chk329 v184), ∀ a x, ((![v184] : Fin 1 → IVec S16 32) a x).toNat < S4096.size a := fun v184 k1_hw329 => k1_hw329
def k1_off213 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_194 : BitVec 32 := 16#32
  let v185 : BitVec 32 := Scalar.muli arg11 c16_i32_194
  let c16_i32_195 : BitVec 32 := 16#32
  let v186 : BitVec 32 := Scalar.muli v185 c16_i32_195
  let c144_i32 : BitVec 32 := 144#32
  let v187 : BitVec 32 := Scalar.addi v186 c144_i32
  let v188 : Index := Scalar.indexCast v187
  ![v188.toNat]

def k1_chk330 (v196 : IVec S16 32) : Prop :=
  (∀ a x, ((![v196] : Fin 1 → IVec S16 32) a x).toNat < S4096.size a)
theorem k1_idx426_inb : ∀ (v196 : IVec S16 32) (k1_hw330 : k1_chk330 v196), ∀ a x, ((![v196] : Fin 1 → IVec S16 32) a x).toNat < S4096.size a := fun v196 k1_hw330 => k1_hw330
def k1_off214 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_199 : BitVec 32 := 16#32
  let v197 : BitVec 32 := Scalar.muli arg11 c16_i32_199
  let c16_i32_200 : BitVec 32 := 16#32
  let v198 : BitVec 32 := Scalar.muli v197 c16_i32_200
  let c160_i32 : BitVec 32 := 160#32
  let v199 : BitVec 32 := Scalar.addi v198 c160_i32
  let v200 : Index := Scalar.indexCast v199
  ![v200.toNat]

def k1_chk331 (v208 : IVec S16 32) : Prop :=
  (∀ a x, ((![v208] : Fin 1 → IVec S16 32) a x).toNat < S4096.size a)
theorem k1_idx427_inb : ∀ (v208 : IVec S16 32) (k1_hw331 : k1_chk331 v208), ∀ a x, ((![v208] : Fin 1 → IVec S16 32) a x).toNat < S4096.size a := fun v208 k1_hw331 => k1_hw331
def k1_off215 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_204 : BitVec 32 := 16#32
  let v209 : BitVec 32 := Scalar.muli arg11 c16_i32_204
  let c16_i32_205 : BitVec 32 := 16#32
  let v210 : BitVec 32 := Scalar.muli v209 c16_i32_205
  let c176_i32 : BitVec 32 := 176#32
  let v211 : BitVec 32 := Scalar.addi v210 c176_i32
  let v212 : Index := Scalar.indexCast v211
  ![v212.toNat]

def k1_chk332 (v220 : IVec S16 32) : Prop :=
  (∀ a x, ((![v220] : Fin 1 → IVec S16 32) a x).toNat < S4096.size a)
theorem k1_idx428_inb : ∀ (v220 : IVec S16 32) (k1_hw332 : k1_chk332 v220), ∀ a x, ((![v220] : Fin 1 → IVec S16 32) a x).toNat < S4096.size a := fun v220 k1_hw332 => k1_hw332
def k1_off216 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_209 : BitVec 32 := 16#32
  let v221 : BitVec 32 := Scalar.muli arg11 c16_i32_209
  let c16_i32_210 : BitVec 32 := 16#32
  let v222 : BitVec 32 := Scalar.muli v221 c16_i32_210
  let c192_i32 : BitVec 32 := 192#32
  let v223 : BitVec 32 := Scalar.addi v222 c192_i32
  let v224 : Index := Scalar.indexCast v223
  ![v224.toNat]

def k1_chk333 (v232 : IVec S16 32) : Prop :=
  (∀ a x, ((![v232] : Fin 1 → IVec S16 32) a x).toNat < S4096.size a)
theorem k1_idx429_inb : ∀ (v232 : IVec S16 32) (k1_hw333 : k1_chk333 v232), ∀ a x, ((![v232] : Fin 1 → IVec S16 32) a x).toNat < S4096.size a := fun v232 k1_hw333 => k1_hw333
def k1_off217 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_214 : BitVec 32 := 16#32
  let v233 : BitVec 32 := Scalar.muli arg11 c16_i32_214
  let c16_i32_215 : BitVec 32 := 16#32
  let v234 : BitVec 32 := Scalar.muli v233 c16_i32_215
  let c208_i32 : BitVec 32 := 208#32
  let v235 : BitVec 32 := Scalar.addi v234 c208_i32
  let v236 : Index := Scalar.indexCast v235
  ![v236.toNat]

def k1_chk334 (v244 : IVec S16 32) : Prop :=
  (∀ a x, ((![v244] : Fin 1 → IVec S16 32) a x).toNat < S4096.size a)
theorem k1_idx430_inb : ∀ (v244 : IVec S16 32) (k1_hw334 : k1_chk334 v244), ∀ a x, ((![v244] : Fin 1 → IVec S16 32) a x).toNat < S4096.size a := fun v244 k1_hw334 => k1_hw334
def k1_off218 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_219 : BitVec 32 := 16#32
  let v245 : BitVec 32 := Scalar.muli arg11 c16_i32_219
  let c16_i32_220 : BitVec 32 := 16#32
  let v246 : BitVec 32 := Scalar.muli v245 c16_i32_220
  let c224_i32 : BitVec 32 := 224#32
  let v247 : BitVec 32 := Scalar.addi v246 c224_i32
  let v248 : Index := Scalar.indexCast v247
  ![v248.toNat]

def k1_chk335 (v256 : IVec S16 32) : Prop :=
  (∀ a x, ((![v256] : Fin 1 → IVec S16 32) a x).toNat < S4096.size a)
theorem k1_idx431_inb : ∀ (v256 : IVec S16 32) (k1_hw335 : k1_chk335 v256), ∀ a x, ((![v256] : Fin 1 → IVec S16 32) a x).toNat < S4096.size a := fun v256 k1_hw335 => k1_hw335
def k1_off219 (k1_t21 : Fin k1_t21_loop.trips) : Fin 1 → Nat :=
  let c0_i32_116 : BitVec 32 := 0#32
  let c1_i32_118 : BitVec 32 := 1#32
  let arg11 : BitVec 32 := Scf.iv c0_i32_116 c1_i32_118 k1_t21
  let c16_i32_224 : BitVec 32 := 16#32
  let v257 : BitVec 32 := Scalar.muli arg11 c16_i32_224
  let c16_i32_225 : BitVec 32 := 16#32
  let v258 : BitVec 32 := Scalar.muli v257 c16_i32_225
  let c240_i32 : BitVec 32 := 240#32
  let v259 : BitVec 32 := Scalar.addi v258 c240_i32
  let v260 : Index := Scalar.indexCast v259
  ![v260.toNat]

def k1_chk336 (v268 : IVec S16 32) : Prop :=
  (∀ a x, ((![v268] : Fin 1 → IVec S16 32) a x).toNat < S4096.size a)
theorem k1_idx432_inb : ∀ (v268 : IVec S16 32) (k1_hw336 : k1_chk336 v268), ∀ a x, ((![v268] : Fin 1 → IVec S16 32) a x).toNat < S4096.size a := fun v268 k1_hw336 => k1_hw336
@[reducible] def k1_t22_loop : Scf.Loop 32 :=
  let c0_i32_121 : BitVec 32 := 0#32
  let c256_i32_122 : BitVec 32 := 256#32
  let v62 : BitVec 32 := Scalar.addi c0_i32_121 c256_i32_122
  let c1_i32_123 : BitVec 32 := 1#32
  ⟨c0_i32_121, v62, c1_i32_123⟩
def k1_off220 (k1_t22 : Fin k1_t22_loop.trips) : Fin 1 → Nat :=
  let c0_i32_121 : BitVec 32 := 0#32
  let c1_i32_123 : BitVec 32 := 1#32
  let arg11 : BitVec 32 := Scf.iv c0_i32_121 c1_i32_123 k1_t22
  let c16_i32_149 : BitVec 32 := 16#32
  let v77 : BitVec 32 := Scalar.muli arg11 c16_i32_149
  let v78 : Index := Scalar.indexCast v77
  ![v78.toNat]
@[reducible] def k1_t23_loop : Scf.Loop 32 :=
  let c0_i32_126 : BitVec 32 := 0#32
  let c128_i32_127 : BitVec 32 := 128#32
  let v64 : BitVec 32 := Scalar.addi c0_i32_126 c128_i32_127
  let c1_i32_128 : BitVec 32 := 1#32
  ⟨c0_i32_126, v64, c1_i32_128⟩
def k1_off221 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk337 (v88 : IVec S16 32) : Prop :=
  (∀ a x, ((![v88] : Fin 1 → IVec S16 32) a x).toNat < S4096.size a) ∧
  (∀ a x, ((![v88] : Fin 1 → IVec S16 32) a x).toNat < S4096.size a)
theorem k1_idx433_inb : ∀ (v88 : IVec S16 32) (k1_hw337 : k1_chk337 v88), ∀ a x, ((![v88] : Fin 1 → IVec S16 32) a x).toNat < S4096.size a := fun v88 k1_hw337 => k1_hw337.1
theorem k1_idx434_inb : ∀ (v88 : IVec S16 32) (k1_hw337 : k1_chk337 v88), ∀ a x, ((![v88] : Fin 1 → IVec S16 32) a x).toNat < S4096.size a := fun v88 k1_hw337 => k1_hw337.2

def k1_chk338 (v104 : IVec S16 32) : Prop :=
  (∀ a x, ((![v104] : Fin 1 → IVec S16 32) a x).toNat < S32768.size a)
theorem k1_idx435_inb : ∀ (v104 : IVec S16 32) (k1_hw338 : k1_chk338 v104), ∀ a x, ((![v104] : Fin 1 → IVec S16 32) a x).toNat < S32768.size a := fun v104 k1_hw338 => k1_hw338
def k1_off222 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_154 : BitVec 32 := 16#32
  let v105 : BitVec 32 := Scalar.muli arg11 c16_i32_154
  let c16_i32_155 : BitVec 32 := 16#32
  let v106 : BitVec 32 := Scalar.muli v105 c16_i32_155
  let c16_i32_156 : BitVec 32 := 16#32
  let v107 : BitVec 32 := Scalar.addi v106 c16_i32_156
  let v108 : Index := Scalar.indexCast v107
  ![v108.toNat]

def k1_chk339 (v116 : IVec S16 32) : Prop :=
  (∀ a x, ((![v116] : Fin 1 → IVec S16 32) a x).toNat < S4096.size a) ∧
  (∀ a x, ((![v116] : Fin 1 → IVec S16 32) a x).toNat < S4096.size a)
theorem k1_idx436_inb : ∀ (v116 : IVec S16 32) (k1_hw339 : k1_chk339 v116), ∀ a x, ((![v116] : Fin 1 → IVec S16 32) a x).toNat < S4096.size a := fun v116 k1_hw339 => k1_hw339.1
theorem k1_idx437_inb : ∀ (v116 : IVec S16 32) (k1_hw339 : k1_chk339 v116), ∀ a x, ((![v116] : Fin 1 → IVec S16 32) a x).toNat < S4096.size a := fun v116 k1_hw339 => k1_hw339.2

def k1_chk340 (v132 : IVec S16 32) : Prop :=
  (∀ a x, ((![v132] : Fin 1 → IVec S16 32) a x).toNat < S32768.size a)
theorem k1_idx438_inb : ∀ (v132 : IVec S16 32) (k1_hw340 : k1_chk340 v132), ∀ a x, ((![v132] : Fin 1 → IVec S16 32) a x).toNat < S32768.size a := fun v132 k1_hw340 => k1_hw340
def k1_off223 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_166 : BitVec 32 := 16#32
  let v133 : BitVec 32 := Scalar.muli arg11 c16_i32_166
  let c16_i32_167 : BitVec 32 := 16#32
  let v134 : BitVec 32 := Scalar.muli v133 c16_i32_167
  let c32_i32 : BitVec 32 := 32#32
  let v135 : BitVec 32 := Scalar.addi v134 c32_i32
  let v136 : Index := Scalar.indexCast v135
  ![v136.toNat]

def k1_chk341 (v144 : IVec S16 32) : Prop :=
  (∀ a x, ((![v144] : Fin 1 → IVec S16 32) a x).toNat < S4096.size a) ∧
  (∀ a x, ((![v144] : Fin 1 → IVec S16 32) a x).toNat < S4096.size a)
theorem k1_idx439_inb : ∀ (v144 : IVec S16 32) (k1_hw341 : k1_chk341 v144), ∀ a x, ((![v144] : Fin 1 → IVec S16 32) a x).toNat < S4096.size a := fun v144 k1_hw341 => k1_hw341.1
theorem k1_idx440_inb : ∀ (v144 : IVec S16 32) (k1_hw341 : k1_chk341 v144), ∀ a x, ((![v144] : Fin 1 → IVec S16 32) a x).toNat < S4096.size a := fun v144 k1_hw341 => k1_hw341.2

def k1_chk342 (v160 : IVec S16 32) : Prop :=
  (∀ a x, ((![v160] : Fin 1 → IVec S16 32) a x).toNat < S32768.size a)
theorem k1_idx441_inb : ∀ (v160 : IVec S16 32) (k1_hw342 : k1_chk342 v160), ∀ a x, ((![v160] : Fin 1 → IVec S16 32) a x).toNat < S32768.size a := fun v160 k1_hw342 => k1_hw342
def k1_off224 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_177 : BitVec 32 := 16#32
  let v161 : BitVec 32 := Scalar.muli arg11 c16_i32_177
  let c16_i32_178 : BitVec 32 := 16#32
  let v162 : BitVec 32 := Scalar.muli v161 c16_i32_178
  let c48_i32 : BitVec 32 := 48#32
  let v163 : BitVec 32 := Scalar.addi v162 c48_i32
  let v164 : Index := Scalar.indexCast v163
  ![v164.toNat]

def k1_chk343 (v172 : IVec S16 32) : Prop :=
  (∀ a x, ((![v172] : Fin 1 → IVec S16 32) a x).toNat < S4096.size a) ∧
  (∀ a x, ((![v172] : Fin 1 → IVec S16 32) a x).toNat < S4096.size a)
theorem k1_idx442_inb : ∀ (v172 : IVec S16 32) (k1_hw343 : k1_chk343 v172), ∀ a x, ((![v172] : Fin 1 → IVec S16 32) a x).toNat < S4096.size a := fun v172 k1_hw343 => k1_hw343.1
theorem k1_idx443_inb : ∀ (v172 : IVec S16 32) (k1_hw343 : k1_chk343 v172), ∀ a x, ((![v172] : Fin 1 → IVec S16 32) a x).toNat < S4096.size a := fun v172 k1_hw343 => k1_hw343.2

def k1_chk344 (v188 : IVec S16 32) : Prop :=
  (∀ a x, ((![v188] : Fin 1 → IVec S16 32) a x).toNat < S32768.size a)
theorem k1_idx444_inb : ∀ (v188 : IVec S16 32) (k1_hw344 : k1_chk344 v188), ∀ a x, ((![v188] : Fin 1 → IVec S16 32) a x).toNat < S32768.size a := fun v188 k1_hw344 => k1_hw344
def k1_off225 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_188 : BitVec 32 := 16#32
  let v189 : BitVec 32 := Scalar.muli arg11 c16_i32_188
  let c16_i32_189 : BitVec 32 := 16#32
  let v190 : BitVec 32 := Scalar.muli v189 c16_i32_189
  let c64_i32 : BitVec 32 := 64#32
  let v191 : BitVec 32 := Scalar.addi v190 c64_i32
  let v192 : Index := Scalar.indexCast v191
  ![v192.toNat]

def k1_chk345 (v200 : IVec S16 32) : Prop :=
  (∀ a x, ((![v200] : Fin 1 → IVec S16 32) a x).toNat < S4096.size a) ∧
  (∀ a x, ((![v200] : Fin 1 → IVec S16 32) a x).toNat < S4096.size a)
theorem k1_idx445_inb : ∀ (v200 : IVec S16 32) (k1_hw345 : k1_chk345 v200), ∀ a x, ((![v200] : Fin 1 → IVec S16 32) a x).toNat < S4096.size a := fun v200 k1_hw345 => k1_hw345.1
theorem k1_idx446_inb : ∀ (v200 : IVec S16 32) (k1_hw345 : k1_chk345 v200), ∀ a x, ((![v200] : Fin 1 → IVec S16 32) a x).toNat < S4096.size a := fun v200 k1_hw345 => k1_hw345.2

def k1_chk346 (v216 : IVec S16 32) : Prop :=
  (∀ a x, ((![v216] : Fin 1 → IVec S16 32) a x).toNat < S32768.size a)
theorem k1_idx447_inb : ∀ (v216 : IVec S16 32) (k1_hw346 : k1_chk346 v216), ∀ a x, ((![v216] : Fin 1 → IVec S16 32) a x).toNat < S32768.size a := fun v216 k1_hw346 => k1_hw346
def k1_off226 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_199 : BitVec 32 := 16#32
  let v217 : BitVec 32 := Scalar.muli arg11 c16_i32_199
  let c16_i32_200 : BitVec 32 := 16#32
  let v218 : BitVec 32 := Scalar.muli v217 c16_i32_200
  let c80_i32 : BitVec 32 := 80#32
  let v219 : BitVec 32 := Scalar.addi v218 c80_i32
  let v220 : Index := Scalar.indexCast v219
  ![v220.toNat]

def k1_chk347 (v228 : IVec S16 32) : Prop :=
  (∀ a x, ((![v228] : Fin 1 → IVec S16 32) a x).toNat < S4096.size a) ∧
  (∀ a x, ((![v228] : Fin 1 → IVec S16 32) a x).toNat < S4096.size a)
theorem k1_idx448_inb : ∀ (v228 : IVec S16 32) (k1_hw347 : k1_chk347 v228), ∀ a x, ((![v228] : Fin 1 → IVec S16 32) a x).toNat < S4096.size a := fun v228 k1_hw347 => k1_hw347.1
theorem k1_idx449_inb : ∀ (v228 : IVec S16 32) (k1_hw347 : k1_chk347 v228), ∀ a x, ((![v228] : Fin 1 → IVec S16 32) a x).toNat < S4096.size a := fun v228 k1_hw347 => k1_hw347.2

def k1_chk348 (v244 : IVec S16 32) : Prop :=
  (∀ a x, ((![v244] : Fin 1 → IVec S16 32) a x).toNat < S32768.size a)
theorem k1_idx450_inb : ∀ (v244 : IVec S16 32) (k1_hw348 : k1_chk348 v244), ∀ a x, ((![v244] : Fin 1 → IVec S16 32) a x).toNat < S32768.size a := fun v244 k1_hw348 => k1_hw348
def k1_off227 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_210 : BitVec 32 := 16#32
  let v245 : BitVec 32 := Scalar.muli arg11 c16_i32_210
  let c16_i32_211 : BitVec 32 := 16#32
  let v246 : BitVec 32 := Scalar.muli v245 c16_i32_211
  let c96_i32 : BitVec 32 := 96#32
  let v247 : BitVec 32 := Scalar.addi v246 c96_i32
  let v248 : Index := Scalar.indexCast v247
  ![v248.toNat]

def k1_chk349 (v256 : IVec S16 32) : Prop :=
  (∀ a x, ((![v256] : Fin 1 → IVec S16 32) a x).toNat < S4096.size a) ∧
  (∀ a x, ((![v256] : Fin 1 → IVec S16 32) a x).toNat < S4096.size a)
theorem k1_idx451_inb : ∀ (v256 : IVec S16 32) (k1_hw349 : k1_chk349 v256), ∀ a x, ((![v256] : Fin 1 → IVec S16 32) a x).toNat < S4096.size a := fun v256 k1_hw349 => k1_hw349.1
theorem k1_idx452_inb : ∀ (v256 : IVec S16 32) (k1_hw349 : k1_chk349 v256), ∀ a x, ((![v256] : Fin 1 → IVec S16 32) a x).toNat < S4096.size a := fun v256 k1_hw349 => k1_hw349.2

def k1_chk350 (v272 : IVec S16 32) : Prop :=
  (∀ a x, ((![v272] : Fin 1 → IVec S16 32) a x).toNat < S32768.size a)
theorem k1_idx453_inb : ∀ (v272 : IVec S16 32) (k1_hw350 : k1_chk350 v272), ∀ a x, ((![v272] : Fin 1 → IVec S16 32) a x).toNat < S32768.size a := fun v272 k1_hw350 => k1_hw350
def k1_off228 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_221 : BitVec 32 := 16#32
  let v273 : BitVec 32 := Scalar.muli arg11 c16_i32_221
  let c16_i32_222 : BitVec 32 := 16#32
  let v274 : BitVec 32 := Scalar.muli v273 c16_i32_222
  let c112_i32 : BitVec 32 := 112#32
  let v275 : BitVec 32 := Scalar.addi v274 c112_i32
  let v276 : Index := Scalar.indexCast v275
  ![v276.toNat]

def k1_chk351 (v284 : IVec S16 32) : Prop :=
  (∀ a x, ((![v284] : Fin 1 → IVec S16 32) a x).toNat < S4096.size a) ∧
  (∀ a x, ((![v284] : Fin 1 → IVec S16 32) a x).toNat < S4096.size a)
theorem k1_idx454_inb : ∀ (v284 : IVec S16 32) (k1_hw351 : k1_chk351 v284), ∀ a x, ((![v284] : Fin 1 → IVec S16 32) a x).toNat < S4096.size a := fun v284 k1_hw351 => k1_hw351.1
theorem k1_idx455_inb : ∀ (v284 : IVec S16 32) (k1_hw351 : k1_chk351 v284), ∀ a x, ((![v284] : Fin 1 → IVec S16 32) a x).toNat < S4096.size a := fun v284 k1_hw351 => k1_hw351.2

def k1_chk352 (v300 : IVec S16 32) : Prop :=
  (∀ a x, ((![v300] : Fin 1 → IVec S16 32) a x).toNat < S32768.size a)
theorem k1_idx456_inb : ∀ (v300 : IVec S16 32) (k1_hw352 : k1_chk352 v300), ∀ a x, ((![v300] : Fin 1 → IVec S16 32) a x).toNat < S32768.size a := fun v300 k1_hw352 => k1_hw352
def k1_off229 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_232 : BitVec 32 := 16#32
  let v301 : BitVec 32 := Scalar.muli arg11 c16_i32_232
  let c16_i32_233 : BitVec 32 := 16#32
  let v302 : BitVec 32 := Scalar.muli v301 c16_i32_233
  let c128_i32_234 : BitVec 32 := 128#32
  let v303 : BitVec 32 := Scalar.addi v302 c128_i32_234
  let v304 : Index := Scalar.indexCast v303
  ![v304.toNat]

def k1_chk353 (v312 : IVec S16 32) : Prop :=
  (∀ a x, ((![v312] : Fin 1 → IVec S16 32) a x).toNat < S4096.size a) ∧
  (∀ a x, ((![v312] : Fin 1 → IVec S16 32) a x).toNat < S4096.size a)
theorem k1_idx457_inb : ∀ (v312 : IVec S16 32) (k1_hw353 : k1_chk353 v312), ∀ a x, ((![v312] : Fin 1 → IVec S16 32) a x).toNat < S4096.size a := fun v312 k1_hw353 => k1_hw353.1
theorem k1_idx458_inb : ∀ (v312 : IVec S16 32) (k1_hw353 : k1_chk353 v312), ∀ a x, ((![v312] : Fin 1 → IVec S16 32) a x).toNat < S4096.size a := fun v312 k1_hw353 => k1_hw353.2

def k1_chk354 (v328 : IVec S16 32) : Prop :=
  (∀ a x, ((![v328] : Fin 1 → IVec S16 32) a x).toNat < S32768.size a)
theorem k1_idx459_inb : ∀ (v328 : IVec S16 32) (k1_hw354 : k1_chk354 v328), ∀ a x, ((![v328] : Fin 1 → IVec S16 32) a x).toNat < S32768.size a := fun v328 k1_hw354 => k1_hw354
def k1_off230 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_244 : BitVec 32 := 16#32
  let v329 : BitVec 32 := Scalar.muli arg11 c16_i32_244
  let c16_i32_245 : BitVec 32 := 16#32
  let v330 : BitVec 32 := Scalar.muli v329 c16_i32_245
  let c144_i32 : BitVec 32 := 144#32
  let v331 : BitVec 32 := Scalar.addi v330 c144_i32
  let v332 : Index := Scalar.indexCast v331
  ![v332.toNat]

def k1_chk355 (v340 : IVec S16 32) : Prop :=
  (∀ a x, ((![v340] : Fin 1 → IVec S16 32) a x).toNat < S4096.size a) ∧
  (∀ a x, ((![v340] : Fin 1 → IVec S16 32) a x).toNat < S4096.size a)
theorem k1_idx460_inb : ∀ (v340 : IVec S16 32) (k1_hw355 : k1_chk355 v340), ∀ a x, ((![v340] : Fin 1 → IVec S16 32) a x).toNat < S4096.size a := fun v340 k1_hw355 => k1_hw355.1
theorem k1_idx461_inb : ∀ (v340 : IVec S16 32) (k1_hw355 : k1_chk355 v340), ∀ a x, ((![v340] : Fin 1 → IVec S16 32) a x).toNat < S4096.size a := fun v340 k1_hw355 => k1_hw355.2

def k1_chk356 (v356 : IVec S16 32) : Prop :=
  (∀ a x, ((![v356] : Fin 1 → IVec S16 32) a x).toNat < S32768.size a)
theorem k1_idx462_inb : ∀ (v356 : IVec S16 32) (k1_hw356 : k1_chk356 v356), ∀ a x, ((![v356] : Fin 1 → IVec S16 32) a x).toNat < S32768.size a := fun v356 k1_hw356 => k1_hw356
def k1_off231 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_255 : BitVec 32 := 16#32
  let v357 : BitVec 32 := Scalar.muli arg11 c16_i32_255
  let c16_i32_256 : BitVec 32 := 16#32
  let v358 : BitVec 32 := Scalar.muli v357 c16_i32_256
  let c160_i32 : BitVec 32 := 160#32
  let v359 : BitVec 32 := Scalar.addi v358 c160_i32
  let v360 : Index := Scalar.indexCast v359
  ![v360.toNat]

def k1_chk357 (v368 : IVec S16 32) : Prop :=
  (∀ a x, ((![v368] : Fin 1 → IVec S16 32) a x).toNat < S4096.size a) ∧
  (∀ a x, ((![v368] : Fin 1 → IVec S16 32) a x).toNat < S4096.size a)
theorem k1_idx463_inb : ∀ (v368 : IVec S16 32) (k1_hw357 : k1_chk357 v368), ∀ a x, ((![v368] : Fin 1 → IVec S16 32) a x).toNat < S4096.size a := fun v368 k1_hw357 => k1_hw357.1
theorem k1_idx464_inb : ∀ (v368 : IVec S16 32) (k1_hw357 : k1_chk357 v368), ∀ a x, ((![v368] : Fin 1 → IVec S16 32) a x).toNat < S4096.size a := fun v368 k1_hw357 => k1_hw357.2

def k1_chk358 (v384 : IVec S16 32) : Prop :=
  (∀ a x, ((![v384] : Fin 1 → IVec S16 32) a x).toNat < S32768.size a)
theorem k1_idx465_inb : ∀ (v384 : IVec S16 32) (k1_hw358 : k1_chk358 v384), ∀ a x, ((![v384] : Fin 1 → IVec S16 32) a x).toNat < S32768.size a := fun v384 k1_hw358 => k1_hw358
def k1_off232 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_266 : BitVec 32 := 16#32
  let v385 : BitVec 32 := Scalar.muli arg11 c16_i32_266
  let c16_i32_267 : BitVec 32 := 16#32
  let v386 : BitVec 32 := Scalar.muli v385 c16_i32_267
  let c176_i32 : BitVec 32 := 176#32
  let v387 : BitVec 32 := Scalar.addi v386 c176_i32
  let v388 : Index := Scalar.indexCast v387
  ![v388.toNat]

def k1_chk359 (v396 : IVec S16 32) : Prop :=
  (∀ a x, ((![v396] : Fin 1 → IVec S16 32) a x).toNat < S4096.size a) ∧
  (∀ a x, ((![v396] : Fin 1 → IVec S16 32) a x).toNat < S4096.size a)
theorem k1_idx466_inb : ∀ (v396 : IVec S16 32) (k1_hw359 : k1_chk359 v396), ∀ a x, ((![v396] : Fin 1 → IVec S16 32) a x).toNat < S4096.size a := fun v396 k1_hw359 => k1_hw359.1
theorem k1_idx467_inb : ∀ (v396 : IVec S16 32) (k1_hw359 : k1_chk359 v396), ∀ a x, ((![v396] : Fin 1 → IVec S16 32) a x).toNat < S4096.size a := fun v396 k1_hw359 => k1_hw359.2

def k1_chk360 (v412 : IVec S16 32) : Prop :=
  (∀ a x, ((![v412] : Fin 1 → IVec S16 32) a x).toNat < S32768.size a)
theorem k1_idx468_inb : ∀ (v412 : IVec S16 32) (k1_hw360 : k1_chk360 v412), ∀ a x, ((![v412] : Fin 1 → IVec S16 32) a x).toNat < S32768.size a := fun v412 k1_hw360 => k1_hw360
def k1_off233 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_277 : BitVec 32 := 16#32
  let v413 : BitVec 32 := Scalar.muli arg11 c16_i32_277
  let c16_i32_278 : BitVec 32 := 16#32
  let v414 : BitVec 32 := Scalar.muli v413 c16_i32_278
  let c192_i32 : BitVec 32 := 192#32
  let v415 : BitVec 32 := Scalar.addi v414 c192_i32
  let v416 : Index := Scalar.indexCast v415
  ![v416.toNat]

def k1_chk361 (v424 : IVec S16 32) : Prop :=
  (∀ a x, ((![v424] : Fin 1 → IVec S16 32) a x).toNat < S4096.size a) ∧
  (∀ a x, ((![v424] : Fin 1 → IVec S16 32) a x).toNat < S4096.size a)
theorem k1_idx469_inb : ∀ (v424 : IVec S16 32) (k1_hw361 : k1_chk361 v424), ∀ a x, ((![v424] : Fin 1 → IVec S16 32) a x).toNat < S4096.size a := fun v424 k1_hw361 => k1_hw361.1
theorem k1_idx470_inb : ∀ (v424 : IVec S16 32) (k1_hw361 : k1_chk361 v424), ∀ a x, ((![v424] : Fin 1 → IVec S16 32) a x).toNat < S4096.size a := fun v424 k1_hw361 => k1_hw361.2

def k1_chk362 (v440 : IVec S16 32) : Prop :=
  (∀ a x, ((![v440] : Fin 1 → IVec S16 32) a x).toNat < S32768.size a)
theorem k1_idx471_inb : ∀ (v440 : IVec S16 32) (k1_hw362 : k1_chk362 v440), ∀ a x, ((![v440] : Fin 1 → IVec S16 32) a x).toNat < S32768.size a := fun v440 k1_hw362 => k1_hw362
def k1_off234 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_288 : BitVec 32 := 16#32
  let v441 : BitVec 32 := Scalar.muli arg11 c16_i32_288
  let c16_i32_289 : BitVec 32 := 16#32
  let v442 : BitVec 32 := Scalar.muli v441 c16_i32_289
  let c208_i32 : BitVec 32 := 208#32
  let v443 : BitVec 32 := Scalar.addi v442 c208_i32
  let v444 : Index := Scalar.indexCast v443
  ![v444.toNat]

def k1_chk363 (v452 : IVec S16 32) : Prop :=
  (∀ a x, ((![v452] : Fin 1 → IVec S16 32) a x).toNat < S4096.size a) ∧
  (∀ a x, ((![v452] : Fin 1 → IVec S16 32) a x).toNat < S4096.size a)
theorem k1_idx472_inb : ∀ (v452 : IVec S16 32) (k1_hw363 : k1_chk363 v452), ∀ a x, ((![v452] : Fin 1 → IVec S16 32) a x).toNat < S4096.size a := fun v452 k1_hw363 => k1_hw363.1
theorem k1_idx473_inb : ∀ (v452 : IVec S16 32) (k1_hw363 : k1_chk363 v452), ∀ a x, ((![v452] : Fin 1 → IVec S16 32) a x).toNat < S4096.size a := fun v452 k1_hw363 => k1_hw363.2

def k1_chk364 (v468 : IVec S16 32) : Prop :=
  (∀ a x, ((![v468] : Fin 1 → IVec S16 32) a x).toNat < S32768.size a)
theorem k1_idx474_inb : ∀ (v468 : IVec S16 32) (k1_hw364 : k1_chk364 v468), ∀ a x, ((![v468] : Fin 1 → IVec S16 32) a x).toNat < S32768.size a := fun v468 k1_hw364 => k1_hw364
def k1_off235 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_299 : BitVec 32 := 16#32
  let v469 : BitVec 32 := Scalar.muli arg11 c16_i32_299
  let c16_i32_300 : BitVec 32 := 16#32
  let v470 : BitVec 32 := Scalar.muli v469 c16_i32_300
  let c224_i32 : BitVec 32 := 224#32
  let v471 : BitVec 32 := Scalar.addi v470 c224_i32
  let v472 : Index := Scalar.indexCast v471
  ![v472.toNat]

def k1_chk365 (v480 : IVec S16 32) : Prop :=
  (∀ a x, ((![v480] : Fin 1 → IVec S16 32) a x).toNat < S4096.size a) ∧
  (∀ a x, ((![v480] : Fin 1 → IVec S16 32) a x).toNat < S4096.size a)
theorem k1_idx475_inb : ∀ (v480 : IVec S16 32) (k1_hw365 : k1_chk365 v480), ∀ a x, ((![v480] : Fin 1 → IVec S16 32) a x).toNat < S4096.size a := fun v480 k1_hw365 => k1_hw365.1
theorem k1_idx476_inb : ∀ (v480 : IVec S16 32) (k1_hw365 : k1_chk365 v480), ∀ a x, ((![v480] : Fin 1 → IVec S16 32) a x).toNat < S4096.size a := fun v480 k1_hw365 => k1_hw365.2

def k1_chk366 (v496 : IVec S16 32) : Prop :=
  (∀ a x, ((![v496] : Fin 1 → IVec S16 32) a x).toNat < S32768.size a)
theorem k1_idx477_inb : ∀ (v496 : IVec S16 32) (k1_hw366 : k1_chk366 v496), ∀ a x, ((![v496] : Fin 1 → IVec S16 32) a x).toNat < S32768.size a := fun v496 k1_hw366 => k1_hw366
def k1_off236 (k1_t23 : Fin k1_t23_loop.trips) : Fin 1 → Nat :=
  let c0_i32_126 : BitVec 32 := 0#32
  let c1_i32_128 : BitVec 32 := 1#32
  let arg11 : BitVec 32 := Scf.iv c0_i32_126 c1_i32_128 k1_t23
  let c16_i32_310 : BitVec 32 := 16#32
  let v497 : BitVec 32 := Scalar.muli arg11 c16_i32_310
  let c16_i32_311 : BitVec 32 := 16#32
  let v498 : BitVec 32 := Scalar.muli v497 c16_i32_311
  let c240_i32 : BitVec 32 := 240#32
  let v499 : BitVec 32 := Scalar.addi v498 c240_i32
  let v500 : Index := Scalar.indexCast v499
  ![v500.toNat]

def k1_chk367 (v508 : IVec S16 32) : Prop :=
  (∀ a x, ((![v508] : Fin 1 → IVec S16 32) a x).toNat < S4096.size a) ∧
  (∀ a x, ((![v508] : Fin 1 → IVec S16 32) a x).toNat < S4096.size a)
theorem k1_idx478_inb : ∀ (v508 : IVec S16 32) (k1_hw367 : k1_chk367 v508), ∀ a x, ((![v508] : Fin 1 → IVec S16 32) a x).toNat < S4096.size a := fun v508 k1_hw367 => k1_hw367.1
theorem k1_idx479_inb : ∀ (v508 : IVec S16 32) (k1_hw367 : k1_chk367 v508), ∀ a x, ((![v508] : Fin 1 → IVec S16 32) a x).toNat < S4096.size a := fun v508 k1_hw367 => k1_hw367.2

def k1_chk368 (v524 : IVec S16 32) : Prop :=
  (∀ a x, ((![v524] : Fin 1 → IVec S16 32) a x).toNat < S32768.size a)
theorem k1_idx480_inb : ∀ (v524 : IVec S16 32) (k1_hw368 : k1_chk368 v524), ∀ a x, ((![v524] : Fin 1 → IVec S16 32) a x).toNat < S32768.size a := fun v524 k1_hw368 => k1_hw368
@[reducible] def k1_t24_loop : Scf.Loop 32 :=
  let c0_i32_131 : BitVec 32 := 0#32
  let c128_i32_132 : BitVec 32 := 128#32
  let v65 : BitVec 32 := Scalar.addi c0_i32_131 c128_i32_132
  let c1_i32_133 : BitVec 32 := 1#32
  ⟨c0_i32_131, v65, c1_i32_133⟩
def k1_off237 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk369 (v88 : IVec S16 32) : Prop :=
  (∀ a x, ((![v88] : Fin 1 → IVec S16 32) a x).toNat < S4096.size a)
theorem k1_idx481_inb : ∀ (v88 : IVec S16 32) (k1_hw369 : k1_chk369 v88), ∀ a x, ((![v88] : Fin 1 → IVec S16 32) a x).toNat < S4096.size a := fun v88 k1_hw369 => k1_hw369
def k1_off238 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_152 : BitVec 32 := 16#32
  let v89 : BitVec 32 := Scalar.muli arg11 c16_i32_152
  let c16_i32_153 : BitVec 32 := 16#32
  let v90 : BitVec 32 := Scalar.muli v89 c16_i32_153
  let c16_i32_154 : BitVec 32 := 16#32
  let v91 : BitVec 32 := Scalar.addi v90 c16_i32_154
  let v92 : Index := Scalar.indexCast v91
  ![v92.toNat]

def k1_chk370 (v100 : IVec S16 32) : Prop :=
  (∀ a x, ((![v100] : Fin 1 → IVec S16 32) a x).toNat < S4096.size a)
theorem k1_idx482_inb : ∀ (v100 : IVec S16 32) (k1_hw370 : k1_chk370 v100), ∀ a x, ((![v100] : Fin 1 → IVec S16 32) a x).toNat < S4096.size a := fun v100 k1_hw370 => k1_hw370
def k1_off239 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_158 : BitVec 32 := 16#32
  let v101 : BitVec 32 := Scalar.muli arg11 c16_i32_158
  let c16_i32_159 : BitVec 32 := 16#32
  let v102 : BitVec 32 := Scalar.muli v101 c16_i32_159
  let c32_i32 : BitVec 32 := 32#32
  let v103 : BitVec 32 := Scalar.addi v102 c32_i32
  let v104 : Index := Scalar.indexCast v103
  ![v104.toNat]

def k1_chk371 (v112 : IVec S16 32) : Prop :=
  (∀ a x, ((![v112] : Fin 1 → IVec S16 32) a x).toNat < S4096.size a)
theorem k1_idx483_inb : ∀ (v112 : IVec S16 32) (k1_hw371 : k1_chk371 v112), ∀ a x, ((![v112] : Fin 1 → IVec S16 32) a x).toNat < S4096.size a := fun v112 k1_hw371 => k1_hw371
def k1_off240 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_163 : BitVec 32 := 16#32
  let v113 : BitVec 32 := Scalar.muli arg11 c16_i32_163
  let c16_i32_164 : BitVec 32 := 16#32
  let v114 : BitVec 32 := Scalar.muli v113 c16_i32_164
  let c48_i32 : BitVec 32 := 48#32
  let v115 : BitVec 32 := Scalar.addi v114 c48_i32
  let v116 : Index := Scalar.indexCast v115
  ![v116.toNat]

def k1_chk372 (v124 : IVec S16 32) : Prop :=
  (∀ a x, ((![v124] : Fin 1 → IVec S16 32) a x).toNat < S4096.size a)
theorem k1_idx484_inb : ∀ (v124 : IVec S16 32) (k1_hw372 : k1_chk372 v124), ∀ a x, ((![v124] : Fin 1 → IVec S16 32) a x).toNat < S4096.size a := fun v124 k1_hw372 => k1_hw372
def k1_off241 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_168 : BitVec 32 := 16#32
  let v125 : BitVec 32 := Scalar.muli arg11 c16_i32_168
  let c16_i32_169 : BitVec 32 := 16#32
  let v126 : BitVec 32 := Scalar.muli v125 c16_i32_169
  let c64_i32 : BitVec 32 := 64#32
  let v127 : BitVec 32 := Scalar.addi v126 c64_i32
  let v128 : Index := Scalar.indexCast v127
  ![v128.toNat]

def k1_chk373 (v136 : IVec S16 32) : Prop :=
  (∀ a x, ((![v136] : Fin 1 → IVec S16 32) a x).toNat < S4096.size a)
theorem k1_idx485_inb : ∀ (v136 : IVec S16 32) (k1_hw373 : k1_chk373 v136), ∀ a x, ((![v136] : Fin 1 → IVec S16 32) a x).toNat < S4096.size a := fun v136 k1_hw373 => k1_hw373
def k1_off242 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_173 : BitVec 32 := 16#32
  let v137 : BitVec 32 := Scalar.muli arg11 c16_i32_173
  let c16_i32_174 : BitVec 32 := 16#32
  let v138 : BitVec 32 := Scalar.muli v137 c16_i32_174
  let c80_i32 : BitVec 32 := 80#32
  let v139 : BitVec 32 := Scalar.addi v138 c80_i32
  let v140 : Index := Scalar.indexCast v139
  ![v140.toNat]

def k1_chk374 (v148 : IVec S16 32) : Prop :=
  (∀ a x, ((![v148] : Fin 1 → IVec S16 32) a x).toNat < S4096.size a)
theorem k1_idx486_inb : ∀ (v148 : IVec S16 32) (k1_hw374 : k1_chk374 v148), ∀ a x, ((![v148] : Fin 1 → IVec S16 32) a x).toNat < S4096.size a := fun v148 k1_hw374 => k1_hw374
def k1_off243 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_178 : BitVec 32 := 16#32
  let v149 : BitVec 32 := Scalar.muli arg11 c16_i32_178
  let c16_i32_179 : BitVec 32 := 16#32
  let v150 : BitVec 32 := Scalar.muli v149 c16_i32_179
  let c96_i32 : BitVec 32 := 96#32
  let v151 : BitVec 32 := Scalar.addi v150 c96_i32
  let v152 : Index := Scalar.indexCast v151
  ![v152.toNat]

def k1_chk375 (v160 : IVec S16 32) : Prop :=
  (∀ a x, ((![v160] : Fin 1 → IVec S16 32) a x).toNat < S4096.size a)
theorem k1_idx487_inb : ∀ (v160 : IVec S16 32) (k1_hw375 : k1_chk375 v160), ∀ a x, ((![v160] : Fin 1 → IVec S16 32) a x).toNat < S4096.size a := fun v160 k1_hw375 => k1_hw375
def k1_off244 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_183 : BitVec 32 := 16#32
  let v161 : BitVec 32 := Scalar.muli arg11 c16_i32_183
  let c16_i32_184 : BitVec 32 := 16#32
  let v162 : BitVec 32 := Scalar.muli v161 c16_i32_184
  let c112_i32 : BitVec 32 := 112#32
  let v163 : BitVec 32 := Scalar.addi v162 c112_i32
  let v164 : Index := Scalar.indexCast v163
  ![v164.toNat]

def k1_chk376 (v172 : IVec S16 32) : Prop :=
  (∀ a x, ((![v172] : Fin 1 → IVec S16 32) a x).toNat < S4096.size a)
theorem k1_idx488_inb : ∀ (v172 : IVec S16 32) (k1_hw376 : k1_chk376 v172), ∀ a x, ((![v172] : Fin 1 → IVec S16 32) a x).toNat < S4096.size a := fun v172 k1_hw376 => k1_hw376
def k1_off245 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_188 : BitVec 32 := 16#32
  let v173 : BitVec 32 := Scalar.muli arg11 c16_i32_188
  let c16_i32_189 : BitVec 32 := 16#32
  let v174 : BitVec 32 := Scalar.muli v173 c16_i32_189
  let c128_i32_190 : BitVec 32 := 128#32
  let v175 : BitVec 32 := Scalar.addi v174 c128_i32_190
  let v176 : Index := Scalar.indexCast v175
  ![v176.toNat]

def k1_chk377 (v184 : IVec S16 32) : Prop :=
  (∀ a x, ((![v184] : Fin 1 → IVec S16 32) a x).toNat < S4096.size a)
theorem k1_idx489_inb : ∀ (v184 : IVec S16 32) (k1_hw377 : k1_chk377 v184), ∀ a x, ((![v184] : Fin 1 → IVec S16 32) a x).toNat < S4096.size a := fun v184 k1_hw377 => k1_hw377
def k1_off246 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_194 : BitVec 32 := 16#32
  let v185 : BitVec 32 := Scalar.muli arg11 c16_i32_194
  let c16_i32_195 : BitVec 32 := 16#32
  let v186 : BitVec 32 := Scalar.muli v185 c16_i32_195
  let c144_i32 : BitVec 32 := 144#32
  let v187 : BitVec 32 := Scalar.addi v186 c144_i32
  let v188 : Index := Scalar.indexCast v187
  ![v188.toNat]

def k1_chk378 (v196 : IVec S16 32) : Prop :=
  (∀ a x, ((![v196] : Fin 1 → IVec S16 32) a x).toNat < S4096.size a)
theorem k1_idx490_inb : ∀ (v196 : IVec S16 32) (k1_hw378 : k1_chk378 v196), ∀ a x, ((![v196] : Fin 1 → IVec S16 32) a x).toNat < S4096.size a := fun v196 k1_hw378 => k1_hw378
def k1_off247 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_199 : BitVec 32 := 16#32
  let v197 : BitVec 32 := Scalar.muli arg11 c16_i32_199
  let c16_i32_200 : BitVec 32 := 16#32
  let v198 : BitVec 32 := Scalar.muli v197 c16_i32_200
  let c160_i32 : BitVec 32 := 160#32
  let v199 : BitVec 32 := Scalar.addi v198 c160_i32
  let v200 : Index := Scalar.indexCast v199
  ![v200.toNat]

def k1_chk379 (v208 : IVec S16 32) : Prop :=
  (∀ a x, ((![v208] : Fin 1 → IVec S16 32) a x).toNat < S4096.size a)
theorem k1_idx491_inb : ∀ (v208 : IVec S16 32) (k1_hw379 : k1_chk379 v208), ∀ a x, ((![v208] : Fin 1 → IVec S16 32) a x).toNat < S4096.size a := fun v208 k1_hw379 => k1_hw379
def k1_off248 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_204 : BitVec 32 := 16#32
  let v209 : BitVec 32 := Scalar.muli arg11 c16_i32_204
  let c16_i32_205 : BitVec 32 := 16#32
  let v210 : BitVec 32 := Scalar.muli v209 c16_i32_205
  let c176_i32 : BitVec 32 := 176#32
  let v211 : BitVec 32 := Scalar.addi v210 c176_i32
  let v212 : Index := Scalar.indexCast v211
  ![v212.toNat]

def k1_chk380 (v220 : IVec S16 32) : Prop :=
  (∀ a x, ((![v220] : Fin 1 → IVec S16 32) a x).toNat < S4096.size a)
theorem k1_idx492_inb : ∀ (v220 : IVec S16 32) (k1_hw380 : k1_chk380 v220), ∀ a x, ((![v220] : Fin 1 → IVec S16 32) a x).toNat < S4096.size a := fun v220 k1_hw380 => k1_hw380
def k1_off249 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_209 : BitVec 32 := 16#32
  let v221 : BitVec 32 := Scalar.muli arg11 c16_i32_209
  let c16_i32_210 : BitVec 32 := 16#32
  let v222 : BitVec 32 := Scalar.muli v221 c16_i32_210
  let c192_i32 : BitVec 32 := 192#32
  let v223 : BitVec 32 := Scalar.addi v222 c192_i32
  let v224 : Index := Scalar.indexCast v223
  ![v224.toNat]

def k1_chk381 (v232 : IVec S16 32) : Prop :=
  (∀ a x, ((![v232] : Fin 1 → IVec S16 32) a x).toNat < S4096.size a)
theorem k1_idx493_inb : ∀ (v232 : IVec S16 32) (k1_hw381 : k1_chk381 v232), ∀ a x, ((![v232] : Fin 1 → IVec S16 32) a x).toNat < S4096.size a := fun v232 k1_hw381 => k1_hw381
def k1_off250 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_214 : BitVec 32 := 16#32
  let v233 : BitVec 32 := Scalar.muli arg11 c16_i32_214
  let c16_i32_215 : BitVec 32 := 16#32
  let v234 : BitVec 32 := Scalar.muli v233 c16_i32_215
  let c208_i32 : BitVec 32 := 208#32
  let v235 : BitVec 32 := Scalar.addi v234 c208_i32
  let v236 : Index := Scalar.indexCast v235
  ![v236.toNat]

def k1_chk382 (v244 : IVec S16 32) : Prop :=
  (∀ a x, ((![v244] : Fin 1 → IVec S16 32) a x).toNat < S4096.size a)
theorem k1_idx494_inb : ∀ (v244 : IVec S16 32) (k1_hw382 : k1_chk382 v244), ∀ a x, ((![v244] : Fin 1 → IVec S16 32) a x).toNat < S4096.size a := fun v244 k1_hw382 => k1_hw382
def k1_off251 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_219 : BitVec 32 := 16#32
  let v245 : BitVec 32 := Scalar.muli arg11 c16_i32_219
  let c16_i32_220 : BitVec 32 := 16#32
  let v246 : BitVec 32 := Scalar.muli v245 c16_i32_220
  let c224_i32 : BitVec 32 := 224#32
  let v247 : BitVec 32 := Scalar.addi v246 c224_i32
  let v248 : Index := Scalar.indexCast v247
  ![v248.toNat]

def k1_chk383 (v256 : IVec S16 32) : Prop :=
  (∀ a x, ((![v256] : Fin 1 → IVec S16 32) a x).toNat < S4096.size a)
theorem k1_idx495_inb : ∀ (v256 : IVec S16 32) (k1_hw383 : k1_chk383 v256), ∀ a x, ((![v256] : Fin 1 → IVec S16 32) a x).toNat < S4096.size a := fun v256 k1_hw383 => k1_hw383
def k1_off252 (k1_t24 : Fin k1_t24_loop.trips) : Fin 1 → Nat :=
  let c0_i32_131 : BitVec 32 := 0#32
  let c1_i32_133 : BitVec 32 := 1#32
  let arg11 : BitVec 32 := Scf.iv c0_i32_131 c1_i32_133 k1_t24
  let c16_i32_224 : BitVec 32 := 16#32
  let v257 : BitVec 32 := Scalar.muli arg11 c16_i32_224
  let c16_i32_225 : BitVec 32 := 16#32
  let v258 : BitVec 32 := Scalar.muli v257 c16_i32_225
  let c240_i32 : BitVec 32 := 240#32
  let v259 : BitVec 32 := Scalar.addi v258 c240_i32
  let v260 : Index := Scalar.indexCast v259
  ![v260.toNat]

def k1_chk384 (v268 : IVec S16 32) : Prop :=
  (∀ a x, ((![v268] : Fin 1 → IVec S16 32) a x).toNat < S4096.size a)
theorem k1_idx496_inb : ∀ (v268 : IVec S16 32) (k1_hw384 : k1_chk384 v268), ∀ a x, ((![v268] : Fin 1 → IVec S16 32) a x).toNat < S4096.size a := fun v268 k1_hw384 => k1_hw384
@[reducible] def k1_t25_loop : Scf.Loop 32 :=
  let c0_i32_136 : BitVec 32 := 0#32
  let c256_i32_137 : BitVec 32 := 256#32
  let v66 : BitVec 32 := Scalar.addi c0_i32_136 c256_i32_137
  let c1_i32_138 : BitVec 32 := 1#32
  ⟨c0_i32_136, v66, c1_i32_138⟩
def k1_off253 (k1_t25 : Fin k1_t25_loop.trips) : Fin 1 → Nat :=
  let c0_i32_136 : BitVec 32 := 0#32
  let c1_i32_138 : BitVec 32 := 1#32
  let arg11 : BitVec 32 := Scf.iv c0_i32_136 c1_i32_138 k1_t25
  let c16_i32_149 : BitVec 32 := 16#32
  let v77 : BitVec 32 := Scalar.muli arg11 c16_i32_149
  let v78 : Index := Scalar.indexCast v77
  ![v78.toNat]
@[reducible] def k1_t26_loop : Scf.Loop 32 :=
  let c0_i32_141 : BitVec 32 := 0#32
  let c128_i32_142 : BitVec 32 := 128#32
  let v68 : BitVec 32 := Scalar.addi c0_i32_141 c128_i32_142
  let c1_i32_143 : BitVec 32 := 1#32
  ⟨c0_i32_141, v68, c1_i32_143⟩
def k1_off254 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k1_chk385 (v88 : IVec S16 32) : Prop :=
  (∀ a x, ((![v88] : Fin 1 → IVec S16 32) a x).toNat < S4096.size a) ∧
  (∀ a x, ((![v88] : Fin 1 → IVec S16 32) a x).toNat < S4096.size a)
theorem k1_idx497_inb : ∀ (v88 : IVec S16 32) (k1_hw385 : k1_chk385 v88), ∀ a x, ((![v88] : Fin 1 → IVec S16 32) a x).toNat < S4096.size a := fun v88 k1_hw385 => k1_hw385.1
theorem k1_idx498_inb : ∀ (v88 : IVec S16 32) (k1_hw385 : k1_chk385 v88), ∀ a x, ((![v88] : Fin 1 → IVec S16 32) a x).toNat < S4096.size a := fun v88 k1_hw385 => k1_hw385.2

def k1_chk386 (v89 : IVec S16 32) : Prop :=
  (∀ a x, ((![v89] : Fin 1 → IVec S16 32) a x).toNat < S32768.size a)
theorem k1_idx499_inb : ∀ (v89 : IVec S16 32) (k1_hw386 : k1_chk386 v89), ∀ a x, ((![v89] : Fin 1 → IVec S16 32) a x).toNat < S32768.size a := fun v89 k1_hw386 => k1_hw386
def k1_off255 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_154 : BitVec 32 := 16#32
  let v100 : BitVec 32 := Scalar.muli arg11 c16_i32_154
  let c16_i32_155 : BitVec 32 := 16#32
  let v101 : BitVec 32 := Scalar.muli v100 c16_i32_155
  let c16_i32_156 : BitVec 32 := 16#32
  let v102 : BitVec 32 := Scalar.addi v101 c16_i32_156
  let v103 : Index := Scalar.indexCast v102
  ![v103.toNat]

def k1_chk387 (v111 : IVec S16 32) : Prop :=
  (∀ a x, ((![v111] : Fin 1 → IVec S16 32) a x).toNat < S4096.size a) ∧
  (∀ a x, ((![v111] : Fin 1 → IVec S16 32) a x).toNat < S4096.size a)
theorem k1_idx500_inb : ∀ (v111 : IVec S16 32) (k1_hw387 : k1_chk387 v111), ∀ a x, ((![v111] : Fin 1 → IVec S16 32) a x).toNat < S4096.size a := fun v111 k1_hw387 => k1_hw387.1
theorem k1_idx501_inb : ∀ (v111 : IVec S16 32) (k1_hw387 : k1_chk387 v111), ∀ a x, ((![v111] : Fin 1 → IVec S16 32) a x).toNat < S4096.size a := fun v111 k1_hw387 => k1_hw387.2

def k1_chk388 (v112 : IVec S16 32) : Prop :=
  (∀ a x, ((![v112] : Fin 1 → IVec S16 32) a x).toNat < S32768.size a)
theorem k1_idx502_inb : ∀ (v112 : IVec S16 32) (k1_hw388 : k1_chk388 v112), ∀ a x, ((![v112] : Fin 1 → IVec S16 32) a x).toNat < S32768.size a := fun v112 k1_hw388 => k1_hw388
def k1_off256 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_164 : BitVec 32 := 16#32
  let v123 : BitVec 32 := Scalar.muli arg11 c16_i32_164
  let c16_i32_165 : BitVec 32 := 16#32
  let v124 : BitVec 32 := Scalar.muli v123 c16_i32_165
  let c32_i32 : BitVec 32 := 32#32
  let v125 : BitVec 32 := Scalar.addi v124 c32_i32
  let v126 : Index := Scalar.indexCast v125
  ![v126.toNat]

def k1_chk389 (v134 : IVec S16 32) : Prop :=
  (∀ a x, ((![v134] : Fin 1 → IVec S16 32) a x).toNat < S4096.size a) ∧
  (∀ a x, ((![v134] : Fin 1 → IVec S16 32) a x).toNat < S4096.size a)
theorem k1_idx503_inb : ∀ (v134 : IVec S16 32) (k1_hw389 : k1_chk389 v134), ∀ a x, ((![v134] : Fin 1 → IVec S16 32) a x).toNat < S4096.size a := fun v134 k1_hw389 => k1_hw389.1
theorem k1_idx504_inb : ∀ (v134 : IVec S16 32) (k1_hw389 : k1_chk389 v134), ∀ a x, ((![v134] : Fin 1 → IVec S16 32) a x).toNat < S4096.size a := fun v134 k1_hw389 => k1_hw389.2

def k1_chk390 (v135 : IVec S16 32) : Prop :=
  (∀ a x, ((![v135] : Fin 1 → IVec S16 32) a x).toNat < S32768.size a)
theorem k1_idx505_inb : ∀ (v135 : IVec S16 32) (k1_hw390 : k1_chk390 v135), ∀ a x, ((![v135] : Fin 1 → IVec S16 32) a x).toNat < S32768.size a := fun v135 k1_hw390 => k1_hw390
def k1_off257 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_173 : BitVec 32 := 16#32
  let v146 : BitVec 32 := Scalar.muli arg11 c16_i32_173
  let c16_i32_174 : BitVec 32 := 16#32
  let v147 : BitVec 32 := Scalar.muli v146 c16_i32_174
  let c48_i32 : BitVec 32 := 48#32
  let v148 : BitVec 32 := Scalar.addi v147 c48_i32
  let v149 : Index := Scalar.indexCast v148
  ![v149.toNat]

def k1_chk391 (v157 : IVec S16 32) : Prop :=
  (∀ a x, ((![v157] : Fin 1 → IVec S16 32) a x).toNat < S4096.size a) ∧
  (∀ a x, ((![v157] : Fin 1 → IVec S16 32) a x).toNat < S4096.size a)
theorem k1_idx506_inb : ∀ (v157 : IVec S16 32) (k1_hw391 : k1_chk391 v157), ∀ a x, ((![v157] : Fin 1 → IVec S16 32) a x).toNat < S4096.size a := fun v157 k1_hw391 => k1_hw391.1
theorem k1_idx507_inb : ∀ (v157 : IVec S16 32) (k1_hw391 : k1_chk391 v157), ∀ a x, ((![v157] : Fin 1 → IVec S16 32) a x).toNat < S4096.size a := fun v157 k1_hw391 => k1_hw391.2

def k1_chk392 (v158 : IVec S16 32) : Prop :=
  (∀ a x, ((![v158] : Fin 1 → IVec S16 32) a x).toNat < S32768.size a)
theorem k1_idx508_inb : ∀ (v158 : IVec S16 32) (k1_hw392 : k1_chk392 v158), ∀ a x, ((![v158] : Fin 1 → IVec S16 32) a x).toNat < S32768.size a := fun v158 k1_hw392 => k1_hw392
def k1_off258 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_182 : BitVec 32 := 16#32
  let v169 : BitVec 32 := Scalar.muli arg11 c16_i32_182
  let c16_i32_183 : BitVec 32 := 16#32
  let v170 : BitVec 32 := Scalar.muli v169 c16_i32_183
  let c64_i32 : BitVec 32 := 64#32
  let v171 : BitVec 32 := Scalar.addi v170 c64_i32
  let v172 : Index := Scalar.indexCast v171
  ![v172.toNat]

def k1_chk393 (v180 : IVec S16 32) : Prop :=
  (∀ a x, ((![v180] : Fin 1 → IVec S16 32) a x).toNat < S4096.size a) ∧
  (∀ a x, ((![v180] : Fin 1 → IVec S16 32) a x).toNat < S4096.size a)
theorem k1_idx509_inb : ∀ (v180 : IVec S16 32) (k1_hw393 : k1_chk393 v180), ∀ a x, ((![v180] : Fin 1 → IVec S16 32) a x).toNat < S4096.size a := fun v180 k1_hw393 => k1_hw393.1
theorem k1_idx510_inb : ∀ (v180 : IVec S16 32) (k1_hw393 : k1_chk393 v180), ∀ a x, ((![v180] : Fin 1 → IVec S16 32) a x).toNat < S4096.size a := fun v180 k1_hw393 => k1_hw393.2

def k1_chk394 (v181 : IVec S16 32) : Prop :=
  (∀ a x, ((![v181] : Fin 1 → IVec S16 32) a x).toNat < S32768.size a)
theorem k1_idx511_inb : ∀ (v181 : IVec S16 32) (k1_hw394 : k1_chk394 v181), ∀ a x, ((![v181] : Fin 1 → IVec S16 32) a x).toNat < S32768.size a := fun v181 k1_hw394 => k1_hw394
def k1_off259 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_191 : BitVec 32 := 16#32
  let v192 : BitVec 32 := Scalar.muli arg11 c16_i32_191
  let c16_i32_192 : BitVec 32 := 16#32
  let v193 : BitVec 32 := Scalar.muli v192 c16_i32_192
  let c80_i32 : BitVec 32 := 80#32
  let v194 : BitVec 32 := Scalar.addi v193 c80_i32
  let v195 : Index := Scalar.indexCast v194
  ![v195.toNat]

def k1_chk395 (v203 : IVec S16 32) : Prop :=
  (∀ a x, ((![v203] : Fin 1 → IVec S16 32) a x).toNat < S4096.size a) ∧
  (∀ a x, ((![v203] : Fin 1 → IVec S16 32) a x).toNat < S4096.size a)
theorem k1_idx512_inb : ∀ (v203 : IVec S16 32) (k1_hw395 : k1_chk395 v203), ∀ a x, ((![v203] : Fin 1 → IVec S16 32) a x).toNat < S4096.size a := fun v203 k1_hw395 => k1_hw395.1
theorem k1_idx513_inb : ∀ (v203 : IVec S16 32) (k1_hw395 : k1_chk395 v203), ∀ a x, ((![v203] : Fin 1 → IVec S16 32) a x).toNat < S4096.size a := fun v203 k1_hw395 => k1_hw395.2

def k1_chk396 (v204 : IVec S16 32) : Prop :=
  (∀ a x, ((![v204] : Fin 1 → IVec S16 32) a x).toNat < S32768.size a)
theorem k1_idx514_inb : ∀ (v204 : IVec S16 32) (k1_hw396 : k1_chk396 v204), ∀ a x, ((![v204] : Fin 1 → IVec S16 32) a x).toNat < S32768.size a := fun v204 k1_hw396 => k1_hw396
def k1_off260 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_200 : BitVec 32 := 16#32
  let v215 : BitVec 32 := Scalar.muli arg11 c16_i32_200
  let c16_i32_201 : BitVec 32 := 16#32
  let v216 : BitVec 32 := Scalar.muli v215 c16_i32_201
  let c96_i32 : BitVec 32 := 96#32
  let v217 : BitVec 32 := Scalar.addi v216 c96_i32
  let v218 : Index := Scalar.indexCast v217
  ![v218.toNat]

def k1_chk397 (v226 : IVec S16 32) : Prop :=
  (∀ a x, ((![v226] : Fin 1 → IVec S16 32) a x).toNat < S4096.size a) ∧
  (∀ a x, ((![v226] : Fin 1 → IVec S16 32) a x).toNat < S4096.size a)
theorem k1_idx515_inb : ∀ (v226 : IVec S16 32) (k1_hw397 : k1_chk397 v226), ∀ a x, ((![v226] : Fin 1 → IVec S16 32) a x).toNat < S4096.size a := fun v226 k1_hw397 => k1_hw397.1
theorem k1_idx516_inb : ∀ (v226 : IVec S16 32) (k1_hw397 : k1_chk397 v226), ∀ a x, ((![v226] : Fin 1 → IVec S16 32) a x).toNat < S4096.size a := fun v226 k1_hw397 => k1_hw397.2

def k1_chk398 (v227 : IVec S16 32) : Prop :=
  (∀ a x, ((![v227] : Fin 1 → IVec S16 32) a x).toNat < S32768.size a)
theorem k1_idx517_inb : ∀ (v227 : IVec S16 32) (k1_hw398 : k1_chk398 v227), ∀ a x, ((![v227] : Fin 1 → IVec S16 32) a x).toNat < S32768.size a := fun v227 k1_hw398 => k1_hw398
def k1_off261 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_209 : BitVec 32 := 16#32
  let v238 : BitVec 32 := Scalar.muli arg11 c16_i32_209
  let c16_i32_210 : BitVec 32 := 16#32
  let v239 : BitVec 32 := Scalar.muli v238 c16_i32_210
  let c112_i32 : BitVec 32 := 112#32
  let v240 : BitVec 32 := Scalar.addi v239 c112_i32
  let v241 : Index := Scalar.indexCast v240
  ![v241.toNat]

def k1_chk399 (v249 : IVec S16 32) : Prop :=
  (∀ a x, ((![v249] : Fin 1 → IVec S16 32) a x).toNat < S4096.size a) ∧
  (∀ a x, ((![v249] : Fin 1 → IVec S16 32) a x).toNat < S4096.size a)
theorem k1_idx518_inb : ∀ (v249 : IVec S16 32) (k1_hw399 : k1_chk399 v249), ∀ a x, ((![v249] : Fin 1 → IVec S16 32) a x).toNat < S4096.size a := fun v249 k1_hw399 => k1_hw399.1
theorem k1_idx519_inb : ∀ (v249 : IVec S16 32) (k1_hw399 : k1_chk399 v249), ∀ a x, ((![v249] : Fin 1 → IVec S16 32) a x).toNat < S4096.size a := fun v249 k1_hw399 => k1_hw399.2

def k1_chk400 (v250 : IVec S16 32) : Prop :=
  (∀ a x, ((![v250] : Fin 1 → IVec S16 32) a x).toNat < S32768.size a)
theorem k1_idx520_inb : ∀ (v250 : IVec S16 32) (k1_hw400 : k1_chk400 v250), ∀ a x, ((![v250] : Fin 1 → IVec S16 32) a x).toNat < S32768.size a := fun v250 k1_hw400 => k1_hw400
def k1_off262 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_218 : BitVec 32 := 16#32
  let v261 : BitVec 32 := Scalar.muli arg11 c16_i32_218
  let c16_i32_219 : BitVec 32 := 16#32
  let v262 : BitVec 32 := Scalar.muli v261 c16_i32_219
  let c128_i32_220 : BitVec 32 := 128#32
  let v263 : BitVec 32 := Scalar.addi v262 c128_i32_220
  let v264 : Index := Scalar.indexCast v263
  ![v264.toNat]

def k1_chk401 (v272 : IVec S16 32) : Prop :=
  (∀ a x, ((![v272] : Fin 1 → IVec S16 32) a x).toNat < S4096.size a) ∧
  (∀ a x, ((![v272] : Fin 1 → IVec S16 32) a x).toNat < S4096.size a)
theorem k1_idx521_inb : ∀ (v272 : IVec S16 32) (k1_hw401 : k1_chk401 v272), ∀ a x, ((![v272] : Fin 1 → IVec S16 32) a x).toNat < S4096.size a := fun v272 k1_hw401 => k1_hw401.1
theorem k1_idx522_inb : ∀ (v272 : IVec S16 32) (k1_hw401 : k1_chk401 v272), ∀ a x, ((![v272] : Fin 1 → IVec S16 32) a x).toNat < S4096.size a := fun v272 k1_hw401 => k1_hw401.2

def k1_chk402 (v273 : IVec S16 32) : Prop :=
  (∀ a x, ((![v273] : Fin 1 → IVec S16 32) a x).toNat < S32768.size a)
theorem k1_idx523_inb : ∀ (v273 : IVec S16 32) (k1_hw402 : k1_chk402 v273), ∀ a x, ((![v273] : Fin 1 → IVec S16 32) a x).toNat < S32768.size a := fun v273 k1_hw402 => k1_hw402
def k1_off263 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_228 : BitVec 32 := 16#32
  let v284 : BitVec 32 := Scalar.muli arg11 c16_i32_228
  let c16_i32_229 : BitVec 32 := 16#32
  let v285 : BitVec 32 := Scalar.muli v284 c16_i32_229
  let c144_i32 : BitVec 32 := 144#32
  let v286 : BitVec 32 := Scalar.addi v285 c144_i32
  let v287 : Index := Scalar.indexCast v286
  ![v287.toNat]

def k1_chk403 (v295 : IVec S16 32) : Prop :=
  (∀ a x, ((![v295] : Fin 1 → IVec S16 32) a x).toNat < S4096.size a) ∧
  (∀ a x, ((![v295] : Fin 1 → IVec S16 32) a x).toNat < S4096.size a)
theorem k1_idx524_inb : ∀ (v295 : IVec S16 32) (k1_hw403 : k1_chk403 v295), ∀ a x, ((![v295] : Fin 1 → IVec S16 32) a x).toNat < S4096.size a := fun v295 k1_hw403 => k1_hw403.1
theorem k1_idx525_inb : ∀ (v295 : IVec S16 32) (k1_hw403 : k1_chk403 v295), ∀ a x, ((![v295] : Fin 1 → IVec S16 32) a x).toNat < S4096.size a := fun v295 k1_hw403 => k1_hw403.2

def k1_chk404 (v296 : IVec S16 32) : Prop :=
  (∀ a x, ((![v296] : Fin 1 → IVec S16 32) a x).toNat < S32768.size a)
theorem k1_idx526_inb : ∀ (v296 : IVec S16 32) (k1_hw404 : k1_chk404 v296), ∀ a x, ((![v296] : Fin 1 → IVec S16 32) a x).toNat < S32768.size a := fun v296 k1_hw404 => k1_hw404
def k1_off264 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_237 : BitVec 32 := 16#32
  let v307 : BitVec 32 := Scalar.muli arg11 c16_i32_237
  let c16_i32_238 : BitVec 32 := 16#32
  let v308 : BitVec 32 := Scalar.muli v307 c16_i32_238
  let c160_i32 : BitVec 32 := 160#32
  let v309 : BitVec 32 := Scalar.addi v308 c160_i32
  let v310 : Index := Scalar.indexCast v309
  ![v310.toNat]

def k1_chk405 (v318 : IVec S16 32) : Prop :=
  (∀ a x, ((![v318] : Fin 1 → IVec S16 32) a x).toNat < S4096.size a) ∧
  (∀ a x, ((![v318] : Fin 1 → IVec S16 32) a x).toNat < S4096.size a)
theorem k1_idx527_inb : ∀ (v318 : IVec S16 32) (k1_hw405 : k1_chk405 v318), ∀ a x, ((![v318] : Fin 1 → IVec S16 32) a x).toNat < S4096.size a := fun v318 k1_hw405 => k1_hw405.1
theorem k1_idx528_inb : ∀ (v318 : IVec S16 32) (k1_hw405 : k1_chk405 v318), ∀ a x, ((![v318] : Fin 1 → IVec S16 32) a x).toNat < S4096.size a := fun v318 k1_hw405 => k1_hw405.2

def k1_chk406 (v319 : IVec S16 32) : Prop :=
  (∀ a x, ((![v319] : Fin 1 → IVec S16 32) a x).toNat < S32768.size a)
theorem k1_idx529_inb : ∀ (v319 : IVec S16 32) (k1_hw406 : k1_chk406 v319), ∀ a x, ((![v319] : Fin 1 → IVec S16 32) a x).toNat < S32768.size a := fun v319 k1_hw406 => k1_hw406
def k1_off265 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_246 : BitVec 32 := 16#32
  let v330 : BitVec 32 := Scalar.muli arg11 c16_i32_246
  let c16_i32_247 : BitVec 32 := 16#32
  let v331 : BitVec 32 := Scalar.muli v330 c16_i32_247
  let c176_i32 : BitVec 32 := 176#32
  let v332 : BitVec 32 := Scalar.addi v331 c176_i32
  let v333 : Index := Scalar.indexCast v332
  ![v333.toNat]

def k1_chk407 (v341 : IVec S16 32) : Prop :=
  (∀ a x, ((![v341] : Fin 1 → IVec S16 32) a x).toNat < S4096.size a) ∧
  (∀ a x, ((![v341] : Fin 1 → IVec S16 32) a x).toNat < S4096.size a)
theorem k1_idx530_inb : ∀ (v341 : IVec S16 32) (k1_hw407 : k1_chk407 v341), ∀ a x, ((![v341] : Fin 1 → IVec S16 32) a x).toNat < S4096.size a := fun v341 k1_hw407 => k1_hw407.1
theorem k1_idx531_inb : ∀ (v341 : IVec S16 32) (k1_hw407 : k1_chk407 v341), ∀ a x, ((![v341] : Fin 1 → IVec S16 32) a x).toNat < S4096.size a := fun v341 k1_hw407 => k1_hw407.2

def k1_chk408 (v342 : IVec S16 32) : Prop :=
  (∀ a x, ((![v342] : Fin 1 → IVec S16 32) a x).toNat < S32768.size a)
theorem k1_idx532_inb : ∀ (v342 : IVec S16 32) (k1_hw408 : k1_chk408 v342), ∀ a x, ((![v342] : Fin 1 → IVec S16 32) a x).toNat < S32768.size a := fun v342 k1_hw408 => k1_hw408
def k1_off266 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_255 : BitVec 32 := 16#32
  let v353 : BitVec 32 := Scalar.muli arg11 c16_i32_255
  let c16_i32_256 : BitVec 32 := 16#32
  let v354 : BitVec 32 := Scalar.muli v353 c16_i32_256
  let c192_i32 : BitVec 32 := 192#32
  let v355 : BitVec 32 := Scalar.addi v354 c192_i32
  let v356 : Index := Scalar.indexCast v355
  ![v356.toNat]

def k1_chk409 (v364 : IVec S16 32) : Prop :=
  (∀ a x, ((![v364] : Fin 1 → IVec S16 32) a x).toNat < S4096.size a) ∧
  (∀ a x, ((![v364] : Fin 1 → IVec S16 32) a x).toNat < S4096.size a)
theorem k1_idx533_inb : ∀ (v364 : IVec S16 32) (k1_hw409 : k1_chk409 v364), ∀ a x, ((![v364] : Fin 1 → IVec S16 32) a x).toNat < S4096.size a := fun v364 k1_hw409 => k1_hw409.1
theorem k1_idx534_inb : ∀ (v364 : IVec S16 32) (k1_hw409 : k1_chk409 v364), ∀ a x, ((![v364] : Fin 1 → IVec S16 32) a x).toNat < S4096.size a := fun v364 k1_hw409 => k1_hw409.2

def k1_chk410 (v365 : IVec S16 32) : Prop :=
  (∀ a x, ((![v365] : Fin 1 → IVec S16 32) a x).toNat < S32768.size a)
theorem k1_idx535_inb : ∀ (v365 : IVec S16 32) (k1_hw410 : k1_chk410 v365), ∀ a x, ((![v365] : Fin 1 → IVec S16 32) a x).toNat < S32768.size a := fun v365 k1_hw410 => k1_hw410
def k1_off267 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_264 : BitVec 32 := 16#32
  let v376 : BitVec 32 := Scalar.muli arg11 c16_i32_264
  let c16_i32_265 : BitVec 32 := 16#32
  let v377 : BitVec 32 := Scalar.muli v376 c16_i32_265
  let c208_i32 : BitVec 32 := 208#32
  let v378 : BitVec 32 := Scalar.addi v377 c208_i32
  let v379 : Index := Scalar.indexCast v378
  ![v379.toNat]

def k1_chk411 (v387 : IVec S16 32) : Prop :=
  (∀ a x, ((![v387] : Fin 1 → IVec S16 32) a x).toNat < S4096.size a) ∧
  (∀ a x, ((![v387] : Fin 1 → IVec S16 32) a x).toNat < S4096.size a)
theorem k1_idx536_inb : ∀ (v387 : IVec S16 32) (k1_hw411 : k1_chk411 v387), ∀ a x, ((![v387] : Fin 1 → IVec S16 32) a x).toNat < S4096.size a := fun v387 k1_hw411 => k1_hw411.1
theorem k1_idx537_inb : ∀ (v387 : IVec S16 32) (k1_hw411 : k1_chk411 v387), ∀ a x, ((![v387] : Fin 1 → IVec S16 32) a x).toNat < S4096.size a := fun v387 k1_hw411 => k1_hw411.2

def k1_chk412 (v388 : IVec S16 32) : Prop :=
  (∀ a x, ((![v388] : Fin 1 → IVec S16 32) a x).toNat < S32768.size a)
theorem k1_idx538_inb : ∀ (v388 : IVec S16 32) (k1_hw412 : k1_chk412 v388), ∀ a x, ((![v388] : Fin 1 → IVec S16 32) a x).toNat < S32768.size a := fun v388 k1_hw412 => k1_hw412
def k1_off268 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_273 : BitVec 32 := 16#32
  let v399 : BitVec 32 := Scalar.muli arg11 c16_i32_273
  let c16_i32_274 : BitVec 32 := 16#32
  let v400 : BitVec 32 := Scalar.muli v399 c16_i32_274
  let c224_i32 : BitVec 32 := 224#32
  let v401 : BitVec 32 := Scalar.addi v400 c224_i32
  let v402 : Index := Scalar.indexCast v401
  ![v402.toNat]

def k1_chk413 (v410 : IVec S16 32) : Prop :=
  (∀ a x, ((![v410] : Fin 1 → IVec S16 32) a x).toNat < S4096.size a) ∧
  (∀ a x, ((![v410] : Fin 1 → IVec S16 32) a x).toNat < S4096.size a)
theorem k1_idx539_inb : ∀ (v410 : IVec S16 32) (k1_hw413 : k1_chk413 v410), ∀ a x, ((![v410] : Fin 1 → IVec S16 32) a x).toNat < S4096.size a := fun v410 k1_hw413 => k1_hw413.1
theorem k1_idx540_inb : ∀ (v410 : IVec S16 32) (k1_hw413 : k1_chk413 v410), ∀ a x, ((![v410] : Fin 1 → IVec S16 32) a x).toNat < S4096.size a := fun v410 k1_hw413 => k1_hw413.2

def k1_chk414 (v411 : IVec S16 32) : Prop :=
  (∀ a x, ((![v411] : Fin 1 → IVec S16 32) a x).toNat < S32768.size a)
theorem k1_idx541_inb : ∀ (v411 : IVec S16 32) (k1_hw414 : k1_chk414 v411), ∀ a x, ((![v411] : Fin 1 → IVec S16 32) a x).toNat < S32768.size a := fun v411 k1_hw414 => k1_hw414
def k1_off269 (k1_t26 : Fin k1_t26_loop.trips) : Fin 1 → Nat :=
  let c0_i32_141 : BitVec 32 := 0#32
  let c1_i32_143 : BitVec 32 := 1#32
  let arg11 : BitVec 32 := Scf.iv c0_i32_141 c1_i32_143 k1_t26
  let c16_i32_282 : BitVec 32 := 16#32
  let v422 : BitVec 32 := Scalar.muli arg11 c16_i32_282
  let c16_i32_283 : BitVec 32 := 16#32
  let v423 : BitVec 32 := Scalar.muli v422 c16_i32_283
  let c240_i32 : BitVec 32 := 240#32
  let v424 : BitVec 32 := Scalar.addi v423 c240_i32
  let v425 : Index := Scalar.indexCast v424
  ![v425.toNat]

def k1_chk415 (v433 : IVec S16 32) : Prop :=
  (∀ a x, ((![v433] : Fin 1 → IVec S16 32) a x).toNat < S4096.size a) ∧
  (∀ a x, ((![v433] : Fin 1 → IVec S16 32) a x).toNat < S4096.size a)
theorem k1_idx542_inb : ∀ (v433 : IVec S16 32) (k1_hw415 : k1_chk415 v433), ∀ a x, ((![v433] : Fin 1 → IVec S16 32) a x).toNat < S4096.size a := fun v433 k1_hw415 => k1_hw415.1
theorem k1_idx543_inb : ∀ (v433 : IVec S16 32) (k1_hw415 : k1_chk415 v433), ∀ a x, ((![v433] : Fin 1 → IVec S16 32) a x).toNat < S4096.size a := fun v433 k1_hw415 => k1_hw415.2

def k1_chk416 (v434 : IVec S16 32) : Prop :=
  (∀ a x, ((![v434] : Fin 1 → IVec S16 32) a x).toNat < S32768.size a)
theorem k1_idx544_inb : ∀ (v434 : IVec S16 32) (k1_hw416 : k1_chk416 v434), ∀ a x, ((![v434] : Fin 1 → IVec S16 32) a x).toNat < S32768.size a := fun v434 k1_hw416 => k1_hw416
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S64x16x32768 : Shape := ⟨3, ![64, 16, 32768]⟩
abbrev S64x32768 : Shape := ⟨2, ![64, 32768]⟩
abbrev S1x16x32768 : Shape := ⟨3, ![1, 16, 32768]⟩
abbrev S16x32768 : Shape := ⟨2, ![16, 32768]⟩
abbrev S32768 : Shape := ⟨1, ![32768]⟩
abbrev S1x32768 : Shape := ⟨2, ![1, 32768]⟩

abbrev nBuf : Space → Nat
  | .hbm => 4
  | .vmem => 2
  | .smem => 0
  | _ => 0

abbrev bufTy : (tb : Table) → Fin (tcTables nBuf tb) → BufTy
  | .hbm, ⟨0, _⟩ => ⟨S64x16x32768, .f32⟩
  | .hbm, ⟨1, _⟩ => ⟨S64x32768, .f32⟩
  | .hbm, ⟨2, _⟩ => ⟨S64x32768, .f32⟩
  | .hbm, ⟨3, _⟩ => ⟨S64x32768, .i32⟩
  | .local _ .vmem, ⟨0, _⟩ => ⟨S64x16x32768, .f32⟩
  | .local _ .vmem, ⟨1, _⟩ => ⟨S64x32768, .f32⟩
  | _, _ => ⟨S64x16x32768, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg2 : BitVec 32 := Scf.iv c0_i32 c1_i32 k0_t1
  let v1 : Index := Scalar.indexCast arg2
  let c0 : Index := 0#32
  let c0_1 : Index := 0#32
  ![v1.toNat, 0, 0]
def k0_off2 (k0_t1 : Fin k0_t1_loop.trips) : Fin 2 → Nat :=
  let c0_i32 : BitVec 32 := 0#32
  let c1_i32 : BitVec 32 := 1#32
  let arg2 : BitVec 32 := Scf.iv c0_i32 c1_i32 k0_t1
  let v8 : Index := Scalar.indexCast arg2
  let c0_3 : Index := 0#32
  ![v8.toNat, 0]
abbrev stage0_0 : Fin 1 → Memref sig .tc .vmem S64x16x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Sort.lean ====
abbrev S64x32768 : Shape := ⟨2, ![64, 32768]⟩
abbrev S64x16x2048 : Shape := ⟨3, ![64, 16, 2048]⟩
abbrev S64x2048x16 : Shape := ⟨3, ![64, 2048, 16]⟩
abbrev S32768 : Shape := ⟨1, ![32768]⟩
abbrev S4096 : Shape := ⟨1, ![4096]⟩
abbrev S_ : Shape := ⟨0, ![]⟩
abbrev S16 : Shape := ⟨1, ![16]⟩
abbrev S1x32768 : Shape := ⟨2, ![1, 32768]⟩
abbrev S1 : Shape := ⟨1, ![1]⟩

abbrev nBuf : Table → Nat
  | .hbm => 5
  | .local .scVector .vmem => 5
  | _ => 0

abbrev bufTy : (tb : Table) → Fin (nBuf tb) → BufTy
  | .hbm, ⟨0, _⟩ => ⟨S64x32768, .i32⟩
  | .hbm, ⟨1, _⟩ => ⟨S64x16x2048, .i32⟩
  | .hbm, ⟨2, _⟩ => ⟨S64x2048x16, .i32⟩
  | .hbm, ⟨3, _⟩ => ⟨S64x32768, .i32⟩
  | .hbm, ⟨4, _⟩ => ⟨S64x32768, .i32⟩
  | .local .scVector .vmem, ⟨0, _⟩ => ⟨S32768, .i32⟩
  | .local .scVector .vmem, ⟨1, _⟩ => ⟨S32768, .i32⟩
  | .local .scVector .vmem, ⟨2, _⟩ => ⟨S32768, .i32⟩
  | .local .scVector .vmem, ⟨3, _⟩ => ⟨S4096, .i32⟩
  | .local .scVector .vmem, ⟨4, _⟩ => ⟨S4096, .i32⟩
  | _, _ => ⟨S64x32768, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v2_scv : Ref sig .scVector := ⟨.hbm, 3, rfl⟩
abbrev main_v3_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v5 : BitVec 32 := Scalar.muli v1 c2_i32_0
  let c0_i32_1 : BitVec 32 := 0#32
  ![v5.toNat, 0]
@[reducible] def k0_t1_loop : Scf.Loop 32 :=
  let c0_i32_4 : BitVec 32 := 0#32
  let c16_i32 : BitVec 32 := 16#32
  let v10 : BitVec 32 := Scalar.addi c0_i32_4 c16_i32
  let c1_i32_5 : BitVec 32 := 1#32
  ⟨c0_i32_4, v10, c1_i32_5⟩
def k0_off2 (k0_t1 : Fin k0_t1_loop.trips) (c0_i32_151 : BitVec 32) : Fin 1 → Nat :=
  let c0_i32_4 : BitVec 32 := 0#32
  let c1_i32_5 : BitVec 32 := 1#32
  let arg11 : BitVec 32 := Scf.iv c0_i32_4 c1_i32_5 k0_t1
  let c16_i32_149 : BitVec 32 := 16#32
  let v77 : BitVec 32 := Scalar.muli arg11 c16_i32_149
  let c16_i32_150 : BitVec 32 := 16#32
  let v78 : BitVec 32 := Scalar.muli v77 c16_i32_150
  let v79 : BitVec 32 := Scalar.addi v78 c0_i32_151
  let v80 : Index := Scalar.indexCast v79
  ![v80.toNat]
@[reducible] def k0_t2_loop : Scf.Loop 32 :=
  let c0_i32_12 : BitVec 32 := 0#32
  let c128_i32 : BitVec 32 := 128#32
  let v17 : BitVec 32 := Scalar.addi c0_i32_12 c128_i32
  let c1_i32_13 : BitVec 32 := 1#32
  ⟨c0_i32_12, v17, c1_i32_13⟩
def k0_off3 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk1 (v86 : IVec S16 32) : Prop :=
  (∀ a x, ((![v86] : Fin 1 → IVec S16 32) a x).toNat < S4096.size a)
theorem k0_idx1_inb : ∀ (v86 : IVec S16 32) (k0_hw1 : k0_chk1 v86), ∀ a x, ((![v86] : Fin 1 → IVec S16 32) a x).toNat < S4096.size a := fun v86 k0_hw1 => k0_hw1
def k0_off4 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_152 : BitVec 32 := 16#32
  let v87 : BitVec 32 := Scalar.muli arg11 c16_i32_152
  let c16_i32_153 : BitVec 32 := 16#32
  let v88 : BitVec 32 := Scalar.muli v87 c16_i32_153
  let c16_i32_154 : BitVec 32 := 16#32
  let v89 : BitVec 32 := Scalar.addi v88 c16_i32_154
  let v90 : Index := Scalar.indexCast v89
  ![v90.toNat]

def k0_chk2 (v96 : IVec S16 32) : Prop :=
  (∀ a x, ((![v96] : Fin 1 → IVec S16 32) a x).toNat < S4096.size a)
theorem k0_idx2_inb : ∀ (v96 : IVec S16 32) (k0_hw2 : k0_chk2 v96), ∀ a x, ((![v96] : Fin 1 → IVec S16 32) a x).toNat < S4096.size a := fun v96 k0_hw2 => k0_hw2
def k0_off5 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_157 : BitVec 32 := 16#32
  let v97 : BitVec 32 := Scalar.muli arg11 c16_i32_157
  let c16_i32_158 : BitVec 32 := 16#32
  let v98 : BitVec 32 := Scalar.muli v97 c16_i32_158
  let c32_i32 : BitVec 32 := 32#32
  let v99 : BitVec 32 := Scalar.addi v98 c32_i32
  let v100 : Index := Scalar.indexCast v99
  ![v100.toNat]

def k0_chk3 (v106 : IVec S16 32) : Prop :=
  (∀ a x, ((![v106] : Fin 1 → IVec S16 32) a x).toNat < S4096.size a)
theorem k0_idx3_inb : ∀ (v106 : IVec S16 32) (k0_hw3 : k0_chk3 v106), ∀ a x, ((![v106] : Fin 1 → IVec S16 32) a x).toNat < S4096.size a := fun v106 k0_hw3 => k0_hw3
def k0_off6 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_161 : BitVec 32 := 16#32
  let v107 : BitVec 32 := Scalar.muli arg11 c16_i32_161
  let c16_i32_162 : BitVec 32 := 16#32
  let v108 : BitVec 32 := Scalar.muli v107 c16_i32_162
  let c48_i32 : BitVec 32 := 48#32
  let v109 : BitVec 32 := Scalar.addi v108 c48_i32
  let v110 : Index := Scalar.indexCast v109
  ![v110.toNat]

def k0_chk4 (v116 : IVec S16 32) : Prop :=
  (∀ a x, ((![v116] : Fin 1 → IVec S16 32) a x).toNat < S4096.size a)
theorem k0_idx4_inb : ∀ (v116 : IVec S16 32) (k0_hw4 : k0_chk4 v116), ∀ a x, ((![v116] : Fin 1 → IVec S16 32) a x).toNat < S4096.size a := fun v116 k0_hw4 => k0_hw4
def k0_off7 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_165 : BitVec 32 := 16#32
  let v117 : BitVec 32 := Scalar.muli arg11 c16_i32_165
  let c16_i32_166 : BitVec 32 := 16#32
  let v118 : BitVec 32 := Scalar.muli v117 c16_i32_166
  let c64_i32 : BitVec 32 := 64#32
  let v119 : BitVec 32 := Scalar.addi v118 c64_i32
  let v120 : Index := Scalar.indexCast v119
  ![v120.toNat]

def k0_chk5 (v126 : IVec S16 32) : Prop :=
  (∀ a x, ((![v126] : Fin 1 → IVec S16 32) a x).toNat < S4096.size a)
theorem k0_idx5_inb : ∀ (v126 : IVec S16 32) (k0_hw5 : k0_chk5 v126), ∀ a x, ((![v126] : Fin 1 → IVec S16 32) a x).toNat < S4096.size a := fun v126 k0_hw5 => k0_hw5
def k0_off8 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_169 : BitVec 32 := 16#32
  let v127 : BitVec 32 := Scalar.muli arg11 c16_i32_169
  let c16_i32_170 : BitVec 32 := 16#32
  let v128 : BitVec 32 := Scalar.muli v127 c16_i32_170
  let c80_i32 : BitVec 32 := 80#32
  let v129 : BitVec 32 := Scalar.addi v128 c80_i32
  let v130 : Index := Scalar.indexCast v129
  ![v130.toNat]

def k0_chk6 (v136 : IVec S16 32) : Prop :=
  (∀ a x, ((![v136] : Fin 1 → IVec S16 32) a x).toNat < S4096.size a)
theorem k0_idx6_inb : ∀ (v136 : IVec S16 32) (k0_hw6 : k0_chk6 v136), ∀ a x, ((![v136] : Fin 1 → IVec S16 32) a x).toNat < S4096.size a := fun v136 k0_hw6 => k0_hw6
def k0_off9 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_173 : BitVec 32 := 16#32
  let v137 : BitVec 32 := Scalar.muli arg11 c16_i32_173
  let c16_i32_174 : BitVec 32 := 16#32
  let v138 : BitVec 32 := Scalar.muli v137 c16_i32_174
  let c96_i32 : BitVec 32 := 96#32
  let v139 : BitVec 32 := Scalar.addi v138 c96_i32
  let v140 : Index := Scalar.indexCast v139
  ![v140.toNat]

def k0_chk7 (v146 : IVec S16 32) : Prop :=
  (∀ a x, ((![v146] : Fin 1 → IVec S16 32) a x).toNat < S4096.size a)
theorem k0_idx7_inb : ∀ (v146 : IVec S16 32) (k0_hw7 : k0_chk7 v146), ∀ a x, ((![v146] : Fin 1 → IVec S16 32) a x).toNat < S4096.size a := fun v146 k0_hw7 => k0_hw7
def k0_off10 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_177 : BitVec 32 := 16#32
  let v147 : BitVec 32 := Scalar.muli arg11 c16_i32_177
  let c16_i32_178 : BitVec 32 := 16#32
  let v148 : BitVec 32 := Scalar.muli v147 c16_i32_178
  let c112_i32 : BitVec 32 := 112#32
  let v149 : BitVec 32 := Scalar.addi v148 c112_i32
  let v150 : Index := Scalar.indexCast v149
  ![v150.toNat]

def k0_chk8 (v156 : IVec S16 32) : Prop :=
  (∀ a x, ((![v156] : Fin 1 → IVec S16 32) a x).toNat < S4096.size a)
theorem k0_idx8_inb : ∀ (v156 : IVec S16 32) (k0_hw8 : k0_chk8 v156), ∀ a x, ((![v156] : Fin 1 → IVec S16 32) a x).toNat < S4096.size a := fun v156 k0_hw8 => k0_hw8
def k0_off11 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_181 : BitVec 32 := 16#32
  let v157 : BitVec 32 := Scalar.muli arg11 c16_i32_181
  let c16_i32_182 : BitVec 32 := 16#32
  let v158 : BitVec 32 := Scalar.muli v157 c16_i32_182
  let c128_i32_183 : BitVec 32 := 128#32
  let v159 : BitVec 32 := Scalar.addi v158 c128_i32_183
  let v160 : Index := Scalar.indexCast v159
  ![v160.toNat]

def k0_chk9 (v166 : IVec S16 32) : Prop :=
  (∀ a x, ((![v166] : Fin 1 → IVec S16 32) a x).toNat < S4096.size a)
theorem k0_idx9_inb : ∀ (v166 : IVec S16 32) (k0_hw9 : k0_chk9 v166), ∀ a x, ((![v166] : Fin 1 → IVec S16 32) a x).toNat < S4096.size a := fun v166 k0_hw9 => k0_hw9
def k0_off12 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_186 : BitVec 32 := 16#32
  let v167 : BitVec 32 := Scalar.muli arg11 c16_i32_186
  let c16_i32_187 : BitVec 32 := 16#32
  let v168 : BitVec 32 := Scalar.muli v167 c16_i32_187
  let c144_i32 : BitVec 32 := 144#32
  let v169 : BitVec 32 := Scalar.addi v168 c144_i32
  let v170 : Index := Scalar.indexCast v169
  ![v170.toNat]

def k0_chk10 (v176 : IVec S16 32) : Prop :=
  (∀ a x, ((![v176] : Fin 1 → IVec S16 32) a x).toNat < S4096.size a)
theorem k0_idx10_inb : ∀ (v176 : IVec S16 32) (k0_hw10 : k0_chk10 v176), ∀ a x, ((![v176] : Fin 1 → IVec S16 32) a x).toNat < S4096.size a := fun v176 k0_hw10 => k0_hw10
def k0_off13 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_190 : BitVec 32 := 16#32
  let v177 : BitVec 32 := Scalar.muli arg11 c16_i32_190
  let c16_i32_191 : BitVec 32 := 16#32
  let v178 : BitVec 32 := Scalar.muli v177 c16_i32_191
  let c160_i32 : BitVec 32 := 160#32
  let v179 : BitVec 32 := Scalar.addi v178 c160_i32
  let v180 : Index := Scalar.indexCast v179
  ![v180.toNat]

def k0_chk11 (v186 : IVec S16 32) : Prop :=
  (∀ a x, ((![v186] : Fin 1 → IVec S16 32) a x).toNat < S4096.size a)
theorem k0_idx11_inb : ∀ (v186 : IVec S16 32) (k0_hw11 : k0_chk11 v186), ∀ a x, ((![v186] : Fin 1 → IVec S16 32) a x).toNat < S4096.size a := fun v186 k0_hw11 => k0_hw11
def k0_off14 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_194 : BitVec 32 := 16#32
  let v187 : BitVec 32 := Scalar.muli arg11 c16_i32_194
  let c16_i32_195 : BitVec 32 := 16#32
  let v188 : BitVec 32 := Scalar.muli v187 c16_i32_195
  let c176_i32 : BitVec 32 := 176#32
  let v189 : BitVec 32 := Scalar.addi v188 c176_i32
  let v190 : Index := Scalar.indexCast v189
  ![v190.toNat]

def k0_chk12 (v196 : IVec S16 32) : Prop :=
  (∀ a x, ((![v196] : Fin 1 → IVec S16 32) a x).toNat < S4096.size a)
theorem k0_idx12_inb : ∀ (v196 : IVec S16 32) (k0_hw12 : k0_chk12 v196), ∀ a x, ((![v196] : Fin 1 → IVec S16 32) a x).toNat < S4096.size a := fun v196 k0_hw12 => k0_hw12
def k0_off15 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_198 : BitVec 32 := 16#32
  let v197 : BitVec 32 := Scalar.muli arg11 c16_i32_198
  let c16_i32_199 : BitVec 32 := 16#32
  let v198 : BitVec 32 := Scalar.muli v197 c16_i32_199
  let c192_i32 : BitVec 32 := 192#32
  let v199 : BitVec 32 := Scalar.addi v198 c192_i32
  let v200 : Index := Scalar.indexCast v199
  ![v200.toNat]

def k0_chk13 (v206 : IVec S16 32) : Prop :=
  (∀ a x, ((![v206] : Fin 1 → IVec S16 32) a x).toNat < S4096.size a)
theorem k0_idx13_inb : ∀ (v206 : IVec S16 32) (k0_hw13 : k0_chk13 v206), ∀ a x, ((![v206] : Fin 1 → IVec S16 32) a x).toNat < S4096.size a := fun v206 k0_hw13 => k0_hw13
def k0_off16 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_202 : BitVec 32 := 16#32
  let v207 : BitVec 32 := Scalar.muli arg11 c16_i32_202
  let c16_i32_203 : BitVec 32 := 16#32
  let v208 : BitVec 32 := Scalar.muli v207 c16_i32_203
  let c208_i32 : BitVec 32 := 208#32
  let v209 : BitVec 32 := Scalar.addi v208 c208_i32
  let v210 : Index := Scalar.indexCast v209
  ![v210.toNat]

def k0_chk14 (v216 : IVec S16 32) : Prop :=
  (∀ a x, ((![v216] : Fin 1 → IVec S16 32) a x).toNat < S4096.size a)
theorem k0_idx14_inb : ∀ (v216 : IVec S16 32) (k0_hw14 : k0_chk14 v216), ∀ a x, ((![v216] : Fin 1 → IVec S16 32) a x).toNat < S4096.size a := fun v216 k0_hw14 => k0_hw14
def k0_off17 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_206 : BitVec 32 := 16#32
  let v217 : BitVec 32 := Scalar.muli arg11 c16_i32_206
  let c16_i32_207 : BitVec 32 := 16#32
  let v218 : BitVec 32 := Scalar.muli v217 c16_i32_207
  let c224_i32 : BitVec 32 := 224#32
  let v219 : BitVec 32 := Scalar.addi v218 c224_i32
  let v220 : Index := Scalar.indexCast v219
  ![v220.toNat]

def k0_chk15 (v226 : IVec S16 32) : Prop :=
  (∀ a x, ((![v226] : Fin 1 → IVec S16 32) a x).toNat < S4096.size a)
theorem k0_idx15_inb : ∀ (v226 : IVec S16 32) (k0_hw15 : k0_chk15 v226), ∀ a x, ((![v226] : Fin 1 → IVec S16 32) a x).toNat < S4096.size a := fun v226 k0_hw15 => k0_hw15
def k0_off18 (k0_t2 : Fin k0_t2_loop.trips) : Fin 1 → Nat :=
  let c0_i32_12 : BitVec 32 := 0#32
  let c1_i32_13 : BitVec 32 := 1#32
  let arg11 : BitVec 32 := Scf.iv c0_i32_12 c1_i32_13 k0_t2
  let c16_i32_210 : BitVec 32 := 16#32
  let v227 : BitVec 32 := Scalar.muli arg11 c16_i32_210
  let c16_i32_211 : BitVec 32 := 16#32
  let v228 : BitVec 32 := Scalar.muli v227 c16_i32_211
  let c240_i32 : BitVec 32 := 240#32
  let v229 : BitVec 32 := Scalar.addi v228 c240_i32
  let v230 : Index := Scalar.indexCast v229
  ![v230.toNat]

def k0_chk16 (v236 : IVec S16 32) : Prop :=
  (∀ a x, ((![v236] : Fin 1 → IVec S16 32) a x).toNat < S4096.size a)
theorem k0_idx16_inb : ∀ (v236 : IVec S16 32) (k0_hw16 : k0_chk16 v236), ∀ a x, ((![v236] : Fin 1 → IVec S16 32) a x).toNat < S4096.size a := fun v236 k0_hw16 => k0_hw16
@[reducible] def k0_t3_loop : Scf.Loop 32 :=
  let c0_i32_16 : BitVec 32 := 0#32
  let c256_i32 : BitVec 32 := 256#32
  let v18 : BitVec 32 := Scalar.addi c0_i32_16 c256_i32
  let c1_i32_17 : BitVec 32 := 1#32
  ⟨c0_i32_16, v18, c1_i32_17⟩
def k0_off19 (k0_t3 : Fin k0_t3_loop.trips) : Fin 1 → Nat :=
  let c0_i32_16 : BitVec 32 := 0#32
  let c1_i32_17 : BitVec 32 := 1#32
  let arg11 : BitVec 32 := Scf.iv c0_i32_16 c1_i32_17 k0_t3
  let c16_i32_149 : BitVec 32 := 16#32
  let v77 : BitVec 32 := Scalar.muli arg11 c16_i32_149
  let v78 : Index := Scalar.indexCast v77
  ![v78.toNat]
@[reducible] def k0_t4_loop : Scf.Loop 32 :=
  let c0_i32_20 : BitVec 32 := 0#32
  let c128_i32_21 : BitVec 32 := 128#32
  let v20 : BitVec 32 := Scalar.addi c0_i32_20 c128_i32_21
  let c1_i32_22 : BitVec 32 := 1#32
  ⟨c0_i32_20, v20, c1_i32_22⟩
def k0_off20 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk17 (v86 : IVec S16 32) : Prop :=
  (∀ a x, ((![v86] : Fin 1 → IVec S16 32) a x).toNat < S4096.size a) ∧
  (∀ a x, ((![v86] : Fin 1 → IVec S16 32) a x).toNat < S4096.size a)
theorem k0_idx17_inb : ∀ (v86 : IVec S16 32) (k0_hw17 : k0_chk17 v86), ∀ a x, ((![v86] : Fin 1 → IVec S16 32) a x).toNat < S4096.size a := fun v86 k0_hw17 => k0_hw17.1
theorem k0_idx18_inb : ∀ (v86 : IVec S16 32) (k0_hw17 : k0_chk17 v86), ∀ a x, ((![v86] : Fin 1 → IVec S16 32) a x).toNat < S4096.size a := fun v86 k0_hw17 => k0_hw17.2

def k0_chk18 (v111 : IVec S16 32) : Prop :=
  (∀ a x, ((![v111] : Fin 1 → IVec S16 32) a x).toNat < S32768.size a)
theorem k0_idx19_inb : ∀ (v111 : IVec S16 32) (k0_hw18 : k0_chk18 v111), ∀ a x, ((![v111] : Fin 1 → IVec S16 32) a x).toNat < S32768.size a := fun v111 k0_hw18 => k0_hw18
def k0_off21 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_156 : BitVec 32 := 16#32
  let v112 : BitVec 32 := Scalar.muli arg11 c16_i32_156
  let c16_i32_157 : BitVec 32 := 16#32
  let v113 : BitVec 32 := Scalar.muli v112 c16_i32_157
  let c16_i32_158 : BitVec 32 := 16#32
  let v114 : BitVec 32 := Scalar.addi v113 c16_i32_158
  let v115 : Index := Scalar.indexCast v114
  ![v115.toNat]

def k0_chk19 (v121 : IVec S16 32) : Prop :=
  (∀ a x, ((![v121] : Fin 1 → IVec S16 32) a x).toNat < S4096.size a) ∧
  (∀ a x, ((![v121] : Fin 1 → IVec S16 32) a x).toNat < S4096.size a)
theorem k0_idx20_inb : ∀ (v121 : IVec S16 32) (k0_hw19 : k0_chk19 v121), ∀ a x, ((![v121] : Fin 1 → IVec S16 32) a x).toNat < S4096.size a := fun v121 k0_hw19 => k0_hw19.1
theorem k0_idx21_inb : ∀ (v121 : IVec S16 32) (k0_hw19 : k0_chk19 v121), ∀ a x, ((![v121] : Fin 1 → IVec S16 32) a x).toNat < S4096.size a := fun v121 k0_hw19 => k0_hw19.2

def k0_chk20 (v146 : IVec S16 32) : Prop :=
  (∀ a x, ((![v146] : Fin 1 → IVec S16 32) a x).toNat < S32768.size a)
theorem k0_idx22_inb : ∀ (v146 : IVec S16 32) (k0_hw20 : k0_chk20 v146), ∀ a x, ((![v146] : Fin 1 → IVec S16 32) a x).toNat < S32768.size a := fun v146 k0_hw20 => k0_hw20
def k0_off22 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_170 : BitVec 32 := 16#32
  let v147 : BitVec 32 := Scalar.muli arg11 c16_i32_170
  let c16_i32_171 : BitVec 32 := 16#32
  let v148 : BitVec 32 := Scalar.muli v147 c16_i32_171
  let c32_i32 : BitVec 32 := 32#32
  let v149 : BitVec 32 := Scalar.addi v148 c32_i32
  let v150 : Index := Scalar.indexCast v149
  ![v150.toNat]

def k0_chk21 (v156 : IVec S16 32) : Prop :=
  (∀ a x, ((![v156] : Fin 1 → IVec S16 32) a x).toNat < S4096.size a) ∧
  (∀ a x, ((![v156] : Fin 1 → IVec S16 32) a x).toNat < S4096.size a)
theorem k0_idx23_inb : ∀ (v156 : IVec S16 32) (k0_hw21 : k0_chk21 v156), ∀ a x, ((![v156] : Fin 1 → IVec S16 32) a x).toNat < S4096.size a := fun v156 k0_hw21 => k0_hw21.1
theorem k0_idx24_inb : ∀ (v156 : IVec S16 32) (k0_hw21 : k0_chk21 v156), ∀ a x, ((![v156] : Fin 1 → IVec S16 32) a x).toNat < S4096.size a := fun v156 k0_hw21 => k0_hw21.2

def k0_chk22 (v181 : IVec S16 32) : Prop :=
  (∀ a x, ((![v181] : Fin 1 → IVec S16 32) a x).toNat < S32768.size a)
theorem k0_idx25_inb : ∀ (v181 : IVec S16 32) (k0_hw22 : k0_chk22 v181), ∀ a x, ((![v181] : Fin 1 → IVec S16 32) a x).toNat < S32768.size a := fun v181 k0_hw22 => k0_hw22
def k0_off23 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_183 : BitVec 32 := 16#32
  let v182 : BitVec 32 := Scalar.muli arg11 c16_i32_183
  let c16_i32_184 : BitVec 32 := 16#32
  let v183 : BitVec 32 := Scalar.muli v182 c16_i32_184
  let c48_i32 : BitVec 32 := 48#32
  let v184 : BitVec 32 := Scalar.addi v183 c48_i32
  let v185 : Index := Scalar.indexCast v184
  ![v185.toNat]

def k0_chk23 (v191 : IVec S16 32) : Prop :=
  (∀ a x, ((![v191] : Fin 1 → IVec S16 32) a x).toNat < S4096.size a) ∧
  (∀ a x, ((![v191] : Fin 1 → IVec S16 32) a x).toNat < S4096.size a)
theorem k0_idx26_inb : ∀ (v191 : IVec S16 32) (k0_hw23 : k0_chk23 v191), ∀ a x, ((![v191] : Fin 1 → IVec S16 32) a x).toNat < S4096.size a := fun v191 k0_hw23 => k0_hw23.1
theorem k0_idx27_inb : ∀ (v191 : IVec S16 32) (k0_hw23 : k0_chk23 v191), ∀ a x, ((![v191] : Fin 1 → IVec S16 32) a x).toNat < S4096.size a := fun v191 k0_hw23 => k0_hw23.2

def k0_chk24 (v216 : IVec S16 32) : Prop :=
  (∀ a x, ((![v216] : Fin 1 → IVec S16 32) a x).toNat < S32768.size a)
theorem k0_idx28_inb : ∀ (v216 : IVec S16 32) (k0_hw24 : k0_chk24 v216), ∀ a x, ((![v216] : Fin 1 → IVec S16 32) a x).toNat < S32768.size a := fun v216 k0_hw24 => k0_hw24
def k0_off24 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_196 : BitVec 32 := 16#32
  let v217 : BitVec 32 := Scalar.muli arg11 c16_i32_196
  let c16_i32_197 : BitVec 32 := 16#32
  let v218 : BitVec 32 := Scalar.muli v217 c16_i32_197
  let c64_i32 : BitVec 32 := 64#32
  let v219 : BitVec 32 := Scalar.addi v218 c64_i32
  let v220 : Index := Scalar.indexCast v219
  ![v220.toNat]

def k0_chk25 (v226 : IVec S16 32) : Prop :=
  (∀ a x, ((![v226] : Fin 1 → IVec S16 32) a x).toNat < S4096.size a) ∧
  (∀ a x, ((![v226] : Fin 1 → IVec S16 32) a x).toNat < S4096.size a)
theorem k0_idx29_inb : ∀ (v226 : IVec S16 32) (k0_hw25 : k0_chk25 v226), ∀ a x, ((![v226] : Fin 1 → IVec S16 32) a x).toNat < S4096.size a := fun v226 k0_hw25 => k0_hw25.1
theorem k0_idx30_inb : ∀ (v226 : IVec S16 32) (k0_hw25 : k0_chk25 v226), ∀ a x, ((![v226] : Fin 1 → IVec S16 32) a x).toNat < S4096.size a := fun v226 k0_hw25 => k0_hw25.2

def k0_chk26 (v251 : IVec S16 32) : Prop :=
  (∀ a x, ((![v251] : Fin 1 → IVec S16 32) a x).toNat < S32768.size a)
theorem k0_idx31_inb : ∀ (v251 : IVec S16 32) (k0_hw26 : k0_chk26 v251), ∀ a x, ((![v251] : Fin 1 → IVec S16 32) a x).toNat < S32768.size a := fun v251 k0_hw26 => k0_hw26
def k0_off25 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_209 : BitVec 32 := 16#32
  let v252 : BitVec 32 := Scalar.muli arg11 c16_i32_209
  let c16_i32_210 : BitVec 32 := 16#32
  let v253 : BitVec 32 := Scalar.muli v252 c16_i32_210
  let c80_i32 : BitVec 32 := 80#32
  let v254 : BitVec 32 := Scalar.addi v253 c80_i32
  let v255 : Index := Scalar.indexCast v254
  ![v255.toNat]

def k0_chk27 (v261 : IVec S16 32) : Prop :=
  (∀ a x, ((![v261] : Fin 1 → IVec S16 32) a x).toNat < S4096.size a) ∧
  (∀ a x, ((![v261] : Fin 1 → IVec S16 32) a x).toNat < S4096.size a)
theorem k0_idx32_inb : ∀ (v261 : IVec S16 32) (k0_hw27 : k0_chk27 v261), ∀ a x, ((![v261] : Fin 1 → IVec S16 32) a x).toNat < S4096.size a := fun v261 k0_hw27 => k0_hw27.1
theorem k0_idx33_inb : ∀ (v261 : IVec S16 32) (k0_hw27 : k0_chk27 v261), ∀ a x, ((![v261] : Fin 1 → IVec S16 32) a x).toNat < S4096.size a := fun v261 k0_hw27 => k0_hw27.2

def k0_chk28 (v286 : IVec S16 32) : Prop :=
  (∀ a x, ((![v286] : Fin 1 → IVec S16 32) a x).toNat < S32768.size a)
theorem k0_idx34_inb : ∀ (v286 : IVec S16 32) (k0_hw28 : k0_chk28 v286), ∀ a x, ((![v286] : Fin 1 → IVec S16 32) a x).toNat < S32768.size a := fun v286 k0_hw28 => k0_hw28
def k0_off26 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_222 : BitVec 32 := 16#32
  let v287 : BitVec 32 := Scalar.muli arg11 c16_i32_222
  let c16_i32_223 : BitVec 32 := 16#32
  let v288 : BitVec 32 := Scalar.muli v287 c16_i32_223
  let c96_i32 : BitVec 32 := 96#32
  let v289 : BitVec 32 := Scalar.addi v288 c96_i32
  let v290 : Index := Scalar.indexCast v289
  ![v290.toNat]

def k0_chk29 (v296 : IVec S16 32) : Prop :=
  (∀ a x, ((![v296] : Fin 1 → IVec S16 32) a x).toNat < S4096.size a) ∧
  (∀ a x, ((![v296] : Fin 1 → IVec S16 32) a x).toNat < S4096.size a)
theorem k0_idx35_inb : ∀ (v296 : IVec S16 32) (k0_hw29 : k0_chk29 v296), ∀ a x, ((![v296] : Fin 1 → IVec S16 32) a x).toNat < S4096.size a := fun v296 k0_hw29 => k0_hw29.1
theorem k0_idx36_inb : ∀ (v296 : IVec S16 32) (k0_hw29 : k0_chk29 v296), ∀ a x, ((![v296] : Fin 1 → IVec S16 32) a x).toNat < S4096.size a := fun v296 k0_hw29 => k0_hw29.2

def k0_chk30 (v321 : IVec S16 32) : Prop :=
  (∀ a x, ((![v321] : Fin 1 → IVec S16 32) a x).toNat < S32768.size a)
theorem k0_idx37_inb : ∀ (v321 : IVec S16 32) (k0_hw30 : k0_chk30 v321), ∀ a x, ((![v321] : Fin 1 → IVec S16 32) a x).toNat < S32768.size a := fun v321 k0_hw30 => k0_hw30
def k0_off27 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_235 : BitVec 32 := 16#32
  let v322 : BitVec 32 := Scalar.muli arg11 c16_i32_235
  let c16_i32_236 : BitVec 32 := 16#32
  let v323 : BitVec 32 := Scalar.muli v322 c16_i32_236
  let c112_i32 : BitVec 32 := 112#32
  let v324 : BitVec 32 := Scalar.addi v323 c112_i32
  let v325 : Index := Scalar.indexCast v324
  ![v325.toNat]

def k0_chk31 (v331 : IVec S16 32) : Prop :=
  (∀ a x, ((![v331] : Fin 1 → IVec S16 32) a x).toNat < S4096.size a) ∧
  (∀ a x, ((![v331] : Fin 1 → IVec S16 32) a x).toNat < S4096.size a)
theorem k0_idx38_inb : ∀ (v331 : IVec S16 32) (k0_hw31 : k0_chk31 v331), ∀ a x, ((![v331] : Fin 1 → IVec S16 32) a x).toNat < S4096.size a := fun v331 k0_hw31 => k0_hw31.1
theorem k0_idx39_inb : ∀ (v331 : IVec S16 32) (k0_hw31 : k0_chk31 v331), ∀ a x, ((![v331] : Fin 1 → IVec S16 32) a x).toNat < S4096.size a := fun v331 k0_hw31 => k0_hw31.2

def k0_chk32 (v356 : IVec S16 32) : Prop :=
  (∀ a x, ((![v356] : Fin 1 → IVec S16 32) a x).toNat < S32768.size a)
theorem k0_idx40_inb : ∀ (v356 : IVec S16 32) (k0_hw32 : k0_chk32 v356), ∀ a x, ((![v356] : Fin 1 → IVec S16 32) a x).toNat < S32768.size a := fun v356 k0_hw32 => k0_hw32
def k0_off28 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_248 : BitVec 32 := 16#32
  let v357 : BitVec 32 := Scalar.muli arg11 c16_i32_248
  let c16_i32_249 : BitVec 32 := 16#32
  let v358 : BitVec 32 := Scalar.muli v357 c16_i32_249
  let c128_i32_250 : BitVec 32 := 128#32
  let v359 : BitVec 32 := Scalar.addi v358 c128_i32_250
  let v360 : Index := Scalar.indexCast v359
  ![v360.toNat]

def k0_chk33 (v366 : IVec S16 32) : Prop :=
  (∀ a x, ((![v366] : Fin 1 → IVec S16 32) a x).toNat < S4096.size a) ∧
  (∀ a x, ((![v366] : Fin 1 → IVec S16 32) a x).toNat < S4096.size a)
theorem k0_idx41_inb : ∀ (v366 : IVec S16 32) (k0_hw33 : k0_chk33 v366), ∀ a x, ((![v366] : Fin 1 → IVec S16 32) a x).toNat < S4096.size a := fun v366 k0_hw33 => k0_hw33.1
theorem k0_idx42_inb : ∀ (v366 : IVec S16 32) (k0_hw33 : k0_chk33 v366), ∀ a x, ((![v366] : Fin 1 → IVec S16 32) a x).toNat < S4096.size a := fun v366 k0_hw33 => k0_hw33.2

def k0_chk34 (v391 : IVec S16 32) : Prop :=
  (∀ a x, ((![v391] : Fin 1 → IVec S16 32) a x).toNat < S32768.size a)
theorem k0_idx43_inb : ∀ (v391 : IVec S16 32) (k0_hw34 : k0_chk34 v391), ∀ a x, ((![v391] : Fin 1 → IVec S16 32) a x).toNat < S32768.size a := fun v391 k0_hw34 => k0_hw34
def k0_off29 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_262 : BitVec 32 := 16#32
  let v392 : BitVec 32 := Scalar.muli arg11 c16_i32_262
  let c16_i32_263 : BitVec 32 := 16#32
  let v393 : BitVec 32 := Scalar.muli v392 c16_i32_263
  let c144_i32 : BitVec 32 := 144#32
  let v394 : BitVec 32 := Scalar.addi v393 c144_i32
  let v395 : Index := Scalar.indexCast v394
  ![v395.toNat]

def k0_chk35 (v401 : IVec S16 32) : Prop :=
  (∀ a x, ((![v401] : Fin 1 → IVec S16 32) a x).toNat < S4096.size a) ∧
  (∀ a x, ((![v401] : Fin 1 → IVec S16 32) a x).toNat < S4096.size a)
theorem k0_idx44_inb : ∀ (v401 : IVec S16 32) (k0_hw35 : k0_chk35 v401), ∀ a x, ((![v401] : Fin 1 → IVec S16 32) a x).toNat < S4096.size a := fun v401 k0_hw35 => k0_hw35.1
theorem k0_idx45_inb : ∀ (v401 : IVec S16 32) (k0_hw35 : k0_chk35 v401), ∀ a x, ((![v401] : Fin 1 → IVec S16 32) a x).toNat < S4096.size a := fun v401 k0_hw35 => k0_hw35.2

def k0_chk36 (v426 : IVec S16 32) : Prop :=
  (∀ a x, ((![v426] : Fin 1 → IVec S16 32) a x).toNat < S32768.size a)
theorem k0_idx46_inb : ∀ (v426 : IVec S16 32) (k0_hw36 : k0_chk36 v426), ∀ a x, ((![v426] : Fin 1 → IVec S16 32) a x).toNat < S32768.size a := fun v426 k0_hw36 => k0_hw36
def k0_off30 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_275 : BitVec 32 := 16#32
  let v427 : BitVec 32 := Scalar.muli arg11 c16_i32_275
  let c16_i32_276 : BitVec 32 := 16#32
  let v428 : BitVec 32 := Scalar.muli v427 c16_i32_276
  let c160_i32 : BitVec 32 := 160#32
  let v429 : BitVec 32 := Scalar.addi v428 c160_i32
  let v430 : Index := Scalar.indexCast v429
  ![v430.toNat]

def k0_chk37 (v436 : IVec S16 32) : Prop :=
  (∀ a x, ((![v436] : Fin 1 → IVec S16 32) a x).toNat < S4096.size a) ∧
  (∀ a x, ((![v436] : Fin 1 → IVec S16 32) a x).toNat < S4096.size a)
theorem k0_idx47_inb : ∀ (v436 : IVec S16 32) (k0_hw37 : k0_chk37 v436), ∀ a x, ((![v436] : Fin 1 → IVec S16 32) a x).toNat < S4096.size a := fun v436 k0_hw37 => k0_hw37.1
theorem k0_idx48_inb : ∀ (v436 : IVec S16 32) (k0_hw37 : k0_chk37 v436), ∀ a x, ((![v436] : Fin 1 → IVec S16 32) a x).toNat < S4096.size a := fun v436 k0_hw37 => k0_hw37.2

def k0_chk38 (v461 : IVec S16 32) : Prop :=
  (∀ a x, ((![v461] : Fin 1 → IVec S16 32) a x).toNat < S32768.size a)
theorem k0_idx49_inb : ∀ (v461 : IVec S16 32) (k0_hw38 : k0_chk38 v461), ∀ a x, ((![v461] : Fin 1 → IVec S16 32) a x).toNat < S32768.size a := fun v461 k0_hw38 => k0_hw38
def k0_off31 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_288 : BitVec 32 := 16#32
  let v462 : BitVec 32 := Scalar.muli arg11 c16_i32_288
  let c16_i32_289 : BitVec 32 := 16#32
  let v463 : BitVec 32 := Scalar.muli v462 c16_i32_289
  let c176_i32 : BitVec 32 := 176#32
  let v464 : BitVec 32 := Scalar.addi v463 c176_i32
  let v465 : Index := Scalar.indexCast v464
  ![v465.toNat]

def k0_chk39 (v471 : IVec S16 32) : Prop :=
  (∀ a x, ((![v471] : Fin 1 → IVec S16 32) a x).toNat < S4096.size a) ∧
  (∀ a x, ((![v471] : Fin 1 → IVec S16 32) a x).toNat < S4096.size a)
theorem k0_idx50_inb : ∀ (v471 : IVec S16 32) (k0_hw39 : k0_chk39 v471), ∀ a x, ((![v471] : Fin 1 → IVec S16 32) a x).toNat < S4096.size a := fun v471 k0_hw39 => k0_hw39.1
theorem k0_idx51_inb : ∀ (v471 : IVec S16 32) (k0_hw39 : k0_chk39 v471), ∀ a x, ((![v471] : Fin 1 → IVec S16 32) a x).toNat < S4096.size a := fun v471 k0_hw39 => k0_hw39.2

def k0_chk40 (v496 : IVec S16 32) : Prop :=
  (∀ a x, ((![v496] : Fin 1 → IVec S16 32) a x).toNat < S32768.size a)
theorem k0_idx52_inb : ∀ (v496 : IVec S16 32) (k0_hw40 : k0_chk40 v496), ∀ a x, ((![v496] : Fin 1 → IVec S16 32) a x).toNat < S32768.size a := fun v496 k0_hw40 => k0_hw40
def k0_off32 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_301 : BitVec 32 := 16#32
  let v497 : BitVec 32 := Scalar.muli arg11 c16_i32_301
  let c16_i32_302 : BitVec 32 := 16#32
  let v498 : BitVec 32 := Scalar.muli v497 c16_i32_302
  let c192_i32 : BitVec 32 := 192#32
  let v499 : BitVec 32 := Scalar.addi v498 c192_i32
  let v500 : Index := Scalar.indexCast v499
  ![v500.toNat]

def k0_chk41 (v506 : IVec S16 32) : Prop :=
  (∀ a x, ((![v506] : Fin 1 → IVec S16 32) a x).toNat < S4096.size a) ∧
  (∀ a x, ((![v506] : Fin 1 → IVec S16 32) a x).toNat < S4096.size a)
theorem k0_idx53_inb : ∀ (v506 : IVec S16 32) (k0_hw41 : k0_chk41 v506), ∀ a x, ((![v506] : Fin 1 → IVec S16 32) a x).toNat < S4096.size a := fun v506 k0_hw41 => k0_hw41.1
theorem k0_idx54_inb : ∀ (v506 : IVec S16 32) (k0_hw41 : k0_chk41 v506), ∀ a x, ((![v506] : Fin 1 → IVec S16 32) a x).toNat < S4096.size a := fun v506 k0_hw41 => k0_hw41.2

def k0_chk42 (v531 : IVec S16 32) : Prop :=
  (∀ a x, ((![v531] : Fin 1 → IVec S16 32) a x).toNat < S32768.size a)
theorem k0_idx55_inb : ∀ (v531 : IVec S16 32) (k0_hw42 : k0_chk42 v531), ∀ a x, ((![v531] : Fin 1 → IVec S16 32) a x).toNat < S32768.size a := fun v531 k0_hw42 => k0_hw42
def k0_off33 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_314 : BitVec 32 := 16#32
  let v532 : BitVec 32 := Scalar.muli arg11 c16_i32_314
  let c16_i32_315 : BitVec 32 := 16#32
  let v533 : BitVec 32 := Scalar.muli v532 c16_i32_315
  let c208_i32 : BitVec 32 := 208#32
  let v534 : BitVec 32 := Scalar.addi v533 c208_i32
  let v535 : Index := Scalar.indexCast v534
  ![v535.toNat]

def k0_chk43 (v541 : IVec S16 32) : Prop :=
  (∀ a x, ((![v541] : Fin 1 → IVec S16 32) a x).toNat < S4096.size a) ∧
  (∀ a x, ((![v541] : Fin 1 → IVec S16 32) a x).toNat < S4096.size a)
theorem k0_idx56_inb : ∀ (v541 : IVec S16 32) (k0_hw43 : k0_chk43 v541), ∀ a x, ((![v541] : Fin 1 → IVec S16 32) a x).toNat < S4096.size a := fun v541 k0_hw43 => k0_hw43.1
theorem k0_idx57_inb : ∀ (v541 : IVec S16 32) (k0_hw43 : k0_chk43 v541), ∀ a x, ((![v541] : Fin 1 → IVec S16 32) a x).toNat < S4096.size a := fun v541 k0_hw43 => k0_hw43.2

def k0_chk44 (v566 : IVec S16 32) : Prop :=
  (∀ a x, ((![v566] : Fin 1 → IVec S16 32) a x).toNat < S32768.size a)
theorem k0_idx58_inb : ∀ (v566 : IVec S16 32) (k0_hw44 : k0_chk44 v566), ∀ a x, ((![v566] : Fin 1 → IVec S16 32) a x).toNat < S32768.size a := fun v566 k0_hw44 => k0_hw44
def k0_off34 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_327 : BitVec 32 := 16#32
  let v567 : BitVec 32 := Scalar.muli arg11 c16_i32_327
  let c16_i32_328 : BitVec 32 := 16#32
  let v568 : BitVec 32 := Scalar.muli v567 c16_i32_328
  let c224_i32 : BitVec 32 := 224#32
  let v569 : BitVec 32 := Scalar.addi v568 c224_i32
  let v570 : Index := Scalar.indexCast v569
  ![v570.toNat]

def k0_chk45 (v576 : IVec S16 32) : Prop :=
  (∀ a x, ((![v576] : Fin 1 → IVec S16 32) a x).toNat < S4096.size a) ∧
  (∀ a x, ((![v576] : Fin 1 → IVec S16 32) a x).toNat < S4096.size a)
theorem k0_idx59_inb : ∀ (v576 : IVec S16 32) (k0_hw45 : k0_chk45 v576), ∀ a x, ((![v576] : Fin 1 → IVec S16 32) a x).toNat < S4096.size a := fun v576 k0_hw45 => k0_hw45.1
theorem k0_idx60_inb : ∀ (v576 : IVec S16 32) (k0_hw45 : k0_chk45 v576), ∀ a x, ((![v576] : Fin 1 → IVec S16 32) a x).toNat < S4096.size a := fun v576 k0_hw45 => k0_hw45.2

def k0_chk46 (v601 : IVec S16 32) : Prop :=
  (∀ a x, ((![v601] : Fin 1 → IVec S16 32) a x).toNat < S32768.size a)
theorem k0_idx61_inb : ∀ (v601 : IVec S16 32) (k0_hw46 : k0_chk46 v601), ∀ a x, ((![v601] : Fin 1 → IVec S16 32) a x).toNat < S32768.size a := fun v601 k0_hw46 => k0_hw46
def k0_off35 (k0_t4 : Fin k0_t4_loop.trips) : Fin 1 → Nat :=
  let c0_i32_20 : BitVec 32 := 0#32
  let c1_i32_22 : BitVec 32 := 1#32
  let arg11 : BitVec 32 := Scf.iv c0_i32_20 c1_i32_22 k0_t4
  let c16_i32_340 : BitVec 32 := 16#32
  let v602 : BitVec 32 := Scalar.muli arg11 c16_i32_340
  let c16_i32_341 : BitVec 32 := 16#32
  let v603 : BitVec 32 := Scalar.muli v602 c16_i32_341
  let c240_i32 : BitVec 32 := 240#32
  let v604 : BitVec 32 := Scalar.addi v603 c240_i32
  let v605 : Index := Scalar.indexCast v604
  ![v605.toNat]

def k0_chk47 (v611 : IVec S16 32) : Prop :=
  (∀ a x, ((![v611] : Fin 1 → IVec S16 32) a x).toNat < S4096.size a) ∧
  (∀ a x, ((![v611] : Fin 1 → IVec S16 32) a x).toNat < S4096.size a)
theorem k0_idx62_inb : ∀ (v611 : IVec S16 32) (k0_hw47 : k0_chk47 v611), ∀ a x, ((![v611] : Fin 1 → IVec S16 32) a x).toNat < S4096.size a := fun v611 k0_hw47 => k0_hw47.1
theorem k0_idx63_inb : ∀ (v611 : IVec S16 32) (k0_hw47 : k0_chk47 v611), ∀ a x, ((![v611] : Fin 1 → IVec S16 32) a x).toNat < S4096.size a := fun v611 k0_hw47 => k0_hw47.2

def k0_chk48 (v636 : IVec S16 32) : Prop :=
  (∀ a x, ((![v636] : Fin 1 → IVec S16 32) a x).toNat < S32768.size a)
theorem k0_idx64_inb : ∀ (v636 : IVec S16 32) (k0_hw48 : k0_chk48 v636), ∀ a x, ((![v636] : Fin 1 → IVec S16 32) a x).toNat < S32768.size a := fun v636 k0_hw48 => k0_hw48
@[reducible] def k0_t5_loop : Scf.Loop 32 :=
  let c0_i32_25 : BitVec 32 := 0#32
  let c128_i32_26 : BitVec 32 := 128#32
  let v21 : BitVec 32 := Scalar.addi c0_i32_25 c128_i32_26
  let c1_i32_27 : BitVec 32 := 1#32
  ⟨c0_i32_25, v21, c1_i32_27⟩
def k0_off36 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk49 (v88 : IVec S16 32) : Prop :=
  (∀ a x, ((![v88] : Fin 1 → IVec S16 32) a x).toNat < S4096.size a)
theorem k0_idx65_inb : ∀ (v88 : IVec S16 32) (k0_hw49 : k0_chk49 v88), ∀ a x, ((![v88] : Fin 1 → IVec S16 32) a x).toNat < S4096.size a := fun v88 k0_hw49 => k0_hw49
def k0_off37 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_152 : BitVec 32 := 16#32
  let v89 : BitVec 32 := Scalar.muli arg11 c16_i32_152
  let c16_i32_153 : BitVec 32 := 16#32
  let v90 : BitVec 32 := Scalar.muli v89 c16_i32_153
  let c16_i32_154 : BitVec 32 := 16#32
  let v91 : BitVec 32 := Scalar.addi v90 c16_i32_154
  let v92 : Index := Scalar.indexCast v91
  ![v92.toNat]

def k0_chk50 (v100 : IVec S16 32) : Prop :=
  (∀ a x, ((![v100] : Fin 1 → IVec S16 32) a x).toNat < S4096.size a)
theorem k0_idx66_inb : ∀ (v100 : IVec S16 32) (k0_hw50 : k0_chk50 v100), ∀ a x, ((![v100] : Fin 1 → IVec S16 32) a x).toNat < S4096.size a := fun v100 k0_hw50 => k0_hw50
def k0_off38 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_158 : BitVec 32 := 16#32
  let v101 : BitVec 32 := Scalar.muli arg11 c16_i32_158
  let c16_i32_159 : BitVec 32 := 16#32
  let v102 : BitVec 32 := Scalar.muli v101 c16_i32_159
  let c32_i32 : BitVec 32 := 32#32
  let v103 : BitVec 32 := Scalar.addi v102 c32_i32
  let v104 : Index := Scalar.indexCast v103
  ![v104.toNat]

def k0_chk51 (v112 : IVec S16 32) : Prop :=
  (∀ a x, ((![v112] : Fin 1 → IVec S16 32) a x).toNat < S4096.size a)
theorem k0_idx67_inb : ∀ (v112 : IVec S16 32) (k0_hw51 : k0_chk51 v112), ∀ a x, ((![v112] : Fin 1 → IVec S16 32) a x).toNat < S4096.size a := fun v112 k0_hw51 => k0_hw51
def k0_off39 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_163 : BitVec 32 := 16#32
  let v113 : BitVec 32 := Scalar.muli arg11 c16_i32_163
  let c16_i32_164 : BitVec 32 := 16#32
  let v114 : BitVec 32 := Scalar.muli v113 c16_i32_164
  let c48_i32 : BitVec 32 := 48#32
  let v115 : BitVec 32 := Scalar.addi v114 c48_i32
  let v116 : Index := Scalar.indexCast v115
  ![v116.toNat]

def k0_chk52 (v124 : IVec S16 32) : Prop :=
  (∀ a x, ((![v124] : Fin 1 → IVec S16 32) a x).toNat < S4096.size a)
theorem k0_idx68_inb : ∀ (v124 : IVec S16 32) (k0_hw52 : k0_chk52 v124), ∀ a x, ((![v124] : Fin 1 → IVec S16 32) a x).toNat < S4096.size a := fun v124 k0_hw52 => k0_hw52
def k0_off40 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_168 : BitVec 32 := 16#32
  let v125 : BitVec 32 := Scalar.muli arg11 c16_i32_168
  let c16_i32_169 : BitVec 32 := 16#32
  let v126 : BitVec 32 := Scalar.muli v125 c16_i32_169
  let c64_i32 : BitVec 32 := 64#32
  let v127 : BitVec 32 := Scalar.addi v126 c64_i32
  let v128 : Index := Scalar.indexCast v127
  ![v128.toNat]

def k0_chk53 (v136 : IVec S16 32) : Prop :=
  (∀ a x, ((![v136] : Fin 1 → IVec S16 32) a x).toNat < S4096.size a)
theorem k0_idx69_inb : ∀ (v136 : IVec S16 32) (k0_hw53 : k0_chk53 v136), ∀ a x, ((![v136] : Fin 1 → IVec S16 32) a x).toNat < S4096.size a := fun v136 k0_hw53 => k0_hw53
def k0_off41 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_173 : BitVec 32 := 16#32
  let v137 : BitVec 32 := Scalar.muli arg11 c16_i32_173
  let c16_i32_174 : BitVec 32 := 16#32
  let v138 : BitVec 32 := Scalar.muli v137 c16_i32_174
  let c80_i32 : BitVec 32 := 80#32
  let v139 : BitVec 32 := Scalar.addi v138 c80_i32
  let v140 : Index := Scalar.indexCast v139
  ![v140.toNat]

def k0_chk54 (v148 : IVec S16 32) : Prop :=
  (∀ a x, ((![v148] : Fin 1 → IVec S16 32) a x).toNat < S4096.size a)
theorem k0_idx70_inb : ∀ (v148 : IVec S16 32) (k0_hw54 : k0_chk54 v148), ∀ a x, ((![v148] : Fin 1 → IVec S16 32) a x).toNat < S4096.size a := fun v148 k0_hw54 => k0_hw54
def k0_off42 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_178 : BitVec 32 := 16#32
  let v149 : BitVec 32 := Scalar.muli arg11 c16_i32_178
  let c16_i32_179 : BitVec 32 := 16#32
  let v150 : BitVec 32 := Scalar.muli v149 c16_i32_179
  let c96_i32 : BitVec 32 := 96#32
  let v151 : BitVec 32 := Scalar.addi v150 c96_i32
  let v152 : Index := Scalar.indexCast v151
  ![v152.toNat]

def k0_chk55 (v160 : IVec S16 32) : Prop :=
  (∀ a x, ((![v160] : Fin 1 → IVec S16 32) a x).toNat < S4096.size a)
theorem k0_idx71_inb : ∀ (v160 : IVec S16 32) (k0_hw55 : k0_chk55 v160), ∀ a x, ((![v160] : Fin 1 → IVec S16 32) a x).toNat < S4096.size a := fun v160 k0_hw55 => k0_hw55
def k0_off43 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_183 : BitVec 32 := 16#32
  let v161 : BitVec 32 := Scalar.muli arg11 c16_i32_183
  let c16_i32_184 : BitVec 32 := 16#32
  let v162 : BitVec 32 := Scalar.muli v161 c16_i32_184
  let c112_i32 : BitVec 32 := 112#32
  let v163 : BitVec 32 := Scalar.addi v162 c112_i32
  let v164 : Index := Scalar.indexCast v163
  ![v164.toNat]

def k0_chk56 (v172 : IVec S16 32) : Prop :=
  (∀ a x, ((![v172] : Fin 1 → IVec S16 32) a x).toNat < S4096.size a)
theorem k0_idx72_inb : ∀ (v172 : IVec S16 32) (k0_hw56 : k0_chk56 v172), ∀ a x, ((![v172] : Fin 1 → IVec S16 32) a x).toNat < S4096.size a := fun v172 k0_hw56 => k0_hw56
def k0_off44 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_188 : BitVec 32 := 16#32
  let v173 : BitVec 32 := Scalar.muli arg11 c16_i32_188
  let c16_i32_189 : BitVec 32 := 16#32
  let v174 : BitVec 32 := Scalar.muli v173 c16_i32_189
  let c128_i32_190 : BitVec 32 := 128#32
  let v175 : BitVec 32 := Scalar.addi v174 c128_i32_190
  let v176 : Index := Scalar.indexCast v175
  ![v176.toNat]

def k0_chk57 (v184 : IVec S16 32) : Prop :=
  (∀ a x, ((![v184] : Fin 1 → IVec S16 32) a x).toNat < S4096.size a)
theorem k0_idx73_inb : ∀ (v184 : IVec S16 32) (k0_hw57 : k0_chk57 v184), ∀ a x, ((![v184] : Fin 1 → IVec S16 32) a x).toNat < S4096.size a := fun v184 k0_hw57 => k0_hw57
def k0_off45 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_194 : BitVec 32 := 16#32
  let v185 : BitVec 32 := Scalar.muli arg11 c16_i32_194
  let c16_i32_195 : BitVec 32 := 16#32
  let v186 : BitVec 32 := Scalar.muli v185 c16_i32_195
  let c144_i32 : BitVec 32 := 144#32
  let v187 : BitVec 32 := Scalar.addi v186 c144_i32
  let v188 : Index := Scalar.indexCast v187
  ![v188.toNat]

def k0_chk58 (v196 : IVec S16 32) : Prop :=
  (∀ a x, ((![v196] : Fin 1 → IVec S16 32) a x).toNat < S4096.size a)
theorem k0_idx74_inb : ∀ (v196 : IVec S16 32) (k0_hw58 : k0_chk58 v196), ∀ a x, ((![v196] : Fin 1 → IVec S16 32) a x).toNat < S4096.size a := fun v196 k0_hw58 => k0_hw58
def k0_off46 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_199 : BitVec 32 := 16#32
  let v197 : BitVec 32 := Scalar.muli arg11 c16_i32_199
  let c16_i32_200 : BitVec 32 := 16#32
  let v198 : BitVec 32 := Scalar.muli v197 c16_i32_200
  let c160_i32 : BitVec 32 := 160#32
  let v199 : BitVec 32 := Scalar.addi v198 c160_i32
  let v200 : Index := Scalar.indexCast v199
  ![v200.toNat]

def k0_chk59 (v208 : IVec S16 32) : Prop :=
  (∀ a x, ((![v208] : Fin 1 → IVec S16 32) a x).toNat < S4096.size a)
theorem k0_idx75_inb : ∀ (v208 : IVec S16 32) (k0_hw59 : k0_chk59 v208), ∀ a x, ((![v208] : Fin 1 → IVec S16 32) a x).toNat < S4096.size a := fun v208 k0_hw59 => k0_hw59
def k0_off47 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_204 : BitVec 32 := 16#32
  let v209 : BitVec 32 := Scalar.muli arg11 c16_i32_204
  let c16_i32_205 : BitVec 32 := 16#32
  let v210 : BitVec 32 := Scalar.muli v209 c16_i32_205
  let c176_i32 : BitVec 32 := 176#32
  let v211 : BitVec 32 := Scalar.addi v210 c176_i32
  let v212 : Index := Scalar.indexCast v211
  ![v212.toNat]

def k0_chk60 (v220 : IVec S16 32) : Prop :=
  (∀ a x, ((![v220] : Fin 1 → IVec S16 32) a x).toNat < S4096.size a)
theorem k0_idx76_inb : ∀ (v220 : IVec S16 32) (k0_hw60 : k0_chk60 v220), ∀ a x, ((![v220] : Fin 1 → IVec S16 32) a x).toNat < S4096.size a := fun v220 k0_hw60 => k0_hw60
def k0_off48 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_209 : BitVec 32 := 16#32
  let v221 : BitVec 32 := Scalar.muli arg11 c16_i32_209
  let c16_i32_210 : BitVec 32 := 16#32
  let v222 : BitVec 32 := Scalar.muli v221 c16_i32_210
  let c192_i32 : BitVec 32 := 192#32
  let v223 : BitVec 32 := Scalar.addi v222 c192_i32
  let v224 : Index := Scalar.indexCast v223
  ![v224.toNat]

def k0_chk61 (v232 : IVec S16 32) : Prop :=
  (∀ a x, ((![v232] : Fin 1 → IVec S16 32) a x).toNat < S4096.size a)
theorem k0_idx77_inb : ∀ (v232 : IVec S16 32) (k0_hw61 : k0_chk61 v232), ∀ a x, ((![v232] : Fin 1 → IVec S16 32) a x).toNat < S4096.size a := fun v232 k0_hw61 => k0_hw61
def k0_off49 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_214 : BitVec 32 := 16#32
  let v233 : BitVec 32 := Scalar.muli arg11 c16_i32_214
  let c16_i32_215 : BitVec 32 := 16#32
  let v234 : BitVec 32 := Scalar.muli v233 c16_i32_215
  let c208_i32 : BitVec 32 := 208#32
  let v235 : BitVec 32 := Scalar.addi v234 c208_i32
  let v236 : Index := Scalar.indexCast v235
  ![v236.toNat]

def k0_chk62 (v244 : IVec S16 32) : Prop :=
  (∀ a x, ((![v244] : Fin 1 → IVec S16 32) a x).toNat < S4096.size a)
theorem k0_idx78_inb : ∀ (v244 : IVec S16 32) (k0_hw62 : k0_chk62 v244), ∀ a x, ((![v244] : Fin 1 → IVec S16 32) a x).toNat < S4096.size a := fun v244 k0_hw62 => k0_hw62
def k0_off50 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_219 : BitVec 32 := 16#32
  let v245 : BitVec 32 := Scalar.muli arg11 c16_i32_219
  let c16_i32_220 : BitVec 32 := 16#32
  let v246 : BitVec 32 := Scalar.muli v245 c16_i32_220
  let c224_i32 : BitVec 32 := 224#32
  let v247 : BitVec 32 := Scalar.addi v246 c224_i32
  let v248 : Index := Scalar.indexCast v247
  ![v248.toNat]

def k0_chk63 (v256 : IVec S16 32) : Prop :=
  (∀ a x, ((![v256] : Fin 1 → IVec S16 32) a x).toNat < S4096.size a)
theorem k0_idx79_inb : ∀ (v256 : IVec S16 32) (k0_hw63 : k0_chk63 v256), ∀ a x, ((![v256] : Fin 1 → IVec S16 32) a x).toNat < S4096.size a := fun v256 k0_hw63 => k0_hw63
def k0_off51 (k0_t5 : Fin k0_t5_loop.trips) : Fin 1 → Nat :=
  let c0_i32_25 : BitVec 32 := 0#32
  let c1_i32_27 : BitVec 32 := 1#32
  let arg11 : BitVec 32 := Scf.iv c0_i32_25 c1_i32_27 k0_t5
  let c16_i32_224 : BitVec 32 := 16#32
  let v257 : BitVec 32 := Scalar.muli arg11 c16_i32_224
  let c16_i32_225 : BitVec 32 := 16#32
  let v258 : BitVec 32 := Scalar.muli v257 c16_i32_225
  let c240_i32 : BitVec 32 := 240#32
  let v259 : BitVec 32 := Scalar.addi v258 c240_i32
  let v260 : Index := Scalar.indexCast v259
  ![v260.toNat]

def k0_chk64 (v268 : IVec S16 32) : Prop :=
  (∀ a x, ((![v268] : Fin 1 → IVec S16 32) a x).toNat < S4096.size a)
theorem k0_idx80_inb : ∀ (v268 : IVec S16 32) (k0_hw64 : k0_chk64 v268), ∀ a x, ((![v268] : Fin 1 → IVec S16 32) a x).toNat < S4096.size a := fun v268 k0_hw64 => k0_hw64
@[reducible] def k0_t6_loop : Scf.Loop 32 :=
  let c0_i32_30 : BitVec 32 := 0#32
  let c256_i32_31 : BitVec 32 := 256#32
  let v22 : BitVec 32 := Scalar.addi c0_i32_30 c256_i32_31
  let c1_i32_32 : BitVec 32 := 1#32
  ⟨c0_i32_30, v22, c1_i32_32⟩
def k0_off52 (k0_t6 : Fin k0_t6_loop.trips) : Fin 1 → Nat :=
  let c0_i32_30 : BitVec 32 := 0#32
  let c1_i32_32 : BitVec 32 := 1#32
  let arg11 : BitVec 32 := Scf.iv c0_i32_30 c1_i32_32 k0_t6
  let c16_i32_149 : BitVec 32 := 16#32
  let v77 : BitVec 32 := Scalar.muli arg11 c16_i32_149
  let v78 : Index := Scalar.indexCast v77
  ![v78.toNat]
@[reducible] def k0_t7_loop : Scf.Loop 32 :=
  let c0_i32_35 : BitVec 32 := 0#32
  let c128_i32_36 : BitVec 32 := 128#32
  let v24 : BitVec 32 := Scalar.addi c0_i32_35 c128_i32_36
  let c1_i32_37 : BitVec 32 := 1#32
  ⟨c0_i32_35, v24, c1_i32_37⟩
def k0_off53 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk65 (v88 : IVec S16 32) : Prop :=
  (∀ a x, ((![v88] : Fin 1 → IVec S16 32) a x).toNat < S4096.size a) ∧
  (∀ a x, ((![v88] : Fin 1 → IVec S16 32) a x).toNat < S4096.size a)
theorem k0_idx81_inb : ∀ (v88 : IVec S16 32) (k0_hw65 : k0_chk65 v88), ∀ a x, ((![v88] : Fin 1 → IVec S16 32) a x).toNat < S4096.size a := fun v88 k0_hw65 => k0_hw65.1
theorem k0_idx82_inb : ∀ (v88 : IVec S16 32) (k0_hw65 : k0_chk65 v88), ∀ a x, ((![v88] : Fin 1 → IVec S16 32) a x).toNat < S4096.size a := fun v88 k0_hw65 => k0_hw65.2

def k0_chk66 (v92 : IVec S16 32) : Prop :=
  (∀ a x, ((![v92] : Fin 1 → IVec S16 32) a x).toNat < S32768.size a)
theorem k0_idx83_inb : ∀ (v92 : IVec S16 32) (k0_hw66 : k0_chk66 v92), ∀ a x, ((![v92] : Fin 1 → IVec S16 32) a x).toNat < S32768.size a := fun v92 k0_hw66 => k0_hw66

def k0_chk67 (v112 : IVec S16 32) : Prop :=
  (∀ a x, ((![v112] : Fin 1 → IVec S16 32) a x).toNat < S32768.size a)
theorem k0_idx84_inb : ∀ (v112 : IVec S16 32) (k0_hw67 : k0_chk67 v112), ∀ a x, ((![v112] : Fin 1 → IVec S16 32) a x).toNat < S32768.size a := fun v112 k0_hw67 => k0_hw67
def k0_off54 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_156 : BitVec 32 := 16#32
  let v113 : BitVec 32 := Scalar.muli arg11 c16_i32_156
  let c16_i32_157 : BitVec 32 := 16#32
  let v114 : BitVec 32 := Scalar.muli v113 c16_i32_157
  let c16_i32_158 : BitVec 32 := 16#32
  let v115 : BitVec 32 := Scalar.addi v114 c16_i32_158
  let v116 : Index := Scalar.indexCast v115
  ![v116.toNat]

def k0_chk68 (v124 : IVec S16 32) : Prop :=
  (∀ a x, ((![v124] : Fin 1 → IVec S16 32) a x).toNat < S4096.size a) ∧
  (∀ a x, ((![v124] : Fin 1 → IVec S16 32) a x).toNat < S4096.size a)
theorem k0_idx85_inb : ∀ (v124 : IVec S16 32) (k0_hw68 : k0_chk68 v124), ∀ a x, ((![v124] : Fin 1 → IVec S16 32) a x).toNat < S4096.size a := fun v124 k0_hw68 => k0_hw68.1
theorem k0_idx86_inb : ∀ (v124 : IVec S16 32) (k0_hw68 : k0_chk68 v124), ∀ a x, ((![v124] : Fin 1 → IVec S16 32) a x).toNat < S4096.size a := fun v124 k0_hw68 => k0_hw68.2

def k0_chk69 (v128 : IVec S16 32) : Prop :=
  (∀ a x, ((![v128] : Fin 1 → IVec S16 32) a x).toNat < S32768.size a)
theorem k0_idx87_inb : ∀ (v128 : IVec S16 32) (k0_hw69 : k0_chk69 v128), ∀ a x, ((![v128] : Fin 1 → IVec S16 32) a x).toNat < S32768.size a := fun v128 k0_hw69 => k0_hw69

def k0_chk70 (v148 : IVec S16 32) : Prop :=
  (∀ a x, ((![v148] : Fin 1 → IVec S16 32) a x).toNat < S32768.size a)
theorem k0_idx88_inb : ∀ (v148 : IVec S16 32) (k0_hw70 : k0_chk70 v148), ∀ a x, ((![v148] : Fin 1 → IVec S16 32) a x).toNat < S32768.size a := fun v148 k0_hw70 => k0_hw70
def k0_off55 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_171 : BitVec 32 := 16#32
  let v149 : BitVec 32 := Scalar.muli arg11 c16_i32_171
  let c16_i32_172 : BitVec 32 := 16#32
  let v150 : BitVec 32 := Scalar.muli v149 c16_i32_172
  let c32_i32 : BitVec 32 := 32#32
  let v151 : BitVec 32 := Scalar.addi v150 c32_i32
  let v152 : Index := Scalar.indexCast v151
  ![v152.toNat]

def k0_chk71 (v160 : IVec S16 32) : Prop :=
  (∀ a x, ((![v160] : Fin 1 → IVec S16 32) a x).toNat < S4096.size a) ∧
  (∀ a x, ((![v160] : Fin 1 → IVec S16 32) a x).toNat < S4096.size a)
theorem k0_idx89_inb : ∀ (v160 : IVec S16 32) (k0_hw71 : k0_chk71 v160), ∀ a x, ((![v160] : Fin 1 → IVec S16 32) a x).toNat < S4096.size a := fun v160 k0_hw71 => k0_hw71.1
theorem k0_idx90_inb : ∀ (v160 : IVec S16 32) (k0_hw71 : k0_chk71 v160), ∀ a x, ((![v160] : Fin 1 → IVec S16 32) a x).toNat < S4096.size a := fun v160 k0_hw71 => k0_hw71.2

def k0_chk72 (v164 : IVec S16 32) : Prop :=
  (∀ a x, ((![v164] : Fin 1 → IVec S16 32) a x).toNat < S32768.size a)
theorem k0_idx91_inb : ∀ (v164 : IVec S16 32) (k0_hw72 : k0_chk72 v164), ∀ a x, ((![v164] : Fin 1 → IVec S16 32) a x).toNat < S32768.size a := fun v164 k0_hw72 => k0_hw72

def k0_chk73 (v184 : IVec S16 32) : Prop :=
  (∀ a x, ((![v184] : Fin 1 → IVec S16 32) a x).toNat < S32768.size a)
theorem k0_idx92_inb : ∀ (v184 : IVec S16 32) (k0_hw73 : k0_chk73 v184), ∀ a x, ((![v184] : Fin 1 → IVec S16 32) a x).toNat < S32768.size a := fun v184 k0_hw73 => k0_hw73
def k0_off56 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_185 : BitVec 32 := 16#32
  let v185 : BitVec 32 := Scalar.muli arg11 c16_i32_185
  let c16_i32_186 : BitVec 32 := 16#32
  let v186 : BitVec 32 := Scalar.muli v185 c16_i32_186
  let c48_i32 : BitVec 32 := 48#32
  let v187 : BitVec 32 := Scalar.addi v186 c48_i32
  let v188 : Index := Scalar.indexCast v187
  ![v188.toNat]

def k0_chk74 (v196 : IVec S16 32) : Prop :=
  (∀ a x, ((![v196] : Fin 1 → IVec S16 32) a x).toNat < S4096.size a) ∧
  (∀ a x, ((![v196] : Fin 1 → IVec S16 32) a x).toNat < S4096.size a)
theorem k0_idx93_inb : ∀ (v196 : IVec S16 32) (k0_hw74 : k0_chk74 v196), ∀ a x, ((![v196] : Fin 1 → IVec S16 32) a x).toNat < S4096.size a := fun v196 k0_hw74 => k0_hw74.1
theorem k0_idx94_inb : ∀ (v196 : IVec S16 32) (k0_hw74 : k0_chk74 v196), ∀ a x, ((![v196] : Fin 1 → IVec S16 32) a x).toNat < S4096.size a := fun v196 k0_hw74 => k0_hw74.2

def k0_chk75 (v200 : IVec S16 32) : Prop :=
  (∀ a x, ((![v200] : Fin 1 → IVec S16 32) a x).toNat < S32768.size a)
theorem k0_idx95_inb : ∀ (v200 : IVec S16 32) (k0_hw75 : k0_chk75 v200), ∀ a x, ((![v200] : Fin 1 → IVec S16 32) a x).toNat < S32768.size a := fun v200 k0_hw75 => k0_hw75

def k0_chk76 (v220 : IVec S16 32) : Prop :=
  (∀ a x, ((![v220] : Fin 1 → IVec S16 32) a x).toNat < S32768.size a)
theorem k0_idx96_inb : ∀ (v220 : IVec S16 32) (k0_hw76 : k0_chk76 v220), ∀ a x, ((![v220] : Fin 1 → IVec S16 32) a x).toNat < S32768.size a := fun v220 k0_hw76 => k0_hw76
def k0_off57 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_199 : BitVec 32 := 16#32
  let v221 : BitVec 32 := Scalar.muli arg11 c16_i32_199
  let c16_i32_200 : BitVec 32 := 16#32
  let v222 : BitVec 32 := Scalar.muli v221 c16_i32_200
  let c64_i32 : BitVec 32 := 64#32
  let v223 : BitVec 32 := Scalar.addi v222 c64_i32
  let v224 : Index := Scalar.indexCast v223
  ![v224.toNat]

def k0_chk77 (v232 : IVec S16 32) : Prop :=
  (∀ a x, ((![v232] : Fin 1 → IVec S16 32) a x).toNat < S4096.size a) ∧
  (∀ a x, ((![v232] : Fin 1 → IVec S16 32) a x).toNat < S4096.size a)
theorem k0_idx97_inb : ∀ (v232 : IVec S16 32) (k0_hw77 : k0_chk77 v232), ∀ a x, ((![v232] : Fin 1 → IVec S16 32) a x).toNat < S4096.size a := fun v232 k0_hw77 => k0_hw77.1
theorem k0_idx98_inb : ∀ (v232 : IVec S16 32) (k0_hw77 : k0_chk77 v232), ∀ a x, ((![v232] : Fin 1 → IVec S16 32) a x).toNat < S4096.size a := fun v232 k0_hw77 => k0_hw77.2

def k0_chk78 (v236 : IVec S16 32) : Prop :=
  (∀ a x, ((![v236] : Fin 1 → IVec S16 32) a x).toNat < S32768.size a)
theorem k0_idx99_inb : ∀ (v236 : IVec S16 32) (k0_hw78 : k0_chk78 v236), ∀ a x, ((![v236] : Fin 1 → IVec S16 32) a x).toNat < S32768.size a := fun v236 k0_hw78 => k0_hw78

def k0_chk79 (v256 : IVec S16 32) : Prop :=
  (∀ a x, ((![v256] : Fin 1 → IVec S16 32) a x).toNat < S32768.size a)
theorem k0_idx100_inb : ∀ (v256 : IVec S16 32) (k0_hw79 : k0_chk79 v256), ∀ a x, ((![v256] : Fin 1 → IVec S16 32) a x).toNat < S32768.size a := fun v256 k0_hw79 => k0_hw79
def k0_off58 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_213 : BitVec 32 := 16#32
  let v257 : BitVec 32 := Scalar.muli arg11 c16_i32_213
  let c16_i32_214 : BitVec 32 := 16#32
  let v258 : BitVec 32 := Scalar.muli v257 c16_i32_214
  let c80_i32 : BitVec 32 := 80#32
  let v259 : BitVec 32 := Scalar.addi v258 c80_i32
  let v260 : Index := Scalar.indexCast v259
  ![v260.toNat]

def k0_chk80 (v268 : IVec S16 32) : Prop :=
  (∀ a x, ((![v268] : Fin 1 → IVec S16 32) a x).toNat < S4096.size a) ∧
  (∀ a x, ((![v268] : Fin 1 → IVec S16 32) a x).toNat < S4096.size a)
theorem k0_idx101_inb : ∀ (v268 : IVec S16 32) (k0_hw80 : k0_chk80 v268), ∀ a x, ((![v268] : Fin 1 → IVec S16 32) a x).toNat < S4096.size a := fun v268 k0_hw80 => k0_hw80.1
theorem k0_idx102_inb : ∀ (v268 : IVec S16 32) (k0_hw80 : k0_chk80 v268), ∀ a x, ((![v268] : Fin 1 → IVec S16 32) a x).toNat < S4096.size a := fun v268 k0_hw80 => k0_hw80.2

def k0_chk81 (v272 : IVec S16 32) : Prop :=
  (∀ a x, ((![v272] : Fin 1 → IVec S16 32) a x).toNat < S32768.size a)
theorem k0_idx103_inb : ∀ (v272 : IVec S16 32) (k0_hw81 : k0_chk81 v272), ∀ a x, ((![v272] : Fin 1 → IVec S16 32) a x).toNat < S32768.size a := fun v272 k0_hw81 => k0_hw81

def k0_chk82 (v292 : IVec S16 32) : Prop :=
  (∀ a x, ((![v292] : Fin 1 → IVec S16 32) a x).toNat < S32768.size a)
theorem k0_idx104_inb : ∀ (v292 : IVec S16 32) (k0_hw82 : k0_chk82 v292), ∀ a x, ((![v292] : Fin 1 → IVec S16 32) a x).toNat < S32768.size a := fun v292 k0_hw82 => k0_hw82
def k0_off59 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_227 : BitVec 32 := 16#32
  let v293 : BitVec 32 := Scalar.muli arg11 c16_i32_227
  let c16_i32_228 : BitVec 32 := 16#32
  let v294 : BitVec 32 := Scalar.muli v293 c16_i32_228
  let c96_i32 : BitVec 32 := 96#32
  let v295 : BitVec 32 := Scalar.addi v294 c96_i32
  let v296 : Index := Scalar.indexCast v295
  ![v296.toNat]

def k0_chk83 (v304 : IVec S16 32) : Prop :=
  (∀ a x, ((![v304] : Fin 1 → IVec S16 32) a x).toNat < S4096.size a) ∧
  (∀ a x, ((![v304] : Fin 1 → IVec S16 32) a x).toNat < S4096.size a)
theorem k0_idx105_inb : ∀ (v304 : IVec S16 32) (k0_hw83 : k0_chk83 v304), ∀ a x, ((![v304] : Fin 1 → IVec S16 32) a x).toNat < S4096.size a := fun v304 k0_hw83 => k0_hw83.1
theorem k0_idx106_inb : ∀ (v304 : IVec S16 32) (k0_hw83 : k0_chk83 v304), ∀ a x, ((![v304] : Fin 1 → IVec S16 32) a x).toNat < S4096.size a := fun v304 k0_hw83 => k0_hw83.2

def k0_chk84 (v308 : IVec S16 32) : Prop :=
  (∀ a x, ((![v308] : Fin 1 → IVec S16 32) a x).toNat < S32768.size a)
theorem k0_idx107_inb : ∀ (v308 : IVec S16 32) (k0_hw84 : k0_chk84 v308), ∀ a x, ((![v308] : Fin 1 → IVec S16 32) a x).toNat < S32768.size a := fun v308 k0_hw84 => k0_hw84

def k0_chk85 (v328 : IVec S16 32) : Prop :=
  (∀ a x, ((![v328] : Fin 1 → IVec S16 32) a x).toNat < S32768.size a)
theorem k0_idx108_inb : ∀ (v328 : IVec S16 32) (k0_hw85 : k0_chk85 v328), ∀ a x, ((![v328] : Fin 1 → IVec S16 32) a x).toNat < S32768.size a := fun v328 k0_hw85 => k0_hw85
def k0_off60 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_241 : BitVec 32 := 16#32
  let v329 : BitVec 32 := Scalar.muli arg11 c16_i32_241
  let c16_i32_242 : BitVec 32 := 16#32
  let v330 : BitVec 32 := Scalar.muli v329 c16_i32_242
  let c112_i32 : BitVec 32 := 112#32
  let v331 : BitVec 32 := Scalar.addi v330 c112_i32
  let v332 : Index := Scalar.indexCast v331
  ![v332.toNat]

def k0_chk86 (v340 : IVec S16 32) : Prop :=
  (∀ a x, ((![v340] : Fin 1 → IVec S16 32) a x).toNat < S4096.size a) ∧
  (∀ a x, ((![v340] : Fin 1 → IVec S16 32) a x).toNat < S4096.size a)
theorem k0_idx109_inb : ∀ (v340 : IVec S16 32) (k0_hw86 : k0_chk86 v340), ∀ a x, ((![v340] : Fin 1 → IVec S16 32) a x).toNat < S4096.size a := fun v340 k0_hw86 => k0_hw86.1
theorem k0_idx110_inb : ∀ (v340 : IVec S16 32) (k0_hw86 : k0_chk86 v340), ∀ a x, ((![v340] : Fin 1 → IVec S16 32) a x).toNat < S4096.size a := fun v340 k0_hw86 => k0_hw86.2

def k0_chk87 (v344 : IVec S16 32) : Prop :=
  (∀ a x, ((![v344] : Fin 1 → IVec S16 32) a x).toNat < S32768.size a)
theorem k0_idx111_inb : ∀ (v344 : IVec S16 32) (k0_hw87 : k0_chk87 v344), ∀ a x, ((![v344] : Fin 1 → IVec S16 32) a x).toNat < S32768.size a := fun v344 k0_hw87 => k0_hw87

def k0_chk88 (v364 : IVec S16 32) : Prop :=
  (∀ a x, ((![v364] : Fin 1 → IVec S16 32) a x).toNat < S32768.size a)
theorem k0_idx112_inb : ∀ (v364 : IVec S16 32) (k0_hw88 : k0_chk88 v364), ∀ a x, ((![v364] : Fin 1 → IVec S16 32) a x).toNat < S32768.size a := fun v364 k0_hw88 => k0_hw88
def k0_off61 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_255 : BitVec 32 := 16#32
  let v365 : BitVec 32 := Scalar.muli arg11 c16_i32_255
  let c16_i32_256 : BitVec 32 := 16#32
  let v366 : BitVec 32 := Scalar.muli v365 c16_i32_256
  let c128_i32_257 : BitVec 32 := 128#32
  let v367 : BitVec 32 := Scalar.addi v366 c128_i32_257
  let v368 : Index := Scalar.indexCast v367
  ![v368.toNat]

def k0_chk89 (v376 : IVec S16 32) : Prop :=
  (∀ a x, ((![v376] : Fin 1 → IVec S16 32) a x).toNat < S4096.size a) ∧
  (∀ a x, ((![v376] : Fin 1 → IVec S16 32) a x).toNat < S4096.size a)
theorem k0_idx113_inb : ∀ (v376 : IVec S16 32) (k0_hw89 : k0_chk89 v376), ∀ a x, ((![v376] : Fin 1 → IVec S16 32) a x).toNat < S4096.size a := fun v376 k0_hw89 => k0_hw89.1
theorem k0_idx114_inb : ∀ (v376 : IVec S16 32) (k0_hw89 : k0_chk89 v376), ∀ a x, ((![v376] : Fin 1 → IVec S16 32) a x).toNat < S4096.size a := fun v376 k0_hw89 => k0_hw89.2

def k0_chk90 (v380 : IVec S16 32) : Prop :=
  (∀ a x, ((![v380] : Fin 1 → IVec S16 32) a x).toNat < S32768.size a)
theorem k0_idx115_inb : ∀ (v380 : IVec S16 32) (k0_hw90 : k0_chk90 v380), ∀ a x, ((![v380] : Fin 1 → IVec S16 32) a x).toNat < S32768.size a := fun v380 k0_hw90 => k0_hw90

def k0_chk91 (v400 : IVec S16 32) : Prop :=
  (∀ a x, ((![v400] : Fin 1 → IVec S16 32) a x).toNat < S32768.size a)
theorem k0_idx116_inb : ∀ (v400 : IVec S16 32) (k0_hw91 : k0_chk91 v400), ∀ a x, ((![v400] : Fin 1 → IVec S16 32) a x).toNat < S32768.size a := fun v400 k0_hw91 => k0_hw91
def k0_off62 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_270 : BitVec 32 := 16#32
  let v401 : BitVec 32 := Scalar.muli arg11 c16_i32_270
  let c16_i32_271 : BitVec 32 := 16#32
  let v402 : BitVec 32 := Scalar.muli v401 c16_i32_271
  let c144_i32 : BitVec 32 := 144#32
  let v403 : BitVec 32 := Scalar.addi v402 c144_i32
  let v404 : Index := Scalar.indexCast v403
  ![v404.toNat]

def k0_chk92 (v412 : IVec S16 32) : Prop :=
  (∀ a x, ((![v412] : Fin 1 → IVec S16 32) a x).toNat < S4096.size a) ∧
  (∀ a x, ((![v412] : Fin 1 → IVec S16 32) a x).toNat < S4096.size a)
theorem k0_idx117_inb : ∀ (v412 : IVec S16 32) (k0_hw92 : k0_chk92 v412), ∀ a x, ((![v412] : Fin 1 → IVec S16 32) a x).toNat < S4096.size a := fun v412 k0_hw92 => k0_hw92.1
theorem k0_idx118_inb : ∀ (v412 : IVec S16 32) (k0_hw92 : k0_chk92 v412), ∀ a x, ((![v412] : Fin 1 → IVec S16 32) a x).toNat < S4096.size a := fun v412 k0_hw92 => k0_hw92.2

def k0_chk93 (v416 : IVec S16 32) : Prop :=
  (∀ a x, ((![v416] : Fin 1 → IVec S16 32) a x).toNat < S32768.size a)
theorem k0_idx119_inb : ∀ (v416 : IVec S16 32) (k0_hw93 : k0_chk93 v416), ∀ a x, ((![v416] : Fin 1 → IVec S16 32) a x).toNat < S32768.size a := fun v416 k0_hw93 => k0_hw93

def k0_chk94 (v436 : IVec S16 32) : Prop :=
  (∀ a x, ((![v436] : Fin 1 → IVec S16 32) a x).toNat < S32768.size a)
theorem k0_idx120_inb : ∀ (v436 : IVec S16 32) (k0_hw94 : k0_chk94 v436), ∀ a x, ((![v436] : Fin 1 → IVec S16 32) a x).toNat < S32768.size a := fun v436 k0_hw94 => k0_hw94
def k0_off63 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_284 : BitVec 32 := 16#32
  let v437 : BitVec 32 := Scalar.muli arg11 c16_i32_284
  let c16_i32_285 : BitVec 32 := 16#32
  let v438 : BitVec 32 := Scalar.muli v437 c16_i32_285
  let c160_i32 : BitVec 32 := 160#32
  let v439 : BitVec 32 := Scalar.addi v438 c160_i32
  let v440 : Index := Scalar.indexCast v439
  ![v440.toNat]

def k0_chk95 (v448 : IVec S16 32) : Prop :=
  (∀ a x, ((![v448] : Fin 1 → IVec S16 32) a x).toNat < S4096.size a) ∧
  (∀ a x, ((![v448] : Fin 1 → IVec S16 32) a x).toNat < S4096.size a)
theorem k0_idx121_inb : ∀ (v448 : IVec S16 32) (k0_hw95 : k0_chk95 v448), ∀ a x, ((![v448] : Fin 1 → IVec S16 32) a x).toNat < S4096.size a := fun v448 k0_hw95 => k0_hw95.1
theorem k0_idx122_inb : ∀ (v448 : IVec S16 32) (k0_hw95 : k0_chk95 v448), ∀ a x, ((![v448] : Fin 1 → IVec S16 32) a x).toNat < S4096.size a := fun v448 k0_hw95 => k0_hw95.2

def k0_chk96 (v452 : IVec S16 32) : Prop :=
  (∀ a x, ((![v452] : Fin 1 → IVec S16 32) a x).toNat < S32768.size a)
theorem k0_idx123_inb : ∀ (v452 : IVec S16 32) (k0_hw96 : k0_chk96 v452), ∀ a x, ((![v452] : Fin 1 → IVec S16 32) a x).toNat < S32768.size a := fun v452 k0_hw96 => k0_hw96

def k0_chk97 (v472 : IVec S16 32) : Prop :=
  (∀ a x, ((![v472] : Fin 1 → IVec S16 32) a x).toNat < S32768.size a)
theorem k0_idx124_inb : ∀ (v472 : IVec S16 32) (k0_hw97 : k0_chk97 v472), ∀ a x, ((![v472] : Fin 1 → IVec S16 32) a x).toNat < S32768.size a := fun v472 k0_hw97 => k0_hw97
def k0_off64 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_298 : BitVec 32 := 16#32
  let v473 : BitVec 32 := Scalar.muli arg11 c16_i32_298
  let c16_i32_299 : BitVec 32 := 16#32
  let v474 : BitVec 32 := Scalar.muli v473 c16_i32_299
  let c176_i32 : BitVec 32 := 176#32
  let v475 : BitVec 32 := Scalar.addi v474 c176_i32
  let v476 : Index := Scalar.indexCast v475
  ![v476.toNat]

def k0_chk98 (v484 : IVec S16 32) : Prop :=
  (∀ a x, ((![v484] : Fin 1 → IVec S16 32) a x).toNat < S4096.size a) ∧
  (∀ a x, ((![v484] : Fin 1 → IVec S16 32) a x).toNat < S4096.size a)
theorem k0_idx125_inb : ∀ (v484 : IVec S16 32) (k0_hw98 : k0_chk98 v484), ∀ a x, ((![v484] : Fin 1 → IVec S16 32) a x).toNat < S4096.size a := fun v484 k0_hw98 => k0_hw98.1
theorem k0_idx126_inb : ∀ (v484 : IVec S16 32) (k0_hw98 : k0_chk98 v484), ∀ a x, ((![v484] : Fin 1 → IVec S16 32) a x).toNat < S4096.size a := fun v484 k0_hw98 => k0_hw98.2

def k0_chk99 (v488 : IVec S16 32) : Prop :=
  (∀ a x, ((![v488] : Fin 1 → IVec S16 32) a x).toNat < S32768.size a)
theorem k0_idx127_inb : ∀ (v488 : IVec S16 32) (k0_hw99 : k0_chk99 v488), ∀ a x, ((![v488] : Fin 1 → IVec S16 32) a x).toNat < S32768.size a := fun v488 k0_hw99 => k0_hw99

def k0_chk100 (v508 : IVec S16 32) : Prop :=
  (∀ a x, ((![v508] : Fin 1 → IVec S16 32) a x).toNat < S32768.size a)
theorem k0_idx128_inb : ∀ (v508 : IVec S16 32) (k0_hw100 : k0_chk100 v508), ∀ a x, ((![v508] : Fin 1 → IVec S16 32) a x).toNat < S32768.size a := fun v508 k0_hw100 => k0_hw100
def k0_off65 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_312 : BitVec 32 := 16#32
  let v509 : BitVec 32 := Scalar.muli arg11 c16_i32_312
  let c16_i32_313 : BitVec 32 := 16#32
  let v510 : BitVec 32 := Scalar.muli v509 c16_i32_313
  let c192_i32 : BitVec 32 := 192#32
  let v511 : BitVec 32 := Scalar.addi v510 c192_i32
  let v512 : Index := Scalar.indexCast v511
  ![v512.toNat]

def k0_chk101 (v520 : IVec S16 32) : Prop :=
  (∀ a x, ((![v520] : Fin 1 → IVec S16 32) a x).toNat < S4096.size a) ∧
  (∀ a x, ((![v520] : Fin 1 → IVec S16 32) a x).toNat < S4096.size a)
theorem k0_idx129_inb : ∀ (v520 : IVec S16 32) (k0_hw101 : k0_chk101 v520), ∀ a x, ((![v520] : Fin 1 → IVec S16 32) a x).toNat < S4096.size a := fun v520 k0_hw101 => k0_hw101.1
theorem k0_idx130_inb : ∀ (v520 : IVec S16 32) (k0_hw101 : k0_chk101 v520), ∀ a x, ((![v520] : Fin 1 → IVec S16 32) a x).toNat < S4096.size a := fun v520 k0_hw101 => k0_hw101.2

def k0_chk102 (v524 : IVec S16 32) : Prop :=
  (∀ a x, ((![v524] : Fin 1 → IVec S16 32) a x).toNat < S32768.size a)
theorem k0_idx131_inb : ∀ (v524 : IVec S16 32) (k0_hw102 : k0_chk102 v524), ∀ a x, ((![v524] : Fin 1 → IVec S16 32) a x).toNat < S32768.size a := fun v524 k0_hw102 => k0_hw102

def k0_chk103 (v544 : IVec S16 32) : Prop :=
  (∀ a x, ((![v544] : Fin 1 → IVec S16 32) a x).toNat < S32768.size a)
theorem k0_idx132_inb : ∀ (v544 : IVec S16 32) (k0_hw103 : k0_chk103 v544), ∀ a x, ((![v544] : Fin 1 → IVec S16 32) a x).toNat < S32768.size a := fun v544 k0_hw103 => k0_hw103
def k0_off66 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_326 : BitVec 32 := 16#32
  let v545 : BitVec 32 := Scalar.muli arg11 c16_i32_326
  let c16_i32_327 : BitVec 32 := 16#32
  let v546 : BitVec 32 := Scalar.muli v545 c16_i32_327
  let c208_i32 : BitVec 32 := 208#32
  let v547 : BitVec 32 := Scalar.addi v546 c208_i32
  let v548 : Index := Scalar.indexCast v547
  ![v548.toNat]

def k0_chk104 (v556 : IVec S16 32) : Prop :=
  (∀ a x, ((![v556] : Fin 1 → IVec S16 32) a x).toNat < S4096.size a) ∧
  (∀ a x, ((![v556] : Fin 1 → IVec S16 32) a x).toNat < S4096.size a)
theorem k0_idx133_inb : ∀ (v556 : IVec S16 32) (k0_hw104 : k0_chk104 v556), ∀ a x, ((![v556] : Fin 1 → IVec S16 32) a x).toNat < S4096.size a := fun v556 k0_hw104 => k0_hw104.1
theorem k0_idx134_inb : ∀ (v556 : IVec S16 32) (k0_hw104 : k0_chk104 v556), ∀ a x, ((![v556] : Fin 1 → IVec S16 32) a x).toNat < S4096.size a := fun v556 k0_hw104 => k0_hw104.2

def k0_chk105 (v560 : IVec S16 32) : Prop :=
  (∀ a x, ((![v560] : Fin 1 → IVec S16 32) a x).toNat < S32768.size a)
theorem k0_idx135_inb : ∀ (v560 : IVec S16 32) (k0_hw105 : k0_chk105 v560), ∀ a x, ((![v560] : Fin 1 → IVec S16 32) a x).toNat < S32768.size a := fun v560 k0_hw105 => k0_hw105

def k0_chk106 (v580 : IVec S16 32) : Prop :=
  (∀ a x, ((![v580] : Fin 1 → IVec S16 32) a x).toNat < S32768.size a)
theorem k0_idx136_inb : ∀ (v580 : IVec S16 32) (k0_hw106 : k0_chk106 v580), ∀ a x, ((![v580] : Fin 1 → IVec S16 32) a x).toNat < S32768.size a := fun v580 k0_hw106 => k0_hw106
def k0_off67 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_340 : BitVec 32 := 16#32
  let v581 : BitVec 32 := Scalar.muli arg11 c16_i32_340
  let c16_i32_341 : BitVec 32 := 16#32
  let v582 : BitVec 32 := Scalar.muli v581 c16_i32_341
  let c224_i32 : BitVec 32 := 224#32
  let v583 : BitVec 32 := Scalar.addi v582 c224_i32
  let v584 : Index := Scalar.indexCast v583
  ![v584.toNat]

def k0_chk107 (v592 : IVec S16 32) : Prop :=
  (∀ a x, ((![v592] : Fin 1 → IVec S16 32) a x).toNat < S4096.size a) ∧
  (∀ a x, ((![v592] : Fin 1 → IVec S16 32) a x).toNat < S4096.size a)
theorem k0_idx137_inb : ∀ (v592 : IVec S16 32) (k0_hw107 : k0_chk107 v592), ∀ a x, ((![v592] : Fin 1 → IVec S16 32) a x).toNat < S4096.size a := fun v592 k0_hw107 => k0_hw107.1
theorem k0_idx138_inb : ∀ (v592 : IVec S16 32) (k0_hw107 : k0_chk107 v592), ∀ a x, ((![v592] : Fin 1 → IVec S16 32) a x).toNat < S4096.size a := fun v592 k0_hw107 => k0_hw107.2

def k0_chk108 (v596 : IVec S16 32) : Prop :=
  (∀ a x, ((![v596] : Fin 1 → IVec S16 32) a x).toNat < S32768.size a)
theorem k0_idx139_inb : ∀ (v596 : IVec S16 32) (k0_hw108 : k0_chk108 v596), ∀ a x, ((![v596] : Fin 1 → IVec S16 32) a x).toNat < S32768.size a := fun v596 k0_hw108 => k0_hw108

def k0_chk109 (v616 : IVec S16 32) : Prop :=
  (∀ a x, ((![v616] : Fin 1 → IVec S16 32) a x).toNat < S32768.size a)
theorem k0_idx140_inb : ∀ (v616 : IVec S16 32) (k0_hw109 : k0_chk109 v616), ∀ a x, ((![v616] : Fin 1 → IVec S16 32) a x).toNat < S32768.size a := fun v616 k0_hw109 => k0_hw109
def k0_off68 (k0_t7 : Fin k0_t7_loop.trips) : Fin 1 → Nat :=
  let c0_i32_35 : BitVec 32 := 0#32
  let c1_i32_37 : BitVec 32 := 1#32
  let arg11 : BitVec 32 := Scf.iv c0_i32_35 c1_i32_37 k0_t7
  let c16_i32_354 : BitVec 32 := 16#32
  let v617 : BitVec 32 := Scalar.muli arg11 c16_i32_354
  let c16_i32_355 : BitVec 32 := 16#32
  let v618 : BitVec 32 := Scalar.muli v617 c16_i32_355
  let c240_i32 : BitVec 32 := 240#32
  let v619 : BitVec 32 := Scalar.addi v618 c240_i32
  let v620 : Index := Scalar.indexCast v619
  ![v620.toNat]

def k0_chk110 (v628 : IVec S16 32) : Prop :=
  (∀ a x, ((![v628] : Fin 1 → IVec S16 32) a x).toNat < S4096.size a) ∧
  (∀ a x, ((![v628] : Fin 1 → IVec S16 32) a x).toNat < S4096.size a)
theorem k0_idx141_inb : ∀ (v628 : IVec S16 32) (k0_hw110 : k0_chk110 v628), ∀ a x, ((![v628] : Fin 1 → IVec S16 32) a x).toNat < S4096.size a := fun v628 k0_hw110 => k0_hw110.1
theorem k0_idx142_inb : ∀ (v628 : IVec S16 32) (k0_hw110 : k0_chk110 v628), ∀ a x, ((![v628] : Fin 1 → IVec S16 32) a x).toNat < S4096.size a := fun v628 k0_hw110 => k0_hw110.2

def k0_chk111 (v632 : IVec S16 32) : Prop :=
  (∀ a x, ((![v632] : Fin 1 → IVec S16 32) a x).toNat < S32768.size a)
theorem k0_idx143_inb : ∀ (v632 : IVec S16 32) (k0_hw111 : k0_chk111 v632), ∀ a x, ((![v632] : Fin 1 → IVec S16 32) a x).toNat < S32768.size a := fun v632 k0_hw111 => k0_hw111

def k0_chk112 (v652 : IVec S16 32) : Prop :=
  (∀ a x, ((![v652] : Fin 1 → IVec S16 32) a x).toNat < S32768.size a)
theorem k0_idx144_inb : ∀ (v652 : IVec S16 32) (k0_hw112 : k0_chk112 v652), ∀ a x, ((![v652] : Fin 1 → IVec S16 32) a x).toNat < S32768.size a := fun v652 k0_hw112 => k0_hw112
def k0_off69 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v11 : BitVec 32 := Scalar.muli v1 c2_i32_7
  let c0_i32_8 : BitVec 32 := 0#32
  let v12 : BitVec 32 := Scalar.addi v11 c0_i32_8
  let c1_i32_39 : BitVec 32 := 1#32
  let v25 : BitVec 32 := Scalar.addi v12 c1_i32_39
  let c0_i32_40 : BitVec 32 := 0#32
  ![v25.toNat, 0]
@[reducible] def k0_t8_loop : Scf.Loop 32 :=
  let c0_i32_43 : BitVec 32 := 0#32
  let c128_i32_44 : BitVec 32 := 128#32
  let v30 : BitVec 32 := Scalar.addi c0_i32_43 c128_i32_44
  let c1_i32_45 : BitVec 32 := 1#32
  ⟨c0_i32_43, v30, c1_i32_45⟩
def k0_off70 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk113 (v88 : IVec S16 32) : Prop :=
  (∀ a x, ((![v88] : Fin 1 → IVec S16 32) a x).toNat < S4096.size a)
theorem k0_idx145_inb : ∀ (v88 : IVec S16 32) (k0_hw113 : k0_chk113 v88), ∀ a x, ((![v88] : Fin 1 → IVec S16 32) a x).toNat < S4096.size a := fun v88 k0_hw113 => k0_hw113
def k0_off71 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_152 : BitVec 32 := 16#32
  let v89 : BitVec 32 := Scalar.muli arg11 c16_i32_152
  let c16_i32_153 : BitVec 32 := 16#32
  let v90 : BitVec 32 := Scalar.muli v89 c16_i32_153
  let c16_i32_154 : BitVec 32 := 16#32
  let v91 : BitVec 32 := Scalar.addi v90 c16_i32_154
  let v92 : Index := Scalar.indexCast v91
  ![v92.toNat]

def k0_chk114 (v100 : IVec S16 32) : Prop :=
  (∀ a x, ((![v100] : Fin 1 → IVec S16 32) a x).toNat < S4096.size a)
theorem k0_idx146_inb : ∀ (v100 : IVec S16 32) (k0_hw114 : k0_chk114 v100), ∀ a x, ((![v100] : Fin 1 → IVec S16 32) a x).toNat < S4096.size a := fun v100 k0_hw114 => k0_hw114
def k0_off72 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_158 : BitVec 32 := 16#32
  let v101 : BitVec 32 := Scalar.muli arg11 c16_i32_158
  let c16_i32_159 : BitVec 32 := 16#32
  let v102 : BitVec 32 := Scalar.muli v101 c16_i32_159
  let c32_i32 : BitVec 32 := 32#32
  let v103 : BitVec 32 := Scalar.addi v102 c32_i32
  let v104 : Index := Scalar.indexCast v103
  ![v104.toNat]

def k0_chk115 (v112 : IVec S16 32) : Prop :=
  (∀ a x, ((![v112] : Fin 1 → IVec S16 32) a x).toNat < S4096.size a)
theorem k0_idx147_inb : ∀ (v112 : IVec S16 32) (k0_hw115 : k0_chk115 v112), ∀ a x, ((![v112] : Fin 1 → IVec S16 32) a x).toNat < S4096.size a := fun v112 k0_hw115 => k0_hw115
def k0_off73 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_163 : BitVec 32 := 16#32
  let v113 : BitVec 32 := Scalar.muli arg11 c16_i32_163
  let c16_i32_164 : BitVec 32 := 16#32
  let v114 : BitVec 32 := Scalar.muli v113 c16_i32_164
  let c48_i32 : BitVec 32 := 48#32
  let v115 : BitVec 32 := Scalar.addi v114 c48_i32
  let v116 : Index := Scalar.indexCast v115
  ![v116.toNat]

def k0_chk116 (v124 : IVec S16 32) : Prop :=
  (∀ a x, ((![v124] : Fin 1 → IVec S16 32) a x).toNat < S4096.size a)
theorem k0_idx148_inb : ∀ (v124 : IVec S16 32) (k0_hw116 : k0_chk116 v124), ∀ a x, ((![v124] : Fin 1 → IVec S16 32) a x).toNat < S4096.size a := fun v124 k0_hw116 => k0_hw116
def k0_off74 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_168 : BitVec 32 := 16#32
  let v125 : BitVec 32 := Scalar.muli arg11 c16_i32_168
  let c16_i32_169 : BitVec 32 := 16#32
  let v126 : BitVec 32 := Scalar.muli v125 c16_i32_169
  let c64_i32 : BitVec 32 := 64#32
  let v127 : BitVec 32 := Scalar.addi v126 c64_i32
  let v128 : Index := Scalar.indexCast v127
  ![v128.toNat]

def k0_chk117 (v136 : IVec S16 32) : Prop :=
  (∀ a x, ((![v136] : Fin 1 → IVec S16 32) a x).toNat < S4096.size a)
theorem k0_idx149_inb : ∀ (v136 : IVec S16 32) (k0_hw117 : k0_chk117 v136), ∀ a x, ((![v136] : Fin 1 → IVec S16 32) a x).toNat < S4096.size a := fun v136 k0_hw117 => k0_hw117
def k0_off75 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_173 : BitVec 32 := 16#32
  let v137 : BitVec 32 := Scalar.muli arg11 c16_i32_173
  let c16_i32_174 : BitVec 32 := 16#32
  let v138 : BitVec 32 := Scalar.muli v137 c16_i32_174
  let c80_i32 : BitVec 32 := 80#32
  let v139 : BitVec 32 := Scalar.addi v138 c80_i32
  let v140 : Index := Scalar.indexCast v139
  ![v140.toNat]

def k0_chk118 (v148 : IVec S16 32) : Prop :=
  (∀ a x, ((![v148] : Fin 1 → IVec S16 32) a x).toNat < S4096.size a)
theorem k0_idx150_inb : ∀ (v148 : IVec S16 32) (k0_hw118 : k0_chk118 v148), ∀ a x, ((![v148] : Fin 1 → IVec S16 32) a x).toNat < S4096.size a := fun v148 k0_hw118 => k0_hw118
def k0_off76 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_178 : BitVec 32 := 16#32
  let v149 : BitVec 32 := Scalar.muli arg11 c16_i32_178
  let c16_i32_179 : BitVec 32 := 16#32
  let v150 : BitVec 32 := Scalar.muli v149 c16_i32_179
  let c96_i32 : BitVec 32 := 96#32
  let v151 : BitVec 32 := Scalar.addi v150 c96_i32
  let v152 : Index := Scalar.indexCast v151
  ![v152.toNat]

def k0_chk119 (v160 : IVec S16 32) : Prop :=
  (∀ a x, ((![v160] : Fin 1 → IVec S16 32) a x).toNat < S4096.size a)
theorem k0_idx151_inb : ∀ (v160 : IVec S16 32) (k0_hw119 : k0_chk119 v160), ∀ a x, ((![v160] : Fin 1 → IVec S16 32) a x).toNat < S4096.size a := fun v160 k0_hw119 => k0_hw119
def k0_off77 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_183 : BitVec 32 := 16#32
  let v161 : BitVec 32 := Scalar.muli arg11 c16_i32_183
  let c16_i32_184 : BitVec 32 := 16#32
  let v162 : BitVec 32 := Scalar.muli v161 c16_i32_184
  let c112_i32 : BitVec 32 := 112#32
  let v163 : BitVec 32 := Scalar.addi v162 c112_i32
  let v164 : Index := Scalar.indexCast v163
  ![v164.toNat]

def k0_chk120 (v172 : IVec S16 32) : Prop :=
  (∀ a x, ((![v172] : Fin 1 → IVec S16 32) a x).toNat < S4096.size a)
theorem k0_idx152_inb : ∀ (v172 : IVec S16 32) (k0_hw120 : k0_chk120 v172), ∀ a x, ((![v172] : Fin 1 → IVec S16 32) a x).toNat < S4096.size a := fun v172 k0_hw120 => k0_hw120
def k0_off78 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_188 : BitVec 32 := 16#32
  let v173 : BitVec 32 := Scalar.muli arg11 c16_i32_188
  let c16_i32_189 : BitVec 32 := 16#32
  let v174 : BitVec 32 := Scalar.muli v173 c16_i32_189
  let c128_i32_190 : BitVec 32 := 128#32
  let v175 : BitVec 32 := Scalar.addi v174 c128_i32_190
  let v176 : Index := Scalar.indexCast v175
  ![v176.toNat]

def k0_chk121 (v184 : IVec S16 32) : Prop :=
  (∀ a x, ((![v184] : Fin 1 → IVec S16 32) a x).toNat < S4096.size a)
theorem k0_idx153_inb : ∀ (v184 : IVec S16 32) (k0_hw121 : k0_chk121 v184), ∀ a x, ((![v184] : Fin 1 → IVec S16 32) a x).toNat < S4096.size a := fun v184 k0_hw121 => k0_hw121
def k0_off79 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_194 : BitVec 32 := 16#32
  let v185 : BitVec 32 := Scalar.muli arg11 c16_i32_194
  let c16_i32_195 : BitVec 32 := 16#32
  let v186 : BitVec 32 := Scalar.muli v185 c16_i32_195
  let c144_i32 : BitVec 32 := 144#32
  let v187 : BitVec 32 := Scalar.addi v186 c144_i32
  let v188 : Index := Scalar.indexCast v187
  ![v188.toNat]

def k0_chk122 (v196 : IVec S16 32) : Prop :=
  (∀ a x, ((![v196] : Fin 1 → IVec S16 32) a x).toNat < S4096.size a)
theorem k0_idx154_inb : ∀ (v196 : IVec S16 32) (k0_hw122 : k0_chk122 v196), ∀ a x, ((![v196] : Fin 1 → IVec S16 32) a x).toNat < S4096.size a := fun v196 k0_hw122 => k0_hw122
def k0_off80 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_199 : BitVec 32 := 16#32
  let v197 : BitVec 32 := Scalar.muli arg11 c16_i32_199
  let c16_i32_200 : BitVec 32 := 16#32
  let v198 : BitVec 32 := Scalar.muli v197 c16_i32_200
  let c160_i32 : BitVec 32 := 160#32
  let v199 : BitVec 32 := Scalar.addi v198 c160_i32
  let v200 : Index := Scalar.indexCast v199
  ![v200.toNat]

def k0_chk123 (v208 : IVec S16 32) : Prop :=
  (∀ a x, ((![v208] : Fin 1 → IVec S16 32) a x).toNat < S4096.size a)
theorem k0_idx155_inb : ∀ (v208 : IVec S16 32) (k0_hw123 : k0_chk123 v208), ∀ a x, ((![v208] : Fin 1 → IVec S16 32) a x).toNat < S4096.size a := fun v208 k0_hw123 => k0_hw123
def k0_off81 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_204 : BitVec 32 := 16#32
  let v209 : BitVec 32 := Scalar.muli arg11 c16_i32_204
  let c16_i32_205 : BitVec 32 := 16#32
  let v210 : BitVec 32 := Scalar.muli v209 c16_i32_205
  let c176_i32 : BitVec 32 := 176#32
  let v211 : BitVec 32 := Scalar.addi v210 c176_i32
  let v212 : Index := Scalar.indexCast v211
  ![v212.toNat]

def k0_chk124 (v220 : IVec S16 32) : Prop :=
  (∀ a x, ((![v220] : Fin 1 → IVec S16 32) a x).toNat < S4096.size a)
theorem k0_idx156_inb : ∀ (v220 : IVec S16 32) (k0_hw124 : k0_chk124 v220), ∀ a x, ((![v220] : Fin 1 → IVec S16 32) a x).toNat < S4096.size a := fun v220 k0_hw124 => k0_hw124
def k0_off82 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_209 : BitVec 32 := 16#32
  let v221 : BitVec 32 := Scalar.muli arg11 c16_i32_209
  let c16_i32_210 : BitVec 32 := 16#32
  let v222 : BitVec 32 := Scalar.muli v221 c16_i32_210
  let c192_i32 : BitVec 32 := 192#32
  let v223 : BitVec 32 := Scalar.addi v222 c192_i32
  let v224 : Index := Scalar.indexCast v223
  ![v224.toNat]

def k0_chk125 (v232 : IVec S16 32) : Prop :=
  (∀ a x, ((![v232] : Fin 1 → IVec S16 32) a x).toNat < S4096.size a)
theorem k0_idx157_inb : ∀ (v232 : IVec S16 32) (k0_hw125 : k0_chk125 v232), ∀ a x, ((![v232] : Fin 1 → IVec S16 32) a x).toNat < S4096.size a := fun v232 k0_hw125 => k0_hw125
def k0_off83 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_214 : BitVec 32 := 16#32
  let v233 : BitVec 32 := Scalar.muli arg11 c16_i32_214
  let c16_i32_215 : BitVec 32 := 16#32
  let v234 : BitVec 32 := Scalar.muli v233 c16_i32_215
  let c208_i32 : BitVec 32 := 208#32
  let v235 : BitVec 32 := Scalar.addi v234 c208_i32
  let v236 : Index := Scalar.indexCast v235
  ![v236.toNat]

def k0_chk126 (v244 : IVec S16 32) : Prop :=
  (∀ a x, ((![v244] : Fin 1 → IVec S16 32) a x).toNat < S4096.size a)
theorem k0_idx158_inb : ∀ (v244 : IVec S16 32) (k0_hw126 : k0_chk126 v244), ∀ a x, ((![v244] : Fin 1 → IVec S16 32) a x).toNat < S4096.size a := fun v244 k0_hw126 => k0_hw126
def k0_off84 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_219 : BitVec 32 := 16#32
  let v245 : BitVec 32 := Scalar.muli arg11 c16_i32_219
  let c16_i32_220 : BitVec 32 := 16#32
  let v246 : BitVec 32 := Scalar.muli v245 c16_i32_220
  let c224_i32 : BitVec 32 := 224#32
  let v247 : BitVec 32 := Scalar.addi v246 c224_i32
  let v248 : Index := Scalar.indexCast v247
  ![v248.toNat]

def k0_chk127 (v256 : IVec S16 32) : Prop :=
  (∀ a x, ((![v256] : Fin 1 → IVec S16 32) a x).toNat < S4096.size a)
theorem k0_idx159_inb : ∀ (v256 : IVec S16 32) (k0_hw127 : k0_chk127 v256), ∀ a x, ((![v256] : Fin 1 → IVec S16 32) a x).toNat < S4096.size a := fun v256 k0_hw127 => k0_hw127
def k0_off85 (k0_t8 : Fin k0_t8_loop.trips) : Fin 1 → Nat :=
  let c0_i32_43 : BitVec 32 := 0#32
  let c1_i32_45 : BitVec 32 := 1#32
  let arg11 : BitVec 32 := Scf.iv c0_i32_43 c1_i32_45 k0_t8
  let c16_i32_224 : BitVec 32 := 16#32
  let v257 : BitVec 32 := Scalar.muli arg11 c16_i32_224
  let c16_i32_225 : BitVec 32 := 16#32
  let v258 : BitVec 32 := Scalar.muli v257 c16_i32_225
  let c240_i32 : BitVec 32 := 240#32
  let v259 : BitVec 32 := Scalar.addi v258 c240_i32
  let v260 : Index := Scalar.indexCast v259
  ![v260.toNat]

def k0_chk128 (v268 : IVec S16 32) : Prop :=
  (∀ a x, ((![v268] : Fin 1 → IVec S16 32) a x).toNat < S4096.size a)
theorem k0_idx160_inb : ∀ (v268 : IVec S16 32) (k0_hw128 : k0_chk128 v268), ∀ a x, ((![v268] : Fin 1 → IVec S16 32) a x).toNat < S4096.size a := fun v268 k0_hw128 => k0_hw128
@[reducible] def k0_t9_loop : Scf.Loop 32 :=
  let c0_i32_48 : BitVec 32 := 0#32
  let c256_i32_49 : BitVec 32 := 256#32
  let v31 : BitVec 32 := Scalar.addi c0_i32_48 c256_i32_49
  let c1_i32_50 : BitVec 32 := 1#32
  ⟨c0_i32_48, v31, c1_i32_50⟩
def k0_off86 (k0_t9 : Fin k0_t9_loop.trips) : Fin 1 → Nat :=
  let c0_i32_48 : BitVec 32 := 0#32
  let c1_i32_50 : BitVec 32 := 1#32
  let arg11 : BitVec 32 := Scf.iv c0_i32_48 c1_i32_50 k0_t9
  let c16_i32_149 : BitVec 32 := 16#32
  let v77 : BitVec 32 := Scalar.muli arg11 c16_i32_149
  let v78 : Index := Scalar.indexCast v77
  ![v78.toNat]
@[reducible] def k0_t10_loop : Scf.Loop 32 :=
  let c0_i32_53 : BitVec 32 := 0#32
  let c128_i32_54 : BitVec 32 := 128#32
  let v33 : BitVec 32 := Scalar.addi c0_i32_53 c128_i32_54
  let c1_i32_55 : BitVec 32 := 1#32
  ⟨c0_i32_53, v33, c1_i32_55⟩
def k0_off87 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk129 (v88 : IVec S16 32) : Prop :=
  (∀ a x, ((![v88] : Fin 1 → IVec S16 32) a x).toNat < S4096.size a) ∧
  (∀ a x, ((![v88] : Fin 1 → IVec S16 32) a x).toNat < S4096.size a)
theorem k0_idx161_inb : ∀ (v88 : IVec S16 32) (k0_hw129 : k0_chk129 v88), ∀ a x, ((![v88] : Fin 1 → IVec S16 32) a x).toNat < S4096.size a := fun v88 k0_hw129 => k0_hw129.1
theorem k0_idx162_inb : ∀ (v88 : IVec S16 32) (k0_hw129 : k0_chk129 v88), ∀ a x, ((![v88] : Fin 1 → IVec S16 32) a x).toNat < S4096.size a := fun v88 k0_hw129 => k0_hw129.2

def k0_chk130 (v104 : IVec S16 32) : Prop :=
  (∀ a x, ((![v104] : Fin 1 → IVec S16 32) a x).toNat < S32768.size a)
theorem k0_idx163_inb : ∀ (v104 : IVec S16 32) (k0_hw130 : k0_chk130 v104), ∀ a x, ((![v104] : Fin 1 → IVec S16 32) a x).toNat < S32768.size a := fun v104 k0_hw130 => k0_hw130
def k0_off88 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_154 : BitVec 32 := 16#32
  let v105 : BitVec 32 := Scalar.muli arg11 c16_i32_154
  let c16_i32_155 : BitVec 32 := 16#32
  let v106 : BitVec 32 := Scalar.muli v105 c16_i32_155
  let c16_i32_156 : BitVec 32 := 16#32
  let v107 : BitVec 32 := Scalar.addi v106 c16_i32_156
  let v108 : Index := Scalar.indexCast v107
  ![v108.toNat]

def k0_chk131 (v116 : IVec S16 32) : Prop :=
  (∀ a x, ((![v116] : Fin 1 → IVec S16 32) a x).toNat < S4096.size a) ∧
  (∀ a x, ((![v116] : Fin 1 → IVec S16 32) a x).toNat < S4096.size a)
theorem k0_idx164_inb : ∀ (v116 : IVec S16 32) (k0_hw131 : k0_chk131 v116), ∀ a x, ((![v116] : Fin 1 → IVec S16 32) a x).toNat < S4096.size a := fun v116 k0_hw131 => k0_hw131.1
theorem k0_idx165_inb : ∀ (v116 : IVec S16 32) (k0_hw131 : k0_chk131 v116), ∀ a x, ((![v116] : Fin 1 → IVec S16 32) a x).toNat < S4096.size a := fun v116 k0_hw131 => k0_hw131.2

def k0_chk132 (v132 : IVec S16 32) : Prop :=
  (∀ a x, ((![v132] : Fin 1 → IVec S16 32) a x).toNat < S32768.size a)
theorem k0_idx166_inb : ∀ (v132 : IVec S16 32) (k0_hw132 : k0_chk132 v132), ∀ a x, ((![v132] : Fin 1 → IVec S16 32) a x).toNat < S32768.size a := fun v132 k0_hw132 => k0_hw132
def k0_off89 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_166 : BitVec 32 := 16#32
  let v133 : BitVec 32 := Scalar.muli arg11 c16_i32_166
  let c16_i32_167 : BitVec 32 := 16#32
  let v134 : BitVec 32 := Scalar.muli v133 c16_i32_167
  let c32_i32 : BitVec 32 := 32#32
  let v135 : BitVec 32 := Scalar.addi v134 c32_i32
  let v136 : Index := Scalar.indexCast v135
  ![v136.toNat]

def k0_chk133 (v144 : IVec S16 32) : Prop :=
  (∀ a x, ((![v144] : Fin 1 → IVec S16 32) a x).toNat < S4096.size a) ∧
  (∀ a x, ((![v144] : Fin 1 → IVec S16 32) a x).toNat < S4096.size a)
theorem k0_idx167_inb : ∀ (v144 : IVec S16 32) (k0_hw133 : k0_chk133 v144), ∀ a x, ((![v144] : Fin 1 → IVec S16 32) a x).toNat < S4096.size a := fun v144 k0_hw133 => k0_hw133.1
theorem k0_idx168_inb : ∀ (v144 : IVec S16 32) (k0_hw133 : k0_chk133 v144), ∀ a x, ((![v144] : Fin 1 → IVec S16 32) a x).toNat < S4096.size a := fun v144 k0_hw133 => k0_hw133.2

def k0_chk134 (v160 : IVec S16 32) : Prop :=
  (∀ a x, ((![v160] : Fin 1 → IVec S16 32) a x).toNat < S32768.size a)
theorem k0_idx169_inb : ∀ (v160 : IVec S16 32) (k0_hw134 : k0_chk134 v160), ∀ a x, ((![v160] : Fin 1 → IVec S16 32) a x).toNat < S32768.size a := fun v160 k0_hw134 => k0_hw134
def k0_off90 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_177 : BitVec 32 := 16#32
  let v161 : BitVec 32 := Scalar.muli arg11 c16_i32_177
  let c16_i32_178 : BitVec 32 := 16#32
  let v162 : BitVec 32 := Scalar.muli v161 c16_i32_178
  let c48_i32 : BitVec 32 := 48#32
  let v163 : BitVec 32 := Scalar.addi v162 c48_i32
  let v164 : Index := Scalar.indexCast v163
  ![v164.toNat]

def k0_chk135 (v172 : IVec S16 32) : Prop :=
  (∀ a x, ((![v172] : Fin 1 → IVec S16 32) a x).toNat < S4096.size a) ∧
  (∀ a x, ((![v172] : Fin 1 → IVec S16 32) a x).toNat < S4096.size a)
theorem k0_idx170_inb : ∀ (v172 : IVec S16 32) (k0_hw135 : k0_chk135 v172), ∀ a x, ((![v172] : Fin 1 → IVec S16 32) a x).toNat < S4096.size a := fun v172 k0_hw135 => k0_hw135.1
theorem k0_idx171_inb : ∀ (v172 : IVec S16 32) (k0_hw135 : k0_chk135 v172), ∀ a x, ((![v172] : Fin 1 → IVec S16 32) a x).toNat < S4096.size a := fun v172 k0_hw135 => k0_hw135.2

def k0_chk136 (v188 : IVec S16 32) : Prop :=
  (∀ a x, ((![v188] : Fin 1 → IVec S16 32) a x).toNat < S32768.size a)
theorem k0_idx172_inb : ∀ (v188 : IVec S16 32) (k0_hw136 : k0_chk136 v188), ∀ a x, ((![v188] : Fin 1 → IVec S16 32) a x).toNat < S32768.size a := fun v188 k0_hw136 => k0_hw136
def k0_off91 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_188 : BitVec 32 := 16#32
  let v189 : BitVec 32 := Scalar.muli arg11 c16_i32_188
  let c16_i32_189 : BitVec 32 := 16#32
  let v190 : BitVec 32 := Scalar.muli v189 c16_i32_189
  let c64_i32 : BitVec 32 := 64#32
  let v191 : BitVec 32 := Scalar.addi v190 c64_i32
  let v192 : Index := Scalar.indexCast v191
  ![v192.toNat]

def k0_chk137 (v200 : IVec S16 32) : Prop :=
  (∀ a x, ((![v200] : Fin 1 → IVec S16 32) a x).toNat < S4096.size a) ∧
  (∀ a x, ((![v200] : Fin 1 → IVec S16 32) a x).toNat < S4096.size a)
theorem k0_idx173_inb : ∀ (v200 : IVec S16 32) (k0_hw137 : k0_chk137 v200), ∀ a x, ((![v200] : Fin 1 → IVec S16 32) a x).toNat < S4096.size a := fun v200 k0_hw137 => k0_hw137.1
theorem k0_idx174_inb : ∀ (v200 : IVec S16 32) (k0_hw137 : k0_chk137 v200), ∀ a x, ((![v200] : Fin 1 → IVec S16 32) a x).toNat < S4096.size a := fun v200 k0_hw137 => k0_hw137.2

def k0_chk138 (v216 : IVec S16 32) : Prop :=
  (∀ a x, ((![v216] : Fin 1 → IVec S16 32) a x).toNat < S32768.size a)
theorem k0_idx175_inb : ∀ (v216 : IVec S16 32) (k0_hw138 : k0_chk138 v216), ∀ a x, ((![v216] : Fin 1 → IVec S16 32) a x).toNat < S32768.size a := fun v216 k0_hw138 => k0_hw138
def k0_off92 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_199 : BitVec 32 := 16#32
  let v217 : BitVec 32 := Scalar.muli arg11 c16_i32_199
  let c16_i32_200 : BitVec 32 := 16#32
  let v218 : BitVec 32 := Scalar.muli v217 c16_i32_200
  let c80_i32 : BitVec 32 := 80#32
  let v219 : BitVec 32 := Scalar.addi v218 c80_i32
  let v220 : Index := Scalar.indexCast v219
  ![v220.toNat]

def k0_chk139 (v228 : IVec S16 32) : Prop :=
  (∀ a x, ((![v228] : Fin 1 → IVec S16 32) a x).toNat < S4096.size a) ∧
  (∀ a x, ((![v228] : Fin 1 → IVec S16 32) a x).toNat < S4096.size a)
theorem k0_idx176_inb : ∀ (v228 : IVec S16 32) (k0_hw139 : k0_chk139 v228), ∀ a x, ((![v228] : Fin 1 → IVec S16 32) a x).toNat < S4096.size a := fun v228 k0_hw139 => k0_hw139.1
theorem k0_idx177_inb : ∀ (v228 : IVec S16 32) (k0_hw139 : k0_chk139 v228), ∀ a x, ((![v228] : Fin 1 → IVec S16 32) a x).toNat < S4096.size a := fun v228 k0_hw139 => k0_hw139.2

def k0_chk140 (v244 : IVec S16 32) : Prop :=
  (∀ a x, ((![v244] : Fin 1 → IVec S16 32) a x).toNat < S32768.size a)
theorem k0_idx178_inb : ∀ (v244 : IVec S16 32) (k0_hw140 : k0_chk140 v244), ∀ a x, ((![v244] : Fin 1 → IVec S16 32) a x).toNat < S32768.size a := fun v244 k0_hw140 => k0_hw140
def k0_off93 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_210 : BitVec 32 := 16#32
  let v245 : BitVec 32 := Scalar.muli arg11 c16_i32_210
  let c16_i32_211 : BitVec 32 := 16#32
  let v246 : BitVec 32 := Scalar.muli v245 c16_i32_211
  let c96_i32 : BitVec 32 := 96#32
  let v247 : BitVec 32 := Scalar.addi v246 c96_i32
  let v248 : Index := Scalar.indexCast v247
  ![v248.toNat]

def k0_chk141 (v256 : IVec S16 32) : Prop :=
  (∀ a x, ((![v256] : Fin 1 → IVec S16 32) a x).toNat < S4096.size a) ∧
  (∀ a x, ((![v256] : Fin 1 → IVec S16 32) a x).toNat < S4096.size a)
theorem k0_idx179_inb : ∀ (v256 : IVec S16 32) (k0_hw141 : k0_chk141 v256), ∀ a x, ((![v256] : Fin 1 → IVec S16 32) a x).toNat < S4096.size a := fun v256 k0_hw141 => k0_hw141.1
theorem k0_idx180_inb : ∀ (v256 : IVec S16 32) (k0_hw141 : k0_chk141 v256), ∀ a x, ((![v256] : Fin 1 → IVec S16 32) a x).toNat < S4096.size a := fun v256 k0_hw141 => k0_hw141.2

def k0_chk142 (v272 : IVec S16 32) : Prop :=
  (∀ a x, ((![v272] : Fin 1 → IVec S16 32) a x).toNat < S32768.size a)
theorem k0_idx181_inb : ∀ (v272 : IVec S16 32) (k0_hw142 : k0_chk142 v272), ∀ a x, ((![v272] : Fin 1 → IVec S16 32) a x).toNat < S32768.size a := fun v272 k0_hw142 => k0_hw142
def k0_off94 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_221 : BitVec 32 := 16#32
  let v273 : BitVec 32 := Scalar.muli arg11 c16_i32_221
  let c16_i32_222 : BitVec 32 := 16#32
  let v274 : BitVec 32 := Scalar.muli v273 c16_i32_222
  let c112_i32 : BitVec 32 := 112#32
  let v275 : BitVec 32 := Scalar.addi v274 c112_i32
  let v276 : Index := Scalar.indexCast v275
  ![v276.toNat]

def k0_chk143 (v284 : IVec S16 32) : Prop :=
  (∀ a x, ((![v284] : Fin 1 → IVec S16 32) a x).toNat < S4096.size a) ∧
  (∀ a x, ((![v284] : Fin 1 → IVec S16 32) a x).toNat < S4096.size a)
theorem k0_idx182_inb : ∀ (v284 : IVec S16 32) (k0_hw143 : k0_chk143 v284), ∀ a x, ((![v284] : Fin 1 → IVec S16 32) a x).toNat < S4096.size a := fun v284 k0_hw143 => k0_hw143.1
theorem k0_idx183_inb : ∀ (v284 : IVec S16 32) (k0_hw143 : k0_chk143 v284), ∀ a x, ((![v284] : Fin 1 → IVec S16 32) a x).toNat < S4096.size a := fun v284 k0_hw143 => k0_hw143.2

def k0_chk144 (v300 : IVec S16 32) : Prop :=
  (∀ a x, ((![v300] : Fin 1 → IVec S16 32) a x).toNat < S32768.size a)
theorem k0_idx184_inb : ∀ (v300 : IVec S16 32) (k0_hw144 : k0_chk144 v300), ∀ a x, ((![v300] : Fin 1 → IVec S16 32) a x).toNat < S32768.size a := fun v300 k0_hw144 => k0_hw144
def k0_off95 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_232 : BitVec 32 := 16#32
  let v301 : BitVec 32 := Scalar.muli arg11 c16_i32_232
  let c16_i32_233 : BitVec 32 := 16#32
  let v302 : BitVec 32 := Scalar.muli v301 c16_i32_233
  let c128_i32_234 : BitVec 32 := 128#32
  let v303 : BitVec 32 := Scalar.addi v302 c128_i32_234
  let v304 : Index := Scalar.indexCast v303
  ![v304.toNat]

def k0_chk145 (v312 : IVec S16 32) : Prop :=
  (∀ a x, ((![v312] : Fin 1 → IVec S16 32) a x).toNat < S4096.size a) ∧
  (∀ a x, ((![v312] : Fin 1 → IVec S16 32) a x).toNat < S4096.size a)
theorem k0_idx185_inb : ∀ (v312 : IVec S16 32) (k0_hw145 : k0_chk145 v312), ∀ a x, ((![v312] : Fin 1 → IVec S16 32) a x).toNat < S4096.size a := fun v312 k0_hw145 => k0_hw145.1
theorem k0_idx186_inb : ∀ (v312 : IVec S16 32) (k0_hw145 : k0_chk145 v312), ∀ a x, ((![v312] : Fin 1 → IVec S16 32) a x).toNat < S4096.size a := fun v312 k0_hw145 => k0_hw145.2

def k0_chk146 (v328 : IVec S16 32) : Prop :=
  (∀ a x, ((![v328] : Fin 1 → IVec S16 32) a x).toNat < S32768.size a)
theorem k0_idx187_inb : ∀ (v328 : IVec S16 32) (k0_hw146 : k0_chk146 v328), ∀ a x, ((![v328] : Fin 1 → IVec S16 32) a x).toNat < S32768.size a := fun v328 k0_hw146 => k0_hw146
def k0_off96 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_244 : BitVec 32 := 16#32
  let v329 : BitVec 32 := Scalar.muli arg11 c16_i32_244
  let c16_i32_245 : BitVec 32 := 16#32
  let v330 : BitVec 32 := Scalar.muli v329 c16_i32_245
  let c144_i32 : BitVec 32 := 144#32
  let v331 : BitVec 32 := Scalar.addi v330 c144_i32
  let v332 : Index := Scalar.indexCast v331
  ![v332.toNat]

def k0_chk147 (v340 : IVec S16 32) : Prop :=
  (∀ a x, ((![v340] : Fin 1 → IVec S16 32) a x).toNat < S4096.size a) ∧
  (∀ a x, ((![v340] : Fin 1 → IVec S16 32) a x).toNat < S4096.size a)
theorem k0_idx188_inb : ∀ (v340 : IVec S16 32) (k0_hw147 : k0_chk147 v340), ∀ a x, ((![v340] : Fin 1 → IVec S16 32) a x).toNat < S4096.size a := fun v340 k0_hw147 => k0_hw147.1
theorem k0_idx189_inb : ∀ (v340 : IVec S16 32) (k0_hw147 : k0_chk147 v340), ∀ a x, ((![v340] : Fin 1 → IVec S16 32) a x).toNat < S4096.size a := fun v340 k0_hw147 => k0_hw147.2

def k0_chk148 (v356 : IVec S16 32) : Prop :=
  (∀ a x, ((![v356] : Fin 1 → IVec S16 32) a x).toNat < S32768.size a)
theorem k0_idx190_inb : ∀ (v356 : IVec S16 32) (k0_hw148 : k0_chk148 v356), ∀ a x, ((![v356] : Fin 1 → IVec S16 32) a x).toNat < S32768.size a := fun v356 k0_hw148 => k0_hw148
def k0_off97 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_255 : BitVec 32 := 16#32
  let v357 : BitVec 32 := Scalar.muli arg11 c16_i32_255
  let c16_i32_256 : BitVec 32 := 16#32
  let v358 : BitVec 32 := Scalar.muli v357 c16_i32_256
  let c160_i32 : BitVec 32 := 160#32
  let v359 : BitVec 32 := Scalar.addi v358 c160_i32
  let v360 : Index := Scalar.indexCast v359
  ![v360.toNat]

def k0_chk149 (v368 : IVec S16 32) : Prop :=
  (∀ a x, ((![v368] : Fin 1 → IVec S16 32) a x).toNat < S4096.size a) ∧
  (∀ a x, ((![v368] : Fin 1 → IVec S16 32) a x).toNat < S4096.size a)
theorem k0_idx191_inb : ∀ (v368 : IVec S16 32) (k0_hw149 : k0_chk149 v368), ∀ a x, ((![v368] : Fin 1 → IVec S16 32) a x).toNat < S4096.size a := fun v368 k0_hw149 => k0_hw149.1
theorem k0_idx192_inb : ∀ (v368 : IVec S16 32) (k0_hw149 : k0_chk149 v368), ∀ a x, ((![v368] : Fin 1 → IVec S16 32) a x).toNat < S4096.size a := fun v368 k0_hw149 => k0_hw149.2

def k0_chk150 (v384 : IVec S16 32) : Prop :=
  (∀ a x, ((![v384] : Fin 1 → IVec S16 32) a x).toNat < S32768.size a)
theorem k0_idx193_inb : ∀ (v384 : IVec S16 32) (k0_hw150 : k0_chk150 v384), ∀ a x, ((![v384] : Fin 1 → IVec S16 32) a x).toNat < S32768.size a := fun v384 k0_hw150 => k0_hw150
def k0_off98 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_266 : BitVec 32 := 16#32
  let v385 : BitVec 32 := Scalar.muli arg11 c16_i32_266
  let c16_i32_267 : BitVec 32 := 16#32
  let v386 : BitVec 32 := Scalar.muli v385 c16_i32_267
  let c176_i32 : BitVec 32 := 176#32
  let v387 : BitVec 32 := Scalar.addi v386 c176_i32
  let v388 : Index := Scalar.indexCast v387
  ![v388.toNat]

def k0_chk151 (v396 : IVec S16 32) : Prop :=
  (∀ a x, ((![v396] : Fin 1 → IVec S16 32) a x).toNat < S4096.size a) ∧
  (∀ a x, ((![v396] : Fin 1 → IVec S16 32) a x).toNat < S4096.size a)
theorem k0_idx194_inb : ∀ (v396 : IVec S16 32) (k0_hw151 : k0_chk151 v396), ∀ a x, ((![v396] : Fin 1 → IVec S16 32) a x).toNat < S4096.size a := fun v396 k0_hw151 => k0_hw151.1
theorem k0_idx195_inb : ∀ (v396 : IVec S16 32) (k0_hw151 : k0_chk151 v396), ∀ a x, ((![v396] : Fin 1 → IVec S16 32) a x).toNat < S4096.size a := fun v396 k0_hw151 => k0_hw151.2

def k0_chk152 (v412 : IVec S16 32) : Prop :=
  (∀ a x, ((![v412] : Fin 1 → IVec S16 32) a x).toNat < S32768.size a)
theorem k0_idx196_inb : ∀ (v412 : IVec S16 32) (k0_hw152 : k0_chk152 v412), ∀ a x, ((![v412] : Fin 1 → IVec S16 32) a x).toNat < S32768.size a := fun v412 k0_hw152 => k0_hw152
def k0_off99 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_277 : BitVec 32 := 16#32
  let v413 : BitVec 32 := Scalar.muli arg11 c16_i32_277
  let c16_i32_278 : BitVec 32 := 16#32
  let v414 : BitVec 32 := Scalar.muli v413 c16_i32_278
  let c192_i32 : BitVec 32 := 192#32
  let v415 : BitVec 32 := Scalar.addi v414 c192_i32
  let v416 : Index := Scalar.indexCast v415
  ![v416.toNat]

def k0_chk153 (v424 : IVec S16 32) : Prop :=
  (∀ a x, ((![v424] : Fin 1 → IVec S16 32) a x).toNat < S4096.size a) ∧
  (∀ a x, ((![v424] : Fin 1 → IVec S16 32) a x).toNat < S4096.size a)
theorem k0_idx197_inb : ∀ (v424 : IVec S16 32) (k0_hw153 : k0_chk153 v424), ∀ a x, ((![v424] : Fin 1 → IVec S16 32) a x).toNat < S4096.size a := fun v424 k0_hw153 => k0_hw153.1
theorem k0_idx198_inb : ∀ (v424 : IVec S16 32) (k0_hw153 : k0_chk153 v424), ∀ a x, ((![v424] : Fin 1 → IVec S16 32) a x).toNat < S4096.size a := fun v424 k0_hw153 => k0_hw153.2

def k0_chk154 (v440 : IVec S16 32) : Prop :=
  (∀ a x, ((![v440] : Fin 1 → IVec S16 32) a x).toNat < S32768.size a)
theorem k0_idx199_inb : ∀ (v440 : IVec S16 32) (k0_hw154 : k0_chk154 v440), ∀ a x, ((![v440] : Fin 1 → IVec S16 32) a x).toNat < S32768.size a := fun v440 k0_hw154 => k0_hw154
def k0_off100 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_288 : BitVec 32 := 16#32
  let v441 : BitVec 32 := Scalar.muli arg11 c16_i32_288
  let c16_i32_289 : BitVec 32 := 16#32
  let v442 : BitVec 32 := Scalar.muli v441 c16_i32_289
  let c208_i32 : BitVec 32 := 208#32
  let v443 : BitVec 32 := Scalar.addi v442 c208_i32
  let v444 : Index := Scalar.indexCast v443
  ![v444.toNat]

def k0_chk155 (v452 : IVec S16 32) : Prop :=
  (∀ a x, ((![v452] : Fin 1 → IVec S16 32) a x).toNat < S4096.size a) ∧
  (∀ a x, ((![v452] : Fin 1 → IVec S16 32) a x).toNat < S4096.size a)
theorem k0_idx200_inb : ∀ (v452 : IVec S16 32) (k0_hw155 : k0_chk155 v452), ∀ a x, ((![v452] : Fin 1 → IVec S16 32) a x).toNat < S4096.size a := fun v452 k0_hw155 => k0_hw155.1
theorem k0_idx201_inb : ∀ (v452 : IVec S16 32) (k0_hw155 : k0_chk155 v452), ∀ a x, ((![v452] : Fin 1 → IVec S16 32) a x).toNat < S4096.size a := fun v452 k0_hw155 => k0_hw155.2

def k0_chk156 (v468 : IVec S16 32) : Prop :=
  (∀ a x, ((![v468] : Fin 1 → IVec S16 32) a x).toNat < S32768.size a)
theorem k0_idx202_inb : ∀ (v468 : IVec S16 32) (k0_hw156 : k0_chk156 v468), ∀ a x, ((![v468] : Fin 1 → IVec S16 32) a x).toNat < S32768.size a := fun v468 k0_hw156 => k0_hw156
def k0_off101 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_299 : BitVec 32 := 16#32
  let v469 : BitVec 32 := Scalar.muli arg11 c16_i32_299
  let c16_i32_300 : BitVec 32 := 16#32
  let v470 : BitVec 32 := Scalar.muli v469 c16_i32_300
  let c224_i32 : BitVec 32 := 224#32
  let v471 : BitVec 32 := Scalar.addi v470 c224_i32
  let v472 : Index := Scalar.indexCast v471
  ![v472.toNat]

def k0_chk157 (v480 : IVec S16 32) : Prop :=
  (∀ a x, ((![v480] : Fin 1 → IVec S16 32) a x).toNat < S4096.size a) ∧
  (∀ a x, ((![v480] : Fin 1 → IVec S16 32) a x).toNat < S4096.size a)
theorem k0_idx203_inb : ∀ (v480 : IVec S16 32) (k0_hw157 : k0_chk157 v480), ∀ a x, ((![v480] : Fin 1 → IVec S16 32) a x).toNat < S4096.size a := fun v480 k0_hw157 => k0_hw157.1
theorem k0_idx204_inb : ∀ (v480 : IVec S16 32) (k0_hw157 : k0_chk157 v480), ∀ a x, ((![v480] : Fin 1 → IVec S16 32) a x).toNat < S4096.size a := fun v480 k0_hw157 => k0_hw157.2

def k0_chk158 (v496 : IVec S16 32) : Prop :=
  (∀ a x, ((![v496] : Fin 1 → IVec S16 32) a x).toNat < S32768.size a)
theorem k0_idx205_inb : ∀ (v496 : IVec S16 32) (k0_hw158 : k0_chk158 v496), ∀ a x, ((![v496] : Fin 1 → IVec S16 32) a x).toNat < S32768.size a := fun v496 k0_hw158 => k0_hw158
def k0_off102 (k0_t10 : Fin k0_t10_loop.trips) : Fin 1 → Nat :=
  let c0_i32_53 : BitVec 32 := 0#32
  let c1_i32_55 : BitVec 32 := 1#32
  let arg11 : BitVec 32 := Scf.iv c0_i32_53 c1_i32_55 k0_t10
  let c16_i32_310 : BitVec 32 := 16#32
  let v497 : BitVec 32 := Scalar.muli arg11 c16_i32_310
  let c16_i32_311 : BitVec 32 := 16#32
  let v498 : BitVec 32 := Scalar.muli v497 c16_i32_311
  let c240_i32 : BitVec 32 := 240#32
  let v499 : BitVec 32 := Scalar.addi v498 c240_i32
  let v500 : Index := Scalar.indexCast v499
  ![v500.toNat]

def k0_chk159 (v508 : IVec S16 32) : Prop :=
  (∀ a x, ((![v508] : Fin 1 → IVec S16 32) a x).toNat < S4096.size a) ∧
  (∀ a x, ((![v508] : Fin 1 → IVec S16 32) a x).toNat < S4096.size a)
theorem k0_idx206_inb : ∀ (v508 : IVec S16 32) (k0_hw159 : k0_chk159 v508), ∀ a x, ((![v508] : Fin 1 → IVec S16 32) a x).toNat < S4096.size a := fun v508 k0_hw159 => k0_hw159.1
theorem k0_idx207_inb : ∀ (v508 : IVec S16 32) (k0_hw159 : k0_chk159 v508), ∀ a x, ((![v508] : Fin 1 → IVec S16 32) a x).toNat < S4096.size a := fun v508 k0_hw159 => k0_hw159.2

def k0_chk160 (v524 : IVec S16 32) : Prop :=
  (∀ a x, ((![v524] : Fin 1 → IVec S16 32) a x).toNat < S32768.size a)
theorem k0_idx208_inb : ∀ (v524 : IVec S16 32) (k0_hw160 : k0_chk160 v524), ∀ a x, ((![v524] : Fin 1 → IVec S16 32) a x).toNat < S32768.size a := fun v524 k0_hw160 => k0_hw160
@[reducible] def k0_t11_loop : Scf.Loop 32 :=
  let c0_i32_58 : BitVec 32 := 0#32
  let c128_i32_59 : BitVec 32 := 128#32
  let v34 : BitVec 32 := Scalar.addi c0_i32_58 c128_i32_59
  let c1_i32_60 : BitVec 32 := 1#32
  ⟨c0_i32_58, v34, c1_i32_60⟩
def k0_off103 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk161 (v88 : IVec S16 32) : Prop :=
  (∀ a x, ((![v88] : Fin 1 → IVec S16 32) a x).toNat < S4096.size a)
theorem k0_idx209_inb : ∀ (v88 : IVec S16 32) (k0_hw161 : k0_chk161 v88), ∀ a x, ((![v88] : Fin 1 → IVec S16 32) a x).toNat < S4096.size a := fun v88 k0_hw161 => k0_hw161
def k0_off104 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_152 : BitVec 32 := 16#32
  let v89 : BitVec 32 := Scalar.muli arg11 c16_i32_152
  let c16_i32_153 : BitVec 32 := 16#32
  let v90 : BitVec 32 := Scalar.muli v89 c16_i32_153
  let c16_i32_154 : BitVec 32 := 16#32
  let v91 : BitVec 32 := Scalar.addi v90 c16_i32_154
  let v92 : Index := Scalar.indexCast v91
  ![v92.toNat]

def k0_chk162 (v100 : IVec S16 32) : Prop :=
  (∀ a x, ((![v100] : Fin 1 → IVec S16 32) a x).toNat < S4096.size a)
theorem k0_idx210_inb : ∀ (v100 : IVec S16 32) (k0_hw162 : k0_chk162 v100), ∀ a x, ((![v100] : Fin 1 → IVec S16 32) a x).toNat < S4096.size a := fun v100 k0_hw162 => k0_hw162
def k0_off105 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_158 : BitVec 32 := 16#32
  let v101 : BitVec 32 := Scalar.muli arg11 c16_i32_158
  let c16_i32_159 : BitVec 32 := 16#32
  let v102 : BitVec 32 := Scalar.muli v101 c16_i32_159
  let c32_i32 : BitVec 32 := 32#32
  let v103 : BitVec 32 := Scalar.addi v102 c32_i32
  let v104 : Index := Scalar.indexCast v103
  ![v104.toNat]

def k0_chk163 (v112 : IVec S16 32) : Prop :=
  (∀ a x, ((![v112] : Fin 1 → IVec S16 32) a x).toNat < S4096.size a)
theorem k0_idx211_inb : ∀ (v112 : IVec S16 32) (k0_hw163 : k0_chk163 v112), ∀ a x, ((![v112] : Fin 1 → IVec S16 32) a x).toNat < S4096.size a := fun v112 k0_hw163 => k0_hw163
def k0_off106 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_163 : BitVec 32 := 16#32
  let v113 : BitVec 32 := Scalar.muli arg11 c16_i32_163
  let c16_i32_164 : BitVec 32 := 16#32
  let v114 : BitVec 32 := Scalar.muli v113 c16_i32_164
  let c48_i32 : BitVec 32 := 48#32
  let v115 : BitVec 32 := Scalar.addi v114 c48_i32
  let v116 : Index := Scalar.indexCast v115
  ![v116.toNat]

def k0_chk164 (v124 : IVec S16 32) : Prop :=
  (∀ a x, ((![v124] : Fin 1 → IVec S16 32) a x).toNat < S4096.size a)
theorem k0_idx212_inb : ∀ (v124 : IVec S16 32) (k0_hw164 : k0_chk164 v124), ∀ a x, ((![v124] : Fin 1 → IVec S16 32) a x).toNat < S4096.size a := fun v124 k0_hw164 => k0_hw164
def k0_off107 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_168 : BitVec 32 := 16#32
  let v125 : BitVec 32 := Scalar.muli arg11 c16_i32_168
  let c16_i32_169 : BitVec 32 := 16#32
  let v126 : BitVec 32 := Scalar.muli v125 c16_i32_169
  let c64_i32 : BitVec 32 := 64#32
  let v127 : BitVec 32 := Scalar.addi v126 c64_i32
  let v128 : Index := Scalar.indexCast v127
  ![v128.toNat]

def k0_chk165 (v136 : IVec S16 32) : Prop :=
  (∀ a x, ((![v136] : Fin 1 → IVec S16 32) a x).toNat < S4096.size a)
theorem k0_idx213_inb : ∀ (v136 : IVec S16 32) (k0_hw165 : k0_chk165 v136), ∀ a x, ((![v136] : Fin 1 → IVec S16 32) a x).toNat < S4096.size a := fun v136 k0_hw165 => k0_hw165
def k0_off108 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_173 : BitVec 32 := 16#32
  let v137 : BitVec 32 := Scalar.muli arg11 c16_i32_173
  let c16_i32_174 : BitVec 32 := 16#32
  let v138 : BitVec 32 := Scalar.muli v137 c16_i32_174
  let c80_i32 : BitVec 32 := 80#32
  let v139 : BitVec 32 := Scalar.addi v138 c80_i32
  let v140 : Index := Scalar.indexCast v139
  ![v140.toNat]

def k0_chk166 (v148 : IVec S16 32) : Prop :=
  (∀ a x, ((![v148] : Fin 1 → IVec S16 32) a x).toNat < S4096.size a)
theorem k0_idx214_inb : ∀ (v148 : IVec S16 32) (k0_hw166 : k0_chk166 v148), ∀ a x, ((![v148] : Fin 1 → IVec S16 32) a x).toNat < S4096.size a := fun v148 k0_hw166 => k0_hw166
def k0_off109 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_178 : BitVec 32 := 16#32
  let v149 : BitVec 32 := Scalar.muli arg11 c16_i32_178
  let c16_i32_179 : BitVec 32 := 16#32
  let v150 : BitVec 32 := Scalar.muli v149 c16_i32_179
  let c96_i32 : BitVec 32 := 96#32
  let v151 : BitVec 32 := Scalar.addi v150 c96_i32
  let v152 : Index := Scalar.indexCast v151
  ![v152.toNat]

def k0_chk167 (v160 : IVec S16 32) : Prop :=
  (∀ a x, ((![v160] : Fin 1 → IVec S16 32) a x).toNat < S4096.size a)
theorem k0_idx215_inb : ∀ (v160 : IVec S16 32) (k0_hw167 : k0_chk167 v160), ∀ a x, ((![v160] : Fin 1 → IVec S16 32) a x).toNat < S4096.size a := fun v160 k0_hw167 => k0_hw167
def k0_off110 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_183 : BitVec 32 := 16#32
  let v161 : BitVec 32 := Scalar.muli arg11 c16_i32_183
  let c16_i32_184 : BitVec 32 := 16#32
  let v162 : BitVec 32 := Scalar.muli v161 c16_i32_184
  let c112_i32 : BitVec 32 := 112#32
  let v163 : BitVec 32 := Scalar.addi v162 c112_i32
  let v164 : Index := Scalar.indexCast v163
  ![v164.toNat]

def k0_chk168 (v172 : IVec S16 32) : Prop :=
  (∀ a x, ((![v172] : Fin 1 → IVec S16 32) a x).toNat < S4096.size a)
theorem k0_idx216_inb : ∀ (v172 : IVec S16 32) (k0_hw168 : k0_chk168 v172), ∀ a x, ((![v172] : Fin 1 → IVec S16 32) a x).toNat < S4096.size a := fun v172 k0_hw168 => k0_hw168
def k0_off111 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_188 : BitVec 32 := 16#32
  let v173 : BitVec 32 := Scalar.muli arg11 c16_i32_188
  let c16_i32_189 : BitVec 32 := 16#32
  let v174 : BitVec 32 := Scalar.muli v173 c16_i32_189
  let c128_i32_190 : BitVec 32 := 128#32
  let v175 : BitVec 32 := Scalar.addi v174 c128_i32_190
  let v176 : Index := Scalar.indexCast v175
  ![v176.toNat]

def k0_chk169 (v184 : IVec S16 32) : Prop :=
  (∀ a x, ((![v184] : Fin 1 → IVec S16 32) a x).toNat < S4096.size a)
theorem k0_idx217_inb : ∀ (v184 : IVec S16 32) (k0_hw169 : k0_chk169 v184), ∀ a x, ((![v184] : Fin 1 → IVec S16 32) a x).toNat < S4096.size a := fun v184 k0_hw169 => k0_hw169
def k0_off112 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_194 : BitVec 32 := 16#32
  let v185 : BitVec 32 := Scalar.muli arg11 c16_i32_194
  let c16_i32_195 : BitVec 32 := 16#32
  let v186 : BitVec 32 := Scalar.muli v185 c16_i32_195
  let c144_i32 : BitVec 32 := 144#32
  let v187 : BitVec 32 := Scalar.addi v186 c144_i32
  let v188 : Index := Scalar.indexCast v187
  ![v188.toNat]

def k0_chk170 (v196 : IVec S16 32) : Prop :=
  (∀ a x, ((![v196] : Fin 1 → IVec S16 32) a x).toNat < S4096.size a)
theorem k0_idx218_inb : ∀ (v196 : IVec S16 32) (k0_hw170 : k0_chk170 v196), ∀ a x, ((![v196] : Fin 1 → IVec S16 32) a x).toNat < S4096.size a := fun v196 k0_hw170 => k0_hw170
def k0_off113 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_199 : BitVec 32 := 16#32
  let v197 : BitVec 32 := Scalar.muli arg11 c16_i32_199
  let c16_i32_200 : BitVec 32 := 16#32
  let v198 : BitVec 32 := Scalar.muli v197 c16_i32_200
  let c160_i32 : BitVec 32 := 160#32
  let v199 : BitVec 32 := Scalar.addi v198 c160_i32
  let v200 : Index := Scalar.indexCast v199
  ![v200.toNat]

def k0_chk171 (v208 : IVec S16 32) : Prop :=
  (∀ a x, ((![v208] : Fin 1 → IVec S16 32) a x).toNat < S4096.size a)
theorem k0_idx219_inb : ∀ (v208 : IVec S16 32) (k0_hw171 : k0_chk171 v208), ∀ a x, ((![v208] : Fin 1 → IVec S16 32) a x).toNat < S4096.size a := fun v208 k0_hw171 => k0_hw171
def k0_off114 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_204 : BitVec 32 := 16#32
  let v209 : BitVec 32 := Scalar.muli arg11 c16_i32_204
  let c16_i32_205 : BitVec 32 := 16#32
  let v210 : BitVec 32 := Scalar.muli v209 c16_i32_205
  let c176_i32 : BitVec 32 := 176#32
  let v211 : BitVec 32 := Scalar.addi v210 c176_i32
  let v212 : Index := Scalar.indexCast v211
  ![v212.toNat]

def k0_chk172 (v220 : IVec S16 32) : Prop :=
  (∀ a x, ((![v220] : Fin 1 → IVec S16 32) a x).toNat < S4096.size a)
theorem k0_idx220_inb : ∀ (v220 : IVec S16 32) (k0_hw172 : k0_chk172 v220), ∀ a x, ((![v220] : Fin 1 → IVec S16 32) a x).toNat < S4096.size a := fun v220 k0_hw172 => k0_hw172
def k0_off115 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_209 : BitVec 32 := 16#32
  let v221 : BitVec 32 := Scalar.muli arg11 c16_i32_209
  let c16_i32_210 : BitVec 32 := 16#32
  let v222 : BitVec 32 := Scalar.muli v221 c16_i32_210
  let c192_i32 : BitVec 32 := 192#32
  let v223 : BitVec 32 := Scalar.addi v222 c192_i32
  let v224 : Index := Scalar.indexCast v223
  ![v224.toNat]

def k0_chk173 (v232 : IVec S16 32) : Prop :=
  (∀ a x, ((![v232] : Fin 1 → IVec S16 32) a x).toNat < S4096.size a)
theorem k0_idx221_inb : ∀ (v232 : IVec S16 32) (k0_hw173 : k0_chk173 v232), ∀ a x, ((![v232] : Fin 1 → IVec S16 32) a x).toNat < S4096.size a := fun v232 k0_hw173 => k0_hw173
def k0_off116 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_214 : BitVec 32 := 16#32
  let v233 : BitVec 32 := Scalar.muli arg11 c16_i32_214
  let c16_i32_215 : BitVec 32 := 16#32
  let v234 : BitVec 32 := Scalar.muli v233 c16_i32_215
  let c208_i32 : BitVec 32 := 208#32
  let v235 : BitVec 32 := Scalar.addi v234 c208_i32
  let v236 : Index := Scalar.indexCast v235
  ![v236.toNat]

def k0_chk174 (v244 : IVec S16 32) : Prop :=
  (∀ a x, ((![v244] : Fin 1 → IVec S16 32) a x).toNat < S4096.size a)
theorem k0_idx222_inb : ∀ (v244 : IVec S16 32) (k0_hw174 : k0_chk174 v244), ∀ a x, ((![v244] : Fin 1 → IVec S16 32) a x).toNat < S4096.size a := fun v244 k0_hw174 => k0_hw174
def k0_off117 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_219 : BitVec 32 := 16#32
  let v245 : BitVec 32 := Scalar.muli arg11 c16_i32_219
  let c16_i32_220 : BitVec 32 := 16#32
  let v246 : BitVec 32 := Scalar.muli v245 c16_i32_220
  let c224_i32 : BitVec 32 := 224#32
  let v247 : BitVec 32 := Scalar.addi v246 c224_i32
  let v248 : Index := Scalar.indexCast v247
  ![v248.toNat]

def k0_chk175 (v256 : IVec S16 32) : Prop :=
  (∀ a x, ((![v256] : Fin 1 → IVec S16 32) a x).toNat < S4096.size a)
theorem k0_idx223_inb : ∀ (v256 : IVec S16 32) (k0_hw175 : k0_chk175 v256), ∀ a x, ((![v256] : Fin 1 → IVec S16 32) a x).toNat < S4096.size a := fun v256 k0_hw175 => k0_hw175
def k0_off118 (k0_t11 : Fin k0_t11_loop.trips) : Fin 1 → Nat :=
  let c0_i32_58 : BitVec 32 := 0#32
  let c1_i32_60 : BitVec 32 := 1#32
  let arg11 : BitVec 32 := Scf.iv c0_i32_58 c1_i32_60 k0_t11
  let c16_i32_224 : BitVec 32 := 16#32
  let v257 : BitVec 32 := Scalar.muli arg11 c16_i32_224
  let c16_i32_225 : BitVec 32 := 16#32
  let v258 : BitVec 32 := Scalar.muli v257 c16_i32_225
  let c240_i32 : BitVec 32 := 240#32
  let v259 : BitVec 32 := Scalar.addi v258 c240_i32
  let v260 : Index := Scalar.indexCast v259
  ![v260.toNat]

def k0_chk176 (v268 : IVec S16 32) : Prop :=
  (∀ a x, ((![v268] : Fin 1 → IVec S16 32) a x).toNat < S4096.size a)
theorem k0_idx224_inb : ∀ (v268 : IVec S16 32) (k0_hw176 : k0_chk176 v268), ∀ a x, ((![v268] : Fin 1 → IVec S16 32) a x).toNat < S4096.size a := fun v268 k0_hw176 => k0_hw176
@[reducible] def k0_t12_loop : Scf.Loop 32 :=
  let c0_i32_63 : BitVec 32 := 0#32
  let c256_i32_64 : BitVec 32 := 256#32
  let v35 : BitVec 32 := Scalar.addi c0_i32_63 c256_i32_64
  let c1_i32_65 : BitVec 32 := 1#32
  ⟨c0_i32_63, v35, c1_i32_65⟩
def k0_off119 (k0_t12 : Fin k0_t12_loop.trips) : Fin 1 → Nat :=
  let c0_i32_63 : BitVec 32 := 0#32
  let c1_i32_65 : BitVec 32 := 1#32
  let arg11 : BitVec 32 := Scf.iv c0_i32_63 c1_i32_65 k0_t12
  let c16_i32_149 : BitVec 32 := 16#32
  let v77 : BitVec 32 := Scalar.muli arg11 c16_i32_149
  let v78 : Index := Scalar.indexCast v77
  ![v78.toNat]
@[reducible] def k0_t13_loop : Scf.Loop 32 :=
  let c0_i32_68 : BitVec 32 := 0#32
  let c128_i32_69 : BitVec 32 := 128#32
  let v37 : BitVec 32 := Scalar.addi c0_i32_68 c128_i32_69
  let c1_i32_70 : BitVec 32 := 1#32
  ⟨c0_i32_68, v37, c1_i32_70⟩
def k0_off120 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk177 (v88 : IVec S16 32) : Prop :=
  (∀ a x, ((![v88] : Fin 1 → IVec S16 32) a x).toNat < S4096.size a) ∧
  (∀ a x, ((![v88] : Fin 1 → IVec S16 32) a x).toNat < S4096.size a)
theorem k0_idx225_inb : ∀ (v88 : IVec S16 32) (k0_hw177 : k0_chk177 v88), ∀ a x, ((![v88] : Fin 1 → IVec S16 32) a x).toNat < S4096.size a := fun v88 k0_hw177 => k0_hw177.1
theorem k0_idx226_inb : ∀ (v88 : IVec S16 32) (k0_hw177 : k0_chk177 v88), ∀ a x, ((![v88] : Fin 1 → IVec S16 32) a x).toNat < S4096.size a := fun v88 k0_hw177 => k0_hw177.2

def k0_chk178 (v89 : IVec S16 32) : Prop :=
  (∀ a x, ((![v89] : Fin 1 → IVec S16 32) a x).toNat < S32768.size a)
theorem k0_idx227_inb : ∀ (v89 : IVec S16 32) (k0_hw178 : k0_chk178 v89), ∀ a x, ((![v89] : Fin 1 → IVec S16 32) a x).toNat < S32768.size a := fun v89 k0_hw178 => k0_hw178
def k0_off121 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_154 : BitVec 32 := 16#32
  let v100 : BitVec 32 := Scalar.muli arg11 c16_i32_154
  let c16_i32_155 : BitVec 32 := 16#32
  let v101 : BitVec 32 := Scalar.muli v100 c16_i32_155
  let c16_i32_156 : BitVec 32 := 16#32
  let v102 : BitVec 32 := Scalar.addi v101 c16_i32_156
  let v103 : Index := Scalar.indexCast v102
  ![v103.toNat]

def k0_chk179 (v111 : IVec S16 32) : Prop :=
  (∀ a x, ((![v111] : Fin 1 → IVec S16 32) a x).toNat < S4096.size a) ∧
  (∀ a x, ((![v111] : Fin 1 → IVec S16 32) a x).toNat < S4096.size a)
theorem k0_idx228_inb : ∀ (v111 : IVec S16 32) (k0_hw179 : k0_chk179 v111), ∀ a x, ((![v111] : Fin 1 → IVec S16 32) a x).toNat < S4096.size a := fun v111 k0_hw179 => k0_hw179.1
theorem k0_idx229_inb : ∀ (v111 : IVec S16 32) (k0_hw179 : k0_chk179 v111), ∀ a x, ((![v111] : Fin 1 → IVec S16 32) a x).toNat < S4096.size a := fun v111 k0_hw179 => k0_hw179.2

def k0_chk180 (v112 : IVec S16 32) : Prop :=
  (∀ a x, ((![v112] : Fin 1 → IVec S16 32) a x).toNat < S32768.size a)
theorem k0_idx230_inb : ∀ (v112 : IVec S16 32) (k0_hw180 : k0_chk180 v112), ∀ a x, ((![v112] : Fin 1 → IVec S16 32) a x).toNat < S32768.size a := fun v112 k0_hw180 => k0_hw180
def k0_off122 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_164 : BitVec 32 := 16#32
  let v123 : BitVec 32 := Scalar.muli arg11 c16_i32_164
  let c16_i32_165 : BitVec 32 := 16#32
  let v124 : BitVec 32 := Scalar.muli v123 c16_i32_165
  let c32_i32 : BitVec 32 := 32#32
  let v125 : BitVec 32 := Scalar.addi v124 c32_i32
  let v126 : Index := Scalar.indexCast v125
  ![v126.toNat]

def k0_chk181 (v134 : IVec S16 32) : Prop :=
  (∀ a x, ((![v134] : Fin 1 → IVec S16 32) a x).toNat < S4096.size a) ∧
  (∀ a x, ((![v134] : Fin 1 → IVec S16 32) a x).toNat < S4096.size a)
theorem k0_idx231_inb : ∀ (v134 : IVec S16 32) (k0_hw181 : k0_chk181 v134), ∀ a x, ((![v134] : Fin 1 → IVec S16 32) a x).toNat < S4096.size a := fun v134 k0_hw181 => k0_hw181.1
theorem k0_idx232_inb : ∀ (v134 : IVec S16 32) (k0_hw181 : k0_chk181 v134), ∀ a x, ((![v134] : Fin 1 → IVec S16 32) a x).toNat < S4096.size a := fun v134 k0_hw181 => k0_hw181.2

def k0_chk182 (v135 : IVec S16 32) : Prop :=
  (∀ a x, ((![v135] : Fin 1 → IVec S16 32) a x).toNat < S32768.size a)
theorem k0_idx233_inb : ∀ (v135 : IVec S16 32) (k0_hw182 : k0_chk182 v135), ∀ a x, ((![v135] : Fin 1 → IVec S16 32) a x).toNat < S32768.size a := fun v135 k0_hw182 => k0_hw182
def k0_off123 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_173 : BitVec 32 := 16#32
  let v146 : BitVec 32 := Scalar.muli arg11 c16_i32_173
  let c16_i32_174 : BitVec 32 := 16#32
  let v147 : BitVec 32 := Scalar.muli v146 c16_i32_174
  let c48_i32 : BitVec 32 := 48#32
  let v148 : BitVec 32 := Scalar.addi v147 c48_i32
  let v149 : Index := Scalar.indexCast v148
  ![v149.toNat]

def k0_chk183 (v157 : IVec S16 32) : Prop :=
  (∀ a x, ((![v157] : Fin 1 → IVec S16 32) a x).toNat < S4096.size a) ∧
  (∀ a x, ((![v157] : Fin 1 → IVec S16 32) a x).toNat < S4096.size a)
theorem k0_idx234_inb : ∀ (v157 : IVec S16 32) (k0_hw183 : k0_chk183 v157), ∀ a x, ((![v157] : Fin 1 → IVec S16 32) a x).toNat < S4096.size a := fun v157 k0_hw183 => k0_hw183.1
theorem k0_idx235_inb : ∀ (v157 : IVec S16 32) (k0_hw183 : k0_chk183 v157), ∀ a x, ((![v157] : Fin 1 → IVec S16 32) a x).toNat < S4096.size a := fun v157 k0_hw183 => k0_hw183.2

def k0_chk184 (v158 : IVec S16 32) : Prop :=
  (∀ a x, ((![v158] : Fin 1 → IVec S16 32) a x).toNat < S32768.size a)
theorem k0_idx236_inb : ∀ (v158 : IVec S16 32) (k0_hw184 : k0_chk184 v158), ∀ a x, ((![v158] : Fin 1 → IVec S16 32) a x).toNat < S32768.size a := fun v158 k0_hw184 => k0_hw184
def k0_off124 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_182 : BitVec 32 := 16#32
  let v169 : BitVec 32 := Scalar.muli arg11 c16_i32_182
  let c16_i32_183 : BitVec 32 := 16#32
  let v170 : BitVec 32 := Scalar.muli v169 c16_i32_183
  let c64_i32 : BitVec 32 := 64#32
  let v171 : BitVec 32 := Scalar.addi v170 c64_i32
  let v172 : Index := Scalar.indexCast v171
  ![v172.toNat]

def k0_chk185 (v180 : IVec S16 32) : Prop :=
  (∀ a x, ((![v180] : Fin 1 → IVec S16 32) a x).toNat < S4096.size a) ∧
  (∀ a x, ((![v180] : Fin 1 → IVec S16 32) a x).toNat < S4096.size a)
theorem k0_idx237_inb : ∀ (v180 : IVec S16 32) (k0_hw185 : k0_chk185 v180), ∀ a x, ((![v180] : Fin 1 → IVec S16 32) a x).toNat < S4096.size a := fun v180 k0_hw185 => k0_hw185.1
theorem k0_idx238_inb : ∀ (v180 : IVec S16 32) (k0_hw185 : k0_chk185 v180), ∀ a x, ((![v180] : Fin 1 → IVec S16 32) a x).toNat < S4096.size a := fun v180 k0_hw185 => k0_hw185.2

def k0_chk186 (v181 : IVec S16 32) : Prop :=
  (∀ a x, ((![v181] : Fin 1 → IVec S16 32) a x).toNat < S32768.size a)
theorem k0_idx239_inb : ∀ (v181 : IVec S16 32) (k0_hw186 : k0_chk186 v181), ∀ a x, ((![v181] : Fin 1 → IVec S16 32) a x).toNat < S32768.size a := fun v181 k0_hw186 => k0_hw186
def k0_off125 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_191 : BitVec 32 := 16#32
  let v192 : BitVec 32 := Scalar.muli arg11 c16_i32_191
  let c16_i32_192 : BitVec 32 := 16#32
  let v193 : BitVec 32 := Scalar.muli v192 c16_i32_192
  let c80_i32 : BitVec 32 := 80#32
  let v194 : BitVec 32 := Scalar.addi v193 c80_i32
  let v195 : Index := Scalar.indexCast v194
  ![v195.toNat]

def k0_chk187 (v203 : IVec S16 32) : Prop :=
  (∀ a x, ((![v203] : Fin 1 → IVec S16 32) a x).toNat < S4096.size a) ∧
  (∀ a x, ((![v203] : Fin 1 → IVec S16 32) a x).toNat < S4096.size a)
theorem k0_idx240_inb : ∀ (v203 : IVec S16 32) (k0_hw187 : k0_chk187 v203), ∀ a x, ((![v203] : Fin 1 → IVec S16 32) a x).toNat < S4096.size a := fun v203 k0_hw187 => k0_hw187.1
theorem k0_idx241_inb : ∀ (v203 : IVec S16 32) (k0_hw187 : k0_chk187 v203), ∀ a x, ((![v203] : Fin 1 → IVec S16 32) a x).toNat < S4096.size a := fun v203 k0_hw187 => k0_hw187.2

def k0_chk188 (v204 : IVec S16 32) : Prop :=
  (∀ a x, ((![v204] : Fin 1 → IVec S16 32) a x).toNat < S32768.size a)
theorem k0_idx242_inb : ∀ (v204 : IVec S16 32) (k0_hw188 : k0_chk188 v204), ∀ a x, ((![v204] : Fin 1 → IVec S16 32) a x).toNat < S32768.size a := fun v204 k0_hw188 => k0_hw188
def k0_off126 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_200 : BitVec 32 := 16#32
  let v215 : BitVec 32 := Scalar.muli arg11 c16_i32_200
  let c16_i32_201 : BitVec 32 := 16#32
  let v216 : BitVec 32 := Scalar.muli v215 c16_i32_201
  let c96_i32 : BitVec 32 := 96#32
  let v217 : BitVec 32 := Scalar.addi v216 c96_i32
  let v218 : Index := Scalar.indexCast v217
  ![v218.toNat]

def k0_chk189 (v226 : IVec S16 32) : Prop :=
  (∀ a x, ((![v226] : Fin 1 → IVec S16 32) a x).toNat < S4096.size a) ∧
  (∀ a x, ((![v226] : Fin 1 → IVec S16 32) a x).toNat < S4096.size a)
theorem k0_idx243_inb : ∀ (v226 : IVec S16 32) (k0_hw189 : k0_chk189 v226), ∀ a x, ((![v226] : Fin 1 → IVec S16 32) a x).toNat < S4096.size a := fun v226 k0_hw189 => k0_hw189.1
theorem k0_idx244_inb : ∀ (v226 : IVec S16 32) (k0_hw189 : k0_chk189 v226), ∀ a x, ((![v226] : Fin 1 → IVec S16 32) a x).toNat < S4096.size a := fun v226 k0_hw189 => k0_hw189.2

def k0_chk190 (v227 : IVec S16 32) : Prop :=
  (∀ a x, ((![v227] : Fin 1 → IVec S16 32) a x).toNat < S32768.size a)
theorem k0_idx245_inb : ∀ (v227 : IVec S16 32) (k0_hw190 : k0_chk190 v227), ∀ a x, ((![v227] : Fin 1 → IVec S16 32) a x).toNat < S32768.size a := fun v227 k0_hw190 => k0_hw190
def k0_off127 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_209 : BitVec 32 := 16#32
  let v238 : BitVec 32 := Scalar.muli arg11 c16_i32_209
  let c16_i32_210 : BitVec 32 := 16#32
  let v239 : BitVec 32 := Scalar.muli v238 c16_i32_210
  let c112_i32 : BitVec 32 := 112#32
  let v240 : BitVec 32 := Scalar.addi v239 c112_i32
  let v241 : Index := Scalar.indexCast v240
  ![v241.toNat]

def k0_chk191 (v249 : IVec S16 32) : Prop :=
  (∀ a x, ((![v249] : Fin 1 → IVec S16 32) a x).toNat < S4096.size a) ∧
  (∀ a x, ((![v249] : Fin 1 → IVec S16 32) a x).toNat < S4096.size a)
theorem k0_idx246_inb : ∀ (v249 : IVec S16 32) (k0_hw191 : k0_chk191 v249), ∀ a x, ((![v249] : Fin 1 → IVec S16 32) a x).toNat < S4096.size a := fun v249 k0_hw191 => k0_hw191.1
theorem k0_idx247_inb : ∀ (v249 : IVec S16 32) (k0_hw191 : k0_chk191 v249), ∀ a x, ((![v249] : Fin 1 → IVec S16 32) a x).toNat < S4096.size a := fun v249 k0_hw191 => k0_hw191.2

def k0_chk192 (v250 : IVec S16 32) : Prop :=
  (∀ a x, ((![v250] : Fin 1 → IVec S16 32) a x).toNat < S32768.size a)
theorem k0_idx248_inb : ∀ (v250 : IVec S16 32) (k0_hw192 : k0_chk192 v250), ∀ a x, ((![v250] : Fin 1 → IVec S16 32) a x).toNat < S32768.size a := fun v250 k0_hw192 => k0_hw192
def k0_off128 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_218 : BitVec 32 := 16#32
  let v261 : BitVec 32 := Scalar.muli arg11 c16_i32_218
  let c16_i32_219 : BitVec 32 := 16#32
  let v262 : BitVec 32 := Scalar.muli v261 c16_i32_219
  let c128_i32_220 : BitVec 32 := 128#32
  let v263 : BitVec 32 := Scalar.addi v262 c128_i32_220
  let v264 : Index := Scalar.indexCast v263
  ![v264.toNat]

def k0_chk193 (v272 : IVec S16 32) : Prop :=
  (∀ a x, ((![v272] : Fin 1 → IVec S16 32) a x).toNat < S4096.size a) ∧
  (∀ a x, ((![v272] : Fin 1 → IVec S16 32) a x).toNat < S4096.size a)
theorem k0_idx249_inb : ∀ (v272 : IVec S16 32) (k0_hw193 : k0_chk193 v272), ∀ a x, ((![v272] : Fin 1 → IVec S16 32) a x).toNat < S4096.size a := fun v272 k0_hw193 => k0_hw193.1
theorem k0_idx250_inb : ∀ (v272 : IVec S16 32) (k0_hw193 : k0_chk193 v272), ∀ a x, ((![v272] : Fin 1 → IVec S16 32) a x).toNat < S4096.size a := fun v272 k0_hw193 => k0_hw193.2

def k0_chk194 (v273 : IVec S16 32) : Prop :=
  (∀ a x, ((![v273] : Fin 1 → IVec S16 32) a x).toNat < S32768.size a)
theorem k0_idx251_inb : ∀ (v273 : IVec S16 32) (k0_hw194 : k0_chk194 v273), ∀ a x, ((![v273] : Fin 1 → IVec S16 32) a x).toNat < S32768.size a := fun v273 k0_hw194 => k0_hw194
def k0_off129 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_228 : BitVec 32 := 16#32
  let v284 : BitVec 32 := Scalar.muli arg11 c16_i32_228
  let c16_i32_229 : BitVec 32 := 16#32
  let v285 : BitVec 32 := Scalar.muli v284 c16_i32_229
  let c144_i32 : BitVec 32 := 144#32
  let v286 : BitVec 32 := Scalar.addi v285 c144_i32
  let v287 : Index := Scalar.indexCast v286
  ![v287.toNat]

def k0_chk195 (v295 : IVec S16 32) : Prop :=
  (∀ a x, ((![v295] : Fin 1 → IVec S16 32) a x).toNat < S4096.size a) ∧
  (∀ a x, ((![v295] : Fin 1 → IVec S16 32) a x).toNat < S4096.size a)
theorem k0_idx252_inb : ∀ (v295 : IVec S16 32) (k0_hw195 : k0_chk195 v295), ∀ a x, ((![v295] : Fin 1 → IVec S16 32) a x).toNat < S4096.size a := fun v295 k0_hw195 => k0_hw195.1
theorem k0_idx253_inb : ∀ (v295 : IVec S16 32) (k0_hw195 : k0_chk195 v295), ∀ a x, ((![v295] : Fin 1 → IVec S16 32) a x).toNat < S4096.size a := fun v295 k0_hw195 => k0_hw195.2

def k0_chk196 (v296 : IVec S16 32) : Prop :=
  (∀ a x, ((![v296] : Fin 1 → IVec S16 32) a x).toNat < S32768.size a)
theorem k0_idx254_inb : ∀ (v296 : IVec S16 32) (k0_hw196 : k0_chk196 v296), ∀ a x, ((![v296] : Fin 1 → IVec S16 32) a x).toNat < S32768.size a := fun v296 k0_hw196 => k0_hw196
def k0_off130 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_237 : BitVec 32 := 16#32
  let v307 : BitVec 32 := Scalar.muli arg11 c16_i32_237
  let c16_i32_238 : BitVec 32 := 16#32
  let v308 : BitVec 32 := Scalar.muli v307 c16_i32_238
  let c160_i32 : BitVec 32 := 160#32
  let v309 : BitVec 32 := Scalar.addi v308 c160_i32
  let v310 : Index := Scalar.indexCast v309
  ![v310.toNat]

def k0_chk197 (v318 : IVec S16 32) : Prop :=
  (∀ a x, ((![v318] : Fin 1 → IVec S16 32) a x).toNat < S4096.size a) ∧
  (∀ a x, ((![v318] : Fin 1 → IVec S16 32) a x).toNat < S4096.size a)
theorem k0_idx255_inb : ∀ (v318 : IVec S16 32) (k0_hw197 : k0_chk197 v318), ∀ a x, ((![v318] : Fin 1 → IVec S16 32) a x).toNat < S4096.size a := fun v318 k0_hw197 => k0_hw197.1
theorem k0_idx256_inb : ∀ (v318 : IVec S16 32) (k0_hw197 : k0_chk197 v318), ∀ a x, ((![v318] : Fin 1 → IVec S16 32) a x).toNat < S4096.size a := fun v318 k0_hw197 => k0_hw197.2

def k0_chk198 (v319 : IVec S16 32) : Prop :=
  (∀ a x, ((![v319] : Fin 1 → IVec S16 32) a x).toNat < S32768.size a)
theorem k0_idx257_inb : ∀ (v319 : IVec S16 32) (k0_hw198 : k0_chk198 v319), ∀ a x, ((![v319] : Fin 1 → IVec S16 32) a x).toNat < S32768.size a := fun v319 k0_hw198 => k0_hw198
def k0_off131 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_246 : BitVec 32 := 16#32
  let v330 : BitVec 32 := Scalar.muli arg11 c16_i32_246
  let c16_i32_247 : BitVec 32 := 16#32
  let v331 : BitVec 32 := Scalar.muli v330 c16_i32_247
  let c176_i32 : BitVec 32 := 176#32
  let v332 : BitVec 32 := Scalar.addi v331 c176_i32
  let v333 : Index := Scalar.indexCast v332
  ![v333.toNat]

def k0_chk199 (v341 : IVec S16 32) : Prop :=
  (∀ a x, ((![v341] : Fin 1 → IVec S16 32) a x).toNat < S4096.size a) ∧
  (∀ a x, ((![v341] : Fin 1 → IVec S16 32) a x).toNat < S4096.size a)
theorem k0_idx258_inb : ∀ (v341 : IVec S16 32) (k0_hw199 : k0_chk199 v341), ∀ a x, ((![v341] : Fin 1 → IVec S16 32) a x).toNat < S4096.size a := fun v341 k0_hw199 => k0_hw199.1
theorem k0_idx259_inb : ∀ (v341 : IVec S16 32) (k0_hw199 : k0_chk199 v341), ∀ a x, ((![v341] : Fin 1 → IVec S16 32) a x).toNat < S4096.size a := fun v341 k0_hw199 => k0_hw199.2

def k0_chk200 (v342 : IVec S16 32) : Prop :=
  (∀ a x, ((![v342] : Fin 1 → IVec S16 32) a x).toNat < S32768.size a)
theorem k0_idx260_inb : ∀ (v342 : IVec S16 32) (k0_hw200 : k0_chk200 v342), ∀ a x, ((![v342] : Fin 1 → IVec S16 32) a x).toNat < S32768.size a := fun v342 k0_hw200 => k0_hw200
def k0_off132 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_255 : BitVec 32 := 16#32
  let v353 : BitVec 32 := Scalar.muli arg11 c16_i32_255
  let c16_i32_256 : BitVec 32 := 16#32
  let v354 : BitVec 32 := Scalar.muli v353 c16_i32_256
  let c192_i32 : BitVec 32 := 192#32
  let v355 : BitVec 32 := Scalar.addi v354 c192_i32
  let v356 : Index := Scalar.indexCast v355
  ![v356.toNat]

def k0_chk201 (v364 : IVec S16 32) : Prop :=
  (∀ a x, ((![v364] : Fin 1 → IVec S16 32) a x).toNat < S4096.size a) ∧
  (∀ a x, ((![v364] : Fin 1 → IVec S16 32) a x).toNat < S4096.size a)
theorem k0_idx261_inb : ∀ (v364 : IVec S16 32) (k0_hw201 : k0_chk201 v364), ∀ a x, ((![v364] : Fin 1 → IVec S16 32) a x).toNat < S4096.size a := fun v364 k0_hw201 => k0_hw201.1
theorem k0_idx262_inb : ∀ (v364 : IVec S16 32) (k0_hw201 : k0_chk201 v364), ∀ a x, ((![v364] : Fin 1 → IVec S16 32) a x).toNat < S4096.size a := fun v364 k0_hw201 => k0_hw201.2

def k0_chk202 (v365 : IVec S16 32) : Prop :=
  (∀ a x, ((![v365] : Fin 1 → IVec S16 32) a x).toNat < S32768.size a)
theorem k0_idx263_inb : ∀ (v365 : IVec S16 32) (k0_hw202 : k0_chk202 v365), ∀ a x, ((![v365] : Fin 1 → IVec S16 32) a x).toNat < S32768.size a := fun v365 k0_hw202 => k0_hw202
def k0_off133 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_264 : BitVec 32 := 16#32
  let v376 : BitVec 32 := Scalar.muli arg11 c16_i32_264
  let c16_i32_265 : BitVec 32 := 16#32
  let v377 : BitVec 32 := Scalar.muli v376 c16_i32_265
  let c208_i32 : BitVec 32 := 208#32
  let v378 : BitVec 32 := Scalar.addi v377 c208_i32
  let v379 : Index := Scalar.indexCast v378
  ![v379.toNat]

def k0_chk203 (v387 : IVec S16 32) : Prop :=
  (∀ a x, ((![v387] : Fin 1 → IVec S16 32) a x).toNat < S4096.size a) ∧
  (∀ a x, ((![v387] : Fin 1 → IVec S16 32) a x).toNat < S4096.size a)
theorem k0_idx264_inb : ∀ (v387 : IVec S16 32) (k0_hw203 : k0_chk203 v387), ∀ a x, ((![v387] : Fin 1 → IVec S16 32) a x).toNat < S4096.size a := fun v387 k0_hw203 => k0_hw203.1
theorem k0_idx265_inb : ∀ (v387 : IVec S16 32) (k0_hw203 : k0_chk203 v387), ∀ a x, ((![v387] : Fin 1 → IVec S16 32) a x).toNat < S4096.size a := fun v387 k0_hw203 => k0_hw203.2

def k0_chk204 (v388 : IVec S16 32) : Prop :=
  (∀ a x, ((![v388] : Fin 1 → IVec S16 32) a x).toNat < S32768.size a)
theorem k0_idx266_inb : ∀ (v388 : IVec S16 32) (k0_hw204 : k0_chk204 v388), ∀ a x, ((![v388] : Fin 1 → IVec S16 32) a x).toNat < S32768.size a := fun v388 k0_hw204 => k0_hw204
def k0_off134 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_273 : BitVec 32 := 16#32
  let v399 : BitVec 32 := Scalar.muli arg11 c16_i32_273
  let c16_i32_274 : BitVec 32 := 16#32
  let v400 : BitVec 32 := Scalar.muli v399 c16_i32_274
  let c224_i32 : BitVec 32 := 224#32
  let v401 : BitVec 32 := Scalar.addi v400 c224_i32
  let v402 : Index := Scalar.indexCast v401
  ![v402.toNat]

def k0_chk205 (v410 : IVec S16 32) : Prop :=
  (∀ a x, ((![v410] : Fin 1 → IVec S16 32) a x).toNat < S4096.size a) ∧
  (∀ a x, ((![v410] : Fin 1 → IVec S16 32) a x).toNat < S4096.size a)
theorem k0_idx267_inb : ∀ (v410 : IVec S16 32) (k0_hw205 : k0_chk205 v410), ∀ a x, ((![v410] : Fin 1 → IVec S16 32) a x).toNat < S4096.size a := fun v410 k0_hw205 => k0_hw205.1
theorem k0_idx268_inb : ∀ (v410 : IVec S16 32) (k0_hw205 : k0_chk205 v410), ∀ a x, ((![v410] : Fin 1 → IVec S16 32) a x).toNat < S4096.size a := fun v410 k0_hw205 => k0_hw205.2

def k0_chk206 (v411 : IVec S16 32) : Prop :=
  (∀ a x, ((![v411] : Fin 1 → IVec S16 32) a x).toNat < S32768.size a)
theorem k0_idx269_inb : ∀ (v411 : IVec S16 32) (k0_hw206 : k0_chk206 v411), ∀ a x, ((![v411] : Fin 1 → IVec S16 32) a x).toNat < S32768.size a := fun v411 k0_hw206 => k0_hw206
def k0_off135 (k0_t13 : Fin k0_t13_loop.trips) : Fin 1 → Nat :=
  let c0_i32_68 : BitVec 32 := 0#32
  let c1_i32_70 : BitVec 32 := 1#32
  let arg11 : BitVec 32 := Scf.iv c0_i32_68 c1_i32_70 k0_t13
  let c16_i32_282 : BitVec 32 := 16#32
  let v422 : BitVec 32 := Scalar.muli arg11 c16_i32_282
  let c16_i32_283 : BitVec 32 := 16#32
  let v423 : BitVec 32 := Scalar.muli v422 c16_i32_283
  let c240_i32 : BitVec 32 := 240#32
  let v424 : BitVec 32 := Scalar.addi v423 c240_i32
  let v425 : Index := Scalar.indexCast v424
  ![v425.toNat]

def k0_chk207 (v433 : IVec S16 32) : Prop :=
  (∀ a x, ((![v433] : Fin 1 → IVec S16 32) a x).toNat < S4096.size a) ∧
  (∀ a x, ((![v433] : Fin 1 → IVec S16 32) a x).toNat < S4096.size a)
theorem k0_idx270_inb : ∀ (v433 : IVec S16 32) (k0_hw207 : k0_chk207 v433), ∀ a x, ((![v433] : Fin 1 → IVec S16 32) a x).toNat < S4096.size a := fun v433 k0_hw207 => k0_hw207.1
theorem k0_idx271_inb : ∀ (v433 : IVec S16 32) (k0_hw207 : k0_chk207 v433), ∀ a x, ((![v433] : Fin 1 → IVec S16 32) a x).toNat < S4096.size a := fun v433 k0_hw207 => k0_hw207.2

def k0_chk208 (v434 : IVec S16 32) : Prop :=
  (∀ a x, ((![v434] : Fin 1 → IVec S16 32) a x).toNat < S32768.size a)
theorem k0_idx272_inb : ∀ (v434 : IVec S16 32) (k0_hw208 : k0_chk208 v434), ∀ a x, ((![v434] : Fin 1 → IVec S16 32) a x).toNat < S32768.size a := fun v434 k0_hw208 => k0_hw208
@[reducible] def k0_t14_loop : Scf.Loop 32 :=
  let c0_i32_73 : BitVec 32 := 0#32
  let c16_i32_74 : BitVec 32 := 16#32
  let v38 : BitVec 32 := Scalar.addi c0_i32_73 c16_i32_74
  let c1_i32_75 : BitVec 32 := 1#32
  ⟨c0_i32_73, v38, c1_i32_75⟩
def k0_off136 (k0_t14 : Fin k0_t14_loop.trips) (c0_i32_151 : BitVec 32) : Fin 1 → Nat :=
  let c0_i32_73 : BitVec 32 := 0#32
  let c1_i32_75 : BitVec 32 := 1#32
  let arg11 : BitVec 32 := Scf.iv c0_i32_73 c1_i32_75 k0_t14
  let c16_i32_149 : BitVec 32 := 16#32
  let v77 : BitVec 32 := Scalar.muli arg11 c16_i32_149
  let c16_i32_150 : BitVec 32 := 16#32
  let v78 : BitVec 32 := Scalar.muli v77 c16_i32_150
  let v79 : BitVec 32 := Scalar.addi v78 c0_i32_151
  let v80 : Index := Scalar.indexCast v79
  ![v80.toNat]
def k0_off137 (i : grid0.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let v11 : BitVec 32 := Scalar.muli v1 c2_i32_7
  let v12 : BitVec 32 := Scalar.addi v11 c0_i32_8
  let c0_i32_77 : BitVec 32 := 0#32
  ![v12.toNat, 0]
@[reducible] def k0_t15_loop : Scf.Loop 32 :=
  let c0_i32_84 : BitVec 32 := 0#32
  let c128_i32_85 : BitVec 32 := 128#32
  let v49 : BitVec 32 := Scalar.addi c0_i32_84 c128_i32_85
  let c1_i32_86 : BitVec 32 := 1#32
  ⟨c0_i32_84, v49, c1_i32_86⟩
def k0_off138 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk209 (v86 : IVec S16 32) : Prop :=
  (∀ a x, ((![v86] : Fin 1 → IVec S16 32) a x).toNat < S4096.size a)
theorem k0_idx273_inb : ∀ (v86 : IVec S16 32) (k0_hw209 : k0_chk209 v86), ∀ a x, ((![v86] : Fin 1 → IVec S16 32) a x).toNat < S4096.size a := fun v86 k0_hw209 => k0_hw209
def k0_off139 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_152 : BitVec 32 := 16#32
  let v87 : BitVec 32 := Scalar.muli arg11 c16_i32_152
  let c16_i32_153 : BitVec 32 := 16#32
  let v88 : BitVec 32 := Scalar.muli v87 c16_i32_153
  let c16_i32_154 : BitVec 32 := 16#32
  let v89 : BitVec 32 := Scalar.addi v88 c16_i32_154
  let v90 : Index := Scalar.indexCast v89
  ![v90.toNat]

def k0_chk210 (v96 : IVec S16 32) : Prop :=
  (∀ a x, ((![v96] : Fin 1 → IVec S16 32) a x).toNat < S4096.size a)
theorem k0_idx274_inb : ∀ (v96 : IVec S16 32) (k0_hw210 : k0_chk210 v96), ∀ a x, ((![v96] : Fin 1 → IVec S16 32) a x).toNat < S4096.size a := fun v96 k0_hw210 => k0_hw210
def k0_off140 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_157 : BitVec 32 := 16#32
  let v97 : BitVec 32 := Scalar.muli arg11 c16_i32_157
  let c16_i32_158 : BitVec 32 := 16#32
  let v98 : BitVec 32 := Scalar.muli v97 c16_i32_158
  let c32_i32 : BitVec 32 := 32#32
  let v99 : BitVec 32 := Scalar.addi v98 c32_i32
  let v100 : Index := Scalar.indexCast v99
  ![v100.toNat]

def k0_chk211 (v106 : IVec S16 32) : Prop :=
  (∀ a x, ((![v106] : Fin 1 → IVec S16 32) a x).toNat < S4096.size a)
theorem k0_idx275_inb : ∀ (v106 : IVec S16 32) (k0_hw211 : k0_chk211 v106), ∀ a x, ((![v106] : Fin 1 → IVec S16 32) a x).toNat < S4096.size a := fun v106 k0_hw211 => k0_hw211
def k0_off141 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_161 : BitVec 32 := 16#32
  let v107 : BitVec 32 := Scalar.muli arg11 c16_i32_161
  let c16_i32_162 : BitVec 32 := 16#32
  let v108 : BitVec 32 := Scalar.muli v107 c16_i32_162
  let c48_i32 : BitVec 32 := 48#32
  let v109 : BitVec 32 := Scalar.addi v108 c48_i32
  let v110 : Index := Scalar.indexCast v109
  ![v110.toNat]

def k0_chk212 (v116 : IVec S16 32) : Prop :=
  (∀ a x, ((![v116] : Fin 1 → IVec S16 32) a x).toNat < S4096.size a)
theorem k0_idx276_inb : ∀ (v116 : IVec S16 32) (k0_hw212 : k0_chk212 v116), ∀ a x, ((![v116] : Fin 1 → IVec S16 32) a x).toNat < S4096.size a := fun v116 k0_hw212 => k0_hw212
def k0_off142 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_165 : BitVec 32 := 16#32
  let v117 : BitVec 32 := Scalar.muli arg11 c16_i32_165
  let c16_i32_166 : BitVec 32 := 16#32
  let v118 : BitVec 32 := Scalar.muli v117 c16_i32_166
  let c64_i32 : BitVec 32 := 64#32
  let v119 : BitVec 32 := Scalar.addi v118 c64_i32
  let v120 : Index := Scalar.indexCast v119
  ![v120.toNat]

def k0_chk213 (v126 : IVec S16 32) : Prop :=
  (∀ a x, ((![v126] : Fin 1 → IVec S16 32) a x).toNat < S4096.size a)
theorem k0_idx277_inb : ∀ (v126 : IVec S16 32) (k0_hw213 : k0_chk213 v126), ∀ a x, ((![v126] : Fin 1 → IVec S16 32) a x).toNat < S4096.size a := fun v126 k0_hw213 => k0_hw213
def k0_off143 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_169 : BitVec 32 := 16#32
  let v127 : BitVec 32 := Scalar.muli arg11 c16_i32_169
  let c16_i32_170 : BitVec 32 := 16#32
  let v128 : BitVec 32 := Scalar.muli v127 c16_i32_170
  let c80_i32 : BitVec 32 := 80#32
  let v129 : BitVec 32 := Scalar.addi v128 c80_i32
  let v130 : Index := Scalar.indexCast v129
  ![v130.toNat]

def k0_chk214 (v136 : IVec S16 32) : Prop :=
  (∀ a x, ((![v136] : Fin 1 → IVec S16 32) a x).toNat < S4096.size a)
theorem k0_idx278_inb : ∀ (v136 : IVec S16 32) (k0_hw214 : k0_chk214 v136), ∀ a x, ((![v136] : Fin 1 → IVec S16 32) a x).toNat < S4096.size a := fun v136 k0_hw214 => k0_hw214
def k0_off144 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_173 : BitVec 32 := 16#32
  let v137 : BitVec 32 := Scalar.muli arg11 c16_i32_173
  let c16_i32_174 : BitVec 32 := 16#32
  let v138 : BitVec 32 := Scalar.muli v137 c16_i32_174
  let c96_i32 : BitVec 32 := 96#32
  let v139 : BitVec 32 := Scalar.addi v138 c96_i32
  let v140 : Index := Scalar.indexCast v139
  ![v140.toNat]

def k0_chk215 (v146 : IVec S16 32) : Prop :=
  (∀ a x, ((![v146] : Fin 1 → IVec S16 32) a x).toNat < S4096.size a)
theorem k0_idx279_inb : ∀ (v146 : IVec S16 32) (k0_hw215 : k0_chk215 v146), ∀ a x, ((![v146] : Fin 1 → IVec S16 32) a x).toNat < S4096.size a := fun v146 k0_hw215 => k0_hw215
def k0_off145 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_177 : BitVec 32 := 16#32
  let v147 : BitVec 32 := Scalar.muli arg11 c16_i32_177
  let c16_i32_178 : BitVec 32 := 16#32
  let v148 : BitVec 32 := Scalar.muli v147 c16_i32_178
  let c112_i32 : BitVec 32 := 112#32
  let v149 : BitVec 32 := Scalar.addi v148 c112_i32
  let v150 : Index := Scalar.indexCast v149
  ![v150.toNat]

def k0_chk216 (v156 : IVec S16 32) : Prop :=
  (∀ a x, ((![v156] : Fin 1 → IVec S16 32) a x).toNat < S4096.size a)
theorem k0_idx280_inb : ∀ (v156 : IVec S16 32) (k0_hw216 : k0_chk216 v156), ∀ a x, ((![v156] : Fin 1 → IVec S16 32) a x).toNat < S4096.size a := fun v156 k0_hw216 => k0_hw216
def k0_off146 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_181 : BitVec 32 := 16#32
  let v157 : BitVec 32 := Scalar.muli arg11 c16_i32_181
  let c16_i32_182 : BitVec 32 := 16#32
  let v158 : BitVec 32 := Scalar.muli v157 c16_i32_182
  let c128_i32_183 : BitVec 32 := 128#32
  let v159 : BitVec 32 := Scalar.addi v158 c128_i32_183
  let v160 : Index := Scalar.indexCast v159
  ![v160.toNat]

def k0_chk217 (v166 : IVec S16 32) : Prop :=
  (∀ a x, ((![v166] : Fin 1 → IVec S16 32) a x).toNat < S4096.size a)
theorem k0_idx281_inb : ∀ (v166 : IVec S16 32) (k0_hw217 : k0_chk217 v166), ∀ a x, ((![v166] : Fin 1 → IVec S16 32) a x).toNat < S4096.size a := fun v166 k0_hw217 => k0_hw217
def k0_off147 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_186 : BitVec 32 := 16#32
  let v167 : BitVec 32 := Scalar.muli arg11 c16_i32_186
  let c16_i32_187 : BitVec 32 := 16#32
  let v168 : BitVec 32 := Scalar.muli v167 c16_i32_187
  let c144_i32 : BitVec 32 := 144#32
  let v169 : BitVec 32 := Scalar.addi v168 c144_i32
  let v170 : Index := Scalar.indexCast v169
  ![v170.toNat]

def k0_chk218 (v176 : IVec S16 32) : Prop :=
  (∀ a x, ((![v176] : Fin 1 → IVec S16 32) a x).toNat < S4096.size a)
theorem k0_idx282_inb : ∀ (v176 : IVec S16 32) (k0_hw218 : k0_chk218 v176), ∀ a x, ((![v176] : Fin 1 → IVec S16 32) a x).toNat < S4096.size a := fun v176 k0_hw218 => k0_hw218
def k0_off148 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_190 : BitVec 32 := 16#32
  let v177 : BitVec 32 := Scalar.muli arg11 c16_i32_190
  let c16_i32_191 : BitVec 32 := 16#32
  let v178 : BitVec 32 := Scalar.muli v177 c16_i32_191
  let c160_i32 : BitVec 32 := 160#32
  let v179 : BitVec 32 := Scalar.addi v178 c160_i32
  let v180 : Index := Scalar.indexCast v179
  ![v180.toNat]

def k0_chk219 (v186 : IVec S16 32) : Prop :=
  (∀ a x, ((![v186] : Fin 1 → IVec S16 32) a x).toNat < S4096.size a)
theorem k0_idx283_inb : ∀ (v186 : IVec S16 32) (k0_hw219 : k0_chk219 v186), ∀ a x, ((![v186] : Fin 1 → IVec S16 32) a x).toNat < S4096.size a := fun v186 k0_hw219 => k0_hw219
def k0_off149 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_194 : BitVec 32 := 16#32
  let v187 : BitVec 32 := Scalar.muli arg11 c16_i32_194
  let c16_i32_195 : BitVec 32 := 16#32
  let v188 : BitVec 32 := Scalar.muli v187 c16_i32_195
  let c176_i32 : BitVec 32 := 176#32
  let v189 : BitVec 32 := Scalar.addi v188 c176_i32
  let v190 : Index := Scalar.indexCast v189
  ![v190.toNat]

def k0_chk220 (v196 : IVec S16 32) : Prop :=
  (∀ a x, ((![v196] : Fin 1 → IVec S16 32) a x).toNat < S4096.size a)
theorem k0_idx284_inb : ∀ (v196 : IVec S16 32) (k0_hw220 : k0_chk220 v196), ∀ a x, ((![v196] : Fin 1 → IVec S16 32) a x).toNat < S4096.size a := fun v196 k0_hw220 => k0_hw220
def k0_off150 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_198 : BitVec 32 := 16#32
  let v197 : BitVec 32 := Scalar.muli arg11 c16_i32_198
  let c16_i32_199 : BitVec 32 := 16#32
  let v198 : BitVec 32 := Scalar.muli v197 c16_i32_199
  let c192_i32 : BitVec 32 := 192#32
  let v199 : BitVec 32 := Scalar.addi v198 c192_i32
  let v200 : Index := Scalar.indexCast v199
  ![v200.toNat]

def k0_chk221 (v206 : IVec S16 32) : Prop :=
  (∀ a x, ((![v206] : Fin 1 → IVec S16 32) a x).toNat < S4096.size a)
theorem k0_idx285_inb : ∀ (v206 : IVec S16 32) (k0_hw221 : k0_chk221 v206), ∀ a x, ((![v206] : Fin 1 → IVec S16 32) a x).toNat < S4096.size a := fun v206 k0_hw221 => k0_hw221
def k0_off151 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_202 : BitVec 32 := 16#32
  let v207 : BitVec 32 := Scalar.muli arg11 c16_i32_202
  let c16_i32_203 : BitVec 32 := 16#32
  let v208 : BitVec 32 := Scalar.muli v207 c16_i32_203
  let c208_i32 : BitVec 32 := 208#32
  let v209 : BitVec 32 := Scalar.addi v208 c208_i32
  let v210 : Index := Scalar.indexCast v209
  ![v210.toNat]

def k0_chk222 (v216 : IVec S16 32) : Prop :=
  (∀ a x, ((![v216] : Fin 1 → IVec S16 32) a x).toNat < S4096.size a)
theorem k0_idx286_inb : ∀ (v216 : IVec S16 32) (k0_hw222 : k0_chk222 v216), ∀ a x, ((![v216] : Fin 1 → IVec S16 32) a x).toNat < S4096.size a := fun v216 k0_hw222 => k0_hw222
def k0_off152 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_206 : BitVec 32 := 16#32
  let v217 : BitVec 32 := Scalar.muli arg11 c16_i32_206
  let c16_i32_207 : BitVec 32 := 16#32
  let v218 : BitVec 32 := Scalar.muli v217 c16_i32_207
  let c224_i32 : BitVec 32 := 224#32
  let v219 : BitVec 32 := Scalar.addi v218 c224_i32
  let v220 : Index := Scalar.indexCast v219
  ![v220.toNat]

def k0_chk223 (v226 : IVec S16 32) : Prop :=
  (∀ a x, ((![v226] : Fin 1 → IVec S16 32) a x).toNat < S4096.size a)
theorem k0_idx287_inb : ∀ (v226 : IVec S16 32) (k0_hw223 : k0_chk223 v226), ∀ a x, ((![v226] : Fin 1 → IVec S16 32) a x).toNat < S4096.size a := fun v226 k0_hw223 => k0_hw223
def k0_off153 (k0_t15 : Fin k0_t15_loop.trips) : Fin 1 → Nat :=
  let c0_i32_84 : BitVec 32 := 0#32
  let c1_i32_86 : BitVec 32 := 1#32
  let arg11 : BitVec 32 := Scf.iv c0_i32_84 c1_i32_86 k0_t15
  let c16_i32_210 : BitVec 32 := 16#32
  let v227 : BitVec 32 := Scalar.muli arg11 c16_i32_210
  let c16_i32_211 : BitVec 32 := 16#32
  let v228 : BitVec 32 := Scalar.muli v227 c16_i32_211
  let c240_i32 : BitVec 32 := 240#32
  let v229 : BitVec 32 := Scalar.addi v228 c240_i32
  let v230 : Index := Scalar.indexCast v229
  ![v230.toNat]

def k0_chk224 (v236 : IVec S16 32) : Prop :=
  (∀ a x, ((![v236] : Fin 1 → IVec S16 32) a x).toNat < S4096.size a)
theorem k0_idx288_inb : ∀ (v236 : IVec S16 32) (k0_hw224 : k0_chk224 v236), ∀ a x, ((![v236] : Fin 1 → IVec S16 32) a x).toNat < S4096.size a := fun v236 k0_hw224 => k0_hw224
@[reducible] def k0_t16_loop : Scf.Loop 32 :=
  let c0_i32_89 : BitVec 32 := 0#32
  let c256_i32_90 : BitVec 32 := 256#32
  let v50 : BitVec 32 := Scalar.addi c0_i32_89 c256_i32_90
  let c1_i32_91 : BitVec 32 := 1#32
  ⟨c0_i32_89, v50, c1_i32_91⟩
def k0_off154 (k0_t16 : Fin k0_t16_loop.trips) : Fin 1 → Nat :=
  let c0_i32_89 : BitVec 32 := 0#32
  let c1_i32_91 : BitVec 32 := 1#32
  let arg11 : BitVec 32 := Scf.iv c0_i32_89 c1_i32_91 k0_t16
  let c16_i32_149 : BitVec 32 := 16#32
  let v77 : BitVec 32 := Scalar.muli arg11 c16_i32_149
  let v78 : Index := Scalar.indexCast v77
  ![v78.toNat]
@[reducible] def k0_t17_loop : Scf.Loop 32 :=
  let c0_i32_94 : BitVec 32 := 0#32
  let c128_i32_95 : BitVec 32 := 128#32
  let v52 : BitVec 32 := Scalar.addi c0_i32_94 c128_i32_95
  let c1_i32_96 : BitVec 32 := 1#32
  ⟨c0_i32_94, v52, c1_i32_96⟩
def k0_off155 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk225 (v86 : IVec S16 32) : Prop :=
  (∀ a x, ((![v86] : Fin 1 → IVec S16 32) a x).toNat < S4096.size a) ∧
  (∀ a x, ((![v86] : Fin 1 → IVec S16 32) a x).toNat < S4096.size a)
theorem k0_idx289_inb : ∀ (v86 : IVec S16 32) (k0_hw225 : k0_chk225 v86), ∀ a x, ((![v86] : Fin 1 → IVec S16 32) a x).toNat < S4096.size a := fun v86 k0_hw225 => k0_hw225.1
theorem k0_idx290_inb : ∀ (v86 : IVec S16 32) (k0_hw225 : k0_chk225 v86), ∀ a x, ((![v86] : Fin 1 → IVec S16 32) a x).toNat < S4096.size a := fun v86 k0_hw225 => k0_hw225.2

def k0_chk226 (v111 : IVec S16 32) : Prop :=
  (∀ a x, ((![v111] : Fin 1 → IVec S16 32) a x).toNat < S32768.size a)
theorem k0_idx291_inb : ∀ (v111 : IVec S16 32) (k0_hw226 : k0_chk226 v111), ∀ a x, ((![v111] : Fin 1 → IVec S16 32) a x).toNat < S32768.size a := fun v111 k0_hw226 => k0_hw226
def k0_off156 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_156 : BitVec 32 := 16#32
  let v112 : BitVec 32 := Scalar.muli arg11 c16_i32_156
  let c16_i32_157 : BitVec 32 := 16#32
  let v113 : BitVec 32 := Scalar.muli v112 c16_i32_157
  let c16_i32_158 : BitVec 32 := 16#32
  let v114 : BitVec 32 := Scalar.addi v113 c16_i32_158
  let v115 : Index := Scalar.indexCast v114
  ![v115.toNat]

def k0_chk227 (v121 : IVec S16 32) : Prop :=
  (∀ a x, ((![v121] : Fin 1 → IVec S16 32) a x).toNat < S4096.size a) ∧
  (∀ a x, ((![v121] : Fin 1 → IVec S16 32) a x).toNat < S4096.size a)
theorem k0_idx292_inb : ∀ (v121 : IVec S16 32) (k0_hw227 : k0_chk227 v121), ∀ a x, ((![v121] : Fin 1 → IVec S16 32) a x).toNat < S4096.size a := fun v121 k0_hw227 => k0_hw227.1
theorem k0_idx293_inb : ∀ (v121 : IVec S16 32) (k0_hw227 : k0_chk227 v121), ∀ a x, ((![v121] : Fin 1 → IVec S16 32) a x).toNat < S4096.size a := fun v121 k0_hw227 => k0_hw227.2

def k0_chk228 (v146 : IVec S16 32) : Prop :=
  (∀ a x, ((![v146] : Fin 1 → IVec S16 32) a x).toNat < S32768.size a)
theorem k0_idx294_inb : ∀ (v146 : IVec S16 32) (k0_hw228 : k0_chk228 v146), ∀ a x, ((![v146] : Fin 1 → IVec S16 32) a x).toNat < S32768.size a := fun v146 k0_hw228 => k0_hw228
def k0_off157 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_170 : BitVec 32 := 16#32
  let v147 : BitVec 32 := Scalar.muli arg11 c16_i32_170
  let c16_i32_171 : BitVec 32 := 16#32
  let v148 : BitVec 32 := Scalar.muli v147 c16_i32_171
  let c32_i32 : BitVec 32 := 32#32
  let v149 : BitVec 32 := Scalar.addi v148 c32_i32
  let v150 : Index := Scalar.indexCast v149
  ![v150.toNat]

def k0_chk229 (v156 : IVec S16 32) : Prop :=
  (∀ a x, ((![v156] : Fin 1 → IVec S16 32) a x).toNat < S4096.size a) ∧
  (∀ a x, ((![v156] : Fin 1 → IVec S16 32) a x).toNat < S4096.size a)
theorem k0_idx295_inb : ∀ (v156 : IVec S16 32) (k0_hw229 : k0_chk229 v156), ∀ a x, ((![v156] : Fin 1 → IVec S16 32) a x).toNat < S4096.size a := fun v156 k0_hw229 => k0_hw229.1
theorem k0_idx296_inb : ∀ (v156 : IVec S16 32) (k0_hw229 : k0_chk229 v156), ∀ a x, ((![v156] : Fin 1 → IVec S16 32) a x).toNat < S4096.size a := fun v156 k0_hw229 => k0_hw229.2

def k0_chk230 (v181 : IVec S16 32) : Prop :=
  (∀ a x, ((![v181] : Fin 1 → IVec S16 32) a x).toNat < S32768.size a)
theorem k0_idx297_inb : ∀ (v181 : IVec S16 32) (k0_hw230 : k0_chk230 v181), ∀ a x, ((![v181] : Fin 1 → IVec S16 32) a x).toNat < S32768.size a := fun v181 k0_hw230 => k0_hw230
def k0_off158 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_183 : BitVec 32 := 16#32
  let v182 : BitVec 32 := Scalar.muli arg11 c16_i32_183
  let c16_i32_184 : BitVec 32 := 16#32
  let v183 : BitVec 32 := Scalar.muli v182 c16_i32_184
  let c48_i32 : BitVec 32 := 48#32
  let v184 : BitVec 32 := Scalar.addi v183 c48_i32
  let v185 : Index := Scalar.indexCast v184
  ![v185.toNat]

def k0_chk231 (v191 : IVec S16 32) : Prop :=
  (∀ a x, ((![v191] : Fin 1 → IVec S16 32) a x).toNat < S4096.size a) ∧
  (∀ a x, ((![v191] : Fin 1 → IVec S16 32) a x).toNat < S4096.size a)
theorem k0_idx298_inb : ∀ (v191 : IVec S16 32) (k0_hw231 : k0_chk231 v191), ∀ a x, ((![v191] : Fin 1 → IVec S16 32) a x).toNat < S4096.size a := fun v191 k0_hw231 => k0_hw231.1
theorem k0_idx299_inb : ∀ (v191 : IVec S16 32) (k0_hw231 : k0_chk231 v191), ∀ a x, ((![v191] : Fin 1 → IVec S16 32) a x).toNat < S4096.size a := fun v191 k0_hw231 => k0_hw231.2

def k0_chk232 (v216 : IVec S16 32) : Prop :=
  (∀ a x, ((![v216] : Fin 1 → IVec S16 32) a x).toNat < S32768.size a)
theorem k0_idx300_inb : ∀ (v216 : IVec S16 32) (k0_hw232 : k0_chk232 v216), ∀ a x, ((![v216] : Fin 1 → IVec S16 32) a x).toNat < S32768.size a := fun v216 k0_hw232 => k0_hw232
def k0_off159 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_196 : BitVec 32 := 16#32
  let v217 : BitVec 32 := Scalar.muli arg11 c16_i32_196
  let c16_i32_197 : BitVec 32 := 16#32
  let v218 : BitVec 32 := Scalar.muli v217 c16_i32_197
  let c64_i32 : BitVec 32 := 64#32
  let v219 : BitVec 32 := Scalar.addi v218 c64_i32
  let v220 : Index := Scalar.indexCast v219
  ![v220.toNat]

def k0_chk233 (v226 : IVec S16 32) : Prop :=
  (∀ a x, ((![v226] : Fin 1 → IVec S16 32) a x).toNat < S4096.size a) ∧
  (∀ a x, ((![v226] : Fin 1 → IVec S16 32) a x).toNat < S4096.size a)
theorem k0_idx301_inb : ∀ (v226 : IVec S16 32) (k0_hw233 : k0_chk233 v226), ∀ a x, ((![v226] : Fin 1 → IVec S16 32) a x).toNat < S4096.size a := fun v226 k0_hw233 => k0_hw233.1
theorem k0_idx302_inb : ∀ (v226 : IVec S16 32) (k0_hw233 : k0_chk233 v226), ∀ a x, ((![v226] : Fin 1 → IVec S16 32) a x).toNat < S4096.size a := fun v226 k0_hw233 => k0_hw233.2

def k0_chk234 (v251 : IVec S16 32) : Prop :=
  (∀ a x, ((![v251] : Fin 1 → IVec S16 32) a x).toNat < S32768.size a)
theorem k0_idx303_inb : ∀ (v251 : IVec S16 32) (k0_hw234 : k0_chk234 v251), ∀ a x, ((![v251] : Fin 1 → IVec S16 32) a x).toNat < S32768.size a := fun v251 k0_hw234 => k0_hw234
def k0_off160 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_209 : BitVec 32 := 16#32
  let v252 : BitVec 32 := Scalar.muli arg11 c16_i32_209
  let c16_i32_210 : BitVec 32 := 16#32
  let v253 : BitVec 32 := Scalar.muli v252 c16_i32_210
  let c80_i32 : BitVec 32 := 80#32
  let v254 : BitVec 32 := Scalar.addi v253 c80_i32
  let v255 : Index := Scalar.indexCast v254
  ![v255.toNat]

def k0_chk235 (v261 : IVec S16 32) : Prop :=
  (∀ a x, ((![v261] : Fin 1 → IVec S16 32) a x).toNat < S4096.size a) ∧
  (∀ a x, ((![v261] : Fin 1 → IVec S16 32) a x).toNat < S4096.size a)
theorem k0_idx304_inb : ∀ (v261 : IVec S16 32) (k0_hw235 : k0_chk235 v261), ∀ a x, ((![v261] : Fin 1 → IVec S16 32) a x).toNat < S4096.size a := fun v261 k0_hw235 => k0_hw235.1
theorem k0_idx305_inb : ∀ (v261 : IVec S16 32) (k0_hw235 : k0_chk235 v261), ∀ a x, ((![v261] : Fin 1 → IVec S16 32) a x).toNat < S4096.size a := fun v261 k0_hw235 => k0_hw235.2

def k0_chk236 (v286 : IVec S16 32) : Prop :=
  (∀ a x, ((![v286] : Fin 1 → IVec S16 32) a x).toNat < S32768.size a)
theorem k0_idx306_inb : ∀ (v286 : IVec S16 32) (k0_hw236 : k0_chk236 v286), ∀ a x, ((![v286] : Fin 1 → IVec S16 32) a x).toNat < S32768.size a := fun v286 k0_hw236 => k0_hw236
def k0_off161 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_222 : BitVec 32 := 16#32
  let v287 : BitVec 32 := Scalar.muli arg11 c16_i32_222
  let c16_i32_223 : BitVec 32 := 16#32
  let v288 : BitVec 32 := Scalar.muli v287 c16_i32_223
  let c96_i32 : BitVec 32 := 96#32
  let v289 : BitVec 32 := Scalar.addi v288 c96_i32
  let v290 : Index := Scalar.indexCast v289
  ![v290.toNat]

def k0_chk237 (v296 : IVec S16 32) : Prop :=
  (∀ a x, ((![v296] : Fin 1 → IVec S16 32) a x).toNat < S4096.size a) ∧
  (∀ a x, ((![v296] : Fin 1 → IVec S16 32) a x).toNat < S4096.size a)
theorem k0_idx307_inb : ∀ (v296 : IVec S16 32) (k0_hw237 : k0_chk237 v296), ∀ a x, ((![v296] : Fin 1 → IVec S16 32) a x).toNat < S4096.size a := fun v296 k0_hw237 => k0_hw237.1
theorem k0_idx308_inb : ∀ (v296 : IVec S16 32) (k0_hw237 : k0_chk237 v296), ∀ a x, ((![v296] : Fin 1 → IVec S16 32) a x).toNat < S4096.size a := fun v296 k0_hw237 => k0_hw237.2

def k0_chk238 (v321 : IVec S16 32) : Prop :=
  (∀ a x, ((![v321] : Fin 1 → IVec S16 32) a x).toNat < S32768.size a)
theorem k0_idx309_inb : ∀ (v321 : IVec S16 32) (k0_hw238 : k0_chk238 v321), ∀ a x, ((![v321] : Fin 1 → IVec S16 32) a x).toNat < S32768.size a := fun v321 k0_hw238 => k0_hw238
def k0_off162 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_235 : BitVec 32 := 16#32
  let v322 : BitVec 32 := Scalar.muli arg11 c16_i32_235
  let c16_i32_236 : BitVec 32 := 16#32
  let v323 : BitVec 32 := Scalar.muli v322 c16_i32_236
  let c112_i32 : BitVec 32 := 112#32
  let v324 : BitVec 32 := Scalar.addi v323 c112_i32
  let v325 : Index := Scalar.indexCast v324
  ![v325.toNat]

def k0_chk239 (v331 : IVec S16 32) : Prop :=
  (∀ a x, ((![v331] : Fin 1 → IVec S16 32) a x).toNat < S4096.size a) ∧
  (∀ a x, ((![v331] : Fin 1 → IVec S16 32) a x).toNat < S4096.size a)
theorem k0_idx310_inb : ∀ (v331 : IVec S16 32) (k0_hw239 : k0_chk239 v331), ∀ a x, ((![v331] : Fin 1 → IVec S16 32) a x).toNat < S4096.size a := fun v331 k0_hw239 => k0_hw239.1
theorem k0_idx311_inb : ∀ (v331 : IVec S16 32) (k0_hw239 : k0_chk239 v331), ∀ a x, ((![v331] : Fin 1 → IVec S16 32) a x).toNat < S4096.size a := fun v331 k0_hw239 => k0_hw239.2

def k0_chk240 (v356 : IVec S16 32) : Prop :=
  (∀ a x, ((![v356] : Fin 1 → IVec S16 32) a x).toNat < S32768.size a)
theorem k0_idx312_inb : ∀ (v356 : IVec S16 32) (k0_hw240 : k0_chk240 v356), ∀ a x, ((![v356] : Fin 1 → IVec S16 32) a x).toNat < S32768.size a := fun v356 k0_hw240 => k0_hw240
def k0_off163 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_248 : BitVec 32 := 16#32
  let v357 : BitVec 32 := Scalar.muli arg11 c16_i32_248
  let c16_i32_249 : BitVec 32 := 16#32
  let v358 : BitVec 32 := Scalar.muli v357 c16_i32_249
  let c128_i32_250 : BitVec 32 := 128#32
  let v359 : BitVec 32 := Scalar.addi v358 c128_i32_250
  let v360 : Index := Scalar.indexCast v359
  ![v360.toNat]

def k0_chk241 (v366 : IVec S16 32) : Prop :=
  (∀ a x, ((![v366] : Fin 1 → IVec S16 32) a x).toNat < S4096.size a) ∧
  (∀ a x, ((![v366] : Fin 1 → IVec S16 32) a x).toNat < S4096.size a)
theorem k0_idx313_inb : ∀ (v366 : IVec S16 32) (k0_hw241 : k0_chk241 v366), ∀ a x, ((![v366] : Fin 1 → IVec S16 32) a x).toNat < S4096.size a := fun v366 k0_hw241 => k0_hw241.1
theorem k0_idx314_inb : ∀ (v366 : IVec S16 32) (k0_hw241 : k0_chk241 v366), ∀ a x, ((![v366] : Fin 1 → IVec S16 32) a x).toNat < S4096.size a := fun v366 k0_hw241 => k0_hw241.2

def k0_chk242 (v391 : IVec S16 32) : Prop :=
  (∀ a x, ((![v391] : Fin 1 → IVec S16 32) a x).toNat < S32768.size a)
theorem k0_idx315_inb : ∀ (v391 : IVec S16 32) (k0_hw242 : k0_chk242 v391), ∀ a x, ((![v391] : Fin 1 → IVec S16 32) a x).toNat < S32768.size a := fun v391 k0_hw242 => k0_hw242
def k0_off164 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_262 : BitVec 32 := 16#32
  let v392 : BitVec 32 := Scalar.muli arg11 c16_i32_262
  let c16_i32_263 : BitVec 32 := 16#32
  let v393 : BitVec 32 := Scalar.muli v392 c16_i32_263
  let c144_i32 : BitVec 32 := 144#32
  let v394 : BitVec 32 := Scalar.addi v393 c144_i32
  let v395 : Index := Scalar.indexCast v394
  ![v395.toNat]

def k0_chk243 (v401 : IVec S16 32) : Prop :=
  (∀ a x, ((![v401] : Fin 1 → IVec S16 32) a x).toNat < S4096.size a) ∧
  (∀ a x, ((![v401] : Fin 1 → IVec S16 32) a x).toNat < S4096.size a)
theorem k0_idx316_inb : ∀ (v401 : IVec S16 32) (k0_hw243 : k0_chk243 v401), ∀ a x, ((![v401] : Fin 1 → IVec S16 32) a x).toNat < S4096.size a := fun v401 k0_hw243 => k0_hw243.1
theorem k0_idx317_inb : ∀ (v401 : IVec S16 32) (k0_hw243 : k0_chk243 v401), ∀ a x, ((![v401] : Fin 1 → IVec S16 32) a x).toNat < S4096.size a := fun v401 k0_hw243 => k0_hw243.2

def k0_chk244 (v426 : IVec S16 32) : Prop :=
  (∀ a x, ((![v426] : Fin 1 → IVec S16 32) a x).toNat < S32768.size a)
theorem k0_idx318_inb : ∀ (v426 : IVec S16 32) (k0_hw244 : k0_chk244 v426), ∀ a x, ((![v426] : Fin 1 → IVec S16 32) a x).toNat < S32768.size a := fun v426 k0_hw244 => k0_hw244
def k0_off165 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_275 : BitVec 32 := 16#32
  let v427 : BitVec 32 := Scalar.muli arg11 c16_i32_275
  let c16_i32_276 : BitVec 32 := 16#32
  let v428 : BitVec 32 := Scalar.muli v427 c16_i32_276
  let c160_i32 : BitVec 32 := 160#32
  let v429 : BitVec 32 := Scalar.addi v428 c160_i32
  let v430 : Index := Scalar.indexCast v429
  ![v430.toNat]

def k0_chk245 (v436 : IVec S16 32) : Prop :=
  (∀ a x, ((![v436] : Fin 1 → IVec S16 32) a x).toNat < S4096.size a) ∧
  (∀ a x, ((![v436] : Fin 1 → IVec S16 32) a x).toNat < S4096.size a)
theorem k0_idx319_inb : ∀ (v436 : IVec S16 32) (k0_hw245 : k0_chk245 v436), ∀ a x, ((![v436] : Fin 1 → IVec S16 32) a x).toNat < S4096.size a := fun v436 k0_hw245 => k0_hw245.1
theorem k0_idx320_inb : ∀ (v436 : IVec S16 32) (k0_hw245 : k0_chk245 v436), ∀ a x, ((![v436] : Fin 1 → IVec S16 32) a x).toNat < S4096.size a := fun v436 k0_hw245 => k0_hw245.2

def k0_chk246 (v461 : IVec S16 32) : Prop :=
  (∀ a x, ((![v461] : Fin 1 → IVec S16 32) a x).toNat < S32768.size a)
theorem k0_idx321_inb : ∀ (v461 : IVec S16 32) (k0_hw246 : k0_chk246 v461), ∀ a x, ((![v461] : Fin 1 → IVec S16 32) a x).toNat < S32768.size a := fun v461 k0_hw246 => k0_hw246
def k0_off166 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_288 : BitVec 32 := 16#32
  let v462 : BitVec 32 := Scalar.muli arg11 c16_i32_288
  let c16_i32_289 : BitVec 32 := 16#32
  let v463 : BitVec 32 := Scalar.muli v462 c16_i32_289
  let c176_i32 : BitVec 32 := 176#32
  let v464 : BitVec 32 := Scalar.addi v463 c176_i32
  let v465 : Index := Scalar.indexCast v464
  ![v465.toNat]

def k0_chk247 (v471 : IVec S16 32) : Prop :=
  (∀ a x, ((![v471] : Fin 1 → IVec S16 32) a x).toNat < S4096.size a) ∧
  (∀ a x, ((![v471] : Fin 1 → IVec S16 32) a x).toNat < S4096.size a)
theorem k0_idx322_inb : ∀ (v471 : IVec S16 32) (k0_hw247 : k0_chk247 v471), ∀ a x, ((![v471] : Fin 1 → IVec S16 32) a x).toNat < S4096.size a := fun v471 k0_hw247 => k0_hw247.1
theorem k0_idx323_inb : ∀ (v471 : IVec S16 32) (k0_hw247 : k0_chk247 v471), ∀ a x, ((![v471] : Fin 1 → IVec S16 32) a x).toNat < S4096.size a := fun v471 k0_hw247 => k0_hw247.2

def k0_chk248 (v496 : IVec S16 32) : Prop :=
  (∀ a x, ((![v496] : Fin 1 → IVec S16 32) a x).toNat < S32768.size a)
theorem k0_idx324_inb : ∀ (v496 : IVec S16 32) (k0_hw248 : k0_chk248 v496), ∀ a x, ((![v496] : Fin 1 → IVec S16 32) a x).toNat < S32768.size a := fun v496 k0_hw248 => k0_hw248
def k0_off167 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_301 : BitVec 32 := 16#32
  let v497 : BitVec 32 := Scalar.muli arg11 c16_i32_301
  let c16_i32_302 : BitVec 32 := 16#32
  let v498 : BitVec 32 := Scalar.muli v497 c16_i32_302
  let c192_i32 : BitVec 32 := 192#32
  let v499 : BitVec 32 := Scalar.addi v498 c192_i32
  let v500 : Index := Scalar.indexCast v499
  ![v500.toNat]

def k0_chk249 (v506 : IVec S16 32) : Prop :=
  (∀ a x, ((![v506] : Fin 1 → IVec S16 32) a x).toNat < S4096.size a) ∧
  (∀ a x, ((![v506] : Fin 1 → IVec S16 32) a x).toNat < S4096.size a)
theorem k0_idx325_inb : ∀ (v506 : IVec S16 32) (k0_hw249 : k0_chk249 v506), ∀ a x, ((![v506] : Fin 1 → IVec S16 32) a x).toNat < S4096.size a := fun v506 k0_hw249 => k0_hw249.1
theorem k0_idx326_inb : ∀ (v506 : IVec S16 32) (k0_hw249 : k0_chk249 v506), ∀ a x, ((![v506] : Fin 1 → IVec S16 32) a x).toNat < S4096.size a := fun v506 k0_hw249 => k0_hw249.2

def k0_chk250 (v531 : IVec S16 32) : Prop :=
  (∀ a x, ((![v531] : Fin 1 → IVec S16 32) a x).toNat < S32768.size a)
theorem k0_idx327_inb : ∀ (v531 : IVec S16 32) (k0_hw250 : k0_chk250 v531), ∀ a x, ((![v531] : Fin 1 → IVec S16 32) a x).toNat < S32768.size a := fun v531 k0_hw250 => k0_hw250
def k0_off168 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_314 : BitVec 32 := 16#32
  let v532 : BitVec 32 := Scalar.muli arg11 c16_i32_314
  let c16_i32_315 : BitVec 32 := 16#32
  let v533 : BitVec 32 := Scalar.muli v532 c16_i32_315
  let c208_i32 : BitVec 32 := 208#32
  let v534 : BitVec 32 := Scalar.addi v533 c208_i32
  let v535 : Index := Scalar.indexCast v534
  ![v535.toNat]

def k0_chk251 (v541 : IVec S16 32) : Prop :=
  (∀ a x, ((![v541] : Fin 1 → IVec S16 32) a x).toNat < S4096.size a) ∧
  (∀ a x, ((![v541] : Fin 1 → IVec S16 32) a x).toNat < S4096.size a)
theorem k0_idx328_inb : ∀ (v541 : IVec S16 32) (k0_hw251 : k0_chk251 v541), ∀ a x, ((![v541] : Fin 1 → IVec S16 32) a x).toNat < S4096.size a := fun v541 k0_hw251 => k0_hw251.1
theorem k0_idx329_inb : ∀ (v541 : IVec S16 32) (k0_hw251 : k0_chk251 v541), ∀ a x, ((![v541] : Fin 1 → IVec S16 32) a x).toNat < S4096.size a := fun v541 k0_hw251 => k0_hw251.2

def k0_chk252 (v566 : IVec S16 32) : Prop :=
  (∀ a x, ((![v566] : Fin 1 → IVec S16 32) a x).toNat < S32768.size a)
theorem k0_idx330_inb : ∀ (v566 : IVec S16 32) (k0_hw252 : k0_chk252 v566), ∀ a x, ((![v566] : Fin 1 → IVec S16 32) a x).toNat < S32768.size a := fun v566 k0_hw252 => k0_hw252
def k0_off169 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_327 : BitVec 32 := 16#32
  let v567 : BitVec 32 := Scalar.muli arg11 c16_i32_327
  let c16_i32_328 : BitVec 32 := 16#32
  let v568 : BitVec 32 := Scalar.muli v567 c16_i32_328
  let c224_i32 : BitVec 32 := 224#32
  let v569 : BitVec 32 := Scalar.addi v568 c224_i32
  let v570 : Index := Scalar.indexCast v569
  ![v570.toNat]

def k0_chk253 (v576 : IVec S16 32) : Prop :=
  (∀ a x, ((![v576] : Fin 1 → IVec S16 32) a x).toNat < S4096.size a) ∧
  (∀ a x, ((![v576] : Fin 1 → IVec S16 32) a x).toNat < S4096.size a)
theorem k0_idx331_inb : ∀ (v576 : IVec S16 32) (k0_hw253 : k0_chk253 v576), ∀ a x, ((![v576] : Fin 1 → IVec S16 32) a x).toNat < S4096.size a := fun v576 k0_hw253 => k0_hw253.1
theorem k0_idx332_inb : ∀ (v576 : IVec S16 32) (k0_hw253 : k0_chk253 v576), ∀ a x, ((![v576] : Fin 1 → IVec S16 32) a x).toNat < S4096.size a := fun v576 k0_hw253 => k0_hw253.2

def k0_chk254 (v601 : IVec S16 32) : Prop :=
  (∀ a x, ((![v601] : Fin 1 → IVec S16 32) a x).toNat < S32768.size a)
theorem k0_idx333_inb : ∀ (v601 : IVec S16 32) (k0_hw254 : k0_chk254 v601), ∀ a x, ((![v601] : Fin 1 → IVec S16 32) a x).toNat < S32768.size a := fun v601 k0_hw254 => k0_hw254
def k0_off170 (k0_t17 : Fin k0_t17_loop.trips) : Fin 1 → Nat :=
  let c0_i32_94 : BitVec 32 := 0#32
  let c1_i32_96 : BitVec 32 := 1#32
  let arg11 : BitVec 32 := Scf.iv c0_i32_94 c1_i32_96 k0_t17
  let c16_i32_340 : BitVec 32 := 16#32
  let v602 : BitVec 32 := Scalar.muli arg11 c16_i32_340
  let c16_i32_341 : BitVec 32 := 16#32
  let v603 : BitVec 32 := Scalar.muli v602 c16_i32_341
  let c240_i32 : BitVec 32 := 240#32
  let v604 : BitVec 32 := Scalar.addi v603 c240_i32
  let v605 : Index := Scalar.indexCast v604
  ![v605.toNat]

def k0_chk255 (v611 : IVec S16 32) : Prop :=
  (∀ a x, ((![v611] : Fin 1 → IVec S16 32) a x).toNat < S4096.size a) ∧
  (∀ a x, ((![v611] : Fin 1 → IVec S16 32) a x).toNat < S4096.size a)
theorem k0_idx334_inb : ∀ (v611 : IVec S16 32) (k0_hw255 : k0_chk255 v611), ∀ a x, ((![v611] : Fin 1 → IVec S16 32) a x).toNat < S4096.size a := fun v611 k0_hw255 => k0_hw255.1
theorem k0_idx335_inb : ∀ (v611 : IVec S16 32) (k0_hw255 : k0_chk255 v611), ∀ a x, ((![v611] : Fin 1 → IVec S16 32) a x).toNat < S4096.size a := fun v611 k0_hw255 => k0_hw255.2

def k0_chk256 (v636 : IVec S16 32) : Prop :=
  (∀ a x, ((![v636] : Fin 1 → IVec S16 32) a x).toNat < S32768.size a)
theorem k0_idx336_inb : ∀ (v636 : IVec S16 32) (k0_hw256 : k0_chk256 v636), ∀ a x, ((![v636] : Fin 1 → IVec S16 32) a x).toNat < S32768.size a := fun v636 k0_hw256 => k0_hw256
@[reducible] def k0_t18_loop : Scf.Loop 32 :=
  let c0_i32_99 : BitVec 32 := 0#32
  let c128_i32_100 : BitVec 32 := 128#32
  let v53 : BitVec 32 := Scalar.addi c0_i32_99 c128_i32_100
  let c1_i32_101 : BitVec 32 := 1#32
  ⟨c0_i32_99, v53, c1_i32_101⟩
def k0_off171 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk257 (v88 : IVec S16 32) : Prop :=
  (∀ a x, ((![v88] : Fin 1 → IVec S16 32) a x).toNat < S4096.size a)
theorem k0_idx337_inb : ∀ (v88 : IVec S16 32) (k0_hw257 : k0_chk257 v88), ∀ a x, ((![v88] : Fin 1 → IVec S16 32) a x).toNat < S4096.size a := fun v88 k0_hw257 => k0_hw257
def k0_off172 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_152 : BitVec 32 := 16#32
  let v89 : BitVec 32 := Scalar.muli arg11 c16_i32_152
  let c16_i32_153 : BitVec 32 := 16#32
  let v90 : BitVec 32 := Scalar.muli v89 c16_i32_153
  let c16_i32_154 : BitVec 32 := 16#32
  let v91 : BitVec 32 := Scalar.addi v90 c16_i32_154
  let v92 : Index := Scalar.indexCast v91
  ![v92.toNat]

def k0_chk258 (v100 : IVec S16 32) : Prop :=
  (∀ a x, ((![v100] : Fin 1 → IVec S16 32) a x).toNat < S4096.size a)
theorem k0_idx338_inb : ∀ (v100 : IVec S16 32) (k0_hw258 : k0_chk258 v100), ∀ a x, ((![v100] : Fin 1 → IVec S16 32) a x).toNat < S4096.size a := fun v100 k0_hw258 => k0_hw258
def k0_off173 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_158 : BitVec 32 := 16#32
  let v101 : BitVec 32 := Scalar.muli arg11 c16_i32_158
  let c16_i32_159 : BitVec 32 := 16#32
  let v102 : BitVec 32 := Scalar.muli v101 c16_i32_159
  let c32_i32 : BitVec 32 := 32#32
  let v103 : BitVec 32 := Scalar.addi v102 c32_i32
  let v104 : Index := Scalar.indexCast v103
  ![v104.toNat]

def k0_chk259 (v112 : IVec S16 32) : Prop :=
  (∀ a x, ((![v112] : Fin 1 → IVec S16 32) a x).toNat < S4096.size a)
theorem k0_idx339_inb : ∀ (v112 : IVec S16 32) (k0_hw259 : k0_chk259 v112), ∀ a x, ((![v112] : Fin 1 → IVec S16 32) a x).toNat < S4096.size a := fun v112 k0_hw259 => k0_hw259
def k0_off174 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_163 : BitVec 32 := 16#32
  let v113 : BitVec 32 := Scalar.muli arg11 c16_i32_163
  let c16_i32_164 : BitVec 32 := 16#32
  let v114 : BitVec 32 := Scalar.muli v113 c16_i32_164
  let c48_i32 : BitVec 32 := 48#32
  let v115 : BitVec 32 := Scalar.addi v114 c48_i32
  let v116 : Index := Scalar.indexCast v115
  ![v116.toNat]

def k0_chk260 (v124 : IVec S16 32) : Prop :=
  (∀ a x, ((![v124] : Fin 1 → IVec S16 32) a x).toNat < S4096.size a)
theorem k0_idx340_inb : ∀ (v124 : IVec S16 32) (k0_hw260 : k0_chk260 v124), ∀ a x, ((![v124] : Fin 1 → IVec S16 32) a x).toNat < S4096.size a := fun v124 k0_hw260 => k0_hw260
def k0_off175 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_168 : BitVec 32 := 16#32
  let v125 : BitVec 32 := Scalar.muli arg11 c16_i32_168
  let c16_i32_169 : BitVec 32 := 16#32
  let v126 : BitVec 32 := Scalar.muli v125 c16_i32_169
  let c64_i32 : BitVec 32 := 64#32
  let v127 : BitVec 32 := Scalar.addi v126 c64_i32
  let v128 : Index := Scalar.indexCast v127
  ![v128.toNat]

def k0_chk261 (v136 : IVec S16 32) : Prop :=
  (∀ a x, ((![v136] : Fin 1 → IVec S16 32) a x).toNat < S4096.size a)
theorem k0_idx341_inb : ∀ (v136 : IVec S16 32) (k0_hw261 : k0_chk261 v136), ∀ a x, ((![v136] : Fin 1 → IVec S16 32) a x).toNat < S4096.size a := fun v136 k0_hw261 => k0_hw261
def k0_off176 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_173 : BitVec 32 := 16#32
  let v137 : BitVec 32 := Scalar.muli arg11 c16_i32_173
  let c16_i32_174 : BitVec 32 := 16#32
  let v138 : BitVec 32 := Scalar.muli v137 c16_i32_174
  let c80_i32 : BitVec 32 := 80#32
  let v139 : BitVec 32 := Scalar.addi v138 c80_i32
  let v140 : Index := Scalar.indexCast v139
  ![v140.toNat]

def k0_chk262 (v148 : IVec S16 32) : Prop :=
  (∀ a x, ((![v148] : Fin 1 → IVec S16 32) a x).toNat < S4096.size a)
theorem k0_idx342_inb : ∀ (v148 : IVec S16 32) (k0_hw262 : k0_chk262 v148), ∀ a x, ((![v148] : Fin 1 → IVec S16 32) a x).toNat < S4096.size a := fun v148 k0_hw262 => k0_hw262
def k0_off177 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_178 : BitVec 32 := 16#32
  let v149 : BitVec 32 := Scalar.muli arg11 c16_i32_178
  let c16_i32_179 : BitVec 32 := 16#32
  let v150 : BitVec 32 := Scalar.muli v149 c16_i32_179
  let c96_i32 : BitVec 32 := 96#32
  let v151 : BitVec 32 := Scalar.addi v150 c96_i32
  let v152 : Index := Scalar.indexCast v151
  ![v152.toNat]

def k0_chk263 (v160 : IVec S16 32) : Prop :=
  (∀ a x, ((![v160] : Fin 1 → IVec S16 32) a x).toNat < S4096.size a)
theorem k0_idx343_inb : ∀ (v160 : IVec S16 32) (k0_hw263 : k0_chk263 v160), ∀ a x, ((![v160] : Fin 1 → IVec S16 32) a x).toNat < S4096.size a := fun v160 k0_hw263 => k0_hw263
def k0_off178 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_183 : BitVec 32 := 16#32
  let v161 : BitVec 32 := Scalar.muli arg11 c16_i32_183
  let c16_i32_184 : BitVec 32 := 16#32
  let v162 : BitVec 32 := Scalar.muli v161 c16_i32_184
  let c112_i32 : BitVec 32 := 112#32
  let v163 : BitVec 32 := Scalar.addi v162 c112_i32
  let v164 : Index := Scalar.indexCast v163
  ![v164.toNat]

def k0_chk264 (v172 : IVec S16 32) : Prop :=
  (∀ a x, ((![v172] : Fin 1 → IVec S16 32) a x).toNat < S4096.size a)
theorem k0_idx344_inb : ∀ (v172 : IVec S16 32) (k0_hw264 : k0_chk264 v172), ∀ a x, ((![v172] : Fin 1 → IVec S16 32) a x).toNat < S4096.size a := fun v172 k0_hw264 => k0_hw264
def k0_off179 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_188 : BitVec 32 := 16#32
  let v173 : BitVec 32 := Scalar.muli arg11 c16_i32_188
  let c16_i32_189 : BitVec 32 := 16#32
  let v174 : BitVec 32 := Scalar.muli v173 c16_i32_189
  let c128_i32_190 : BitVec 32 := 128#32
  let v175 : BitVec 32 := Scalar.addi v174 c128_i32_190
  let v176 : Index := Scalar.indexCast v175
  ![v176.toNat]

def k0_chk265 (v184 : IVec S16 32) : Prop :=
  (∀ a x, ((![v184] : Fin 1 → IVec S16 32) a x).toNat < S4096.size a)
theorem k0_idx345_inb : ∀ (v184 : IVec S16 32) (k0_hw265 : k0_chk265 v184), ∀ a x, ((![v184] : Fin 1 → IVec S16 32) a x).toNat < S4096.size a := fun v184 k0_hw265 => k0_hw265
def k0_off180 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_194 : BitVec 32 := 16#32
  let v185 : BitVec 32 := Scalar.muli arg11 c16_i32_194
  let c16_i32_195 : BitVec 32 := 16#32
  let v186 : BitVec 32 := Scalar.muli v185 c16_i32_195
  let c144_i32 : BitVec 32 := 144#32
  let v187 : BitVec 32 := Scalar.addi v186 c144_i32
  let v188 : Index := Scalar.indexCast v187
  ![v188.toNat]

def k0_chk266 (v196 : IVec S16 32) : Prop :=
  (∀ a x, ((![v196] : Fin 1 → IVec S16 32) a x).toNat < S4096.size a)
theorem k0_idx346_inb : ∀ (v196 : IVec S16 32) (k0_hw266 : k0_chk266 v196), ∀ a x, ((![v196] : Fin 1 → IVec S16 32) a x).toNat < S4096.size a := fun v196 k0_hw266 => k0_hw266
def k0_off181 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_199 : BitVec 32 := 16#32
  let v197 : BitVec 32 := Scalar.muli arg11 c16_i32_199
  let c16_i32_200 : BitVec 32 := 16#32
  let v198 : BitVec 32 := Scalar.muli v197 c16_i32_200
  let c160_i32 : BitVec 32 := 160#32
  let v199 : BitVec 32 := Scalar.addi v198 c160_i32
  let v200 : Index := Scalar.indexCast v199
  ![v200.toNat]

def k0_chk267 (v208 : IVec S16 32) : Prop :=
  (∀ a x, ((![v208] : Fin 1 → IVec S16 32) a x).toNat < S4096.size a)
theorem k0_idx347_inb : ∀ (v208 : IVec S16 32) (k0_hw267 : k0_chk267 v208), ∀ a x, ((![v208] : Fin 1 → IVec S16 32) a x).toNat < S4096.size a := fun v208 k0_hw267 => k0_hw267
def k0_off182 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_204 : BitVec 32 := 16#32
  let v209 : BitVec 32 := Scalar.muli arg11 c16_i32_204
  let c16_i32_205 : BitVec 32 := 16#32
  let v210 : BitVec 32 := Scalar.muli v209 c16_i32_205
  let c176_i32 : BitVec 32 := 176#32
  let v211 : BitVec 32 := Scalar.addi v210 c176_i32
  let v212 : Index := Scalar.indexCast v211
  ![v212.toNat]

def k0_chk268 (v220 : IVec S16 32) : Prop :=
  (∀ a x, ((![v220] : Fin 1 → IVec S16 32) a x).toNat < S4096.size a)
theorem k0_idx348_inb : ∀ (v220 : IVec S16 32) (k0_hw268 : k0_chk268 v220), ∀ a x, ((![v220] : Fin 1 → IVec S16 32) a x).toNat < S4096.size a := fun v220 k0_hw268 => k0_hw268
def k0_off183 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_209 : BitVec 32 := 16#32
  let v221 : BitVec 32 := Scalar.muli arg11 c16_i32_209
  let c16_i32_210 : BitVec 32 := 16#32
  let v222 : BitVec 32 := Scalar.muli v221 c16_i32_210
  let c192_i32 : BitVec 32 := 192#32
  let v223 : BitVec 32 := Scalar.addi v222 c192_i32
  let v224 : Index := Scalar.indexCast v223
  ![v224.toNat]

def k0_chk269 (v232 : IVec S16 32) : Prop :=
  (∀ a x, ((![v232] : Fin 1 → IVec S16 32) a x).toNat < S4096.size a)
theorem k0_idx349_inb : ∀ (v232 : IVec S16 32) (k0_hw269 : k0_chk269 v232), ∀ a x, ((![v232] : Fin 1 → IVec S16 32) a x).toNat < S4096.size a := fun v232 k0_hw269 => k0_hw269
def k0_off184 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_214 : BitVec 32 := 16#32
  let v233 : BitVec 32 := Scalar.muli arg11 c16_i32_214
  let c16_i32_215 : BitVec 32 := 16#32
  let v234 : BitVec 32 := Scalar.muli v233 c16_i32_215
  let c208_i32 : BitVec 32 := 208#32
  let v235 : BitVec 32 := Scalar.addi v234 c208_i32
  let v236 : Index := Scalar.indexCast v235
  ![v236.toNat]

def k0_chk270 (v244 : IVec S16 32) : Prop :=
  (∀ a x, ((![v244] : Fin 1 → IVec S16 32) a x).toNat < S4096.size a)
theorem k0_idx350_inb : ∀ (v244 : IVec S16 32) (k0_hw270 : k0_chk270 v244), ∀ a x, ((![v244] : Fin 1 → IVec S16 32) a x).toNat < S4096.size a := fun v244 k0_hw270 => k0_hw270
def k0_off185 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_219 : BitVec 32 := 16#32
  let v245 : BitVec 32 := Scalar.muli arg11 c16_i32_219
  let c16_i32_220 : BitVec 32 := 16#32
  let v246 : BitVec 32 := Scalar.muli v245 c16_i32_220
  let c224_i32 : BitVec 32 := 224#32
  let v247 : BitVec 32 := Scalar.addi v246 c224_i32
  let v248 : Index := Scalar.indexCast v247
  ![v248.toNat]

def k0_chk271 (v256 : IVec S16 32) : Prop :=
  (∀ a x, ((![v256] : Fin 1 → IVec S16 32) a x).toNat < S4096.size a)
theorem k0_idx351_inb : ∀ (v256 : IVec S16 32) (k0_hw271 : k0_chk271 v256), ∀ a x, ((![v256] : Fin 1 → IVec S16 32) a x).toNat < S4096.size a := fun v256 k0_hw271 => k0_hw271
def k0_off186 (k0_t18 : Fin k0_t18_loop.trips) : Fin 1 → Nat :=
  let c0_i32_99 : BitVec 32 := 0#32
  let c1_i32_101 : BitVec 32 := 1#32
  let arg11 : BitVec 32 := Scf.iv c0_i32_99 c1_i32_101 k0_t18
  let c16_i32_224 : BitVec 32 := 16#32
  let v257 : BitVec 32 := Scalar.muli arg11 c16_i32_224
  let c16_i32_225 : BitVec 32 := 16#32
  let v258 : BitVec 32 := Scalar.muli v257 c16_i32_225
  let c240_i32 : BitVec 32 := 240#32
  let v259 : BitVec 32 := Scalar.addi v258 c240_i32
  let v260 : Index := Scalar.indexCast v259
  ![v260.toNat]

def k0_chk272 (v268 : IVec S16 32) : Prop :=
  (∀ a x, ((![v268] : Fin 1 → IVec S16 32) a x).toNat < S4096.size a)
theorem k0_idx352_inb : ∀ (v268 : IVec S16 32) (k0_hw272 : k0_chk272 v268), ∀ a x, ((![v268] : Fin 1 → IVec S16 32) a x).toNat < S4096.size a := fun v268 k0_hw272 => k0_hw272
@[reducible] def k0_t19_loop : Scf.Loop 32 :=
  let c0_i32_104 : BitVec 32 := 0#32
  let c256_i32_105 : BitVec 32 := 256#32
  let v54 : BitVec 32 := Scalar.addi c0_i32_104 c256_i32_105
  let c1_i32_106 : BitVec 32 := 1#32
  ⟨c0_i32_104, v54, c1_i32_106⟩
def k0_off187 (k0_t19 : Fin k0_t19_loop.trips) : Fin 1 → Nat :=
  let c0_i32_104 : BitVec 32 := 0#32
  let c1_i32_106 : BitVec 32 := 1#32
  let arg11 : BitVec 32 := Scf.iv c0_i32_104 c1_i32_106 k0_t19
  let c16_i32_149 : BitVec 32 := 16#32
  let v77 : BitVec 32 := Scalar.muli arg11 c16_i32_149
  let v78 : Index := Scalar.indexCast v77
  ![v78.toNat]
@[reducible] def k0_t20_loop : Scf.Loop 32 :=
  let c0_i32_111 : BitVec 32 := 0#32
  let c128_i32_112 : BitVec 32 := 128#32
  let v60 : BitVec 32 := Scalar.addi c0_i32_111 c128_i32_112
  let c1_i32_113 : BitVec 32 := 1#32
  ⟨c0_i32_111, v60, c1_i32_113⟩
def k0_off188 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk273 (v88 : IVec S16 32) : Prop :=
  (∀ a x, ((![v88] : Fin 1 → IVec S16 32) a x).toNat < S4096.size a) ∧
  (∀ a x, ((![v88] : Fin 1 → IVec S16 32) a x).toNat < S4096.size a)
theorem k0_idx353_inb : ∀ (v88 : IVec S16 32) (k0_hw273 : k0_chk273 v88), ∀ a x, ((![v88] : Fin 1 → IVec S16 32) a x).toNat < S4096.size a := fun v88 k0_hw273 => k0_hw273.1
theorem k0_idx354_inb : ∀ (v88 : IVec S16 32) (k0_hw273 : k0_chk273 v88), ∀ a x, ((![v88] : Fin 1 → IVec S16 32) a x).toNat < S4096.size a := fun v88 k0_hw273 => k0_hw273.2

def k0_chk274 (v92 : IVec S16 32) : Prop :=
  (∀ a x, ((![v92] : Fin 1 → IVec S16 32) a x).toNat < S32768.size a)
theorem k0_idx355_inb : ∀ (v92 : IVec S16 32) (k0_hw274 : k0_chk274 v92), ∀ a x, ((![v92] : Fin 1 → IVec S16 32) a x).toNat < S32768.size a := fun v92 k0_hw274 => k0_hw274

def k0_chk275 (v112 : IVec S16 32) : Prop :=
  (∀ a x, ((![v112] : Fin 1 → IVec S16 32) a x).toNat < S32768.size a)
theorem k0_idx356_inb : ∀ (v112 : IVec S16 32) (k0_hw275 : k0_chk275 v112), ∀ a x, ((![v112] : Fin 1 → IVec S16 32) a x).toNat < S32768.size a := fun v112 k0_hw275 => k0_hw275
def k0_off189 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_156 : BitVec 32 := 16#32
  let v113 : BitVec 32 := Scalar.muli arg11 c16_i32_156
  let c16_i32_157 : BitVec 32 := 16#32
  let v114 : BitVec 32 := Scalar.muli v113 c16_i32_157
  let c16_i32_158 : BitVec 32 := 16#32
  let v115 : BitVec 32 := Scalar.addi v114 c16_i32_158
  let v116 : Index := Scalar.indexCast v115
  ![v116.toNat]

def k0_chk276 (v124 : IVec S16 32) : Prop :=
  (∀ a x, ((![v124] : Fin 1 → IVec S16 32) a x).toNat < S4096.size a) ∧
  (∀ a x, ((![v124] : Fin 1 → IVec S16 32) a x).toNat < S4096.size a)
theorem k0_idx357_inb : ∀ (v124 : IVec S16 32) (k0_hw276 : k0_chk276 v124), ∀ a x, ((![v124] : Fin 1 → IVec S16 32) a x).toNat < S4096.size a := fun v124 k0_hw276 => k0_hw276.1
theorem k0_idx358_inb : ∀ (v124 : IVec S16 32) (k0_hw276 : k0_chk276 v124), ∀ a x, ((![v124] : Fin 1 → IVec S16 32) a x).toNat < S4096.size a := fun v124 k0_hw276 => k0_hw276.2

def k0_chk277 (v128 : IVec S16 32) : Prop :=
  (∀ a x, ((![v128] : Fin 1 → IVec S16 32) a x).toNat < S32768.size a)
theorem k0_idx359_inb : ∀ (v128 : IVec S16 32) (k0_hw277 : k0_chk277 v128), ∀ a x, ((![v128] : Fin 1 → IVec S16 32) a x).toNat < S32768.size a := fun v128 k0_hw277 => k0_hw277

def k0_chk278 (v148 : IVec S16 32) : Prop :=
  (∀ a x, ((![v148] : Fin 1 → IVec S16 32) a x).toNat < S32768.size a)
theorem k0_idx360_inb : ∀ (v148 : IVec S16 32) (k0_hw278 : k0_chk278 v148), ∀ a x, ((![v148] : Fin 1 → IVec S16 32) a x).toNat < S32768.size a := fun v148 k0_hw278 => k0_hw278
def k0_off190 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_171 : BitVec 32 := 16#32
  let v149 : BitVec 32 := Scalar.muli arg11 c16_i32_171
  let c16_i32_172 : BitVec 32 := 16#32
  let v150 : BitVec 32 := Scalar.muli v149 c16_i32_172
  let c32_i32 : BitVec 32 := 32#32
  let v151 : BitVec 32 := Scalar.addi v150 c32_i32
  let v152 : Index := Scalar.indexCast v151
  ![v152.toNat]

def k0_chk279 (v160 : IVec S16 32) : Prop :=
  (∀ a x, ((![v160] : Fin 1 → IVec S16 32) a x).toNat < S4096.size a) ∧
  (∀ a x, ((![v160] : Fin 1 → IVec S16 32) a x).toNat < S4096.size a)
theorem k0_idx361_inb : ∀ (v160 : IVec S16 32) (k0_hw279 : k0_chk279 v160), ∀ a x, ((![v160] : Fin 1 → IVec S16 32) a x).toNat < S4096.size a := fun v160 k0_hw279 => k0_hw279.1
theorem k0_idx362_inb : ∀ (v160 : IVec S16 32) (k0_hw279 : k0_chk279 v160), ∀ a x, ((![v160] : Fin 1 → IVec S16 32) a x).toNat < S4096.size a := fun v160 k0_hw279 => k0_hw279.2

def k0_chk280 (v164 : IVec S16 32) : Prop :=
  (∀ a x, ((![v164] : Fin 1 → IVec S16 32) a x).toNat < S32768.size a)
theorem k0_idx363_inb : ∀ (v164 : IVec S16 32) (k0_hw280 : k0_chk280 v164), ∀ a x, ((![v164] : Fin 1 → IVec S16 32) a x).toNat < S32768.size a := fun v164 k0_hw280 => k0_hw280

def k0_chk281 (v184 : IVec S16 32) : Prop :=
  (∀ a x, ((![v184] : Fin 1 → IVec S16 32) a x).toNat < S32768.size a)
theorem k0_idx364_inb : ∀ (v184 : IVec S16 32) (k0_hw281 : k0_chk281 v184), ∀ a x, ((![v184] : Fin 1 → IVec S16 32) a x).toNat < S32768.size a := fun v184 k0_hw281 => k0_hw281
def k0_off191 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_185 : BitVec 32 := 16#32
  let v185 : BitVec 32 := Scalar.muli arg11 c16_i32_185
  let c16_i32_186 : BitVec 32 := 16#32
  let v186 : BitVec 32 := Scalar.muli v185 c16_i32_186
  let c48_i32 : BitVec 32 := 48#32
  let v187 : BitVec 32 := Scalar.addi v186 c48_i32
  let v188 : Index := Scalar.indexCast v187
  ![v188.toNat]

def k0_chk282 (v196 : IVec S16 32) : Prop :=
  (∀ a x, ((![v196] : Fin 1 → IVec S16 32) a x).toNat < S4096.size a) ∧
  (∀ a x, ((![v196] : Fin 1 → IVec S16 32) a x).toNat < S4096.size a)
theorem k0_idx365_inb : ∀ (v196 : IVec S16 32) (k0_hw282 : k0_chk282 v196), ∀ a x, ((![v196] : Fin 1 → IVec S16 32) a x).toNat < S4096.size a := fun v196 k0_hw282 => k0_hw282.1
theorem k0_idx366_inb : ∀ (v196 : IVec S16 32) (k0_hw282 : k0_chk282 v196), ∀ a x, ((![v196] : Fin 1 → IVec S16 32) a x).toNat < S4096.size a := fun v196 k0_hw282 => k0_hw282.2

def k0_chk283 (v200 : IVec S16 32) : Prop :=
  (∀ a x, ((![v200] : Fin 1 → IVec S16 32) a x).toNat < S32768.size a)
theorem k0_idx367_inb : ∀ (v200 : IVec S16 32) (k0_hw283 : k0_chk283 v200), ∀ a x, ((![v200] : Fin 1 → IVec S16 32) a x).toNat < S32768.size a := fun v200 k0_hw283 => k0_hw283

def k0_chk284 (v220 : IVec S16 32) : Prop :=
  (∀ a x, ((![v220] : Fin 1 → IVec S16 32) a x).toNat < S32768.size a)
theorem k0_idx368_inb : ∀ (v220 : IVec S16 32) (k0_hw284 : k0_chk284 v220), ∀ a x, ((![v220] : Fin 1 → IVec S16 32) a x).toNat < S32768.size a := fun v220 k0_hw284 => k0_hw284
def k0_off192 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_199 : BitVec 32 := 16#32
  let v221 : BitVec 32 := Scalar.muli arg11 c16_i32_199
  let c16_i32_200 : BitVec 32 := 16#32
  let v222 : BitVec 32 := Scalar.muli v221 c16_i32_200
  let c64_i32 : BitVec 32 := 64#32
  let v223 : BitVec 32 := Scalar.addi v222 c64_i32
  let v224 : Index := Scalar.indexCast v223
  ![v224.toNat]

def k0_chk285 (v232 : IVec S16 32) : Prop :=
  (∀ a x, ((![v232] : Fin 1 → IVec S16 32) a x).toNat < S4096.size a) ∧
  (∀ a x, ((![v232] : Fin 1 → IVec S16 32) a x).toNat < S4096.size a)
theorem k0_idx369_inb : ∀ (v232 : IVec S16 32) (k0_hw285 : k0_chk285 v232), ∀ a x, ((![v232] : Fin 1 → IVec S16 32) a x).toNat < S4096.size a := fun v232 k0_hw285 => k0_hw285.1
theorem k0_idx370_inb : ∀ (v232 : IVec S16 32) (k0_hw285 : k0_chk285 v232), ∀ a x, ((![v232] : Fin 1 → IVec S16 32) a x).toNat < S4096.size a := fun v232 k0_hw285 => k0_hw285.2

def k0_chk286 (v236 : IVec S16 32) : Prop :=
  (∀ a x, ((![v236] : Fin 1 → IVec S16 32) a x).toNat < S32768.size a)
theorem k0_idx371_inb : ∀ (v236 : IVec S16 32) (k0_hw286 : k0_chk286 v236), ∀ a x, ((![v236] : Fin 1 → IVec S16 32) a x).toNat < S32768.size a := fun v236 k0_hw286 => k0_hw286

def k0_chk287 (v256 : IVec S16 32) : Prop :=
  (∀ a x, ((![v256] : Fin 1 → IVec S16 32) a x).toNat < S32768.size a)
theorem k0_idx372_inb : ∀ (v256 : IVec S16 32) (k0_hw287 : k0_chk287 v256), ∀ a x, ((![v256] : Fin 1 → IVec S16 32) a x).toNat < S32768.size a := fun v256 k0_hw287 => k0_hw287
def k0_off193 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_213 : BitVec 32 := 16#32
  let v257 : BitVec 32 := Scalar.muli arg11 c16_i32_213
  let c16_i32_214 : BitVec 32 := 16#32
  let v258 : BitVec 32 := Scalar.muli v257 c16_i32_214
  let c80_i32 : BitVec 32 := 80#32
  let v259 : BitVec 32 := Scalar.addi v258 c80_i32
  let v260 : Index := Scalar.indexCast v259
  ![v260.toNat]

def k0_chk288 (v268 : IVec S16 32) : Prop :=
  (∀ a x, ((![v268] : Fin 1 → IVec S16 32) a x).toNat < S4096.size a) ∧
  (∀ a x, ((![v268] : Fin 1 → IVec S16 32) a x).toNat < S4096.size a)
theorem k0_idx373_inb : ∀ (v268 : IVec S16 32) (k0_hw288 : k0_chk288 v268), ∀ a x, ((![v268] : Fin 1 → IVec S16 32) a x).toNat < S4096.size a := fun v268 k0_hw288 => k0_hw288.1
theorem k0_idx374_inb : ∀ (v268 : IVec S16 32) (k0_hw288 : k0_chk288 v268), ∀ a x, ((![v268] : Fin 1 → IVec S16 32) a x).toNat < S4096.size a := fun v268 k0_hw288 => k0_hw288.2

def k0_chk289 (v272 : IVec S16 32) : Prop :=
  (∀ a x, ((![v272] : Fin 1 → IVec S16 32) a x).toNat < S32768.size a)
theorem k0_idx375_inb : ∀ (v272 : IVec S16 32) (k0_hw289 : k0_chk289 v272), ∀ a x, ((![v272] : Fin 1 → IVec S16 32) a x).toNat < S32768.size a := fun v272 k0_hw289 => k0_hw289

def k0_chk290 (v292 : IVec S16 32) : Prop :=
  (∀ a x, ((![v292] : Fin 1 → IVec S16 32) a x).toNat < S32768.size a)
theorem k0_idx376_inb : ∀ (v292 : IVec S16 32) (k0_hw290 : k0_chk290 v292), ∀ a x, ((![v292] : Fin 1 → IVec S16 32) a x).toNat < S32768.size a := fun v292 k0_hw290 => k0_hw290
def k0_off194 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_227 : BitVec 32 := 16#32
  let v293 : BitVec 32 := Scalar.muli arg11 c16_i32_227
  let c16_i32_228 : BitVec 32 := 16#32
  let v294 : BitVec 32 := Scalar.muli v293 c16_i32_228
  let c96_i32 : BitVec 32 := 96#32
  let v295 : BitVec 32 := Scalar.addi v294 c96_i32
  let v296 : Index := Scalar.indexCast v295
  ![v296.toNat]

def k0_chk291 (v304 : IVec S16 32) : Prop :=
  (∀ a x, ((![v304] : Fin 1 → IVec S16 32) a x).toNat < S4096.size a) ∧
  (∀ a x, ((![v304] : Fin 1 → IVec S16 32) a x).toNat < S4096.size a)
theorem k0_idx377_inb : ∀ (v304 : IVec S16 32) (k0_hw291 : k0_chk291 v304), ∀ a x, ((![v304] : Fin 1 → IVec S16 32) a x).toNat < S4096.size a := fun v304 k0_hw291 => k0_hw291.1
theorem k0_idx378_inb : ∀ (v304 : IVec S16 32) (k0_hw291 : k0_chk291 v304), ∀ a x, ((![v304] : Fin 1 → IVec S16 32) a x).toNat < S4096.size a := fun v304 k0_hw291 => k0_hw291.2

def k0_chk292 (v308 : IVec S16 32) : Prop :=
  (∀ a x, ((![v308] : Fin 1 → IVec S16 32) a x).toNat < S32768.size a)
theorem k0_idx379_inb : ∀ (v308 : IVec S16 32) (k0_hw292 : k0_chk292 v308), ∀ a x, ((![v308] : Fin 1 → IVec S16 32) a x).toNat < S32768.size a := fun v308 k0_hw292 => k0_hw292

def k0_chk293 (v328 : IVec S16 32) : Prop :=
  (∀ a x, ((![v328] : Fin 1 → IVec S16 32) a x).toNat < S32768.size a)
theorem k0_idx380_inb : ∀ (v328 : IVec S16 32) (k0_hw293 : k0_chk293 v328), ∀ a x, ((![v328] : Fin 1 → IVec S16 32) a x).toNat < S32768.size a := fun v328 k0_hw293 => k0_hw293
def k0_off195 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_241 : BitVec 32 := 16#32
  let v329 : BitVec 32 := Scalar.muli arg11 c16_i32_241
  let c16_i32_242 : BitVec 32 := 16#32
  let v330 : BitVec 32 := Scalar.muli v329 c16_i32_242
  let c112_i32 : BitVec 32 := 112#32
  let v331 : BitVec 32 := Scalar.addi v330 c112_i32
  let v332 : Index := Scalar.indexCast v331
  ![v332.toNat]

def k0_chk294 (v340 : IVec S16 32) : Prop :=
  (∀ a x, ((![v340] : Fin 1 → IVec S16 32) a x).toNat < S4096.size a) ∧
  (∀ a x, ((![v340] : Fin 1 → IVec S16 32) a x).toNat < S4096.size a)
theorem k0_idx381_inb : ∀ (v340 : IVec S16 32) (k0_hw294 : k0_chk294 v340), ∀ a x, ((![v340] : Fin 1 → IVec S16 32) a x).toNat < S4096.size a := fun v340 k0_hw294 => k0_hw294.1
theorem k0_idx382_inb : ∀ (v340 : IVec S16 32) (k0_hw294 : k0_chk294 v340), ∀ a x, ((![v340] : Fin 1 → IVec S16 32) a x).toNat < S4096.size a := fun v340 k0_hw294 => k0_hw294.2

def k0_chk295 (v344 : IVec S16 32) : Prop :=
  (∀ a x, ((![v344] : Fin 1 → IVec S16 32) a x).toNat < S32768.size a)
theorem k0_idx383_inb : ∀ (v344 : IVec S16 32) (k0_hw295 : k0_chk295 v344), ∀ a x, ((![v344] : Fin 1 → IVec S16 32) a x).toNat < S32768.size a := fun v344 k0_hw295 => k0_hw295

def k0_chk296 (v364 : IVec S16 32) : Prop :=
  (∀ a x, ((![v364] : Fin 1 → IVec S16 32) a x).toNat < S32768.size a)
theorem k0_idx384_inb : ∀ (v364 : IVec S16 32) (k0_hw296 : k0_chk296 v364), ∀ a x, ((![v364] : Fin 1 → IVec S16 32) a x).toNat < S32768.size a := fun v364 k0_hw296 => k0_hw296
def k0_off196 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_255 : BitVec 32 := 16#32
  let v365 : BitVec 32 := Scalar.muli arg11 c16_i32_255
  let c16_i32_256 : BitVec 32 := 16#32
  let v366 : BitVec 32 := Scalar.muli v365 c16_i32_256
  let c128_i32_257 : BitVec 32 := 128#32
  let v367 : BitVec 32 := Scalar.addi v366 c128_i32_257
  let v368 : Index := Scalar.indexCast v367
  ![v368.toNat]

def k0_chk297 (v376 : IVec S16 32) : Prop :=
  (∀ a x, ((![v376] : Fin 1 → IVec S16 32) a x).toNat < S4096.size a) ∧
  (∀ a x, ((![v376] : Fin 1 → IVec S16 32) a x).toNat < S4096.size a)
theorem k0_idx385_inb : ∀ (v376 : IVec S16 32) (k0_hw297 : k0_chk297 v376), ∀ a x, ((![v376] : Fin 1 → IVec S16 32) a x).toNat < S4096.size a := fun v376 k0_hw297 => k0_hw297.1
theorem k0_idx386_inb : ∀ (v376 : IVec S16 32) (k0_hw297 : k0_chk297 v376), ∀ a x, ((![v376] : Fin 1 → IVec S16 32) a x).toNat < S4096.size a := fun v376 k0_hw297 => k0_hw297.2

def k0_chk298 (v380 : IVec S16 32) : Prop :=
  (∀ a x, ((![v380] : Fin 1 → IVec S16 32) a x).toNat < S32768.size a)
theorem k0_idx387_inb : ∀ (v380 : IVec S16 32) (k0_hw298 : k0_chk298 v380), ∀ a x, ((![v380] : Fin 1 → IVec S16 32) a x).toNat < S32768.size a := fun v380 k0_hw298 => k0_hw298

def k0_chk299 (v400 : IVec S16 32) : Prop :=
  (∀ a x, ((![v400] : Fin 1 → IVec S16 32) a x).toNat < S32768.size a)
theorem k0_idx388_inb : ∀ (v400 : IVec S16 32) (k0_hw299 : k0_chk299 v400), ∀ a x, ((![v400] : Fin 1 → IVec S16 32) a x).toNat < S32768.size a := fun v400 k0_hw299 => k0_hw299
def k0_off197 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_270 : BitVec 32 := 16#32
  let v401 : BitVec 32 := Scalar.muli arg11 c16_i32_270
  let c16_i32_271 : BitVec 32 := 16#32
  let v402 : BitVec 32 := Scalar.muli v401 c16_i32_271
  let c144_i32 : BitVec 32 := 144#32
  let v403 : BitVec 32 := Scalar.addi v402 c144_i32
  let v404 : Index := Scalar.indexCast v403
  ![v404.toNat]

def k0_chk300 (v412 : IVec S16 32) : Prop :=
  (∀ a x, ((![v412] : Fin 1 → IVec S16 32) a x).toNat < S4096.size a) ∧
  (∀ a x, ((![v412] : Fin 1 → IVec S16 32) a x).toNat < S4096.size a)
theorem k0_idx389_inb : ∀ (v412 : IVec S16 32) (k0_hw300 : k0_chk300 v412), ∀ a x, ((![v412] : Fin 1 → IVec S16 32) a x).toNat < S4096.size a := fun v412 k0_hw300 => k0_hw300.1
theorem k0_idx390_inb : ∀ (v412 : IVec S16 32) (k0_hw300 : k0_chk300 v412), ∀ a x, ((![v412] : Fin 1 → IVec S16 32) a x).toNat < S4096.size a := fun v412 k0_hw300 => k0_hw300.2

def k0_chk301 (v416 : IVec S16 32) : Prop :=
  (∀ a x, ((![v416] : Fin 1 → IVec S16 32) a x).toNat < S32768.size a)
theorem k0_idx391_inb : ∀ (v416 : IVec S16 32) (k0_hw301 : k0_chk301 v416), ∀ a x, ((![v416] : Fin 1 → IVec S16 32) a x).toNat < S32768.size a := fun v416 k0_hw301 => k0_hw301

def k0_chk302 (v436 : IVec S16 32) : Prop :=
  (∀ a x, ((![v436] : Fin 1 → IVec S16 32) a x).toNat < S32768.size a)
theorem k0_idx392_inb : ∀ (v436 : IVec S16 32) (k0_hw302 : k0_chk302 v436), ∀ a x, ((![v436] : Fin 1 → IVec S16 32) a x).toNat < S32768.size a := fun v436 k0_hw302 => k0_hw302
def k0_off198 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_284 : BitVec 32 := 16#32
  let v437 : BitVec 32 := Scalar.muli arg11 c16_i32_284
  let c16_i32_285 : BitVec 32 := 16#32
  let v438 : BitVec 32 := Scalar.muli v437 c16_i32_285
  let c160_i32 : BitVec 32 := 160#32
  let v439 : BitVec 32 := Scalar.addi v438 c160_i32
  let v440 : Index := Scalar.indexCast v439
  ![v440.toNat]

def k0_chk303 (v448 : IVec S16 32) : Prop :=
  (∀ a x, ((![v448] : Fin 1 → IVec S16 32) a x).toNat < S4096.size a) ∧
  (∀ a x, ((![v448] : Fin 1 → IVec S16 32) a x).toNat < S4096.size a)
theorem k0_idx393_inb : ∀ (v448 : IVec S16 32) (k0_hw303 : k0_chk303 v448), ∀ a x, ((![v448] : Fin 1 → IVec S16 32) a x).toNat < S4096.size a := fun v448 k0_hw303 => k0_hw303.1
theorem k0_idx394_inb : ∀ (v448 : IVec S16 32) (k0_hw303 : k0_chk303 v448), ∀ a x, ((![v448] : Fin 1 → IVec S16 32) a x).toNat < S4096.size a := fun v448 k0_hw303 => k0_hw303.2

def k0_chk304 (v452 : IVec S16 32) : Prop :=
  (∀ a x, ((![v452] : Fin 1 → IVec S16 32) a x).toNat < S32768.size a)
theorem k0_idx395_inb : ∀ (v452 : IVec S16 32) (k0_hw304 : k0_chk304 v452), ∀ a x, ((![v452] : Fin 1 → IVec S16 32) a x).toNat < S32768.size a := fun v452 k0_hw304 => k0_hw304

def k0_chk305 (v472 : IVec S16 32) : Prop :=
  (∀ a x, ((![v472] : Fin 1 → IVec S16 32) a x).toNat < S32768.size a)
theorem k0_idx396_inb : ∀ (v472 : IVec S16 32) (k0_hw305 : k0_chk305 v472), ∀ a x, ((![v472] : Fin 1 → IVec S16 32) a x).toNat < S32768.size a := fun v472 k0_hw305 => k0_hw305
def k0_off199 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_298 : BitVec 32 := 16#32
  let v473 : BitVec 32 := Scalar.muli arg11 c16_i32_298
  let c16_i32_299 : BitVec 32 := 16#32
  let v474 : BitVec 32 := Scalar.muli v473 c16_i32_299
  let c176_i32 : BitVec 32 := 176#32
  let v475 : BitVec 32 := Scalar.addi v474 c176_i32
  let v476 : Index := Scalar.indexCast v475
  ![v476.toNat]

def k0_chk306 (v484 : IVec S16 32) : Prop :=
  (∀ a x, ((![v484] : Fin 1 → IVec S16 32) a x).toNat < S4096.size a) ∧
  (∀ a x, ((![v484] : Fin 1 → IVec S16 32) a x).toNat < S4096.size a)
theorem k0_idx397_inb : ∀ (v484 : IVec S16 32) (k0_hw306 : k0_chk306 v484), ∀ a x, ((![v484] : Fin 1 → IVec S16 32) a x).toNat < S4096.size a := fun v484 k0_hw306 => k0_hw306.1
theorem k0_idx398_inb : ∀ (v484 : IVec S16 32) (k0_hw306 : k0_chk306 v484), ∀ a x, ((![v484] : Fin 1 → IVec S16 32) a x).toNat < S4096.size a := fun v484 k0_hw306 => k0_hw306.2

def k0_chk307 (v488 : IVec S16 32) : Prop :=
  (∀ a x, ((![v488] : Fin 1 → IVec S16 32) a x).toNat < S32768.size a)
theorem k0_idx399_inb : ∀ (v488 : IVec S16 32) (k0_hw307 : k0_chk307 v488), ∀ a x, ((![v488] : Fin 1 → IVec S16 32) a x).toNat < S32768.size a := fun v488 k0_hw307 => k0_hw307

def k0_chk308 (v508 : IVec S16 32) : Prop :=
  (∀ a x, ((![v508] : Fin 1 → IVec S16 32) a x).toNat < S32768.size a)
theorem k0_idx400_inb : ∀ (v508 : IVec S16 32) (k0_hw308 : k0_chk308 v508), ∀ a x, ((![v508] : Fin 1 → IVec S16 32) a x).toNat < S32768.size a := fun v508 k0_hw308 => k0_hw308
def k0_off200 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_312 : BitVec 32 := 16#32
  let v509 : BitVec 32 := Scalar.muli arg11 c16_i32_312
  let c16_i32_313 : BitVec 32 := 16#32
  let v510 : BitVec 32 := Scalar.muli v509 c16_i32_313
  let c192_i32 : BitVec 32 := 192#32
  let v511 : BitVec 32 := Scalar.addi v510 c192_i32
  let v512 : Index := Scalar.indexCast v511
  ![v512.toNat]

def k0_chk309 (v520 : IVec S16 32) : Prop :=
  (∀ a x, ((![v520] : Fin 1 → IVec S16 32) a x).toNat < S4096.size a) ∧
  (∀ a x, ((![v520] : Fin 1 → IVec S16 32) a x).toNat < S4096.size a)
theorem k0_idx401_inb : ∀ (v520 : IVec S16 32) (k0_hw309 : k0_chk309 v520), ∀ a x, ((![v520] : Fin 1 → IVec S16 32) a x).toNat < S4096.size a := fun v520 k0_hw309 => k0_hw309.1
theorem k0_idx402_inb : ∀ (v520 : IVec S16 32) (k0_hw309 : k0_chk309 v520), ∀ a x, ((![v520] : Fin 1 → IVec S16 32) a x).toNat < S4096.size a := fun v520 k0_hw309 => k0_hw309.2

def k0_chk310 (v524 : IVec S16 32) : Prop :=
  (∀ a x, ((![v524] : Fin 1 → IVec S16 32) a x).toNat < S32768.size a)
theorem k0_idx403_inb : ∀ (v524 : IVec S16 32) (k0_hw310 : k0_chk310 v524), ∀ a x, ((![v524] : Fin 1 → IVec S16 32) a x).toNat < S32768.size a := fun v524 k0_hw310 => k0_hw310

def k0_chk311 (v544 : IVec S16 32) : Prop :=
  (∀ a x, ((![v544] : Fin 1 → IVec S16 32) a x).toNat < S32768.size a)
theorem k0_idx404_inb : ∀ (v544 : IVec S16 32) (k0_hw311 : k0_chk311 v544), ∀ a x, ((![v544] : Fin 1 → IVec S16 32) a x).toNat < S32768.size a := fun v544 k0_hw311 => k0_hw311
def k0_off201 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_326 : BitVec 32 := 16#32
  let v545 : BitVec 32 := Scalar.muli arg11 c16_i32_326
  let c16_i32_327 : BitVec 32 := 16#32
  let v546 : BitVec 32 := Scalar.muli v545 c16_i32_327
  let c208_i32 : BitVec 32 := 208#32
  let v547 : BitVec 32 := Scalar.addi v546 c208_i32
  let v548 : Index := Scalar.indexCast v547
  ![v548.toNat]

def k0_chk312 (v556 : IVec S16 32) : Prop :=
  (∀ a x, ((![v556] : Fin 1 → IVec S16 32) a x).toNat < S4096.size a) ∧
  (∀ a x, ((![v556] : Fin 1 → IVec S16 32) a x).toNat < S4096.size a)
theorem k0_idx405_inb : ∀ (v556 : IVec S16 32) (k0_hw312 : k0_chk312 v556), ∀ a x, ((![v556] : Fin 1 → IVec S16 32) a x).toNat < S4096.size a := fun v556 k0_hw312 => k0_hw312.1
theorem k0_idx406_inb : ∀ (v556 : IVec S16 32) (k0_hw312 : k0_chk312 v556), ∀ a x, ((![v556] : Fin 1 → IVec S16 32) a x).toNat < S4096.size a := fun v556 k0_hw312 => k0_hw312.2

def k0_chk313 (v560 : IVec S16 32) : Prop :=
  (∀ a x, ((![v560] : Fin 1 → IVec S16 32) a x).toNat < S32768.size a)
theorem k0_idx407_inb : ∀ (v560 : IVec S16 32) (k0_hw313 : k0_chk313 v560), ∀ a x, ((![v560] : Fin 1 → IVec S16 32) a x).toNat < S32768.size a := fun v560 k0_hw313 => k0_hw313

def k0_chk314 (v580 : IVec S16 32) : Prop :=
  (∀ a x, ((![v580] : Fin 1 → IVec S16 32) a x).toNat < S32768.size a)
theorem k0_idx408_inb : ∀ (v580 : IVec S16 32) (k0_hw314 : k0_chk314 v580), ∀ a x, ((![v580] : Fin 1 → IVec S16 32) a x).toNat < S32768.size a := fun v580 k0_hw314 => k0_hw314
def k0_off202 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_340 : BitVec 32 := 16#32
  let v581 : BitVec 32 := Scalar.muli arg11 c16_i32_340
  let c16_i32_341 : BitVec 32 := 16#32
  let v582 : BitVec 32 := Scalar.muli v581 c16_i32_341
  let c224_i32 : BitVec 32 := 224#32
  let v583 : BitVec 32 := Scalar.addi v582 c224_i32
  let v584 : Index := Scalar.indexCast v583
  ![v584.toNat]

def k0_chk315 (v592 : IVec S16 32) : Prop :=
  (∀ a x, ((![v592] : Fin 1 → IVec S16 32) a x).toNat < S4096.size a) ∧
  (∀ a x, ((![v592] : Fin 1 → IVec S16 32) a x).toNat < S4096.size a)
theorem k0_idx409_inb : ∀ (v592 : IVec S16 32) (k0_hw315 : k0_chk315 v592), ∀ a x, ((![v592] : Fin 1 → IVec S16 32) a x).toNat < S4096.size a := fun v592 k0_hw315 => k0_hw315.1
theorem k0_idx410_inb : ∀ (v592 : IVec S16 32) (k0_hw315 : k0_chk315 v592), ∀ a x, ((![v592] : Fin 1 → IVec S16 32) a x).toNat < S4096.size a := fun v592 k0_hw315 => k0_hw315.2

def k0_chk316 (v596 : IVec S16 32) : Prop :=
  (∀ a x, ((![v596] : Fin 1 → IVec S16 32) a x).toNat < S32768.size a)
theorem k0_idx411_inb : ∀ (v596 : IVec S16 32) (k0_hw316 : k0_chk316 v596), ∀ a x, ((![v596] : Fin 1 → IVec S16 32) a x).toNat < S32768.size a := fun v596 k0_hw316 => k0_hw316

def k0_chk317 (v616 : IVec S16 32) : Prop :=
  (∀ a x, ((![v616] : Fin 1 → IVec S16 32) a x).toNat < S32768.size a)
theorem k0_idx412_inb : ∀ (v616 : IVec S16 32) (k0_hw317 : k0_chk317 v616), ∀ a x, ((![v616] : Fin 1 → IVec S16 32) a x).toNat < S32768.size a := fun v616 k0_hw317 => k0_hw317
def k0_off203 (k0_t20 : Fin k0_t20_loop.trips) : Fin 1 → Nat :=
  let c0_i32_111 : BitVec 32 := 0#32
  let c1_i32_113 : BitVec 32 := 1#32
  let arg11 : BitVec 32 := Scf.iv c0_i32_111 c1_i32_113 k0_t20
  let c16_i32_354 : BitVec 32 := 16#32
  let v617 : BitVec 32 := Scalar.muli arg11 c16_i32_354
  let c16_i32_355 : BitVec 32 := 16#32
  let v618 : BitVec 32 := Scalar.muli v617 c16_i32_355
  let c240_i32 : BitVec 32 := 240#32
  let v619 : BitVec 32 := Scalar.addi v618 c240_i32
  let v620 : Index := Scalar.indexCast v619
  ![v620.toNat]

def k0_chk318 (v628 : IVec S16 32) : Prop :=
  (∀ a x, ((![v628] : Fin 1 → IVec S16 32) a x).toNat < S4096.size a) ∧
  (∀ a x, ((![v628] : Fin 1 → IVec S16 32) a x).toNat < S4096.size a)
theorem k0_idx413_inb : ∀ (v628 : IVec S16 32) (k0_hw318 : k0_chk318 v628), ∀ a x, ((![v628] : Fin 1 → IVec S16 32) a x).toNat < S4096.size a := fun v628 k0_hw318 => k0_hw318.1
theorem k0_idx414_inb : ∀ (v628 : IVec S16 32) (k0_hw318 : k0_chk318 v628), ∀ a x, ((![v628] : Fin 1 → IVec S16 32) a x).toNat < S4096.size a := fun v628 k0_hw318 => k0_hw318.2

def k0_chk319 (v632 : IVec S16 32) : Prop :=
  (∀ a x, ((![v632] : Fin 1 → IVec S16 32) a x).toNat < S32768.size a)
theorem k0_idx415_inb : ∀ (v632 : IVec S16 32) (k0_hw319 : k0_chk319 v632), ∀ a x, ((![v632] : Fin 1 → IVec S16 32) a x).toNat < S32768.size a := fun v632 k0_hw319 => k0_hw319

def k0_chk320 (v652 : IVec S16 32) : Prop :=
  (∀ a x, ((![v652] : Fin 1 → IVec S16 32) a x).toNat < S32768.size a)
theorem k0_idx416_inb : ∀ (v652 : IVec S16 32) (k0_hw320 : k0_chk320 v652), ∀ a x, ((![v652] : Fin 1 → IVec S16 32) a x).toNat < S32768.size a := fun v652 k0_hw320 => k0_hw320
@[reducible] def k0_t21_loop : Scf.Loop 32 :=
  let c0_i32_116 : BitVec 32 := 0#32
  let c128_i32_117 : BitVec 32 := 128#32
  let v61 : BitVec 32 := Scalar.addi c0_i32_116 c128_i32_117
  let c1_i32_118 : BitVec 32 := 1#32
  ⟨c0_i32_116, v61, c1_i32_118⟩
def k0_off204 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk321 (v88 : IVec S16 32) : Prop :=
  (∀ a x, ((![v88] : Fin 1 → IVec S16 32) a x).toNat < S4096.size a)
theorem k0_idx417_inb : ∀ (v88 : IVec S16 32) (k0_hw321 : k0_chk321 v88), ∀ a x, ((![v88] : Fin 1 → IVec S16 32) a x).toNat < S4096.size a := fun v88 k0_hw321 => k0_hw321
def k0_off205 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_152 : BitVec 32 := 16#32
  let v89 : BitVec 32 := Scalar.muli arg11 c16_i32_152
  let c16_i32_153 : BitVec 32 := 16#32
  let v90 : BitVec 32 := Scalar.muli v89 c16_i32_153
  let c16_i32_154 : BitVec 32 := 16#32
  let v91 : BitVec 32 := Scalar.addi v90 c16_i32_154
  let v92 : Index := Scalar.indexCast v91
  ![v92.toNat]

def k0_chk322 (v100 : IVec S16 32) : Prop :=
  (∀ a x, ((![v100] : Fin 1 → IVec S16 32) a x).toNat < S4096.size a)
theorem k0_idx418_inb : ∀ (v100 : IVec S16 32) (k0_hw322 : k0_chk322 v100), ∀ a x, ((![v100] : Fin 1 → IVec S16 32) a x).toNat < S4096.size a := fun v100 k0_hw322 => k0_hw322
def k0_off206 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_158 : BitVec 32 := 16#32
  let v101 : BitVec 32 := Scalar.muli arg11 c16_i32_158
  let c16_i32_159 : BitVec 32 := 16#32
  let v102 : BitVec 32 := Scalar.muli v101 c16_i32_159
  let c32_i32 : BitVec 32 := 32#32
  let v103 : BitVec 32 := Scalar.addi v102 c32_i32
  let v104 : Index := Scalar.indexCast v103
  ![v104.toNat]

def k0_chk323 (v112 : IVec S16 32) : Prop :=
  (∀ a x, ((![v112] : Fin 1 → IVec S16 32) a x).toNat < S4096.size a)
theorem k0_idx419_inb : ∀ (v112 : IVec S16 32) (k0_hw323 : k0_chk323 v112), ∀ a x, ((![v112] : Fin 1 → IVec S16 32) a x).toNat < S4096.size a := fun v112 k0_hw323 => k0_hw323
def k0_off207 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_163 : BitVec 32 := 16#32
  let v113 : BitVec 32 := Scalar.muli arg11 c16_i32_163
  let c16_i32_164 : BitVec 32 := 16#32
  let v114 : BitVec 32 := Scalar.muli v113 c16_i32_164
  let c48_i32 : BitVec 32 := 48#32
  let v115 : BitVec 32 := Scalar.addi v114 c48_i32
  let v116 : Index := Scalar.indexCast v115
  ![v116.toNat]

def k0_chk324 (v124 : IVec S16 32) : Prop :=
  (∀ a x, ((![v124] : Fin 1 → IVec S16 32) a x).toNat < S4096.size a)
theorem k0_idx420_inb : ∀ (v124 : IVec S16 32) (k0_hw324 : k0_chk324 v124), ∀ a x, ((![v124] : Fin 1 → IVec S16 32) a x).toNat < S4096.size a := fun v124 k0_hw324 => k0_hw324
def k0_off208 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_168 : BitVec 32 := 16#32
  let v125 : BitVec 32 := Scalar.muli arg11 c16_i32_168
  let c16_i32_169 : BitVec 32 := 16#32
  let v126 : BitVec 32 := Scalar.muli v125 c16_i32_169
  let c64_i32 : BitVec 32 := 64#32
  let v127 : BitVec 32 := Scalar.addi v126 c64_i32
  let v128 : Index := Scalar.indexCast v127
  ![v128.toNat]

def k0_chk325 (v136 : IVec S16 32) : Prop :=
  (∀ a x, ((![v136] : Fin 1 → IVec S16 32) a x).toNat < S4096.size a)
theorem k0_idx421_inb : ∀ (v136 : IVec S16 32) (k0_hw325 : k0_chk325 v136), ∀ a x, ((![v136] : Fin 1 → IVec S16 32) a x).toNat < S4096.size a := fun v136 k0_hw325 => k0_hw325
def k0_off209 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_173 : BitVec 32 := 16#32
  let v137 : BitVec 32 := Scalar.muli arg11 c16_i32_173
  let c16_i32_174 : BitVec 32 := 16#32
  let v138 : BitVec 32 := Scalar.muli v137 c16_i32_174
  let c80_i32 : BitVec 32 := 80#32
  let v139 : BitVec 32 := Scalar.addi v138 c80_i32
  let v140 : Index := Scalar.indexCast v139
  ![v140.toNat]

def k0_chk326 (v148 : IVec S16 32) : Prop :=
  (∀ a x, ((![v148] : Fin 1 → IVec S16 32) a x).toNat < S4096.size a)
theorem k0_idx422_inb : ∀ (v148 : IVec S16 32) (k0_hw326 : k0_chk326 v148), ∀ a x, ((![v148] : Fin 1 → IVec S16 32) a x).toNat < S4096.size a := fun v148 k0_hw326 => k0_hw326
def k0_off210 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_178 : BitVec 32 := 16#32
  let v149 : BitVec 32 := Scalar.muli arg11 c16_i32_178
  let c16_i32_179 : BitVec 32 := 16#32
  let v150 : BitVec 32 := Scalar.muli v149 c16_i32_179
  let c96_i32 : BitVec 32 := 96#32
  let v151 : BitVec 32 := Scalar.addi v150 c96_i32
  let v152 : Index := Scalar.indexCast v151
  ![v152.toNat]

def k0_chk327 (v160 : IVec S16 32) : Prop :=
  (∀ a x, ((![v160] : Fin 1 → IVec S16 32) a x).toNat < S4096.size a)
theorem k0_idx423_inb : ∀ (v160 : IVec S16 32) (k0_hw327 : k0_chk327 v160), ∀ a x, ((![v160] : Fin 1 → IVec S16 32) a x).toNat < S4096.size a := fun v160 k0_hw327 => k0_hw327
def k0_off211 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_183 : BitVec 32 := 16#32
  let v161 : BitVec 32 := Scalar.muli arg11 c16_i32_183
  let c16_i32_184 : BitVec 32 := 16#32
  let v162 : BitVec 32 := Scalar.muli v161 c16_i32_184
  let c112_i32 : BitVec 32 := 112#32
  let v163 : BitVec 32 := Scalar.addi v162 c112_i32
  let v164 : Index := Scalar.indexCast v163
  ![v164.toNat]

def k0_chk328 (v172 : IVec S16 32) : Prop :=
  (∀ a x, ((![v172] : Fin 1 → IVec S16 32) a x).toNat < S4096.size a)
theorem k0_idx424_inb : ∀ (v172 : IVec S16 32) (k0_hw328 : k0_chk328 v172), ∀ a x, ((![v172] : Fin 1 → IVec S16 32) a x).toNat < S4096.size a := fun v172 k0_hw328 => k0_hw328
def k0_off212 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_188 : BitVec 32 := 16#32
  let v173 : BitVec 32 := Scalar.muli arg11 c16_i32_188
  let c16_i32_189 : BitVec 32 := 16#32
  let v174 : BitVec 32 := Scalar.muli v173 c16_i32_189
  let c128_i32_190 : BitVec 32 := 128#32
  let v175 : BitVec 32 := Scalar.addi v174 c128_i32_190
  let v176 : Index := Scalar.indexCast v175
  ![v176.toNat]

def k0_chk329 (v184 : IVec S16 32) : Prop :=
  (∀ a x, ((![v184] : Fin 1 → IVec S16 32) a x).toNat < S4096.size a)
theorem k0_idx425_inb : ∀ (v184 : IVec S16 32) (k0_hw329 : k0_chk329 v184), ∀ a x, ((![v184] : Fin 1 → IVec S16 32) a x).toNat < S4096.size a := fun v184 k0_hw329 => k0_hw329
def k0_off213 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_194 : BitVec 32 := 16#32
  let v185 : BitVec 32 := Scalar.muli arg11 c16_i32_194
  let c16_i32_195 : BitVec 32 := 16#32
  let v186 : BitVec 32 := Scalar.muli v185 c16_i32_195
  let c144_i32 : BitVec 32 := 144#32
  let v187 : BitVec 32 := Scalar.addi v186 c144_i32
  let v188 : Index := Scalar.indexCast v187
  ![v188.toNat]

def k0_chk330 (v196 : IVec S16 32) : Prop :=
  (∀ a x, ((![v196] : Fin 1 → IVec S16 32) a x).toNat < S4096.size a)
theorem k0_idx426_inb : ∀ (v196 : IVec S16 32) (k0_hw330 : k0_chk330 v196), ∀ a x, ((![v196] : Fin 1 → IVec S16 32) a x).toNat < S4096.size a := fun v196 k0_hw330 => k0_hw330
def k0_off214 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_199 : BitVec 32 := 16#32
  let v197 : BitVec 32 := Scalar.muli arg11 c16_i32_199
  let c16_i32_200 : BitVec 32 := 16#32
  let v198 : BitVec 32 := Scalar.muli v197 c16_i32_200
  let c160_i32 : BitVec 32 := 160#32
  let v199 : BitVec 32 := Scalar.addi v198 c160_i32
  let v200 : Index := Scalar.indexCast v199
  ![v200.toNat]

def k0_chk331 (v208 : IVec S16 32) : Prop :=
  (∀ a x, ((![v208] : Fin 1 → IVec S16 32) a x).toNat < S4096.size a)
theorem k0_idx427_inb : ∀ (v208 : IVec S16 32) (k0_hw331 : k0_chk331 v208), ∀ a x, ((![v208] : Fin 1 → IVec S16 32) a x).toNat < S4096.size a := fun v208 k0_hw331 => k0_hw331
def k0_off215 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_204 : BitVec 32 := 16#32
  let v209 : BitVec 32 := Scalar.muli arg11 c16_i32_204
  let c16_i32_205 : BitVec 32 := 16#32
  let v210 : BitVec 32 := Scalar.muli v209 c16_i32_205
  let c176_i32 : BitVec 32 := 176#32
  let v211 : BitVec 32 := Scalar.addi v210 c176_i32
  let v212 : Index := Scalar.indexCast v211
  ![v212.toNat]

def k0_chk332 (v220 : IVec S16 32) : Prop :=
  (∀ a x, ((![v220] : Fin 1 → IVec S16 32) a x).toNat < S4096.size a)
theorem k0_idx428_inb : ∀ (v220 : IVec S16 32) (k0_hw332 : k0_chk332 v220), ∀ a x, ((![v220] : Fin 1 → IVec S16 32) a x).toNat < S4096.size a := fun v220 k0_hw332 => k0_hw332
def k0_off216 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_209 : BitVec 32 := 16#32
  let v221 : BitVec 32 := Scalar.muli arg11 c16_i32_209
  let c16_i32_210 : BitVec 32 := 16#32
  let v222 : BitVec 32 := Scalar.muli v221 c16_i32_210
  let c192_i32 : BitVec 32 := 192#32
  let v223 : BitVec 32 := Scalar.addi v222 c192_i32
  let v224 : Index := Scalar.indexCast v223
  ![v224.toNat]

def k0_chk333 (v232 : IVec S16 32) : Prop :=
  (∀ a x, ((![v232] : Fin 1 → IVec S16 32) a x).toNat < S4096.size a)
theorem k0_idx429_inb : ∀ (v232 : IVec S16 32) (k0_hw333 : k0_chk333 v232), ∀ a x, ((![v232] : Fin 1 → IVec S16 32) a x).toNat < S4096.size a := fun v232 k0_hw333 => k0_hw333
def k0_off217 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_214 : BitVec 32 := 16#32
  let v233 : BitVec 32 := Scalar.muli arg11 c16_i32_214
  let c16_i32_215 : BitVec 32 := 16#32
  let v234 : BitVec 32 := Scalar.muli v233 c16_i32_215
  let c208_i32 : BitVec 32 := 208#32
  let v235 : BitVec 32 := Scalar.addi v234 c208_i32
  let v236 : Index := Scalar.indexCast v235
  ![v236.toNat]

def k0_chk334 (v244 : IVec S16 32) : Prop :=
  (∀ a x, ((![v244] : Fin 1 → IVec S16 32) a x).toNat < S4096.size a)
theorem k0_idx430_inb : ∀ (v244 : IVec S16 32) (k0_hw334 : k0_chk334 v244), ∀ a x, ((![v244] : Fin 1 → IVec S16 32) a x).toNat < S4096.size a := fun v244 k0_hw334 => k0_hw334
def k0_off218 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_219 : BitVec 32 := 16#32
  let v245 : BitVec 32 := Scalar.muli arg11 c16_i32_219
  let c16_i32_220 : BitVec 32 := 16#32
  let v246 : BitVec 32 := Scalar.muli v245 c16_i32_220
  let c224_i32 : BitVec 32 := 224#32
  let v247 : BitVec 32 := Scalar.addi v246 c224_i32
  let v248 : Index := Scalar.indexCast v247
  ![v248.toNat]

def k0_chk335 (v256 : IVec S16 32) : Prop :=
  (∀ a x, ((![v256] : Fin 1 → IVec S16 32) a x).toNat < S4096.size a)
theorem k0_idx431_inb : ∀ (v256 : IVec S16 32) (k0_hw335 : k0_chk335 v256), ∀ a x, ((![v256] : Fin 1 → IVec S16 32) a x).toNat < S4096.size a := fun v256 k0_hw335 => k0_hw335
def k0_off219 (k0_t21 : Fin k0_t21_loop.trips) : Fin 1 → Nat :=
  let c0_i32_116 : BitVec 32 := 0#32
  let c1_i32_118 : BitVec 32 := 1#32
  let arg11 : BitVec 32 := Scf.iv c0_i32_116 c1_i32_118 k0_t21
  let c16_i32_224 : BitVec 32 := 16#32
  let v257 : BitVec 32 := Scalar.muli arg11 c16_i32_224
  let c16_i32_225 : BitVec 32 := 16#32
  let v258 : BitVec 32 := Scalar.muli v257 c16_i32_225
  let c240_i32 : BitVec 32 := 240#32
  let v259 : BitVec 32 := Scalar.addi v258 c240_i32
  let v260 : Index := Scalar.indexCast v259
  ![v260.toNat]

def k0_chk336 (v268 : IVec S16 32) : Prop :=
  (∀ a x, ((![v268] : Fin 1 → IVec S16 32) a x).toNat < S4096.size a)
theorem k0_idx432_inb : ∀ (v268 : IVec S16 32) (k0_hw336 : k0_chk336 v268), ∀ a x, ((![v268] : Fin 1 → IVec S16 32) a x).toNat < S4096.size a := fun v268 k0_hw336 => k0_hw336
@[reducible] def k0_t22_loop : Scf.Loop 32 :=
  let c0_i32_121 : BitVec 32 := 0#32
  let c256_i32_122 : BitVec 32 := 256#32
  let v62 : BitVec 32 := Scalar.addi c0_i32_121 c256_i32_122
  let c1_i32_123 : BitVec 32 := 1#32
  ⟨c0_i32_121, v62, c1_i32_123⟩
def k0_off220 (k0_t22 : Fin k0_t22_loop.trips) : Fin 1 → Nat :=
  let c0_i32_121 : BitVec 32 := 0#32
  let c1_i32_123 : BitVec 32 := 1#32
  let arg11 : BitVec 32 := Scf.iv c0_i32_121 c1_i32_123 k0_t22
  let c16_i32_149 : BitVec 32 := 16#32
  let v77 : BitVec 32 := Scalar.muli arg11 c16_i32_149
  let v78 : Index := Scalar.indexCast v77
  ![v78.toNat]
@[reducible] def k0_t23_loop : Scf.Loop 32 :=
  let c0_i32_126 : BitVec 32 := 0#32
  let c128_i32_127 : BitVec 32 := 128#32
  let v64 : BitVec 32 := Scalar.addi c0_i32_126 c128_i32_127
  let c1_i32_128 : BitVec 32 := 1#32
  ⟨c0_i32_126, v64, c1_i32_128⟩
def k0_off221 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk337 (v88 : IVec S16 32) : Prop :=
  (∀ a x, ((![v88] : Fin 1 → IVec S16 32) a x).toNat < S4096.size a) ∧
  (∀ a x, ((![v88] : Fin 1 → IVec S16 32) a x).toNat < S4096.size a)
theorem k0_idx433_inb : ∀ (v88 : IVec S16 32) (k0_hw337 : k0_chk337 v88), ∀ a x, ((![v88] : Fin 1 → IVec S16 32) a x).toNat < S4096.size a := fun v88 k0_hw337 => k0_hw337.1
theorem k0_idx434_inb : ∀ (v88 : IVec S16 32) (k0_hw337 : k0_chk337 v88), ∀ a x, ((![v88] : Fin 1 → IVec S16 32) a x).toNat < S4096.size a := fun v88 k0_hw337 => k0_hw337.2

def k0_chk338 (v104 : IVec S16 32) : Prop :=
  (∀ a x, ((![v104] : Fin 1 → IVec S16 32) a x).toNat < S32768.size a)
theorem k0_idx435_inb : ∀ (v104 : IVec S16 32) (k0_hw338 : k0_chk338 v104), ∀ a x, ((![v104] : Fin 1 → IVec S16 32) a x).toNat < S32768.size a := fun v104 k0_hw338 => k0_hw338
def k0_off222 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_154 : BitVec 32 := 16#32
  let v105 : BitVec 32 := Scalar.muli arg11 c16_i32_154
  let c16_i32_155 : BitVec 32 := 16#32
  let v106 : BitVec 32 := Scalar.muli v105 c16_i32_155
  let c16_i32_156 : BitVec 32 := 16#32
  let v107 : BitVec 32 := Scalar.addi v106 c16_i32_156
  let v108 : Index := Scalar.indexCast v107
  ![v108.toNat]

def k0_chk339 (v116 : IVec S16 32) : Prop :=
  (∀ a x, ((![v116] : Fin 1 → IVec S16 32) a x).toNat < S4096.size a) ∧
  (∀ a x, ((![v116] : Fin 1 → IVec S16 32) a x).toNat < S4096.size a)
theorem k0_idx436_inb : ∀ (v116 : IVec S16 32) (k0_hw339 : k0_chk339 v116), ∀ a x, ((![v116] : Fin 1 → IVec S16 32) a x).toNat < S4096.size a := fun v116 k0_hw339 => k0_hw339.1
theorem k0_idx437_inb : ∀ (v116 : IVec S16 32) (k0_hw339 : k0_chk339 v116), ∀ a x, ((![v116] : Fin 1 → IVec S16 32) a x).toNat < S4096.size a := fun v116 k0_hw339 => k0_hw339.2

def k0_chk340 (v132 : IVec S16 32) : Prop :=
  (∀ a x, ((![v132] : Fin 1 → IVec S16 32) a x).toNat < S32768.size a)
theorem k0_idx438_inb : ∀ (v132 : IVec S16 32) (k0_hw340 : k0_chk340 v132), ∀ a x, ((![v132] : Fin 1 → IVec S16 32) a x).toNat < S32768.size a := fun v132 k0_hw340 => k0_hw340
def k0_off223 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_166 : BitVec 32 := 16#32
  let v133 : BitVec 32 := Scalar.muli arg11 c16_i32_166
  let c16_i32_167 : BitVec 32 := 16#32
  let v134 : BitVec 32 := Scalar.muli v133 c16_i32_167
  let c32_i32 : BitVec 32 := 32#32
  let v135 : BitVec 32 := Scalar.addi v134 c32_i32
  let v136 : Index := Scalar.indexCast v135
  ![v136.toNat]

def k0_chk341 (v144 : IVec S16 32) : Prop :=
  (∀ a x, ((![v144] : Fin 1 → IVec S16 32) a x).toNat < S4096.size a) ∧
  (∀ a x, ((![v144] : Fin 1 → IVec S16 32) a x).toNat < S4096.size a)
theorem k0_idx439_inb : ∀ (v144 : IVec S16 32) (k0_hw341 : k0_chk341 v144), ∀ a x, ((![v144] : Fin 1 → IVec S16 32) a x).toNat < S4096.size a := fun v144 k0_hw341 => k0_hw341.1
theorem k0_idx440_inb : ∀ (v144 : IVec S16 32) (k0_hw341 : k0_chk341 v144), ∀ a x, ((![v144] : Fin 1 → IVec S16 32) a x).toNat < S4096.size a := fun v144 k0_hw341 => k0_hw341.2

def k0_chk342 (v160 : IVec S16 32) : Prop :=
  (∀ a x, ((![v160] : Fin 1 → IVec S16 32) a x).toNat < S32768.size a)
theorem k0_idx441_inb : ∀ (v160 : IVec S16 32) (k0_hw342 : k0_chk342 v160), ∀ a x, ((![v160] : Fin 1 → IVec S16 32) a x).toNat < S32768.size a := fun v160 k0_hw342 => k0_hw342
def k0_off224 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_177 : BitVec 32 := 16#32
  let v161 : BitVec 32 := Scalar.muli arg11 c16_i32_177
  let c16_i32_178 : BitVec 32 := 16#32
  let v162 : BitVec 32 := Scalar.muli v161 c16_i32_178
  let c48_i32 : BitVec 32 := 48#32
  let v163 : BitVec 32 := Scalar.addi v162 c48_i32
  let v164 : Index := Scalar.indexCast v163
  ![v164.toNat]

def k0_chk343 (v172 : IVec S16 32) : Prop :=
  (∀ a x, ((![v172] : Fin 1 → IVec S16 32) a x).toNat < S4096.size a) ∧
  (∀ a x, ((![v172] : Fin 1 → IVec S16 32) a x).toNat < S4096.size a)
theorem k0_idx442_inb : ∀ (v172 : IVec S16 32) (k0_hw343 : k0_chk343 v172), ∀ a x, ((![v172] : Fin 1 → IVec S16 32) a x).toNat < S4096.size a := fun v172 k0_hw343 => k0_hw343.1
theorem k0_idx443_inb : ∀ (v172 : IVec S16 32) (k0_hw343 : k0_chk343 v172), ∀ a x, ((![v172] : Fin 1 → IVec S16 32) a x).toNat < S4096.size a := fun v172 k0_hw343 => k0_hw343.2

def k0_chk344 (v188 : IVec S16 32) : Prop :=
  (∀ a x, ((![v188] : Fin 1 → IVec S16 32) a x).toNat < S32768.size a)
theorem k0_idx444_inb : ∀ (v188 : IVec S16 32) (k0_hw344 : k0_chk344 v188), ∀ a x, ((![v188] : Fin 1 → IVec S16 32) a x).toNat < S32768.size a := fun v188 k0_hw344 => k0_hw344
def k0_off225 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_188 : BitVec 32 := 16#32
  let v189 : BitVec 32 := Scalar.muli arg11 c16_i32_188
  let c16_i32_189 : BitVec 32 := 16#32
  let v190 : BitVec 32 := Scalar.muli v189 c16_i32_189
  let c64_i32 : BitVec 32 := 64#32
  let v191 : BitVec 32 := Scalar.addi v190 c64_i32
  let v192 : Index := Scalar.indexCast v191
  ![v192.toNat]

def k0_chk345 (v200 : IVec S16 32) : Prop :=
  (∀ a x, ((![v200] : Fin 1 → IVec S16 32) a x).toNat < S4096.size a) ∧
  (∀ a x, ((![v200] : Fin 1 → IVec S16 32) a x).toNat < S4096.size a)
theorem k0_idx445_inb : ∀ (v200 : IVec S16 32) (k0_hw345 : k0_chk345 v200), ∀ a x, ((![v200] : Fin 1 → IVec S16 32) a x).toNat < S4096.size a := fun v200 k0_hw345 => k0_hw345.1
theorem k0_idx446_inb : ∀ (v200 : IVec S16 32) (k0_hw345 : k0_chk345 v200), ∀ a x, ((![v200] : Fin 1 → IVec S16 32) a x).toNat < S4096.size a := fun v200 k0_hw345 => k0_hw345.2

def k0_chk346 (v216 : IVec S16 32) : Prop :=
  (∀ a x, ((![v216] : Fin 1 → IVec S16 32) a x).toNat < S32768.size a)
theorem k0_idx447_inb : ∀ (v216 : IVec S16 32) (k0_hw346 : k0_chk346 v216), ∀ a x, ((![v216] : Fin 1 → IVec S16 32) a x).toNat < S32768.size a := fun v216 k0_hw346 => k0_hw346
def k0_off226 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_199 : BitVec 32 := 16#32
  let v217 : BitVec 32 := Scalar.muli arg11 c16_i32_199
  let c16_i32_200 : BitVec 32 := 16#32
  let v218 : BitVec 32 := Scalar.muli v217 c16_i32_200
  let c80_i32 : BitVec 32 := 80#32
  let v219 : BitVec 32 := Scalar.addi v218 c80_i32
  let v220 : Index := Scalar.indexCast v219
  ![v220.toNat]

def k0_chk347 (v228 : IVec S16 32) : Prop :=
  (∀ a x, ((![v228] : Fin 1 → IVec S16 32) a x).toNat < S4096.size a) ∧
  (∀ a x, ((![v228] : Fin 1 → IVec S16 32) a x).toNat < S4096.size a)
theorem k0_idx448_inb : ∀ (v228 : IVec S16 32) (k0_hw347 : k0_chk347 v228), ∀ a x, ((![v228] : Fin 1 → IVec S16 32) a x).toNat < S4096.size a := fun v228 k0_hw347 => k0_hw347.1
theorem k0_idx449_inb : ∀ (v228 : IVec S16 32) (k0_hw347 : k0_chk347 v228), ∀ a x, ((![v228] : Fin 1 → IVec S16 32) a x).toNat < S4096.size a := fun v228 k0_hw347 => k0_hw347.2

def k0_chk348 (v244 : IVec S16 32) : Prop :=
  (∀ a x, ((![v244] : Fin 1 → IVec S16 32) a x).toNat < S32768.size a)
theorem k0_idx450_inb : ∀ (v244 : IVec S16 32) (k0_hw348 : k0_chk348 v244), ∀ a x, ((![v244] : Fin 1 → IVec S16 32) a x).toNat < S32768.size a := fun v244 k0_hw348 => k0_hw348
def k0_off227 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_210 : BitVec 32 := 16#32
  let v245 : BitVec 32 := Scalar.muli arg11 c16_i32_210
  let c16_i32_211 : BitVec 32 := 16#32
  let v246 : BitVec 32 := Scalar.muli v245 c16_i32_211
  let c96_i32 : BitVec 32 := 96#32
  let v247 : BitVec 32 := Scalar.addi v246 c96_i32
  let v248 : Index := Scalar.indexCast v247
  ![v248.toNat]

def k0_chk349 (v256 : IVec S16 32) : Prop :=
  (∀ a x, ((![v256] : Fin 1 → IVec S16 32) a x).toNat < S4096.size a) ∧
  (∀ a x, ((![v256] : Fin 1 → IVec S16 32) a x).toNat < S4096.size a)
theorem k0_idx451_inb : ∀ (v256 : IVec S16 32) (k0_hw349 : k0_chk349 v256), ∀ a x, ((![v256] : Fin 1 → IVec S16 32) a x).toNat < S4096.size a := fun v256 k0_hw349 => k0_hw349.1
theorem k0_idx452_inb : ∀ (v256 : IVec S16 32) (k0_hw349 : k0_chk349 v256), ∀ a x, ((![v256] : Fin 1 → IVec S16 32) a x).toNat < S4096.size a := fun v256 k0_hw349 => k0_hw349.2

def k0_chk350 (v272 : IVec S16 32) : Prop :=
  (∀ a x, ((![v272] : Fin 1 → IVec S16 32) a x).toNat < S32768.size a)
theorem k0_idx453_inb : ∀ (v272 : IVec S16 32) (k0_hw350 : k0_chk350 v272), ∀ a x, ((![v272] : Fin 1 → IVec S16 32) a x).toNat < S32768.size a := fun v272 k0_hw350 => k0_hw350
def k0_off228 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_221 : BitVec 32 := 16#32
  let v273 : BitVec 32 := Scalar.muli arg11 c16_i32_221
  let c16_i32_222 : BitVec 32 := 16#32
  let v274 : BitVec 32 := Scalar.muli v273 c16_i32_222
  let c112_i32 : BitVec 32 := 112#32
  let v275 : BitVec 32 := Scalar.addi v274 c112_i32
  let v276 : Index := Scalar.indexCast v275
  ![v276.toNat]

def k0_chk351 (v284 : IVec S16 32) : Prop :=
  (∀ a x, ((![v284] : Fin 1 → IVec S16 32) a x).toNat < S4096.size a) ∧
  (∀ a x, ((![v284] : Fin 1 → IVec S16 32) a x).toNat < S4096.size a)
theorem k0_idx454_inb : ∀ (v284 : IVec S16 32) (k0_hw351 : k0_chk351 v284), ∀ a x, ((![v284] : Fin 1 → IVec S16 32) a x).toNat < S4096.size a := fun v284 k0_hw351 => k0_hw351.1
theorem k0_idx455_inb : ∀ (v284 : IVec S16 32) (k0_hw351 : k0_chk351 v284), ∀ a x, ((![v284] : Fin 1 → IVec S16 32) a x).toNat < S4096.size a := fun v284 k0_hw351 => k0_hw351.2

def k0_chk352 (v300 : IVec S16 32) : Prop :=
  (∀ a x, ((![v300] : Fin 1 → IVec S16 32) a x).toNat < S32768.size a)
theorem k0_idx456_inb : ∀ (v300 : IVec S16 32) (k0_hw352 : k0_chk352 v300), ∀ a x, ((![v300] : Fin 1 → IVec S16 32) a x).toNat < S32768.size a := fun v300 k0_hw352 => k0_hw352
def k0_off229 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_232 : BitVec 32 := 16#32
  let v301 : BitVec 32 := Scalar.muli arg11 c16_i32_232
  let c16_i32_233 : BitVec 32 := 16#32
  let v302 : BitVec 32 := Scalar.muli v301 c16_i32_233
  let c128_i32_234 : BitVec 32 := 128#32
  let v303 : BitVec 32 := Scalar.addi v302 c128_i32_234
  let v304 : Index := Scalar.indexCast v303
  ![v304.toNat]

def k0_chk353 (v312 : IVec S16 32) : Prop :=
  (∀ a x, ((![v312] : Fin 1 → IVec S16 32) a x).toNat < S4096.size a) ∧
  (∀ a x, ((![v312] : Fin 1 → IVec S16 32) a x).toNat < S4096.size a)
theorem k0_idx457_inb : ∀ (v312 : IVec S16 32) (k0_hw353 : k0_chk353 v312), ∀ a x, ((![v312] : Fin 1 → IVec S16 32) a x).toNat < S4096.size a := fun v312 k0_hw353 => k0_hw353.1
theorem k0_idx458_inb : ∀ (v312 : IVec S16 32) (k0_hw353 : k0_chk353 v312), ∀ a x, ((![v312] : Fin 1 → IVec S16 32) a x).toNat < S4096.size a := fun v312 k0_hw353 => k0_hw353.2

def k0_chk354 (v328 : IVec S16 32) : Prop :=
  (∀ a x, ((![v328] : Fin 1 → IVec S16 32) a x).toNat < S32768.size a)
theorem k0_idx459_inb : ∀ (v328 : IVec S16 32) (k0_hw354 : k0_chk354 v328), ∀ a x, ((![v328] : Fin 1 → IVec S16 32) a x).toNat < S32768.size a := fun v328 k0_hw354 => k0_hw354
def k0_off230 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_244 : BitVec 32 := 16#32
  let v329 : BitVec 32 := Scalar.muli arg11 c16_i32_244
  let c16_i32_245 : BitVec 32 := 16#32
  let v330 : BitVec 32 := Scalar.muli v329 c16_i32_245
  let c144_i32 : BitVec 32 := 144#32
  let v331 : BitVec 32 := Scalar.addi v330 c144_i32
  let v332 : Index := Scalar.indexCast v331
  ![v332.toNat]

def k0_chk355 (v340 : IVec S16 32) : Prop :=
  (∀ a x, ((![v340] : Fin 1 → IVec S16 32) a x).toNat < S4096.size a) ∧
  (∀ a x, ((![v340] : Fin 1 → IVec S16 32) a x).toNat < S4096.size a)
theorem k0_idx460_inb : ∀ (v340 : IVec S16 32) (k0_hw355 : k0_chk355 v340), ∀ a x, ((![v340] : Fin 1 → IVec S16 32) a x).toNat < S4096.size a := fun v340 k0_hw355 => k0_hw355.1
theorem k0_idx461_inb : ∀ (v340 : IVec S16 32) (k0_hw355 : k0_chk355 v340), ∀ a x, ((![v340] : Fin 1 → IVec S16 32) a x).toNat < S4096.size a := fun v340 k0_hw355 => k0_hw355.2

def k0_chk356 (v356 : IVec S16 32) : Prop :=
  (∀ a x, ((![v356] : Fin 1 → IVec S16 32) a x).toNat < S32768.size a)
theorem k0_idx462_inb : ∀ (v356 : IVec S16 32) (k0_hw356 : k0_chk356 v356), ∀ a x, ((![v356] : Fin 1 → IVec S16 32) a x).toNat < S32768.size a := fun v356 k0_hw356 => k0_hw356
def k0_off231 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_255 : BitVec 32 := 16#32
  let v357 : BitVec 32 := Scalar.muli arg11 c16_i32_255
  let c16_i32_256 : BitVec 32 := 16#32
  let v358 : BitVec 32 := Scalar.muli v357 c16_i32_256
  let c160_i32 : BitVec 32 := 160#32
  let v359 : BitVec 32 := Scalar.addi v358 c160_i32
  let v360 : Index := Scalar.indexCast v359
  ![v360.toNat]

def k0_chk357 (v368 : IVec S16 32) : Prop :=
  (∀ a x, ((![v368] : Fin 1 → IVec S16 32) a x).toNat < S4096.size a) ∧
  (∀ a x, ((![v368] : Fin 1 → IVec S16 32) a x).toNat < S4096.size a)
theorem k0_idx463_inb : ∀ (v368 : IVec S16 32) (k0_hw357 : k0_chk357 v368), ∀ a x, ((![v368] : Fin 1 → IVec S16 32) a x).toNat < S4096.size a := fun v368 k0_hw357 => k0_hw357.1
theorem k0_idx464_inb : ∀ (v368 : IVec S16 32) (k0_hw357 : k0_chk357 v368), ∀ a x, ((![v368] : Fin 1 → IVec S16 32) a x).toNat < S4096.size a := fun v368 k0_hw357 => k0_hw357.2

def k0_chk358 (v384 : IVec S16 32) : Prop :=
  (∀ a x, ((![v384] : Fin 1 → IVec S16 32) a x).toNat < S32768.size a)
theorem k0_idx465_inb : ∀ (v384 : IVec S16 32) (k0_hw358 : k0_chk358 v384), ∀ a x, ((![v384] : Fin 1 → IVec S16 32) a x).toNat < S32768.size a := fun v384 k0_hw358 => k0_hw358
def k0_off232 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_266 : BitVec 32 := 16#32
  let v385 : BitVec 32 := Scalar.muli arg11 c16_i32_266
  let c16_i32_267 : BitVec 32 := 16#32
  let v386 : BitVec 32 := Scalar.muli v385 c16_i32_267
  let c176_i32 : BitVec 32 := 176#32
  let v387 : BitVec 32 := Scalar.addi v386 c176_i32
  let v388 : Index := Scalar.indexCast v387
  ![v388.toNat]

def k0_chk359 (v396 : IVec S16 32) : Prop :=
  (∀ a x, ((![v396] : Fin 1 → IVec S16 32) a x).toNat < S4096.size a) ∧
  (∀ a x, ((![v396] : Fin 1 → IVec S16 32) a x).toNat < S4096.size a)
theorem k0_idx466_inb : ∀ (v396 : IVec S16 32) (k0_hw359 : k0_chk359 v396), ∀ a x, ((![v396] : Fin 1 → IVec S16 32) a x).toNat < S4096.size a := fun v396 k0_hw359 => k0_hw359.1
theorem k0_idx467_inb : ∀ (v396 : IVec S16 32) (k0_hw359 : k0_chk359 v396), ∀ a x, ((![v396] : Fin 1 → IVec S16 32) a x).toNat < S4096.size a := fun v396 k0_hw359 => k0_hw359.2

def k0_chk360 (v412 : IVec S16 32) : Prop :=
  (∀ a x, ((![v412] : Fin 1 → IVec S16 32) a x).toNat < S32768.size a)
theorem k0_idx468_inb : ∀ (v412 : IVec S16 32) (k0_hw360 : k0_chk360 v412), ∀ a x, ((![v412] : Fin 1 → IVec S16 32) a x).toNat < S32768.size a := fun v412 k0_hw360 => k0_hw360
def k0_off233 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_277 : BitVec 32 := 16#32
  let v413 : BitVec 32 := Scalar.muli arg11 c16_i32_277
  let c16_i32_278 : BitVec 32 := 16#32
  let v414 : BitVec 32 := Scalar.muli v413 c16_i32_278
  let c192_i32 : BitVec 32 := 192#32
  let v415 : BitVec 32 := Scalar.addi v414 c192_i32
  let v416 : Index := Scalar.indexCast v415
  ![v416.toNat]

def k0_chk361 (v424 : IVec S16 32) : Prop :=
  (∀ a x, ((![v424] : Fin 1 → IVec S16 32) a x).toNat < S4096.size a) ∧
  (∀ a x, ((![v424] : Fin 1 → IVec S16 32) a x).toNat < S4096.size a)
theorem k0_idx469_inb : ∀ (v424 : IVec S16 32) (k0_hw361 : k0_chk361 v424), ∀ a x, ((![v424] : Fin 1 → IVec S16 32) a x).toNat < S4096.size a := fun v424 k0_hw361 => k0_hw361.1
theorem k0_idx470_inb : ∀ (v424 : IVec S16 32) (k0_hw361 : k0_chk361 v424), ∀ a x, ((![v424] : Fin 1 → IVec S16 32) a x).toNat < S4096.size a := fun v424 k0_hw361 => k0_hw361.2

def k0_chk362 (v440 : IVec S16 32) : Prop :=
  (∀ a x, ((![v440] : Fin 1 → IVec S16 32) a x).toNat < S32768.size a)
theorem k0_idx471_inb : ∀ (v440 : IVec S16 32) (k0_hw362 : k0_chk362 v440), ∀ a x, ((![v440] : Fin 1 → IVec S16 32) a x).toNat < S32768.size a := fun v440 k0_hw362 => k0_hw362
def k0_off234 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_288 : BitVec 32 := 16#32
  let v441 : BitVec 32 := Scalar.muli arg11 c16_i32_288
  let c16_i32_289 : BitVec 32 := 16#32
  let v442 : BitVec 32 := Scalar.muli v441 c16_i32_289
  let c208_i32 : BitVec 32 := 208#32
  let v443 : BitVec 32 := Scalar.addi v442 c208_i32
  let v444 : Index := Scalar.indexCast v443
  ![v444.toNat]

def k0_chk363 (v452 : IVec S16 32) : Prop :=
  (∀ a x, ((![v452] : Fin 1 → IVec S16 32) a x).toNat < S4096.size a) ∧
  (∀ a x, ((![v452] : Fin 1 → IVec S16 32) a x).toNat < S4096.size a)
theorem k0_idx472_inb : ∀ (v452 : IVec S16 32) (k0_hw363 : k0_chk363 v452), ∀ a x, ((![v452] : Fin 1 → IVec S16 32) a x).toNat < S4096.size a := fun v452 k0_hw363 => k0_hw363.1
theorem k0_idx473_inb : ∀ (v452 : IVec S16 32) (k0_hw363 : k0_chk363 v452), ∀ a x, ((![v452] : Fin 1 → IVec S16 32) a x).toNat < S4096.size a := fun v452 k0_hw363 => k0_hw363.2

def k0_chk364 (v468 : IVec S16 32) : Prop :=
  (∀ a x, ((![v468] : Fin 1 → IVec S16 32) a x).toNat < S32768.size a)
theorem k0_idx474_inb : ∀ (v468 : IVec S16 32) (k0_hw364 : k0_chk364 v468), ∀ a x, ((![v468] : Fin 1 → IVec S16 32) a x).toNat < S32768.size a := fun v468 k0_hw364 => k0_hw364
def k0_off235 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_299 : BitVec 32 := 16#32
  let v469 : BitVec 32 := Scalar.muli arg11 c16_i32_299
  let c16_i32_300 : BitVec 32 := 16#32
  let v470 : BitVec 32 := Scalar.muli v469 c16_i32_300
  let c224_i32 : BitVec 32 := 224#32
  let v471 : BitVec 32 := Scalar.addi v470 c224_i32
  let v472 : Index := Scalar.indexCast v471
  ![v472.toNat]

def k0_chk365 (v480 : IVec S16 32) : Prop :=
  (∀ a x, ((![v480] : Fin 1 → IVec S16 32) a x).toNat < S4096.size a) ∧
  (∀ a x, ((![v480] : Fin 1 → IVec S16 32) a x).toNat < S4096.size a)
theorem k0_idx475_inb : ∀ (v480 : IVec S16 32) (k0_hw365 : k0_chk365 v480), ∀ a x, ((![v480] : Fin 1 → IVec S16 32) a x).toNat < S4096.size a := fun v480 k0_hw365 => k0_hw365.1
theorem k0_idx476_inb : ∀ (v480 : IVec S16 32) (k0_hw365 : k0_chk365 v480), ∀ a x, ((![v480] : Fin 1 → IVec S16 32) a x).toNat < S4096.size a := fun v480 k0_hw365 => k0_hw365.2

def k0_chk366 (v496 : IVec S16 32) : Prop :=
  (∀ a x, ((![v496] : Fin 1 → IVec S16 32) a x).toNat < S32768.size a)
theorem k0_idx477_inb : ∀ (v496 : IVec S16 32) (k0_hw366 : k0_chk366 v496), ∀ a x, ((![v496] : Fin 1 → IVec S16 32) a x).toNat < S32768.size a := fun v496 k0_hw366 => k0_hw366
def k0_off236 (k0_t23 : Fin k0_t23_loop.trips) : Fin 1 → Nat :=
  let c0_i32_126 : BitVec 32 := 0#32
  let c1_i32_128 : BitVec 32 := 1#32
  let arg11 : BitVec 32 := Scf.iv c0_i32_126 c1_i32_128 k0_t23
  let c16_i32_310 : BitVec 32 := 16#32
  let v497 : BitVec 32 := Scalar.muli arg11 c16_i32_310
  let c16_i32_311 : BitVec 32 := 16#32
  let v498 : BitVec 32 := Scalar.muli v497 c16_i32_311
  let c240_i32 : BitVec 32 := 240#32
  let v499 : BitVec 32 := Scalar.addi v498 c240_i32
  let v500 : Index := Scalar.indexCast v499
  ![v500.toNat]

def k0_chk367 (v508 : IVec S16 32) : Prop :=
  (∀ a x, ((![v508] : Fin 1 → IVec S16 32) a x).toNat < S4096.size a) ∧
  (∀ a x, ((![v508] : Fin 1 → IVec S16 32) a x).toNat < S4096.size a)
theorem k0_idx478_inb : ∀ (v508 : IVec S16 32) (k0_hw367 : k0_chk367 v508), ∀ a x, ((![v508] : Fin 1 → IVec S16 32) a x).toNat < S4096.size a := fun v508 k0_hw367 => k0_hw367.1
theorem k0_idx479_inb : ∀ (v508 : IVec S16 32) (k0_hw367 : k0_chk367 v508), ∀ a x, ((![v508] : Fin 1 → IVec S16 32) a x).toNat < S4096.size a := fun v508 k0_hw367 => k0_hw367.2

def k0_chk368 (v524 : IVec S16 32) : Prop :=
  (∀ a x, ((![v524] : Fin 1 → IVec S16 32) a x).toNat < S32768.size a)
theorem k0_idx480_inb : ∀ (v524 : IVec S16 32) (k0_hw368 : k0_chk368 v524), ∀ a x, ((![v524] : Fin 1 → IVec S16 32) a x).toNat < S32768.size a := fun v524 k0_hw368 => k0_hw368
@[reducible] def k0_t24_loop : Scf.Loop 32 :=
  let c0_i32_131 : BitVec 32 := 0#32
  let c128_i32_132 : BitVec 32 := 128#32
  let v65 : BitVec 32 := Scalar.addi c0_i32_131 c128_i32_132
  let c1_i32_133 : BitVec 32 := 1#32
  ⟨c0_i32_131, v65, c1_i32_133⟩
def k0_off237 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk369 (v88 : IVec S16 32) : Prop :=
  (∀ a x, ((![v88] : Fin 1 → IVec S16 32) a x).toNat < S4096.size a)
theorem k0_idx481_inb : ∀ (v88 : IVec S16 32) (k0_hw369 : k0_chk369 v88), ∀ a x, ((![v88] : Fin 1 → IVec S16 32) a x).toNat < S4096.size a := fun v88 k0_hw369 => k0_hw369
def k0_off238 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_152 : BitVec 32 := 16#32
  let v89 : BitVec 32 := Scalar.muli arg11 c16_i32_152
  let c16_i32_153 : BitVec 32 := 16#32
  let v90 : BitVec 32 := Scalar.muli v89 c16_i32_153
  let c16_i32_154 : BitVec 32 := 16#32
  let v91 : BitVec 32 := Scalar.addi v90 c16_i32_154
  let v92 : Index := Scalar.indexCast v91
  ![v92.toNat]

def k0_chk370 (v100 : IVec S16 32) : Prop :=
  (∀ a x, ((![v100] : Fin 1 → IVec S16 32) a x).toNat < S4096.size a)
theorem k0_idx482_inb : ∀ (v100 : IVec S16 32) (k0_hw370 : k0_chk370 v100), ∀ a x, ((![v100] : Fin 1 → IVec S16 32) a x).toNat < S4096.size a := fun v100 k0_hw370 => k0_hw370
def k0_off239 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_158 : BitVec 32 := 16#32
  let v101 : BitVec 32 := Scalar.muli arg11 c16_i32_158
  let c16_i32_159 : BitVec 32 := 16#32
  let v102 : BitVec 32 := Scalar.muli v101 c16_i32_159
  let c32_i32 : BitVec 32 := 32#32
  let v103 : BitVec 32 := Scalar.addi v102 c32_i32
  let v104 : Index := Scalar.indexCast v103
  ![v104.toNat]

def k0_chk371 (v112 : IVec S16 32) : Prop :=
  (∀ a x, ((![v112] : Fin 1 → IVec S16 32) a x).toNat < S4096.size a)
theorem k0_idx483_inb : ∀ (v112 : IVec S16 32) (k0_hw371 : k0_chk371 v112), ∀ a x, ((![v112] : Fin 1 → IVec S16 32) a x).toNat < S4096.size a := fun v112 k0_hw371 => k0_hw371
def k0_off240 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_163 : BitVec 32 := 16#32
  let v113 : BitVec 32 := Scalar.muli arg11 c16_i32_163
  let c16_i32_164 : BitVec 32 := 16#32
  let v114 : BitVec 32 := Scalar.muli v113 c16_i32_164
  let c48_i32 : BitVec 32 := 48#32
  let v115 : BitVec 32 := Scalar.addi v114 c48_i32
  let v116 : Index := Scalar.indexCast v115
  ![v116.toNat]

def k0_chk372 (v124 : IVec S16 32) : Prop :=
  (∀ a x, ((![v124] : Fin 1 → IVec S16 32) a x).toNat < S4096.size a)
theorem k0_idx484_inb : ∀ (v124 : IVec S16 32) (k0_hw372 : k0_chk372 v124), ∀ a x, ((![v124] : Fin 1 → IVec S16 32) a x).toNat < S4096.size a := fun v124 k0_hw372 => k0_hw372
def k0_off241 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_168 : BitVec 32 := 16#32
  let v125 : BitVec 32 := Scalar.muli arg11 c16_i32_168
  let c16_i32_169 : BitVec 32 := 16#32
  let v126 : BitVec 32 := Scalar.muli v125 c16_i32_169
  let c64_i32 : BitVec 32 := 64#32
  let v127 : BitVec 32 := Scalar.addi v126 c64_i32
  let v128 : Index := Scalar.indexCast v127
  ![v128.toNat]

def k0_chk373 (v136 : IVec S16 32) : Prop :=
  (∀ a x, ((![v136] : Fin 1 → IVec S16 32) a x).toNat < S4096.size a)
theorem k0_idx485_inb : ∀ (v136 : IVec S16 32) (k0_hw373 : k0_chk373 v136), ∀ a x, ((![v136] : Fin 1 → IVec S16 32) a x).toNat < S4096.size a := fun v136 k0_hw373 => k0_hw373
def k0_off242 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_173 : BitVec 32 := 16#32
  let v137 : BitVec 32 := Scalar.muli arg11 c16_i32_173
  let c16_i32_174 : BitVec 32 := 16#32
  let v138 : BitVec 32 := Scalar.muli v137 c16_i32_174
  let c80_i32 : BitVec 32 := 80#32
  let v139 : BitVec 32 := Scalar.addi v138 c80_i32
  let v140 : Index := Scalar.indexCast v139
  ![v140.toNat]

def k0_chk374 (v148 : IVec S16 32) : Prop :=
  (∀ a x, ((![v148] : Fin 1 → IVec S16 32) a x).toNat < S4096.size a)
theorem k0_idx486_inb : ∀ (v148 : IVec S16 32) (k0_hw374 : k0_chk374 v148), ∀ a x, ((![v148] : Fin 1 → IVec S16 32) a x).toNat < S4096.size a := fun v148 k0_hw374 => k0_hw374
def k0_off243 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_178 : BitVec 32 := 16#32
  let v149 : BitVec 32 := Scalar.muli arg11 c16_i32_178
  let c16_i32_179 : BitVec 32 := 16#32
  let v150 : BitVec 32 := Scalar.muli v149 c16_i32_179
  let c96_i32 : BitVec 32 := 96#32
  let v151 : BitVec 32 := Scalar.addi v150 c96_i32
  let v152 : Index := Scalar.indexCast v151
  ![v152.toNat]

def k0_chk375 (v160 : IVec S16 32) : Prop :=
  (∀ a x, ((![v160] : Fin 1 → IVec S16 32) a x).toNat < S4096.size a)
theorem k0_idx487_inb : ∀ (v160 : IVec S16 32) (k0_hw375 : k0_chk375 v160), ∀ a x, ((![v160] : Fin 1 → IVec S16 32) a x).toNat < S4096.size a := fun v160 k0_hw375 => k0_hw375
def k0_off244 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_183 : BitVec 32 := 16#32
  let v161 : BitVec 32 := Scalar.muli arg11 c16_i32_183
  let c16_i32_184 : BitVec 32 := 16#32
  let v162 : BitVec 32 := Scalar.muli v161 c16_i32_184
  let c112_i32 : BitVec 32 := 112#32
  let v163 : BitVec 32 := Scalar.addi v162 c112_i32
  let v164 : Index := Scalar.indexCast v163
  ![v164.toNat]

def k0_chk376 (v172 : IVec S16 32) : Prop :=
  (∀ a x, ((![v172] : Fin 1 → IVec S16 32) a x).toNat < S4096.size a)
theorem k0_idx488_inb : ∀ (v172 : IVec S16 32) (k0_hw376 : k0_chk376 v172), ∀ a x, ((![v172] : Fin 1 → IVec S16 32) a x).toNat < S4096.size a := fun v172 k0_hw376 => k0_hw376
def k0_off245 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_188 : BitVec 32 := 16#32
  let v173 : BitVec 32 := Scalar.muli arg11 c16_i32_188
  let c16_i32_189 : BitVec 32 := 16#32
  let v174 : BitVec 32 := Scalar.muli v173 c16_i32_189
  let c128_i32_190 : BitVec 32 := 128#32
  let v175 : BitVec 32 := Scalar.addi v174 c128_i32_190
  let v176 : Index := Scalar.indexCast v175
  ![v176.toNat]

def k0_chk377 (v184 : IVec S16 32) : Prop :=
  (∀ a x, ((![v184] : Fin 1 → IVec S16 32) a x).toNat < S4096.size a)
theorem k0_idx489_inb : ∀ (v184 : IVec S16 32) (k0_hw377 : k0_chk377 v184), ∀ a x, ((![v184] : Fin 1 → IVec S16 32) a x).toNat < S4096.size a := fun v184 k0_hw377 => k0_hw377
def k0_off246 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_194 : BitVec 32 := 16#32
  let v185 : BitVec 32 := Scalar.muli arg11 c16_i32_194
  let c16_i32_195 : BitVec 32 := 16#32
  let v186 : BitVec 32 := Scalar.muli v185 c16_i32_195
  let c144_i32 : BitVec 32 := 144#32
  let v187 : BitVec 32 := Scalar.addi v186 c144_i32
  let v188 : Index := Scalar.indexCast v187
  ![v188.toNat]

def k0_chk378 (v196 : IVec S16 32) : Prop :=
  (∀ a x, ((![v196] : Fin 1 → IVec S16 32) a x).toNat < S4096.size a)
theorem k0_idx490_inb : ∀ (v196 : IVec S16 32) (k0_hw378 : k0_chk378 v196), ∀ a x, ((![v196] : Fin 1 → IVec S16 32) a x).toNat < S4096.size a := fun v196 k0_hw378 => k0_hw378
def k0_off247 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_199 : BitVec 32 := 16#32
  let v197 : BitVec 32 := Scalar.muli arg11 c16_i32_199
  let c16_i32_200 : BitVec 32 := 16#32
  let v198 : BitVec 32 := Scalar.muli v197 c16_i32_200
  let c160_i32 : BitVec 32 := 160#32
  let v199 : BitVec 32 := Scalar.addi v198 c160_i32
  let v200 : Index := Scalar.indexCast v199
  ![v200.toNat]

def k0_chk379 (v208 : IVec S16 32) : Prop :=
  (∀ a x, ((![v208] : Fin 1 → IVec S16 32) a x).toNat < S4096.size a)
theorem k0_idx491_inb : ∀ (v208 : IVec S16 32) (k0_hw379 : k0_chk379 v208), ∀ a x, ((![v208] : Fin 1 → IVec S16 32) a x).toNat < S4096.size a := fun v208 k0_hw379 => k0_hw379
def k0_off248 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_204 : BitVec 32 := 16#32
  let v209 : BitVec 32 := Scalar.muli arg11 c16_i32_204
  let c16_i32_205 : BitVec 32 := 16#32
  let v210 : BitVec 32 := Scalar.muli v209 c16_i32_205
  let c176_i32 : BitVec 32 := 176#32
  let v211 : BitVec 32 := Scalar.addi v210 c176_i32
  let v212 : Index := Scalar.indexCast v211
  ![v212.toNat]

def k0_chk380 (v220 : IVec S16 32) : Prop :=
  (∀ a x, ((![v220] : Fin 1 → IVec S16 32) a x).toNat < S4096.size a)
theorem k0_idx492_inb : ∀ (v220 : IVec S16 32) (k0_hw380 : k0_chk380 v220), ∀ a x, ((![v220] : Fin 1 → IVec S16 32) a x).toNat < S4096.size a := fun v220 k0_hw380 => k0_hw380
def k0_off249 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_209 : BitVec 32 := 16#32
  let v221 : BitVec 32 := Scalar.muli arg11 c16_i32_209
  let c16_i32_210 : BitVec 32 := 16#32
  let v222 : BitVec 32 := Scalar.muli v221 c16_i32_210
  let c192_i32 : BitVec 32 := 192#32
  let v223 : BitVec 32 := Scalar.addi v222 c192_i32
  let v224 : Index := Scalar.indexCast v223
  ![v224.toNat]

def k0_chk381 (v232 : IVec S16 32) : Prop :=
  (∀ a x, ((![v232] : Fin 1 → IVec S16 32) a x).toNat < S4096.size a)
theorem k0_idx493_inb : ∀ (v232 : IVec S16 32) (k0_hw381 : k0_chk381 v232), ∀ a x, ((![v232] : Fin 1 → IVec S16 32) a x).toNat < S4096.size a := fun v232 k0_hw381 => k0_hw381
def k0_off250 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_214 : BitVec 32 := 16#32
  let v233 : BitVec 32 := Scalar.muli arg11 c16_i32_214
  let c16_i32_215 : BitVec 32 := 16#32
  let v234 : BitVec 32 := Scalar.muli v233 c16_i32_215
  let c208_i32 : BitVec 32 := 208#32
  let v235 : BitVec 32 := Scalar.addi v234 c208_i32
  let v236 : Index := Scalar.indexCast v235
  ![v236.toNat]

def k0_chk382 (v244 : IVec S16 32) : Prop :=
  (∀ a x, ((![v244] : Fin 1 → IVec S16 32) a x).toNat < S4096.size a)
theorem k0_idx494_inb : ∀ (v244 : IVec S16 32) (k0_hw382 : k0_chk382 v244), ∀ a x, ((![v244] : Fin 1 → IVec S16 32) a x).toNat < S4096.size a := fun v244 k0_hw382 => k0_hw382
def k0_off251 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_219 : BitVec 32 := 16#32
  let v245 : BitVec 32 := Scalar.muli arg11 c16_i32_219
  let c16_i32_220 : BitVec 32 := 16#32
  let v246 : BitVec 32 := Scalar.muli v245 c16_i32_220
  let c224_i32 : BitVec 32 := 224#32
  let v247 : BitVec 32 := Scalar.addi v246 c224_i32
  let v248 : Index := Scalar.indexCast v247
  ![v248.toNat]

def k0_chk383 (v256 : IVec S16 32) : Prop :=
  (∀ a x, ((![v256] : Fin 1 → IVec S16 32) a x).toNat < S4096.size a)
theorem k0_idx495_inb : ∀ (v256 : IVec S16 32) (k0_hw383 : k0_chk383 v256), ∀ a x, ((![v256] : Fin 1 → IVec S16 32) a x).toNat < S4096.size a := fun v256 k0_hw383 => k0_hw383
def k0_off252 (k0_t24 : Fin k0_t24_loop.trips) : Fin 1 → Nat :=
  let c0_i32_131 : BitVec 32 := 0#32
  let c1_i32_133 : BitVec 32 := 1#32
  let arg11 : BitVec 32 := Scf.iv c0_i32_131 c1_i32_133 k0_t24
  let c16_i32_224 : BitVec 32 := 16#32
  let v257 : BitVec 32 := Scalar.muli arg11 c16_i32_224
  let c16_i32_225 : BitVec 32 := 16#32
  let v258 : BitVec 32 := Scalar.muli v257 c16_i32_225
  let c240_i32 : BitVec 32 := 240#32
  let v259 : BitVec 32 := Scalar.addi v258 c240_i32
  let v260 : Index := Scalar.indexCast v259
  ![v260.toNat]

def k0_chk384 (v268 : IVec S16 32) : Prop :=
  (∀ a x, ((![v268] : Fin 1 → IVec S16 32) a x).toNat < S4096.size a)
theorem k0_idx496_inb : ∀ (v268 : IVec S16 32) (k0_hw384 : k0_chk384 v268), ∀ a x, ((![v268] : Fin 1 → IVec S16 32) a x).toNat < S4096.size a := fun v268 k0_hw384 => k0_hw384
@[reducible] def k0_t25_loop : Scf.Loop 32 :=
  let c0_i32_136 : BitVec 32 := 0#32
  let c256_i32_137 : BitVec 32 := 256#32
  let v66 : BitVec 32 := Scalar.addi c0_i32_136 c256_i32_137
  let c1_i32_138 : BitVec 32 := 1#32
  ⟨c0_i32_136, v66, c1_i32_138⟩
def k0_off253 (k0_t25 : Fin k0_t25_loop.trips) : Fin 1 → Nat :=
  let c0_i32_136 : BitVec 32 := 0#32
  let c1_i32_138 : BitVec 32 := 1#32
  let arg11 : BitVec 32 := Scf.iv c0_i32_136 c1_i32_138 k0_t25
  let c16_i32_149 : BitVec 32 := 16#32
  let v77 : BitVec 32 := Scalar.muli arg11 c16_i32_149
  let v78 : Index := Scalar.indexCast v77
  ![v78.toNat]
@[reducible] def k0_t26_loop : Scf.Loop 32 :=
  let c0_i32_141 : BitVec 32 := 0#32
  let c128_i32_142 : BitVec 32 := 128#32
  let v68 : BitVec 32 := Scalar.addi c0_i32_141 c128_i32_142
  let c1_i32_143 : BitVec 32 := 1#32
  ⟨c0_i32_141, v68, c1_i32_143⟩
def k0_off254 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_149 : BitVec 32 := 16#32
  let v77 : BitVec 32 := Scalar.muli arg11 c16_i32_149
  let c16_i32_150 : BitVec 32 := 16#32
  let v78 : BitVec 32 := Scalar.muli v77 c16_i32_150
  let c0_i32_151 : BitVec 32 := 0#32
  let v79 : BitVec 32 := Scalar.addi v78 c0_i32_151
  let v80 : Index := Scalar.indexCast v79
  ![v80.toNat]

def k0_chk385 (v88 : IVec S16 32) : Prop :=
  (∀ a x, ((![v88] : Fin 1 → IVec S16 32) a x).toNat < S4096.size a) ∧
  (∀ a x, ((![v88] : Fin 1 → IVec S16 32) a x).toNat < S4096.size a)
theorem k0_idx497_inb : ∀ (v88 : IVec S16 32) (k0_hw385 : k0_chk385 v88), ∀ a x, ((![v88] : Fin 1 → IVec S16 32) a x).toNat < S4096.size a := fun v88 k0_hw385 => k0_hw385.1
theorem k0_idx498_inb : ∀ (v88 : IVec S16 32) (k0_hw385 : k0_chk385 v88), ∀ a x, ((![v88] : Fin 1 → IVec S16 32) a x).toNat < S4096.size a := fun v88 k0_hw385 => k0_hw385.2

def k0_chk386 (v89 : IVec S16 32) : Prop :=
  (∀ a x, ((![v89] : Fin 1 → IVec S16 32) a x).toNat < S32768.size a)
theorem k0_idx499_inb : ∀ (v89 : IVec S16 32) (k0_hw386 : k0_chk386 v89), ∀ a x, ((![v89] : Fin 1 → IVec S16 32) a x).toNat < S32768.size a := fun v89 k0_hw386 => k0_hw386
def k0_off255 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_154 : BitVec 32 := 16#32
  let v100 : BitVec 32 := Scalar.muli arg11 c16_i32_154
  let c16_i32_155 : BitVec 32 := 16#32
  let v101 : BitVec 32 := Scalar.muli v100 c16_i32_155
  let c16_i32_156 : BitVec 32 := 16#32
  let v102 : BitVec 32 := Scalar.addi v101 c16_i32_156
  let v103 : Index := Scalar.indexCast v102
  ![v103.toNat]

def k0_chk387 (v111 : IVec S16 32) : Prop :=
  (∀ a x, ((![v111] : Fin 1 → IVec S16 32) a x).toNat < S4096.size a) ∧
  (∀ a x, ((![v111] : Fin 1 → IVec S16 32) a x).toNat < S4096.size a)
theorem k0_idx500_inb : ∀ (v111 : IVec S16 32) (k0_hw387 : k0_chk387 v111), ∀ a x, ((![v111] : Fin 1 → IVec S16 32) a x).toNat < S4096.size a := fun v111 k0_hw387 => k0_hw387.1
theorem k0_idx501_inb : ∀ (v111 : IVec S16 32) (k0_hw387 : k0_chk387 v111), ∀ a x, ((![v111] : Fin 1 → IVec S16 32) a x).toNat < S4096.size a := fun v111 k0_hw387 => k0_hw387.2

def k0_chk388 (v112 : IVec S16 32) : Prop :=
  (∀ a x, ((![v112] : Fin 1 → IVec S16 32) a x).toNat < S32768.size a)
theorem k0_idx502_inb : ∀ (v112 : IVec S16 32) (k0_hw388 : k0_chk388 v112), ∀ a x, ((![v112] : Fin 1 → IVec S16 32) a x).toNat < S32768.size a := fun v112 k0_hw388 => k0_hw388
def k0_off256 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_164 : BitVec 32 := 16#32
  let v123 : BitVec 32 := Scalar.muli arg11 c16_i32_164
  let c16_i32_165 : BitVec 32 := 16#32
  let v124 : BitVec 32 := Scalar.muli v123 c16_i32_165
  let c32_i32 : BitVec 32 := 32#32
  let v125 : BitVec 32 := Scalar.addi v124 c32_i32
  let v126 : Index := Scalar.indexCast v125
  ![v126.toNat]

def k0_chk389 (v134 : IVec S16 32) : Prop :=
  (∀ a x, ((![v134] : Fin 1 → IVec S16 32) a x).toNat < S4096.size a) ∧
  (∀ a x, ((![v134] : Fin 1 → IVec S16 32) a x).toNat < S4096.size a)
theorem k0_idx503_inb : ∀ (v134 : IVec S16 32) (k0_hw389 : k0_chk389 v134), ∀ a x, ((![v134] : Fin 1 → IVec S16 32) a x).toNat < S4096.size a := fun v134 k0_hw389 => k0_hw389.1
theorem k0_idx504_inb : ∀ (v134 : IVec S16 32) (k0_hw389 : k0_chk389 v134), ∀ a x, ((![v134] : Fin 1 → IVec S16 32) a x).toNat < S4096.size a := fun v134 k0_hw389 => k0_hw389.2

def k0_chk390 (v135 : IVec S16 32) : Prop :=
  (∀ a x, ((![v135] : Fin 1 → IVec S16 32) a x).toNat < S32768.size a)
theorem k0_idx505_inb : ∀ (v135 : IVec S16 32) (k0_hw390 : k0_chk390 v135), ∀ a x, ((![v135] : Fin 1 → IVec S16 32) a x).toNat < S32768.size a := fun v135 k0_hw390 => k0_hw390
def k0_off257 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_173 : BitVec 32 := 16#32
  let v146 : BitVec 32 := Scalar.muli arg11 c16_i32_173
  let c16_i32_174 : BitVec 32 := 16#32
  let v147 : BitVec 32 := Scalar.muli v146 c16_i32_174
  let c48_i32 : BitVec 32 := 48#32
  let v148 : BitVec 32 := Scalar.addi v147 c48_i32
  let v149 : Index := Scalar.indexCast v148
  ![v149.toNat]

def k0_chk391 (v157 : IVec S16 32) : Prop :=
  (∀ a x, ((![v157] : Fin 1 → IVec S16 32) a x).toNat < S4096.size a) ∧
  (∀ a x, ((![v157] : Fin 1 → IVec S16 32) a x).toNat < S4096.size a)
theorem k0_idx506_inb : ∀ (v157 : IVec S16 32) (k0_hw391 : k0_chk391 v157), ∀ a x, ((![v157] : Fin 1 → IVec S16 32) a x).toNat < S4096.size a := fun v157 k0_hw391 => k0_hw391.1
theorem k0_idx507_inb : ∀ (v157 : IVec S16 32) (k0_hw391 : k0_chk391 v157), ∀ a x, ((![v157] : Fin 1 → IVec S16 32) a x).toNat < S4096.size a := fun v157 k0_hw391 => k0_hw391.2

def k0_chk392 (v158 : IVec S16 32) : Prop :=
  (∀ a x, ((![v158] : Fin 1 → IVec S16 32) a x).toNat < S32768.size a)
theorem k0_idx508_inb : ∀ (v158 : IVec S16 32) (k0_hw392 : k0_chk392 v158), ∀ a x, ((![v158] : Fin 1 → IVec S16 32) a x).toNat < S32768.size a := fun v158 k0_hw392 => k0_hw392
def k0_off258 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_182 : BitVec 32 := 16#32
  let v169 : BitVec 32 := Scalar.muli arg11 c16_i32_182
  let c16_i32_183 : BitVec 32 := 16#32
  let v170 : BitVec 32 := Scalar.muli v169 c16_i32_183
  let c64_i32 : BitVec 32 := 64#32
  let v171 : BitVec 32 := Scalar.addi v170 c64_i32
  let v172 : Index := Scalar.indexCast v171
  ![v172.toNat]

def k0_chk393 (v180 : IVec S16 32) : Prop :=
  (∀ a x, ((![v180] : Fin 1 → IVec S16 32) a x).toNat < S4096.size a) ∧
  (∀ a x, ((![v180] : Fin 1 → IVec S16 32) a x).toNat < S4096.size a)
theorem k0_idx509_inb : ∀ (v180 : IVec S16 32) (k0_hw393 : k0_chk393 v180), ∀ a x, ((![v180] : Fin 1 → IVec S16 32) a x).toNat < S4096.size a := fun v180 k0_hw393 => k0_hw393.1
theorem k0_idx510_inb : ∀ (v180 : IVec S16 32) (k0_hw393 : k0_chk393 v180), ∀ a x, ((![v180] : Fin 1 → IVec S16 32) a x).toNat < S4096.size a := fun v180 k0_hw393 => k0_hw393.2

def k0_chk394 (v181 : IVec S16 32) : Prop :=
  (∀ a x, ((![v181] : Fin 1 → IVec S16 32) a x).toNat < S32768.size a)
theorem k0_idx511_inb : ∀ (v181 : IVec S16 32) (k0_hw394 : k0_chk394 v181), ∀ a x, ((![v181] : Fin 1 → IVec S16 32) a x).toNat < S32768.size a := fun v181 k0_hw394 => k0_hw394
def k0_off259 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_191 : BitVec 32 := 16#32
  let v192 : BitVec 32 := Scalar.muli arg11 c16_i32_191
  let c16_i32_192 : BitVec 32 := 16#32
  let v193 : BitVec 32 := Scalar.muli v192 c16_i32_192
  let c80_i32 : BitVec 32 := 80#32
  let v194 : BitVec 32 := Scalar.addi v193 c80_i32
  let v195 : Index := Scalar.indexCast v194
  ![v195.toNat]

def k0_chk395 (v203 : IVec S16 32) : Prop :=
  (∀ a x, ((![v203] : Fin 1 → IVec S16 32) a x).toNat < S4096.size a) ∧
  (∀ a x, ((![v203] : Fin 1 → IVec S16 32) a x).toNat < S4096.size a)
theorem k0_idx512_inb : ∀ (v203 : IVec S16 32) (k0_hw395 : k0_chk395 v203), ∀ a x, ((![v203] : Fin 1 → IVec S16 32) a x).toNat < S4096.size a := fun v203 k0_hw395 => k0_hw395.1
theorem k0_idx513_inb : ∀ (v203 : IVec S16 32) (k0_hw395 : k0_chk395 v203), ∀ a x, ((![v203] : Fin 1 → IVec S16 32) a x).toNat < S4096.size a := fun v203 k0_hw395 => k0_hw395.2

def k0_chk396 (v204 : IVec S16 32) : Prop :=
  (∀ a x, ((![v204] : Fin 1 → IVec S16 32) a x).toNat < S32768.size a)
theorem k0_idx514_inb : ∀ (v204 : IVec S16 32) (k0_hw396 : k0_chk396 v204), ∀ a x, ((![v204] : Fin 1 → IVec S16 32) a x).toNat < S32768.size a := fun v204 k0_hw396 => k0_hw396
def k0_off260 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_200 : BitVec 32 := 16#32
  let v215 : BitVec 32 := Scalar.muli arg11 c16_i32_200
  let c16_i32_201 : BitVec 32 := 16#32
  let v216 : BitVec 32 := Scalar.muli v215 c16_i32_201
  let c96_i32 : BitVec 32 := 96#32
  let v217 : BitVec 32 := Scalar.addi v216 c96_i32
  let v218 : Index := Scalar.indexCast v217
  ![v218.toNat]

def k0_chk397 (v226 : IVec S16 32) : Prop :=
  (∀ a x, ((![v226] : Fin 1 → IVec S16 32) a x).toNat < S4096.size a) ∧
  (∀ a x, ((![v226] : Fin 1 → IVec S16 32) a x).toNat < S4096.size a)
theorem k0_idx515_inb : ∀ (v226 : IVec S16 32) (k0_hw397 : k0_chk397 v226), ∀ a x, ((![v226] : Fin 1 → IVec S16 32) a x).toNat < S4096.size a := fun v226 k0_hw397 => k0_hw397.1
theorem k0_idx516_inb : ∀ (v226 : IVec S16 32) (k0_hw397 : k0_chk397 v226), ∀ a x, ((![v226] : Fin 1 → IVec S16 32) a x).toNat < S4096.size a := fun v226 k0_hw397 => k0_hw397.2

def k0_chk398 (v227 : IVec S16 32) : Prop :=
  (∀ a x, ((![v227] : Fin 1 → IVec S16 32) a x).toNat < S32768.size a)
theorem k0_idx517_inb : ∀ (v227 : IVec S16 32) (k0_hw398 : k0_chk398 v227), ∀ a x, ((![v227] : Fin 1 → IVec S16 32) a x).toNat < S32768.size a := fun v227 k0_hw398 => k0_hw398
def k0_off261 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_209 : BitVec 32 := 16#32
  let v238 : BitVec 32 := Scalar.muli arg11 c16_i32_209
  let c16_i32_210 : BitVec 32 := 16#32
  let v239 : BitVec 32 := Scalar.muli v238 c16_i32_210
  let c112_i32 : BitVec 32 := 112#32
  let v240 : BitVec 32 := Scalar.addi v239 c112_i32
  let v241 : Index := Scalar.indexCast v240
  ![v241.toNat]

def k0_chk399 (v249 : IVec S16 32) : Prop :=
  (∀ a x, ((![v249] : Fin 1 → IVec S16 32) a x).toNat < S4096.size a) ∧
  (∀ a x, ((![v249] : Fin 1 → IVec S16 32) a x).toNat < S4096.size a)
theorem k0_idx518_inb : ∀ (v249 : IVec S16 32) (k0_hw399 : k0_chk399 v249), ∀ a x, ((![v249] : Fin 1 → IVec S16 32) a x).toNat < S4096.size a := fun v249 k0_hw399 => k0_hw399.1
theorem k0_idx519_inb : ∀ (v249 : IVec S16 32) (k0_hw399 : k0_chk399 v249), ∀ a x, ((![v249] : Fin 1 → IVec S16 32) a x).toNat < S4096.size a := fun v249 k0_hw399 => k0_hw399.2

def k0_chk400 (v250 : IVec S16 32) : Prop :=
  (∀ a x, ((![v250] : Fin 1 → IVec S16 32) a x).toNat < S32768.size a)
theorem k0_idx520_inb : ∀ (v250 : IVec S16 32) (k0_hw400 : k0_chk400 v250), ∀ a x, ((![v250] : Fin 1 → IVec S16 32) a x).toNat < S32768.size a := fun v250 k0_hw400 => k0_hw400
def k0_off262 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_218 : BitVec 32 := 16#32
  let v261 : BitVec 32 := Scalar.muli arg11 c16_i32_218
  let c16_i32_219 : BitVec 32 := 16#32
  let v262 : BitVec 32 := Scalar.muli v261 c16_i32_219
  let c128_i32_220 : BitVec 32 := 128#32
  let v263 : BitVec 32 := Scalar.addi v262 c128_i32_220
  let v264 : Index := Scalar.indexCast v263
  ![v264.toNat]

def k0_chk401 (v272 : IVec S16 32) : Prop :=
  (∀ a x, ((![v272] : Fin 1 → IVec S16 32) a x).toNat < S4096.size a) ∧
  (∀ a x, ((![v272] : Fin 1 → IVec S16 32) a x).toNat < S4096.size a)
theorem k0_idx521_inb : ∀ (v272 : IVec S16 32) (k0_hw401 : k0_chk401 v272), ∀ a x, ((![v272] : Fin 1 → IVec S16 32) a x).toNat < S4096.size a := fun v272 k0_hw401 => k0_hw401.1
theorem k0_idx522_inb : ∀ (v272 : IVec S16 32) (k0_hw401 : k0_chk401 v272), ∀ a x, ((![v272] : Fin 1 → IVec S16 32) a x).toNat < S4096.size a := fun v272 k0_hw401 => k0_hw401.2

def k0_chk402 (v273 : IVec S16 32) : Prop :=
  (∀ a x, ((![v273] : Fin 1 → IVec S16 32) a x).toNat < S32768.size a)
theorem k0_idx523_inb : ∀ (v273 : IVec S16 32) (k0_hw402 : k0_chk402 v273), ∀ a x, ((![v273] : Fin 1 → IVec S16 32) a x).toNat < S32768.size a := fun v273 k0_hw402 => k0_hw402
def k0_off263 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_228 : BitVec 32 := 16#32
  let v284 : BitVec 32 := Scalar.muli arg11 c16_i32_228
  let c16_i32_229 : BitVec 32 := 16#32
  let v285 : BitVec 32 := Scalar.muli v284 c16_i32_229
  let c144_i32 : BitVec 32 := 144#32
  let v286 : BitVec 32 := Scalar.addi v285 c144_i32
  let v287 : Index := Scalar.indexCast v286
  ![v287.toNat]

def k0_chk403 (v295 : IVec S16 32) : Prop :=
  (∀ a x, ((![v295] : Fin 1 → IVec S16 32) a x).toNat < S4096.size a) ∧
  (∀ a x, ((![v295] : Fin 1 → IVec S16 32) a x).toNat < S4096.size a)
theorem k0_idx524_inb : ∀ (v295 : IVec S16 32) (k0_hw403 : k0_chk403 v295), ∀ a x, ((![v295] : Fin 1 → IVec S16 32) a x).toNat < S4096.size a := fun v295 k0_hw403 => k0_hw403.1
theorem k0_idx525_inb : ∀ (v295 : IVec S16 32) (k0_hw403 : k0_chk403 v295), ∀ a x, ((![v295] : Fin 1 → IVec S16 32) a x).toNat < S4096.size a := fun v295 k0_hw403 => k0_hw403.2

def k0_chk404 (v296 : IVec S16 32) : Prop :=
  (∀ a x, ((![v296] : Fin 1 → IVec S16 32) a x).toNat < S32768.size a)
theorem k0_idx526_inb : ∀ (v296 : IVec S16 32) (k0_hw404 : k0_chk404 v296), ∀ a x, ((![v296] : Fin 1 → IVec S16 32) a x).toNat < S32768.size a := fun v296 k0_hw404 => k0_hw404
def k0_off264 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_237 : BitVec 32 := 16#32
  let v307 : BitVec 32 := Scalar.muli arg11 c16_i32_237
  let c16_i32_238 : BitVec 32 := 16#32
  let v308 : BitVec 32 := Scalar.muli v307 c16_i32_238
  let c160_i32 : BitVec 32 := 160#32
  let v309 : BitVec 32 := Scalar.addi v308 c160_i32
  let v310 : Index := Scalar.indexCast v309
  ![v310.toNat]

def k0_chk405 (v318 : IVec S16 32) : Prop :=
  (∀ a x, ((![v318] : Fin 1 → IVec S16 32) a x).toNat < S4096.size a) ∧
  (∀ a x, ((![v318] : Fin 1 → IVec S16 32) a x).toNat < S4096.size a)
theorem k0_idx527_inb : ∀ (v318 : IVec S16 32) (k0_hw405 : k0_chk405 v318), ∀ a x, ((![v318] : Fin 1 → IVec S16 32) a x).toNat < S4096.size a := fun v318 k0_hw405 => k0_hw405.1
theorem k0_idx528_inb : ∀ (v318 : IVec S16 32) (k0_hw405 : k0_chk405 v318), ∀ a x, ((![v318] : Fin 1 → IVec S16 32) a x).toNat < S4096.size a := fun v318 k0_hw405 => k0_hw405.2

def k0_chk406 (v319 : IVec S16 32) : Prop :=
  (∀ a x, ((![v319] : Fin 1 → IVec S16 32) a x).toNat < S32768.size a)
theorem k0_idx529_inb : ∀ (v319 : IVec S16 32) (k0_hw406 : k0_chk406 v319), ∀ a x, ((![v319] : Fin 1 → IVec S16 32) a x).toNat < S32768.size a := fun v319 k0_hw406 => k0_hw406
def k0_off265 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_246 : BitVec 32 := 16#32
  let v330 : BitVec 32 := Scalar.muli arg11 c16_i32_246
  let c16_i32_247 : BitVec 32 := 16#32
  let v331 : BitVec 32 := Scalar.muli v330 c16_i32_247
  let c176_i32 : BitVec 32 := 176#32
  let v332 : BitVec 32 := Scalar.addi v331 c176_i32
  let v333 : Index := Scalar.indexCast v332
  ![v333.toNat]

def k0_chk407 (v341 : IVec S16 32) : Prop :=
  (∀ a x, ((![v341] : Fin 1 → IVec S16 32) a x).toNat < S4096.size a) ∧
  (∀ a x, ((![v341] : Fin 1 → IVec S16 32) a x).toNat < S4096.size a)
theorem k0_idx530_inb : ∀ (v341 : IVec S16 32) (k0_hw407 : k0_chk407 v341), ∀ a x, ((![v341] : Fin 1 → IVec S16 32) a x).toNat < S4096.size a := fun v341 k0_hw407 => k0_hw407.1
theorem k0_idx531_inb : ∀ (v341 : IVec S16 32) (k0_hw407 : k0_chk407 v341), ∀ a x, ((![v341] : Fin 1 → IVec S16 32) a x).toNat < S4096.size a := fun v341 k0_hw407 => k0_hw407.2

def k0_chk408 (v342 : IVec S16 32) : Prop :=
  (∀ a x, ((![v342] : Fin 1 → IVec S16 32) a x).toNat < S32768.size a)
theorem k0_idx532_inb : ∀ (v342 : IVec S16 32) (k0_hw408 : k0_chk408 v342), ∀ a x, ((![v342] : Fin 1 → IVec S16 32) a x).toNat < S32768.size a := fun v342 k0_hw408 => k0_hw408
def k0_off266 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_255 : BitVec 32 := 16#32
  let v353 : BitVec 32 := Scalar.muli arg11 c16_i32_255
  let c16_i32_256 : BitVec 32 := 16#32
  let v354 : BitVec 32 := Scalar.muli v353 c16_i32_256
  let c192_i32 : BitVec 32 := 192#32
  let v355 : BitVec 32 := Scalar.addi v354 c192_i32
  let v356 : Index := Scalar.indexCast v355
  ![v356.toNat]

def k0_chk409 (v364 : IVec S16 32) : Prop :=
  (∀ a x, ((![v364] : Fin 1 → IVec S16 32) a x).toNat < S4096.size a) ∧
  (∀ a x, ((![v364] : Fin 1 → IVec S16 32) a x).toNat < S4096.size a)
theorem k0_idx533_inb : ∀ (v364 : IVec S16 32) (k0_hw409 : k0_chk409 v364), ∀ a x, ((![v364] : Fin 1 → IVec S16 32) a x).toNat < S4096.size a := fun v364 k0_hw409 => k0_hw409.1
theorem k0_idx534_inb : ∀ (v364 : IVec S16 32) (k0_hw409 : k0_chk409 v364), ∀ a x, ((![v364] : Fin 1 → IVec S16 32) a x).toNat < S4096.size a := fun v364 k0_hw409 => k0_hw409.2

def k0_chk410 (v365 : IVec S16 32) : Prop :=
  (∀ a x, ((![v365] : Fin 1 → IVec S16 32) a x).toNat < S32768.size a)
theorem k0_idx535_inb : ∀ (v365 : IVec S16 32) (k0_hw410 : k0_chk410 v365), ∀ a x, ((![v365] : Fin 1 → IVec S16 32) a x).toNat < S32768.size a := fun v365 k0_hw410 => k0_hw410
def k0_off267 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_264 : BitVec 32 := 16#32
  let v376 : BitVec 32 := Scalar.muli arg11 c16_i32_264
  let c16_i32_265 : BitVec 32 := 16#32
  let v377 : BitVec 32 := Scalar.muli v376 c16_i32_265
  let c208_i32 : BitVec 32 := 208#32
  let v378 : BitVec 32 := Scalar.addi v377 c208_i32
  let v379 : Index := Scalar.indexCast v378
  ![v379.toNat]

def k0_chk411 (v387 : IVec S16 32) : Prop :=
  (∀ a x, ((![v387] : Fin 1 → IVec S16 32) a x).toNat < S4096.size a) ∧
  (∀ a x, ((![v387] : Fin 1 → IVec S16 32) a x).toNat < S4096.size a)
theorem k0_idx536_inb : ∀ (v387 : IVec S16 32) (k0_hw411 : k0_chk411 v387), ∀ a x, ((![v387] : Fin 1 → IVec S16 32) a x).toNat < S4096.size a := fun v387 k0_hw411 => k0_hw411.1
theorem k0_idx537_inb : ∀ (v387 : IVec S16 32) (k0_hw411 : k0_chk411 v387), ∀ a x, ((![v387] : Fin 1 → IVec S16 32) a x).toNat < S4096.size a := fun v387 k0_hw411 => k0_hw411.2

def k0_chk412 (v388 : IVec S16 32) : Prop :=
  (∀ a x, ((![v388] : Fin 1 → IVec S16 32) a x).toNat < S32768.size a)
theorem k0_idx538_inb : ∀ (v388 : IVec S16 32) (k0_hw412 : k0_chk412 v388), ∀ a x, ((![v388] : Fin 1 → IVec S16 32) a x).toNat < S32768.size a := fun v388 k0_hw412 => k0_hw412
def k0_off268 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_273 : BitVec 32 := 16#32
  let v399 : BitVec 32 := Scalar.muli arg11 c16_i32_273
  let c16_i32_274 : BitVec 32 := 16#32
  let v400 : BitVec 32 := Scalar.muli v399 c16_i32_274
  let c224_i32 : BitVec 32 := 224#32
  let v401 : BitVec 32 := Scalar.addi v400 c224_i32
  let v402 : Index := Scalar.indexCast v401
  ![v402.toNat]

def k0_chk413 (v410 : IVec S16 32) : Prop :=
  (∀ a x, ((![v410] : Fin 1 → IVec S16 32) a x).toNat < S4096.size a) ∧
  (∀ a x, ((![v410] : Fin 1 → IVec S16 32) a x).toNat < S4096.size a)
theorem k0_idx539_inb : ∀ (v410 : IVec S16 32) (k0_hw413 : k0_chk413 v410), ∀ a x, ((![v410] : Fin 1 → IVec S16 32) a x).toNat < S4096.size a := fun v410 k0_hw413 => k0_hw413.1
theorem k0_idx540_inb : ∀ (v410 : IVec S16 32) (k0_hw413 : k0_chk413 v410), ∀ a x, ((![v410] : Fin 1 → IVec S16 32) a x).toNat < S4096.size a := fun v410 k0_hw413 => k0_hw413.2

def k0_chk414 (v411 : IVec S16 32) : Prop :=
  (∀ a x, ((![v411] : Fin 1 → IVec S16 32) a x).toNat < S32768.size a)
theorem k0_idx541_inb : ∀ (v411 : IVec S16 32) (k0_hw414 : k0_chk414 v411), ∀ a x, ((![v411] : Fin 1 → IVec S16 32) a x).toNat < S32768.size a := fun v411 k0_hw414 => k0_hw414
def k0_off269 (k0_t26 : Fin k0_t26_loop.trips) : Fin 1 → Nat :=
  let c0_i32_141 : BitVec 32 := 0#32
  let c1_i32_143 : BitVec 32 := 1#32
  let arg11 : BitVec 32 := Scf.iv c0_i32_141 c1_i32_143 k0_t26
  let c16_i32_282 : BitVec 32 := 16#32
  let v422 : BitVec 32 := Scalar.muli arg11 c16_i32_282
  let c16_i32_283 : BitVec 32 := 16#32
  let v423 : BitVec 32 := Scalar.muli v422 c16_i32_283
  let c240_i32 : BitVec 32 := 240#32
  let v424 : BitVec 32 := Scalar.addi v423 c240_i32
  let v425 : Index := Scalar.indexCast v424
  ![v425.toNat]

def k0_chk415 (v433 : IVec S16 32) : Prop :=
  (∀ a x, ((![v433] : Fin 1 → IVec S16 32) a x).toNat < S4096.size a) ∧
  (∀ a x, ((![v433] : Fin 1 → IVec S16 32) a x).toNat < S4096.size a)
theorem k0_idx542_inb : ∀ (v433 : IVec S16 32) (k0_hw415 : k0_chk415 v433), ∀ a x, ((![v433] : Fin 1 → IVec S16 32) a x).toNat < S4096.size a := fun v433 k0_hw415 => k0_hw415.1
theorem k0_idx543_inb : ∀ (v433 : IVec S16 32) (k0_hw415 : k0_chk415 v433), ∀ a x, ((![v433] : Fin 1 → IVec S16 32) a x).toNat < S4096.size a := fun v433 k0_hw415 => k0_hw415.2

def k0_chk416 (v434 : IVec S16 32) : Prop :=
  (∀ a x, ((![v434] : Fin 1 → IVec S16 32) a x).toNat < S32768.size a)
theorem k0_idx544_inb : ∀ (v434 : IVec S16 32) (k0_hw416 : k0_chk416 v434), ∀ a x, ((![v434] : Fin 1 → IVec S16 32) a x).toNat < S32768.size a := fun v434 k0_hw416 => k0_hw416
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Ranked.lean ====
abbrev S64x32768 : Shape := ⟨2, ![64, 32768]⟩

abbrev nBuf : Space → Nat
  | .hbm => 5
  | .vmem => 0
  | .smem => 0
  | _ => 0

abbrev bufTy : (tb : Table) → Fin (tcTables nBuf tb) → BufTy
  | .hbm, ⟨0, _⟩ => ⟨S64x32768, .i32⟩
  | .hbm, ⟨1, _⟩ => ⟨S64x32768, .i32⟩
  | .hbm, ⟨2, _⟩ => ⟨S64x32768, .i32⟩
  | .hbm, ⟨3, _⟩ => ⟨S64x32768, .i32⟩
  | .hbm, ⟨4, _⟩ => ⟨S64x32768, .i32⟩
  | _, _ => ⟨S64x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Tile.lean ====
/-
  The radix sort that one tile runs, written once: a step of each kind (zeroing, counting, scanning,
  the four placing passes), sixteen steps to a trip, the loops, and the two rows one tile sorts.
  The printed kernel body is this text with the statements grouped otherwise (`Proof.SortTile.lean`).
-/
module

public import Idealize.ShloMosaic.Lib.Pipeline
public import Idealize.ShloMosaic.Lib.Scf
public import Idealize.ShloMosaic.Lib.SparseCore
public import Idealize.ShloMosaic.PureOps

@[expose] public section

noncomputable section

namespace Cert.Radix

open Idealize.ShloMosaic Idealize.SL.Sem

abbrev Sx : Shape := ⟨2, ![64, 32768]⟩
abbrev Srow : Shape := ⟨2, ![1, 32768]⟩
abbrev Sk : Shape := ⟨1, ![32768]⟩
abbrev Sh : Shape := ⟨1, ![4096]⟩
abbrev Sv : Shape := ⟨1, ![16]⟩
abbrev S1 : Shape := ⟨1, ![1]⟩

/-- Sixteen 32-bit words, one to a lane. -/
abbrev Lanes : Type := IVec Sv 32

theorem sv_pos : 0 < Sv.numel := by decide
theorem sh_pos : 0 < Sh.numel := by decide
theorem sk_pos : 0 < Sk.numel := by decide

/-! ## The values -/

/-- The counter of a digit in a lane. -/
def slotOf (lane d : Lanes) : Lanes := ori (shli d (broadcast Sv 4#32)) lane
/-- The lowest digit of a key. -/
def dig0 (k : Lanes) : Lanes := andi k (broadcast Sv 255#32)
/-- The digit of a key that begins at bit `s`. -/
def digAt (s : BitVec 32) (k : Lanes) : Lanes := andi (shrsi k (broadcast Sv s)) (broadcast Sv 255#32)
/-- The place a rank is written to. -/
def placeOf (q : Lanes) : Lanes :=
  ori (shli (andi q (broadcast Sv 2047#32)) (broadcast Sv 4#32)) (shrsi q (broadcast Sv 11#32))
/-- The address held in a payload. -/
def addrOf (p : Lanes) : Lanes := andi p (broadcast Sv 32767#32)
def ones : Lanes := broadcast Sv 1#32
def zeros : Lanes := broadcast Sv 0#32

/-- What the first pass writes: two digits and the key's address. -/
def pay0 (lane k : Lanes) (a0 : BitVec 32) : Lanes :=
  ori (ori (shli (digAt 16#32 k) (broadcast Sv 23#32)) (shli (digAt 8#32 k) (broadcast Sv 15#32)))
    (addi lane (broadcast Sv a0))
/-- What the second writes: the key's top digit, the digit before it, the address. -/
def pay1 (p k : Lanes) : Lanes :=
  ori (ori (shli (digAt 24#32 k) (broadcast Sv 23#32)) (shli (shrsi p (broadcast Sv 23#32)) (broadcast Sv 15#32)))
    (addrOf p)
/-- What the third writes: the top digit and the address. -/
def pay2 (p : Lanes) : Lanes :=
  ori (shli (shrsi p (broadcast Sv 23#32)) (broadcast Sv 15#32)) (addrOf p)
/-- What the last writes: the position in the row of the address. -/
def pay3 (p : Lanes) : Lanes :=
  ori (shli (andi (addrOf p) (broadcast Sv 15#32)) (broadcast Sv 11#32)) (shrsi (addrOf p) (broadcast Sv 4#32))

/-- The address of a group of sixteen, trip `t`'s `j`-th. -/
def group (t : Nat) (j : Fin 16) : BitVec 32 :=
  Scalar.addi (Scalar.muli (Scalar.muli (Scf.iv 0#32 1#32 t) 16#32) 16#32) (BitVec.ofNat 32 (16 * j.val))
def groupOff (t : Nat) (j : Fin 16) : Fin 1 → Nat := ![(Scalar.indexCast (group t j)).toNat]
def scanOff (t : Nat) : Fin 1 → Nat := ![(Scalar.indexCast (Scalar.muli (Scf.iv 0#32 1#32 t) 16#32)).toNat]

theorem toNat_group {t : Nat} (ht : t < 128) (j : Fin 16) : (group t j).toNat = 256 * t + 16 * j.val := by
  have := j.isLt
  simp only [group, Scalar.addi, Scalar.muli, Scf.iv, IntOp.addi, IntOp.muli, BitVec.toNat_add, BitVec.toNat_mul, BitVec.toNat_ofNat]
  omega

theorem groupOff_inb_k {t : Nat} (ht : t < 128) (j : Fin 16) : ∀ a, groupOff t j a + Sv.size a ≤ Sk.size a :=
  Rect.inb₁ (by
    have := j.isLt
    show (group t j).toNat + 16 ≤ 32768
    rw [toNat_group ht]; omega)

theorem groupOff_inb_h {t : Nat} (ht : t < 16) (j : Fin 16) : ∀ a, groupOff t j a + Sv.size a ≤ Sh.size a :=
  Rect.inb₁ (by
    have := j.isLt
    show (group t j).toNat + 16 ≤ 4096
    rw [toNat_group (by omega)]; omega)

theorem toNat_scanOff {t : Nat} (ht : t < 256) : scanOff t 0 = 16 * t := by
  show (Scalar.muli (Scf.iv 0#32 1#32 t) 16#32).toNat = _
  simp only [Scalar.muli, Scf.iv, IntOp.muli, BitVec.toNat_add, BitVec.toNat_mul, BitVec.toNat_ofNat]
  omega

theorem scanOff_inb {t : Nat} (ht : t < 256) : ∀ a, scanOff t a + Sv.size a ≤ Sh.size a :=
  Rect.inb₁ (by show scanOff t 0 + 16 ≤ 4096; rw [toNat_scanOff ht]; omega)

/-! ## What the body assumes of its index vectors -/

def InH (v : Lanes) : Prop := ∀ a x, ((![v] : Fin 1 → Lanes) a x).toNat < Sh.size a
def InH2 (v : Lanes) : Prop :=
  (∀ a x, ((![v] : Fin 1 → Lanes) a x).toNat < Sh.size a) ∧ (∀ a x, ((![v] : Fin 1 → Lanes) a x).toNat < Sh.size a)
def InK (v : Lanes) : Prop := ∀ a x, ((![v] : Fin 1 → Lanes) a x).toNat < Sk.size a

set_option synthInstance.maxHeartbeats 0 in
instance InH.dec : ∀ (v : Lanes), Decidable (InH v) := fun v => decidable_of_iff' _ (Iff.of_eq (InH.eq_1 v))
set_option synthInstance.maxHeartbeats 0 in
instance InH2.dec : ∀ (v : Lanes), Decidable (InH2 v) := fun v => decidable_of_iff' _ (Iff.of_eq (InH2.eq_1 v))
set_option synthInstance.maxHeartbeats 0 in
instance InK.dec : ∀ (v : Lanes), Decidable (InK v) := fun v => decidable_of_iff' _ (Iff.of_eq (InK.eq_1 v))

/-! ## The steps -/

section Steps

variable {nD : Nat} {τ : Topo} {sig : RefSig} {F : FTy → Type} [FloatOps F] {Λ : Labels} {c : Fin τ.nSC} {s : Fin τ.nSub}

/-- A program of the tile. -/
abbrev TileM (nD : Nat) {τ : Topo} (sig : RefSig) (F : FTy → Type) (Λ : Labels) (c : Fin τ.nSC) (s : Fin τ.nSub) (α : Type) :=
  Prog (TpuEff nD τ sig (Elt F) Λ (.scVector c s)) α

/-- Sixteen counters put to zero (what they held is read and not used). -/
def zeroStep (h : Memref sig .scVector .vmem Sh .i32) (off : Fin 1 → Nat) (inb : ∀ a, off a + Sv.size a ≤ Sh.size a) : TileM nD sig F Λ c s Unit := do
  let _ : Vec F Sv .i32 ← Prog.lift (.load h (Rect.unit (s := Sh) off Sv.size inb).toLoadRect (View.loadsAt_vmem sv_pos))
  Prog.lift (.store h (Rect.unit (s := Sh) off Sv.size inb) zeros Finset.univ (View.stores_vmem_bits_univ sv_pos rfl) (.inl rfl))
  pure ⟨⟩

/-- Sixteen keys counted, each in its own lane's counter of its digit. -/
def countStep (lane : Lanes) (dig : Lanes → Lanes) (src : Memref sig .scVector .vmem Sk .i32) (h : Memref sig .scVector .vmem Sh .i32)
    (off : Fin 1 → Nat) (inb : ∀ a, off a + Sv.size a ≤ Sk.size a) : TileM nD sig F Λ c s Unit := do
  let k : Vec F Sv .i32 ← Prog.lift (.load src (Rect.unit (s := Sk) off Sv.size inb).toLoadRect (View.loadsAt_vmem sv_pos))
  have w : InH (slotOf lane (dig k)) := (← Prog.lift (TpuEff.assume (InH (slotOf lane (dig k))) (InH.dec (slotOf lane (dig k))))).down
  SparseCore.vectorStoreIdx h ![slotOf lane (dig k)] ones (fun _ => 1#1) true w (View.stores_vmem_bits_univ sh_pos rfl)
  pure ⟨⟩

/-- Sixteen counters replaced by the running sums before each, and the other table's put to zero. -/
def scanStep (h h' : Memref sig .scVector .vmem Sh .i32) (off : Fin 1 → Nat) (inb : ∀ a, off a + Sv.size a ≤ Sh.size a)
    (hsl : Sv.Slices ![15] S1) (hp : ∀ a, (![0] : Fin 1 → Nat) a < S1.size a) (carry : BitVec 32) : TileM nD sig F Λ c s (BitVec 32) := do
  let v : Vec F Sv .i32 ← Prog.lift (.load h (Rect.unit (s := Sh) off Sv.size inb).toLoadRect (View.loadsAt_vmem sv_pos))
  let _ : Vec F Sv .i32 ← Prog.lift (.load h (Rect.unit (s := Sh) off Sv.size inb).toLoadRect (View.loadsAt_vmem sv_pos))
  Prog.lift (.store h (Rect.unit (s := Sh) off Sv.size inb) (addi (subi (scan .sum v) v) (broadcast Sv carry)) Finset.univ (View.stores_vmem_bits_univ sv_pos rfl) (.inl rfl))
  let _ : Vec F Sv .i32 ← Prog.lift (.load h' (Rect.unit (s := Sh) off Sv.size inb).toLoadRect (View.loadsAt_vmem sv_pos))
  Prog.lift (.store h' (Rect.unit (s := Sh) off Sv.size inb) zeros Finset.univ (View.stores_vmem_bits_univ sv_pos rfl) (.inl rfl))
  pure (Scalar.addi carry (extractAt ![0] (extractStridedSlice S1 ![15] (scan .sum v) hsl) hp))

/-- Sixteen elements placed by the ranks their counters hold, each counter raised by one. -/
def placeStep (lane : Lanes) (dig pay : Lanes → Lanes) (src dst : Memref sig .scVector .vmem Sk .i32) (h : Memref sig .scVector .vmem Sh .i32)
    (off : Fin 1 → Nat) (inb : ∀ a, off a + Sv.size a ≤ Sk.size a) : TileM nD sig F Λ c s Unit := do
  let k : Vec F Sv .i32 ← Prog.lift (.load src (Rect.unit (s := Sk) off Sv.size inb).toLoadRect (View.loadsAt_vmem sv_pos))
  have w : InH2 (slotOf lane (dig k)) := (← Prog.lift (TpuEff.assume (InH2 (slotOf lane (dig k))) (InH2.dec (slotOf lane (dig k))))).down
  let q : Vec F Sv .i32 ← SparseCore.vectorLoadIdx h ![slotOf lane (dig k)] w.1 (View.loads_vmem sh_pos)
  SparseCore.vectorStoreIdx h ![slotOf lane (dig k)] (addi q ones) (fun _ => 1#1) false w.2 (View.stores_vmem_bits_univ sh_pos rfl)
  have w' : InK (placeOf q) := (← Prog.lift (TpuEff.assume (InK (placeOf q)) (InK.dec (placeOf q)))).down
  SparseCore.vectorStoreIdx dst ![placeOf q] (pay k) (fun _ => 1#1) false w' (View.stores_vmem_bits_univ sk_pos rfl)
  pure ⟨⟩

/-- The second pass's: the key is fetched again from the address in the payload. -/
def fetchStep (lane : Lanes) (keys src dst : Memref sig .scVector .vmem Sk .i32) (h : Memref sig .scVector .vmem Sh .i32)
    (off : Fin 1 → Nat) (inb : ∀ a, off a + Sv.size a ≤ Sk.size a) : TileM nD sig F Λ c s Unit := do
  let p : Vec F Sv .i32 ← Prog.lift (.load src (Rect.unit (s := Sk) off Sv.size inb).toLoadRect (View.loadsAt_vmem sv_pos))
  have w : InH2 (slotOf lane (digAt 15#32 p)) := (← Prog.lift (TpuEff.assume (InH2 (slotOf lane (digAt 15#32 p))) (InH2.dec (slotOf lane (digAt 15#32 p))))).down
  let q : Vec F Sv .i32 ← SparseCore.vectorLoadIdx h ![slotOf lane (digAt 15#32 p)] w.1 (View.loads_vmem sh_pos)
  SparseCore.vectorStoreIdx h ![slotOf lane (digAt 15#32 p)] (addi q ones) (fun _ => 1#1) false w.2 (View.stores_vmem_bits_univ sh_pos rfl)
  have wa : InK (addrOf p) := (← Prog.lift (TpuEff.assume (InK (addrOf p)) (InK.dec (addrOf p)))).down
  let k : Vec F Sv .i32 ← SparseCore.vectorLoadIdx keys ![addrOf p] wa (View.loads_vmem sk_pos)
  have w' : InK (placeOf q) := (← Prog.lift (TpuEff.assume (InK (placeOf q)) (InK.dec (placeOf q)))).down
  SparseCore.vectorStoreIdx dst ![placeOf q] (pay1 p k) (fun _ => 1#1) false w' (View.stores_vmem_bits_univ sk_pos rfl)
  pure ⟨⟩

/-- The last pass's: the position is written at the rank itself. -/
def lastStep (lane : Lanes) (src dst : Memref sig .scVector .vmem Sk .i32) (h : Memref sig .scVector .vmem Sh .i32)
    (off : Fin 1 → Nat) (inb : ∀ a, off a + Sv.size a ≤ Sk.size a) : TileM nD sig F Λ c s Unit := do
  let p : Vec F Sv .i32 ← Prog.lift (.load src (Rect.unit (s := Sk) off Sv.size inb).toLoadRect (View.loadsAt_vmem sv_pos))
  have w : InH2 (slotOf lane (digAt 15#32 p)) := (← Prog.lift (TpuEff.assume (InH2 (slotOf lane (digAt 15#32 p))) (InH2.dec (slotOf lane (digAt 15#32 p))))).down
  let q : Vec F Sv .i32 ← SparseCore.vectorLoadIdx h ![slotOf lane (digAt 15#32 p)] w.1 (View.loads_vmem sh_pos)
  have w' : InK q := (← Prog.lift (TpuEff.assume (InK q) (InK.dec q))).down
  SparseCore.vectorStoreIdx h ![slotOf lane (digAt 15#32 p)] (addi q ones) (fun _ => 1#1) false w.2 (View.stores_vmem_bits_univ sh_pos rfl)
  SparseCore.vectorStoreIdx dst ![q] (pay3 p) (fun _ => 1#1) false w' (View.stores_vmem_bits_univ sk_pos rfl)
  pure ⟨⟩

/-! ## The loops -/

@[reducible] def zeroLoop : Scf.Loop 32 := ⟨0#32, Scalar.addi 0#32 16#32, 1#32⟩
@[reducible] def sweepLoop : Scf.Loop 32 := ⟨0#32, Scalar.addi 0#32 128#32, 1#32⟩
@[reducible] def scanLoop : Scf.Loop 32 := ⟨0#32, Scalar.addi 0#32 256#32, 1#32⟩

theorem zeroLoop_trips : zeroLoop.trips = 16 := by decide
theorem sweepLoop_trips : sweepLoop.trips = 128 := by decide
theorem scanLoop_trips : scanLoop.trips = 256 := by decide
theorem zeroLoop_ok : zeroLoop.OK := by decide
theorem sweepLoop_ok : sweepLoop.OK := by decide
theorem scanLoop_ok : scanLoop.OK := by decide

theorem zero_lt (t : Fin zeroLoop.trips) : t.val < 16 := lt_of_lt_of_eq t.isLt zeroLoop_trips
theorem sweep_lt (t : Fin sweepLoop.trips) : t.val < 128 := lt_of_lt_of_eq t.isLt sweepLoop_trips
theorem scan_lt (t : Fin scanLoop.trips) : t.val < 256 := lt_of_lt_of_eq t.isLt scanLoop_trips

/-- Sixteen steps, one after another. -/
def trip (f : Fin 16 → TileM nD sig F Λ c s Unit) : TileM nD sig F Λ c s Unit := Scf.forFrom (fun j _ => f j) (List.finRange 16) ⟨⟩

def zeroTrip (h : Memref sig .scVector .vmem Sh .i32) (t : Fin zeroLoop.trips) : TileM nD sig F Λ c s Unit :=
  trip fun j => zeroStep h (groupOff t j) (groupOff_inb_h (zero_lt t) j)
def countTrip (lane : Lanes) (dig : Lanes → Lanes) (src : Memref sig .scVector .vmem Sk .i32) (h : Memref sig .scVector .vmem Sh .i32)
    (t : Fin sweepLoop.trips) : TileM nD sig F Λ c s Unit :=
  trip fun j => countStep lane dig src h (groupOff t j) (groupOff_inb_k (sweep_lt t) j)
def firstTrip (lane : Lanes) (src dst : Memref sig .scVector .vmem Sk .i32) (h : Memref sig .scVector .vmem Sh .i32)
    (t : Fin sweepLoop.trips) : TileM nD sig F Λ c s Unit :=
  trip fun j => placeStep lane dig0 (fun k => pay0 lane k (group t j)) src dst h (groupOff t j) (groupOff_inb_k (sweep_lt t) j)
def secondTrip (lane : Lanes) (keys src dst : Memref sig .scVector .vmem Sk .i32) (h : Memref sig .scVector .vmem Sh .i32)
    (t : Fin sweepLoop.trips) : TileM nD sig F Λ c s Unit :=
  trip fun j => fetchStep lane keys src dst h (groupOff t j) (groupOff_inb_k (sweep_lt t) j)
def thirdTrip (lane : Lanes) (src dst : Memref sig .scVector .vmem Sk .i32) (h : Memref sig .scVector .vmem Sh .i32)
    (t : Fin sweepLoop.trips) : TileM nD sig F Λ c s Unit :=
  trip fun j => placeStep lane (digAt 15#32) pay2 src dst h (groupOff t j) (groupOff_inb_k (sweep_lt t) j)
def lastTrip (lane : Lanes) (src dst : Memref sig .scVector .vmem Sk .i32) (h : Memref sig .scVector .vmem Sh .i32)
    (t : Fin sweepLoop.trips) : TileM nD sig F Λ c s Unit :=
  trip fun j => lastStep lane src dst h (groupOff t j) (groupOff_inb_k (sweep_lt t) j)

variable (lane : Lanes) (hsl : Sv.Slices ![15] S1) (hp : ∀ a, (![0] : Fin 1 → Nat) a < S1.size a)

def zeroAll (h : Memref sig .scVector .vmem Sh .i32) : TileM nD sig F Λ c s Unit :=
  Scf.Loop.for zeroLoop zeroLoop_ok ⟨⟩ fun t _ => zeroTrip h t
def countAll (dig : Lanes → Lanes) (src : Memref sig .scVector .vmem Sk .i32) (h : Memref sig .scVector .vmem Sh .i32) :
    TileM nD sig F Λ c s Unit :=
  Scf.Loop.for sweepLoop sweepLoop_ok ⟨⟩ fun t _ => countTrip lane dig src h t
def scanAll (h h' : Memref sig .scVector .vmem Sh .i32) : TileM nD sig F Λ c s (BitVec 32) :=
  Scf.Loop.for scanLoop scanLoop_ok 0#32 fun (t : Fin scanLoop.trips) acc => scanStep h h' (scanOff t) (scanOff_inb (scan_lt t)) hsl hp acc
def firstAll (src dst : Memref sig .scVector .vmem Sk .i32) (h : Memref sig .scVector .vmem Sh .i32) : TileM nD sig F Λ c s Unit :=
  Scf.Loop.for sweepLoop sweepLoop_ok ⟨⟩ fun t _ => firstTrip lane src dst h t
def secondAll (keys src dst : Memref sig .scVector .vmem Sk .i32) (h : Memref sig .scVector .vmem Sh .i32) : TileM nD sig F Λ c s Unit :=
  Scf.Loop.for sweepLoop sweepLoop_ok ⟨⟩ fun t _ => secondTrip lane keys src dst h t
def thirdAll (src dst : Memref sig .scVector .vmem Sk .i32) (h : Memref sig .scVector .vmem Sh .i32) : TileM nD sig F Λ c s Unit :=
  Scf.Loop.for sweepLoop sweepLoop_ok ⟨⟩ fun t _ => thirdTrip lane src dst h t
def lastAll (src dst : Memref sig .scVector .vmem Sk .i32) (h : Memref sig .scVector .vmem Sh .i32) : TileM nD sig F Λ c s Unit :=
  Scf.Loop.for sweepLoop sweepLoop_ok ⟨⟩ fun t _ => lastTrip lane src dst h t

/-- One row of an array in main memory, as a list of its elements. -/
def rowRef {κ : Kind} (m : Memref sig κ .hbm Sx .i32) (off : Fin 2 → Nat) (inb : ∀ a, off a + Srow.size a ≤ Sx.size a)
    (hsq : Srow.Squeezes Sk) : Memref sig κ .hbm Sk .i32 :=
  (m.slice (Rect.unit (s := Sx) off Srow.size inb) (fun _ => rfl)).squeeze Sk hsq

variable (hsq : Srow.Squeezes Sk)

def startIn (m : Memref sig .scVector .hbm Sx .i32) (k : Memref sig .scVector .vmem Sk .i32) (hk : k.IsWhole)
    (sem : DmaSem sig) (off : Fin 2 → Nat) (inb : ∀ a, off a + Srow.size a ≤ Sx.size a) : TileM nD sig F Λ c s PUnit :=
  Prog.lift (.enqueueDma (rowRef m off inb hsq) (.here k) (.dma sem) ((View.wordExact_bits rfl).reshape _ _) hk.wordExact ⟨Or.inl rfl, trivial⟩)
def waitIn (m : Memref sig .scVector .hbm Sx .i32) (k : Memref sig .scVector .vmem Sk .i32) (hk : k.IsWhole)
    (sem : DmaSem sig) (off : Fin 2 → Nat) (inb : ∀ a, off a + Srow.size a ≤ Sx.size a) : TileM nD sig F Λ c s PUnit :=
  Prog.lift (.waitDma2 sem (rowRef m off inb hsq) k ((View.wordExact_bits rfl).reshape _ _) hk.wordExact)
def startOut (m : Memref sig .scVector .hbm Sx .i32) (k : Memref sig .scVector .vmem Sk .i32) (hk : k.IsWhole)
    (sem : DmaSem sig) (off : Fin 2 → Nat) (inb : ∀ a, off a + Srow.size a ≤ Sx.size a) : TileM nD sig F Λ c s PUnit :=
  Prog.lift (.enqueueDma k (.here (rowRef m off inb hsq)) (.dma sem) hk.wordExact ((View.wordExact_bits rfl).reshape _ _) ⟨Or.inl rfl, trivial⟩)
def waitOut (m : Memref sig .scVector .hbm Sx .i32) (k : Memref sig .scVector .vmem Sk .i32) (hk : k.IsWhole)
    (sem : DmaSem sig) (off : Fin 2 → Nat) (inb : ∀ a, off a + Srow.size a ≤ Sx.size a) : TileM nD sig F Λ c s PUnit :=
  Prog.lift (.waitDma2 sem k (rowRef m off inb hsq) hk.wordExact ((View.wordExact_bits rfl).reshape _ _))

variable (ka pa pb : Memref sig .scVector .vmem Sk .i32) (ha hb : Memref sig .scVector .vmem Sh .i32)

/-- A row up to its second pass: the keys counted and placed by their lowest digit, and the next digit's ranks. -/
def rowHead : TileM nD sig F Λ c s Unit := do
  countAll lane dig0 ka ha
  let _ ← scanAll hsl hp ha hb
  firstAll lane ka pa ha
  countAll lane (digAt 15#32) pa hb
  let _ ← scanAll hsl hp hb ha
  pure ⟨⟩

/-- A row after its second pass. -/
def rowTail : TileM nD sig F Λ c s Unit := do
  countAll lane (digAt 15#32) pb ha
  let _ ← scanAll hsl hp ha hb
  thirdAll lane pb pa ha
  countAll lane (digAt 15#32) pa hb
  let _ ← scanAll hsl hp hb ha
  lastAll lane pa pb hb

/-- The two rows a tile sorts, the second row's keys fetched while the first is sorted and the first row's result
    written while the second's is. -/
def tileProg (keys out : Memref sig .scVector .hbm Sx .i32) (hka : ka.IsWhole) (hpb : pb.IsWhole) (ks os : DmaSem sig)
    (i0 i1 o0 o1 : Fin 2 → Nat) (hi0 : ∀ a, i0 a + Srow.size a ≤ Sx.size a) (hi1 : ∀ a, i1 a + Srow.size a ≤ Sx.size a)
    (ho0 : ∀ a, o0 a + Srow.size a ≤ Sx.size a) (ho1 : ∀ a, o1 a + Srow.size a ≤ Sx.size a) : TileM nD sig F Λ c s Unit := do
  startIn hsq keys ka hka ks i0 hi0
  zeroAll ha
  waitIn hsq keys ka hka ks i0 hi0
  rowHead lane hsl hp ka pa ha hb
  secondAll lane ka pa pb hb
  startIn hsq keys ka hka ks i1 hi1
  rowTail lane hsl hp pa pb ha hb
  zeroAll hb
  startOut hsq out pb hpb os o0 ho0
  waitIn hsq keys ka hka ks i1 hi1
  rowHead lane hsl hp ka pa ha hb
  waitOut hsq out pb hpb os o0 ho0
  secondAll lane ka pa pb hb
  rowTail lane hsl hp pa pb ha hb
  startOut hsq out pb hpb os o1 ho1
  waitOut hsq out pb hpb os o1 ho1
  pure ⟨⟩

end Steps

end Cert.Radix
-- ==== Proof.Own.lean ====
/-
  A tile's buffer held outright, its words told by a function of their place; and the rules of the four memory
  operations the sort uses — sixteen words read, sixteen written, a gather and a scatter — over such holdings.
-/
module

public import proofs.«01_k».proof.Proof.Tile
public import Idealize.ShloMosaic.Lib.SparseCore.Ops
public import Idealize.ShloMosaic.Lib.Tactic

@[expose] public section

noncomputable section

namespace Cert.Radix

open Idealize.ShloMosaic Idealize.SL
open Idealize.SL.BI (sProp)
open scoped Idealize.SL.BI
open Idealize.SL.BI.BIBase Idealize.SL.BI.Laws Idealize.SL.Sem Idealize.SL.ProofMode
open Idealize.SL.RA

/-- Sixteen words from `o` on replaced by `w`'s. -/
def put (g : Nat → BitVec 32) (o : Nat) (w : Nat → BitVec 32) : Nat → BitVec 32 :=
  fun n => if o ≤ n ∧ n < o + 16 then w (n - o) else g n

/-- The lane `j` of sixteen words. -/
def at' (v : Lanes) (j : Fin 16) : BitVec 32 := v (Shape.ofLane (d := ![16]) j)

/-- A vector by its lanes' numbers. -/
def byLane (v : Lanes) : Nat → BitVec 32 := fun n => if h : n < 16 then at' v ⟨n, h⟩ else 0#32
/-- Sixteen words of a table, as a vector. -/
def take (g : Nat → BitVec 32) (o : Nat) : Lanes := fun x => g (o + (x 0).val)
/-- Words of a table named by the lanes. -/
def pick (g : Nat → BitVec 32) (i : Lanes) : Lanes := fun x => g (i x).toNat

/-- The words `w` written where the lanes of `i` say, lowest lane first. -/
def scat (g : Nat → BitVec 32) (i w : Lanes) : Nat → BitVec 32 :=
  (List.finRange 16).foldl (fun g k n => if n = (at' i k).toNat then at' w k else g n) g
/-- As `scat`, added. -/
def scatAdd (g : Nat → BitVec 32) (i w : Lanes) : Nat → BitVec 32 :=
  (List.finRange 16).foldl (fun g k n => if n = (at' i k).toNat then g (at' i k).toNat + at' w k else g n) g

theorem foldl_rel {α β γ : Type} (R : α → β → Prop) (l : List γ) (f : α → γ → α) (g : β → γ → β)
    (h : ∀ a b, R a b → ∀ k, R (f a k) (g b k)) : ∀ a b, R a b → R (l.foldl f a) (l.foldl g b) := by
  induction l with
  | nil => intro a b hab; exact hab
  | cons x l ih => intro a b hab; exact ih _ _ (h a b hab x)

section Tables

variable {F : FTy → Type} [FloatOps F] {n : Nat}

/-- A scatter over a table whose words a function tells is told by the function's. -/
theorem storeIdx_apply (f : Vec F ⟨1, ![n]⟩ .i32) (g : Nat → BitVec 32) (hf : ∀ x, f x = g (x 0).val) (i w : Lanes) (add : Bool)
    (h : ∀ a x, ((![i] : Fin 1 → Lanes) a x).toNat < (⟨1, ![n]⟩ : Shape).size a) (x : (⟨1, ![n]⟩ : Shape).Idx) :
    (storeIdx (F := F) (e := .i32) (s := ⟨1, ![n]⟩) (d := ![16]) f ![i] w (fun _ => 1#1) add h) x
      = (if add then scatAdd g i w else scat g i w) (x 0).val := by
  have key : ∀ (a : Vec F ⟨1, ![n]⟩ .i32) (b : Nat → BitVec 32), (∀ x, a x = b (x 0).val) → ∀ x,
      (storeIdx (F := F) (e := .i32) (s := ⟨1, ![n]⟩) (d := ![16]) a ![i] w (fun _ => 1#1) add h) x
        = ((List.finRange 16).foldl (fun g k n => if n = (at' i k).toNat then
            (if add then g (at' i k).toNat + at' w k else at' w k) else g n) b) (x 0).val := by
    intro a b hab
    refine foldl_rel (fun (a : Vec F ⟨1, ![n]⟩ .i32) (b : Nat → BitVec 32) => ∀ x, a x = b (x 0).val) _ _ _ ?_ a b hab
    intro a b hab k x
    have hi : ∀ y : (⟨1, ![n]⟩ : Shape).Idx, (∀ c, (y c).val = (idxAt ![i] h (Shape.ofLane k) c).val) ↔ (y 0).val = (at' i k).toNat := by
      intro y
      rw [Fin.forall_fin_one]
      exact Iff.rfl
    have ha : a (idxAt ![i] h (Shape.ofLane k)) = b (at' i k).toNat := by
      rw [hab]; congr 1
    refine (congrFun (if_pos (show (1#1 : BitVec 1) = 1 from rfl)) x).trans ?_
    by_cases hc : (x 0).val = (at' i k).toNat
    · refine (if_pos ((hi x).mpr hc)).trans (Eq.trans ?_ (if_pos hc).symm)
      cases add
      · rfl
      · exact congrArg (fun z : BitVec 32 => z + at' w k) ha
    · exact (if_neg (fun hh => hc ((hi x).mp hh))).trans ((hab x).trans (if_neg hc).symm)
  rw [key f g hf x]
  cases add <;> rfl

end Tables

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {n : Nat}

/-- The tile's thread. -/
abbrev tile (d : Fin nD) (co : Fin τ.nSC) (su : Fin τ.nSub) : Thread nD τ := (d, .scVector co su)

variable (d : Fin nD) (co : Fin τ.nSC) (su : Fin τ.nSub)

/-- The tile holds the buffer under `m` outright, and its words are `g`'s. -/
def own (m : Memref sig .scVector .vmem ⟨1, ![n]⟩ .i32) (g : Nat → BitVec 32) : sProp (MT nD τ sig Ix (Elt F) Name U Lvl) :=
  iprop(∃ f : Buf (Elt F) ((m.access (.whole _)).loc (tile d co su)),
    ⌜∀ x : (⟨1, ![n]⟩ : Shape).Idx, (m.access (.whole _)).read (Elt F) f x = g (x 0).val⌝
      ∗ ((m.access (.whole _)).loc (tile d co su) ↦[(m.access (.whole _)).set]{fullShare} f))

variable {defs : Defs nD τ sig (Elt F) Λ} (𝒱 : Variants) (bd : Option 𝒱.V) (E : Set Name)
variable {d co su} {α : Type} {Q : α → sProp (MT nD τ sig Ix (Elt F) Name U Lvl)}
variable {m : Memref sig .scVector .vmem ⟨1, ![n]⟩ .i32} {g : Nat → BitVec 32}

omit [FloatOps F] in
theorem emb_unit (off : Fin 1 → Nat) (inb : ∀ a, off a + Sv.size a ≤ (⟨1, ![n]⟩ : Shape).size a) (x : Sv.Idx) :
    ((Rect.unit (s := ⟨1, ![n]⟩) off Sv.size inb).emb x 0).val = off 0 + (x 0).val := by
  show off 0 + 1 * (x 0).val = _
  omega

omit [FloatOps F] in
theorem read_unit (f : Buf (Elt F) (m.view.loc (tile d co su)))
    (hf : ∀ x : (⟨1, ![n]⟩ : Shape).Idx, (m.access (.whole _)).read (Elt F) f x = g (x 0).val)
    (off : Fin 1 → Nat) (inb : ∀ a, off a + Sv.size a ≤ (⟨1, ![n]⟩ : Shape).size a) :
    (m.access (Rect.unit (s := ⟨1, ![n]⟩) off Sv.size inb)).read (Elt F) f = take g (off 0) := by
  funext x
  have h := hf ((Rect.unit (s := ⟨1, ![n]⟩) off Sv.size inb).emb x)
  rw [emb_unit] at h
  refine Eq.trans ?_ h
  show m.view.read (Elt F) f _ = m.view.read (Elt F) f _
  exact congrArg _ (Rect.emb_whole_apply _ _).symm

omit [FloatOps F] in
theorem set_unit_subset (r : Rect (⟨1, ![n]⟩ : Shape)) :
    (m.access r).set ⊆ (m.access (.whole (⟨1, ![n]⟩ : Shape))).set := by
  refine (View.set_slice_subset m.view r).trans ?_
  rw [View.set_slice, Rect.set_whole]
  exact fun _ h => h

omit [FloatOps F] in
/-- Sixteen words read. -/
theorem own_load {off : Fin 1 → Nat} {inb : ∀ a, off a + Sv.size a ≤ (⟨1, ![n]⟩ : Shape).size a}
    {hl : m.view.LoadsAt (Rect.unit (s := ⟨1, ![n]⟩) off Sv.size inb).toLoadRect}
    {k : Vec F Sv .i32 → Prog (TpuEff nD τ sig (Elt F) Λ (.scVector co su)) α} :
    own d co su m g ⊢ iprop((own d co su m g -∗ wp frame (wpE defs 𝒱 (tile d co su) bd) E (k (take g (off 0))) Q)
      -∗ wp frame (wpE defs 𝒱 (tile d co su) bd) E
          ((Prog.lift (TpuEff.load m (Rect.unit (s := ⟨1, ![n]⟩) off Sv.size inb).toLoadRect hl) :
            Prog (TpuEff nD τ sig (Elt F) Λ (.scVector co su)) (Vec F Sv .i32)) >>= k) Q) := by
  unfold own
  iintro ⟨%f, %hf, H⟩ Hk
  iapply (wp_load_rect (defs := defs) 𝒱 (tile d co su) bd E (Q := Q) (m := m) (r := Rect.unit (s := ⟨1, ![n]⟩) off Sv.size inb)
    (hl := hl) (k := k) (q := fullShare) (f := f) (set_unit_subset _)) $$ H
  iintro H
  rw [read_unit f hf]
  iapply Hk
  iexists f
  isplitr
  · ipureintro; exact hf
  · iexact H

omit [FloatOps F] in
/-- Sixteen words written. -/
theorem own_store {off : Fin 1 → Nat} {inb : ∀ a, off a + Sv.size a ≤ (⟨1, ![n]⟩ : Shape).size a} {w : Lanes}
    {hx : (m.access (Rect.unit (s := ⟨1, ![n]⟩) off Sv.size inb)).Stores Finset.univ} {hm}
    {k : PUnit → Prog (TpuEff nD τ sig (Elt F) Λ (.scVector co su)) α} :
    own d co su m g ⊢ iprop((own d co su m (put g (off 0) (byLane w)) -∗ wp frame (wpE defs 𝒱 (tile d co su) bd) E (k ⟨⟩) Q)
      -∗ wp frame (wpE defs 𝒱 (tile d co su) bd) E
          (Prog.lift (TpuEff.store m (Rect.unit (s := ⟨1, ![n]⟩) off Sv.size inb) w Finset.univ hx hm) >>= k) Q) := by
  unfold own
  iintro ⟨%f, %hf, H⟩ Hk
  iapply (wp_store (defs := defs) 𝒱 (tile d co su) bd E (Q := Q) (m := m) (r := Rect.unit (s := ⟨1, ![n]⟩) off Sv.size inb)
    (w := w) (Mk := Finset.univ) (hx := hx) (hm := hm) (k := k) (f := f) (set_unit_subset _)) $$ H
  iintro H
  iapply Hk
  iexists ((m.access (Rect.unit (s := ⟨1, ![n]⟩) off Sv.size inb)).write (Elt F) f w Finset.univ)
  isplitr
  · ipureintro
    intro x
    have hr : ∀ f', (m.access (.whole (⟨1, ![n]⟩ : Shape))).read (Elt F) f' x = m.view.read (Elt F) f' x := fun f' => by
      show m.view.read (Elt F) f' _ = m.view.read (Elt F) f' x
      exact congrArg _ (Rect.emb_whole_apply _ _)
    rw [hr]
    by_cases hin : off 0 ≤ (x 0).val ∧ (x 0).val < off 0 + 16
    · have hlt : (x 0).val - off 0 < 16 := by omega
      have hx' : x = (Rect.unit (s := ⟨1, ![n]⟩) off Sv.size inb).emb (Shape.ofLane (d := ![16]) ⟨(x 0).val - off 0, hlt⟩) := by
        funext a
        obtain rfl : a = 0 := Fin.eq_zero a
        apply Fin.ext
        refine Eq.trans ?_ (emb_unit off inb _).symm
        show _ = off 0 + ((x 0).val - off 0)
        omega
      have := View.read_slice_write_emb (Val := Elt F) (v := m.view) (Rect.unit (s := ⟨1, ![n]⟩) off Sv.size inb) f w
        (x := Shape.ofLane (d := ![16]) ⟨(x 0).val - off 0, hlt⟩) (Finset.mem_univ _)
      rw [← hx'] at this
      rw [put, if_pos hin, byLane, dif_pos hlt]
      exact this
    · rw [put, if_neg hin, ← hf x, hr]
      refine View.read_slice_write_of_not_mem (Val := Elt F) (v := m.view) (Rect.unit (s := ⟨1, ![n]⟩) off Sv.size inb) f w Finset.univ ?_
      intro hmem
      obtain ⟨y, -, rfl⟩ := Finset.mem_map.mp hmem
      rw [emb_unit] at hin
      have : (y 0).val < 16 := (y 0).isLt
      omega
  · iexact H

omit [FloatOps F] in
/-- A gather. -/
theorem own_pick {i : Lanes} {h : ∀ a x, ((![i] : Fin 1 → Lanes) a x).toNat < (⟨1, ![n]⟩ : Shape).size a} {hl : m.view.Loads}
    {k : Vec F Sv .i32 → Prog (TpuEff nD τ sig (Elt F) Λ (.scVector co su)) α} :
    own d co su m g ⊢ iprop((own d co su m g -∗ wp frame (wpE defs 𝒱 (tile d co su) bd) E (k (pick g i)) Q)
      -∗ wp frame (wpE defs 𝒱 (tile d co su) bd) E (SparseCore.vectorLoadIdx m ![i] h hl >>= k) Q) := by
  unfold own
  iintro ⟨%f, %hf, H⟩ Hk
  iapply (SparseCore.wp_vectorLoadIdx (defs := defs) 𝒱 (tile d co su) bd E (Q := Q) (base := m) (idxs := ![i])
    (h := h) (hl := hl) (k := k) (q := fullShare) (f := f) subset_rfl) $$ H
  iintro H
  rw [show loadIdx ((m.access (.whole (⟨1, ![n]⟩ : Shape))).read (Elt F) f) ![i] h = pick g i from funext fun x => hf _]
  iapply Hk
  iexists f
  isplitr
  · ipureintro; exact hf
  · iexact H

/-- A scatter. -/
theorem own_scat {i w : Lanes} {add : Bool} {h : ∀ a x, ((![i] : Fin 1 → Lanes) a x).toNat < (⟨1, ![n]⟩ : Shape).size a}
    {hs : (m.access (.whole _)).Stores Finset.univ}
    {k : PUnit → Prog (TpuEff nD τ sig (Elt F) Λ (.scVector co su)) α} :
    own d co su m g ⊢ iprop((own d co su m (if add then scatAdd g i w else scat g i w)
        -∗ wp frame (wpE defs 𝒱 (tile d co su) bd) E (k ⟨⟩) Q)
      -∗ wp frame (wpE defs 𝒱 (tile d co su) bd) E
          (SparseCore.vectorStoreIdx (d := ![16]) m ![i] w (fun _ => 1#1) add h hs >>= k) Q) := by
  unfold own
  iintro ⟨%f, %hf, H⟩ Hk
  iapply (SparseCore.wp_vectorStoreIdx (defs := defs) 𝒱 (tile d co su) bd E (Q := Q) (base := m) (d := ![16]) (idxs := ![i])
    (v := w) (mask := fun _ => 1#1) (add := add) (h := h) (hs := hs) (k := k) (f := f)) $$ H
  iintro H
  iapply Hk
  iexists ((m.access (.whole _)).write (Elt F) f (storeIdx ((m.access (.whole _)).read (Elt F) f) ![i] w (fun _ => 1#1) add h) Finset.univ)
  isplitr
  · ipureintro
    intro x
    rw [View.read_write_univ]
    exact storeIdx_apply _ g hf i w add h x
  · iexact H

end Cert.Radix
-- ==== Proof.Steps.lean ====
/-
  One step of each kind, and a loop of trips of sixteen: what a step leaves of the tables it works on, and the rule
  that takes an invariant of the steps through a loop.
-/
module

public import proofs.«01_k».proof.Proof.Own

@[expose] public section

noncomputable section

namespace Cert.Radix

open Idealize.ShloMosaic Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {d : Fin nD} {co : Fin τ.nSC} {su : Fin τ.nSub}
variable {defs : Defs nD τ sig (Elt F) Λ} (𝒱 : Variants) (bd : Option 𝒱.V) (E : Set Name)

local notation "𝕄" => MT nD τ sig Ix (Elt F) Name U Lvl

omit [FloatOps F] in
theorem wp_assumed {α : Type} {Q : α → sProp 𝕄} {P : Prop} {dP : Decidable P} (h : P)
    {k : PLift P → Prog (TpuEff nD τ sig (Elt F) Λ (.scVector co su)) α} :
    wp frame (wpE defs 𝒱 (tile d co su) bd) E (k ⟨h⟩) Q
      ⊢ wp frame (wpE defs 𝒱 (tile d co su) bd) E (Prog.lift (TpuEff.assume P dP) >>= k) Q :=
  wp_assume 𝒱 (tile d co su) bd E h

omit [FloatOps F] in
theorem wp_done {α : Type} {Q : α → sProp 𝕄} (a : α) :
    Q a ⊢ wp frame (wpE defs 𝒱 (tile d co su) bd) E (pure a : Prog (TpuEff nD τ sig (Elt F) Λ (.scVector co su)) α) Q :=
  le_wp_ret _ _ _ a Q

variable {lane : Lanes} {h h' : Memref sig .scVector .vmem Sh .i32} {src dst keys : Memref sig .scVector .vmem Sk .i32}
variable {H H' A B K : Nat → BitVec 32}

theorem wp_zeroStep {off : Fin 1 → Nat} {inb : ∀ a, off a + Sv.size a ≤ Sh.size a} :
    own d co su h H ⊢ wp frame (wpE defs 𝒱 (tile d co su) bd) E (zeroStep h off inb)
      (fun _ => (own d co su h (put H (off 0) (byLane zeros)) : sProp 𝕄)) := by
  unfold zeroStep
  iintro Hh
  iapply (own_load (defs := defs) 𝒱 bd E) $$ Hh
  iintro Hh
  iapply (own_store (defs := defs) 𝒱 bd E) $$ Hh
  iintro Hh
  iapply (wp_done (defs := defs) 𝒱 bd E)
  iexact Hh

theorem wp_countStep {dig : Lanes → Lanes} {off : Fin 1 → Nat} {inb : ∀ a, off a + Sv.size a ≤ Sk.size a}
    (w : InH (slotOf lane (dig (take A (off 0))))) :
    iprop(own d co su src A ∗ own d co su h H) ⊢ wp frame (wpE defs 𝒱 (tile d co su) bd) E (countStep lane dig src h off inb)
      (fun _ => (iprop(own d co su src A ∗ own d co su h (scatAdd H (slotOf lane (dig (take A (off 0)))) ones)) : sProp 𝕄)) := by
  unfold countStep
  iintro ⟨Hs, Hh⟩
  iapply (own_load (defs := defs) 𝒱 bd E) $$ Hs
  iintro Hs
  iapply (wp_assumed (defs := defs) 𝒱 bd E w)
  iapply (own_scat (defs := defs) 𝒱 bd E) $$ Hh
  iintro Hh
  iapply (wp_done (defs := defs) 𝒱 bd E)
  isplitl [Hs]
  · iexact Hs
  iexact Hh

theorem wp_scanStep {off : Fin 1 → Nat} {inb : ∀ a, off a + Sv.size a ≤ Sh.size a} {hsl : Sv.Slices ![15] S1}
    {hp : ∀ a, (![0] : Fin 1 → Nat) a < S1.size a} {carry : BitVec 32} {Q : BitVec 32 → sProp 𝕄}
    (hQ : iprop(own d co su h (put H (off 0) (byLane (addi (subi (scan .sum (take H (off 0))) (take H (off 0))) (broadcast Sv carry))))
        ∗ own d co su h' (put H' (off 0) (byLane zeros)))
      ⊢ Q (Scalar.addi carry (at' (scan .sum (take H (off 0))) 15))) :
    iprop(own d co su h H ∗ own d co su h' H') ⊢ wp frame (wpE defs 𝒱 (tile d co su) bd) E (scanStep h h' off inb hsl hp carry) Q := by
  unfold scanStep
  iintro ⟨Hh, Hh'⟩
  iapply (own_load (defs := defs) 𝒱 bd E) $$ Hh
  iintro Hh
  iapply (own_load (defs := defs) 𝒱 bd E) $$ Hh
  iintro Hh
  iapply (own_store (defs := defs) 𝒱 bd E) $$ Hh
  iintro Hh
  iapply (own_load (defs := defs) 𝒱 bd E) $$ Hh'
  iintro Hh'
  iapply (own_store (defs := defs) 𝒱 bd E) $$ Hh'
  iintro Hh'
  iapply (wp_done (defs := defs) 𝒱 bd E)
  have hl : extractAt ![0] (extractStridedSlice S1 ![15] (scan .sum (take H (off 0))) hsl) hp
      = at' (scan .sum (take H (off 0))) 15 := by
    unfold extractAt extractStridedSlice at'
    refine congrArg _ (funext fun a => ?_)
    obtain rfl : a = 0 := Fin.eq_zero a
    rfl
  rw [hl]
  iapply hQ
  isplitl [Hh]
  · iexact Hh
  iexact Hh'

theorem wp_placeStep {dig pay : Lanes → Lanes} {off : Fin 1 → Nat} {inb : ∀ a, off a + Sv.size a ≤ Sk.size a}
    (w : InH2 (slotOf lane (dig (take A (off 0))))) (w' : InK (placeOf (pick H (slotOf lane (dig (take A (off 0))))))) :
    iprop(own d co su src A ∗ own d co su h H ∗ own d co su dst B)
      ⊢ wp frame (wpE defs 𝒱 (tile d co su) bd) E (placeStep lane dig pay src dst h off inb)
      (fun _ => (iprop(own d co su src A
        ∗ own d co su h (scat H (slotOf lane (dig (take A (off 0)))) (addi (pick H (slotOf lane (dig (take A (off 0))))) ones))
        ∗ own d co su dst (scat B (placeOf (pick H (slotOf lane (dig (take A (off 0)))))) (pay (take A (off 0))))) : sProp 𝕄)) := by
  unfold placeStep
  iintro ⟨Hs, Hh, Hd⟩
  iapply (own_load (defs := defs) 𝒱 bd E) $$ Hs
  iintro Hs
  iapply (wp_assumed (defs := defs) 𝒱 bd E w)
  iapply (own_pick (defs := defs) 𝒱 bd E) $$ Hh
  iintro Hh
  iapply (own_scat (defs := defs) 𝒱 bd E) $$ Hh
  iintro Hh
  iapply (wp_assumed (defs := defs) 𝒱 bd E w')
  iapply (own_scat (defs := defs) 𝒱 bd E) $$ Hd
  iintro Hd
  iapply (wp_done (defs := defs) 𝒱 bd E)
  isplitl [Hs]
  · iexact Hs
  isplitl [Hh]
  · iexact Hh
  iexact Hd

theorem wp_fetchStep {off : Fin 1 → Nat} {inb : ∀ a, off a + Sv.size a ≤ Sk.size a}
    (w : InH2 (slotOf lane (digAt 15#32 (take A (off 0))))) (wa : InK (addrOf (take A (off 0))))
    (w' : InK (placeOf (pick H (slotOf lane (digAt 15#32 (take A (off 0))))))) :
    iprop(own d co su keys K ∗ own d co su src A ∗ own d co su h H ∗ own d co su dst B)
      ⊢ wp frame (wpE defs 𝒱 (tile d co su) bd) E (fetchStep lane keys src dst h off inb)
      (fun _ => (iprop(own d co su keys K ∗ own d co su src A
        ∗ own d co su h (scat H (slotOf lane (digAt 15#32 (take A (off 0)))) (addi (pick H (slotOf lane (digAt 15#32 (take A (off 0))))) ones))
        ∗ own d co su dst (scat B (placeOf (pick H (slotOf lane (digAt 15#32 (take A (off 0))))))
            (pay1 (take A (off 0)) (pick K (addrOf (take A (off 0))))))) : sProp 𝕄)) := by
  unfold fetchStep
  iintro ⟨Hk, Hs, Hh, Hd⟩
  iapply (own_load (defs := defs) 𝒱 bd E) $$ Hs
  iintro Hs
  iapply (wp_assumed (defs := defs) 𝒱 bd E w)
  iapply (own_pick (defs := defs) 𝒱 bd E) $$ Hh
  iintro Hh
  iapply (own_scat (defs := defs) 𝒱 bd E) $$ Hh
  iintro Hh
  iapply (wp_assumed (defs := defs) 𝒱 bd E wa)
  iapply (own_pick (defs := defs) 𝒱 bd E) $$ Hk
  iintro Hk
  iapply (wp_assumed (defs := defs) 𝒱 bd E w')
  iapply (own_scat (defs := defs) 𝒱 bd E) $$ Hd
  iintro Hd
  iapply (wp_done (defs := defs) 𝒱 bd E)
  isplitl [Hk]
  · iexact Hk
  isplitl [Hs]
  · iexact Hs
  isplitl [Hh]
  · iexact Hh
  iexact Hd

theorem wp_lastStep {off : Fin 1 → Nat} {inb : ∀ a, off a + Sv.size a ≤ Sk.size a}
    (w : InH2 (slotOf lane (digAt 15#32 (take A (off 0))))) (w' : InK (pick H (slotOf lane (digAt 15#32 (take A (off 0)))))) :
    iprop(own d co su src A ∗ own d co su h H ∗ own d co su dst B)
      ⊢ wp frame (wpE defs 𝒱 (tile d co su) bd) E (lastStep lane src dst h off inb)
      (fun _ => (iprop(own d co su src A
        ∗ own d co su h (scat H (slotOf lane (digAt 15#32 (take A (off 0)))) (addi (pick H (slotOf lane (digAt 15#32 (take A (off 0))))) ones))
        ∗ own d co su dst (scat B (pick H (slotOf lane (digAt 15#32 (take A (off 0))))) (pay3 (take A (off 0))))) : sProp 𝕄)) := by
  unfold lastStep
  iintro ⟨Hs, Hh, Hd⟩
  iapply (own_load (defs := defs) 𝒱 bd E) $$ Hs
  iintro Hs
  iapply (wp_assumed (defs := defs) 𝒱 bd E w)
  iapply (own_pick (defs := defs) 𝒱 bd E) $$ Hh
  iintro Hh
  iapply (wp_assumed (defs := defs) 𝒱 bd E w')
  iapply (own_scat (defs := defs) 𝒱 bd E) $$ Hh
  iintro Hh
  iapply (own_scat (defs := defs) 𝒱 bd E) $$ Hd
  iintro Hd
  iapply (wp_done (defs := defs) 𝒱 bd E)
  isplitl [Hs]
  · iexact Hs
  isplitl [Hh]
  · iexact Hh
  iexact Hd

/-! ## Loops -/

omit [FloatOps F] in
theorem wp_to {α : Type} {p : Prog (TpuEff nD τ sig (Elt F) Λ (.scVector co su)) α} {P : sProp 𝕄} {Q Q' : α → sProp 𝕄}
    (h : P ⊢ wp frame (wpE defs 𝒱 (tile d co su) bd) E p Q) (hQ : ∀ a, Q a ⊢ Q' a) :
    P ⊢ wp frame (wpE defs 𝒱 (tile d co su) bd) E p Q' := h.trans (wp_mono _ _ _ hQ)

omit [FloatOps F] in
theorem wp_then {α β : Type} {p : Prog (TpuEff nD τ sig (Elt F) Λ (.scVector co su)) α} {k : α → Prog (TpuEff nD τ sig (Elt F) Λ (.scVector co su)) β}
    {P : sProp 𝕄} {Q : α → sProp 𝕄} {R : β → sProp 𝕄} (h : P ⊢ wp frame (wpE defs 𝒱 (tile d co su) bd) E p Q) :
    iprop(P ∗ (∀ a, Q a -∗ wp frame (wpE defs 𝒱 (tile d co su) bd) E (k a) R))
      ⊢ wp frame (wpE defs 𝒱 (tile d co su) bd) E (p >>= k) R := by
  rw [wp_bind]
  exact (BI.Laws.sep_mono h .rfl).trans (wp_wand_r _ _ _)

omit [FloatOps F] in
theorem wp_last {α : Type} {p : Prog (TpuEff nD τ sig (Elt F) Λ (.scVector co su)) α} {P : sProp 𝕄} {Q R : α → sProp 𝕄}
    (h : P ⊢ wp frame (wpE defs 𝒱 (tile d co su) bd) E p Q) :
    iprop(P ∗ (∀ a, Q a -∗ R a)) ⊢ wp frame (wpE defs 𝒱 (tile d co su) bd) E p R :=
  (BI.Laws.sep_mono h .rfl).trans (wp_wand_r _ _ _)

omit [FloatOps F] in
/-- A loop of trips of sixteen steps, by an invariant of the number of steps taken. -/
theorem wp_trips (l : Scf.Loop 32) (hok : l.OK) (f : Fin l.trips → Fin 16 → Prog (TpuEff nD τ sig (Elt F) Λ (.scVector co su)) Unit)
    (I : Nat → sProp 𝕄) {P Q : sProp 𝕄} (N : Nat) (hN : 16 * l.trips = N)
    (hstep : ∀ (t : Fin l.trips) (j : Fin 16),
      I (16 * t.val + j.val) ⊢ wp frame (wpE defs 𝒱 (tile d co su) bd) E (f t j) (fun _ => I (16 * t.val + j.val + 1)))
    (hP : P ⊢ I 0) (hQ : I N ⊢ Q) :
    P ⊢ wp frame (wpE defs 𝒱 (tile d co su) bd) E (Scf.Loop.for l hok ⟨⟩ fun t _ => trip (f t)) (fun _ => Q) := by
  subst hN
  iintro HP
  iapply (Scf.wp_for frame (wpE defs 𝒱 (tile d co su) bd) E l.lb l.ub l.st hok PUnit.unit _ (fun t _ => I (16 * t)) ?_)
  · intro t _
    unfold trip
    have hj := Scf.wp_forFrom frame (wpE defs 𝒱 (tile d co su) bd) E (fun (j : Fin 16) (_ : Unit) => f t j)
      (fun j _ => I (16 * t.val + j)) (fun j _ => hstep t j) (Q := fun _ => I (16 * (t.val + 1))) 0 (Nat.zero_le _) ⟨⟩
    rw [List.drop_zero] at hj
    iintro HI
    iapply hj
    isplitl [HI]
    · iexact HI
    · iintro %a HI
      iexact HI
  · isplitl [HP]
    · iapply hP
      iexact HP
    · iintro %a HI
      iapply hQ
      iexact HI

end Cert.Radix
-- ==== Proof.Rank.lean ====
/-
  The ranks of a counting sort, over natural numbers: a digit and a lane make a slot, an element's rank is the number
  of elements in lower slots and of earlier ones in its own; ranks by a key, and how a pass refines them.
-/
module

public import Mathlib.Data.Finset.Card
public import Mathlib.Data.Finset.Range
public import Mathlib.Tactic.Linarith
public import Mathlib.Data.Finset.Image

@[expose] public section

namespace Cert.Radix

/-! ## Counts -/

/-- How many of the first `m` have slot `s`. -/
def countOf (S : Nat → Nat) (m s : Nat) : Nat := ((Finset.range m).filter fun b => S b = s).card
/-- How many of the row have a slot below `s`. -/
def belowOf (S : Nat → Nat) (s : Nat) : Nat := ((Finset.range 32768).filter fun b => S b < s).card
/-- The number of elements of the row whose key is below `i`'s. -/
def rankOf (G : Nat → Nat) (i : Nat) : Nat := ((Finset.range 32768).filter fun b => G b < G i).card

theorem countOf_zero (S : Nat → Nat) (s : Nat) : countOf S 0 s = 0 := rfl

theorem countOf_succ (S : Nat → Nat) (m s : Nat) : countOf S (m + 1) s = countOf S m s + if S m = s then 1 else 0 := by
  unfold countOf
  rw [Finset.range_add_one, Finset.filter_insert]
  split
  · rw [Finset.card_insert_of_notMem (by simp)]
  · rfl

theorem countOf_le (S : Nat → Nat) (m s : Nat) : countOf S m s ≤ m :=
  (Finset.card_filter_le _ _).trans (Finset.card_range m).le

/-- A group of sixteen, of which only the one in the slot's own lane can be in the slot. -/
theorem countOf_group {S : Nat → Nat} (hS : ∀ b, S b % 16 = b % 16) (n s : Nat) :
    countOf S (16 * (n + 1)) s = countOf S (16 * n) s + if S (16 * n + s % 16) = s then 1 else 0 := by
  have h : ∀ j ≤ 16, countOf S (16 * n + j) s
      = countOf S (16 * n) s + if s % 16 < j ∧ S (16 * n + s % 16) = s then 1 else 0 := by
    intro j
    induction j with
    | zero => intro _; simp
    | succ j ih =>
      intro hj
      rw [← Nat.add_assoc, countOf_succ, ih (by omega)]
      by_cases hc : s % 16 = j
      · rw [hc]; simp
      · have hne : S (16 * n + j) ≠ s := by
          intro e
          have := hS (16 * n + j)
          rw [e] at this
          omega
        rw [if_neg hne]
        have : s % 16 < j ↔ s % 16 < j + 1 := by omega
        simp only [this, Nat.add_zero]
  have := h 16 (le_refl _)
  rw [show 16 * (n + 1) = 16 * n + 16 by omega, this]
  have hlt : s % 16 < 16 := Nat.mod_lt _ (by omega)
  simp [hlt]

theorem belowOf_zero (S : Nat → Nat) : belowOf S 0 = 0 := by simp [belowOf]

theorem belowOf_succ (S : Nat → Nat) (s : Nat) : belowOf S (s + 1) = belowOf S s + countOf S 32768 s := by
  unfold belowOf countOf
  rw [← Finset.card_union_of_disjoint]
  · refine congrArg Finset.card ?_
    ext b
    simp only [Finset.mem_filter, Finset.mem_union]
    have : S b < s + 1 ↔ S b < s ∨ S b = s := by omega
    rw [this, and_or_left]
  · rw [Finset.disjoint_filter]
    intro b _ h1 h2
    omega

theorem belowOf_le (S : Nat → Nat) (s : Nat) : belowOf S s ≤ 32768 :=
  (Finset.card_filter_le _ _).trans (Finset.card_range _).le

/-- What the counter of `a`'s slot holds when `a` is placed is its rank. -/
theorem below_add_count {S : Nat → Nat} (hS : ∀ b, S b % 16 = b % 16) {n j : Nat} (hj : j < 16) (hn : 16 * n + j < 32768) :
    belowOf S (S (16 * n + j)) + countOf S (16 * n) (S (16 * n + j)) = rankOf (fun b => S b * 32768 + b) (16 * n + j) := by
  unfold belowOf countOf rankOf
  rw [← Finset.card_union_of_disjoint]
  · refine congrArg Finset.card ?_
    ext b
    simp only [Finset.mem_filter, Finset.mem_union, Finset.mem_range]
    have h1 := hS b
    have h2 := hS (16 * n + j)
    constructor
    · rintro (⟨h, h'⟩ | ⟨h, h'⟩)
      · exact ⟨h, by omega⟩
      · exact ⟨by omega, by omega⟩
    · rintro ⟨h, h'⟩
      by_cases hlt : S b < S (16 * n + j)
      · exact .inl ⟨h, hlt⟩
      · exact .inr ⟨by omega, by omega⟩
  · rw [Finset.disjoint_left]
    intro b h1 h2
    simp only [Finset.mem_filter] at h1 h2
    omega

/-! ## Ranks -/

theorem rankOf_lt {G : Nat → Nat} {i : Nat} (hi : i < 32768) : rankOf G i < 32768 := by
  have : rankOf G i < (Finset.range 32768).card :=
    Finset.card_lt_card (Finset.filter_ssubset.2 ⟨i, Finset.mem_range.2 hi, lt_irrefl _⟩)
  rwa [Finset.card_range] at this

theorem rankOf_lt_of_lt {G : Nat → Nat} {i j : Nat} (hi : i < 32768) (h : G i < G j) : rankOf G i < rankOf G j := by
  refine Finset.card_lt_card ⟨fun b hb => ?_, fun hs => ?_⟩
  · rw [Finset.mem_filter] at hb ⊢
    exact ⟨hb.1, hb.2.trans h⟩
  · have := hs (Finset.mem_filter.2 ⟨Finset.mem_range.2 hi, h⟩)
    exact lt_irrefl _ (Finset.mem_filter.1 this).2

theorem rankOf_lt_iff {G : Nat → Nat} {i j : Nat} (hi : i < 32768) (hj : j < 32768) : rankOf G i < rankOf G j ↔ G i < G j := by
  refine ⟨fun h => ?_, rankOf_lt_of_lt hi⟩
  by_contra hc
  rcases Nat.lt_or_eq_of_le (Nat.le_of_not_lt hc) with h' | h'
  · exact absurd (rankOf_lt_of_lt hj h') (by omega)
  · have : rankOf G i = rankOf G j := by unfold rankOf; rw [h']
    omega

theorem rankOf_inj {G : Nat → Nat} (hG : ∀ i j, i < 32768 → j < 32768 → G i = G j → i = j) {i j : Nat} (hi : i < 32768)
    (hj : j < 32768) (h : rankOf G i = rankOf G j) : i = j := by
  have h1 := rankOf_lt_iff (G := G) hi hj
  have h2 := rankOf_lt_iff (G := G) hj hi
  exact hG i j hi hj (by omega)

theorem rankOf_id {i : Nat} (hi : i < 32768) : rankOf (fun b => b) i = i := by
  unfold rankOf
  have : ((Finset.range 32768).filter fun b => b < i) = Finset.range i := by
    ext b
    simp only [Finset.mem_filter, Finset.mem_range]
    omega
  rw [this, Finset.card_range]

theorem rankOf_congr {G G' : Nat → Nat} {i : Nat} (h : ∀ b < 32768, (G b < G i ↔ G' b < G' i)) : rankOf G i = rankOf G' i := by
  unfold rankOf
  exact congrArg Finset.card <| Finset.filter_congr fun b hb => h b (Finset.mem_range.1 hb)

/-- Ranks do not depend on how the row is listed. -/
theorem rankOf_reindex {K : Nat → Nat} {f : Nat → Nat} (hf : ∀ i < 32768, f i < 32768)
    (hinj : ∀ i j, i < 32768 → j < 32768 → f i = f j → i = j) (i : Nat) :
    rankOf K (f i) = rankOf (fun b => K (f b)) i := by
  have himg : (Finset.range 32768).image f = Finset.range 32768 := by
    refine Finset.eq_of_subset_of_card_le (fun b hb => ?_) ?_
    · obtain ⟨a, ha, rfl⟩ := Finset.mem_image.1 hb
      exact Finset.mem_range.2 (hf a (Finset.mem_range.1 ha))
    · rw [Finset.card_image_of_injOn]
      intro a ha b hb e
      exact hinj a b (by simpa using ha) (by simpa using hb) e
  unfold rankOf
  have hfil : ((Finset.range 32768).filter fun b => K b < K (f i))
      = ((Finset.range 32768).filter fun b => K (f b) < K (f i)).image f := by
    conv_lhs => rw [← himg]
    rw [Finset.filter_image]
  rw [hfil, Finset.card_image_of_injOn]
  intro a ha b hb e
  simp only [Finset.coe_filter, Finset.mem_range, Set.mem_setOf_eq] at ha hb
  exact hinj a b ha.1 hb.1 e

/-! ## Places and positions -/

/-- Where the element of rank or position `r` lies: lane `r / 2048` of group `r % 2048`. -/
def phys (r : Nat) : Nat := r % 2048 * 16 + r / 2048
/-- The position that lies at an address. -/
def posOf (a : Nat) : Nat := a % 16 * 2048 + a / 16

theorem phys_lt {r : Nat} (h : r < 32768) : phys r < 32768 := by unfold phys; omega
theorem posOf_phys {r : Nat} (h : r < 32768) : posOf (phys r) = r := by unfold phys posOf; omega
theorem phys_posOf {a : Nat} (h : a < 32768) : phys (posOf a) = a := by unfold phys posOf; omega
theorem posOf_lt {a : Nat} (h : a < 32768) : posOf a < 32768 := by unfold posOf; omega
theorem phys_inj {i j : Nat} (hi : i < 32768) (hj : j < 32768) (h : phys i = phys j) : i = j := by
  rw [← posOf_phys hi, ← posOf_phys hj, h]

/-- The slot of an address whose element has digit `D`. -/
def slotAt (D : Nat → Nat) (a : Nat) : Nat := 16 * D a + a % 16

theorem slotAt_mod (D : Nat → Nat) (a : Nat) : slotAt D a % 16 = a % 16 := by unfold slotAt; omega

/-- The order a pass ranks by. -/
abbrev passKey (D : Nat → Nat) (b : Nat) : Nat := slotAt D b * 32768 + b

theorem passKey_inj (D : Nat → Nat) (i j : Nat) (hi : i < 32768) (hj : j < 32768) (h : passKey D i = passKey D j) : i = j := by
  unfold passKey at h; omega

/-- By digit, and then by position. -/
theorem passKey_lt_iff {D : Nat → Nat} {u v : Nat} (hu : u < 32768) (hv : v < 32768) :
    passKey D u < passKey D v ↔ (D u < D v ∨ D u = D v ∧ posOf u < posOf v) := by
  have hs : passKey D u < passKey D v ↔ (slotAt D u < slotAt D v ∨ slotAt D u = slotAt D v ∧ u < v) := by
    unfold passKey; omega
  rw [hs]
  unfold slotAt posOf
  rcases Nat.lt_trichotomy (D u) (D v) with h | h | h
  · omega
  · rw [h]; omega
  · omega

/-- One pass: elements ranked by `G` and lying where their ranks say, with digits `d`, are ranked by the digit and
    then by `G`. -/
theorem pass_rank {G d D : Nat → Nat} {M : Nat} (hG : ∀ i j, i < 32768 → j < 32768 → G i = G j → i = j)
    (hM : ∀ i < 32768, G i < M) (hD : ∀ i < 32768, D (phys (rankOf G i)) = d i) {i : Nat} (hi : i < 32768) :
    rankOf (passKey D) (phys (rankOf G i)) = rankOf (fun b => d b * M + G b) i := by
  have hlt : ∀ i < 32768, phys (rankOf G i) < 32768 := fun i hi => phys_lt (rankOf_lt hi)
  rw [rankOf_reindex (K := passKey D) (f := fun i => phys (rankOf G i)) hlt
    (fun i j hi hj e => rankOf_inj hG hi hj (phys_inj (rankOf_lt hi) (rankOf_lt hj) e))]
  refine rankOf_congr fun b hb => ?_
  have e1 := hD b hb
  have e2 := hD i hi
  have p1 := posOf_phys (rankOf_lt (G := G) hb)
  have p2 := posOf_phys (rankOf_lt (G := G) hi)
  have l1 := hlt b hb
  have l2 := hlt i hi
  have hr := rankOf_lt_iff (G := G) hb hi
  have m1 := hM b hb
  have m2 := hM i hi
  generalize phys (rankOf G b) = u at *
  generalize phys (rankOf G i) = v at *
  rw [passKey_lt_iff l1 l2, e1, e2, p1, p2, hr]
  constructor
  · rintro (h | ⟨h, h'⟩)
    · have : (d b + 1) * M ≤ d i * M := Nat.mul_le_mul_right M h
      rw [Nat.add_mul] at this
      omega
    · rw [h]; omega
  · intro h
    rcases Nat.lt_trichotomy (d b) (d i) with h' | h' | h'
    · exact .inl h'
    · rw [h'] at h
      exact .inr ⟨h', by omega⟩
    · have : (d i + 1) * M ≤ d b * M := Nat.mul_le_mul_right M h'
      rw [Nat.add_mul] at this
      omega

end Cert.Radix
-- ==== Proof.Words.lean ====
/-
  What the words the sort computes are, as natural numbers: digits, slots, places and payloads, lane by lane.
-/
module

public import proofs.«01_k».proof.Proof.Own
public import proofs.«01_k».proof.Proof.Rank

@[expose] public section

namespace Cert.Radix

open Idealize.ShloMosaic

/-! ## Words -/

theorem toNat_shl {u : ArithUnit} {x : BitVec 32} (s : Nat) (hs : s < 32) (hx : x.toNat * 2 ^ s < 2 ^ 32) :
    (IntOp.shli u x (BitVec.ofNat 32 s)).toNat = x.toNat * 2 ^ s := by
  have hy : (BitVec.ofNat 32 s).toNat = s := by rw [BitVec.toNat_ofNat]; exact Nat.mod_eq_of_lt (by omega)
  unfold IntOp.shli
  rw [if_pos (by rw [hy]; exact hs), BitVec.shiftLeft_eq', hy, BitVec.toNat_shiftLeft, Nat.shiftLeft_eq, Nat.mod_eq_of_lt hx]

theorem toNat_shr {u : ArithUnit} {x : BitVec 32} (s : Nat) (hs : s < 32) (hx : x.toNat < 2 ^ 31) :
    (IntOp.shrsi u x (BitVec.ofNat 32 s)).toNat = x.toNat / 2 ^ s := by
  have hy : (BitVec.ofNat 32 s).toNat = s := by rw [BitVec.toNat_ofNat]; exact Nat.mod_eq_of_lt (by omega)
  unfold IntOp.shrsi
  rw [if_pos (by rw [hy]; exact hs)]
  unfold BitVec.sshiftRight'
  rw [hy, BitVec.sshiftRight_eq_of_msb_false (by rw [BitVec.msb_eq_decide]; simpa using hx), BitVec.toNat_ushiftRight,
    Nat.shiftRight_eq_div_pow]

theorem toNat_low {x : BitVec 32} (k : Nat) (hk : k ≤ 31) : (x &&& BitVec.ofNat 32 (2 ^ k - 1)).toNat = x.toNat % 2 ^ k := by
  have h2 : 2 ^ k ≤ 2 ^ 31 := Nat.pow_le_pow_right (by omega) hk
  rw [BitVec.toNat_and, BitVec.toNat_ofNat, Nat.mod_eq_of_lt (a := 2 ^ k - 1) (by omega), Nat.and_two_pow_sub_one_eq_mod]

/-- Eight bits from bit `s` on, which the sign does not reach. -/
theorem toNat_digit {u : ArithUnit} {x : BitVec 32} (s : Nat) (hs : s ≤ 24) :
    (IntOp.shrsi u x (BitVec.ofNat 32 s) &&& 255#32).toNat = x.toNat / 2 ^ s % 256 := by
  have hy : (BitVec.ofNat 32 s).toNat = s := by rw [BitVec.toNat_ofNat]; exact Nat.mod_eq_of_lt (by omega)
  have e : IntOp.shrsi u x (BitVec.ofNat 32 s) &&& 255#32 = (x >>> s) &&& 255#32 := by
    unfold IntOp.shrsi
    rw [if_pos (by rw [hy]; omega)]
    unfold BitVec.sshiftRight'
    rw [hy]
    refine BitVec.eq_of_getLsbD_eq fun i hi => ?_
    rw [BitVec.getLsbD_and, BitVec.getLsbD_and]
    by_cases h8 : i < 8
    · rw [BitVec.getLsbD_sshiftRight, BitVec.getLsbD_ushiftRight]
      have : s + i < 32 := by omega
      have h32 : ¬ 32 ≤ i := by omega
      simp [this, hi, h32]
    · have : (255#32).getLsbD i = false := by
        rw [show (255#32) = BitVec.ofNat 32 (2 ^ 8 - 1) from rfl, BitVec.getLsbD_ofNat, Nat.testBit_two_pow_sub_one]
        simp [h8]
      rw [this, Bool.and_false, Bool.and_false]
  rw [e, show (255#32) = BitVec.ofNat 32 (2 ^ 8 - 1) from rfl, toNat_low 8 (by omega), BitVec.toNat_ushiftRight,
    Nat.shiftRight_eq_div_pow]
  rfl

/-- High bits beside low ones. -/
theorem toNat_beside {x y : BitVec 32} {a : Nat} (k : Nat) (hx : x.toNat = a * 2 ^ k) (hy : y.toNat < 2 ^ k) :
    (x ||| y).toNat = a * 2 ^ k + y.toNat := by
  rw [BitVec.toNat_or, hx, Nat.mul_comm, Nat.two_pow_add_eq_or_of_lt hy]

/-! ## Lanes -/

theorem at_slotOf {lane dg : Lanes} (hl : ∀ j : Fin 16, (at' lane j).toNat = j.val) {j : Fin 16} (hd : (at' dg j).toNat < 256) :
    (at' (slotOf lane dg) j).toNat = 16 * (at' dg j).toNat + j.val := by
  have h := toNat_beside (x := IntOp.shli .vector (at' dg j) 4#32) (y := at' lane j) 4
    (toNat_shl 4 (by omega) (by omega)) (by rw [hl]; exact j.isLt)
  rw [hl] at h
  exact h.trans (by omega)

theorem at_dig0 (k : Lanes) (j : Fin 16) : (at' (dig0 k) j).toNat = (at' k j).toNat % 256 := toNat_low 8 (by omega)

theorem at_digAt (s : Nat) (hs : s ≤ 24) (k : Lanes) (j : Fin 16) :
    (at' (digAt (BitVec.ofNat 32 s) k) j).toNat = (at' k j).toNat / 2 ^ s % 256 := toNat_digit s hs

theorem at_placeOf {q : Lanes} {j : Fin 16} (hq : (at' q j).toNat < 32768) : (at' (placeOf q) j).toNat = phys (at' q j).toNat := by
  have e1 : (at' q j &&& 2047#32).toNat = (at' q j).toNat % 2048 := toNat_low 11 (by omega)
  have e2 : (IntOp.shrsi .vector (at' q j) 11#32).toNat = (at' q j).toNat / 2048 := toNat_shr 11 (by omega) (by omega)
  have h := toNat_beside (x := IntOp.shli .vector (at' q j &&& 2047#32) 4#32) (y := IntOp.shrsi .vector (at' q j) 11#32) 4
    (toNat_shl 4 (by omega) (by rw [e1]; omega)) (by rw [e2]; omega)
  rw [e1, e2] at h
  exact h

theorem at_addrOf (p : Lanes) (j : Fin 16) : (at' (addrOf p) j).toNat = (at' p j).toNat % 32768 := toNat_low 15 (by omega)

/-- Two fields of eight bits above fifteen. -/
theorem toNat_fields {u : ArithUnit} {x y z : BitVec 32} (hx : x.toNat < 256) (hy : y.toNat < 256) (hz : z.toNat < 32768) :
    ((IntOp.shli u x 23#32 ||| IntOp.shli u y 15#32) ||| z).toNat = x.toNat * 2 ^ 23 + y.toNat * 2 ^ 15 + z.toNat := by
  have e1 : (IntOp.shli u y 15#32).toNat = y.toNat * 2 ^ 15 := toNat_shl 15 (by omega) (by omega)
  have e2 := toNat_beside (x := IntOp.shli u x 23#32) (y := IntOp.shli u y 15#32) 23 (toNat_shl 23 (by omega) (by omega))
    (by rw [e1]; omega)
  rw [e1] at e2
  have e3 := toNat_beside (x := IntOp.shli u x 23#32 ||| IntOp.shli u y 15#32) (y := z) (a := x.toNat * 2 ^ 8 + y.toNat) 15
    (by rw [e2]; omega) (by omega)
  rw [e3]; omega

theorem at_pay0 {lane k : Lanes} {a0 : BitVec 32} {j : Fin 16} (hl : (at' lane j).toNat = j.val) (ha : a0.toNat + j.val < 32768) :
    (at' (pay0 lane k a0) j).toNat
      = (at' k j).toNat / 2 ^ 16 % 256 * 2 ^ 23 + (at' k j).toNat / 2 ^ 8 % 256 * 2 ^ 15 + (a0.toNat + j.val) := by
  have e1 : (at' (digAt 16#32 k) j).toNat = _ := at_digAt 16 (by omega) k j
  have e2 : (at' (digAt 8#32 k) j).toNat = _ := at_digAt 8 (by omega) k j
  have e3 : (at' lane j + a0).toNat = a0.toNat + j.val := by rw [BitVec.toNat_add, hl]; omega
  have h := toNat_fields (u := .vector) (x := at' (digAt 16#32 k) j) (y := at' (digAt 8#32 k) j) (z := at' lane j + a0)
    (by rw [e1]; omega) (by rw [e2]; omega) (by rw [e3]; exact ha)
  rw [e1, e2, e3] at h
  exact h

theorem at_pay1 {p k : Lanes} {j : Fin 16} (hp : (at' p j).toNat < 2 ^ 31) :
    (at' (pay1 p k) j).toNat
      = (at' k j).toNat / 2 ^ 24 % 256 * 2 ^ 23 + (at' p j).toNat / 2 ^ 23 * 2 ^ 15 + (at' p j).toNat % 32768 := by
  have e1 : (at' (digAt 24#32 k) j).toNat = _ := at_digAt 24 (by omega) k j
  have e2 : (IntOp.shrsi .vector (at' p j) 23#32).toNat = _ := toNat_shr 23 (by omega) hp
  have e3 := at_addrOf p j
  have h := toNat_fields (u := .vector) (x := at' (digAt 24#32 k) j) (y := IntOp.shrsi .vector (at' p j) 23#32) (z := at' (addrOf p) j)
    (by rw [e1]; omega) (by rw [e2]; omega) (by rw [e3]; omega)
  rw [e1, e2, e3] at h
  exact h

theorem at_pay2 {p : Lanes} {j : Fin 16} (hp : (at' p j).toNat < 2 ^ 31) :
    (at' (pay2 p) j).toNat = (at' p j).toNat / 2 ^ 23 * 2 ^ 15 + (at' p j).toNat % 32768 := by
  have e2 : (IntOp.shrsi .vector (at' p j) 23#32).toNat = _ := toNat_shr 23 (by omega) hp
  have e3 := at_addrOf p j
  have h := toNat_beside (x := IntOp.shli .vector (IntOp.shrsi .vector (at' p j) 23#32) 15#32) (y := at' (addrOf p) j) 15
    (toNat_shl 15 (by omega) (by rw [e2]; omega)) (by rw [e3]; omega)
  rw [e2, e3] at h
  exact h

theorem at_pay3 (p : Lanes) (j : Fin 16) : (at' (pay3 p) j).toNat = posOf ((at' p j).toNat % 32768) := by
  have e3 := at_addrOf p j
  have hlt : (at' (addrOf p) j).toNat < 32768 := by rw [e3]; omega
  have e1 : (at' (addrOf p) j &&& 15#32).toNat = (at' (addrOf p) j).toNat % 16 := toNat_low 4 (by omega)
  have e2 : (IntOp.shrsi .vector (at' (addrOf p) j) 4#32).toNat = (at' (addrOf p) j).toNat / 16 := toNat_shr 4 (by omega) (by omega)
  have h := toNat_beside (x := IntOp.shli .vector (at' (addrOf p) j &&& 15#32) 11#32) (y := IntOp.shrsi .vector (at' (addrOf p) j) 4#32) 11
    (toNat_shl 11 (by omega) (by rw [e1]; omega)) (by rw [e2]; omega)
  rw [e1, e2, e3] at h
  exact h

/-! ## Running sums -/

theorem scan_zero (v : Lanes) : at' (scan .sum v) 0 = at' v 0 := rfl

theorem scan_succ (v : Lanes) (j : Nat) (hj : j + 1 < 16) :
    at' (scan .sum v) ⟨j + 1, hj⟩ = at' (scan .sum v) ⟨j, by omega⟩ + at' v ⟨j + 1, hj⟩ := by
  have hf : ∀ j : Fin 15, ((List.finRange 16).filter fun k => decide (0 < k.val ∧ k.val ≤ j.val + 1))
      = ((List.finRange 16).filter fun k => decide (0 < k.val ∧ k.val ≤ j.val)) ++ [j.succ] := by decide
  have h := congrArg (List.foldl (fun r k => r + at' v k) (at' v 0)) (hf ⟨j, by omega⟩)
  rw [List.foldl_append] at h
  exact h

/-- Running sums, where the words are the steps of `P`. -/
theorem at_scan {P : Nat → Nat} {v : Lanes} {o : Nat} (hv : ∀ j : Fin 16, P (o + j.val) + (at' v j).toNat = P (o + j.val + 1))
    (hP : ∀ j : Fin 16, P (o + j.val + 1) < 2 ^ 32) (j : Fin 16) : P o + (at' (scan .sum v) j).toNat = P (o + j.val + 1) := by
  obtain ⟨j, hj⟩ := j
  induction j with
  | zero => exact hv 0
  | succ j ih =>
    have h := ih (by omega)
    have h2 := hv ⟨j + 1, hj⟩
    have h3 := hP ⟨j + 1, hj⟩
    simp only [← Nat.add_assoc] at h h2 h3 ⊢
    rw [scan_succ, BitVec.toNat_add]
    omega

/-! ## Tables -/

/-- Words changed one after another at distinct places. -/
theorem foldl_places {f : Fin 16 → Nat} (hf : Function.Injective f) (v : Fin 16 → BitVec 32 → BitVec 32) (l : List (Fin 16))
    (hl : l.Nodup) (g : Nat → BitVec 32) (n : Nat) :
    ((∀ k ∈ l, n ≠ f k) → l.foldl (fun g k n => if n = f k then v k (g (f k)) else g n) g n = g n)
    ∧ (∀ k ∈ l, n = f k → l.foldl (fun g k n => if n = f k then v k (g (f k)) else g n) g n = v k (g n)) := by
  induction l generalizing g with
  | nil => exact ⟨fun _ => rfl, fun k hk => absurd hk (List.not_mem_nil)⟩
  | cons a l ih =>
    have hn := List.nodup_cons.1 hl
    obtain ⟨i1, i2⟩ := ih hn.2 (fun n => if n = f a then v a (g (f a)) else g n)
    refine ⟨fun h => ?_, fun k hk e => ?_⟩
    · exact (i1 fun k hk => h k (List.mem_cons_of_mem _ hk)).trans (if_neg (h a List.mem_cons_self))
    · rcases List.mem_cons.1 hk with rfl | hk
      · refine (i1 fun k' hk' e' => hn.1 ?_).trans ?_
        · rw [hf (e.symm.trans e')]; exact hk'
        · rw [← e]; exact if_pos rfl
      · refine (i2 k hk e).trans ?_
        have : n ≠ f a := fun e' => hn.1 (hf (e'.symm.trans e) ▸ hk)
        exact congrArg _ (if_neg this)

theorem scat_hit {g : Nat → BitVec 32} {i w : Lanes} (hi : Function.Injective fun k => (at' i k).toNat) (k : Fin 16) :
    scat g i w (at' i k).toNat = at' w k :=
  (foldl_places hi (fun k _ => at' w k) _ (List.nodup_finRange 16) g _).2 k (List.mem_finRange k) rfl

theorem scat_miss {g : Nat → BitVec 32} {i w : Lanes} (hi : Function.Injective fun k => (at' i k).toNat) {n : Nat}
    (hn : ∀ k, n ≠ (at' i k).toNat) : scat g i w n = g n :=
  (foldl_places hi (fun k _ => at' w k) _ (List.nodup_finRange 16) g n).1 fun k _ => hn k

theorem scatAdd_hit {g : Nat → BitVec 32} {i w : Lanes} (hi : Function.Injective fun k => (at' i k).toNat) (k : Fin 16) :
    scatAdd g i w (at' i k).toNat = g (at' i k).toNat + at' w k :=
  (foldl_places hi (fun k x => x + at' w k) _ (List.nodup_finRange 16) g _).2 k (List.mem_finRange k) rfl

theorem scatAdd_miss {g : Nat → BitVec 32} {i w : Lanes} (hi : Function.Injective fun k => (at' i k).toNat) {n : Nat}
    (hn : ∀ k, n ≠ (at' i k).toNat) : scatAdd g i w n = g n :=
  (foldl_places hi (fun k x => x + at' w k) _ (List.nodup_finRange 16) g n).1 fun k _ => hn k

theorem at_take (g : Nat → BitVec 32) (o : Nat) (j : Fin 16) : at' (take g o) j = g (o + j.val) := rfl
theorem at_pick (g : Nat → BitVec 32) (i : Lanes) (j : Fin 16) : at' (pick g i) j = g (at' i j).toNat := rfl

end Cert.Radix
-- ==== Proof.Passes.lean ====
/-
  The loops: the counters put to zero, a pass's digits counted, the counts made ranks, the elements placed; each by the
  invariant of its steps.
-/
module

public import proofs.«01_k».proof.Proof.Steps
public import proofs.«01_k».proof.Proof.Words

@[expose] public section

noncomputable section

namespace Cert.Radix

open Idealize.ShloMosaic Idealize.SL
open Idealize.SL.BI (sProp)
open scoped Idealize.SL.BI
open Idealize.SL.BI.BIBase Idealize.SL.BI.Laws Idealize.SL.Sem Idealize.SL.ProofMode
open Idealize.SL.RA

/-! ## Tables, step by step -/

/-- A digit, of lanes and of one word. -/
structure Digit (dig : Lanes → Lanes) (dg : BitVec 32 → Nat) : Prop where
  lanes : ∀ k j, (at' (dig k) j).toNat = dg (at' k j)
  lt : ∀ x, dg x < 256

theorem digit0 : Digit dig0 fun x => x.toNat % 256 := ⟨at_dig0, fun _ => Nat.mod_lt _ (by omega)⟩
theorem digit15 : Digit (digAt 15#32) fun x => x.toNat / 2 ^ 15 % 256 := ⟨at_digAt 15 (by omega), fun _ => Nat.mod_lt _ (by omega)⟩

theorem ofLane_eta (x : Sv.Idx) : Shape.ofLane (d := ![16]) (x 0) = x := by
  funext a
  obtain rfl : a = 0 := Fin.eq_zero a
  rfl

theorem inH_of {v : Lanes} (h : ∀ j, (at' v j).toNat < 4096) : InH v := fun a x => by
  obtain rfl : a = 0 := Fin.eq_zero a
  exact lt_of_eq_of_lt (congrArg (fun y => (v y).toNat) (ofLane_eta x).symm) (h (x 0))

theorem inK_of {v : Lanes} (h : ∀ j, (at' v j).toNat < 32768) : InK v := fun a x => by
  obtain rfl : a = 0 := Fin.eq_zero a
  exact lt_of_eq_of_lt (congrArg (fun y => (v y).toNat) (ofLane_eta x).symm) (h (x 0))

/-- The digits of a table's words, by address. -/
abbrev digits (dg : BitVec 32 → Nat) (A : Nat → BitVec 32) : Nat → Nat := fun a => dg (A a)

section Pure

variable {lane : Lanes} (hl : ∀ j : Fin 16, (at' lane j).toNat = j.val)
variable {dig : Lanes → Lanes} {dg : BitVec 32 → Nat} (hd : Digit dig dg) (A H B : Nat → BitVec 32) (n : Nat)

include hl hd in
theorem slots_at (j : Fin 16) : (at' (slotOf lane (dig (take A (16 * n)))) j).toNat = slotAt (digits dg A) (16 * n + j.val) := by
  have e : (at' (dig (take A (16 * n))) j).toNat = dg (A (16 * n + j.val)) := hd.lanes _ j
  rw [at_slotOf hl (by rw [e]; exact hd.lt _), e]
  unfold slotAt digits
  have := j.isLt
  omega

theorem slotAt_lt (hd : Digit dig dg) (a : Nat) : slotAt (digits dg A) a < 4096 := by
  have := hd.lt (A a)
  unfold slotAt digits
  omega

include hl hd in
theorem slots_inH : InH (slotOf lane (dig (take A (16 * n)))) :=
  inH_of fun j => by rw [slots_at hl hd]; exact slotAt_lt A hd _

include hl hd in
theorem slots_inj : Function.Injective fun j => (at' (slotOf lane (dig (take A (16 * n)))) j).toNat := fun j j' e => by
  simp only [slots_at hl hd] at e
  have h1 := slotAt_mod (digits dg A) (16 * n + j.val)
  have h2 := slotAt_mod (digits dg A) (16 * n + j'.val)
  rw [e] at h1
  have := j.isLt
  have := j'.isLt
  exact Fin.ext (by omega)

include hl hd in
/-- What the raised counters hold, whichever way they are raised. -/
theorem raised {H H' : Nat → BitVec 32} {f : Nat → Nat} (hf : ∀ s, f s ≤ 32768)
    (hit : ∀ j, H' (at' (slotOf lane (dig (take A (16 * n)))) j).toNat = H (at' (slotOf lane (dig (take A (16 * n)))) j).toNat + 1#32)
    (miss : ∀ s, (∀ j, s ≠ (at' (slotOf lane (dig (take A (16 * n)))) j).toNat) → H' s = H s)
    (hn : n < 2048) (hH : ∀ s < 4096, (H s).toNat = f s + countOf (slotAt (digits dg A)) (16 * n) s) :
    ∀ s < 4096, (H' s).toNat = f s + countOf (slotAt (digits dg A)) (16 * (n + 1)) s := by
  intro s hs
  rw [countOf_group (slotAt_mod _)]
  have hlt : s % 16 < 16 := Nat.mod_lt _ (by omega)
  by_cases hc : slotAt (digits dg A) (16 * n + s % 16) = s
  · have e := hit ⟨s % 16, hlt⟩
    rw [slots_at hl hd, hc] at e
    have := hf s
    have := countOf_le (slotAt (digits dg A)) (16 * n) s
    rw [if_pos hc, e, BitVec.toNat_add, hH s hs, show (1#32).toNat = 1 from rfl]
    omega
  · rw [if_neg hc, miss s, hH s hs, Nat.add_zero]
    intro j e
    rw [slots_at hl hd] at e
    have := slotAt_mod (digits dg A) (16 * n + j.val)
    rw [← e] at this
    have hj := j.isLt
    apply hc
    rw [show s % 16 = j.val by omega]
    exact e.symm

include hl hd in
theorem counted_step (hn : n < 2048) (hH : ∀ s < 4096, (H s).toNat = countOf (slotAt (digits dg A)) (16 * n) s) :
    ∀ s < 4096, (scatAdd H (slotOf lane (dig (take A (16 * n)))) ones s).toNat = countOf (slotAt (digits dg A)) (16 * (n + 1)) s := by
  have hi := slots_inj hl hd A n
  have h := raised hl hd A n (H := H) (H' := scatAdd H (slotOf lane (dig (take A (16 * n)))) ones) (f := fun _ => 0)
    (fun _ => Nat.zero_le _) (fun j => scatAdd_hit hi j) (fun s hs => scatAdd_miss hi hs) hn (by simpa using hH)
  simpa using h

/-- The invariant of a placing pass after `n` groups: the counters hold ranks, and every element seen lies where `pl`
    puts its rank, as `good` says. -/
structure Placed (S : Nat → Nat) (rk pl : Nat → Nat) (good : Nat → BitVec 32 → Prop) (n : Nat) (H B : Nat → BitVec 32) : Prop where
  counters : ∀ s < 4096, (H s).toNat = belowOf S s + countOf S (16 * n) s
  placed : ∀ a < 16 * n, good a (B (pl (rk a)))

include hl hd in
theorem ranks_at (hn : n < 2048) (hH : ∀ s < 4096, (H s).toNat = belowOf (slotAt (digits dg A)) s + countOf (slotAt (digits dg A)) (16 * n) s)
    (j : Fin 16) : (at' (pick H (slotOf lane (dig (take A (16 * n))))) j).toNat = rankOf (passKey (digits dg A)) (16 * n + j.val) := by
  have hj := j.isLt
  rw [at_pick, slots_at hl hd, hH _ (slotAt_lt A hd _), below_add_count (slotAt_mod _) hj (by omega)]

include hl hd in
theorem placed_step {pl : Nat → Nat} (hpl : ∀ i j, i < 32768 → j < 32768 → pl i = pl j → i = j) {good : Nat → BitVec 32 → Prop}
    (hn : n < 2048) (hP : Placed (slotAt (digits dg A)) (rankOf (passKey (digits dg A))) pl good n H B) {pv w : Lanes}
    (hpv : ∀ j, (at' pv j).toNat = pl (at' (pick H (slotOf lane (dig (take A (16 * n))))) j).toNat)
    (hw : ∀ j : Fin 16, good (16 * n + j.val) (at' w j)) :
    Placed (slotAt (digits dg A)) (rankOf (passKey (digits dg A))) pl good (n + 1)
      (scat H (slotOf lane (dig (take A (16 * n)))) (addi (pick H (slotOf lane (dig (take A (16 * n))))) ones)) (scat B pv w) := by
  have hi := slots_inj hl hd A n
  have hlt : ∀ j : Fin 16, 16 * n + j.val < 32768 := fun j => by have := j.isLt; omega
  have hpv' : ∀ j, (at' pv j).toNat = pl (rankOf (passKey (digits dg A)) (16 * n + j.val)) := fun j => by
    rw [hpv, ranks_at hl hd A H n hn hP.counters]
  have hinj : ∀ a b, a < 32768 → b < 32768 →
      pl (rankOf (passKey (digits dg A)) a) = pl (rankOf (passKey (digits dg A)) b) → a = b := fun a b ha hb e =>
    rankOf_inj (passKey_inj _) ha hb (hpl _ _ (rankOf_lt ha) (rankOf_lt hb) e)
  have hi' : Function.Injective fun k => (at' pv k).toNat := fun j j' e => by
    simp only [hpv'] at e
    have := hinj _ _ (hlt j) (hlt j') e
    exact Fin.ext (by omega)
  refine ⟨raised hl hd A n (belowOf_le _) (fun j => scat_hit hi j) (fun s hs => scat_miss hi hs) hn hP.counters, fun a ha => ?_⟩
  by_cases hc : a < 16 * n
  · rw [scat_miss hi']
    · exact hP.placed a hc
    · intro k e
      rw [hpv'] at e
      have := hinj _ _ (by omega) (hlt k) e
      omega
  · have hk : a - 16 * n < 16 := by omega
    have e := scat_hit (g := B) (w := w) hi' ⟨a - 16 * n, hk⟩
    have hg := hw ⟨a - 16 * n, hk⟩
    rw [hpv', show 16 * n + (⟨a - 16 * n, hk⟩ : Fin 16).val = a by show 16 * n + (a - 16 * n) = a; omega] at e
    rw [show 16 * n + (⟨a - 16 * n, hk⟩ : Fin 16).val = a by show 16 * n + (a - 16 * n) = a; omega] at hg
    rw [e]; exact hg

/-- The invariant of the running sums after `n` chunks. -/
structure Scanned (S : Nat → Nat) (n : Nat) (H H' : Nat → BitVec 32) (c : BitVec 32) : Prop where
  done : ∀ s < 16 * n, (H s).toNat = belowOf S s
  rest : ∀ s, 16 * n ≤ s → s < 4096 → (H s).toNat = countOf S 32768 s
  zero : ∀ s < 16 * n, (H' s).toNat = 0
  carry : c.toNat = belowOf S (16 * n)

theorem put_byLane_in (g : Nat → BitVec 32) (o : Nat) (w : Lanes) (j : Fin 16) : put g o (byLane w) (o + j.val) = at' w j := by
  have := j.isLt
  unfold put byLane
  rw [if_pos ⟨by omega, by omega⟩, dif_pos (by omega)]
  exact congrArg (at' w) (Fin.ext (by show o + j.val - o = j.val; omega))

theorem put_out (g w : Nat → BitVec 32) {o n : Nat} (h : n < o ∨ o + 16 ≤ n) : put g o w n = g n := if_neg (by omega)

theorem scanned_step {S : Nat → Nat} {H H' : Nat → BitVec 32} {c : BitVec 32} (hn : n < 256) (h : Scanned S n H H' c) :
    Scanned S (n + 1)
      (put H (16 * n) (byLane (addi (subi (scan .sum (take H (16 * n))) (take H (16 * n))) (broadcast Sv c))))
      (put H' (16 * n) (byLane zeros)) (Scalar.addi c (at' (scan .sum (take H (16 * n))) 15)) := by
  have hsum : ∀ j : Fin 16, belowOf S (16 * n) + (at' (scan .sum (take H (16 * n))) j).toNat = belowOf S (16 * n + j.val + 1) :=
    at_scan (fun j => by
      have := j.isLt
      rw [at_take, h.rest _ (by omega) (by omega), belowOf_succ])
      fun j => lt_of_le_of_lt (belowOf_le _ _) (by omega)
  have hle := belowOf_le S (16 * n)
  refine ⟨fun s hs => ?_, fun s h1 h2 => ?_, fun s hs => ?_, ?_⟩
  · by_cases hc : s < 16 * n
    · rw [put_out _ _ (.inl hc)]; exact h.done s hc
    · have hk : s - 16 * n < 16 := by omega
      have e := put_byLane_in H (16 * n) (addi (subi (scan .sum (take H (16 * n))) (take H (16 * n))) (broadcast Sv c)) ⟨s - 16 * n, hk⟩
      rw [show 16 * n + (⟨s - 16 * n, hk⟩ : Fin 16).val = s by show 16 * n + (s - 16 * n) = s; omega] at e
      rw [e]
      have h1 := hsum ⟨s - 16 * n, hk⟩
      have h2 := h.rest s (by omega) (by omega)
      rw [show 16 * n + (⟨s - 16 * n, hk⟩ : Fin 16).val = s by show 16 * n + (s - 16 * n) = s; omega, belowOf_succ] at h1
      have h3 : at' (take H (16 * n)) ⟨s - 16 * n, hk⟩ = H s := by
        rw [at_take]; exact congrArg H (by show 16 * n + (s - 16 * n) = s; omega)
      have hc' := h.carry
      have hb := belowOf_le S s
      have hct := countOf_le S 32768 s
      show ((at' (scan .sum (take H (16 * n))) ⟨s - 16 * n, hk⟩ - at' (take H (16 * n)) ⟨s - 16 * n, hk⟩) + c).toNat = _
      rw [h3, BitVec.toNat_add, BitVec.toNat_sub]
      omega
  · rw [put_out _ _ (.inr (by omega))]; exact h.rest s (by omega) h2
  · by_cases hc : s < 16 * n
    · rw [put_out _ _ (.inl hc)]; exact h.zero s hc
    · have hk : s - 16 * n < 16 := by omega
      have e := put_byLane_in H' (16 * n) zeros ⟨s - 16 * n, hk⟩
      rw [show 16 * n + (⟨s - 16 * n, hk⟩ : Fin 16).val = s by show 16 * n + (s - 16 * n) = s; omega] at e
      rw [e]; rfl
  · have h1 := hsum 15
    have hb := belowOf_le S (16 * n + 15 + 1)
    have hc' := h.carry
    rw [show 16 * (n + 1) = 16 * n + 15 + 1 by omega]
    show (c + at' (scan .sum (take H (16 * n))) 15).toNat = _
    rw [BitVec.toNat_add]
    have h1' : belowOf S (16 * n) + (at' (scan .sum (take H (16 * n))) 15).toNat = belowOf S (16 * n + 15 + 1) := h1
    omega

end Pure

/-! ## The loops -/

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {d : Fin nD} {co : Fin τ.nSC} {su : Fin τ.nSub}
variable {defs : Defs nD τ sig (Elt F) Λ} (𝒱 : Variants) (bd : Option 𝒱.V) (E : Set Name)
variable {lane : Lanes} {h h' : Memref sig .scVector .vmem Sh .i32} {src dst keys : Memref sig .scVector .vmem Sk .i32}
variable {H A B K : Nat → BitVec 32}

local notation "𝕄" => MT nD τ sig Ix (Elt F) Name U Lvl

/-- A buffer held with whatever is in it. -/
abbrev any (d : Fin nD) (co : Fin τ.nSC) (su : Fin τ.nSub) {n : Nat} (m : Memref sig .scVector .vmem ⟨1, ![n]⟩ .i32) : sProp 𝕄 :=
  iprop(∃ g, own d co su m g)
/-- A table of counters held, at zero. -/
abbrev ownZero (d : Fin nD) (co : Fin τ.nSC) (su : Fin τ.nSub) (m : Memref sig .scVector .vmem Sh .i32) : sProp 𝕄 :=
  iprop(∃ g : Nat → BitVec 32, ⌜∀ s < 4096, (g s).toNat = 0⌝ ∗ own d co su m g)

theorem groupOff_sweep (t : Fin sweepLoop.trips) (j : Fin 16) : groupOff t.val j 0 = 16 * (16 * t.val + j.val) :=
  (toNat_group (sweep_lt t) j).trans (by omega)

theorem sweep_step_lt (t : Fin sweepLoop.trips) (j : Fin 16) : 16 * t.val + j.val < 2048 := by
  have := sweep_lt t
  have := j.isLt
  omega

theorem wp_zeroAll :
    any d co su h ⊢ wp frame (wpE defs 𝒱 (tile d co su) bd) E (zeroAll h) (fun _ => (ownZero d co su h : sProp 𝕄)) := by
  unfold zeroAll zeroTrip
  refine wp_trips (defs := defs) 𝒱 bd E zeroLoop zeroLoop_ok _
    (fun n => (iprop(∃ g : Nat → BitVec 32, ⌜∀ s < 16 * n, (g s).toNat = 0⌝ ∗ own d co su h g) : sProp 𝕄)) 256 (by decide)
    (fun t j => ?_) ?_ ?_
  · have ho : groupOff t.val j 0 = 16 * (16 * t.val + j.val) :=
      (toNat_group (lt_of_lt_of_eq t.isLt zeroLoop_trips |>.trans (by omega)) j).trans (by omega)
    generalize 16 * t.val + j.val = n at *
    iintro ⟨%g, %hg, Hh⟩
    iapply (wp_to (defs := defs) 𝒱 bd E (wp_zeroStep (defs := defs) 𝒱 bd E (H := g)) fun _ => ?_) $$ Hh
    rw [ho]
    iintro Hh
    iexists (put g (16 * n) (byLane zeros))
    isplitr [Hh]
    · ipureintro
      intro s hs
      by_cases hc : s < 16 * n
      · rw [put_out _ _ (.inl hc)]; exact hg s hc
      · have hk : s - 16 * n < 16 := by omega
        have e := put_byLane_in g (16 * n) zeros ⟨s - 16 * n, hk⟩
        rw [show 16 * n + (⟨s - 16 * n, hk⟩ : Fin 16).val = s by show 16 * n + (s - 16 * n) = s; omega] at e
        rw [e]; rfl
    · iexact Hh
  · iintro ⟨%g, Hh⟩
    iexists g
    isplitr [Hh]
    · ipureintro
      intro s hs
      omega
    · iexact Hh
  · iintro ⟨%g, %hg, Hh⟩
    iexists g
    isplitr [Hh]
    · ipureintro
      exact hg
    · iexact Hh

variable (hl : ∀ j : Fin 16, (at' lane j).toNat = j.val) {dig : Lanes → Lanes} {dg : BitVec 32 → Nat} (hd : Digit dig dg)

/-- A table of counters held, with the numbers of the row's elements in the slots. -/
abbrev ownCount (d : Fin nD) (co : Fin τ.nSC) (su : Fin τ.nSub) (m : Memref sig .scVector .vmem Sh .i32) (S : Nat → Nat) : sProp 𝕄 :=
  iprop(∃ g : Nat → BitVec 32, ⌜∀ s < 4096, (g s).toNat = countOf S 32768 s⌝ ∗ own d co su m g)
/-- A table of counters held, with the numbers of the row's elements in lower slots. -/
abbrev ownBelow (d : Fin nD) (co : Fin τ.nSC) (su : Fin τ.nSub) (m : Memref sig .scVector .vmem Sh .i32) (S : Nat → Nat) : sProp 𝕄 :=
  iprop(∃ g : Nat → BitVec 32, ⌜∀ s < 4096, (g s).toNat = belowOf S s⌝ ∗ own d co su m g)

include hl hd in
theorem wp_countAll :
    iprop(own d co su src A ∗ ownZero d co su h) ⊢ wp frame (wpE defs 𝒱 (tile d co su) bd) E (countAll lane dig src h)
      (fun _ => (iprop(own d co su src A ∗ ownCount d co su h (slotAt (digits dg A))) : sProp 𝕄)) := by
  unfold countAll countTrip
  refine wp_trips (defs := defs) 𝒱 bd E sweepLoop sweepLoop_ok _
    (fun n => (iprop(own d co su src A ∗ ∃ g : Nat → BitVec 32, ⌜∀ s < 4096, (g s).toNat = countOf (slotAt (digits dg A)) (16 * n) s⌝
      ∗ own d co su h g) : sProp 𝕄)) 2048 (by decide) (fun t j => ?_) ?_ ?_
  · have ho := groupOff_sweep t j
    have hn := sweep_step_lt t j
    generalize 16 * t.val + j.val = n at *
    iintro ⟨Hs, %g, %hg, Hh⟩
    iapply (wp_to (defs := defs) 𝒱 bd E (wp_countStep (defs := defs) 𝒱 bd E (H := g) (by rw [ho]; exact slots_inH hl hd A n)) fun _ => ?_)
    · rw [ho]
      iintro ⟨Hs, Hh⟩
      isplitl [Hs]
      · iexact Hs
      iexists (scatAdd g (slotOf lane (dig (take A (16 * n)))) ones)
      isplitr [Hh]
      · ipureintro
        exact counted_step hl hd A g n hn hg
      · iexact Hh
    · isplitl [Hs]
      · iexact Hs
      · iexact Hh
  · iintro ⟨Hs, %g, %hg, Hh⟩
    isplitl [Hs]
    · iexact Hs
    iexists g
    isplitr [Hh]
    · ipureintro
      exact hg
    · iexact Hh
  · iintro ⟨Hs, %g, %hg, Hh⟩
    isplitl [Hs]
    · iexact Hs
    iexists g
    isplitr [Hh]
    · ipureintro
      exact hg
    · iexact Hh

theorem wp_scanAll {hsl : Sv.Slices ![15] S1} {hp : ∀ a, (![0] : Fin 1 → Nat) a < S1.size a} {S : Nat → Nat} :
    iprop(ownCount d co su h S ∗ any d co su h') ⊢ wp frame (wpE defs 𝒱 (tile d co su) bd) E (scanAll hsl hp h h')
      (fun _ => (iprop(ownBelow d co su h S ∗ ownZero d co su h') : sProp 𝕄)) := by
  unfold scanAll
  iintro ⟨⟨%g, %hg, Hh⟩, ⟨%g', Hh'⟩⟩
  iapply (Scf.wp_for frame (wpE defs 𝒱 (tile d co su) bd) E scanLoop.lb scanLoop.ub scanLoop.st scanLoop_ok 0#32 _
    (fun n c => (iprop(∃ g g' : Nat → BitVec 32, ⌜Scanned S n g g' c⌝ ∗ own d co su h g ∗ own d co su h' g') : sProp 𝕄)) ?_)
  · intro t c
    have ho := toNat_scanOff (scan_lt t)
    have hn := scan_lt t
    iintro ⟨%g, %g', %hs, Hh, Hh'⟩
    iapply (wp_scanStep (defs := defs) 𝒱 bd E (H := g) (H' := g') ?_)
    · rw [ho]
      iintro ⟨Hh, Hh'⟩
      iexists (put g (16 * t.val) (byLane (addi (subi (scan .sum (take g (16 * t.val))) (take g (16 * t.val))) (broadcast Sv c))))
      iexists (put g' (16 * t.val) (byLane zeros))
      isplitr [Hh Hh']
      · ipureintro
        exact scanned_step t.val hn hs
      · isplitl [Hh]
        · iexact Hh
        · iexact Hh'
    · isplitl [Hh]
      · iexact Hh
      · iexact Hh'
  · isplitl [Hh Hh']
    · iexists g
      iexists g'
      isplitr [Hh Hh']
      · ipureintro
        exact ⟨fun s hs => absurd hs (by omega), fun s _ h2 => hg s h2, fun s hs => absurd hs (by omega), (belowOf_zero S).symm⟩
      · isplitl [Hh]
        · iexact Hh
        · iexact Hh'
    · iintro %c ⟨%g, %g', %hs, Hh, Hh'⟩
      have hs' : Scanned S 256 g g' c := hs
      isplitl [Hh]
      · iexists g
        isplitr [Hh]
        · ipureintro
          exact fun s h => hs'.done s h
        · iexact Hh
      · iexists g'
        isplitr [Hh']
        · ipureintro
          exact fun s h => hs'.zero s h
        · iexact Hh'

/-- What a placing pass leaves in its target: every element where `pl` puts its rank, as `good` says. -/
abbrev ownPlaced (d : Fin nD) (co : Fin τ.nSC) (su : Fin τ.nSub) (m : Memref sig .scVector .vmem Sk .i32) (rk pl : Nat → Nat)
    (good : Nat → BitVec 32 → Prop) : sProp 𝕄 :=
  iprop(∃ g : Nat → BitVec 32, ⌜∀ a < 32768, good a (g (pl (rk a)))⌝ ∗ own d co su m g)

/-- The steps of a placing pass, of whatever step keeps what it reads and updates the two tables as it should. -/
theorem wp_placing {R : sProp 𝕄} {S rk pl : Nat → Nat} {good : Nat → BitVec 32 → Prop}
    (f : Fin sweepLoop.trips → Fin 16 → Prog (TpuEff nD τ sig (Elt F) Λ (.scVector co su)) Unit)
    (hf : ∀ t j g b, Placed S rk pl good (16 * t.val + j.val) g b → ∃ g' b', Placed S rk pl good (16 * t.val + j.val + 1) g' b' ∧
      (iprop(R ∗ own d co su h g ∗ own d co su dst b) ⊢ wp frame (wpE defs 𝒱 (tile d co su) bd) E (f t j)
        (fun _ => (iprop(R ∗ own d co su h g' ∗ own d co su dst b') : sProp 𝕄)))) :
    iprop(R ∗ ownBelow d co su h S ∗ any d co su dst)
      ⊢ wp frame (wpE defs 𝒱 (tile d co su) bd) E (Scf.Loop.for sweepLoop sweepLoop_ok ⟨⟩ fun t _ => trip (f t))
      (fun _ => (iprop(R ∗ any d co su h ∗ ownPlaced d co su dst rk pl good) : sProp 𝕄)) := by
  refine wp_trips (defs := defs) 𝒱 bd E sweepLoop sweepLoop_ok _
    (fun n => (iprop(R ∗ ∃ g b : Nat → BitVec 32, ⌜Placed S rk pl good n g b⌝ ∗ own d co su h g ∗ own d co su dst b) : sProp 𝕄))
    2048 (by decide) (fun t j => ?_) ?_ ?_
  · iintro ⟨HR, %g, %b, %hP, Hh, Hd⟩
    obtain ⟨g', b', hP', hw⟩ := hf t j g b hP
    iapply (wp_to (defs := defs) 𝒱 bd E hw fun _ => ?_)
    · iintro ⟨HR, Hh, Hd⟩
      isplitl [HR]
      · iexact HR
      iexists g'
      iexists b'
      isplitr [Hh Hd]
      · ipureintro
        exact hP'
      · isplitl [Hh]
        · iexact Hh
        · iexact Hd
    · isplitl [HR]
      · iexact HR
      isplitl [Hh]
      · iexact Hh
      · iexact Hd
  · iintro ⟨HR, ⟨%g, %hg, Hh⟩, ⟨%b, Hd⟩⟩
    isplitl [HR]
    · iexact HR
    iexists g
    iexists b
    isplitr [Hh Hd]
    · ipureintro
      exact ⟨fun s hs => by rw [hg s hs, Nat.mul_zero, countOf_zero, Nat.add_zero], fun a ha => absurd ha (by omega)⟩
    · isplitl [Hh]
      · iexact Hh
      · iexact Hd
  · iintro ⟨HR, %g, %b, %hP, Hh, Hd⟩
    isplitl [HR]
    · iexact HR
    isplitl [Hh]
    · iexists g
      iexact Hh
    · iexists b
      isplitr [Hd]
      · ipureintro
        exact fun a ha => hP.placed a ha
      · iexact Hd

end Cert.Radix
-- ==== Proof.Row.lean ====
/-
  A row sorted: the four passes one after another, and the permutation they leave.
-/
module

public import proofs.«01_k».proof.Proof.Passes

@[expose] public section

noncomputable section

namespace Cert.Radix

open Idealize.ShloMosaic Idealize.SL
open Idealize.SL.BI (sProp)
open scoped Idealize.SL.BI
open Idealize.SL.BI.BIBase Idealize.SL.BI.Laws Idealize.SL.Sem Idealize.SL.ProofMode
open Idealize.SL.RA

/-! ## What the passes make of a row -/

/-- The key of a position of the row held at `X`. -/
abbrev keyOf (X : Nat → BitVec 32) (i : Nat) : Nat := (X (phys i)).toNat
/-- The order after `k` passes: the `k` lowest digits, and then the position. -/
abbrev orderOf (X : Nat → BitVec 32) (k i : Nat) : Nat := keyOf X i % 256 ^ k * 32768 + i
/-- The whole order: the key, and then the position. -/
abbrev fullOrder (X : Nat → BitVec 32) (i : Nat) : Nat := keyOf X i * 32768 + i

/-- After `k` passes: every position's word lies at its rank's place and is what `val` says. -/
def Sorted (X : Nat → BitVec 32) (k : Nat) (val : Nat → Nat) (A : Nat → BitVec 32) : Prop :=
  ∀ i < 32768, (A (phys (rankOf (orderOf X k) i))).toNat = val i

/-- The row's result: each position stands at its rank. -/
def RowSorted (X Y : Nat → BitVec 32) : Prop := ∀ i < 32768, (Y (rankOf (fullOrder X) i)).toNat = i

theorem orderOf_inj (X : Nat → BitVec 32) (k i j : Nat) (hi : i < 32768) (hj : j < 32768) (h : orderOf X k i = orderOf X k j) : i = j := by
  unfold orderOf at h; omega

theorem orderOf_lt (X : Nat → BitVec 32) (k i : Nat) (hi : i < 32768) : orderOf X k i < 256 ^ k * 32768 := by
  have h : keyOf X i % 256 ^ k < 256 ^ k := Nat.mod_lt _ (Nat.pow_pos (by omega))
  have := Nat.mul_le_mul_right 32768 (Nat.succ_le_of_lt h)
  unfold orderOf
  rw [Nat.succ_mul] at this
  omega

theorem orderOf_succ (X : Nat → BitVec 32) (k b : Nat) :
    keyOf X b / 256 ^ k % 256 * (256 ^ k * 32768) + orderOf X k b = orderOf X (k + 1) b := by
  unfold orderOf
  rw [Nat.pow_succ, Nat.mod_mul, Nat.add_mul, ← Nat.mul_assoc, Nat.mul_comm (256 ^ k) (keyOf X b / 256 ^ k % 256)]
  omega

/-- What a pass's target holds, from what its source did. -/
theorem pass_result {X A B : Nat → BitVec 32} {k : Nat} {dg : BitVec 32 → Nat} {pl : Nat → Nat} {good : Nat → BitVec 32 → Prop}
    (hD : ∀ i < 32768, dg (A (phys (rankOf (orderOf X k) i))) = keyOf X i / 256 ^ k % 256)
    (hB : ∀ a < 32768, good a (B (pl (rankOf (passKey (digits dg A)) a)))) {i : Nat} (hi : i < 32768) :
    good (phys (rankOf (orderOf X k) i)) (B (pl (rankOf (orderOf X (k + 1)) i))) := by
  have h := hB (phys (rankOf (orderOf X k) i)) (phys_lt (rankOf_lt hi))
  rw [pass_rank (D := digits dg A) (d := fun b => keyOf X b / 256 ^ k % 256) (orderOf_inj X k) (orderOf_lt X k) hD hi] at h
  have e : (fun b => keyOf X b / 256 ^ k % 256 * (256 ^ k * 32768) + orderOf X k b) = orderOf X (k + 1) := funext (orderOf_succ X k)
  rw [e] at h
  exact h

theorem rank_start (X : Nat → BitVec 32) {i : Nat} (hi : i < 32768) : rankOf (orderOf X 0) i = i := by
  have e : orderOf X 0 = fun b => b := by funext b; unfold orderOf; rw [Nat.pow_zero, Nat.mod_one]; omega
  rw [e, rankOf_id hi]

theorem order_end (X : Nat → BitVec 32) : orderOf X 4 = fullOrder X := by
  funext i
  unfold orderOf fullOrder
  rw [Nat.mod_eq_of_lt (show keyOf X i < 256 ^ 4 from (X (phys i)).isLt)]

/-- A word of two fields and an address, and what is read of it. -/
theorem fields_read {w p q a : Nat} (h : w = p * 2 ^ 23 + q * 2 ^ 15 + a) (hp : p < 256) (hq : q < 256) (ha : a < 32768) :
    w < 2 ^ 31 ∧ w / 2 ^ 23 = p ∧ w / 2 ^ 15 % 256 = q ∧ w % 32768 = a := by omega

/-- The words the passes leave, of a position. -/
def val1 (X : Nat → BitVec 32) (i : Nat) : Nat := keyOf X i / 2 ^ 16 % 256 * 2 ^ 23 + keyOf X i / 2 ^ 8 % 256 * 2 ^ 15 + phys i
def val2 (X : Nat → BitVec 32) (i : Nat) : Nat := keyOf X i / 2 ^ 24 % 256 * 2 ^ 23 + keyOf X i / 2 ^ 16 % 256 * 2 ^ 15 + phys i
def val3 (X : Nat → BitVec 32) (i : Nat) : Nat := keyOf X i / 2 ^ 24 % 256 * 2 ^ 15 + phys i

/-- What each pass writes, of the address it reads. -/
def Good1 (X : Nat → BitVec 32) (a : Nat) (w : BitVec 32) : Prop :=
  w.toNat = (X a).toNat / 2 ^ 16 % 256 * 2 ^ 23 + (X a).toNat / 2 ^ 8 % 256 * 2 ^ 15 + a
def Good2 (X A : Nat → BitVec 32) (a : Nat) (w : BitVec 32) : Prop :=
  (A a).toNat < 2 ^ 31 → w.toNat = (X ((A a).toNat % 32768)).toNat / 2 ^ 24 % 256 * 2 ^ 23 + (A a).toNat / 2 ^ 23 * 2 ^ 15 + (A a).toNat % 32768
def Good3 (A : Nat → BitVec 32) (a : Nat) (w : BitVec 32) : Prop :=
  (A a).toNat < 2 ^ 31 → w.toNat = (A a).toNat / 2 ^ 23 * 2 ^ 15 + (A a).toNat % 32768
def Good4 (A : Nat → BitVec 32) (a : Nat) (w : BitVec 32) : Prop := w.toNat = posOf ((A a).toNat % 32768)

theorem sorted1 {X B : Nat → BitVec 32} (hB : ∀ a < 32768, Good1 X a (B (phys (rankOf (passKey (digits (fun x => x.toNat % 256) X)) a)))) :
    Sorted X 1 (val1 X) B := fun i hi => by
  have h := pass_result (X := X) (k := 0) (dg := fun x => x.toNat % 256) (fun i hi => by
    rw [rank_start X hi, Nat.pow_zero, Nat.div_one]) hB hi
  rw [rank_start X hi] at h
  exact h

theorem sorted2 {X A B : Nat → BitVec 32} (hA : Sorted X 1 (val1 X) A)
    (hB : ∀ a < 32768, Good2 X A a (B (phys (rankOf (passKey (digits (fun x => x.toNat / 2 ^ 15 % 256) A)) a)))) :
    Sorted X 2 (val2 X) B := fun i hi => by
  have hf := fun i (hi : i < 32768) => fields_read (hA i hi) (Nat.mod_lt _ (by omega)) (Nat.mod_lt _ (by omega)) (phys_lt hi)
  have h := pass_result (X := X) (k := 1) (dg := fun x => x.toNat / 2 ^ 15 % 256) (fun i hi => (hf i hi).2.2.1) hB hi
  obtain ⟨h1, h2, -, h4⟩ := hf i hi
  have h := h h1
  rw [h2, h4] at h
  exact h

theorem sorted3 {X A B : Nat → BitVec 32} (hA : Sorted X 2 (val2 X) A)
    (hB : ∀ a < 32768, Good3 A a (B (phys (rankOf (passKey (digits (fun x => x.toNat / 2 ^ 15 % 256) A)) a)))) :
    Sorted X 3 (val3 X) B := fun i hi => by
  have hf := fun i (hi : i < 32768) => fields_read (hA i hi) (Nat.mod_lt _ (by omega)) (Nat.mod_lt _ (by omega)) (phys_lt hi)
  have h := pass_result (X := X) (k := 2) (dg := fun x => x.toNat / 2 ^ 15 % 256) (fun i hi => (hf i hi).2.2.1) hB hi
  obtain ⟨h1, h2, -, h4⟩ := hf i hi
  have h := h h1
  rw [h2, h4] at h
  exact h

theorem sorted4 {X A B : Nat → BitVec 32} (hA : Sorted X 3 (val3 X) A)
    (hB : ∀ a < 32768, Good4 A a (B (rankOf (passKey (digits (fun x => x.toNat / 2 ^ 15 % 256) A)) a))) : RowSorted X B := fun i hi => by
  have hf := fun i (hi : i < 32768) => fields_read (p := 0) (q := keyOf X i / 2 ^ 24 % 256) ((hA i hi).trans (by unfold val3; omega)) (by omega) (Nat.mod_lt _ (by omega)) (phys_lt hi)
  have h := pass_result (X := X) (k := 3) (dg := fun x => x.toNat / 2 ^ 15 % 256) (pl := fun r => r) (fun i hi => (hf i hi).2.2.1) hB hi
  unfold Good4 at h
  rw [(hf i hi).2.2.2, posOf_phys hi, order_end] at h
  exact h

/-! ## The passes -/

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {d : Fin nD} {co : Fin τ.nSC} {su : Fin τ.nSub}
variable {defs : Defs nD τ sig (Elt F) Λ} (𝒱 : Variants) (bd : Option 𝒱.V) (E : Set Name)
variable {lane : Lanes} {h h' ha hb : Memref sig .scVector .vmem Sh .i32} {src dst keys ka pa pb : Memref sig .scVector .vmem Sk .i32}
variable {A X : Nat → BitVec 32} (hl : ∀ j : Fin 16, (at' lane j).toNat = j.val)

local notation "𝕄" => MT nD τ sig Ix (Elt F) Name U Lvl

abbrev lowDigit : BitVec 32 → Nat := fun x => x.toNat % 256
abbrev fieldDigit : BitVec 32 → Nat := fun x => x.toNat / 2 ^ 15 % 256

include hl in
/-- The ranks a group's counters hold are ranks. -/
theorem ranks_lt {dig : Lanes → Lanes} {dg : BitVec 32 → Nat} (hd : Digit dig dg) {rk pl : Nat → Nat} {good : Nat → BitVec 32 → Prop}
    {n : Nat} (hn : n < 2048) {A g b : Nat → BitVec 32} (hP : Placed (slotAt (digits dg A)) rk pl good n g b) (j : Fin 16) :
    (at' (pick g (slotOf lane (dig (take A (16 * n))))) j).toNat < 32768 := by
  have := j.isLt
  rw [ranks_at hl hd A g n hn hP.counters]
  exact rankOf_lt (by omega)

include hl in
theorem wp_firstAll :
    iprop(own d co su src A ∗ ownBelow d co su h (slotAt (digits lowDigit A)) ∗ any d co su dst)
      ⊢ wp frame (wpE defs 𝒱 (tile d co su) bd) E (firstAll lane src dst h)
      (fun _ => (iprop(own d co su src A ∗ any d co su h
        ∗ ownPlaced d co su dst (rankOf (passKey (digits lowDigit A))) phys (Good1 A)) : sProp 𝕄)) := by
  unfold firstAll firstTrip
  refine wp_placing (defs := defs) 𝒱 bd E _ fun t j g b hP => ?_
  have ho := groupOff_sweep t j
  have hn := sweep_step_lt t j
  have hg : (group t.val j).toNat = 16 * (16 * t.val + j.val) := ho
  generalize 16 * t.val + j.val = n at *
  have hq := ranks_lt hl digit0 hn hP
  have hst := wp_placeStep (defs := defs) (d := d) (co := co) (su := su) (Ix := Ix) (Name := Name) (U := U) (Lvl := Lvl) (F := F)
    𝒱 bd E (lane := lane) (h := h) (src := src) (dst := dst) (A := A) (H := g) (B := b)
    (dig := dig0) (pay := fun k => pay0 lane k (group t.val j)) (off := groupOff t.val j) (inb := groupOff_inb_k (sweep_lt t) j)
  rw [ho] at hst
  refine ⟨_, _, placed_step hl digit0 A g b n (fun i j hi hj => phys_inj hi hj) hn hP (fun j => at_placeOf (hq j)) (fun i => ?_),
    hst ⟨slots_inH hl digit0 A n, slots_inH hl digit0 A n⟩ (inK_of fun j => by rw [at_placeOf (hq j)]; exact phys_lt (hq j))⟩
  have := i.isLt
  have e := at_pay0 (k := take A (16 * n)) (a0 := group t.val j) (hl i) (by rw [hg]; omega)
  rw [hg] at e
  exact e

include hl in
theorem wp_thirdAll :
    iprop(own d co su src A ∗ ownBelow d co su h (slotAt (digits fieldDigit A)) ∗ any d co su dst)
      ⊢ wp frame (wpE defs 𝒱 (tile d co su) bd) E (thirdAll lane src dst h)
      (fun _ => (iprop(own d co su src A ∗ any d co su h
        ∗ ownPlaced d co su dst (rankOf (passKey (digits fieldDigit A))) phys (Good3 A)) : sProp 𝕄)) := by
  unfold thirdAll thirdTrip
  refine wp_placing (defs := defs) 𝒱 bd E _ fun t j g b hP => ?_
  have ho := groupOff_sweep t j
  have hn := sweep_step_lt t j
  generalize 16 * t.val + j.val = n at *
  have hq := ranks_lt hl digit15 hn hP
  have hst := wp_placeStep (defs := defs) (d := d) (co := co) (su := su) (Ix := Ix) (Name := Name) (U := U) (Lvl := Lvl) (F := F)
    𝒱 bd E (lane := lane) (h := h) (src := src) (dst := dst) (A := A) (H := g) (B := b)
    (dig := digAt 15#32) (pay := pay2) (off := groupOff t.val j) (inb := groupOff_inb_k (sweep_lt t) j)
  rw [ho] at hst
  exact ⟨_, _, placed_step hl digit15 A g b n (fun i j hi hj => phys_inj hi hj) hn hP (fun j => at_placeOf (hq j)) (fun i hi => at_pay2 (p := take A (16 * n)) (j := i) hi),
    hst ⟨slots_inH hl digit15 A n, slots_inH hl digit15 A n⟩ (inK_of fun j => by rw [at_placeOf (hq j)]; exact phys_lt (hq j))⟩

include hl in
theorem wp_lastAll :
    iprop(own d co su src A ∗ ownBelow d co su h (slotAt (digits fieldDigit A)) ∗ any d co su dst)
      ⊢ wp frame (wpE defs 𝒱 (tile d co su) bd) E (lastAll lane src dst h)
      (fun _ => (iprop(own d co su src A ∗ any d co su h
        ∗ ownPlaced d co su dst (rankOf (passKey (digits fieldDigit A))) (fun r => r) (Good4 A)) : sProp 𝕄)) := by
  unfold lastAll lastTrip
  refine wp_placing (defs := defs) 𝒱 bd E _ fun t j g b hP => ?_
  have ho := groupOff_sweep t j
  have hn := sweep_step_lt t j
  generalize 16 * t.val + j.val = n at *
  have hq := ranks_lt hl digit15 hn hP
  have hst := wp_lastStep (defs := defs) (d := d) (co := co) (su := su) (Ix := Ix) (Name := Name) (U := U) (Lvl := Lvl) (F := F)
    𝒱 bd E (lane := lane) (h := h) (src := src) (dst := dst) (A := A) (H := g) (B := b)
    (off := groupOff t.val j) (inb := groupOff_inb_k (sweep_lt t) j)
  rw [ho] at hst
  exact ⟨_, _, placed_step hl digit15 A g b n (fun i j _ _ e => e) hn hP (fun j => rfl) (fun i => at_pay3 (take A (16 * n)) i),
    hst ⟨slots_inH hl digit15 A n, slots_inH hl digit15 A n⟩ (inK_of hq)⟩

include hl in
theorem wp_secondAll :
    iprop((own d co su keys X ∗ own d co su src A) ∗ ownBelow d co su h (slotAt (digits fieldDigit A)) ∗ any d co su dst)
      ⊢ wp frame (wpE defs 𝒱 (tile d co su) bd) E (secondAll lane keys src dst h)
      (fun _ => (iprop((own d co su keys X ∗ own d co su src A) ∗ any d co su h
        ∗ ownPlaced d co su dst (rankOf (passKey (digits fieldDigit A))) phys (Good2 X A)) : sProp 𝕄)) := by
  unfold secondAll secondTrip
  refine wp_placing (defs := defs) 𝒱 bd E _ fun t j g b hP => ?_
  have ho := groupOff_sweep t j
  have hn := sweep_step_lt t j
  generalize 16 * t.val + j.val = n at *
  have hq := ranks_lt hl digit15 hn hP
  have hst := wp_fetchStep (defs := defs) (d := d) (co := co) (su := su) (Ix := Ix) (Name := Name) (U := U) (Lvl := Lvl) (F := F)
    𝒱 bd E (lane := lane) (h := h) (keys := keys) (src := src) (dst := dst) (A := A) (H := g) (B := b) (K := X)
    (off := groupOff t.val j) (inb := groupOff_inb_k (sweep_lt t) j)
  rw [ho] at hst
  have hst := hst ⟨slots_inH hl digit15 A n, slots_inH hl digit15 A n⟩ (inK_of fun j => by rw [at_addrOf]; omega)
    (inK_of fun j => by rw [at_placeOf (hq j)]; exact phys_lt (hq j))
  refine ⟨_, _, placed_step hl digit15 A g b n (fun i j hi hj => phys_inj hi hj) hn hP (fun j => at_placeOf (hq j)) (fun i hi => ?_),
    BI.Laws.sep_assoc.1.trans (wp_to (defs := defs) 𝒱 bd E hst fun _ => BI.Laws.sep_assoc.2)⟩
  have e := at_pay1 (p := take A (16 * n)) (k := pick X (addrOf (take A (16 * n)))) (j := i) hi
  rw [at_pick, at_addrOf] at e
  exact e

variable {hsl : Sv.Slices ![15] S1} {hp : ∀ a, (![0] : Fin 1 → Nat) a < S1.size a}

/-- The first pass's result held, of the row at `X`; and the second's. -/
abbrev ownSorted (d : Fin nD) (co : Fin τ.nSC) (su : Fin τ.nSub) (m : Memref sig .scVector .vmem Sk .i32) (X : Nat → BitVec 32)
    (k : Nat) (val : Nat → Nat) : sProp 𝕄 :=
  iprop(∃ A : Nat → BitVec 32, ⌜Sorted X k val A⌝ ∗ own d co su m A)

include hl in
theorem wp_rowHead :
    iprop(own d co su ka X ∗ any d co su pa ∗ ownZero d co su ha ∗ any d co su hb)
      ⊢ wp frame (wpE defs 𝒱 (tile d co su) bd) E (rowHead lane hsl hp ka pa ha hb)
      (fun _ => (iprop(own d co su ka X ∗ (∃ A : Nat → BitVec 32, ⌜Sorted X 1 (val1 X) A⌝ ∗ own d co su pa A
        ∗ ownBelow d co su hb (slotAt (digits fieldDigit A))) ∗ ownZero d co su ha) : sProp 𝕄)) := by
  unfold rowHead
  iintro ⟨Hk, Hp, Hz, Hb⟩
  iapply (wp_then (defs := defs) 𝒱 bd E (wp_countAll (defs := defs) 𝒱 bd E (A := X) hl digit0))
  isplitl [Hk Hz]
  · isplitl [Hk]
    · iexact Hk
    · iexact Hz
  iintro %_ ⟨Hk, Hc⟩
  iapply (wp_then (defs := defs) 𝒱 bd E (wp_scanAll (defs := defs) 𝒱 bd E (S := slotAt (digits lowDigit X))))
  isplitl [Hc Hb]
  · isplitl [Hc]
    · iexact Hc
    · iexact Hb
  iintro %_ ⟨Hc, Hb⟩
  iapply (wp_then (defs := defs) 𝒱 bd E (wp_firstAll (defs := defs) 𝒱 bd E (A := X) hl))
  isplitl [Hk Hc Hp]
  · isplitl [Hk]
    · iexact Hk
    isplitl [Hc]
    · iexact Hc
    · iexact Hp
  iintro %_ ⟨Hk, Ha, %A, %hA, Hp⟩
  iapply (wp_then (defs := defs) 𝒱 bd E (wp_countAll (defs := defs) 𝒱 bd E (A := A) hl digit15))
  isplitl [Hp Hb]
  · isplitl [Hp]
    · iexact Hp
    · iexact Hb
  iintro %_ ⟨Hp, Hc⟩
  iapply (wp_then (defs := defs) 𝒱 bd E (wp_scanAll (defs := defs) 𝒱 bd E (S := slotAt (digits fieldDigit A))))
  isplitl [Hc Ha]
  · isplitl [Hc]
    · iexact Hc
    · iexact Ha
  iintro %_ ⟨Hc, Hz⟩
  iapply (wp_done (defs := defs) 𝒱 bd E)
  isplitl [Hk]
  · iexact Hk
  isplitr [Hz]
  · iexists A
    isplitr [Hp Hc]
    · ipureintro
      exact sorted1 hA
    isplitl [Hp]
    · iexact Hp
    · iexact Hc
  · iexact Hz

include hl in
/-- The second pass, between the row's two halves. -/
theorem wp_secondPass :
    iprop(own d co su ka X ∗ (∃ A : Nat → BitVec 32, ⌜Sorted X 1 (val1 X) A⌝ ∗ own d co su pa A
        ∗ ownBelow d co su hb (slotAt (digits fieldDigit A))) ∗ any d co su pb)
      ⊢ wp frame (wpE defs 𝒱 (tile d co su) bd) E (secondAll lane ka pa pb hb)
      (fun _ => (iprop(own d co su ka X ∗ any d co su pa ∗ any d co su hb ∗ ownSorted d co su pb X 2 (val2 X)) : sProp 𝕄)) := by
  iintro ⟨Hk, ⟨%A, %hA, Hp, Hc⟩, Hb⟩
  iapply (wp_to (defs := defs) 𝒱 bd E (wp_secondAll (defs := defs) 𝒱 bd E (A := A) (X := X) hl) fun _ => ?_)
  · iintro ⟨⟨Hk, Hp⟩, Hh, %B, %hB, Hd⟩
    isplitl [Hk]
    · iexact Hk
    isplitl [Hp]
    · iexists A
      iexact Hp
    isplitl [Hh]
    · iexact Hh
    · iexists B
      isplitr [Hd]
      · ipureintro
        exact sorted2 hA hB
      · iexact Hd
  · isplitl [Hk Hp]
    · isplitl [Hk]
      · iexact Hk
      · iexact Hp
    isplitl [Hc]
    · iexact Hc
    · iexact Hb

include hl in
theorem wp_rowTail :
    iprop(any d co su pa ∗ ownSorted d co su pb X 2 (val2 X) ∗ ownZero d co su ha ∗ any d co su hb)
      ⊢ wp frame (wpE defs 𝒱 (tile d co su) bd) E (rowTail lane hsl hp pa pb ha hb)
      (fun _ => (iprop(any d co su pa ∗ (∃ Y : Nat → BitVec 32, ⌜RowSorted X Y⌝ ∗ own d co su pb Y) ∗ ownZero d co su ha
        ∗ any d co su hb) : sProp 𝕄)) := by
  unfold rowTail
  iintro ⟨Hp, ⟨%A, %hA, Hq⟩, Hz, Hb⟩
  iapply (wp_then (defs := defs) 𝒱 bd E (wp_countAll (defs := defs) 𝒱 bd E (A := A) hl digit15))
  isplitl [Hq Hz]
  · isplitl [Hq]
    · iexact Hq
    · iexact Hz
  iintro %_ ⟨Hq, Hc⟩
  iapply (wp_then (defs := defs) 𝒱 bd E (wp_scanAll (defs := defs) 𝒱 bd E (S := slotAt (digits fieldDigit A))))
  isplitl [Hc Hb]
  · isplitl [Hc]
    · iexact Hc
    · iexact Hb
  iintro %_ ⟨Hc, Hb⟩
  iapply (wp_then (defs := defs) 𝒱 bd E (wp_thirdAll (defs := defs) 𝒱 bd E (A := A) hl))
  isplitl [Hq Hc Hp]
  · isplitl [Hq]
    · iexact Hq
    isplitl [Hc]
    · iexact Hc
    · iexact Hp
  iintro %_ ⟨Hq, Ha, %B, %hB, Hp⟩
  iapply (wp_then (defs := defs) 𝒱 bd E (wp_countAll (defs := defs) 𝒱 bd E (A := B) hl digit15))
  isplitl [Hp Hb]
  · isplitl [Hp]
    · iexact Hp
    · iexact Hb
  iintro %_ ⟨Hp, Hc⟩
  iapply (wp_then (defs := defs) 𝒱 bd E (wp_scanAll (defs := defs) 𝒱 bd E (S := slotAt (digits fieldDigit B))))
  isplitl [Hc Ha]
  · isplitl [Hc]
    · iexact Hc
    · iexact Ha
  iintro %_ ⟨Hc, Hz⟩
  iapply (wp_last (defs := defs) 𝒱 bd E (wp_lastAll (defs := defs) 𝒱 bd E (A := B) (dst := pb) hl))
  isplitl [Hp Hc Hq]
  · isplitl [Hp]
    · iexact Hp
    isplitl [Hc]
    · iexact Hc
    · iexists A
      iexact Hq
  iintro %_ ⟨Hp, Hb, %Y, %hY, Hq⟩
  isplitl [Hp]
  · iexists B
    iexact Hp
  isplitl [Hq]
  · iexists Y
    isplitr [Hq]
    · ipureintro
      exact sorted4 (sorted3 hA hB) hY
    · iexact Hq
  isplitl [Hz]
  · iexact Hz
  · iexact Hb

end Cert.Radix
-- ==== Proof.TileRun.lean ====
/-
  One tile's run: the two rows it is given, fetched, sorted and written back, by the rules of the copies
  (`Lib/Transfers.lean`) and of a row's sort (`Proof/Row.lean`).
-/
module

public import proofs.«01_k».proof.Proof.Row
public import Idealize.ShloMosaic.Lib.Transfers

@[expose] public section

noncomputable section

namespace Cert.Radix

open Idealize.ShloMosaic Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}

local notation "𝕄" => MT nD τ sig Ix (Elt F) Name U Lvl

/-- The element of a row with number `n`. -/
def nth (n : Nat) (h : n < 32768) : Sk.Idx := Shape.ofLane (d := ![32768]) (⟨n, h⟩ : Fin 32768)

theorem nth_self (x : Sk.Idx) : nth (x 0).val (x 0).isLt = x := by
  funext a
  match a with
  | ⟨0, _⟩ => rfl

/-- The words a row of main memory holds. -/
def wordsOf {d : Fin nD} {co : Fin τ.nSC} {su : Fin τ.nSub} (r : Memref sig .scVector .hbm Sk .i32)
    (f : Buf (Elt F) (r.view.loc (tile d co su))) : Nat → BitVec 32 :=
  fun n => if h : n < 32768 then r.view.read (Elt F) f (nth n h) else 0#32

omit [FloatOps F] in
theorem wordsOf_apply {d : Fin nD} {co : Fin τ.nSC} {su : Fin τ.nSub} (r : Memref sig .scVector .hbm Sk .i32)
    (f : Buf (Elt F) (r.view.loc (tile d co su))) (x : Sk.Idx) : r.view.read (Elt F) f x = wordsOf r f (x 0).val := by
  unfold wordsOf
  rw [dif_pos (show (x 0).val < 32768 from (x 0).isLt)]
  exact congrArg _ (nth_self x).symm

variable (d : Fin nD) (co : Fin τ.nSC) (su : Fin τ.nSub)

/-- A row of main memory held by the tile. -/
abbrev rowAt (r : Memref sig .scVector .hbm Sk .i32) (f : Buf (Elt F) (r.view.loc (tile d co su))) : sProp 𝕄 :=
  iprop(r.view.loc (tile d co su) ↦[r.view.set]{fullShare} f)

/-- A row of main memory held by the tile that spells the order of the keys `X`. -/
abbrev rowDone (r : Memref sig .scVector .hbm Sk .i32) (X : Nat → BitVec 32) : sProp 𝕄 :=
  iprop(∃ f : Buf (Elt F) (r.view.loc (tile d co su)), ⌜RowSorted X (wordsOf r f)⌝ ∗ rowAt d co su r f)

variable {defs : Defs nD τ sig (Elt F) Λ} (𝒱 : Variants) (bd : Option 𝒱.V)
variable (EC : UEmb Counters (MT nD τ sig Ix (Elt F) Name U Lvl)) [Infinite Name]
  [EC.LandsIn (upEmb : UEmb _ (MT nD τ sig Ix (Elt F) Name U Lvl))]
variable {d co su} (ι : Ix)
variable {hsq : Srow.Squeezes Sk} {m : Memref sig .scVector .hbm Sx .i32} {k : Memref sig .scVector .vmem Sk .i32} {hk : k.IsWhole}
variable {sem : DmaSem sig} {off : Fin 2 → Nat} {inb : ∀ a, off a + Srow.size a ≤ Sx.size a}

omit [FloatOps F] in
theorem set_whole_access : (k.access (.whole Sk)).set = k.view.set := by
  show (k.view.slice (.whole Sk)).set = _
  rw [View.set_slice, Rect.set_whole]
  rfl

omit [FloatOps F] in
theorem read_whole_access (f : Buf (Elt F) (k.view.loc (tile d co su))) :
    (k.access (.whole Sk)).read (Elt F) f = k.view.read (Elt F) f := by
  funext x
  show k.view.read (Elt F) f _ = k.view.read (Elt F) f _
  exact congrArg _ (Rect.emb_whole_apply _ _)

omit [FloatOps F] in
theorem row_of_words {r : Memref sig .scVector .hbm Sk .i32} {f : Buf (Elt F) (r.view.loc (tile d co su))} {Y : Nat → BitVec 32}
    (h : ∀ x : Sk.Idx, r.view.read (Elt F) f x = Y (x 0).val) : ∀ n < 32768, wordsOf r f n = Y n := by
  intro n hn
  unfold wordsOf
  rw [dif_pos hn]
  exact h (nth n hn)

theorem rowSorted_congr {X Y Y' : Nat → BitVec 32} (h : ∀ n < 32768, Y' n = Y n) (hs : RowSorted X Y) : RowSorted X Y' := by
  intro i hi
  rw [h _ (rankOf_lt hi)]
  exact hs i hi

theorem wp_startIn {f : Buf (Elt F) ((rowRef m off inb hsq).view.loc (tile d co su))} :
    iprop(rowAt d co su (rowRef m off inb hsq) f ∗ any d co su k ∗ semVal (tile d co su, SemLoc.dma sem) 0)
      ⊢ wp frame (wpE defs 𝒱 (tile d co su) bd) Set.univ (startIn hsq m k hk sem off inb)
      (fun _ => (Transfers.Flight EC (tile d co su) (.dma sem) ι (k.view.amount (.dma sem))
        iprop(own d co su k (wordsOf (rowRef m off inb hsq) f) ∗ rowAt d co su (rowRef m off inb hsq) f) : sProp 𝕄)) := by
  unfold startIn any own
  iintro ⟨Hr, ⟨%g, %fd, %hfd, Hk⟩, Hs⟩
  iapply (Transfers.wp_dmaLocal EC 𝒱 (tile d co su) bd (src := rowRef m off inb hsq) (dst := k) (sm := .dma sem) (via := .same)
    (fs := f) (fd := fd) (Sd := (k.access (.whole Sk)).set) ι _ rfl (View.amount_pos _ _ sk_pos) (subset_of_eq set_whole_access.symm)) $$ [Hr Hk Hs]
  · isplitl [Hr]
    · iexact Hr
    isplitl [Hk]
    · iexact Hk
    · iexact Hs
  iintro Hf
  iapply (wp_done (defs := defs) 𝒱 bd Set.univ)
  iapply (Transfers.Flight_mono EC (tile d co su) ?_) $$ Hf
  iintro ⟨Hk, Hr⟩
  isplitl [Hk]
  · iexists _
    isplitr [Hk]
    · ipureintro
      intro x
      rw [read_whole_access, View.read_write_univ, ← wordsOf_apply]
    · iexact Hk
  · iexact Hr

theorem wp_startOut {f : Buf (Elt F) ((rowRef m off inb hsq).view.loc (tile d co su))} {X Y : Nat → BitVec 32} (hY : RowSorted X Y) :
    iprop(rowAt d co su (rowRef m off inb hsq) f ∗ own d co su k Y ∗ semVal (tile d co su, SemLoc.dma sem) 0)
      ⊢ wp frame (wpE defs 𝒱 (tile d co su) bd) Set.univ (startOut hsq m k hk sem off inb)
      (fun _ => (Transfers.Flight EC (tile d co su) (.dma sem) ι ((rowRef m off inb hsq).view.amount (.dma sem))
        iprop(any d co su k ∗ rowDone d co su (rowRef m off inb hsq) X) : sProp 𝕄)) := by
  unfold startOut any own
  iintro ⟨Hr, ⟨%fs, %hfs, Hk⟩, Hs⟩
  iapply (Transfers.wp_dmaLocal EC 𝒱 (tile d co su) bd (src := k) (dst := rowRef m off inb hsq) (sm := .dma sem) (via := .same)
    (fs := fs) (fd := f) (q := fullShare) (Sd := (rowRef m off inb hsq).view.set) ι _ rfl (View.amount_pos _ _ sk_pos) (subset_of_eq rfl)) $$ [Hr Hk Hs]
  · isplitl [Hk]
    · rw [← set_whole_access]
      iexact Hk
    isplitl [Hr]
    · iexact Hr
    · iexact Hs
  iintro Hf
  iapply (wp_done (defs := defs) 𝒱 bd Set.univ)
  iapply (Transfers.Flight_mono EC (tile d co su) ?_) $$ Hf
  iintro ⟨Hr, Hk⟩
  isplitl [Hk]
  · iexists Y
    iexists fs
    isplitr [Hk]
    · ipureintro
      exact hfs
    · rw [set_whole_access]
      iexact Hk
  · iexists ((rowRef m off inb hsq).view.write (Elt F) f (k.view.read (Elt F) fs) Finset.univ)
    isplitr [Hr]
    · ipureintro
      refine rowSorted_congr (row_of_words fun x => ?_) hY
      rw [View.read_write_univ, ← hfs, read_whole_access]
    · iexact Hr

variable {D : sProp (MT nD τ sig Ix (Elt F) Name U Lvl)} {O : CellTallies nD τ sig Ix} {W : Waits sig Ix}

theorem wp_waitIn :
    iprop(Transfers.Flight EC (tile d co su) (.dma sem) ι (k.view.amount (.dma sem)) D ∗ owes (tile d co su) O W ∗ MayWait (tile d co su) (.dma sem) ι O)
      ⊢ wp frame (wpE defs 𝒱 (tile d co su) bd) Set.univ (waitIn hsq m k hk sem off inb)
      (fun _ => (iprop(D ∗ semVal (tile d co su, SemLoc.dma sem) 0 ∗ owes (tile d co su) O (insert (SemLoc.dma sem, ι) W)) : sProp 𝕄)) := by
  unfold waitIn
  iintro H
  iapply (Transfers.wp_waitLocalO EC 𝒱 (tile d co su) bd ι rfl) $$ H
  iintro H
  iapply (wp_done (defs := defs) 𝒱 bd Set.univ)
  iexact H

theorem wp_waitOut :
    iprop(Transfers.Flight EC (tile d co su) (.dma sem) ι ((rowRef m off inb hsq).view.amount (.dma sem)) D ∗ owes (tile d co su) O W
        ∗ MayWait (tile d co su) (.dma sem) ι O)
      ⊢ wp frame (wpE defs 𝒱 (tile d co su) bd) Set.univ (waitOut hsq m k hk sem off inb)
      (fun _ => (iprop(D ∗ semVal (tile d co su, SemLoc.dma sem) 0 ∗ owes (tile d co su) O (insert (SemLoc.dma sem, ι) W)) : sProp 𝕄)) := by
  unfold waitOut
  iintro H
  iapply (Transfers.wp_waitLocalO EC 𝒱 (tile d co su) bd ι rfl) $$ H
  iintro H
  iapply (wp_done (defs := defs) 𝒱 bd Set.univ)
  iexact H

variable {lane : Lanes} (hl : ∀ j : Fin 16, (at' lane j).toNat = j.val)
variable {hsl : Sv.Slices ![15] S1} {hp : ∀ a, (![0] : Fin 1 → Nat) a < S1.size a}
variable {ka pa pb : Memref sig .scVector .vmem Sk .i32} {ha hb : Memref sig .scVector .vmem Sh .i32}
variable {keys out : Memref sig .scVector .hbm Sx .i32} {hka : ka.IsWhole} {hpb : pb.IsWhole} {ks os : DmaSem sig}
variable {i0 i1 o0 o1 : Fin 2 → Nat} {hi0 : ∀ a, i0 a + Srow.size a ≤ Sx.size a} {hi1 : ∀ a, i1 a + Srow.size a ≤ Sx.size a}
variable {ho0 : ∀ a, o0 a + Srow.size a ≤ Sx.size a} {ho1 : ∀ a, o1 a + Srow.size a ≤ Sx.size a}
variable {f0 : Buf (Elt F) ((rowRef keys i0 hi0 hsq).view.loc (tile d co su))} {f1 : Buf (Elt F) ((rowRef keys i1 hi1 hsq).view.loc (tile d co su))}
variable {g0 : Buf (Elt F) ((rowRef out o0 ho0 hsq).view.loc (tile d co su))} {g1 : Buf (Elt F) ((rowRef out o1 ho1 hsq).view.loc (tile d co su))}

/-- What a tile has of its own: the scratch, and its two counters at zero. -/
abbrev scratch (d : Fin nD) (co : Fin τ.nSC) (su : Fin τ.nSub) (ka pa pb : Memref sig .scVector .vmem Sk .i32)
    (ha hb : Memref sig .scVector .vmem Sh .i32) (ks os : DmaSem sig) : sProp 𝕄 :=
  iprop(any d co su ka ∗ any d co su pa ∗ any d co su pb ∗ any d co su ha ∗ any d co su hb
    ∗ semVal (tile d co su, SemLoc.dma ks) 0 ∗ semVal (tile d co su, SemLoc.dma os) 0)

include hl EC in
theorem wp_tileProg :
    iprop(Transfers.MayWaits (tile d co su) ι O
        ∗ (rowAt d co su (rowRef keys i0 hi0 hsq) f0 ∗ rowAt d co su (rowRef keys i1 hi1 hsq) f1)
        ∗ (rowAt d co su (rowRef out o0 ho0 hsq) g0 ∗ rowAt d co su (rowRef out o1 ho1 hsq) g1)
        ∗ scratch d co su ka pa pb ha hb ks os ∗ owes (tile d co su) O W)
      ⊢ wp frame (wpE defs 𝒱 (tile d co su) bd) Set.univ
          (tileProg lane hsl hp hsq ka pa pb ha hb keys out hka hpb ks os i0 i1 o0 o1 hi0 hi1 ho0 ho1)
      (fun _ => (iprop((rowAt d co su (rowRef keys i0 hi0 hsq) f0 ∗ rowAt d co su (rowRef keys i1 hi1 hsq) f1)
        ∗ (rowDone d co su (rowRef out o0 ho0 hsq) (wordsOf (rowRef keys i0 hi0 hsq) f0)
          ∗ rowDone d co su (rowRef out o1 ho1 hsq) (wordsOf (rowRef keys i1 hi1 hsq) f1))
        ∗ scratch d co su ka pa pb ha hb ks os
        ∗ ∃ W', ⌜∀ p ∈ W', p ∈ W ∨ p.2 = ι⌝ ∗ owes (tile d co su) O W') : sProp 𝕄)) := by
  unfold tileProg
  iintro ⟨#Hmw, ⟨Hr0, Hr1⟩, ⟨Hw0, Hw1⟩, ⟨Hka, Hpa, Hpb, Hha, Hhb, Hks, Hos⟩, HO⟩
  ihave #Hmk := (Transfers.MayWaits.elim (SemLoc.dma ks)) $$ Hmw
  ihave #Hmo := (Transfers.MayWaits.elim (SemLoc.dma os)) $$ Hmw
  iapply (wp_then (defs := defs) 𝒱 bd Set.univ (wp_startIn (defs := defs) 𝒱 bd EC ι (f := f0)))
  isplitl [Hr0 Hka Hks]
  · isplitl [Hr0]
    · iexact Hr0
    isplitl [Hka]
    · iexact Hka
    · iexact Hks
  iintro %_ Hk
  iapply (wp_then (defs := defs) 𝒱 bd Set.univ (wp_zeroAll (defs := defs) 𝒱 bd Set.univ))
  isplitl [Hha]
  · iexact Hha
  iintro %_ Hha
  iapply (wp_then (defs := defs) 𝒱 bd Set.univ (wp_waitIn (defs := defs) 𝒱 bd EC ι))
  isplitl [Hk HO]
  · isplitl [Hk]
    · iexact Hk
    isplitl [HO]
    · iexact HO
    · iexact Hmk
  iintro %_ ⟨⟨Hka, Hr0⟩, Hks, HO⟩
  iapply (wp_then (defs := defs) 𝒱 bd Set.univ (wp_rowHead (defs := defs) 𝒱 bd Set.univ hl))
  isplitl [Hka Hpa Hha Hhb]
  · isplitl [Hka]
    · iexact Hka
    isplitl [Hpa]
    · iexact Hpa
    isplitl [Hha]
    · iexact Hha
    · iexact Hhb
  iintro %_ ⟨Hka, Hhead, Hha⟩
  iapply (wp_then (defs := defs) 𝒱 bd Set.univ (wp_secondPass (defs := defs) 𝒱 bd Set.univ hl))
  isplitl [Hka Hhead Hpb]
  · isplitl [Hka]
    · iexact Hka
    isplitl [Hhead]
    · iexact Hhead
    · iexact Hpb
  iintro %_ ⟨Hka, Hpa, Hhb, Hpb⟩
  iapply (wp_then (defs := defs) 𝒱 bd Set.univ (wp_startIn (defs := defs) 𝒱 bd EC ι (f := f1)))
  isplitl [Hr1 Hka Hks]
  · isplitl [Hr1]
    · iexact Hr1
    isplitl [Hka]
    · iexists _
      iexact Hka
    · iexact Hks
  iintro %_ Hk
  iapply (wp_then (defs := defs) 𝒱 bd Set.univ (wp_rowTail (defs := defs) 𝒱 bd Set.univ hl))
  isplitl [Hpa Hpb Hha Hhb]
  · isplitl [Hpa]
    · iexact Hpa
    isplitl [Hpb]
    · iexact Hpb
    isplitl [Hha]
    · iexact Hha
    · iexact Hhb
  iintro %_ ⟨Hpa, ⟨%Y0, %hY0, Hpb⟩, Hha, Hhb⟩
  iapply (wp_then (defs := defs) 𝒱 bd Set.univ (wp_zeroAll (defs := defs) 𝒱 bd Set.univ))
  isplitl [Hhb]
  · iexact Hhb
  iintro %_ ⟨%z, -, Hhb⟩
  iapply (wp_then (defs := defs) 𝒱 bd Set.univ (wp_startOut (defs := defs) 𝒱 bd EC ι (f := g0) hY0))
  isplitl [Hw0 Hpb Hos]
  · isplitl [Hw0]
    · iexact Hw0
    isplitl [Hpb]
    · iexact Hpb
    · iexact Hos
  iintro %_ Ho
  iapply (wp_then (defs := defs) 𝒱 bd Set.univ (wp_waitIn (defs := defs) 𝒱 bd EC ι))
  isplitl [Hk HO]
  · isplitl [Hk]
    · iexact Hk
    isplitl [HO]
    · iexact HO
    · iexact Hmk
  iintro %_ ⟨⟨Hka, Hr1⟩, Hks, HO⟩
  iapply (wp_then (defs := defs) 𝒱 bd Set.univ (wp_rowHead (defs := defs) 𝒱 bd Set.univ hl))
  isplitl [Hka Hpa Hha Hhb]
  · isplitl [Hka]
    · iexact Hka
    isplitl [Hpa]
    · iexact Hpa
    isplitl [Hha]
    · iexact Hha
    · iexists z
      iexact Hhb
  iintro %_ ⟨Hka, Hhead, Hha⟩
  iapply (wp_then (defs := defs) 𝒱 bd Set.univ (wp_waitOut (defs := defs) 𝒱 bd EC ι))
  isplitl [Ho HO]
  · isplitl [Ho]
    · iexact Ho
    isplitl [HO]
    · iexact HO
    · iexact Hmo
  iintro %_ ⟨⟨Hpb, Hw0⟩, Hos, HO⟩
  iapply (wp_then (defs := defs) 𝒱 bd Set.univ (wp_secondPass (defs := defs) 𝒱 bd Set.univ hl))
  isplitl [Hka Hhead Hpb]
  · isplitl [Hka]
    · iexact Hka
    isplitl [Hhead]
    · iexact Hhead
    · iexact Hpb
  iintro %_ ⟨Hka, Hpa, Hhb, Hpb⟩
  iapply (wp_then (defs := defs) 𝒱 bd Set.univ (wp_rowTail (defs := defs) 𝒱 bd Set.univ hl))
  isplitl [Hpa Hpb Hha Hhb]
  · isplitl [Hpa]
    · iexact Hpa
    isplitl [Hpb]
    · iexact Hpb
    isplitl [Hha]
    · iexact Hha
    · iexact Hhb
  iintro %_ ⟨Hpa, ⟨%Y1, %hY1, Hpb⟩, ⟨%z', -, Hha⟩, Hhb⟩
  iapply (wp_then (defs := defs) 𝒱 bd Set.univ (wp_startOut (defs := defs) 𝒱 bd EC ι (f := g1) hY1))
  isplitl [Hw1 Hpb Hos]
  · isplitl [Hw1]
    · iexact Hw1
    isplitl [Hpb]
    · iexact Hpb
    · iexact Hos
  iintro %_ Ho
  iapply (wp_then (defs := defs) 𝒱 bd Set.univ (wp_waitOut (defs := defs) 𝒱 bd EC ι))
  isplitl [Ho HO]
  · isplitl [Ho]
    · iexact Ho
    isplitl [HO]
    · iexact HO
    · iexact Hmo
  iintro %_ ⟨⟨Hpb, Hw1⟩, Hos, HO⟩
  iapply (wp_done (defs := defs) 𝒱 bd Set.univ)
  isplitl [Hr0 Hr1]
  · isplitl [Hr0]
    · iexact Hr0
    · iexact Hr1
  isplitl [Hw0 Hw1]
  · isplitl [Hw0]
    · iexact Hw0
    · iexact Hw1
  isplitr [HO]
  · isplitl [Hka]
    · iexists _
      iexact Hka
    isplitl [Hpa]
    · iexact Hpa
    isplitl [Hpb]
    · iexact Hpb
    isplitl [Hha]
    · iexists z'
      iexact Hha
    isplitl [Hhb]
    · iexact Hhb
    isplitl [Hks]
    · iexact Hks
    · iexact Hos
  iexists _
  isplitr
  swap
  · iexact HO
  ipureintro
  intro p hp
  simp only [Set.mem_insert_iff, Finset.mem_insert] at hp
  rcases hp with h | h | h | h | h
  · exact .inr (h ▸ rfl)
  · exact .inr (h ▸ rfl)
  · exact .inr (h ▸ rfl)
  · exact .inr (h ▸ rfl)
  · exact .inl h

end Cert.Radix
-- ==== Proof.Rows.lean ====
/-
  The rows of a [64, 32768] array: which elements a row is, what a copy of it reads, and what it is for one row of an
  array to spell the order of the keys of a row of another.
-/
module

public import proofs.«01_k».proof.Proof.TileRun
public import Idealize.ShloMosaic.Lib.ValueIdxCore

@[expose] public section

set_option maxRecDepth 65536

noncomputable section

namespace Cert.Radix

open Idealize.ShloMosaic Idealize.ShloMosaic.ValueIdx Idealize.SL
open Idealize.SL.BI (sProp)
open scoped Idealize.SL.BI
open Idealize.SL.BI.BIBase Idealize.SL.BI.Laws Idealize.SL.Sem Idealize.SL.ProofMode
open Idealize.SL.RA

/-! ## What a sorted row is -/

/-- The order of the positions of a row of keys: the key, and then the position. -/
abbrev order (X : Nat → BitVec 32) (i : Nat) : Nat := (X i).toNat * 32768 + i

/-- `Y` lists the positions of the row of keys `X` in that order. -/
def Lists (X Y : Nat → BitVec 32) : Prop := ∀ i < 32768, (Y (rankOf (order X) i)).toNat = i

theorem order_inj {X : Nat → BitVec 32} {i j : Nat} (hi : i < 32768) (hj : j < 32768) (h : order X i = order X j) : i = j := by
  unfold order at h
  omega

theorem rankOf_onto {X : Nat → BitVec 32} {p : Nat} (hp : p < 32768) : ∃ i < 32768, rankOf (order X) i = p := by
  let r : Fin 32768 → Fin 32768 := fun i => ⟨rankOf (order X) i, rankOf_lt i.isLt⟩
  have hr : Function.Injective r := fun i j h => Fin.ext
    (rankOf_inj (fun _ _ => order_inj) i.isLt j.isLt (Fin.ext_iff.1 h))
  obtain ⟨i, hi⟩ := (Finite.injective_iff_surjective.1 hr) ⟨p, hp⟩
  exact ⟨i, i.isLt, Fin.ext_iff.1 hi⟩

theorem Lists.unique {X Y Y' : Nat → BitVec 32} (h : Lists X Y) (h' : Lists X Y') {p : Nat} (hp : p < 32768) : Y p = Y' p := by
  obtain ⟨i, hi, rfl⟩ := rankOf_onto (X := X) hp
  exact BitVec.eq_of_toNat_eq ((h i hi).trans (h' i hi).symm)

/-- A row sorted where its keys lie is the order of the keys by position. -/
theorem lists_of_sorted {X X' Y : Nat → BitVec 32} (hX : ∀ i < 32768, X' (phys i) = X i) (h : RowSorted X' Y) : Lists X Y := by
  intro i hi
  have he : rankOf (order X) i = rankOf (fullOrder X') i := rankOf_congr fun b hb => by
    unfold order fullOrder keyOf
    rw [hX b hb, hX i hi]
  rw [he]
  exact h i hi

/-! ## The elements of a row -/

/-- The elements of row `r`. -/
def rowSet (r : Nat) : Finset Sx.Idx := Finset.univ.filter fun x => (x 0).val = r

theorem mem_rowSet {r : Nat} {x : Sx.Idx} : x ∈ rowSet r ↔ (x 0).val = r := by
  unfold rowSet
  rw [Finset.mem_filter]
  exact ⟨And.right, fun h => ⟨Finset.mem_univ _, h⟩⟩

theorem rowSet_disjoint {r r' : Nat} (h : r ≠ r') : Disjoint (rowSet r) (rowSet r') :=
  Finset.disjoint_left.2 fun _ hx hx' => h ((mem_rowSet.1 hx).symm.trans (mem_rowSet.1 hx'))

/-- The words of row `r`. -/
def rowWords (f : Sx.Idx → BitVec 32) (r n : Nat) : BitVec 32 :=
  if h : r < 64 ∧ n < 32768 then f (ix2 (⟨r, h.1⟩ : Fin 64) (⟨n, h.2⟩ : Fin 32768)) else 0#32

theorem rowWords_apply (f : Sx.Idx → BitVec 32) (r : Fin 64) (n : Fin 32768) : rowWords f r.val n.val = f (ix2 r n) := by
  unfold rowWords
  rw [dif_pos ⟨r.isLt, n.isLt⟩]

/-- Row `r` of `Y` lists the positions of row `r` of the keys `X` in their order, for every row. -/
def AllListed (X Y : Sx.Idx → BitVec 32) : Prop := ∀ r < 64, Lists (rowWords X r) (rowWords Y r)

theorem rowWords_congr {f g : Sx.Idx → BitVec 32} {r : Nat} (h : ∀ x ∈ rowSet r, f x = g x) : rowWords f r = rowWords g r := by
  funext n
  unfold rowWords
  by_cases hn : r < 64 ∧ n < 32768
  · rw [dif_pos hn, dif_pos hn]
    exact h _ (mem_rowSet.2 rfl)
  · rw [dif_neg hn, dif_neg hn]

variable {nD : Nat} {τ : Topo} {sig : RefSig} {F : FTy → Type} [FloatOps F]
variable {m : Memref sig .scVector .hbm Sx .i32} {off : Fin 2 → Nat} {inb : ∀ a, off a + Srow.size a ≤ Sx.size a}
variable {hsq : Srow.Squeezes Sk} {r : Nat}

omit [FloatOps F] in
theorem set_rowRef (h : off = ![r, 0]) : (rowRef m off inb hsq).view.set = (rowSet r).map m.view.emb := by
  subst h
  show ((m.view.slice (Rect.unit (s := Sx) ![r, 0] Srow.size inb)).reshape Sk hsq.numel_eq).set = _
  rw [View.set_reshape, View.set_slice]
  congr 1
  ext x
  rw [Rect.mem_set_unit, mem_rowSet, Fin.forall_fin_two]
  have h1 : (x 1).val < 32768 := (x 1).isLt
  show (r ≤ (x 0).val ∧ (x 0).val < r + 1) ∧ (0 ≤ (x 1).val ∧ (x 1).val < 0 + 32768) ↔ _
  omega

omit [FloatOps F] in
theorem unsqueeze (n : Nat) (hn : n < 32768) : Shape.reshapeEquiv (s := Srow) (s' := Sk) hsq.numel_eq (nth n hn) = ix2 (0 : Fin 1) (⟨n, hn⟩ : Fin 32768) := by
  refine Shape.reshapeEquiv_eq_of_rowMajor _ ?_
  rw [Shape.rowMajor_val_two, Shape.rowMajor_val_one]
  show 0 * 32768 + n = n
  omega

omit [FloatOps F] in
theorem wordsOf_rowRef {d : Fin nD} {co : Fin τ.nSC} {su : Fin τ.nSub} (h : off = ![r, 0]) (hr : r < 64)
    (f : Buf (Elt F) (m.view.loc (tile d co su))) : wordsOf (rowRef m off inb hsq) f = rowWords (m.view.read (Elt F) f) r := by
  subst h
  funext n
  unfold wordsOf rowWords
  by_cases hn : n < 32768
  · rw [dif_pos hn, dif_pos ⟨hr, hn⟩]
    show m.view.read (Elt F) f ((Rect.unit (s := Sx) ![r, 0] Srow.size inb).emb (Shape.reshapeEquiv hsq.numel_eq (nth n hn))) = _
    rw [unsqueeze (hsq := hsq)]
    refine congrArg _ (funext fun a => Fin.ext ?_)
    match a with
    | ⟨0, _⟩ => show r + 1 * 0 = r; omega
    | ⟨1, _⟩ => show 0 + 1 * n = n; omega
  · rw [dif_neg hn, dif_neg fun h => hn h.2]

/-! ## A buffer of the tile held whole -/

variable {Ix : Type} [DecidableEq Ix] {Name : Type} [DecidableEq Name] {U : Type} [URA U] {Lvl : Type} [Preorder Lvl]

local notation "𝕄" => MT nD τ sig Ix (Elt F) Name U Lvl

variable {d : Fin nD} {co : Fin τ.nSC} {su : Fin τ.nSub} {n : Nat} {k : Memref sig .scVector .vmem ⟨1, ![n]⟩ .i32}

omit [FloatOps F] in
theorem set_access (hk : k.IsWhole) : (k.access (.whole ⟨1, ![n]⟩)).set = Finset.univ := by
  show (k.view.slice (.whole ⟨1, ![n]⟩)).set = _
  rw [View.set_slice, Rect.set_whole, ← hk.set_eq_univ]
  rfl

theorem any_of_whole (hk : k.IsWhole) :
    (iprop(∃ f : Buf (Elt F) (k.view.loc (tile d co su)), k.view.loc (tile d co su) ↦{fullShare} f) : sProp 𝕄) ⊢ any d co su k := by
  unfold any own
  rw [set_access hk]
  iintro ⟨%f, H⟩
  iexists (fun j => if h : j < n then (k.access (.whole ⟨1, ![n]⟩)).read (Elt F) f (Shape.ofLane (d := ![n]) (⟨j, h⟩ : Fin n)) else 0#32)
  iexists f
  isplitr [H]
  · ipureintro
    intro x
    show _ = dite ((x 0).val < n) _ _
    rw [dif_pos (show (x 0).val < n from (x 0).isLt)]
    refine congrArg _ (funext fun a => ?_)
    match a with
    | ⟨0, _⟩ => rfl
  · iexact H

theorem whole_of_any (hk : k.IsWhole) :
    any d co su k ⊢ (iprop(∃ f : Buf (Elt F) (k.view.loc (tile d co su)), k.view.loc (tile d co su) ↦{fullShare} f) : sProp 𝕄) := by
  unfold any own
  rw [set_access hk]
  iintro ⟨%g, %f, -, H⟩
  iexists f
  iexact H

end Cert.Radix
-- ==== Proof.Seats.lean ====
/-
  The seats of the tiles: each tile of a core works on two rows, and the rows of all the tiles are the rows of the array. And the
  host's layout of the keys, which puts every row where the tiles read it.
-/
module

public import proofs.«01_k».proof.Proof.Rows
public import Idealize.ShloMosaic.Lib.Pipeline.Value
public import Idealize.ShloMosaic.Lib.SparseCore.Quiescent

@[expose] public section

set_option maxRecDepth 65536

noncomputable section

namespace Cert.Radix

open Idealize.ShloMosaic Idealize.ShloMosaic.ValueIdx
open Idealize.SL Idealize.SL.RA Idealize.SL.BI
open scoped Idealize.SL.BI
open Idealize.SL.BI.BIBase Idealize.SL.BI.Laws

/-- The first row of tile `i` of core `c`. -/
abbrev firstRow (c i : Nat) : Nat := 4 * i + 2 * c

/-- A tile of a core and one of its two rows. -/
abbrev Seat : Type := Fin 2 × Fin 16 × Fin 2

abbrev seatRow (t : Seat) : Nat := firstRow t.1.val t.2.1.val + t.2.2.val

theorem seatRow_inj {t t' : Seat} (h : seatRow t = seatRow t') : t = t' := by
  obtain ⟨c, i, b⟩ := t
  obtain ⟨c', i', b'⟩ := t'
  have e : 4 * i.val + 2 * c.val + b.val = 4 * i'.val + 2 * c'.val + b'.val := h
  have h1 : c = c' := Fin.ext (by omega)
  have h2 : i = i' := Fin.ext (by omega)
  have h3 : b = b' := Fin.ext (by omega)
  rw [h1, h2, h3]

theorem seatRow_onto {r : Nat} (h : r < 64) : ∃ t, seatRow t = r :=
  ⟨(⟨r / 2 % 2, by omega⟩, ⟨r / 4, by omega⟩, ⟨r % 2, by omega⟩), by
    show 4 * (r / 4) + 2 * (r / 2 % 2) + r % 2 = r
    omega⟩

abbrev seatSet (t : Seat) : Finset Sx.Idx := rowSet (seatRow t)

theorem seats_disjoint : ∀ t ∈ (Finset.univ : Finset Seat), ∀ t' ∈ (Finset.univ : Finset Seat), t ≠ t' → Disjoint (seatSet t) (seatSet t') :=
  fun _ _ _ _ h => rowSet_disjoint fun e => h (seatRow_inj e)

theorem seats_cover : (Finset.univ : Finset Seat).biUnion seatSet = Finset.univ := by
  refine Finset.eq_univ_of_forall fun x => ?_
  obtain ⟨t, ht⟩ := seatRow_onto (r := (x 0).val) (x 0).isLt
  exact Finset.mem_biUnion.2 ⟨t, Finset.mem_univ _, mem_rowSet.2 ht.symm⟩

theorem seats_eq {M : Type} [URA M] (Φ : Nat → sProp M) :
    (bigSep Finset.univ fun c : Fin 2 => bigSep Finset.univ fun i : Fin 16 => iprop(Φ (firstRow c.val i.val) ∗ Φ (firstRow c.val i.val + 1)))
      = bigSep Finset.univ fun t : Seat => Φ (seatRow t) := by
  rw [bigSep_univ_prod]
  refine bigSep_congr fun c _ => ?_
  rw [bigSep_univ_prod]
  refine bigSep_congr fun i _ => ?_
  rw [bigSep_fin_two]
  rfl

/-- Every row of the result lists its row of the keys, where they lie. -/
def AllSorted (X Y : Sx.Idx → BitVec 32) : Prop := ∀ r < 64, RowSorted (rowWords X r) (rowWords Y r)

/-! ## The host's layout of the keys -/

/-- A row as its sixteen lanes' runs, and as its runs' lanes. -/
abbrev Slanes : Shape := ⟨3, ![64, 16, 2048]⟩
abbrev Sruns : Shape := ⟨3, ![64, 2048, 16]⟩

theorem casts_lanes : Sx.ShapeCasts Slanes := by decide
theorem casts_runs : Sruns.ShapeCasts Sx := by decide
theorem transposes_lanes : Slanes.Transposes [0, 2, 1] Sruns := by decide

/-- The keys as the host lays them out for the tiles. -/
def laid (X : Sx.Idx → BitVec 32) : Sx.Idx → BitVec 32 :=
  shapeCast Sx (transpose Sruns [0, 2, 1] (shapeCast Slanes X casts_lanes) transposes_lanes) casts_runs

theorem laid_words (X : Sx.Idx → BitVec 32) {r i : Nat} (hi : i < 32768) : rowWords (laid X) r (phys i) = rowWords X r i := by
  unfold rowWords
  by_cases hr : r < 64
  swap
  · rw [dif_neg fun h => hr h.1, dif_neg fun h => hr h.1]
  rw [dif_pos ⟨hr, phys_lt hi⟩, dif_pos ⟨hr, hi⟩]
  unfold laid
  have h1 : i % 2048 < 2048 := Nat.mod_lt _ (by decide)
  have h2 : i / 2048 < 16 := by omega
  rw [shapeCast_apply _ _ _ (ix3 (⟨r, hr⟩ : Fin 64) (⟨i % 2048, h1⟩ : Fin 2048) (⟨i / 2048, h2⟩ : Fin 16)) ?_,
    transpose_apply _ _ _ _ (ix3 (⟨r, hr⟩ : Fin 64) (⟨i / 2048, h2⟩ : Fin 16) (⟨i % 2048, h1⟩ : Fin 2048)) ?_,
    shapeCast_apply _ _ _ (ix2 (⟨r, hr⟩ : Fin 64) (⟨i, hi⟩ : Fin 32768)) ?_]
  · rw [Shape.rowMajor_val_two, Shape.rowMajor_val_three]
    show r * 32768 + i = (r * 16 + i / 2048) * 2048 + i % 2048
    omega
  · intro b
    match b with
    | ⟨0, _⟩ => rfl
    | ⟨1, _⟩ => rfl
    | ⟨2, _⟩ => rfl
  · rw [Shape.rowMajor_val_two, Shape.rowMajor_val_three]
    show (r * 2048 + i % 2048) * 16 + i / 2048 = r * 32768 + phys i
    unfold phys
    omega

theorem allListed {X Y : Sx.Idx → BitVec 32} (h : AllSorted (laid X) Y) : AllListed X Y :=
  fun r hr => lists_of_sorted (fun _ hi => laid_words X hi) (h r hr)

end Cert.Radix
-- ==== Proof.SortTile.lean ====
/-
  The tile body of the sort's kernel at the ideal instance, over any float values: it is the tile program of `Proof/Tile.lean` at
  the printed shapes and offsets, so its run is `wp_tileProg`'s — each tile takes two rows of the keys and two rows of the
  result, and brings back the same rows of the keys and the result's rows sorted.
-/
module

public import proofs.«01_k».proof.Proof.Seats
public import proofs.«01_k».proof.Proof.Gen.SortIdeal
public import proofs.«01_k».proof.Proof.Gen.SortIdeal.Skeleton
public import Idealize.ShloMosaic.Lib.SparseCore.Quiescent
public import Idealize.ShloMosaic.Lib.StableHlo.Run
public import Idealize.ShloMosaic.Lib.Pipeline.Kit
public import Idealize.ShloMosaic.Lib.Tactic

@[expose] public section

set_option maxRecDepth 65536

noncomputable section

namespace Cert.SortIdeal.Gen

open Cert.Radix
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The body is the tile program -/

/-- The lane numbers the body counts by. -/
abbrev lane : IVec S16 32 := iota .scVector S16 32 [0] iota_S16_d0_w32_scVector

theorem lane_val (j : Fin 16) : (at' lane j).toNat = j.val := by
  revert j
  decide

section Body

variable (i : grid0.Coords) {arg2 arg3 : Memref sig .scVector .hbm S64x32768 .i32} (harg2 : arg2.IsWhole) (harg3 : arg3.IsWhole)
variable {arg4 arg5 arg6 : Memref sig .scVector .vmem S32768 .i32} (harg4 : arg4.IsWhole) (harg5 : arg5.IsWhole) (harg6 : arg6.IsWhole)
variable {arg7 arg8 : Memref sig .scVector .vmem S4096 .i32} (harg7 : arg7.IsWhole) (harg8 : arg8.IsWhole) (arg9 arg10 : DmaSems sig S_)

set_option maxHeartbeats 0 in
theorem body_eq : cc0_body (F := F) i arg2 harg2 arg3 harg3 arg4 harg4 arg5 harg5 arg6 harg6 arg7 harg7 arg8 harg8 arg9 arg10
    = tileProg lane slices_S16_o15_S1 inpos_S1_p0 squeezes_S1x32768_S32768 arg4 arg5 arg6 arg7 arg8 arg2 arg3 harg4 harg6 arg9.sem arg10.sem
        (k0_off1 i) (k0_off69 i) (k0_off137 i 0#32) (k0_off137 i 1#32)
        (k0_off1_inb i) (k0_off69_inb i) (k0_off137_inb i 0) (k0_off137_inb i 1) := by
  rw [cc0_body_eq_skeleton]
  unfold cc0_body_skel
  rw [k0_part143_eq_skeleton, k0_part144_eq_skeleton, k0_part145_eq_skeleton, k0_part146_eq_skeleton]
  unfold k0_part143_skel k0_part144_skel k0_part145_skel k0_part146_skel tileProg rowHead rowTail
  simp only [bind_assoc, pure_bind]
  rfl

end Body

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] in
theorem scFacts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## What a tile is given and what it brings back -/

/-- The keys laid out for the tiles, and the result. -/
abbrev kLoc (d : Dev nD) : Loc nD τ sig := (SparseCore.T d).loc main_v2
abbrev oLoc (d : Dev nD) : Loc nD τ sig := (SparseCore.T d).loc main_v3

-- the keys and the result's contents when the kernel is called, by device
variable (ks : (d : Dev nD) → Buf (Elt F) (kLoc d)) (os : (d : Dev nD) → Buf (Elt F) (oLoc d))

abbrev kRow (d : Dev nD) (r : Nat) : sProp 𝕄 := kLoc d ↦[rowSet r]{fullShare} ks d
abbrev oRow (d : Dev nD) (f : Buf (Elt F) (oLoc d)) (r : Nat) : sProp 𝕄 := oLoc d ↦[rowSet r]{fullShare} f
/-- Row `r` of the result, sorted by row `r` of the keys. -/
abbrev oDone (d : Dev nD) (r : Nat) : sProp 𝕄 :=
  iprop(∃ f : Buf (Elt F) (oLoc d), ⌜RowSorted (rowWords (ks d) r) (rowWords f r)⌝ ∗ oRow d f r)

abbrev given (d : Dev nD) (c i : Nat) : sProp 𝕄 :=
  iprop((kRow ks d (firstRow c i) ∗ kRow ks d (firstRow c i + 1)) ∗ (oRow d (os d) (firstRow c i) ∗ oRow d (os d) (firstRow c i + 1)))
abbrev back (d : Dev nD) (c i : Nat) : sProp 𝕄 :=
  iprop((kRow ks d (firstRow c i) ∗ kRow ks d (firstRow c i + 1)) ∗ (oDone ks d (firstRow c i) ∗ oDone ks d (firstRow c i + 1)))

/-! ## The tile -/

section Tile

variable (d : Dev nD) (L : grid0.Coords)

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

abbrev cV : Fin τ.nSC := (L 0).castLE hcore0
abbrev jV : Fin τ.nSub := (L 1).castLE hsub0

local notation "kV" => (Memref.whole Cert.SortIdeal.main_v2_scv : Memref Cert.SortIdeal.sig Kind.scVector Space.hbm Cert.SortIdeal.S64x32768 EltTy.i32)
local notation "oV" => (Memref.whole Cert.SortIdeal.main_v3_scv : Memref Cert.SortIdeal.sig Kind.scVector Space.hbm Cert.SortIdeal.S64x32768 EltTy.i32)

abbrev kRef (off : Fin 2 → Nat) (inb : ∀ a, off a + Srow.size a ≤ Sx.size a) : Memref sig .scVector .hbm Sk .i32 := rowRef kV off inb squeezes_S1x32768_S32768
abbrev oRef (off : Fin 2 → Nat) (inb : ∀ a, off a + Srow.size a ≤ Sx.size a) : Memref sig .scVector .hbm Sk .i32 := rowRef oV off inb squeezes_S1x32768_S32768

variable {off : Fin 2 → Nat} {inb : ∀ a, off a + Srow.size a ≤ Sx.size a} {r : Nat}

theorem rowAt_kRef (h : off = ![r, 0]) (f : Buf (Elt F) (kLoc d)) :
    (rowAt d (cV L) (jV L) (kRef off inb) f : sProp 𝕄) = kLoc d ↦[rowSet r]{fullShare} f := by
  have hs : (kRef off inb).view.set = rowSet r := (set_rowRef h).trans (Finset.map_refl)
  show ((kRef off inb).view.loc (V d (cV L) (jV L)) ↦[(kRef off inb).view.set]{fullShare} f : sProp 𝕄) = _
  rw [hs]
  rfl

theorem rowAt_oRef (h : off = ![r, 0]) (f : Buf (Elt F) (oLoc d)) :
    (rowAt d (cV L) (jV L) (oRef off inb) f : sProp 𝕄) = oRow d f r := by
  have hs : (oRef off inb).view.set = rowSet r := (set_rowRef h).trans (Finset.map_refl)
  show ((oRef off inb).view.loc (V d (cV L) (jV L)) ↦[(oRef off inb).view.set]{fullShare} f : sProp 𝕄) = _
  rw [hs]
  rfl

theorem words_kRef (h : off = ![r, 0]) (hr : r < 64) (f : Buf (Elt F) (kLoc d)) :
    wordsOf (d := d) (co := cV L) (su := jV L) (kRef off inb) f = rowWords f r :=
  wordsOf_rowRef (m := kV) (inb := inb) (hsq := squeezes_S1x32768_S32768) (d := d) (co := cV L) (su := jV L) h hr f

theorem words_oRef (h : off = ![r, 0]) (hr : r < 64) (f : Buf (Elt F) (oLoc d)) :
    wordsOf (d := d) (co := cV L) (su := jV L) (oRef off inb) f = rowWords f r :=
  wordsOf_rowRef (m := oV) (inb := inb) (hsq := squeezes_S1x32768_S32768) (d := d) (co := cV L) (su := jV L) h hr f

theorem rowDone_oRef (h : off = ![r, 0]) (hr : r < 64) :
    (rowDone d (cV L) (jV L) (oRef off inb) (rowWords (ks d) r) : sProp 𝕄) ⊢ oDone ks d r := by
  iintro ⟨%f, %hf, H⟩
  iexists f
  isplitr [H]
  · ipureintro
    rw [← words_oRef (F := F) d L h hr f]
    exact hf
  · iapply (Entails.of_eq (rowAt_oRef (F := F) d L h f))
    iexact H

theorem first_lt : firstRow (L 0).val (L 1).val + 1 < 64 := by
  have h0 : (L 0).val < 2 := (L 0).isLt
  have h1 : (L 1).val < 16 := (L 1).isLt
  show 4 * (L 1).val + 2 * (L 0).val + 1 < 64
  omega

theorem out0_eq : k0_off137 L 0#32 = ![firstRow (L 0).val (L 1).val, 0] := by
  have h := k0_off137_eq L 0
  exact h

theorem out1_eq : k0_off137 L 1#32 = ![firstRow (L 0).val (L 1).val + 1, 0] := by
  have h := k0_off137_eq L 1
  exact h

/-- The tile's two semaphores. -/
abbrev kCell (d : Dev nD) (c : Fin τ.nSC) (i : Fin τ.nSub) : GSem nD τ sig := (V d c i, .dma cc0_scratch5.sem)
abbrev oCell (d : Dev nD) (c : Fin τ.nSC) (i : Fin τ.nSub) : GSem nD τ sig := (V d c i, .dma cc0_scratch6.sem)

omit [FloatOps F] in
theorem ownSems0_V :
    (ownSems0 (V d (cV L) (jV L)) : sProp 𝕄)
      = iprop(semVal (kCell d (cV L) (jV L)) 0 ∗ semVal (oCell d (cV L) (jV L)) 0
          ∗ bigSep (((ownCells (V d (cV L) (jV L))).erase (kCell d (cV L) (jV L))).erase (oCell d (cV L) (jV L))) fun g => semVal g 0) := by
  unfold SparseCore.Cfg.ownSems0
  rw [SparseCore.bigSep_erase' ((mem_ownCells (g := kCell d (cV L) (jV L))).mpr ⟨rfl, by
      show (SemLoc.dma cc0_scratch5.sem : SemLoc sig).isScoped .scVector = true; decide⟩),
    SparseCore.bigSep_erase' (Finset.mem_erase.mpr ⟨by simp [kCell, oCell]; decide, (mem_ownCells (g := oCell d (cV L) (jV L))).mpr ⟨rfl, by
      show (SemLoc.dma cc0_scratch6.sem : SemLoc sig).isScoped .scVector = true; decide⟩⟩)]

/-- The reference of a tile's own buffer. -/
abbrev dref (b : Ref sig .scVector) : DevRef τ sig := (Proc.scVector (cV L) (jV L)).devRef b
/-- The tile's other buffers. -/
abbrev restRefs : Finset (DevRef τ sig) :=
  (((((ownRefs (τ := τ) (.scVector (cV L) (jV L))).erase (dref L cc0_scratch0)).erase (dref L cc0_scratch1)).erase (dref L cc0_scratch2)).erase
    (dref L cc0_scratch3)).erase (dref L cc0_scratch4)

omit [FloatOps F] in
theorem dref_ne {b b' : Ref sig .scVector} (h : b ≠ b') : dref L b ≠ dref L b' := fun e => h (Proc.devRef_injective _ e)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep (restRefs L) fun b => iprop(∃ f, ((d, b) : Loc nD τ sig) ↦{fullShare} f)) := by
  have hin : ∀ b : Ref sig .scVector, (dref L b).owner = .proc (.scVector (cV L) (jV L)) → dref L b ∈ ownRefs (τ := τ) (.scVector (cV L) (jV L)) :=
    fun b h => SparseCore.Cfg.mem_ownRefs_of_owner (p := Proc.scVector (cV L) (jV L)) (b := dref L b) h
  have n10 := dref_ne L (show (cc0_scratch1 : Ref sig .scVector) ≠ cc0_scratch0 by decide)
  have n20 := dref_ne L (show (cc0_scratch2 : Ref sig .scVector) ≠ cc0_scratch0 by decide)
  have n21 := dref_ne L (show (cc0_scratch2 : Ref sig .scVector) ≠ cc0_scratch1 by decide)
  have n30 := dref_ne L (show (cc0_scratch3 : Ref sig .scVector) ≠ cc0_scratch0 by decide)
  have n31 := dref_ne L (show (cc0_scratch3 : Ref sig .scVector) ≠ cc0_scratch1 by decide)
  have n32 := dref_ne L (show (cc0_scratch3 : Ref sig .scVector) ≠ cc0_scratch2 by decide)
  have n40 := dref_ne L (show (cc0_scratch4 : Ref sig .scVector) ≠ cc0_scratch0 by decide)
  have n41 := dref_ne L (show (cc0_scratch4 : Ref sig .scVector) ≠ cc0_scratch1 by decide)
  have n42 := dref_ne L (show (cc0_scratch4 : Ref sig .scVector) ≠ cc0_scratch2 by decide)
  have n43 := dref_ne L (show (cc0_scratch4 : Ref sig .scVector) ≠ cc0_scratch3 by decide)
  unfold SparseCore.Cfg.ownBufs
  refine (SparseCore.bigSep_erase' (hin cc0_scratch0 rfl)).trans ?_
  rw [SparseCore.bigSep_erase' (Finset.mem_erase.mpr ⟨n10, hin cc0_scratch1 rfl⟩),
    SparseCore.bigSep_erase' (Finset.mem_erase.mpr ⟨n21, Finset.mem_erase.mpr ⟨n20, hin cc0_scratch2 rfl⟩⟩),
    SparseCore.bigSep_erase' (Finset.mem_erase.mpr ⟨n32, Finset.mem_erase.mpr ⟨n31, Finset.mem_erase.mpr ⟨n30, hin cc0_scratch3 rfl⟩⟩⟩),
    SparseCore.bigSep_erase' (Finset.mem_erase.mpr ⟨n43, Finset.mem_erase.mpr ⟨n42, Finset.mem_erase.mpr ⟨n41, Finset.mem_erase.mpr ⟨n40, hin cc0_scratch4 rfl⟩⟩⟩⟩)]

/-- The tile's scratch, whole at some contents, in the two spellings. -/
theorem any_scratch {n : Nat} (b : Memref sig .scVector .vmem ⟨1, ![n]⟩ .i32) (hb : b.IsWhole) :
    (iprop(∃ f : Buf (Elt F) (b.view.loc (V d (cV L) (jV L))), b.view.loc (V d (cV L) (jV L)) ↦{fullShare} f) : sProp 𝕄)
      ⊢ any d (cV L) (jV L) b := any_of_whole (d := d) (co := cV L) (su := jV L) hb
theorem scratch_any {n : Nat} (b : Memref sig .scVector .vmem ⟨1, ![n]⟩ .i32) (hb : b.IsWhole) :
    any d (cV L) (jV L) b
      ⊢ (iprop(∃ f : Buf (Elt F) (b.view.loc (V d (cV L) (jV L))), b.view.loc (V d (cV L) (jV L)) ↦{fullShare} f) : sProp 𝕄) :=
  whole_of_any (d := d) (co := cV L) (su := jV L) hb

theorem tile_body (hF : (K (F := F)).Facts) (O : CellTallies nD τ sig (HIx 1)) (W : Waits sig (HIx 1)) (hO : ∀ g, O g none = 0) :
    iprop(levAts (K (F := F)).L (K (F := F)).lev ∗ emp ∗ given ks os d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L kV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6)
          fun _ => iprop(back ks d (L 0).val (L 1).val
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hr1 := first_lt L
  have hr0 : firstRow (L 0).val (L 1).val < 64 := by omega
  rw [(K (F := F)).scopedBufs_V hF d (cV L) (jV L), SparseCore.Cfg.scopedSems0_V (Val := Elt F) d (cV L) (jV L), ownSems0_V, ownBufs_V, body_eq]
  iintro ⟨#Hlv, -, ⟨⟨Hk0, Hk1⟩, ⟨Ho0, Ho1⟩⟩, ⟨H0, H1, H2, H3, H4, Hbufs⟩, ⟨Hks, Hos, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_last (defs := defs₀ (F := F)) 𝒱₀ none Set.univ (wp_tileProg (defs := defs₀ (F := F)) 𝒱₀ none countersEmb (default : HIx 1) lane_val
    (d := d) (co := cV L) (su := jV L) (f0 := ks d) (f1 := ks d) (g0 := os d) (g1 := os d) (O := O) (W := W)))
  isplitl [Hk0 Hk1 Ho0 Ho1 H0 H1 H2 H3 H4 Hks Hos HO Hmw]
  · isplitl [Hmw]
    · iexact Hmw
    isplitl [Hk0 Hk1]
    · isplitl [Hk0]
      · iapply (Entails.of_eq (rowAt_kRef (F := F) d L (k0_off1_eq L) _).symm)
        iexact Hk0
      · iapply (Entails.of_eq (rowAt_kRef (F := F) d L (k0_off69_eq L) _).symm)
        iexact Hk1
    isplitl [Ho0 Ho1]
    · isplitl [Ho0]
      · iapply (Entails.of_eq (rowAt_oRef (F := F) d L (out0_eq L) _).symm)
        iexact Ho0
      · iapply (Entails.of_eq (rowAt_oRef (F := F) d L (out1_eq L) _).symm)
        iexact Ho1
    isplitr [HO]
    · isplitl [H0]
      · iapply (any_scratch (F := F) d L (Memref.whole cc0_scratch0) (Memref.isWhole_whole _)); iexact H0
      isplitl [H1]
      · iapply (any_scratch (F := F) d L (Memref.whole cc0_scratch1) (Memref.isWhole_whole _)); iexact H1
      isplitl [H2]
      · iapply (any_scratch (F := F) d L (Memref.whole cc0_scratch2) (Memref.isWhole_whole _)); iexact H2
      isplitl [H3]
      · iapply (any_scratch (F := F) d L (Memref.whole cc0_scratch3) (Memref.isWhole_whole _)); iexact H3
      isplitl [H4]
      · iapply (any_scratch (F := F) d L (Memref.whole cc0_scratch4) (Memref.isWhole_whole _)); iexact H4
      isplitl [Hks]
      · iexact Hks
      · iexact Hos
    · iexact HO
  rw [words_kRef (F := F) d L (k0_off1_eq L) hr0, words_kRef (F := F) d L (k0_off69_eq L) hr1]
  iintro %_ ⟨⟨Hk0, Hk1⟩, ⟨Ho0, Ho1⟩, ⟨H0, H1, H2, H3, H4, Hks, Hos⟩, %W', %hW, HO⟩
  isplitl [Hk0 Hk1 Ho0 Ho1]
  · isplitl [Hk0 Hk1]
    · isplitl [Hk0]
      · iapply (Entails.of_eq (rowAt_kRef (F := F) d L (k0_off1_eq L) _))
        iexact Hk0
      · iapply (Entails.of_eq (rowAt_kRef (F := F) d L (k0_off69_eq L) _))
        iexact Hk1
    · isplitl [Ho0]
      · iapply (rowDone_oRef (F := F) ks d L (out0_eq L) hr0)
        iexact Ho0
      · iapply (rowDone_oRef (F := F) ks d L (out1_eq L) hr1)
        iexact Ho1
  isplitl [H0 H1 H2 H3 H4 Hbufs]
  · isplitl [H0]
    · iapply (scratch_any (F := F) d L (Memref.whole cc0_scratch0) (Memref.isWhole_whole _)); iexact H0
    isplitl [H1]
    · iapply (scratch_any (F := F) d L (Memref.whole cc0_scratch1) (Memref.isWhole_whole _)); iexact H1
    isplitl [H2]
    · iapply (scratch_any (F := F) d L (Memref.whole cc0_scratch2) (Memref.isWhole_whole _)); iexact H2
    isplitl [H3]
    · iapply (scratch_any (F := F) d L (Memref.whole cc0_scratch3) (Memref.isWhole_whole _)); iexact H3
    isplitl [H4]
    · iapply (scratch_any (F := F) d L (Memref.whole cc0_scratch4) (Memref.isWhole_whole _)); iexact H4
    · iexact Hbufs
  isplitl [Hks Hos Hsems]
  · isplitl [Hks]
    · iexact Hks
    isplitl [Hos]
    · iexact Hos
    · iexact Hsems
  iexists W'
  isplitr [HO]
  · ipureintro
    intro p hp
    exact (hW p hp).imp id Or.inl
  · iexact HO

/-! ## The obligation -/

theorem defs₀_vector (c : Fin τ.nSC) (s : Fin τ.nSub) :
    defs₀ (F := F) (.scVector c s) 0 ()
      = SparseCore.onTile hcore0 hsub0 (fun c s => cc0_body (coordsV c s) kV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6) ⟨⟩ c s := rfl

end Tile

/-! ## The handshakes' payloads -/

/-- A call hands each core its tiles' rows, and each tile its own; nothing else is dealt. -/
def P : (K (F := F)).Pay (nD := nD) (Val := Elt F) (Name := ℕ) (U := UU) where
  st := fun q d c => match q with | 0 => bigSep Finset.univ fun i : Fin 16 => given ks os d c.val i.val
  dn := fun q d c => match q with | 0 => bigSep Finset.univ fun i : Fin 16 => back ks d c.val i.val
  go := fun q d c i => match q with | 0 => given ks os d c.val i.val
  td := fun q d c i => match q with | 0 => back ks d c.val i.val
  x := fun _ _ => iprop(emp)

instance P_storable : (P (F := F) ks os).IsStorable where
  st q d c := match q with
    | 0 => (inferInstance : BI.Storable (upEmb : UEmb _ 𝕄) (bigSep Finset.univ fun i : Fin 16 => given ks os d c.val i.val))
  dn q d c := match q with
    | 0 => (inferInstance : BI.Storable (upEmb : UEmb _ 𝕄) (bigSep Finset.univ fun i : Fin 16 => back ks d c.val i.val))
  go q d c i := match q with | 0 => (inferInstance : BI.Storable (upEmb : UEmb _ 𝕄) (given ks os d c.val i.val))
  td q d c i := match q with | 0 => (inferInstance : BI.Storable (upEmb : UEmb _ 𝕄) (back ks d c.val i.val))

theorem tileObl (hF : (K (F := F)).Facts) : (K (F := F)).TileObl (D (F := F)) 𝒱 (P ks os) v₀ 0 := by
  intro d c i O W hO _ _
  simp only [show (P ks os).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body ks os d (coordsV ⟨_, hci.1⟩ ⟨_, hci.2⟩) hF O W hO

theorem vecSplit : (K (F := F)).VecSplit' (P ks os) 0 := by
  intro d c
  show (bigSep Finset.univ fun i : Fin 16 => given ks os d c.val i.val) ⊢ |={Set.univ}=> iprop(
      (bigSep Finset.univ fun i : Fin 16 => given ks os d c.val i.val)
      ∗ ((bigSep Finset.univ fun i : Fin 16 => back ks d c.val i.val) -∗ (bigSep Finset.univ fun i : Fin 16 => back ks d c.val i.val)))
  iintro H
  imodintro
  isplitl [H]
  · iexact H
  iintro H
  iexact H

end Cert.SortIdeal.Gen
-- ==== Proof.SortLaunch.lean ====
/-
  The sort's kernel from its launch to its end, at the ideal instance and over any float values: the host lays the keys out for
  the tiles, the SparseCores sort every row, and the result lists each row's positions in the order of its keys.
-/
module

public import proofs.«01_k».proof.Proof.SortTile
public import Idealize.ShloMosaic.Lib.Pipeline.Value

@[expose] public section

set_option maxRecDepth 65536

noncomputable section

namespace Cert.SortIdeal.Gen

open Cert.Radix
open Idealize.ShloMosaic Idealize.ShloMosaic.ValueIdx Idealize.ShloMosaic.Pipeline
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)
variable (ks : (d : Dev nD) → Buf (Elt F) (kLoc d)) (os : (d : Dev nD) → Buf (Elt F) (oLoc d))

abbrev xLoc (d : Dev nD) : Loc nD τ sig := (SparseCore.T d).loc main_arg0
abbrev aLoc (d : Dev nD) : Loc nD τ sig := (SparseCore.T d).loc main_v0
abbrev bLoc (d : Dev nD) : Loc nD τ sig := (SparseCore.T d).loc main_v1

theorem keys_seats (d : Dev nD) (f : Buf (Elt F) (kLoc d)) :
    (kLoc d ↦{fullShare} f : sProp 𝕄) = bigSep Finset.univ fun t : Seat => kLoc d ↦[seatSet t]{fullShare} f := by
  rw [← pointsTo_biUnion Finset.univ (ℓ := kLoc d) seatSet seats_disjoint, seats_cover]; try rfl

theorem out_seats (d : Dev nD) (f : Buf (Elt F) (oLoc d)) :
    (oLoc d ↦{fullShare} f : sProp 𝕄) = bigSep Finset.univ fun t : Seat => oLoc d ↦[seatSet t]{fullShare} f := by
  rw [← pointsTo_biUnion Finset.univ (ℓ := oLoc d) seatSet seats_disjoint, seats_cover]; try rfl

/-- The rows, each sorted, are the result whole and sorted. -/
theorem out_join (d : Dev nD) :
    (bigSep Finset.univ fun t : Seat => oDone ks d (seatRow t))
      ⊢ (iprop(∃ g : Buf (Elt F) (oLoc d), ⌜AllSorted (ks d) g⌝ ∗ oLoc d ↦{fullShare} g) : sProp 𝕄) := by
  refine (bigSep_exists_pi Finset.univ (fun t (f : Buf (Elt F) (oLoc d)) =>
    iprop(⌜RowSorted (rowWords (ks d) (seatRow t)) (rowWords f (seatRow t))⌝ ∗ oRow d f (seatRow t)))).trans ?_
  iintro ⟨%fs, H⟩
  ihave H' := (bigSep_pure_sep (S := Finset.univ) (φ := fun t => RowSorted (rowWords (ks d) (seatRow t)) (rowWords (fs t) (seatRow t)))
    (Ψ := fun t : Seat => oRow d (fs t) (seatRow t))) $$ H
  icases H' with ⟨%hs, H⟩
  ihave H' := (pointsTo_biUnion_join (ℓ := oLoc d) (q := fullShare) (Val := Elt F) Finset.univ seatSet fs (fs (0, 0, 0)) seats_disjoint) $$ H
  icases H' with ⟨%g, %hg, Hg⟩
  rw [seats_cover]
  iexists g
  isplitr [Hg]
  · ipureintro
    intro r hr
    obtain ⟨t, rfl⟩ := seatRow_onto hr
    rw [rowWords_congr (f := g) (g := fs t) fun x hx => hg t (Finset.mem_univ _) x hx]
    exact hs t (Finset.mem_univ _)
  · iexact Hg

/-! ## What the calls take and bring back, over the cores -/

theorem st0_eq (d : Dev nD) : (bigSep Finset.univ fun c : Fin ((K (F := F)).nCore 0) => (P ks os).st 0 d c)
    = iprop((kLoc d ↦{fullShare} ks d) ∗ oLoc d ↦{fullShare} os d) := by
  show (bigSep (Finset.univ : Finset (Fin 2)) fun c => bigSep Finset.univ fun i : Fin 16 => given ks os d c.val i.val) = _
  rw [keys_seats, out_seats, ← seats_eq (fun r => kLoc d ↦[rowSet r]{fullShare} ks d), ← seats_eq (fun r => oLoc d ↦[rowSet r]{fullShare} os d),
    ← bigSep_sep']
  exact bigSep_congr fun c _ => bigSep_sep' _ _ _

theorem dn0_eq (d : Dev nD) : (bigSep Finset.univ fun c : Fin ((K (F := F)).nCore 0) => (P ks os).dn 0 d c)
    = iprop((kLoc d ↦{fullShare} ks d) ∗ bigSep Finset.univ fun t : Seat => oDone ks d (seatRow t)) := by
  show (bigSep (Finset.univ : Finset (Fin 2)) fun c => bigSep Finset.univ fun i : Fin 16 => back ks d c.val i.val) = _
  rw [keys_seats, ← seats_eq (fun r => kLoc d ↦[rowSet r]{fullShare} ks d), ← seats_eq (fun r => oDone ks d r), ← bigSep_sep']
  exact bigSep_congr fun c _ => bigSep_sep' _ _ _

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P ks os).x q thr) := by
  unfold u₀
  iintro Hu
  ihave H := (ownU_pair (initOf (K (F := F)).hsCells (K (F := F)).hsToks) (1 : Counters)) $$ Hu
  icases H with ⟨HH, -⟩
  imodintro
  isplitl [HH]
  · iexact HH
  isplitr
  · rw [bigSep_emp']
    iempintro
  rw [show (bigSep Finset.univ fun thr : Thread nD τ => bigSep Finset.univ fun q : Fin 1 => (P (F := F) ks os).x q thr) = bigSep Finset.univ fun _ => iprop(emp) from
    bigSep_congr fun _ _ => bigSep_univ_of_subsingleton (0 : Fin 1), bigSep_emp']
  iempintro

/-! ## The host's operations -/

abbrev dr (b : Ref sig .tc) : DevRef τ sig := Proc.devRef .tc b
abbrev op0 : HloOp τ sig (Elt F) := StableHlo.reshape main_arg0 main_v0 (rfl : (.i32 : EltTy) = .i32) shapeCasts_S64x32768_S64x16x2048
abbrev op1 : HloOp τ sig (Elt F) := StableHlo.unary main_v0 main_v1
  ((transpose S64x2048x16 [0, 2, 1] · transposes_S64x16x2048_S64x2048x16_0_2_1) : (⟨S64x16x2048, .i32⟩ : BufTy).Contents (Elt F) → (⟨S64x2048x16, .i32⟩ : BufTy).Contents (Elt F))
abbrev op2 : HloOp τ sig (Elt F) := StableHlo.reshape main_v1 main_v2 (rfl : (.i32 : EltTy) = .i32) shapeCasts_S64x2048x16_S64x32768

/-- The TensorCore's arrays. -/
abbrev S5 : Finset (DevRef τ sig) := {dr main_arg0, dr main_v0, dr main_v1, dr main_v2, dr main_v3}

omit [FloatOps F] in
theorem held_S5 (d : Dev nD) (W : Valuation τ sig (Elt F)) :
    (held (T d) S5 W : sProp 𝕄) = iprop((xLoc d ↦{fullShare} W (dr main_arg0)) ∗ (aLoc d ↦{fullShare} W (dr main_v0)) ∗ (bLoc d ↦{fullShare} W (dr main_v1))
      ∗ (kLoc d ↦{fullShare} W (dr main_v2)) ∗ oLoc d ↦{fullShare} W (dr main_v3)) := by
  unfold held S5
  rw [SparseCore.bigSep_insert' (by decide), SparseCore.bigSep_insert' (by decide), SparseCore.bigSep_insert' (by decide),
    SparseCore.bigSep_insert' (by decide), bigSep_singleton]

/-- The launch memory as a valuation, and after the host's three operations. -/
def V0 (d : Dev nD) : Valuation τ sig (Elt F) := fun b => m (d, b)
abbrev V3 (d : Dev nD) : Valuation τ sig (Elt F) := (op2 (F := F)).result ((op1 (F := F)).result ((op0 (F := F)).result (V0 m d)))

omit [FloatOps F] in
theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide), SparseCore.bigSep_insert' (by decide),
    bigSep_singleton]
  rfl

theorem V3_x (d : Dev nD) : V3 m d (dr main_arg0) = m (xLoc d) := by
  unfold V3
  rw [StableHlo.reshape_result_ne' _ _ _ _ _ (by decide), StableHlo.unary_result_ne' _ _ _ _ (by decide), StableHlo.reshape_result_ne' _ _ _ _ _ (by decide)]
  rfl

theorem V3_o (d : Dev nD) : V3 m d (dr main_v3) = m (oLoc d) := by
  unfold V3
  rw [StableHlo.reshape_result_ne' _ _ _ _ _ (by decide), StableHlo.unary_result_ne' _ _ _ _ (by decide), StableHlo.reshape_result_ne' _ _ _ _ _ (by decide)]
  rfl

/-- The keys the kernel is called with. -/
abbrev keysOf (d : Dev nD) : Buf (Elt F) (kLoc d) := laid (m (xLoc d))

theorem V3_k (d : Dev nD) : V3 m d (dr main_v2) = keysOf m d := by
  unfold V3
  rw [StableHlo.reshape_result', StableHlo.unary_result', StableHlo.reshape_result']
  rfl

theorem sub0 : (op0 (F := F)).bufs ⊆ S5 := show ({dr main_arg0, dr main_v0} : Finset (DevRef τ sig)) ⊆ S5 by decide
theorem sub1 : (op1 (F := F)).bufs ⊆ S5 := show ({dr main_v0, dr main_v1} : Finset (DevRef τ sig)) ⊆ S5 by decide
theorem sub2 : (op2 (F := F)).bufs ⊆ S5 := show ({dr main_v1, dr main_v2} : Finset (DevRef τ sig)) ⊆ S5 by decide

/-! ## @main on the TensorCore -/

/-- What @main leaves: the keys as they were, and the result sorted. -/
abbrev FIN (d : Dev nD) : sProp 𝕄 :=
  iprop((xLoc d ↦{fullShare} m (xLoc d)) ∗ ∃ g : Buf (Elt F) (oLoc d), ⌜AllSorted (keysOf m d) g⌝ ∗ oLoc d ↦{fullShare} g)

abbrev PP : (K (F := F)).Pay (nD := nD) (Val := Elt F) (Name := ℕ) (U := UU) := P (keysOf m) (fun d => m (oLoc d))

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S5) sub0 (V := V0 m d)) $$ [Hb Hheld]
  · isplitl [Hb]
    · iexact Hb
    · iexact Hheld
  iintro ⟨Hb, Hheld⟩
  rw [wp_ret]
  imodintro
  iapply (wp_hlo_within 𝒱 (SparseCore.T d) none Set.univ (op := op1) (S := S5) sub1 (V := (op0 (F := F)).result (V0 m d))) $$ [Hb Hheld]
  · isplitl [Hb]
    · iexact Hb
    · iexact Hheld
  iintro ⟨Hb, Hheld⟩
  rw [wp_ret]
  imodintro
  iapply (wp_hlo_within 𝒱 (SparseCore.T d) none Set.univ (op := op2) (S := S5) sub2 (V := (op1 (F := F)).result ((op0 (F := F)).result (V0 m d)))) $$ [Hb Hheld]
  · isplitl [Hb]
    · iexact Hb
    · iexact Hheld
  iintro ⟨Hb, Hheld⟩
  rw [wp_ret]
  imodintro
  ihave Hh := (Entails.of_eq ((held_S5 (F := F) d (V3 m d)).trans (by rw [V3_x, V3_o, V3_k]))) $$ Hheld
  icases Hh with ⟨Hx, -, -, Hk, Ho⟩
  iapply ((K (F := F)).wp_run (D (F := F)) 𝒱 (EH := EH) (P := PP m) κ d 0) $$ [Hst Hk Ho Hx Hb Hts]
  isplitr
  · iexact Hctx
  isplitl [Hst]
  · iexact Hst
  isplitl [Hk Ho]
  · rw [st0_eq]
    isplitl [Hk]
    · iexact Hk
    · iexact Ho
  iintro ⟨Hst, Hdn⟩
  ihave Hdn' := (Entails.of_eq (dn0_eq (keysOf m) (fun d => m (oLoc d)) d)) $$ Hdn
  icases Hdn' with ⟨-, Ho⟩
  imodintro
  isplitl [Hst]
  · iexact Hst
  isplitr [Hb Hts]
  · isplitl [Hx]
    · iexact Hx
    · iapply (out_join (keysOf m) d)
      iexact Ho
  isplitl [Hb] <;> iassumption

/-! ## The run -/

def fq (d : Dev nD) (s' : Phys nD τ sig (Elt F)) : Prop :=
  s'.mem.mem (xLoc d) = m (xLoc d) ∧ AllSorted (keysOf m d) (s'.mem.mem (oLoc d))

theorem hfin (d : Dev nD) (s' : Phys nD τ sig (Elt F)) : iprop(FIN m d ∗ SI s') ⊢ (⌜fq m d s'⌝ : sProp 𝕄) := by
  iintro ⟨⟨Hx, %g, %hg, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := g)) $$ [HSI Ho]
  · isplitl [HSI] <;> iassumption
  icases H with %ho
  ipureintro
  have he : s'.mem.mem (oLoc d) = g := funext fun i => ho i (Finset.mem_univ i)
  exact ⟨funext fun i => hx i (Finset.mem_univ i), he ▸ hg⟩

/-- The run leaves the keys as they were, every counter at zero, and the result listing each row's positions. -/
def QC : PUnit × MemSt nD τ sig (Elt F) → Prop := fun r =>
  (∀ c : Dev nD, r.2.mem (xLoc c) = m (xLoc c) ∧ AllListed (m (xLoc c)) (r.2.mem (oLoc c))) ∧ r.2.sem = fun _ => 0

theorem run_main [∀ e, Nonempty (Elt F e)] : θ_run (Cert.SortIdeal.defs (F := F)) (Cert.SortIdeal.threads (F := F)) ⟨m, fun _ => 0, ρ⟩ (QC m) :=
  SparseCore.Cfg.θ_run_sc_quiescent (K := K (F := F)) (D := D (F := F)) (𝒱 := 𝒱) (EH := EH) (P := PP m) (A := ∅) scFacts v₀
    (fun q hq => match q with | 0 => nomatch hq)
    (fun q _ => match q with | 0 => tileObl _ _ scFacts)
    (fun q _ => match q with | 0 => SparseCore.Cfg.VecSplit.of_plain (vecSplit _ _))
    m ρ main (fun _ => iprop(emp)) (FIN m) (u₀ (F := F)) (sep_elim_left.trans (hu₀ _ _)) (hmain m ρ) (fq m) (hfin m) (QC m)
    (fun _ h hz => ⟨fun c => ⟨(h c).1, allListed (h c).2⟩, hz⟩)

end Cert.SortIdeal.Gen
-- ==== Proof.SortSpec.lean ====
/-
  What the reference computes: the stable sort of a row of keys carrying their positions lists the positions in the order of
  key, then position.
-/
module

public import proofs.«01_k».proof.Proof.Rows
public import Idealize.ShloMosaic.Lib.SortPrefix

@[expose] public section

set_option maxRecDepth 65536

noncomputable section

namespace Cert.Radix

open Idealize.ShloMosaic Idealize.ShloMosaic.ValueIdx

/-! ## A stable sort of positions -/

/-- Two relations that agree on what comes later against what came earlier sort a list alike. -/
theorem stableSort_eq {ι : Type} {R R' : ι → ι → Bool} {l : List ι} (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

theorem sortedFrom_of_positions {n : Nat} {R R' : Fin n → Fin n → Bool} (h : sortPositions n R = sortPositions n R') :
    sortedFrom R = sortedFrom R' := by
  funext k
  unfold sortedFrom
  rw [List.get_of_eq h]
  rfl

/-- Increasing numbers below their count are the places themselves. -/
theorem val_of_increasing {n : Nat} {s : Fin n → Nat} (hs : ∀ p, s p < n) (hm : ∀ i j, i < j → s i < s j) (p : Fin n) : s p = p.val := by
  have hf : StrictMono fun p => (⟨s p, hs p⟩ : Fin n) := fun i j h => hm i j h
  exact le_antisymm (Fin.le_def.1 hf.apply_le) (Fin.le_def.1 hf.le_apply)

section Stable

variable {X : Nat → BitVec 32} {R : Fin 32768 → Fin 32768 → Bool} (hR : ∀ k k', R k k' = decide ((X k).toNat < (X k').toNat))

/-- One position's place before another: its key, then itself. -/
abbrev earlier (X : Nat → BitVec 32) (k k' : Fin 32768) : Bool := decide (order X k < order X k')

include hR in
theorem sortedFrom_earlier : sortedFrom R = sortedFrom (earlier X) := by
  refine sortedFrom_of_positions (stableSort_eq ?_)
  · refine (List.pairwise_lt_finRange 32768).imp fun {a b} hab => ?_
    rw [hR]
    have h1 : a.val < b.val := hab
    have h2 := b.isLt
    have h3 := (X a).isLt
    have h4 := (X b).isLt
    refine decide_eq_decide.2 ?_
    unfold order
    constructor <;> intro h <;> omega

theorem order_sorted {i j : Fin 32768} (h : i < j) : order X (sortedFrom (earlier X) i) < order X (sortedFrom (earlier X) j) := by
  have h1 := sortedFrom_noInversion (earlier X) (earlier X)
    (fun a b hab => decide_eq_false (Nat.not_lt.2 (Nat.le_of_lt (of_decide_eq_true hab)))) (fun _ _ h => h)
    (fun a b c hab hbc => decide_eq_false (Nat.not_lt.2 (Nat.le_trans (Nat.not_lt.1 (of_decide_eq_false hbc)) (Nat.not_lt.1 (of_decide_eq_false hab)))))
    i j h
  refine Nat.lt_of_le_of_ne (Nat.not_lt.1 (of_decide_eq_false h1)) fun e => ?_
  have := sortedFrom_injective (earlier X) (Fin.ext (order_inj (Fin.isLt _) (Fin.isLt _) e))
  exact absurd this (Fin.ne_of_lt h)

/-- The position sorted to place `p` has rank `p`. -/
theorem rank_sorted (p : Fin 32768) : rankOf (order X) (sortedFrom (earlier X) p) = p.val :=
  val_of_increasing (s := fun p => rankOf (order X) (sortedFrom (earlier X) p)) (fun q => rankOf_lt (sortedFrom (earlier X) q).isLt)
    (fun i _ h => rankOf_lt_of_lt (sortedFrom (earlier X) i).isLt (order_sorted h)) p

include hR in
/-- The stable sort by key puts position `i` at its rank. -/
theorem sortedFrom_rank {i : Nat} (hi : i < 32768) : (sortedFrom R ⟨rankOf (order X) i, rankOf_lt hi⟩).val = i := by
  rw [sortedFrom_earlier hR]
  obtain ⟨p, hp⟩ := sortedFrom_surjective (earlier X) ⟨i, hi⟩
  have h := rank_sorted (X := X) p
  rw [hp] at h
  have he : (⟨rankOf (order X) i, rankOf_lt hi⟩ : Fin 32768) = p := Fin.ext h
  rw [he, hp]

end Stable

/-! ## The sort of every row -/

theorem along_row (r : Fin 64) (n k : Fin 32768) : Shape.Idx.along (s := Sx) (ix2 r n) 1 k = ix2 r k := by
  funext a
  unfold Shape.Idx.along
  match a with
  | ⟨0, _⟩ => exact Function.update_of_ne (fun h => Nat.zero_ne_one (congrArg Fin.val h)) _ _
  | ⟨1, _⟩ => exact Function.update_self _ _ _

theorem AllListed.unique {X Y Y' : Sx.Idx → BitVec 32} (h : AllListed X Y) (h' : AllListed X Y') : Y = Y' := by
  funext x
  have e : ∀ (r : Fin 64) (n : Fin 32768), Y (ix2 r n) = Y' (ix2 r n) := fun r n => by
    rw [← rowWords_apply Y, ← rowWords_apply Y']
    exact (h _ r.isLt).unique (h' _ r.isLt) n.isLt
  exact (congrArg Y (eq_ix2 x)).trans ((e _ _).trans (congrArg Y' (eq_ix2 x)).symm)

/-- The stable sort of the rows of `Z` by a comparison that is the one of the words `X`, carrying the positions. -/
theorem sort2_lists {α : Type} (cmp : α × BitVec 32 → α × BitVec 32 → BitVec 1) (X : Sx.Idx → BitVec 32) (Z : Sx.Idx → α) (I : Sx.Idx → BitVec 32)
    (hcmp : ∀ i j, cmp (Z i, I i) (Z j, I j) = IntOp.cmpi .ult (X i) (X j)) (hI : ∀ i, I i = BitVec.ofNat 32 (i 1).val) :
    AllListed X (Host.sort2 Sx 1 cmp Z I).2 := by
  intro r hr i hi
  have hp := rankOf_lt (G := order (rowWords X r)) hi
  have h1 : (1 : Nat) < Sx.rank := by decide
  unfold Host.sort2
  rw [dif_pos h1]
  show (rowWords _ (⟨r, hr⟩ : Fin 64).val (⟨_, hp⟩ : Fin 32768).val).toNat = i
  rw [rowWords_apply]
  refine (congrArg BitVec.toNat (hI _)).trans ?_
  refine (congrArg (fun x : Sx.Idx => (BitVec.ofNat 32 (x 1).val).toNat) (along_row ⟨r, hr⟩ ⟨_, hp⟩ _)).trans ?_
  have hs : ∀ R : Fin 32768 → Fin 32768 → Bool, (∀ k k', R k k' = decide ((rowWords X r k).toNat < (rowWords X r k').toNat)) →
      (BitVec.ofNat 32 (sortedFrom R ⟨_, hp⟩).val).toNat = i := fun R hR => by
    rw [sortedFrom_rank hR hi, BitVec.toNat_ofNat]
    omega
  refine hs _ fun k k' => ?_
  rw [hcmp]
  have hx : ∀ k : Fin 32768, X (Shape.Idx.along (s := Sx) (ix2 (⟨r, hr⟩ : Fin 64) (⟨_, hp⟩ : Fin 32768)) 1 k) = rowWords X r k := fun k =>
    (congrArg X (along_row _ _ k)).trans (rowWords_apply X ⟨r, hr⟩ k).symm
  refine (congrArg₂ (fun a b => IntOp.cmpi .ult a b == 1#1) (hx k) (hx k')).trans ?_
  show (BitVec.ofBool (BitVec.ult _ _) == 1#1) = decide (_ < _)
  unfold BitVec.ult
  cases decide ((rowWords X r k.val).toNat < (rowWords X r k'.val).toNat) <;> rfl

/-- A slice of all of an array is the array. -/
theorem slice_all {s : Shape} {α : Type} (x : s.Idx → α) (h : s.Slices (fun _ => 0) s) : extractStridedSlice s (fun _ => 0) x h = x := by
  unfold extractStridedSlice
  exact funext fun y => congrArg x (funext fun a => Fin.ext (Nat.zero_add _))

/-- Of all of an array, the greatest's positions are those of the sort that carries the positions. -/
theorem topK_all {s : Shape} {α : Type} (d : Fin s.rank) (gt : α → α → BitVec 1) (x : s.Idx → α) (h : s.Slices (fun _ => 0) s) :
    (Host.topK s d.val gt x h).2 = (Host.sort2 s d.val (fun l r : α × BitVec 32 => gt l.1 r.1) x (iotaInDim s 32 d)).2 := by
  unfold Host.topK
  have e : (fun i => if hd : d.val < s.rank then iotaInDim s 32 ⟨d.val, hd⟩ i else 0#32) = iotaInDim s 32 d := funext fun i => dif_pos d.isLt
  dsimp only
  rw [e, slice_all]

/-- So the positions of the greatest of every row, greatest first, equal ones in their own order, where greater is a smaller word. -/
theorem topK_lists {α : Type} (gt : α → α → BitVec 1) (X : Sx.Idx → BitVec 32) (Z : Sx.Idx → α)
    (hgt : ∀ i j, gt (Z i) (Z j) = IntOp.cmpi .ult (X i) (X j)) (h : Sx.Slices (fun _ => 0) Sx) : AllListed X (Host.topK Sx 1 gt Z h).2 := by
  have e := topK_all (s := Sx) 1 gt Z h
  refine Eq.mp (congrArg (AllListed X) e.symm) ?_
  exact sort2_lists _ X Z _ (fun _ _ => hgt _ _) fun _ => rfl

end Cert.Radix
-- ==== Proof.RankedRun.lean ====
/-
  The runs of the reference, read over the bit words and over the extended reals. Both programs are one text: the words of the argument,
  the positions of a row, and the stable sort of the pairs. The two texts name buffers of two signatures, so each is run by itself.
-/
module

public import proofs.«01_k».proof.Proof.SortSpec
public import Idealize.ShloMosaic.Lib.StableHlo.Run
public import proofs.«01_k».proof.Proof.Gen.Ranked
public import proofs.«01_k».proof.Proof.Gen.RankedIdeal

@[expose] public section

noncomputable section

open Idealize.ShloMosaic Idealize.ShloMosaic.TcCoe Idealize.ShloMosaic.StableHlo Idealize.SL.Sem

namespace Cert.Radix

/-- The positions of every row of `X` in the stable order of its words, read unsigned. -/
def argsorted (X : Sx.Idx → BitVec 32) : Sx.Idx → BitVec 32 :=
  (Host.sort2 Sx 1 (fun l r : BitVec 32 × BitVec 32 => IntOp.cmpi .ult l.1 r.1) X (iotaInDim Sx 32 1)).2

theorem argsorted_listed (X : Sx.Idx → BitVec 32) : AllListed X (argsorted X) := sort2_lists _ X X _ (fun _ _ => rfl) fun _ => rfl

end Cert.Radix

namespace Cert.Ranked.Gen

variable {F : FTy → Type} [FloatOps F]

abbrev ops : List (HloOp τ sig (Elt F)) :=
  [ unary main_arg0 main_v0 (id : (⟨S64x32768, .i32⟩ : BufTy).Contents (Elt F) → (⟨S64x32768, .i32⟩ : BufTy).Contents (Elt F)),
    TRef.nullary main_call0.v0 (iotaInDim S64x32768 32 1),
    TRef.binary (.of main_v0) main_call0.v0 main_call0.v1_0 (fun x y => (Host.sort2 S64x32768 1 comparator_i32_i32_d1 x y).1),
    TRef.binary (.of main_v0) main_call0.v0 main_call0.v1_1 (fun x y => (Host.sort2 S64x32768 1 comparator_i32_i32_d1 x y).2) ]

theorem main_eq (c : Dev nD) : main (F := F) c = seq ops := rfl

theorem result_eq (V : Valuation τ sig (Elt F)) :
    after ops V (main_v1 : DevRef τ sig) = Radix.argsorted (V (main_arg0 : DevRef τ sig)) := by
  after_results
  rfl

theorem arg_eq (V : Valuation τ sig (Elt F)) : after ops V (main_arg0 : DevRef τ sig) = V (main_arg0 : DevRef τ sig) := by
  after_results

theorem ops_sub : (ops : List (HloOp τ sig (Elt F))).Forall fun op => op.bufs ⊆ tcRefs τ sig :=
  ⟨unary_bufs_sub .., nullary_bufs_sub .., binary_bufs_sub .., binary_bufs_sub ..⟩

/-- The reference ends with its argument unchanged and every row's positions in the order of its words. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v1) = Radix.argsorted (m ((c.tc : Thread nD τ).loc main_arg0))
        ∧ r.2.mem ((c.tc : Thread nD τ).loc main_arg0) = m ((c.tc : Thread nD τ).loc main_arg0) :=
  (θ_run defs _ _).mono (fun _ h c => ⟨(h c main_v1).trans (result_eq _), (h c main_arg0).trans (arg_eq _)⟩)
    (run_seq (by decide) (by decide) defs main (fun _ => ops) main_eq (fun _ => ops_sub) m ρ)

end Cert.Ranked.Gen

namespace Cert.RankedIdeal.Gen

variable {F : FTy → Type} [FloatOps F]

abbrev ops : List (HloOp τ sig (Elt F)) :=
  [ unary main_arg0 main_v0 (id : (⟨S64x32768, .i32⟩ : BufTy).Contents (Elt F) → (⟨S64x32768, .i32⟩ : BufTy).Contents (Elt F)),
    TRef.nullary main_call0.v0 (iotaInDim S64x32768 32 1),
    TRef.binary (.of main_v0) main_call0.v0 main_call0.v1_0 (fun x y => (Host.sort2 S64x32768 1 comparator_i32_i32_d1 x y).1),
    TRef.binary (.of main_v0) main_call0.v0 main_call0.v1_1 (fun x y => (Host.sort2 S64x32768 1 comparator_i32_i32_d1 x y).2) ]

theorem main_eq (c : Dev nD) : main (F := F) c = seq ops := rfl

theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v1) = Radix.argsorted (m ((c.tc : Thread nD τ).loc main_arg0))
        ∧ r.2.mem ((c.tc : Thread nD τ).loc main_arg0) = m ((c.tc : Thread nD τ).loc main_arg0) :=
  Cert.Ranked.Gen.run_main m ρ

end Cert.RankedIdeal.Gen

end
-- ==== Proof.KeysBody.lean ====
/-
  The means and their keys, one batch at a time: the kernel's body on one block, the block a grid point reads and the block it
  writes, and so the whole array the calls over the grid leave. The keys of a batch are a function of that batch's slab alone.
-/
module

public import proofs.«01_k».proof.Proof.Gen.Kernel.Skeleton
public import proofs.«01_k».proof.Proof.Gen.Kernel.Launch
public import proofs.«01_k».proof.Proof.Gen.Kernel.Points
public import Idealize.ShloMosaic.Lib.Pipeline.Value
public import Idealize.ShloMosaic.Lib.ValueIdxCore
public import Idealize.ShloMosaic.Lib.WritesUnit
public import Idealize.ShloMosaic.Lib.Pipeline.FrameBody
public import Idealize.ShloMosaic.Lib.Pipeline.RegionArrays
public import Idealize.ShloMosaic.Lib.Tactic

@[expose] public section

set_option maxRecDepth 65536

noncomputable section

namespace Cert.Kernel.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
variable {Ix : Type} [DecidableEq Ix] {U : Type} [URA U]

local notation "𝕄" => MT nD τ sig Ix (Elt F) ℕ U ℕ

/-! ## The arrays -/

/-- Batch `b` of the argument. -/
def slab (X : Vec F S64x16x32768 .f32) (b : Fin 64) : Vec F S1x16x32768 .f32 := fun y => X (ix3 b (y 1) (y 2))

/-- Every batch's keys. -/
def batchKeys (X : Vec F S64x16x32768 .f32) : Vec F S64x1x32768 .i32 := fun y => k0_pay1 (slab X (y 0)) (ix3 0 0 (y 2))

/-! ## The body -/

theorem zeros : (![0, 0, 0] : Fin 3 → Nat) = fun _ => 0 := funext fun a => by fin_cases a <;> rfl

theorem wp_keys (c : Dev nD) (i : grid0.Coords) (arg1 : Memref sig .tc .vmem S1x16x32768 .f32) (harg1 : arg1.IsWhole)
    (arg2 : Memref sig .tc .vmem S1x1x32768 .i32) (harg2 : arg2.IsWhole) (x : Vec F S1x16x32768 .f32) (E : Set ℕ) (Q : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (k0_pay1 x)) -∗ Q ⟨⟩))
      ⊢ wp frame (wpE (defs₀ (F := F)) Variants.none c none) E (cc0__keys_kernel i arg1 harg1 arg2 harg2) Q := by
  rw [cc0__keys_kernel_eq_skeleton]; unfold cc0__keys_kernel_skel
  unfold owns
  iintro ⟨⟨%f0, %hf0, H0⟩, ⟨%d1, %f1, -, H1⟩, Hk⟩
  obtain rfl := harg1.eq_unread hf0
  sl_exec
  sl_step
  iapply Hk
  isplitl [H0]
  · iexists _; isplitr
    swap
    · iexact H0
    ipureintro; exact harg1.read_unread _
  iexists _; isplitr
  swap
  · iexact H1
  ipureintro
  rw [View.readAt_eq_ld, harg1.read_unread, View.ld_unit_zero zeros]
  funext y
  exact View.read_writes_cons_unit_of_mem _ _ _ _ _ y y zeros fun a => (Nat.zero_add _).symm

/-! ## The blocks -/

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)

theorem lt_N {n : Nat} (h : n < 64) : n < cfg0.N := h.trans_eq N_0.symm
theorem val_lt (t : Fin cfg0.N) : t.val < 64 := t.isLt.trans_eq N_0

theorem emb0 (t : Fin cfg0.N) (y : S1x16x32768.Idx) : ((cfg0.win 0).blk t).view.emb y = ix3 (⟨t.val, val_lt t⟩ : Fin 64) (y 1) (y 2) := by
  obtain ⟨e0, e1, e2⟩ := index0 t
  have h0 : (y 0).val = 0 := by have := (y 0).isLt; change (y 0).val < 1 at this; omega
  funext a; apply Fin.ext
  match a with
  | ⟨0, _⟩ => show win0_0.index t (0 : Fin 3) * 1 + 1 * (y 0).val = t.val; omega
  | ⟨1, _⟩ => show win0_0.index t (1 : Fin 3) * 16 + 1 * (y 1).val = (y 1).val; omega
  | ⟨2, _⟩ => show win0_0.index t (2 : Fin 3) * 32768 + 1 * (y 2).val = (y 2).val; omega

theorem emb1 (t : Fin cfg0.N) (y : S1x1x32768.Idx) : ((cfg0.win 1).blk t).view.emb y = ix3 (⟨t.val, val_lt t⟩ : Fin 64) 0 (y 2) := by
  obtain ⟨e0, e1, e2⟩ := index1 t
  have h0 : (y 0).val = 0 := by have := (y 0).isLt; change (y 0).val < 1 at this; omega
  have h1 : (y 1).val = 0 := by have := (y 1).isLt; change (y 1).val < 1 at this; omega
  funext a; apply Fin.ext
  match a with
  | ⟨0, _⟩ => show win0_1.index t (0 : Fin 3) * 1 + 1 * (y 0).val = t.val; omega
  | ⟨1, _⟩ => show win0_1.index t (1 : Fin 3) * 1 + 1 * (y 1).val = 0; omega
  | ⟨2, _⟩ => show win0_1.index t (2 : Fin 3) * 32768 + 1 * (y 2).val = (y 2).val; omega

/-- The block a grid point reads. -/
theorem read_blk0 (X : Vec F S64x16x32768 .f32) (t : Fin cfg0.N) : ((cfg0.win 0).blk t).view.read (Elt F) X = slab X ⟨t.val, val_lt t⟩ := by
  funext y
  show X (((cfg0.win 0).blk t).view.emb y) = _
  rw [emb0]; rfl

/-- The block a grid point writes, in the whole of the keys. -/
theorem read_blk1 (X : Vec F S64x16x32768 .f32) (t : Fin cfg0.N) :
    ((cfg0.win 1).blk t).view.read (Elt F) (batchKeys X) = k0_pay1 (slab X ⟨t.val, val_lt t⟩) := by
  funext y
  show batchKeys X (((cfg0.win 1).blk t).view.emb y) = _
  rw [emb1]
  unfold batchKeys
  refine congrArg (k0_pay1 (slab X ⟨t.val, val_lt t⟩)) (funext fun a => Fin.ext ?_)
  match a with
  | ⟨0, _⟩ => show 0 = (y 0).val; have := (y 0).isLt; change (y 0).val < 1 at this; omega
  | ⟨1, _⟩ => show 0 = (y 1).val; have := (y 1).isLt; change (y 1).val < 1 at this; omega
  | ⟨2, _⟩ => rfl

/-- Every key is in some grid point's block. -/
theorem covered1 (y : S64x1x32768.Idx) : ∃ t : Fin cfg0.N, (cfg0.win 1).flush t = true ∧ y ∈ ((cfg0.win 1).blk t).view.set := by
  have hb : (y 0).val < 64 := (y 0).isLt
  refine ⟨⟨(y 0).val, lt_N hb⟩, flush0_1 _, ?_⟩
  have h := ((cfg0.win 1).blk ⟨(y 0).val, lt_N hb⟩).view.emb_mem_set (ix3 0 0 (y 2) : S1x1x32768.Idx)
  rw [emb1] at h
  refine (congrArg (· ∈ ((cfg0.win 1).blk ⟨(y 0).val, lt_N hb⟩).view.set) (funext fun a => Fin.ext ?_)).mp h
  match a with
  | ⟨0, _⟩ => rfl
  | ⟨1, _⟩ => show 0 = (y 1).val; have := (y 1).isLt; change (y 1).val < 1 at this; omega
  | ⟨2, _⟩ => rfl

/-! ## The pipeline's data -/

section Data

variable (W : (c : Dev nD) → (b : Ref sig .tc) → Buf (Elt F) ((c : Thread nD τ).loc b))
variable (owed : Dev nD → CellTallies nD τ sig Ix) (rec : Dev nD → Set (SemLoc sig × Ix)) (ι : Ix)

/-- The calls over the grid, from buffers `W`: what is owed elsewhere stays owed throughout. -/
def dats (_ : Fin 1) (c : Dev nD) : Dat τ (Elt F) Ix ℕ U ℕ cfg0 c where
  A w := W c (Pipeline.arrRef spec0 w)
  after w t := match w with
    | ⟨0, _⟩ => slab (W c main_arg0) ⟨t.val, val_lt t⟩
    | ⟨1, _⟩ => k0_pay1 (slab (W c main_arg0) ⟨t.val, val_lt t⟩)
  Φ _ := BI.emp
  q _ := fullShare
  owed _ := owed c
  recorded _ := rec c

theorem after0 (c : Dev nD) (t : Fin cfg0.N) : (dats (F := F) (U := U) W owed rec 0 c).after 0 t = slab (W c main_arg0) ⟨t.val, val_lt t⟩ := by
  dsimp only [dats]
theorem after1 (c : Dev nD) (t : Fin cfg0.N) : (dats (F := F) (U := U) W owed rec 0 c).after 1 t = k0_pay1 (slab (W c main_arg0) ⟨t.val, val_lt t⟩) := by
  dsimp only [dats]

theorem before0 (c : Dev nD) (t : Fin cfg0.N) (d) : (dats (F := F) (U := U) W owed rec 0 c).before 0 t d = slab (W c main_arg0) ⟨t.val, val_lt t⟩ :=
  ((dats (F := F) (U := U) W owed rec 0 c).before_in_eq_fetched 0 rfl (fun _ => rfl) (fun _ _ _ => rfl)
    (fun t => by dsimp only [dats]; unfold Dat.blockOf; exact (read_blk0 (W c main_arg0) t).symm) t d).trans
    (by unfold Dat.fetched Dat.blockOf; exact read_blk0 (W c main_arg0) t)

theorem final_keys (c : Dev nD) : (dats (F := F) (U := U) W owed rec 0 c).arrAt 1 cfg0.N = batchKeys (W c main_arg0) :=
  (dats (F := F) (U := U) W owed rec 0 c).arrAt_eq_of_cover 1 (batchKeys (W c main_arg0))
    (fun t _ => by
      show (cfg0.win 1).cut (grid0.coords t) ((dats (F := F) (U := U) W owed rec 0 c).after 1 t) = _
      rw [read_blk1]; dsimp only [dats]; rfl) covered1

/-- The body table's row at a point is the body as it is called there. -/
theorem defs₀_row (t : Fin cfg0.N) : defs₀ (F := F) .tc cfg0.body (cfg0.bodyArgs t (cfg0.slots t)) = bodyAt0 t := by
  rfl

theorem sound_body (c : Dev nD) (t : Fin cfg0.N) :
    iprop((dats (F := F) (U := U) W owed rec 0 c).Φ t.castSucc ∗ (dats (F := F) (U := U) W owed rec 0 c).owesAt ι t.castSucc
        ∗ (∃ d, owns (c : Thread nD τ) (st0_0 t) fullShare ((dats (F := F) (U := U) W owed rec 0 c).before 0 t d))
        ∗ (∃ d, owns (c : Thread nD τ) (st0_1 t) fullShare ((dats (F := F) (U := U) W owed rec 0 c).before 1 t d)))
      ⊢ wp frame (wpE (defs₀ (F := F)) Variants.none c none) Set.univ (bodyAt0 t) fun _ =>
        iprop((dats (F := F) (U := U) W owed rec 0 c).Φ t.succ ∗ (dats (F := F) (U := U) W owed rec 0 c).owesAt ι t.succ
          ∗ owns (c : Thread nD τ) (st0_0 t) fullShare ((dats (F := F) (U := U) W owed rec 0 c).after 0 t)
          ∗ owns (c : Thread nD τ) (st0_1 t) fullShare ((dats (F := F) (U := U) W owed rec 0 c).after 1 t)) := by
  rw [show (dats (F := F) (U := U) W owed rec 0 c).Φ t.succ = (dats (F := F) (U := U) W owed rec 0 c).Φ t.castSucc from rfl,
    show (dats (F := F) (U := U) W owed rec 0 c).owesAt ι t.succ = (dats (F := F) (U := U) W owed rec 0 c).owesAt ι t.castSucc from rfl,
    after0, after1]
  simp only [before0]
  iintro ⟨HΦ, Ho, ⟨%d0, H0⟩, ⟨%d1, H1⟩⟩
  iapply (wp_keys c _ _ _ _ _ (slab (W c main_arg0) ⟨t.val, val_lt t⟩) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) :
    BodyObligation (dats (F := F) (U := U) W owed rec 0 c) (defs₀ (F := F)) Variants.none ι Set.univ := fun t => by
  rw [bigSep_W0, bigSep_W0, defs₀_row]
  exact triple_restated (sound_body W owed rec ι c t) rfl .rfl fun _ => .rfl

end Data

end Cert.Kernel.Gen

end
-- ==== Proof.WholeTile.lean ====
/-
  The tile body of the whole kernel's sort: it is the tile program of `Proof/Tile.lean` at
  the printed shapes and offsets, so its run is `wp_tileProg`'s — each tile takes two rows of the keys and two rows of the
  result, and brings back the same rows of the keys and the result's rows sorted.
-/
module

public import proofs.«01_k».proof.Proof.Seats
public import proofs.«01_k».proof.Proof.Gen.Kernel
public import proofs.«01_k».proof.Proof.Gen.Kernel.Skeleton
public import Idealize.ShloMosaic.Lib.SparseCore.Quiescent
public import Idealize.ShloMosaic.Lib.StableHlo.Run
public import Idealize.ShloMosaic.Lib.Pipeline.Kit
public import Idealize.ShloMosaic.Lib.Tactic

@[expose] public section

set_option maxRecDepth 65536

noncomputable section

namespace Cert.Kernel.Gen

open Cert.Radix
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-! ## The body is the tile program -/

/-- The lane numbers the body counts by. -/
abbrev lane : IVec S16 32 := iota .scVector S16 32 [0] iota_S16_d0_w32_scVector

theorem lane_val (j : Fin 16) : (at' lane j).toNat = j.val := by
  revert j
  decide

section Body

variable (i : grid1.Coords) {arg2 arg3 : Memref sig .scVector .hbm S64x32768 .i32} (harg2 : arg2.IsWhole) (harg3 : arg3.IsWhole)
variable {arg4 arg5 arg6 : Memref sig .scVector .vmem S32768 .i32} (harg4 : arg4.IsWhole) (harg5 : arg5.IsWhole) (harg6 : arg6.IsWhole)
variable {arg7 arg8 : Memref sig .scVector .vmem S4096 .i32} (harg7 : arg7.IsWhole) (harg8 : arg8.IsWhole) (arg9 arg10 : DmaSems sig S_)

set_option maxHeartbeats 0 in
theorem body_eq : cc1_body (F := F) i arg2 harg2 arg3 harg3 arg4 harg4 arg5 harg5 arg6 harg6 arg7 harg7 arg8 harg8 arg9 arg10
    = tileProg lane slices_S16_o15_S1 inpos_S1_p0 squeezes_S1x32768_S32768 arg4 arg5 arg6 arg7 arg8 arg2 arg3 harg4 harg6 arg9.sem arg10.sem
        (k1_off1 i) (k1_off69 i) (k1_off137 i 0#32) (k1_off137 i 1#32)
        (k1_off1_inb i) (k1_off69_inb i) (k1_off137_inb i 0) (k1_off137_inb i 1) := by
  rw [cc1_body_eq_skeleton]
  unfold cc1_body_skel
  rw [k1_part143_eq_skeleton, k1_part144_eq_skeleton, k1_part145_eq_skeleton, k1_part146_eq_skeleton]
  unfold k1_part143_skel k1_part144_skel k1_part145_skel k1_part146_skel tileProg rowHead rowTail
  simp only [bind_assoc, pure_bind]
  rfl

end Body

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [BitOps F] in
theorem scFacts [BitOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## What a tile is given and what it brings back -/

/-- The keys laid out for the tiles, and the result. -/
abbrev kLoc (d : Dev nD) : Loc nD τ sig := (SparseCore.T d).loc main_v4
abbrev oLoc (d : Dev nD) : Loc nD τ sig := (SparseCore.T d).loc main_v5

-- the keys and the result's contents when the kernel is called, by device
variable (ks : (d : Dev nD) → Buf (Elt F) (kLoc d)) (os : (d : Dev nD) → Buf (Elt F) (oLoc d))

abbrev kRow (d : Dev nD) (r : Nat) : sProp 𝕄 := kLoc d ↦[rowSet r]{fullShare} ks d
abbrev oRow (d : Dev nD) (f : Buf (Elt F) (oLoc d)) (r : Nat) : sProp 𝕄 := oLoc d ↦[rowSet r]{fullShare} f
/-- Row `r` of the result, sorted by row `r` of the keys. -/
abbrev oDone (d : Dev nD) (r : Nat) : sProp 𝕄 :=
  iprop(∃ f : Buf (Elt F) (oLoc d), ⌜RowSorted (rowWords (ks d) r) (rowWords f r)⌝ ∗ oRow d f r)

abbrev given (d : Dev nD) (c i : Nat) : sProp 𝕄 :=
  iprop((kRow ks d (firstRow c i) ∗ kRow ks d (firstRow c i + 1)) ∗ (oRow d (os d) (firstRow c i) ∗ oRow d (os d) (firstRow c i + 1)))
abbrev back (d : Dev nD) (c i : Nat) : sProp 𝕄 :=
  iprop((kRow ks d (firstRow c i) ∗ kRow ks d (firstRow c i + 1)) ∗ (oDone ks d (firstRow c i) ∗ oDone ks d (firstRow c i + 1)))

/-! ## The tile -/

section Tile

variable (d : Dev nD) (L : grid1.Coords)

/-- The coordinates of a tile. -/
def coordsV (c : Fin (grid1.bound 0)) (s : Fin (grid1.bound 1)) : grid1.Coords :=
  fun | 0 => c | 1 => s | ⟨_ + 2, h⟩ => absurd h (Nat.not_lt.2 (Nat.le_add_left _ _))

abbrev cV : Fin τ.nSC := (L 0).castLE hcore1
abbrev jV : Fin τ.nSub := (L 1).castLE hsub1

local notation "kV" => (Memref.whole Cert.Kernel.main_v4_scv : Memref Cert.Kernel.sig Kind.scVector Space.hbm Cert.Kernel.S64x32768 EltTy.i32)
local notation "oV" => (Memref.whole Cert.Kernel.main_v5_scv : Memref Cert.Kernel.sig Kind.scVector Space.hbm Cert.Kernel.S64x32768 EltTy.i32)

abbrev kRef (off : Fin 2 → Nat) (inb : ∀ a, off a + Srow.size a ≤ Sx.size a) : Memref sig .scVector .hbm Sk .i32 := rowRef kV off inb squeezes_S1x32768_S32768
abbrev oRef (off : Fin 2 → Nat) (inb : ∀ a, off a + Srow.size a ≤ Sx.size a) : Memref sig .scVector .hbm Sk .i32 := rowRef oV off inb squeezes_S1x32768_S32768

variable {off : Fin 2 → Nat} {inb : ∀ a, off a + Srow.size a ≤ Sx.size a} {r : Nat}

theorem rowAt_kRef (h : off = ![r, 0]) (f : Buf (Elt F) (kLoc d)) :
    (rowAt d (cV L) (jV L) (kRef off inb) f : sProp 𝕄) = kLoc d ↦[rowSet r]{fullShare} f := by
  have hs : (kRef off inb).view.set = rowSet r := (set_rowRef h).trans (Finset.map_refl)
  show ((kRef off inb).view.loc (V d (cV L) (jV L)) ↦[(kRef off inb).view.set]{fullShare} f : sProp 𝕄) = _
  rw [hs]
  rfl

theorem rowAt_oRef (h : off = ![r, 0]) (f : Buf (Elt F) (oLoc d)) :
    (rowAt d (cV L) (jV L) (oRef off inb) f : sProp 𝕄) = oRow d f r := by
  have hs : (oRef off inb).view.set = rowSet r := (set_rowRef h).trans (Finset.map_refl)
  show ((oRef off inb).view.loc (V d (cV L) (jV L)) ↦[(oRef off inb).view.set]{fullShare} f : sProp 𝕄) = _
  rw [hs]
  rfl

theorem words_kRef (h : off = ![r, 0]) (hr : r < 64) (f : Buf (Elt F) (kLoc d)) :
    wordsOf (d := d) (co := cV L) (su := jV L) (kRef off inb) f = rowWords f r :=
  wordsOf_rowRef (m := kV) (inb := inb) (hsq := squeezes_S1x32768_S32768) (d := d) (co := cV L) (su := jV L) h hr f

theorem words_oRef (h : off = ![r, 0]) (hr : r < 64) (f : Buf (Elt F) (oLoc d)) :
    wordsOf (d := d) (co := cV L) (su := jV L) (oRef off inb) f = rowWords f r :=
  wordsOf_rowRef (m := oV) (inb := inb) (hsq := squeezes_S1x32768_S32768) (d := d) (co := cV L) (su := jV L) h hr f

theorem rowDone_oRef (h : off = ![r, 0]) (hr : r < 64) :
    (rowDone d (cV L) (jV L) (oRef off inb) (rowWords (ks d) r) : sProp 𝕄) ⊢ oDone ks d r := by
  iintro ⟨%f, %hf, H⟩
  iexists f
  isplitr [H]
  · ipureintro
    rw [← words_oRef (F := F) d L h hr f]
    exact hf
  · iapply (Entails.of_eq (rowAt_oRef (F := F) d L h f))
    iexact H

theorem first_lt : firstRow (L 0).val (L 1).val + 1 < 64 := by
  have h0 : (L 0).val < 2 := (L 0).isLt
  have h1 : (L 1).val < 16 := (L 1).isLt
  show 4 * (L 1).val + 2 * (L 0).val + 1 < 64
  omega

theorem out0_eq : k1_off137 L 0#32 = ![firstRow (L 0).val (L 1).val, 0] := by
  have h := k1_off137_eq L 0
  exact h

theorem out1_eq : k1_off137 L 1#32 = ![firstRow (L 0).val (L 1).val + 1, 0] := by
  have h := k1_off137_eq L 1
  exact h

/-- The tile's two semaphores. -/
abbrev kCell (d : Dev nD) (c : Fin τ.nSC) (i : Fin τ.nSub) : GSem nD τ sig := (V d c i, .dma cc1_scratch5.sem)
abbrev oCell (d : Dev nD) (c : Fin τ.nSC) (i : Fin τ.nSub) : GSem nD τ sig := (V d c i, .dma cc1_scratch6.sem)

omit [BitOps F] in
theorem ownSems0_V :
    (ownSems0 (V d (cV L) (jV L)) : sProp 𝕄)
      = iprop(semVal (kCell d (cV L) (jV L)) 0 ∗ semVal (oCell d (cV L) (jV L)) 0
          ∗ bigSep (((ownCells (V d (cV L) (jV L))).erase (kCell d (cV L) (jV L))).erase (oCell d (cV L) (jV L))) fun g => semVal g 0) := by
  unfold SparseCore.Cfg.ownSems0
  rw [SparseCore.bigSep_erase' ((mem_ownCells (g := kCell d (cV L) (jV L))).mpr ⟨rfl, by
      show (SemLoc.dma cc1_scratch5.sem : SemLoc sig).isScoped .scVector = true; decide⟩),
    SparseCore.bigSep_erase' (Finset.mem_erase.mpr ⟨by simp [kCell, oCell]; decide, (mem_ownCells (g := oCell d (cV L) (jV L))).mpr ⟨rfl, by
      show (SemLoc.dma cc1_scratch6.sem : SemLoc sig).isScoped .scVector = true; decide⟩⟩)]

/-- The reference of a tile's own buffer. -/
abbrev dref (b : Ref sig .scVector) : DevRef τ sig := (Proc.scVector (cV L) (jV L)).devRef b
/-- The tile's other buffers. -/
abbrev restRefs : Finset (DevRef τ sig) :=
  (((((ownRefs (τ := τ) (.scVector (cV L) (jV L))).erase (dref L cc1_scratch0)).erase (dref L cc1_scratch1)).erase (dref L cc1_scratch2)).erase
    (dref L cc1_scratch3)).erase (dref L cc1_scratch4)

omit [BitOps F] in
theorem dref_ne {b b' : Ref sig .scVector} (h : b ≠ b') : dref L b ≠ dref L b' := fun e => h (Proc.devRef_injective _ e)

omit [BitOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f)
          ∗ bigSep (restRefs L) fun b => iprop(∃ f, ((d, b) : Loc nD τ sig) ↦{fullShare} f)) := by
  have hin : ∀ b : Ref sig .scVector, (dref L b).owner = .proc (.scVector (cV L) (jV L)) → dref L b ∈ ownRefs (τ := τ) (.scVector (cV L) (jV L)) :=
    fun b h => SparseCore.Cfg.mem_ownRefs_of_owner (p := Proc.scVector (cV L) (jV L)) (b := dref L b) h
  have n10 := dref_ne L (show (cc1_scratch1 : Ref sig .scVector) ≠ cc1_scratch0 by decide)
  have n20 := dref_ne L (show (cc1_scratch2 : Ref sig .scVector) ≠ cc1_scratch0 by decide)
  have n21 := dref_ne L (show (cc1_scratch2 : Ref sig .scVector) ≠ cc1_scratch1 by decide)
  have n30 := dref_ne L (show (cc1_scratch3 : Ref sig .scVector) ≠ cc1_scratch0 by decide)
  have n31 := dref_ne L (show (cc1_scratch3 : Ref sig .scVector) ≠ cc1_scratch1 by decide)
  have n32 := dref_ne L (show (cc1_scratch3 : Ref sig .scVector) ≠ cc1_scratch2 by decide)
  have n40 := dref_ne L (show (cc1_scratch4 : Ref sig .scVector) ≠ cc1_scratch0 by decide)
  have n41 := dref_ne L (show (cc1_scratch4 : Ref sig .scVector) ≠ cc1_scratch1 by decide)
  have n42 := dref_ne L (show (cc1_scratch4 : Ref sig .scVector) ≠ cc1_scratch2 by decide)
  have n43 := dref_ne L (show (cc1_scratch4 : Ref sig .scVector) ≠ cc1_scratch3 by decide)
  unfold SparseCore.Cfg.ownBufs
  refine (SparseCore.bigSep_erase' (hin cc1_scratch0 rfl)).trans ?_
  rw [SparseCore.bigSep_erase' (Finset.mem_erase.mpr ⟨n10, hin cc1_scratch1 rfl⟩),
    SparseCore.bigSep_erase' (Finset.mem_erase.mpr ⟨n21, Finset.mem_erase.mpr ⟨n20, hin cc1_scratch2 rfl⟩⟩),
    SparseCore.bigSep_erase' (Finset.mem_erase.mpr ⟨n32, Finset.mem_erase.mpr ⟨n31, Finset.mem_erase.mpr ⟨n30, hin cc1_scratch3 rfl⟩⟩⟩),
    SparseCore.bigSep_erase' (Finset.mem_erase.mpr ⟨n43, Finset.mem_erase.mpr ⟨n42, Finset.mem_erase.mpr ⟨n41, Finset.mem_erase.mpr ⟨n40, hin cc1_scratch4 rfl⟩⟩⟩⟩)]

/-- The tile's scratch, whole at some contents, in the two spellings. -/
theorem any_scratch {n : Nat} (b : Memref sig .scVector .vmem ⟨1, ![n]⟩ .i32) (hb : b.IsWhole) :
    (iprop(∃ f : Buf (Elt F) (b.view.loc (V d (cV L) (jV L))), b.view.loc (V d (cV L) (jV L)) ↦{fullShare} f) : sProp 𝕄)
      ⊢ any d (cV L) (jV L) b := any_of_whole (d := d) (co := cV L) (su := jV L) hb
theorem scratch_any {n : Nat} (b : Memref sig .scVector .vmem ⟨1, ![n]⟩ .i32) (hb : b.IsWhole) :
    any d (cV L) (jV L) b
      ⊢ (iprop(∃ f : Buf (Elt F) (b.view.loc (V d (cV L) (jV L))), b.view.loc (V d (cV L) (jV L)) ↦{fullShare} f) : sProp 𝕄) :=
  whole_of_any (d := d) (co := cV L) (su := jV L) hb

theorem tile_body (hF : (K (F := F)).Facts) (O : CellTallies nD τ sig (HIx 1)) (W : Waits sig (HIx 1)) (hO : ∀ g, O g none = 0) :
    iprop(levAts (K (F := F)).L (K (F := F)).lev ∗ emp ∗ given ks os d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_body L kV (Memref.isWhole_whole _) oV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) cc1_scratch5 cc1_scratch6)
          fun _ => iprop(back ks d (L 0).val (L 1).val
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hr1 := first_lt L
  have hr0 : firstRow (L 0).val (L 1).val < 64 := by omega
  rw [(K (F := F)).scopedBufs_V hF d (cV L) (jV L), SparseCore.Cfg.scopedSems0_V (Val := Elt F) d (cV L) (jV L), ownSems0_V, ownBufs_V, body_eq]
  iintro ⟨#Hlv, -, ⟨⟨Hk0, Hk1⟩, ⟨Ho0, Ho1⟩⟩, ⟨H0, H1, H2, H3, H4, Hbufs⟩, ⟨Hks, Hos, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_last (defs := defs₀ (F := F)) 𝒱₀ none Set.univ (wp_tileProg (defs := defs₀ (F := F)) 𝒱₀ none countersEmb (default : HIx 1) lane_val
    (d := d) (co := cV L) (su := jV L) (f0 := ks d) (f1 := ks d) (g0 := os d) (g1 := os d) (O := O) (W := W)))
  isplitl [Hk0 Hk1 Ho0 Ho1 H0 H1 H2 H3 H4 Hks Hos HO Hmw]
  · isplitl [Hmw]
    · iexact Hmw
    isplitl [Hk0 Hk1]
    · isplitl [Hk0]
      · iapply (Entails.of_eq (rowAt_kRef (F := F) d L (k1_off1_eq L) _).symm)
        iexact Hk0
      · iapply (Entails.of_eq (rowAt_kRef (F := F) d L (k1_off69_eq L) _).symm)
        iexact Hk1
    isplitl [Ho0 Ho1]
    · isplitl [Ho0]
      · iapply (Entails.of_eq (rowAt_oRef (F := F) d L (out0_eq L) _).symm)
        iexact Ho0
      · iapply (Entails.of_eq (rowAt_oRef (F := F) d L (out1_eq L) _).symm)
        iexact Ho1
    isplitr [HO]
    · isplitl [H0]
      · iapply (any_scratch (F := F) d L (Memref.whole cc1_scratch0) (Memref.isWhole_whole _)); iexact H0
      isplitl [H1]
      · iapply (any_scratch (F := F) d L (Memref.whole cc1_scratch1) (Memref.isWhole_whole _)); iexact H1
      isplitl [H2]
      · iapply (any_scratch (F := F) d L (Memref.whole cc1_scratch2) (Memref.isWhole_whole _)); iexact H2
      isplitl [H3]
      · iapply (any_scratch (F := F) d L (Memref.whole cc1_scratch3) (Memref.isWhole_whole _)); iexact H3
      isplitl [H4]
      · iapply (any_scratch (F := F) d L (Memref.whole cc1_scratch4) (Memref.isWhole_whole _)); iexact H4
      isplitl [Hks]
      · iexact Hks
      · iexact Hos
    · iexact HO
  rw [words_kRef (F := F) d L (k1_off1_eq L) hr0, words_kRef (F := F) d L (k1_off69_eq L) hr1]
  iintro %_ ⟨⟨Hk0, Hk1⟩, ⟨Ho0, Ho1⟩, ⟨H0, H1, H2, H3, H4, Hks, Hos⟩, %W', %hW, HO⟩
  isplitl [Hk0 Hk1 Ho0 Ho1]
  · isplitl [Hk0 Hk1]
    · isplitl [Hk0]
      · iapply (Entails.of_eq (rowAt_kRef (F := F) d L (k1_off1_eq L) _))
        iexact Hk0
      · iapply (Entails.of_eq (rowAt_kRef (F := F) d L (k1_off69_eq L) _))
        iexact Hk1
    · isplitl [Ho0]
      · iapply (rowDone_oRef (F := F) ks d L (out0_eq L) hr0)
        iexact Ho0
      · iapply (rowDone_oRef (F := F) ks d L (out1_eq L) hr1)
        iexact Ho1
  isplitl [H0 H1 H2 H3 H4 Hbufs]
  · isplitl [H0]
    · iapply (scratch_any (F := F) d L (Memref.whole cc1_scratch0) (Memref.isWhole_whole _)); iexact H0
    isplitl [H1]
    · iapply (scratch_any (F := F) d L (Memref.whole cc1_scratch1) (Memref.isWhole_whole _)); iexact H1
    isplitl [H2]
    · iapply (scratch_any (F := F) d L (Memref.whole cc1_scratch2) (Memref.isWhole_whole _)); iexact H2
    isplitl [H3]
    · iapply (scratch_any (F := F) d L (Memref.whole cc1_scratch3) (Memref.isWhole_whole _)); iexact H3
    isplitl [H4]
    · iapply (scratch_any (F := F) d L (Memref.whole cc1_scratch4) (Memref.isWhole_whole _)); iexact H4
    · iexact Hbufs
  isplitl [Hks Hos Hsems]
  · isplitl [Hks]
    · iexact Hks
    isplitl [Hos]
    · iexact Hos
    · iexact Hsems
  iexists W'
  isplitr [HO]
  · ipureintro
    intro p hp
    exact (hW p hp).imp id Or.inl
  · iexact HO

/-! ## The obligation -/

theorem defs₀_vector (c : Fin τ.nSC) (s : Fin τ.nSub) :
    defs₀ (F := F) (.scVector c s) 1 ()
      = SparseCore.onTile hcore1 hsub1 (fun c s => cc1_body (coordsV c s) kV (Memref.isWhole_whole _) oV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) cc1_scratch5 cc1_scratch6) ⟨⟩ c s := rfl

end Tile

/-! ## The handshakes' payloads -/

/-- A call hands each core its tiles' rows, and each tile its own; nothing else is dealt. -/
def P : (K (F := F)).Pay (nD := nD) (Val := Elt F) (Name := ℕ) (U := UU) where
  st := fun q d c => match q with | 0 => bigSep Finset.univ fun i : Fin 16 => given ks os d c.val i.val
  dn := fun q d c => match q with | 0 => bigSep Finset.univ fun i : Fin 16 => back ks d c.val i.val
  go := fun q d c i => match q with | 0 => given ks os d c.val i.val
  td := fun q d c i => match q with | 0 => back ks d c.val i.val
  x := fun _ _ => iprop(emp)

instance P_storable : (P (F := F) ks os).IsStorable where
  st q d c := match q with
    | 0 => (inferInstance : BI.Storable (upEmb : UEmb _ 𝕄) (bigSep Finset.univ fun i : Fin 16 => given ks os d c.val i.val))
  dn q d c := match q with
    | 0 => (inferInstance : BI.Storable (upEmb : UEmb _ 𝕄) (bigSep Finset.univ fun i : Fin 16 => back ks d c.val i.val))
  go q d c i := match q with | 0 => (inferInstance : BI.Storable (upEmb : UEmb _ 𝕄) (given ks os d c.val i.val))
  td q d c i := match q with | 0 => (inferInstance : BI.Storable (upEmb : UEmb _ 𝕄) (back ks d c.val i.val))

theorem tileObl (hF : (K (F := F)).Facts) : (K (F := F)).TileObl (D (F := F)) 𝒱 (P ks os) v₀ 0 := by
  intro d c i O W hO _ _
  simp only [show (P ks os).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body ks os d (coordsV ⟨_, hci.1⟩ ⟨_, hci.2⟩) hF O W hO

theorem vecSplit : (K (F := F)).VecSplit' (P ks os) 0 := by
  intro d c
  show (bigSep Finset.univ fun i : Fin 16 => given ks os d c.val i.val) ⊢ |={Set.univ}=> iprop(
      (bigSep Finset.univ fun i : Fin 16 => given ks os d c.val i.val)
      ∗ ((bigSep Finset.univ fun i : Fin 16 => back ks d c.val i.val) -∗ (bigSep Finset.univ fun i : Fin 16 => back ks d c.val i.val)))
  iintro H
  imodintro
  isplitl [H]
  · iexact H
  iintro H
  iexact H

end Cert.Kernel.Gen
-- ==== Proof.KeysRegion.lean ====
/-
  The keys kernel inside the whole program: its calls over the grid as one region of @main, entered while the TensorCore still owes
  the SparseCores their start, and left with the keys of every batch in the array the host lays out next.
-/
module

public import proofs.«01_k».proof.Proof.KeysBody
public import proofs.«01_k».proof.Proof.WholeTile

@[expose] public section

set_option maxRecDepth 65536

noncomputable section

namespace Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig (HIx 1) (Elt F) ℕ UU ℕ

variable (m : (ℓ : Loc nD τ sig) → Buf (Elt F) ℓ)

/-- The argument, and the keys by batch. -/
abbrev xLoc (d : Dev nD) : Loc nD τ sig := (SparseCore.T d).loc main_arg0
abbrev yLoc (d : Dev nD) : Loc nD τ sig := (SparseCore.T d).loc main_v0

abbrev adm : (p : Fin 1) → (pcfgs (F := F) p).Adm := fun q => (cfgs q).toPCfg_adm

/-- The pairs a TensorCore has waited at before its first SparseCore call. -/
abbrev low (c : Dev nD) : Set (SemLoc sig × HIx 1) := {p | (K (F := F)).lev (T c, p.1) p.2 ≤ 8 * 0}

abbrev pdats : (p : Fin 1) → (c : Dev nD) → Dat τ (Elt F) (HIx 1) ℕ UU ℕ (Pipeline.pin (pcfgs (F := F)) adm p) c :=
  fun p c => dats (fun c b => m ((c : Thread nD τ).loc b)) (fun c => (K (F := F)).Otc c 0) (low (F := F)) p c

theorem owes_none (c : Dev nD) (g : GSem nD τ sig) : (K (F := F)).Otc c 0 g none = 0 := by
  by_contra h
  have := (K (F := F)).lev_of_Otc_pos (Nat.pos_of_ne_zero h)
  rw [SparseCore.Cfg.lev_none] at this
  omega

/-- What the TensorCore owes before its first SparseCore call, its waits so far below it. -/
abbrev owing (c : Dev nD) : sProp 𝕄 := iprop(∃ W, ⌜(K (F := F)).WBelow (T c) W (8 * 0)⌝ ∗ owes (T c) ((K (F := F)).Otc c 0) W)

theorem arrays_two (c : Dev nD) (G : (w : Fin 2) → Buf (Elt F) (((cfg0.win w).arr.view.loc (c.tc : Thread nD τ)))) :
    ((pdats m 0 c).arrays G : sProp 𝕄) = iprop((xLoc c ↦{fullShare} G 0) ∗ yLoc c ↦{fullShare} G 1) := by
  rw [Pipeline.arrays_eq (Pipeline.pin (pcfgs (F := F)) adm) (pdats m) 0 c launch0.arr_whole ((pdats m 0 c).share_full fun _ => rfl) G]
  exact bigSep_W0 _

set_option backward.isDefEq.respectTransparency.types false in
/-- The region. -/
def keysRegion : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation _ _ _ none c).loose
  hwaits c := Pipeline.cellsWaits_intro (Pipeline.pin (pcfgs (F := F)) adm) (pdats m) none 0 c fun w s t =>
    (K (F := F)).mayWait_none _ (owes_none c)
  pre c := iprop((xLoc c ↦{fullShare} m (xLoc c)) ∗ (yLoc c ↦{fullShare} m (yLoc c)) ∗ owing (F := F) c)
  post c := iprop((xLoc c ↦{fullShare} m (xLoc c)) ∗ (yLoc c ↦{fullShare} batchKeys (m (xLoc c))) ∗ owing (F := F) c)
  X _ := BI.emp
  Y _ := BI.emp
  Z _ := BI.emp
  hentry c := by
    rw [Pipeline.ownSems0_none, Pipeline.prefHeld_of_none _ rfl, arrays_two]
    iintro ⟨⟨Hx, Hy, %W, %hW, Ho⟩, -, -⟩
    imodintro
    isplitl [Hx Hy]
    · isplitl [Hx]
      · iexact Hx
      · iexact Hy
    isplitr
    · iempintro
    isplitl [Ho]
    · unfold Pipeline.Dat.owesAt Pipeline.owesWithin Pipeline.Dat.bound
      iexists W
      isplitr
      · ipureintro
        exact fun p hp => Or.inl (hW p hp)
      iexact Ho
    isplitr <;> iempintro
  hin c := by
    rw [Pipeline.prefHeld_of_none _ rfl]
    iintro -
    iempintro
  hout c := by
    rw [Pipeline.ownSems0_none, show (Pipeline.scopedRest (Ix := HIx 1) (Name := ℕ) (U := UU) (Lvl := ℕ) (Val := Elt F) (pcfgs (F := F) 0).spec c : sProp 𝕄) = BI.emp from scopedRest0_eq c]
    iintro -
    isplitr
    · iempintro
    isplitr <;> iempintro
  hexit c := by
    rw [arrays_two]
    iintro ⟨⟨Hx, Hy⟩, Ho, -, -⟩
    imodintro
    isplitl [Hx]
    · rw [show (pdats m 0 c).arrAt 0 (Pipeline.pin (pcfgs (F := F)) adm 0).N = m (xLoc c) from (pdats m 0 c).arrAt_in 0 rfl _]
      iexact Hx
    isplitl [Hy]
    · rw [show (pdats m 0 c).arrAt 1 (Pipeline.pin (pcfgs (F := F)) adm 0).N = batchKeys (m (xLoc c)) from final_keys _ _ _ c]
      iexact Hy
    unfold Pipeline.Dat.owesAt Pipeline.owesWithin Pipeline.Dat.bound
    icases Ho with ⟨%W, %hW, Ho⟩
    iexists W
    isplitr
    · ipureintro
      intro p hp
      rcases hW hp with h | ⟨w, s, rfl⟩
      · exact h
      · exact Nat.zero_le _
    iexact Ho

end Cert.Kernel.Gen

end
-- ==== Proof.WholeLaunch.lean ====
/-
  The whole program from its launch to its end, over any float values whose bits can be read: the keys kernel's region, the
  host's layout of the keys, the SparseCores' sort, and the result listing each row's positions in the order of its keys.
-/
module

public import proofs.«01_k».proof.Proof.KeysRegion
public import Idealize.ShloMosaic.Lib.Pipeline.Value

@[expose] public section

set_option maxRecDepth 65536

noncomputable section

namespace Cert.Kernel.Gen

open Cert.Radix
open Idealize.ShloMosaic Idealize.ShloMosaic.ValueIdx Idealize.ShloMosaic.Pipeline
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig (HIx 1) (Elt F) ℕ UU ℕ

variable (m : (ℓ : Loc nD τ sig) → Buf (Elt F) ℓ) (ρ : Dev nD → PrngReg)
variable (ks : (d : Dev nD) → Buf (Elt F) (kLoc d)) (os : (d : Dev nD) → Buf (Elt F) (oLoc d))

abbrev aLoc (d : Dev nD) : Loc nD τ sig := (SparseCore.T d).loc main_v1
abbrev bLoc (d : Dev nD) : Loc nD τ sig := (SparseCore.T d).loc main_v2
abbrev eLoc (d : Dev nD) : Loc nD τ sig := (SparseCore.T d).loc main_v3

theorem keys_seats (d : Dev nD) (f : Buf (Elt F) (kLoc d)) :
    (kLoc d ↦{fullShare} f : sProp 𝕄) = bigSep Finset.univ fun t : Seat => kLoc d ↦[seatSet t]{fullShare} f := by
  rw [← pointsTo_biUnion Finset.univ (ℓ := kLoc d) seatSet seats_disjoint, seats_cover]; try rfl

theorem out_seats (d : Dev nD) (f : Buf (Elt F) (oLoc d)) :
    (oLoc d ↦{fullShare} f : sProp 𝕄) = bigSep Finset.univ fun t : Seat => oLoc d ↦[seatSet t]{fullShare} f := by
  rw [← pointsTo_biUnion Finset.univ (ℓ := oLoc d) seatSet seats_disjoint, seats_cover]; try rfl

/-- The rows, each sorted, are the result whole and sorted. -/
theorem out_join (d : Dev nD) :
    (bigSep Finset.univ fun t : Seat => oDone ks d (seatRow t))
      ⊢ (iprop(∃ g : Buf (Elt F) (oLoc d), ⌜AllSorted (ks d) g⌝ ∗ oLoc d ↦{fullShare} g) : sProp 𝕄) := by
  refine (bigSep_exists_pi Finset.univ (fun t (f : Buf (Elt F) (oLoc d)) =>
    iprop(⌜RowSorted (rowWords (ks d) (seatRow t)) (rowWords f (seatRow t))⌝ ∗ oRow d f (seatRow t)))).trans ?_
  iintro ⟨%fs, H⟩
  ihave H' := (bigSep_pure_sep (S := Finset.univ) (φ := fun t => RowSorted (rowWords (ks d) (seatRow t)) (rowWords (fs t) (seatRow t)))
    (Ψ := fun t : Seat => oRow d (fs t) (seatRow t))) $$ H
  icases H' with ⟨%hs, H⟩
  ihave H' := (pointsTo_biUnion_join (ℓ := oLoc d) (q := fullShare) (Val := Elt F) Finset.univ seatSet fs (fs (0, 0, 0)) seats_disjoint) $$ H
  icases H' with ⟨%g, %hg, Hg⟩
  rw [seats_cover]
  iexists g
  isplitr [Hg]
  · ipureintro
    intro r hr
    obtain ⟨t, rfl⟩ := seatRow_onto hr
    rw [rowWords_congr (f := g) (g := fs t) fun x hx => hg t (Finset.mem_univ _) x hx]
    exact hs t (Finset.mem_univ _)
  · iexact Hg

/-! ## What the calls take and bring back, over the cores -/

theorem st0_eq (d : Dev nD) : (bigSep Finset.univ fun c : Fin ((K (F := F)).nCore 0) => (P ks os).st 0 d c)
    = iprop((kLoc d ↦{fullShare} ks d) ∗ oLoc d ↦{fullShare} os d) := by
  show (bigSep (Finset.univ : Finset (Fin 2)) fun c => bigSep Finset.univ fun i : Fin 16 => given ks os d c.val i.val) = _
  rw [keys_seats, out_seats, ← seats_eq (fun r => kLoc d ↦[rowSet r]{fullShare} ks d), ← seats_eq (fun r => oLoc d ↦[rowSet r]{fullShare} os d),
    ← bigSep_sep']
  exact bigSep_congr fun c _ => bigSep_sep' _ _ _

theorem dn0_eq (d : Dev nD) : (bigSep Finset.univ fun c : Fin ((K (F := F)).nCore 0) => (P ks os).dn 0 d c)
    = iprop((kLoc d ↦{fullShare} ks d) ∗ bigSep Finset.univ fun t : Seat => oDone ks d (seatRow t)) := by
  show (bigSep (Finset.univ : Finset (Fin 2)) fun c => bigSep Finset.univ fun i : Fin 16 => back ks d c.val i.val) = _
  rw [keys_seats, ← seats_eq (fun r => kLoc d ↦[rowSet r]{fullShare} ks d), ← seats_eq (fun r => oDone ks d r), ← bigSep_sep']
  exact bigSep_congr fun c _ => bigSep_sep' _ _ _

/-! ## The launch element -/

/-- The region's rounds, a component of the ghost state. -/
def EP : Emb UP 𝕄 := (Emb.inl : Emb UP (UP × Counters)).trans embR

omit [BitOps F] in
instance EP_landsIn : (EP (F := F)).LandsIn (upEmb : UEmb _ 𝕄) := by unfold EP; infer_instance

abbrev pins : Fin 1 → Cfg sig Λ₀ := Pipeline.pin (pcfgs (F := F)) adm

def u₀ : UU := (initOf (K (F := F)).hsCells (K (F := F)).hsToks, (initOf (Pipeline.cells (pins (F := F)) cellOf_inj) (Pipeline.launchToks (pins (F := F)) cellOf_inj), 1))

/-- What a TensorCore enters its region with. -/
abbrev G (d : Dev nD) : sProp 𝕄 := iprop(Pipeline.cellsGhost (pins (F := F)) EP 0 d ∗ Pipeline.toksInit (pins (F := F)) EP 0 d)

omit [BitOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P ks os).x q thr) := by
  unfold u₀
  iintro Hu
  ihave H := (ownU_pair (initOf (K (F := F)).hsCells (K (F := F)).hsToks)
    ((initOf (Pipeline.cells (pins (F := F)) cellOf_inj) (Pipeline.launchToks (pins (F := F)) cellOf_inj), 1) : UP × Counters)) $$ Hu
  icases H with ⟨HH, HP⟩
  ihave H := (own_pair_emb embR (initOf (Pipeline.cells (pins (F := F)) cellOf_inj) (Pipeline.launchToks (pins (F := F)) cellOf_inj)) (1 : Counters)) $$ HP
  icases H with ⟨HP, -⟩
  ihave HP' := (Entails.of_eq (show (BI.own (((Emb.inl : Emb UP (UP × Counters)).trans embR) (initOf (Pipeline.cells (pins (F := F)) cellOf_inj) (Pipeline.launchToks (pins (F := F)) cellOf_inj))) : sProp 𝕄)
    = BI.own (EP (initOf (Pipeline.cells (pins (F := F)) cellOf_inj) (Pipeline.launchToks (pins (F := F)) cellOf_inj))) from rfl)) $$ HP
  imod (Pipeline.fund_ghost (pins (F := F)) (EP (F := F)) cellOf_inj) $$ HP' with ⟨Hg, Ht⟩
  imodintro
  isplitl [HH]
  · iexact HH
  isplitl [Hg Ht]
  · rw [bigSep_sep']
    isplitl [Hg]
    · iapply (Entails.of_eq (bigSep_congr fun (d : Dev nD) _ => bigSep_univ_of_subsingleton (Φ := fun p => Pipeline.cellsGhost (pins (F := F)) EP p d) (0 : Fin 1)))
      iexact Hg
    · iapply (Entails.of_eq (bigSep_congr fun (d : Dev nD) _ => bigSep_univ_of_subsingleton (Φ := fun p => Pipeline.toksInit (pins (F := F)) EP p d) (0 : Fin 1)))
      iexact Ht
  rw [show (bigSep Finset.univ fun thr : Thread nD τ => bigSep Finset.univ fun q : Fin 1 => (P (F := F) ks os).x q thr) = bigSep Finset.univ fun _ => iprop(emp) from
    bigSep_congr fun _ _ => bigSep_univ_of_subsingleton (0 : Fin 1), bigSep_emp']
  iempintro

/-! ## The host's operations -/

abbrev dr (b : Ref sig .tc) : DevRef τ sig := Proc.devRef .tc b
abbrev op0 : HloOp τ sig (Elt F) := StableHlo.reshape main_v0 main_v1 (rfl : (.i32 : EltTy) = .i32) shapeCasts_S64x1x32768_S64x32768
abbrev op1 : HloOp τ sig (Elt F) := StableHlo.reshape main_v1 main_v2 (rfl : (.i32 : EltTy) = .i32) shapeCasts_S64x32768_S64x16x2048
abbrev op2 : HloOp τ sig (Elt F) := StableHlo.unary main_v2 main_v3
  ((transpose S64x2048x16 [0, 2, 1] · transposes_S64x16x2048_S64x2048x16_0_2_1) : (⟨S64x16x2048, .i32⟩ : BufTy).Contents (Elt F) → (⟨S64x2048x16, .i32⟩ : BufTy).Contents (Elt F))
abbrev op3 : HloOp τ sig (Elt F) := StableHlo.reshape main_v3 main_v4 (rfl : (.i32 : EltTy) = .i32) shapeCasts_S64x2048x16_S64x32768

/-- The TensorCore's arrays but the argument. -/
abbrev S6 : Finset (DevRef τ sig) := {dr main_v0, dr main_v1, dr main_v2, dr main_v3, dr main_v4, dr main_v5}

omit [BitOps F] in
theorem held_S6 (d : Dev nD) (W : Valuation τ sig (Elt F)) :
    (held (T d) S6 W : sProp 𝕄) = iprop((yLoc d ↦{fullShare} W (dr main_v0)) ∗ (aLoc d ↦{fullShare} W (dr main_v1)) ∗ (bLoc d ↦{fullShare} W (dr main_v2))
      ∗ (eLoc d ↦{fullShare} W (dr main_v3)) ∗ (kLoc d ↦{fullShare} W (dr main_v4)) ∗ oLoc d ↦{fullShare} W (dr main_v5)) := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The arrays after the region, and after the host's four operations. -/
def V0 (d : Dev nD) : Valuation τ sig (Elt F) := Function.update (fun b => m (d, b)) (dr main_v0) (batchKeys (F := F) (m (xLoc d)))
abbrev V4 (d : Dev nD) : Valuation τ sig (Elt F) := (op3 (F := F)).result ((op2 (F := F)).result ((op1 (F := F)).result ((op0 (F := F)).result (V0 m d))))

theorem V0_y (d : Dev nD) : V0 m d (dr main_v0) = batchKeys (F := F) (m (xLoc d)) := Function.update_self _ _ _
theorem V0_ne (d : Dev nD) {b : Ref sig .tc} (h : dr b ≠ dr main_v0) : V0 m d (dr b) = m (d, dr b) := Function.update_of_ne h _ _

omit [BitOps F] in
theorem unscoped_split (d : Dev nD) : (unscopedBufs d (fun b => m ((SparseCore.T d).loc b)) : sProp 𝕄)
    = iprop((xLoc d ↦{fullShare} m (xLoc d)) ∗ (yLoc d ↦{fullShare} m (yLoc d)) ∗ (aLoc d ↦{fullShare} m (aLoc d)) ∗ (bLoc d ↦{fullShare} m (bLoc d))
      ∗ (eLoc d ↦{fullShare} m (eLoc d)) ∗ (kLoc d ↦{fullShare} m (kLoc d)) ∗ oLoc d ↦{fullShare} m (oLoc d)) := by
  unfold unscopedBufs
  rw [show (Finset.univ.filter fun b : Ref sig .tc => ¬ b.isScoped) = {main_arg0, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem held_V0 (d : Dev nD) : (held (T d) S6 (V0 m d) : sProp 𝕄)
    = iprop((yLoc d ↦{fullShare} batchKeys (F := F) (m (xLoc d))) ∗ (aLoc d ↦{fullShare} m (aLoc d)) ∗ (bLoc d ↦{fullShare} m (bLoc d))
      ∗ (eLoc d ↦{fullShare} m (eLoc d)) ∗ (kLoc d ↦{fullShare} m (kLoc d)) ∗ oLoc d ↦{fullShare} m (oLoc d)) := by
  rw [held_S6, V0_y, V0_ne m d (b := main_v1) (by decide), V0_ne m d (b := main_v2) (by decide), V0_ne m d (b := main_v3) (by decide),
    V0_ne m d (b := main_v4) (by decide), V0_ne m d (b := main_v5) (by decide)]

theorem V4_o (d : Dev nD) : V4 m d (dr main_v5) = m (oLoc d) := by
  unfold V4
  rw [StableHlo.reshape_result_ne' _ _ _ _ _ (by decide), StableHlo.unary_result_ne' _ _ _ _ (by decide), StableHlo.reshape_result_ne' _ _ _ _ _ (by decide),
    StableHlo.reshape_result_ne' _ _ _ _ _ (by decide)]
  exact V0_ne m d (by decide)

/-- The keys of every row, and the keys the sort is called with. -/
abbrev rowKeys (d : Dev nD) : Sx.Idx → BitVec 32 := shapeCast S64x32768 (batchKeys (F := F) (m (xLoc d))) shapeCasts_S64x1x32768_S64x32768
abbrev keysOf (d : Dev nD) : Buf (Elt F) (kLoc d) := laid (rowKeys m d)

theorem V4_k (d : Dev nD) : V4 m d (dr main_v4) = keysOf m d := by
  unfold V4
  rw [StableHlo.reshape_result', StableHlo.unary_result', StableHlo.reshape_result', StableHlo.reshape_result', V0_y]
  rfl

theorem sub0 : (op0 (F := F)).bufs ⊆ S6 := show ({dr main_v0, dr main_v1} : Finset (DevRef τ sig)) ⊆ S6 by decide
theorem sub1 : (op1 (F := F)).bufs ⊆ S6 := show ({dr main_v1, dr main_v2} : Finset (DevRef τ sig)) ⊆ S6 by decide
theorem sub2 : (op2 (F := F)).bufs ⊆ S6 := show ({dr main_v2, dr main_v3} : Finset (DevRef τ sig)) ⊆ S6 by decide
theorem sub3 : (op3 (F := F)).bufs ⊆ S6 := show ({dr main_v3, dr main_v4} : Finset (DevRef τ sig)) ⊆ S6 by decide

/-! ## @main on the TensorCore -/

/-- What @main leaves: the argument as it was, and the result sorted. -/
abbrev FIN (d : Dev nD) : sProp 𝕄 :=
  iprop((xLoc d ↦{fullShare} m (xLoc d)) ∗ ∃ g : Buf (Elt F) (oLoc d), ⌜AllSorted (keysOf m d) g⌝ ∗ oLoc d ↦{fullShare} g)

abbrev PP : (K (F := F)).Pay (nD := nD) (Val := Elt F) (Name := ℕ) (U := UU) := P (keysOf m) (fun d => m (oLoc d))

/-- What the region takes and what it leaves. -/
abbrev enter (d : Dev nD) : sProp 𝕄 := iprop((xLoc d ↦{fullShare} m (xLoc d)) ∗ (yLoc d ↦{fullShare} m (yLoc d)) ∗ owing (F := F) d)
abbrev leave (d : Dev nD) : sProp 𝕄 := iprop((xLoc d ↦{fullShare} m (xLoc d)) ∗ (yLoc d ↦{fullShare} batchKeys (F := F) (m (xLoc d))) ∗ owing (F := F) d)

/-- The region's call, among the pipelines' labels and among the whole program's. -/
def keysCall : Prog (TpuEff nD τ sig (Elt F) (ΛP (F := F)) .tc) PUnit := .op (.customCall (Pipeline.entry 0) ()) .ret

theorem call_lift : (Prog.lift (.customCall (SparseCore.inner (Pipeline.entry 0)) ()) : Prog (TpuEff nD τ sig (Elt F) (SparseCore.Sig (ΛP (F := F)) 1) .tc) PUnit)
    = SparseCore.liftProg (Q := 1) (keysCall (F := F)) := rfl

/-- The region as the SparseCore program calls it. -/
theorem wp_region [∀ e, Nonempty (Elt F e)] (κ : GSem nD τ sig → ℕ) (d : Dev nD) (Q : PUnit → sProp 𝕄) :
    iprop((iprop(boundary (T d) ∗ leave m d) -∗ Q ⟨⟩) ∗ boundary (T d) ∗ enter m d ∗ (K (F := F)).ctx EH (PP m) κ ∗ G (F := F) d)
      ⊢ wp frame (wpE ((K (F := F)).defs (D (F := F))) 𝒱 (SparseCore.T d) none) Set.univ (Prog.lift (.customCall (SparseCore.inner (Pipeline.entry 0)) ())) Q := by
  rw [call_lift]
  refine BIBase.Entails.trans ?_ ((K (F := F)).wp_liftProg (D (F := F)) 𝒱 (SparseCore.T d) Set.univ none (keysCall (F := F)) Q)
  unfold keysCall
  iintro ⟨HQ, Hb, Hpre, #Hctx, Hg, Ht⟩
  iapply (Pipeline.RegionSeg.wp (pcfgs (F := F)) adm (pdats m) none cellOf_inj (EP (F := F)) defs₀ 𝒱₀ (K (F := F)).L (K (F := F)).lev (keysRegion m) d none
    (fun _ h => absurd h (by simp)) .ret Q)
  isplitl [HQ]
  · iintro H
    rw [wp_ret]
    imodintro
    iapply HQ
    iapply (Entails.of_eq (show iprop(boundary (d.tc : Thread nD τ) ∗ (keysRegion m).post d) = iprop(boundary (T d) ∗ leave m d) from rfl))
    iexact H
  isplitl [Hb]
  · iexact Hb
  isplitl [Hpre]
  · iapply (Entails.of_eq (show enter m d = (keysRegion m).pre d from rfl))
    iexact Hpre
  isplitr [Hg Ht]
  · iapply ((K (F := F)).ctx_levAts κ)
    iexact Hctx
  isplitl [Hg] <;> iassumption

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_split]
  simp only [main, wp_bind, wp_pure]
  iintro ⟨#Hctx, Hst, ⟨Hb, ⟨Hx, Hy, Hrest⟩, Hts, -⟩, HG⟩
  ihave Hst' := (Entails.of_eq (show (K (F := F)).tcSt EH d 0 = iprop(owing (F := F) d ∗ _) from rfl)) $$ Hst
  icases Hst' with ⟨How, Hst⟩
  iapply (wp_region m κ d)
  isplitr [Hb Hx Hy How HG]
  rotate_left
  · isplitl [Hb]
    · iexact Hb
    isplitl [Hx Hy How]
    · isplitl [Hx]
      · iexact Hx
      isplitl [Hy]
      · iexact Hy
      iexact How
    isplitr
    · iexact Hctx
    iexact HG
  iintro ⟨Hb, Hx, Hy, How⟩
  ihave Hst := (Entails.of_eq (show iprop(owing (F := F) d ∗ _) = (K (F := F)).tcSt EH d 0 from rfl)) $$ [How Hst]
  · isplitl [How]
    · iexact How
    · iexact Hst
  ihave Hheld := (Entails.of_eq (held_V0 m d).symm) $$ [Hy Hrest]
  · isplitl [Hy]
    · iexact Hy
    · iexact Hrest
  iapply (wp_hlo_within 𝒱 (SparseCore.T d) none Set.univ (op := op0) (S := S6) sub0 (V := V0 m d)) $$ [Hb Hheld]
  · isplitl [Hb]
    · iexact Hb
    · iexact Hheld
  iintro ⟨Hb, Hheld⟩
  rw [wp_ret]
  imodintro
  iapply (wp_hlo_within 𝒱 (SparseCore.T d) none Set.univ (op := op1) (S := S6) sub1 (V := (op0 (F := F)).result (V0 m d))) $$ [Hb Hheld]
  · isplitl [Hb]
    · iexact Hb
    · iexact Hheld
  iintro ⟨Hb, Hheld⟩
  rw [wp_ret]
  imodintro
  iapply (wp_hlo_within 𝒱 (SparseCore.T d) none Set.univ (op := op2) (S := S6) sub2 (V := (op1 (F := F)).result ((op0 (F := F)).result (V0 m d)))) $$ [Hb Hheld]
  · isplitl [Hb]
    · iexact Hb
    · iexact Hheld
  iintro ⟨Hb, Hheld⟩
  rw [wp_ret]
  imodintro
  iapply (wp_hlo_within 𝒱 (SparseCore.T d) none Set.univ (op := op3) (S := S6) sub3
    (V := (op2 (F := F)).result ((op1 (F := F)).result ((op0 (F := F)).result (V0 m d))))) $$ [Hb Hheld]
  · isplitl [Hb]
    · iexact Hb
    · iexact Hheld
  iintro ⟨Hb, Hheld⟩
  rw [wp_ret]
  imodintro
  ihave Hh := (Entails.of_eq ((held_S6 (F := F) d (V4 m d)).trans (by rw [V4_o, V4_k]))) $$ Hheld
  icases Hh with ⟨-, -, -, -, Hk, Ho⟩
  iapply ((K (F := F)).wp_run (D (F := F)) 𝒱 (EH := EH) (P := PP m) κ d 0) $$ [Hst Hk Ho Hx Hb Hts]
  isplitr
  · iexact Hctx
  isplitl [Hst]
  · iexact Hst
  isplitl [Hk Ho]
  · rw [st0_eq]
    isplitl [Hk]
    · iexact Hk
    · iexact Ho
  iintro ⟨Hst, Hdn⟩
  ihave Hdn' := (Entails.of_eq (dn0_eq (keysOf m) (fun d => m (oLoc d)) d)) $$ Hdn
  icases Hdn' with ⟨-, Ho⟩
  imodintro
  isplitl [Hst]
  · iexact Hst
  isplitr [Hb Hts]
  · isplitl [Hx]
    · iexact Hx
    · iapply (out_join (keysOf m) d)
      iexact Ho
  isplitl [Hb] <;> iassumption

/-! ## The run -/

def fq (d : Dev nD) (s' : Phys nD τ sig (Elt F)) : Prop :=
  s'.mem.mem (xLoc d) = m (xLoc d) ∧ AllSorted (keysOf m d) (s'.mem.mem (oLoc d))

theorem hfin (d : Dev nD) (s' : Phys nD τ sig (Elt F)) : iprop(FIN m d ∗ SI s') ⊢ (⌜fq m d s'⌝ : sProp 𝕄) := by
  iintro ⟨⟨Hx, %g, %hg, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := g)) $$ [HSI Ho]
  · isplitl [HSI] <;> iassumption
  icases H with %ho
  ipureintro
  have he : s'.mem.mem (oLoc d) = g := funext fun i => ho i (Finset.mem_univ i)
  exact ⟨funext fun i => hx i (Finset.mem_univ i), he ▸ hg⟩

/-- The run leaves the argument as it was, every counter at zero, and the result listing each row's positions in the order of its keys. -/
def QC : PUnit × MemSt nD τ sig (Elt F) → Prop := fun r =>
  (∀ c : Dev nD, r.2.mem (xLoc c) = m (xLoc c) ∧ AllListed (rowKeys m c) (r.2.mem (oLoc c))) ∧ r.2.sem = fun _ => 0

theorem run_main [∀ e, Nonempty (Elt F e)] : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := PP m) (A := ∅) scFacts v₀
    (fun q hq => match q with | 0 => nomatch hq)
    (fun q _ => match q with | 0 => tileObl _ _ scFacts)
    (fun q _ => match q with | 0 => SparseCore.Cfg.VecSplit.of_plain (vecSplit _ _))
    m ρ main (G (F := F)) (FIN m) (u₀ (F := F)) (sep_elim_left.trans (hu₀ _ _)) (hmain m ρ) (fq m) (hfin m) (QC m)
    (fun _ h hz => ⟨fun c => ⟨(h c).1, allListed (h c).2⟩, hz⟩)

end Cert.Kernel.Gen
-- ==== Proof.MeansRun.lean ====
/-
  The run of the whole problem's reference, over any float values: its loop leaves every batch's mean in the array between, and the
  host's operation after it orders every row of them.
-/
module

public import proofs.«01_k».proof.Proof.Gen.Reference.Frame
public import Idealize.ShloMosaic.Lib.Pipeline.Value
public import Idealize.ShloMosaic.Lib.ValueIdxCore
public import Idealize.ShloMosaic.Lib.WritesUnit
public import Idealize.ShloMosaic.Lib.StableHlo.Run

@[expose] public section

set_option maxRecDepth 65536

noncomputable section

namespace Cert.Reference.Gen

open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- Batch `b` of the argument. -/
def slab (X : Vec F S64x16x32768 .f32) (b : Fin 64) : Vec F S1x16x32768 .f32 := fun y => X (ix3 b (y 1) (y 2))

/-- Every batch's means. -/
def means (X : Vec F S64x16x32768 .f32) : Vec F S64x32768 .f32 := fun y => k0_pay1 (slab X (y 0)) (ix2 0 (y 1))

section Pieces

variable (𝒱 : Variants) (c : Dev nD) (bd : Option 𝒱.V) (arg0 : Memref sig .tc .vmem S64x16x32768 .f32) (harg0 : arg0.IsWhole)
  (arg1 : Memref sig .tc .vmem S64x32768 .f32) (harg1 : arg1.IsWhole)

/-- One trip's store. -/
theorem trip_pieces (X : BufTy.Contents (Elt F) arg0.view.ty) (k : Fin k0_t1_loop.trips) :
    tripL_k0_t1 𝒱 c bd arg0 harg0 arg1 harg1 X k
      = [⟨Rect.unit (s := S64x32768) (k0_off2 k) S1x32768.size (k0_off2_inb k),
          k0_pay1 (arg0.view.readAt (Elt F) (Rect.unit (s := S64x16x32768) (k0_off1 k) S1x16x32768.size (k0_off1_inb k)).toLoadRect X)⟩] := by
  unfold tripL_k0_t1 trip_k0_t1
  rfl

theorem run_pieces (x0 : Vec F S64x16x32768 .f32) :
    (kernelRun0_A c arg0 harg0 arg1 harg1 x0).1 = pb_k0_t1 Variants.none c none arg0 harg0 arg1 harg1 (harg0.unread x0) k0_t1_loop.trips := by
  unfold kernelRun0_A
  rfl

theorem trips_eq : k0_t1_loop.trips = 64 := by decide +kernel

theorem off1_eq : ∀ k : Fin k0_t1_loop.trips, k0_off1 k = ![k.val, 0, 0] := by decide +kernel
theorem off2_eq : ∀ k : Fin k0_t1_loop.trips, k0_off2 k = ![k.val, 0] := by decide +kernel

/-- What one trip's store holds is the means of the batch it stores. -/
theorem piece_means (x0 : Vec F S64x16x32768 .f32) (k : Fin k0_t1_loop.trips) (x : S1x32768.Idx) :
    k0_pay1 (arg0.view.readAt (Elt F) (Rect.unit (s := S64x16x32768) (k0_off1 k) S1x16x32768.size (k0_off1_inb k)).toLoadRect (harg0.unread x0)) x
      = means x0 ((Rect.unit (s := S64x32768) (k0_off2 k) S1x32768.size (k0_off2_inb k)).emb x) := by
  have hk : k.val < 64 := k.isLt.trans_eq trips_eq
  have h0 : (x 0).val = 0 := by have := (x 0).isLt; change (x 0).val < 1 at this; omega
  have hx : (Rect.unit (s := S64x32768) (k0_off2 k) S1x32768.size (k0_off2_inb k)).emb x = ix2 (⟨k.val, hk⟩ : Fin 64) (x 1) := by
    funext a; apply Fin.ext
    match a with
    | ⟨0, _⟩ => show k0_off2 k 0 + 1 * (x 0).val = k.val; rw [off2_eq]; show k.val + _ = _; omega
    | ⟨1, _⟩ => show k0_off2 k 1 + 1 * (x 1).val = (x 1).val; rw [off2_eq]; show 0 + _ = _; omega
  rw [hx, View.readAt_eq_ld, harg0.read_unread]
  unfold means
  have hs : View.ld x0 (Rect.unit (s := S64x16x32768) (k0_off1 k) S1x16x32768.size (k0_off1_inb k)) = slab x0 ⟨k.val, hk⟩ := by
    funext y
    have h0 : (y 0).val = 0 := by have := (y 0).isLt; change (y 0).val < 1 at this; omega
    refine congrArg x0 (funext fun a => Fin.ext ?_)
    match a with
    | ⟨0, _⟩ => show k0_off1 k 0 + 1 * (y 0).val = k.val; have e : k0_off1 k 0 = k.val := congrFun (off1_eq k) 0; omega
    | ⟨1, _⟩ => show k0_off1 k 1 + 1 * (y 1).val = (y 1).val; have e : k0_off1 k 1 = 0 := congrFun (off1_eq k) 1; omega
    | ⟨2, _⟩ => show k0_off1 k 2 + 1 * (y 2).val = (y 2).val; have e : k0_off1 k 2 = 0 := congrFun (off1_eq k) 2; omega
  rw [hs]
  refine congrArg (k0_pay1 (slab x0 ⟨k.val, hk⟩)) (funext fun a => Fin.ext ?_)
  match a with
  | ⟨0, _⟩ => exact h0
  | ⟨1, _⟩ => rfl

/-- So do all stores before any trip. -/
theorem pieces_means (x0 : Vec F S64x16x32768 .f32) : ∀ n ≤ k0_t1_loop.trips, ∀ p ∈ pb_k0_t1 𝒱 c bd arg0 harg0 arg1 harg1 (harg0.unread x0) n,
    ∀ x : p.1.shape.Idx, p.2 x = means x0 (p.1.emb x)
  | 0, _, p, hp => absurd hp List.not_mem_nil
  | n + 1, hn, p, hp => by
    have e := pb_k0_t1_succ 𝒱 c bd arg0 harg0 arg1 harg1 (harg0.unread x0) ⟨n, hn⟩
    rw [e, trip_pieces] at hp
    rcases List.mem_cons.1 hp with rfl | hp
    · exact piece_means arg0 harg0 x0 ⟨n, hn⟩
    · exact pieces_means x0 n (Nat.le_of_succ_le hn) p hp

/-- The loop leaves the means. -/
theorem out_means (x0 : Vec F S64x16x32768 .f32) : out0_A_1 c arg0 harg0 arg1 harg1 x0 = means x0 := by
  funext y
  unfold out0_A_1
  refine View.read_writes_apply_of_pieces _ _ (means x0) _ ?_ y (cover0_A_1 c arg0 harg0 arg1 harg1 x0 y)
  rw [run_pieces]
  exact pieces_means _ _ _ _ _ _ _ x0 _ (Nat.le_refl _)

end Pieces

/-! ## The arrays -/

variable (m : (ℓ : Loc nD τ sig) → Buf (Elt F) ℓ) (ρ : Dev nD → PrngReg)

theorem index0 : ∀ t : Fin cfg0.N, ∀ a, win0_0.index t a = 0 := (by decide +kernel : ∀ t : Fin grid0.N, _)
theorem index1 : ∀ t : Fin cfg0.N, ∀ a, win0_1.index t a = 0 := (by decide +kernel : ∀ t : Fin grid0.N, _)

theorem emb0 (t : Fin cfg0.N) (y : S64x16x32768.Idx) : ((cfg0.win 0).blk t).view.emb y = y := by
  funext a; apply Fin.ext
  show win0_0.index t a * S64x16x32768.size a + 1 * (y a).val = (y a).val
  rw [index0]; omega

theorem emb1 (t : Fin cfg0.N) (y : S64x32768.Idx) : ((cfg0.win 1).blk t).view.emb y = y := by
  funext a; apply Fin.ext
  show win0_1.index t a * S64x32768.size a + 1 * (y a).val = (y a).val
  rw [index1]; omega

/-- The one point's block is the whole array. -/
theorem covered1 (y : S64x32768.Idx) : ∃ t : Fin cfg0.N, (cfg0.win 1).flush t = true ∧ y ∈ ((cfg0.win 1).blk t).view.set := by
  have t : Fin cfg0.N := ⟨0, by decide +kernel⟩
  have h := ((cfg0.win 1).blk t).view.emb_mem_set y
  rw [emb1] at h
  exact ⟨t, flush0_1 _, h⟩

theorem iblk_eq (c : Dev nD) (t : Fin cfg0.N) : iblk m c 0 t = m ((c : Thread nD τ).loc main_arg0) := by
  funext y
  show m ((c : Thread nD τ).loc main_arg0) (((cfg0.win 0).blk t).view.emb y) = _
  rw [emb0]

theorem final_means (c : Dev nD) : (dats m 0 c).arrAt 1 cfg0.N = means (m ((c : Thread nD τ).loc main_arg0)) :=
  (dats m 0 c).arrAt_eq_of_cover 1 (means (m ((c : Thread nD τ).loc main_arg0)))
    (fun t _ => by
      show (cfg0.win 1).cut (grid0.coords t) ((dats m 0 c).after 1 t) = _
      rw [after0_1]
      unfold outsAt0
      rw [out_means, iblk_eq]
      funext y
      show means _ y = means _ (((cfg0.win 1).blk t).view.emb y)
      rw [emb1])
    covered1

/-- The positions of every row in the order of its floats, greatest first. -/
abbrev ordered (w : Vec F S64x32768 .f32) : IVec S64x32768 32 :=
  (Host.topK S64x32768 1 (FloatOps.cmpfTotal .gt) w sliceFits_S64x32768_S64x32768).2

theorem tail_eq (c : Dev nD) :
    Pipeline.afterTail₀ cfgs (dats m) 0 (V0 m) [hostOps1] c main_indices = ordered (means (m ((c : Thread nD τ).loc main_arg0))) := by
  unfold Pipeline.afterTail₀
  have h : (Pipeline.withArrays (cfgs 0).spec c (V0 m c) fun w => (dats m 0 c).arrAt w (cfgs 0).N) (Proc.devRef .tc main_v0)
      = means (m ((c : Thread nD τ).loc main_arg0)) :=
    (Pipeline.withArrays_arr (cfgs 0).spec launch0.win.arr_inj c _ _ 1).trans (final_means m c)
  simp only [List.flatten_cons, List.flatten_nil, List.append_nil, hostOps1]
  after_results
  rw [h]

/-- The reference ends with its argument unchanged and every row's positions in the order of its means, greatest first. -/
theorem run_ordered : θ_run defs (onTc (τ := τ) (main (F := F))) ⟨m, fun _ => 0, ρ⟩ fun r => ∀ c : Dev nD,
    r.2.mem ((c.tc : Thread nD τ).loc main_indices) = ordered (means (m ((c.tc : Thread nD τ).loc main_arg0)))
      ∧ r.2.mem ((c.tc : Thread nD τ).loc main_arg0) = m ((c.tc : Thread nD τ).loc main_arg0) :=
  (θ_run defs _ _).mono (fun _ h c => ⟨((h.1 c).2 main_indices (by decide)).trans (tail_eq m c), h.2 c⟩)
    (θ_run_and (run_main m ρ) (unchanged m ρ))

end Cert.Reference.Gen

end
-- ==== Proof.KeyOrder.lean ====
/-
  The keys are the order: a key is the complement of its float's place in the total order of the floats, so the rows of the keys in
  the order of their words are the rows of the means greatest first.
-/
module

public import proofs.«01_k».proof.Proof.SortSpec
public import proofs.«01_k».proof.Proof.WholeLaunch
public import proofs.«01_k».proof.Proof.MeansRun
public import Idealize.ShloMosaic.Lib.SortKey
public import Idealize.ShloMosaic.PureOps.BitExact

@[expose] public section

set_option maxRecDepth 65536

noncomputable section

namespace Cert.Radix

open Idealize.ShloMosaic Idealize.ShloMosaic.ValueIdx

/-- The kernel's key of a word. -/
abbrev keyWord (w : BitVec 32) : BitVec 32 :=
  IntOp.xori (Scalar.select (IntOp.cmpi .slt w 0#32) (IntOp.xori w 4294967295#32) (IntOp.xori w 2147483648#32)) 4294967295#32

theorem keyWord_eq (w : BitVec 32) : keyWord w = ~~~(totalOrderKey w) := by
  have hn : ∀ v : BitVec 32, IntOp.xori v 4294967295#32 = ~~~v := fun v => BitVec.xor_allOnes
  unfold keyWord
  rw [hn, hn]
  refine congrArg (~~~·) ?_
  cases h : w.msb
  · rw [totalOrderKey_of_msb_false w h]
    have hs : IntOp.cmpi .slt w 0#32 = 0#1 := by
      show BitVec.ofBool (w.slt 0#32) = 0#1
      rw [BitVec.slt_zero_eq_msb, h]; rfl
    rw [hs]
    show w ^^^ 2147483648#32 = w ||| BitVec.intMin 32
    refine BitVec.eq_of_getLsbD_eq fun i hi => ?_
    by_cases e : i = 31
    · subst e
      have : w.getLsbD 31 = false := h
      rw [BitVec.getLsbD_xor, BitVec.getLsbD_or, this]; rfl
    · have hz : (2147483648#32).getLsbD i = false := by
        revert e; revert hi; revert i; decide
      have hz' : (BitVec.intMin 32).getLsbD i = false := hz
      rw [BitVec.getLsbD_xor, BitVec.getLsbD_or, hz, hz', Bool.xor_false, Bool.or_false]
  · rw [totalOrderKey_of_msb_true w h]
    have hs : IntOp.cmpi .slt w 0#32 = 1#1 := by
      show BitVec.ofBool (w.slt 0#32) = 1#1
      rw [BitVec.slt_zero_eq_msb, h]; rfl
    rw [hs]; rfl

/-- The keys kernel's store, word by word, is the key of the reference's mean. -/
theorem pay_key (v : Vec Bits Cert.Reference.S1x16x32768 .f32) (n : Fin 32768) :
    Cert.Kernel.Gen.k0_pay1 (F := Bits) v (ix3 0 0 n) = keyWord (Cert.Reference.Gen.k0_pay1 (F := Bits) v (ix2 0 n)) := by
  unfold Cert.Kernel.Gen.k0_pay1
  refine (shapeCast_apply _ _ _ (ix2 0 n : Cert.Kernel.S1x32768.Idx) ?_).trans rfl
  rw [Shape.rowMajor_val_two, Shape.rowMajor_val_three]
  show 0 * 32768 + n.val = (0 * 1 + 0) * 32768 + n.val
  omega

/-- The keys of the rows, word by word. -/
theorem rowKeys_apply (X : Vec Bits Cert.Reference.S64x16x32768 .f32) (x : Sx.Idx) :
    shapeCast Cert.Kernel.S64x32768 (Cert.Kernel.Gen.batchKeys (F := Bits) X) Cert.Kernel.Gen.shapeCasts_S64x1x32768_S64x32768 x
      = ~~~(totalOrderKey (Cert.Reference.Gen.means (F := Bits) X x)) := by
  refine (shapeCast_apply _ _ _ (ix3 (x 0) 0 (x 1) : Cert.Kernel.S64x1x32768.Idx) ?_).trans ?_
  · rw [Shape.rowMajor_val_two, Shape.rowMajor_val_three]
    show ((x 0).val * 1 + 0) * 32768 + (x 1).val = (x 0).val * 32768 + (x 1).val
    omega
  unfold Cert.Kernel.Gen.batchKeys
  exact (pay_key _ (x 1)).trans (keyWord_eq _)

/-- Greater in the floats' total order is smaller among the keys. -/
theorem total_keys (a b : BitVec 32) : FloatOps.cmpfTotal (F := Bits) (φ := .f32) .gt a b = IntOp.cmpi .ult (~~~(totalOrderKey a)) (~~~(totalOrderKey b)) := by
  show BitVec.ofBool (BitVec.ult (totalOrderKey b) (totalOrderKey a)) = BitVec.ofBool (BitVec.ult _ _)
  unfold BitVec.ult
  refine congrArg BitVec.ofBool (decide_eq_decide.2 ?_)
  have ha := (totalOrderKey a).isLt
  have hb := (totalOrderKey b).isLt
  rw [BitVec.toNat_not, BitVec.toNat_not]
  omega

/-- The means' order lists the keys. -/
theorem ordered_listed (X : Vec Bits Cert.Reference.S64x16x32768 .f32) :
    AllListed (shapeCast Cert.Kernel.S64x32768 (Cert.Kernel.Gen.batchKeys (F := Bits) X) Cert.Kernel.Gen.shapeCasts_S64x1x32768_S64x32768)
      (Cert.Reference.Gen.ordered (Cert.Reference.Gen.means (F := Bits) X)) :=
  topK_lists _ _ _ (fun i j => by rw [rowKeys_apply, rowKeys_apply]; exact total_keys _ _) _

end Cert.Radix

end
-- ==== Proof.lean ====
/-
  The claims, from the four programs' runs. The whole kernel's result lists its keys' rows in order, and so does the reference's: a list
  in order is the only one, so the two are equal. The same for the SparseCore call alone and the stable argsort of its keys.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Reference.Frame
public import proofs.«01_k».proof.Proof.Gen.Sort
public import proofs.«01_k».proof.Proof.Gen.SortIdeal.Skeleton
public import proofs.«01_k».proof.Proof.Gen.Ranked
public import proofs.«01_k».proof.Proof.Gen.RankedIdeal
public import proofs.«01_k».proof.Proof.SortLaunch
public import proofs.«01_k».proof.Proof.RankedRun
public import proofs.«01_k».proof.Proof.WholeLaunch
public import proofs.«01_k».proof.Proof.MeansRun
public import proofs.«01_k».proof.Proof.KeyOrder
public import Idealize.ShloMosaic.Adequacy
public import Idealize.ShloMosaic.Init

@[expose] public section

noncomputable section

namespace Cert.Proof

open Idealize.ShloMosaic Idealize.SL.Sem Cert.Sort

/-! ## The whole kernel -/

instance (e : EltTy) : Nonempty (Elt Bits e) := by cases e <;> exact ⟨0⟩

theorem frame_kernel : Cert.quiescent_Kernel := fun m ρ _ =>
  (θ_run (Cert.Kernel.defs (F := Bits)) _ _).mono (fun _ h => ⟨fun c => (h.1 c).1, h.2⟩) (Cert.Kernel.Gen.run_main (F := Bits) m ρ)

theorem frame_reference : Cert.quiescent_Reference := fun m ρ _ => Cert.Reference.Gen.frame m ρ

theorem bitexact_whole : Cert.bitexact_Kernel_Reference := fun m ρ m' ρ' _ hm =>
  ⟨fun c => Cert.Reference.Gen.ordered (Cert.Reference.Gen.means (F := Bits) (m (Cert.Kernel.Gen.xLoc c))),
    (θ_run (Cert.Kernel.defs (F := Bits)) _ _).mono (fun _ h c => ⟨(h.1 c).2.unique (Cert.Radix.ordered_listed _), (h.1 c).1⟩)
      (Cert.Kernel.Gen.run_main (F := Bits) m ρ),
    (θ_run (Cert.Reference.defs (F := Bits)) _ _).mono
      (fun _ h c => ⟨(h c).1.trans (congrArg (fun X => Cert.Reference.Gen.ordered (Cert.Reference.Gen.means (F := Bits) X)) (hm c)), (h c).2⟩)
      (Cert.Reference.Gen.run_ordered (F := Bits) m' ρ')⟩

/-! ## The SparseCore call alone -/

open Cert.Radix in
theorem listed_eq {X Y : Sx.Idx → BitVec 32} (h : AllListed X Y) : Y = argsorted X := h.unique (argsorted_listed X)

/-- The call read over the bit words is the same text as the call read over the extended reals. -/
theorem run_sort (m : (ℓ : Loc nD τ sig) → Buf (Elt Bits) ℓ) (ρ : Dev nD → PrngReg) :
    θ_run (Cert.Sort.defs (F := Bits)) (Cert.Sort.threads (F := Bits)) ⟨m, fun _ => 0, ρ⟩ (Cert.SortIdeal.Gen.QC m) :=
  Cert.SortIdeal.Gen.run_main (F := Bits) m ρ

theorem frame_sort : Cert.quiescent_Sort := fun m ρ _ =>
  (θ_run (Cert.Sort.defs (F := Bits)) _ _).mono (fun _ h => ⟨fun c => (h.1 c).1, h.2⟩) (run_sort m ρ)

theorem frame_sortIdeal : Cert.quiescent_SortIdeal := fun m ρ _ =>
  (θ_run (Cert.SortIdeal.defs (F := Ideal)) _ _).mono (fun _ h => ⟨fun c => (h.1 c).1, h.2⟩) (Cert.SortIdeal.Gen.run_main (F := Ideal) m ρ)

theorem frame_rankedIdeal : Cert.quiescent_RankedIdeal := fun m ρ _ =>
  (θ_run (Cert.RankedIdeal.defs (F := Ideal)) _ _).mono
    (fun r h => ⟨fun c => (h c).2, Idealize.ShloMosaic.sem_eq_zero_of_no_sems (by decide) r.2⟩) (Cert.RankedIdeal.Gen.run_main (F := Ideal) m ρ)

theorem frame_ranked : Cert.quiescent_Ranked := fun m ρ _ =>
  (θ_run (Cert.Ranked.defs (F := Bits)) _ _).mono
    (fun r h => ⟨fun c => (h c).2, Idealize.ShloMosaic.sem_eq_zero_of_no_sems (by decide) r.2⟩) (Cert.Ranked.Gen.run_main (F := Bits) m ρ)

theorem bitexact_sort : Cert.bitexact_Sort_Ranked := fun m ρ m' ρ' _ hm =>
  ⟨fun c => Cert.Radix.argsorted (m (Cert.SortIdeal.Gen.xLoc c)),
    (θ_run (Cert.Sort.defs (F := Bits)) _ _).mono (fun _ h c => ⟨listed_eq (h.1 c).2, (h.1 c).1⟩) (run_sort m ρ),
    (θ_run (Cert.Ranked.defs (F := Bits)) _ _).mono
      (fun _ h c => ⟨(h c).1.trans (congrArg Cert.Radix.argsorted (hm c)), (h c).2⟩) (Cert.Ranked.Gen.run_main (F := Bits) m' ρ')⟩

theorem algebraic : Cert.algebraic_SortIdeal_RankedIdeal := fun m ρ m' ρ' _ hm =>
  ⟨fun c => Cert.Radix.argsorted (m (Cert.SortIdeal.Gen.xLoc c)),
    (θ_run (Cert.SortIdeal.defs (F := Ideal)) _ _).mono (fun _ h c => ⟨listed_eq (h.1 c).2, (h.1 c).1⟩)
      (Cert.SortIdeal.Gen.run_main (F := Ideal) m ρ),
    (θ_run (Cert.RankedIdeal.defs (F := Ideal)) _ _).mono
      (fun _ h c => ⟨(h c).1.trans (congrArg Cert.Radix.argsorted (hm c)), (h c).2⟩) (Cert.RankedIdeal.Gen.run_main (F := Ideal) m' ρ')⟩

theorem claim : Cert.Claim :=
  ⟨Cert.Kernel.Gen.facts, Cert.Reference.Gen.facts, Cert.Sort.Gen.facts, Cert.SortIdeal.Gen.facts, Cert.RankedIdeal.Gen.facts,
    Cert.Ranked.Gen.facts, frame_kernel, frame_reference, frame_sort, frame_sortIdeal, frame_rankedIdeal, frame_ranked, bitexact_whole,
    trivial, bitexact_sort, algebraic⟩

end Cert.Proof
